-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down [hPre_down_tables : Cert.Pre_down_tables.Facts] (m : (ℓ : Loc Cert.Down.nD Cert.Down.τ Cert.Down.sig) → Buf (Elt Bits) ℓ) : Prop :=
  ∀ c : Dev Cert.Down.nD,
    (Cert.Pre_down_tables.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_down_tables : Cert.Pre_down_tables.Facts] (m : (ℓ : Loc Cert.DownIdeal.nD Cert.DownIdeal.τ Cert.DownIdeal.sig) → Buf (Elt Ideal) ℓ) : Prop :=
  ∀ c : Dev Cert.DownIdeal.nD,
    (Cert.Pre_down_tables.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_down_tables [hPre_down_tables : Cert.Pre_down_tables.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_down_tables.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4))) = (fun _ => 1#1)

def Pre_Up [hPre_up_tables : Cert.Pre_up_tables.Facts] (m : (ℓ : Loc Cert.Up.nD Cert.Up.τ Cert.Up.sig) → Buf (Elt Bits) ℓ) : Prop :=
  ∀ c : Dev Cert.Up.nD,
    (Cert.Pre_up_tables.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6))) = (fun _ => 1#1)

def Pre_UpIdeal [hPre_up_tables : Cert.Pre_up_tables.Facts] (m : (ℓ : Loc Cert.UpIdeal.nD Cert.UpIdeal.τ Cert.UpIdeal.sig) → Buf (Elt Ideal) ℓ) : Prop :=
  ∀ c : Dev Cert.UpIdeal.nD,
    (Cert.Pre_up_tables.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_tables [hPre_up_tables : Cert.Pre_up_tables.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_tables.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6))) = (fun _ => 1#1)

def Pre_InMl0 (m : (ℓ : Loc Cert.InMl0.nD Cert.InMl0.τ Cert.InMl0.sig) → Buf (Elt Bits) ℓ) : Prop :=
  True

def Pre_InMl0Ideal (m : (ℓ : Loc Cert.InMl0Ideal.nD Cert.InMl0Ideal.τ Cert.InMl0Ideal.sig) → Buf (Elt Ideal) ℓ) : Prop :=
  True

def Pre_InMl0RefIdeal (m : (ℓ : Loc Cert.InMl0RefIdeal.nD Cert.InMl0RefIdeal.τ Cert.InMl0RefIdeal.sig) → Buf (Elt Ideal) ℓ) : Prop :=
  True

def Pre_InMl1 (m : (ℓ : Loc Cert.InMl1.nD Cert.InMl1.τ Cert.InMl1.sig) → Buf (Elt Bits) ℓ) : Prop :=
  True

def Pre_InMl1Ideal (m : (ℓ : Loc Cert.InMl1Ideal.nD Cert.InMl1Ideal.τ Cert.InMl1Ideal.sig) → Buf (Elt Ideal) ℓ) : Prop :=
  True

def Pre_InMl1RefIdeal (m : (ℓ : Loc Cert.InMl1RefIdeal.nD Cert.InMl1RefIdeal.τ Cert.InMl1RefIdeal.sig) → Buf (Elt Ideal) ℓ) : Prop :=
  True

def Pre_InGate0 (m : (ℓ : Loc Cert.InGate0.nD Cert.InGate0.τ Cert.InGate0.sig) → Buf (Elt Bits) ℓ) : Prop :=
  True

def Pre_InGate0Ideal (m : (ℓ : Loc Cert.InGate0Ideal.nD Cert.InGate0Ideal.τ Cert.InGate0Ideal.sig) → Buf (Elt Ideal) ℓ) : Prop :=
  True

def Pre_InGate0RefIdeal (m : (ℓ : Loc Cert.InGate0RefIdeal.nD Cert.InGate0RefIdeal.τ Cert.InGate0RefIdeal.sig) → Buf (Elt Ideal) ℓ) : Prop :=
  True

def Pre_InGate1 (m : (ℓ : Loc Cert.InGate1.nD Cert.InGate1.τ Cert.InGate1.sig) → Buf (Elt Bits) ℓ) : Prop :=
  True

def Pre_InGate1Ideal (m : (ℓ : Loc Cert.InGate1Ideal.nD Cert.InGate1Ideal.τ Cert.InGate1Ideal.sig) → Buf (Elt Ideal) ℓ) : Prop :=
  True

def Pre_InGate1RefIdeal (m : (ℓ : Loc Cert.InGate1RefIdeal.nD Cert.InGate1RefIdeal.τ Cert.InGate1RefIdeal.sig) → Buf (Elt Ideal) ℓ) : Prop :=
  True

def Pre_InMix0 (m : (ℓ : Loc Cert.InMix0.nD Cert.InMix0.τ Cert.InMix0.sig) → Buf (Elt Bits) ℓ) : Prop :=
  True

def Pre_InMix0Ideal (m : (ℓ : Loc Cert.InMix0Ideal.nD Cert.InMix0Ideal.τ Cert.InMix0Ideal.sig) → Buf (Elt Ideal) ℓ) : Prop :=
  True

def Pre_InMix0RefIdeal (m : (ℓ : Loc Cert.InMix0RefIdeal.nD Cert.InMix0RefIdeal.τ Cert.InMix0RefIdeal.sig) → Buf (Elt Ideal) ℓ) : Prop :=
  True

def Pre_InMix1 (m : (ℓ : Loc Cert.InMix1.nD Cert.InMix1.τ Cert.InMix1.sig) → Buf (Elt Bits) ℓ) : Prop :=
  True

def Pre_InMix1Ideal (m : (ℓ : Loc Cert.InMix1Ideal.nD Cert.InMix1Ideal.τ Cert.InMix1Ideal.sig) → Buf (Elt Ideal) ℓ) : Prop :=
  True

def Pre_InMix1RefIdeal (m : (ℓ : Loc Cert.InMix1RefIdeal.nD Cert.InMix1RefIdeal.τ Cert.InMix1RefIdeal.sig) → Buf (Elt Ideal) ℓ) : Prop :=
  True

def Pre_InGl0 (m : (ℓ : Loc Cert.InGl0.nD Cert.InGl0.τ Cert.InGl0.sig) → Buf (Elt Bits) ℓ) : Prop :=
  True

def Pre_InGl0Ideal (m : (ℓ : Loc Cert.InGl0Ideal.nD Cert.InGl0Ideal.τ Cert.InGl0Ideal.sig) → Buf (Elt Ideal) ℓ) : Prop :=
  True

def Pre_InGl0RefIdeal (m : (ℓ : Loc Cert.InGl0RefIdeal.nD Cert.InGl0RefIdeal.τ Cert.InGl0RefIdeal.sig) → Buf (Elt Ideal) ℓ) : Prop :=
  True

def Pre_InGl1 (m : (ℓ : Loc Cert.InGl1.nD Cert.InGl1.τ Cert.InGl1.sig) → Buf (Elt Bits) ℓ) : Prop :=
  True

def Pre_InGl1Ideal (m : (ℓ : Loc Cert.InGl1Ideal.nD Cert.InGl1Ideal.τ Cert.InGl1Ideal.sig) → Buf (Elt Ideal) ℓ) : Prop :=
  True

def Pre_InGl1RefIdeal (m : (ℓ : Loc Cert.InGl1RefIdeal.nD Cert.InGl1RefIdeal.τ Cert.InGl1RefIdeal.sig) → Buf (Elt Ideal) ℓ) : Prop :=
  True

def Pre_Merge0 (m : (ℓ : Loc Cert.Merge0.nD Cert.Merge0.τ Cert.Merge0.sig) → Buf (Elt Bits) ℓ) : Prop :=
  True

def Pre_Merge0Ideal (m : (ℓ : Loc Cert.Merge0Ideal.nD Cert.Merge0Ideal.τ Cert.Merge0Ideal.sig) → Buf (Elt Ideal) ℓ) : Prop :=
  True

def Pre_Merge0RefIdeal (m : (ℓ : Loc Cert.Merge0RefIdeal.nD Cert.Merge0RefIdeal.τ Cert.Merge0RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Merge1 (m : (ℓ : Loc Cert.Merge1.nD Cert.Merge1.τ Cert.Merge1.sig) → Buf (Elt Bits) ℓ) : Prop :=
  True

def Pre_Merge1Ideal (m : (ℓ : Loc Cert.Merge1Ideal.nD Cert.Merge1Ideal.τ Cert.Merge1Ideal.sig) → Buf (Elt Ideal) ℓ) : Prop :=
  True

def Pre_Merge1RefIdeal (m : (ℓ : Loc Cert.Merge1RefIdeal.nD Cert.Merge1RefIdeal.τ Cert.Merge1RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_FinalCtx (m : (ℓ : Loc Cert.FinalCtx.nD Cert.FinalCtx.τ Cert.FinalCtx.sig) → Buf (Elt Bits) ℓ) : Prop :=
  True

def Pre_FinalCtxIdeal (m : (ℓ : Loc Cert.FinalCtxIdeal.nD Cert.FinalCtxIdeal.τ Cert.FinalCtxIdeal.sig) → Buf (Elt Ideal) ℓ) : Prop :=
  True

def Pre_FinalCtxRefIdeal (m : (ℓ : Loc Cert.FinalCtxRefIdeal.nD Cert.FinalCtxRefIdeal.τ Cert.FinalCtxRefIdeal.sig) → Buf (Elt Ideal) ℓ) : Prop :=
  True

def Pre_FinalLat (m : (ℓ : Loc Cert.FinalLat.nD Cert.FinalLat.τ Cert.FinalLat.sig) → Buf (Elt Bits) ℓ) : Prop :=
  True

def Pre_FinalLatIdeal (m : (ℓ : Loc Cert.FinalLatIdeal.nD Cert.FinalLatIdeal.τ Cert.FinalLatIdeal.sig) → Buf (Elt Ideal) ℓ) : Prop :=
  True

def Pre_FinalLatRefIdeal (m : (ℓ : Loc Cert.FinalLatRefIdeal.nD Cert.FinalLatRefIdeal.τ Cert.FinalLatRefIdeal.sig) → Buf (Elt Ideal) ℓ) : Prop :=
  True

def Pre_Mlstm0 (m : (ℓ : Loc Cert.Mlstm0.nD Cert.Mlstm0.τ Cert.Mlstm0.sig) → Buf (Elt Bits) ℓ) : Prop :=
  True

def Pre_Mlstm0Ideal (m : (ℓ : Loc Cert.Mlstm0Ideal.nD Cert.Mlstm0Ideal.τ Cert.Mlstm0Ideal.sig) → Buf (Elt Ideal) ℓ) : Prop :=
  True

def Pre_Mlstm0RefIdeal (m : (ℓ : Loc Cert.Mlstm0RefIdeal.nD Cert.Mlstm0RefIdeal.τ Cert.Mlstm0RefIdeal.sig) → Buf (Elt Ideal) ℓ) : Prop :=
  True

def Pre_Mlstm1 (m : (ℓ : Loc Cert.Mlstm1.nD Cert.Mlstm1.τ Cert.Mlstm1.sig) → Buf (Elt Bits) ℓ) : Prop :=
  True

def Pre_Mlstm1Ideal (m : (ℓ : Loc Cert.Mlstm1Ideal.nD Cert.Mlstm1Ideal.τ Cert.Mlstm1Ideal.sig) → Buf (Elt Ideal) ℓ) : Prop :=
  True

def Pre_Mlstm1RefIdeal (m : (ℓ : Loc Cert.Mlstm1RefIdeal.nD Cert.Mlstm1RefIdeal.τ Cert.Mlstm1RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Down [hDown : Cert.Down.Facts] [hPre_down_tables : Cert.Pre_down_tables.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_DownRefIdeal_pre_down_tables [hDownRefIdeal : Cert.DownRefIdeal.Facts] [hPre_down_tables : Cert.Pre_down_tables.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_down_tables m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Up [hUp : Cert.Up.Facts] [hPre_up_tables : Cert.Pre_up_tables.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_UpRefIdeal_pre_up_tables [hUpRefIdeal : Cert.UpRefIdeal.Facts] [hPre_up_tables : Cert.Pre_up_tables.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_tables m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6))
      ∧ r.2.sem = fun _ => 0)

def quiescent_InMl0 [hInMl0 : Cert.InMl0.Facts] : Prop :=
  ∀ (m : (ℓ : Loc Cert.InMl0.nD Cert.InMl0.τ Cert.InMl0.sig) → Buf (Elt Bits) ℓ) (g : Dev Cert.InMl0.nD → PrngReg), Pre_InMl0 m →
    θ_run (Cert.InMl0.defs (F := Bits)) (onTc (τ := Cert.InMl0.τ) (Cert.InMl0.main (F := Bits))) ⟨m, fun _ => 0, g⟩ (fun r => (∀ c : Dev Cert.InMl0.nD,
      r.2.mem ((c.tc : Thread Cert.InMl0.nD Cert.InMl0.τ).loc Cert.InMl0.main_arg0) = m ((c.tc : Thread Cert.InMl0.nD Cert.InMl0.τ).loc Cert.InMl0.main_arg0)
      ∧ r.2.mem ((c.tc : Thread Cert.InMl0.nD Cert.InMl0.τ).loc Cert.InMl0.main_arg1) = m ((c.tc : Thread Cert.InMl0.nD Cert.InMl0.τ).loc Cert.InMl0.main_arg1))
      ∧ r.2.sem = fun _ => 0)

def quiescent_InMl0Ideal [hInMl0Ideal : Cert.InMl0Ideal.Facts] : Prop :=
  ∀ (m : (ℓ : Loc Cert.InMl0Ideal.nD Cert.InMl0Ideal.τ Cert.InMl0Ideal.sig) → Buf (Elt Ideal) ℓ) (g : Dev Cert.InMl0Ideal.nD → PrngReg), Pre_InMl0Ideal m →
    θ_run (Cert.InMl0Ideal.defs (F := Ideal)) (onTc (τ := Cert.InMl0Ideal.τ) (Cert.InMl0Ideal.main (F := Ideal))) ⟨m, fun _ => 0, g⟩ (fun r => (∀ c : Dev Cert.InMl0Ideal.nD,
      r.2.mem ((c.tc : Thread Cert.InMl0Ideal.nD Cert.InMl0Ideal.τ).loc Cert.InMl0Ideal.main_arg0) = m ((c.tc : Thread Cert.InMl0Ideal.nD Cert.InMl0Ideal.τ).loc Cert.InMl0Ideal.main_arg0)
      ∧ r.2.mem ((c.tc : Thread Cert.InMl0Ideal.nD Cert.InMl0Ideal.τ).loc Cert.InMl0Ideal.main_arg1) = m ((c.tc : Thread Cert.InMl0Ideal.nD Cert.InMl0Ideal.τ).loc Cert.InMl0Ideal.main_arg1))
      ∧ r.2.sem = fun _ => 0)

def quiescent_InMl0RefIdeal [hInMl0RefIdeal : Cert.InMl0RefIdeal.Facts] : Prop :=
  ∀ (m : (ℓ : Loc Cert.InMl0RefIdeal.nD Cert.InMl0RefIdeal.τ Cert.InMl0RefIdeal.sig) → Buf (Elt Ideal) ℓ) (g : Dev Cert.InMl0RefIdeal.nD → PrngReg), Pre_InMl0RefIdeal m →
    θ_run (Cert.InMl0RefIdeal.defs (F := Ideal)) (onTc (τ := Cert.InMl0RefIdeal.τ) (Cert.InMl0RefIdeal.main (F := Ideal))) ⟨m, fun _ => 0, g⟩ (fun r => (∀ c : Dev Cert.InMl0RefIdeal.nD,
      r.2.mem ((c.tc : Thread Cert.InMl0RefIdeal.nD Cert.InMl0RefIdeal.τ).loc Cert.InMl0RefIdeal.main_arg0) = m ((c.tc : Thread Cert.InMl0RefIdeal.nD Cert.InMl0RefIdeal.τ).loc Cert.InMl0RefIdeal.main_arg0)
      ∧ r.2.mem ((c.tc : Thread Cert.InMl0RefIdeal.nD Cert.InMl0RefIdeal.τ).loc Cert.InMl0RefIdeal.main_arg1) = m ((c.tc : Thread Cert.InMl0RefIdeal.nD Cert.InMl0RefIdeal.τ).loc Cert.InMl0RefIdeal.main_arg1))
      ∧ r.2.sem = fun _ => 0)

def quiescent_InMl1 [hInMl1 : Cert.InMl1.Facts] : Prop :=
  ∀ (m : (ℓ : Loc Cert.InMl1.nD Cert.InMl1.τ Cert.InMl1.sig) → Buf (Elt Bits) ℓ) (g : Dev Cert.InMl1.nD → PrngReg), Pre_InMl1 m →
    θ_run (Cert.InMl1.defs (F := Bits)) (onTc (τ := Cert.InMl1.τ) (Cert.InMl1.main (F := Bits))) ⟨m, fun _ => 0, g⟩ (fun r => (∀ c : Dev Cert.InMl1.nD,
      r.2.mem ((c.tc : Thread Cert.InMl1.nD Cert.InMl1.τ).loc Cert.InMl1.main_arg0) = m ((c.tc : Thread Cert.InMl1.nD Cert.InMl1.τ).loc Cert.InMl1.main_arg0)
      ∧ r.2.mem ((c.tc : Thread Cert.InMl1.nD Cert.InMl1.τ).loc Cert.InMl1.main_arg1) = m ((c.tc : Thread Cert.InMl1.nD Cert.InMl1.τ).loc Cert.InMl1.main_arg1))
      ∧ r.2.sem = fun _ => 0)

def quiescent_InMl1Ideal [hInMl1Ideal : Cert.InMl1Ideal.Facts] : Prop :=
  ∀ (m : (ℓ : Loc Cert.InMl1Ideal.nD Cert.InMl1Ideal.τ Cert.InMl1Ideal.sig) → Buf (Elt Ideal) ℓ) (g : Dev Cert.InMl1Ideal.nD → PrngReg), Pre_InMl1Ideal m →
    θ_run (Cert.InMl1Ideal.defs (F := Ideal)) (onTc (τ := Cert.InMl1Ideal.τ) (Cert.InMl1Ideal.main (F := Ideal))) ⟨m, fun _ => 0, g⟩ (fun r => (∀ c : Dev Cert.InMl1Ideal.nD,
      r.2.mem ((c.tc : Thread Cert.InMl1Ideal.nD Cert.InMl1Ideal.τ).loc Cert.InMl1Ideal.main_arg0) = m ((c.tc : Thread Cert.InMl1Ideal.nD Cert.InMl1Ideal.τ).loc Cert.InMl1Ideal.main_arg0)
      ∧ r.2.mem ((c.tc : Thread Cert.InMl1Ideal.nD Cert.InMl1Ideal.τ).loc Cert.InMl1Ideal.main_arg1) = m ((c.tc : Thread Cert.InMl1Ideal.nD Cert.InMl1Ideal.τ).loc Cert.InMl1Ideal.main_arg1))
      ∧ r.2.sem = fun _ => 0)

def quiescent_InMl1RefIdeal [hInMl1RefIdeal : Cert.InMl1RefIdeal.Facts] : Prop :=
  ∀ (m : (ℓ : Loc Cert.InMl1RefIdeal.nD Cert.InMl1RefIdeal.τ Cert.InMl1RefIdeal.sig) → Buf (Elt Ideal) ℓ) (g : Dev Cert.InMl1RefIdeal.nD → PrngReg), Pre_InMl1RefIdeal m →
    θ_run (Cert.InMl1RefIdeal.defs (F := Ideal)) (onTc (τ := Cert.InMl1RefIdeal.τ) (Cert.InMl1RefIdeal.main (F := Ideal))) ⟨m, fun _ => 0, g⟩ (fun r => (∀ c : Dev Cert.InMl1RefIdeal.nD,
      r.2.mem ((c.tc : Thread Cert.InMl1RefIdeal.nD Cert.InMl1RefIdeal.τ).loc Cert.InMl1RefIdeal.main_arg0) = m ((c.tc : Thread Cert.InMl1RefIdeal.nD Cert.InMl1RefIdeal.τ).loc Cert.InMl1RefIdeal.main_arg0)
      ∧ r.2.mem ((c.tc : Thread Cert.InMl1RefIdeal.nD Cert.InMl1RefIdeal.τ).loc Cert.InMl1RefIdeal.main_arg1) = m ((c.tc : Thread Cert.InMl1RefIdeal.nD Cert.InMl1RefIdeal.τ).loc Cert.InMl1RefIdeal.main_arg1))
      ∧ r.2.sem = fun _ => 0)

def quiescent_InGate0 [hInGate0 : Cert.InGate0.Facts] : Prop :=
  ∀ (m : (ℓ : Loc Cert.InGate0.nD Cert.InGate0.τ Cert.InGate0.sig) → Buf (Elt Bits) ℓ) (g : Dev Cert.InGate0.nD → PrngReg), Pre_InGate0 m →
    θ_run (Cert.InGate0.defs (F := Bits)) (onTc (τ := Cert.InGate0.τ) (Cert.InGate0.main (F := Bits))) ⟨m, fun _ => 0, g⟩ (fun r => (∀ c : Dev Cert.InGate0.nD,
      r.2.mem ((c.tc : Thread Cert.InGate0.nD Cert.InGate0.τ).loc Cert.InGate0.main_arg0) = m ((c.tc : Thread Cert.InGate0.nD Cert.InGate0.τ).loc Cert.InGate0.main_arg0)
      ∧ r.2.mem ((c.tc : Thread Cert.InGate0.nD Cert.InGate0.τ).loc Cert.InGate0.main_arg1) = m ((c.tc : Thread Cert.InGate0.nD Cert.InGate0.τ).loc Cert.InGate0.main_arg1))
      ∧ r.2.sem = fun _ => 0)

def quiescent_InGate0Ideal [hInGate0Ideal : Cert.InGate0Ideal.Facts] : Prop :=
  ∀ (m : (ℓ : Loc Cert.InGate0Ideal.nD Cert.InGate0Ideal.τ Cert.InGate0Ideal.sig) → Buf (Elt Ideal) ℓ) (g : Dev Cert.InGate0Ideal.nD → PrngReg), Pre_InGate0Ideal m →
    θ_run (Cert.InGate0Ideal.defs (F := Ideal)) (onTc (τ := Cert.InGate0Ideal.τ) (Cert.InGate0Ideal.main (F := Ideal))) ⟨m, fun _ => 0, g⟩ (fun r => (∀ c : Dev Cert.InGate0Ideal.nD,
      r.2.mem ((c.tc : Thread Cert.InGate0Ideal.nD Cert.InGate0Ideal.τ).loc Cert.InGate0Ideal.main_arg0) = m ((c.tc : Thread Cert.InGate0Ideal.nD Cert.InGate0Ideal.τ).loc Cert.InGate0Ideal.main_arg0)
      ∧ r.2.mem ((c.tc : Thread Cert.InGate0Ideal.nD Cert.InGate0Ideal.τ).loc Cert.InGate0Ideal.main_arg1) = m ((c.tc : Thread Cert.InGate0Ideal.nD Cert.InGate0Ideal.τ).loc Cert.InGate0Ideal.main_arg1))
      ∧ r.2.sem = fun _ => 0)

def quiescent_InGate0RefIdeal [hInGate0RefIdeal : Cert.InGate0RefIdeal.Facts] : Prop :=
  ∀ (m : (ℓ : Loc Cert.InGate0RefIdeal.nD Cert.InGate0RefIdeal.τ Cert.InGate0RefIdeal.sig) → Buf (Elt Ideal) ℓ) (g : Dev Cert.InGate0RefIdeal.nD → PrngReg), Pre_InGate0RefIdeal m →
    θ_run (Cert.InGate0RefIdeal.defs (F := Ideal)) (onTc (τ := Cert.InGate0RefIdeal.τ) (Cert.InGate0RefIdeal.main (F := Ideal))) ⟨m, fun _ => 0, g⟩ (fun r => (∀ c : Dev Cert.InGate0RefIdeal.nD,
      r.2.mem ((c.tc : Thread Cert.InGate0RefIdeal.nD Cert.InGate0RefIdeal.τ).loc Cert.InGate0RefIdeal.main_arg0) = m ((c.tc : Thread Cert.InGate0RefIdeal.nD Cert.InGate0RefIdeal.τ).loc Cert.InGate0RefIdeal.main_arg0)
      ∧ r.2.mem ((c.tc : Thread Cert.InGate0RefIdeal.nD Cert.InGate0RefIdeal.τ).loc Cert.InGate0RefIdeal.main_arg1) = m ((c.tc : Thread Cert.InGate0RefIdeal.nD Cert.InGate0RefIdeal.τ).loc Cert.InGate0RefIdeal.main_arg1))
      ∧ r.2.sem = fun _ => 0)

def quiescent_InGate1 [hInGate1 : Cert.InGate1.Facts] : Prop :=
  ∀ (m : (ℓ : Loc Cert.InGate1.nD Cert.InGate1.τ Cert.InGate1.sig) → Buf (Elt Bits) ℓ) (g : Dev Cert.InGate1.nD → PrngReg), Pre_InGate1 m →
    θ_run (Cert.InGate1.defs (F := Bits)) (onTc (τ := Cert.InGate1.τ) (Cert.InGate1.main (F := Bits))) ⟨m, fun _ => 0, g⟩ (fun r => (∀ c : Dev Cert.InGate1.nD,
      r.2.mem ((c.tc : Thread Cert.InGate1.nD Cert.InGate1.τ).loc Cert.InGate1.main_arg0) = m ((c.tc : Thread Cert.InGate1.nD Cert.InGate1.τ).loc Cert.InGate1.main_arg0)
      ∧ r.2.mem ((c.tc : Thread Cert.InGate1.nD Cert.InGate1.τ).loc Cert.InGate1.main_arg1) = m ((c.tc : Thread Cert.InGate1.nD Cert.InGate1.τ).loc Cert.InGate1.main_arg1))
      ∧ r.2.sem = fun _ => 0)

def quiescent_InGate1Ideal [hInGate1Ideal : Cert.InGate1Ideal.Facts] : Prop :=
  ∀ (m : (ℓ : Loc Cert.InGate1Ideal.nD Cert.InGate1Ideal.τ Cert.InGate1Ideal.sig) → Buf (Elt Ideal) ℓ) (g : Dev Cert.InGate1Ideal.nD → PrngReg), Pre_InGate1Ideal m →
    θ_run (Cert.InGate1Ideal.defs (F := Ideal)) (onTc (τ := Cert.InGate1Ideal.τ) (Cert.InGate1Ideal.main (F := Ideal))) ⟨m, fun _ => 0, g⟩ (fun r => (∀ c : Dev Cert.InGate1Ideal.nD,
      r.2.mem ((c.tc : Thread Cert.InGate1Ideal.nD Cert.InGate1Ideal.τ).loc Cert.InGate1Ideal.main_arg0) = m ((c.tc : Thread Cert.InGate1Ideal.nD Cert.InGate1Ideal.τ).loc Cert.InGate1Ideal.main_arg0)
      ∧ r.2.mem ((c.tc : Thread Cert.InGate1Ideal.nD Cert.InGate1Ideal.τ).loc Cert.InGate1Ideal.main_arg1) = m ((c.tc : Thread Cert.InGate1Ideal.nD Cert.InGate1Ideal.τ).loc Cert.InGate1Ideal.main_arg1))
      ∧ r.2.sem = fun _ => 0)

def quiescent_InGate1RefIdeal [hInGate1RefIdeal : Cert.InGate1RefIdeal.Facts] : Prop :=
  ∀ (m : (ℓ : Loc Cert.InGate1RefIdeal.nD Cert.InGate1RefIdeal.τ Cert.InGate1RefIdeal.sig) → Buf (Elt Ideal) ℓ) (g : Dev Cert.InGate1RefIdeal.nD → PrngReg), Pre_InGate1RefIdeal m →
    θ_run (Cert.InGate1RefIdeal.defs (F := Ideal)) (onTc (τ := Cert.InGate1RefIdeal.τ) (Cert.InGate1RefIdeal.main (F := Ideal))) ⟨m, fun _ => 0, g⟩ (fun r => (∀ c : Dev Cert.InGate1RefIdeal.nD,
      r.2.mem ((c.tc : Thread Cert.InGate1RefIdeal.nD Cert.InGate1RefIdeal.τ).loc Cert.InGate1RefIdeal.main_arg0) = m ((c.tc : Thread Cert.InGate1RefIdeal.nD Cert.InGate1RefIdeal.τ).loc Cert.InGate1RefIdeal.main_arg0)
      ∧ r.2.mem ((c.tc : Thread Cert.InGate1RefIdeal.nD Cert.InGate1RefIdeal.τ).loc Cert.InGate1RefIdeal.main_arg1) = m ((c.tc : Thread Cert.InGate1RefIdeal.nD Cert.InGate1RefIdeal.τ).loc Cert.InGate1RefIdeal.main_arg1))
      ∧ r.2.sem = fun _ => 0)

def quiescent_InMix0 [hInMix0 : Cert.InMix0.Facts] : Prop :=
  ∀ (m : (ℓ : Loc Cert.InMix0.nD Cert.InMix0.τ Cert.InMix0.sig) → Buf (Elt Bits) ℓ) (g : Dev Cert.InMix0.nD → PrngReg), Pre_InMix0 m →
    θ_run (Cert.InMix0.defs (F := Bits)) (onTc (τ := Cert.InMix0.τ) (Cert.InMix0.main (F := Bits))) ⟨m, fun _ => 0, g⟩ (fun r => (∀ c : Dev Cert.InMix0.nD,
      r.2.mem ((c.tc : Thread Cert.InMix0.nD Cert.InMix0.τ).loc Cert.InMix0.main_arg0) = m ((c.tc : Thread Cert.InMix0.nD Cert.InMix0.τ).loc Cert.InMix0.main_arg0)
      ∧ r.2.mem ((c.tc : Thread Cert.InMix0.nD Cert.InMix0.τ).loc Cert.InMix0.main_arg1) = m ((c.tc : Thread Cert.InMix0.nD Cert.InMix0.τ).loc Cert.InMix0.main_arg1))
      ∧ r.2.sem = fun _ => 0)

def quiescent_InMix0Ideal [hInMix0Ideal : Cert.InMix0Ideal.Facts] : Prop :=
  ∀ (m : (ℓ : Loc Cert.InMix0Ideal.nD Cert.InMix0Ideal.τ Cert.InMix0Ideal.sig) → Buf (Elt Ideal) ℓ) (g : Dev Cert.InMix0Ideal.nD → PrngReg), Pre_InMix0Ideal m →
    θ_run (Cert.InMix0Ideal.defs (F := Ideal)) (onTc (τ := Cert.InMix0Ideal.τ) (Cert.InMix0Ideal.main (F := Ideal))) ⟨m, fun _ => 0, g⟩ (fun r => (∀ c : Dev Cert.InMix0Ideal.nD,
      r.2.mem ((c.tc : Thread Cert.InMix0Ideal.nD Cert.InMix0Ideal.τ).loc Cert.InMix0Ideal.main_arg0) = m ((c.tc : Thread Cert.InMix0Ideal.nD Cert.InMix0Ideal.τ).loc Cert.InMix0Ideal.main_arg0)
      ∧ r.2.mem ((c.tc : Thread Cert.InMix0Ideal.nD Cert.InMix0Ideal.τ).loc Cert.InMix0Ideal.main_arg1) = m ((c.tc : Thread Cert.InMix0Ideal.nD Cert.InMix0Ideal.τ).loc Cert.InMix0Ideal.main_arg1))
      ∧ r.2.sem = fun _ => 0)

def quiescent_InMix0RefIdeal [hInMix0RefIdeal : Cert.InMix0RefIdeal.Facts] : Prop :=
  ∀ (m : (ℓ : Loc Cert.InMix0RefIdeal.nD Cert.InMix0RefIdeal.τ Cert.InMix0RefIdeal.sig) → Buf (Elt Ideal) ℓ) (g : Dev Cert.InMix0RefIdeal.nD → PrngReg), Pre_InMix0RefIdeal m →
    θ_run (Cert.InMix0RefIdeal.defs (F := Ideal)) (onTc (τ := Cert.InMix0RefIdeal.τ) (Cert.InMix0RefIdeal.main (F := Ideal))) ⟨m, fun _ => 0, g⟩ (fun r => (∀ c : Dev Cert.InMix0RefIdeal.nD,
      r.2.mem ((c.tc : Thread Cert.InMix0RefIdeal.nD Cert.InMix0RefIdeal.τ).loc Cert.InMix0RefIdeal.main_arg0) = m ((c.tc : Thread Cert.InMix0RefIdeal.nD Cert.InMix0RefIdeal.τ).loc Cert.InMix0RefIdeal.main_arg0)
      ∧ r.2.mem ((c.tc : Thread Cert.InMix0RefIdeal.nD Cert.InMix0RefIdeal.τ).loc Cert.InMix0RefIdeal.main_arg1) = m ((c.tc : Thread Cert.InMix0RefIdeal.nD Cert.InMix0RefIdeal.τ).loc Cert.InMix0RefIdeal.main_arg1))
      ∧ r.2.sem = fun _ => 0)

def quiescent_InMix1 [hInMix1 : Cert.InMix1.Facts] : Prop :=
  ∀ (m : (ℓ : Loc Cert.InMix1.nD Cert.InMix1.τ Cert.InMix1.sig) → Buf (Elt Bits) ℓ) (g : Dev Cert.InMix1.nD → PrngReg), Pre_InMix1 m →
    θ_run (Cert.InMix1.defs (F := Bits)) (onTc (τ := Cert.InMix1.τ) (Cert.InMix1.main (F := Bits))) ⟨m, fun _ => 0, g⟩ (fun r => (∀ c : Dev Cert.InMix1.nD,
      r.2.mem ((c.tc : Thread Cert.InMix1.nD Cert.InMix1.τ).loc Cert.InMix1.main_arg0) = m ((c.tc : Thread Cert.InMix1.nD Cert.InMix1.τ).loc Cert.InMix1.main_arg0)
      ∧ r.2.mem ((c.tc : Thread Cert.InMix1.nD Cert.InMix1.τ).loc Cert.InMix1.main_arg1) = m ((c.tc : Thread Cert.InMix1.nD Cert.InMix1.τ).loc Cert.InMix1.main_arg1))
      ∧ r.2.sem = fun _ => 0)

def quiescent_InMix1Ideal [hInMix1Ideal : Cert.InMix1Ideal.Facts] : Prop :=
  ∀ (m : (ℓ : Loc Cert.InMix1Ideal.nD Cert.InMix1Ideal.τ Cert.InMix1Ideal.sig) → Buf (Elt Ideal) ℓ) (g : Dev Cert.InMix1Ideal.nD → PrngReg), Pre_InMix1Ideal m →
    θ_run (Cert.InMix1Ideal.defs (F := Ideal)) (onTc (τ := Cert.InMix1Ideal.τ) (Cert.InMix1Ideal.main (F := Ideal))) ⟨m, fun _ => 0, g⟩ (fun r => (∀ c : Dev Cert.InMix1Ideal.nD,
      r.2.mem ((c.tc : Thread Cert.InMix1Ideal.nD Cert.InMix1Ideal.τ).loc Cert.InMix1Ideal.main_arg0) = m ((c.tc : Thread Cert.InMix1Ideal.nD Cert.InMix1Ideal.τ).loc Cert.InMix1Ideal.main_arg0)
      ∧ r.2.mem ((c.tc : Thread Cert.InMix1Ideal.nD Cert.InMix1Ideal.τ).loc Cert.InMix1Ideal.main_arg1) = m ((c.tc : Thread Cert.InMix1Ideal.nD Cert.InMix1Ideal.τ).loc Cert.InMix1Ideal.main_arg1))
      ∧ r.2.sem = fun _ => 0)

def quiescent_InMix1RefIdeal [hInMix1RefIdeal : Cert.InMix1RefIdeal.Facts] : Prop :=
  ∀ (m : (ℓ : Loc Cert.InMix1RefIdeal.nD Cert.InMix1RefIdeal.τ Cert.InMix1RefIdeal.sig) → Buf (Elt Ideal) ℓ) (g : Dev Cert.InMix1RefIdeal.nD → PrngReg), Pre_InMix1RefIdeal m →
    θ_run (Cert.InMix1RefIdeal.defs (F := Ideal)) (onTc (τ := Cert.InMix1RefIdeal.τ) (Cert.InMix1RefIdeal.main (F := Ideal))) ⟨m, fun _ => 0, g⟩ (fun r => (∀ c : Dev Cert.InMix1RefIdeal.nD,
      r.2.mem ((c.tc : Thread Cert.InMix1RefIdeal.nD Cert.InMix1RefIdeal.τ).loc Cert.InMix1RefIdeal.main_arg0) = m ((c.tc : Thread Cert.InMix1RefIdeal.nD Cert.InMix1RefIdeal.τ).loc Cert.InMix1RefIdeal.main_arg0)
      ∧ r.2.mem ((c.tc : Thread Cert.InMix1RefIdeal.nD Cert.InMix1RefIdeal.τ).loc Cert.InMix1RefIdeal.main_arg1) = m ((c.tc : Thread Cert.InMix1RefIdeal.nD Cert.InMix1RefIdeal.τ).loc Cert.InMix1RefIdeal.main_arg1))
      ∧ r.2.sem = fun _ => 0)

def quiescent_InGl0 [hInGl0 : Cert.InGl0.Facts] : Prop :=
  ∀ (m : (ℓ : Loc Cert.InGl0.nD Cert.InGl0.τ Cert.InGl0.sig) → Buf (Elt Bits) ℓ) (g : Dev Cert.InGl0.nD → PrngReg), Pre_InGl0 m →
    θ_run (Cert.InGl0.defs (F := Bits)) (onTc (τ := Cert.InGl0.τ) (Cert.InGl0.main (F := Bits))) ⟨m, fun _ => 0, g⟩ (fun r => (∀ c : Dev Cert.InGl0.nD,
      r.2.mem ((c.tc : Thread Cert.InGl0.nD Cert.InGl0.τ).loc Cert.InGl0.main_arg0) = m ((c.tc : Thread Cert.InGl0.nD Cert.InGl0.τ).loc Cert.InGl0.main_arg0)
      ∧ r.2.mem ((c.tc : Thread Cert.InGl0.nD Cert.InGl0.τ).loc Cert.InGl0.main_arg1) = m ((c.tc : Thread Cert.InGl0.nD Cert.InGl0.τ).loc Cert.InGl0.main_arg1))
      ∧ r.2.sem = fun _ => 0)

def quiescent_InGl0Ideal [hInGl0Ideal : Cert.InGl0Ideal.Facts] : Prop :=
  ∀ (m : (ℓ : Loc Cert.InGl0Ideal.nD Cert.InGl0Ideal.τ Cert.InGl0Ideal.sig) → Buf (Elt Ideal) ℓ) (g : Dev Cert.InGl0Ideal.nD → PrngReg), Pre_InGl0Ideal m →
    θ_run (Cert.InGl0Ideal.defs (F := Ideal)) (onTc (τ := Cert.InGl0Ideal.τ) (Cert.InGl0Ideal.main (F := Ideal))) ⟨m, fun _ => 0, g⟩ (fun r => (∀ c : Dev Cert.InGl0Ideal.nD,
      r.2.mem ((c.tc : Thread Cert.InGl0Ideal.nD Cert.InGl0Ideal.τ).loc Cert.InGl0Ideal.main_arg0) = m ((c.tc : Thread Cert.InGl0Ideal.nD Cert.InGl0Ideal.τ).loc Cert.InGl0Ideal.main_arg0)
      ∧ r.2.mem ((c.tc : Thread Cert.InGl0Ideal.nD Cert.InGl0Ideal.τ).loc Cert.InGl0Ideal.main_arg1) = m ((c.tc : Thread Cert.InGl0Ideal.nD Cert.InGl0Ideal.τ).loc Cert.InGl0Ideal.main_arg1))
      ∧ r.2.sem = fun _ => 0)

def quiescent_InGl0RefIdeal [hInGl0RefIdeal : Cert.InGl0RefIdeal.Facts] : Prop :=
  ∀ (m : (ℓ : Loc Cert.InGl0RefIdeal.nD Cert.InGl0RefIdeal.τ Cert.InGl0RefIdeal.sig) → Buf (Elt Ideal) ℓ) (g : Dev Cert.InGl0RefIdeal.nD → PrngReg), Pre_InGl0RefIdeal m →
    θ_run (Cert.InGl0RefIdeal.defs (F := Ideal)) (onTc (τ := Cert.InGl0RefIdeal.τ) (Cert.InGl0RefIdeal.main (F := Ideal))) ⟨m, fun _ => 0, g⟩ (fun r => (∀ c : Dev Cert.InGl0RefIdeal.nD,
      r.2.mem ((c.tc : Thread Cert.InGl0RefIdeal.nD Cert.InGl0RefIdeal.τ).loc Cert.InGl0RefIdeal.main_arg0) = m ((c.tc : Thread Cert.InGl0RefIdeal.nD Cert.InGl0RefIdeal.τ).loc Cert.InGl0RefIdeal.main_arg0)
      ∧ r.2.mem ((c.tc : Thread Cert.InGl0RefIdeal.nD Cert.InGl0RefIdeal.τ).loc Cert.InGl0RefIdeal.main_arg1) = m ((c.tc : Thread Cert.InGl0RefIdeal.nD Cert.InGl0RefIdeal.τ).loc Cert.InGl0RefIdeal.main_arg1))
      ∧ r.2.sem = fun _ => 0)

def quiescent_InGl1 [hInGl1 : Cert.InGl1.Facts] : Prop :=
  ∀ (m : (ℓ : Loc Cert.InGl1.nD Cert.InGl1.τ Cert.InGl1.sig) → Buf (Elt Bits) ℓ) (g : Dev Cert.InGl1.nD → PrngReg), Pre_InGl1 m →
    θ_run (Cert.InGl1.defs (F := Bits)) (onTc (τ := Cert.InGl1.τ) (Cert.InGl1.main (F := Bits))) ⟨m, fun _ => 0, g⟩ (fun r => (∀ c : Dev Cert.InGl1.nD,
      r.2.mem ((c.tc : Thread Cert.InGl1.nD Cert.InGl1.τ).loc Cert.InGl1.main_arg0) = m ((c.tc : Thread Cert.InGl1.nD Cert.InGl1.τ).loc Cert.InGl1.main_arg0)
      ∧ r.2.mem ((c.tc : Thread Cert.InGl1.nD Cert.InGl1.τ).loc Cert.InGl1.main_arg1) = m ((c.tc : Thread Cert.InGl1.nD Cert.InGl1.τ).loc Cert.InGl1.main_arg1))
      ∧ r.2.sem = fun _ => 0)

def quiescent_InGl1Ideal [hInGl1Ideal : Cert.InGl1Ideal.Facts] : Prop :=
  ∀ (m : (ℓ : Loc Cert.InGl1Ideal.nD Cert.InGl1Ideal.τ Cert.InGl1Ideal.sig) → Buf (Elt Ideal) ℓ) (g : Dev Cert.InGl1Ideal.nD → PrngReg), Pre_InGl1Ideal m →
    θ_run (Cert.InGl1Ideal.defs (F := Ideal)) (onTc (τ := Cert.InGl1Ideal.τ) (Cert.InGl1Ideal.main (F := Ideal))) ⟨m, fun _ => 0, g⟩ (fun r => (∀ c : Dev Cert.InGl1Ideal.nD,
      r.2.mem ((c.tc : Thread Cert.InGl1Ideal.nD Cert.InGl1Ideal.τ).loc Cert.InGl1Ideal.main_arg0) = m ((c.tc : Thread Cert.InGl1Ideal.nD Cert.InGl1Ideal.τ).loc Cert.InGl1Ideal.main_arg0)
      ∧ r.2.mem ((c.tc : Thread Cert.InGl1Ideal.nD Cert.InGl1Ideal.τ).loc Cert.InGl1Ideal.main_arg1) = m ((c.tc : Thread Cert.InGl1Ideal.nD Cert.InGl1Ideal.τ).loc Cert.InGl1Ideal.main_arg1))
      ∧ r.2.sem = fun _ => 0)

def quiescent_InGl1RefIdeal [hInGl1RefIdeal : Cert.InGl1RefIdeal.Facts] : Prop :=
  ∀ (m : (ℓ : Loc Cert.InGl1RefIdeal.nD Cert.InGl1RefIdeal.τ Cert.InGl1RefIdeal.sig) → Buf (Elt Ideal) ℓ) (g : Dev Cert.InGl1RefIdeal.nD → PrngReg), Pre_InGl1RefIdeal m →
    θ_run (Cert.InGl1RefIdeal.defs (F := Ideal)) (onTc (τ := Cert.InGl1RefIdeal.τ) (Cert.InGl1RefIdeal.main (F := Ideal))) ⟨m, fun _ => 0, g⟩ (fun r => (∀ c : Dev Cert.InGl1RefIdeal.nD,
      r.2.mem ((c.tc : Thread Cert.InGl1RefIdeal.nD Cert.InGl1RefIdeal.τ).loc Cert.InGl1RefIdeal.main_arg0) = m ((c.tc : Thread Cert.InGl1RefIdeal.nD Cert.InGl1RefIdeal.τ).loc Cert.InGl1RefIdeal.main_arg0)
      ∧ r.2.mem ((c.tc : Thread Cert.InGl1RefIdeal.nD Cert.InGl1RefIdeal.τ).loc Cert.InGl1RefIdeal.main_arg1) = m ((c.tc : Thread Cert.InGl1RefIdeal.nD Cert.InGl1RefIdeal.τ).loc Cert.InGl1RefIdeal.main_arg1))
      ∧ r.2.sem = fun _ => 0)

def quiescent_Merge0 [hMerge0 : Cert.Merge0.Facts] : Prop :=
  ∀ (m : (ℓ : Loc Cert.Merge0.nD Cert.Merge0.τ Cert.Merge0.sig) → Buf (Elt Bits) ℓ) (g : Dev Cert.Merge0.nD → PrngReg), Pre_Merge0 m →
    θ_run (Cert.Merge0.defs (F := Bits)) (onTc (τ := Cert.Merge0.τ) (Cert.Merge0.main (F := Bits))) ⟨m, fun _ => 0, g⟩ (fun r => (∀ c : Dev Cert.Merge0.nD,
      r.2.mem ((c.tc : Thread Cert.Merge0.nD Cert.Merge0.τ).loc Cert.Merge0.main_arg0) = m ((c.tc : Thread Cert.Merge0.nD Cert.Merge0.τ).loc Cert.Merge0.main_arg0)
      ∧ r.2.mem ((c.tc : Thread Cert.Merge0.nD Cert.Merge0.τ).loc Cert.Merge0.main_arg1) = m ((c.tc : Thread Cert.Merge0.nD Cert.Merge0.τ).loc Cert.Merge0.main_arg1)
      ∧ r.2.mem ((c.tc : Thread Cert.Merge0.nD Cert.Merge0.τ).loc Cert.Merge0.main_arg2) = m ((c.tc : Thread Cert.Merge0.nD Cert.Merge0.τ).loc Cert.Merge0.main_arg2)
      ∧ r.2.mem ((c.tc : Thread Cert.Merge0.nD Cert.Merge0.τ).loc Cert.Merge0.main_arg3) = m ((c.tc : Thread Cert.Merge0.nD Cert.Merge0.τ).loc Cert.Merge0.main_arg3)
      ∧ r.2.mem ((c.tc : Thread Cert.Merge0.nD Cert.Merge0.τ).loc Cert.Merge0.main_arg4) = m ((c.tc : Thread Cert.Merge0.nD Cert.Merge0.τ).loc Cert.Merge0.main_arg4)
      ∧ r.2.mem ((c.tc : Thread Cert.Merge0.nD Cert.Merge0.τ).loc Cert.Merge0.main_arg5) = m ((c.tc : Thread Cert.Merge0.nD Cert.Merge0.τ).loc Cert.Merge0.main_arg5)
      ∧ r.2.mem ((c.tc : Thread Cert.Merge0.nD Cert.Merge0.τ).loc Cert.Merge0.main_arg6) = m ((c.tc : Thread Cert.Merge0.nD Cert.Merge0.τ).loc Cert.Merge0.main_arg6)
      ∧ r.2.mem ((c.tc : Thread Cert.Merge0.nD Cert.Merge0.τ).loc Cert.Merge0.main_arg7) = m ((c.tc : Thread Cert.Merge0.nD Cert.Merge0.τ).loc Cert.Merge0.main_arg7))
      ∧ r.2.sem = fun _ => 0)

def quiescent_Merge0Ideal [hMerge0Ideal : Cert.Merge0Ideal.Facts] : Prop :=
  ∀ (m : (ℓ : Loc Cert.Merge0Ideal.nD Cert.Merge0Ideal.τ Cert.Merge0Ideal.sig) → Buf (Elt Ideal) ℓ) (g : Dev Cert.Merge0Ideal.nD → PrngReg), Pre_Merge0Ideal m →
    θ_run (Cert.Merge0Ideal.defs (F := Ideal)) (onTc (τ := Cert.Merge0Ideal.τ) (Cert.Merge0Ideal.main (F := Ideal))) ⟨m, fun _ => 0, g⟩ (fun r => (∀ c : Dev Cert.Merge0Ideal.nD,
      r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
      ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
      ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
      ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
      ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
      ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
      ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6)
      ∧ r.2.mem ((c.tc : Thread Cert.Merge0Ideal.nD Cert.Merge0Ideal.τ).loc Cert.Merge0Ideal.main_arg7) = m ((c.tc : Thread Cert.Merge0Ideal.nD Cert.Merge0Ideal.τ).loc Cert.Merge0Ideal.main_arg7))
      ∧ r.2.sem = fun _ => 0)

def quiescent_Merge0RefIdeal [hMerge0RefIdeal : Cert.Merge0RefIdeal.Facts] : Prop :=
  ∀ (m : (ℓ : Loc Cert.Merge0RefIdeal.nD Cert.Merge0RefIdeal.τ Cert.Merge0RefIdeal.sig) → Buf (Elt Ideal) ℓ) (g : Dev Cert.Merge0RefIdeal.nD → PrngReg), Pre_Merge0RefIdeal m →
    θ_run (Cert.Merge0RefIdeal.defs (F := Ideal)) (onTc (τ := Cert.Merge0RefIdeal.τ) (Cert.Merge0RefIdeal.main (F := Ideal))) ⟨m, fun _ => 0, g⟩ (fun r => (∀ c : Dev Cert.Merge0RefIdeal.nD,
      r.2.mem ((c.tc : Thread Cert.Merge0RefIdeal.nD Cert.Merge0RefIdeal.τ).loc Cert.Merge0RefIdeal.main_arg0) = m ((c.tc : Thread Cert.Merge0RefIdeal.nD Cert.Merge0RefIdeal.τ).loc Cert.Merge0RefIdeal.main_arg0)
      ∧ r.2.mem ((c.tc : Thread Cert.Merge0RefIdeal.nD Cert.Merge0RefIdeal.τ).loc Cert.Merge0RefIdeal.main_arg1) = m ((c.tc : Thread Cert.Merge0RefIdeal.nD Cert.Merge0RefIdeal.τ).loc Cert.Merge0RefIdeal.main_arg1)
      ∧ r.2.mem ((c.tc : Thread Cert.Merge0RefIdeal.nD Cert.Merge0RefIdeal.τ).loc Cert.Merge0RefIdeal.main_arg2) = m ((c.tc : Thread Cert.Merge0RefIdeal.nD Cert.Merge0RefIdeal.τ).loc Cert.Merge0RefIdeal.main_arg2)
      ∧ r.2.mem ((c.tc : Thread Cert.Merge0RefIdeal.nD Cert.Merge0RefIdeal.τ).loc Cert.Merge0RefIdeal.main_arg3) = m ((c.tc : Thread Cert.Merge0RefIdeal.nD Cert.Merge0RefIdeal.τ).loc Cert.Merge0RefIdeal.main_arg3)
      ∧ r.2.mem ((c.tc : Thread Cert.Merge0RefIdeal.nD Cert.Merge0RefIdeal.τ).loc Cert.Merge0RefIdeal.main_arg4) = m ((c.tc : Thread Cert.Merge0RefIdeal.nD Cert.Merge0RefIdeal.τ).loc Cert.Merge0RefIdeal.main_arg4)
      ∧ r.2.mem ((c.tc : Thread Cert.Merge0RefIdeal.nD Cert.Merge0RefIdeal.τ).loc Cert.Merge0RefIdeal.main_arg5) = m ((c.tc : Thread Cert.Merge0RefIdeal.nD Cert.Merge0RefIdeal.τ).loc Cert.Merge0RefIdeal.main_arg5)
      ∧ r.2.mem ((c.tc : Thread Cert.Merge0RefIdeal.nD Cert.Merge0RefIdeal.τ).loc Cert.Merge0RefIdeal.main_arg6) = m ((c.tc : Thread Cert.Merge0RefIdeal.nD Cert.Merge0RefIdeal.τ).loc Cert.Merge0RefIdeal.main_arg6)
      ∧ r.2.mem ((c.tc : Thread Cert.Merge0RefIdeal.nD Cert.Merge0RefIdeal.τ).loc Cert.Merge0RefIdeal.main_arg7) = m ((c.tc : Thread Cert.Merge0RefIdeal.nD Cert.Merge0RefIdeal.τ).loc Cert.Merge0RefIdeal.main_arg7))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1)
      ∧ r.2.mem ((c.tc : Thread Cert.Out0.nD Cert.Out0.τ).loc Cert.Out0.main_arg2) = m ((c.tc : Thread Cert.Out0.nD Cert.Out0.τ).loc Cert.Out0.main_arg2)
      ∧ r.2.mem ((c.tc : Thread Cert.Out0.nD Cert.Out0.τ).loc Cert.Out0.main_arg3) = m ((c.tc : Thread Cert.Out0.nD Cert.Out0.τ).loc Cert.Out0.main_arg3))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
      ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
      ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1)
      ∧ r.2.mem ((c.tc : Thread Cert.Out0RefIdeal.nD Cert.Out0RefIdeal.τ).loc Cert.Out0RefIdeal.main_arg2) = m ((c.tc : Thread Cert.Out0RefIdeal.nD Cert.Out0RefIdeal.τ).loc Cert.Out0RefIdeal.main_arg2)
      ∧ r.2.mem ((c.tc : Thread Cert.Out0RefIdeal.nD Cert.Out0RefIdeal.τ).loc Cert.Out0RefIdeal.main_arg3) = m ((c.tc : Thread Cert.Out0RefIdeal.nD Cert.Out0RefIdeal.τ).loc Cert.Out0RefIdeal.main_arg3))
      ∧ r.2.sem = fun _ => 0)

def quiescent_Merge1 [hMerge1 : Cert.Merge1.Facts] : Prop :=
  ∀ (m : (ℓ : Loc Cert.Merge1.nD Cert.Merge1.τ Cert.Merge1.sig) → Buf (Elt Bits) ℓ) (g : Dev Cert.Merge1.nD → PrngReg), Pre_Merge1 m →
    θ_run (Cert.Merge1.defs (F := Bits)) (onTc (τ := Cert.Merge1.τ) (Cert.Merge1.main (F := Bits))) ⟨m, fun _ => 0, g⟩ (fun r => (∀ c : Dev Cert.Merge1.nD,
      r.2.mem ((c.tc : Thread Cert.Merge1.nD Cert.Merge1.τ).loc Cert.Merge1.main_arg0) = m ((c.tc : Thread Cert.Merge1.nD Cert.Merge1.τ).loc Cert.Merge1.main_arg0)
      ∧ r.2.mem ((c.tc : Thread Cert.Merge1.nD Cert.Merge1.τ).loc Cert.Merge1.main_arg1) = m ((c.tc : Thread Cert.Merge1.nD Cert.Merge1.τ).loc Cert.Merge1.main_arg1)
      ∧ r.2.mem ((c.tc : Thread Cert.Merge1.nD Cert.Merge1.τ).loc Cert.Merge1.main_arg2) = m ((c.tc : Thread Cert.Merge1.nD Cert.Merge1.τ).loc Cert.Merge1.main_arg2)
      ∧ r.2.mem ((c.tc : Thread Cert.Merge1.nD Cert.Merge1.τ).loc Cert.Merge1.main_arg3) = m ((c.tc : Thread Cert.Merge1.nD Cert.Merge1.τ).loc Cert.Merge1.main_arg3)
      ∧ r.2.mem ((c.tc : Thread Cert.Merge1.nD Cert.Merge1.τ).loc Cert.Merge1.main_arg4) = m ((c.tc : Thread Cert.Merge1.nD Cert.Merge1.τ).loc Cert.Merge1.main_arg4)
      ∧ r.2.mem ((c.tc : Thread Cert.Merge1.nD Cert.Merge1.τ).loc Cert.Merge1.main_arg5) = m ((c.tc : Thread Cert.Merge1.nD Cert.Merge1.τ).loc Cert.Merge1.main_arg5)
      ∧ r.2.mem ((c.tc : Thread Cert.Merge1.nD Cert.Merge1.τ).loc Cert.Merge1.main_arg6) = m ((c.tc : Thread Cert.Merge1.nD Cert.Merge1.τ).loc Cert.Merge1.main_arg6)
      ∧ r.2.mem ((c.tc : Thread Cert.Merge1.nD Cert.Merge1.τ).loc Cert.Merge1.main_arg7) = m ((c.tc : Thread Cert.Merge1.nD Cert.Merge1.τ).loc Cert.Merge1.main_arg7))
      ∧ r.2.sem = fun _ => 0)

def quiescent_Merge1Ideal [hMerge1Ideal : Cert.Merge1Ideal.Facts] : Prop :=
  ∀ (m : (ℓ : Loc Cert.Merge1Ideal.nD Cert.Merge1Ideal.τ Cert.Merge1Ideal.sig) → Buf (Elt Ideal) ℓ) (g : Dev Cert.Merge1Ideal.nD → PrngReg), Pre_Merge1Ideal m →
    θ_run (Cert.Merge1Ideal.defs (F := Ideal)) (onTc (τ := Cert.Merge1Ideal.τ) (Cert.Merge1Ideal.main (F := Ideal))) ⟨m, fun _ => 0, g⟩ (fun r => (∀ c : Dev Cert.Merge1Ideal.nD,
      r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
      ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
      ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
      ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
      ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
      ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
      ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
      ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7))
      ∧ r.2.sem = fun _ => 0)

def quiescent_Merge1RefIdeal [hMerge1RefIdeal : Cert.Merge1RefIdeal.Facts] : Prop :=
  ∀ (m : (ℓ : Loc Cert.Merge1RefIdeal.nD Cert.Merge1RefIdeal.τ Cert.Merge1RefIdeal.sig) → Buf (Elt Ideal) ℓ) (g : Dev Cert.Merge1RefIdeal.nD → PrngReg), Pre_Merge1RefIdeal m →
    θ_run (Cert.Merge1RefIdeal.defs (F := Ideal)) (onTc (τ := Cert.Merge1RefIdeal.τ) (Cert.Merge1RefIdeal.main (F := Ideal))) ⟨m, fun _ => 0, g⟩ (fun r => (∀ c : Dev Cert.Merge1RefIdeal.nD,
      r.2.mem ((c.tc : Thread Cert.Merge1RefIdeal.nD Cert.Merge1RefIdeal.τ).loc Cert.Merge1RefIdeal.main_arg0) = m ((c.tc : Thread Cert.Merge1RefIdeal.nD Cert.Merge1RefIdeal.τ).loc Cert.Merge1RefIdeal.main_arg0)
      ∧ r.2.mem ((c.tc : Thread Cert.Merge1RefIdeal.nD Cert.Merge1RefIdeal.τ).loc Cert.Merge1RefIdeal.main_arg1) = m ((c.tc : Thread Cert.Merge1RefIdeal.nD Cert.Merge1RefIdeal.τ).loc Cert.Merge1RefIdeal.main_arg1)
      ∧ r.2.mem ((c.tc : Thread Cert.Merge1RefIdeal.nD Cert.Merge1RefIdeal.τ).loc Cert.Merge1RefIdeal.main_arg2) = m ((c.tc : Thread Cert.Merge1RefIdeal.nD Cert.Merge1RefIdeal.τ).loc Cert.Merge1RefIdeal.main_arg2)
      ∧ r.2.mem ((c.tc : Thread Cert.Merge1RefIdeal.nD Cert.Merge1RefIdeal.τ).loc Cert.Merge1RefIdeal.main_arg3) = m ((c.tc : Thread Cert.Merge1RefIdeal.nD Cert.Merge1RefIdeal.τ).loc Cert.Merge1RefIdeal.main_arg3)
      ∧ r.2.mem ((c.tc : Thread Cert.Merge1RefIdeal.nD Cert.Merge1RefIdeal.τ).loc Cert.Merge1RefIdeal.main_arg4) = m ((c.tc : Thread Cert.Merge1RefIdeal.nD Cert.Merge1RefIdeal.τ).loc Cert.Merge1RefIdeal.main_arg4)
      ∧ r.2.mem ((c.tc : Thread Cert.Merge1RefIdeal.nD Cert.Merge1RefIdeal.τ).loc Cert.Merge1RefIdeal.main_arg5) = m ((c.tc : Thread Cert.Merge1RefIdeal.nD Cert.Merge1RefIdeal.τ).loc Cert.Merge1RefIdeal.main_arg5)
      ∧ r.2.mem ((c.tc : Thread Cert.Merge1RefIdeal.nD Cert.Merge1RefIdeal.τ).loc Cert.Merge1RefIdeal.main_arg6) = m ((c.tc : Thread Cert.Merge1RefIdeal.nD Cert.Merge1RefIdeal.τ).loc Cert.Merge1RefIdeal.main_arg6)
      ∧ r.2.mem ((c.tc : Thread Cert.Merge1RefIdeal.nD Cert.Merge1RefIdeal.τ).loc Cert.Merge1RefIdeal.main_arg7) = m ((c.tc : Thread Cert.Merge1RefIdeal.nD Cert.Merge1RefIdeal.τ).loc Cert.Merge1RefIdeal.main_arg7))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1)
      ∧ r.2.mem ((c.tc : Thread Cert.Out1.nD Cert.Out1.τ).loc Cert.Out1.main_arg2) = m ((c.tc : Thread Cert.Out1.nD Cert.Out1.τ).loc Cert.Out1.main_arg2)
      ∧ r.2.mem ((c.tc : Thread Cert.Out1.nD Cert.Out1.τ).loc Cert.Out1.main_arg3) = m ((c.tc : Thread Cert.Out1.nD Cert.Out1.τ).loc Cert.Out1.main_arg3))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
      ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
      ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1)
      ∧ r.2.mem ((c.tc : Thread Cert.Out1RefIdeal.nD Cert.Out1RefIdeal.τ).loc Cert.Out1RefIdeal.main_arg2) = m ((c.tc : Thread Cert.Out1RefIdeal.nD Cert.Out1RefIdeal.τ).loc Cert.Out1RefIdeal.main_arg2)
      ∧ r.2.mem ((c.tc : Thread Cert.Out1RefIdeal.nD Cert.Out1RefIdeal.τ).loc Cert.Out1RefIdeal.main_arg3) = m ((c.tc : Thread Cert.Out1RefIdeal.nD Cert.Out1RefIdeal.τ).loc Cert.Out1RefIdeal.main_arg3))
      ∧ r.2.sem = fun _ => 0)

def quiescent_FinalCtx [hFinalCtx : Cert.FinalCtx.Facts] : Prop :=
  ∀ (m : (ℓ : Loc Cert.FinalCtx.nD Cert.FinalCtx.τ Cert.FinalCtx.sig) → Buf (Elt Bits) ℓ) (g : Dev Cert.FinalCtx.nD → PrngReg), Pre_FinalCtx m →
    θ_run (Cert.FinalCtx.defs (F := Bits)) (onTc (τ := Cert.FinalCtx.τ) (Cert.FinalCtx.main (F := Bits))) ⟨m, fun _ => 0, g⟩ (fun r => (∀ c : Dev Cert.FinalCtx.nD,
      r.2.mem ((c.tc : Thread Cert.FinalCtx.nD Cert.FinalCtx.τ).loc Cert.FinalCtx.main_arg0) = m ((c.tc : Thread Cert.FinalCtx.nD Cert.FinalCtx.τ).loc Cert.FinalCtx.main_arg0)
      ∧ r.2.mem ((c.tc : Thread Cert.FinalCtx.nD Cert.FinalCtx.τ).loc Cert.FinalCtx.main_arg1) = m ((c.tc : Thread Cert.FinalCtx.nD Cert.FinalCtx.τ).loc Cert.FinalCtx.main_arg1))
      ∧ r.2.sem = fun _ => 0)

def quiescent_FinalCtxIdeal [hFinalCtxIdeal : Cert.FinalCtxIdeal.Facts] : Prop :=
  ∀ (m : (ℓ : Loc Cert.FinalCtxIdeal.nD Cert.FinalCtxIdeal.τ Cert.FinalCtxIdeal.sig) → Buf (Elt Ideal) ℓ) (g : Dev Cert.FinalCtxIdeal.nD → PrngReg), Pre_FinalCtxIdeal m →
    θ_run (Cert.FinalCtxIdeal.defs (F := Ideal)) (onTc (τ := Cert.FinalCtxIdeal.τ) (Cert.FinalCtxIdeal.main (F := Ideal))) ⟨m, fun _ => 0, g⟩ (fun r => (∀ c : Dev Cert.FinalCtxIdeal.nD,
      r.2.mem ((c.tc : Thread Cert.FinalCtxIdeal.nD Cert.FinalCtxIdeal.τ).loc Cert.FinalCtxIdeal.main_arg0) = m ((c.tc : Thread Cert.FinalCtxIdeal.nD Cert.FinalCtxIdeal.τ).loc Cert.FinalCtxIdeal.main_arg0)
      ∧ r.2.mem ((c.tc : Thread Cert.FinalCtxIdeal.nD Cert.FinalCtxIdeal.τ).loc Cert.FinalCtxIdeal.main_arg1) = m ((c.tc : Thread Cert.FinalCtxIdeal.nD Cert.FinalCtxIdeal.τ).loc Cert.FinalCtxIdeal.main_arg1))
      ∧ r.2.sem = fun _ => 0)

def quiescent_FinalCtxRefIdeal [hFinalCtxRefIdeal : Cert.FinalCtxRefIdeal.Facts] : Prop :=
  ∀ (m : (ℓ : Loc Cert.FinalCtxRefIdeal.nD Cert.FinalCtxRefIdeal.τ Cert.FinalCtxRefIdeal.sig) → Buf (Elt Ideal) ℓ) (g : Dev Cert.FinalCtxRefIdeal.nD → PrngReg), Pre_FinalCtxRefIdeal m →
    θ_run (Cert.FinalCtxRefIdeal.defs (F := Ideal)) (onTc (τ := Cert.FinalCtxRefIdeal.τ) (Cert.FinalCtxRefIdeal.main (F := Ideal))) ⟨m, fun _ => 0, g⟩ (fun r => (∀ c : Dev Cert.FinalCtxRefIdeal.nD,
      r.2.mem ((c.tc : Thread Cert.FinalCtxRefIdeal.nD Cert.FinalCtxRefIdeal.τ).loc Cert.FinalCtxRefIdeal.main_arg0) = m ((c.tc : Thread Cert.FinalCtxRefIdeal.nD Cert.FinalCtxRefIdeal.τ).loc Cert.FinalCtxRefIdeal.main_arg0)
      ∧ r.2.mem ((c.tc : Thread Cert.FinalCtxRefIdeal.nD Cert.FinalCtxRefIdeal.τ).loc Cert.FinalCtxRefIdeal.main_arg1) = m ((c.tc : Thread Cert.FinalCtxRefIdeal.nD Cert.FinalCtxRefIdeal.τ).loc Cert.FinalCtxRefIdeal.main_arg1))
      ∧ r.2.sem = fun _ => 0)

def quiescent_FinalLat [hFinalLat : Cert.FinalLat.Facts] : Prop :=
  ∀ (m : (ℓ : Loc Cert.FinalLat.nD Cert.FinalLat.τ Cert.FinalLat.sig) → Buf (Elt Bits) ℓ) (g : Dev Cert.FinalLat.nD → PrngReg), Pre_FinalLat m →
    θ_run (Cert.FinalLat.defs (F := Bits)) (onTc (τ := Cert.FinalLat.τ) (Cert.FinalLat.main (F := Bits))) ⟨m, fun _ => 0, g⟩ (fun r => (∀ c : Dev Cert.FinalLat.nD,
      r.2.mem ((c.tc : Thread Cert.FinalLat.nD Cert.FinalLat.τ).loc Cert.FinalLat.main_arg0) = m ((c.tc : Thread Cert.FinalLat.nD Cert.FinalLat.τ).loc Cert.FinalLat.main_arg0)
      ∧ r.2.mem ((c.tc : Thread Cert.FinalLat.nD Cert.FinalLat.τ).loc Cert.FinalLat.main_arg1) = m ((c.tc : Thread Cert.FinalLat.nD Cert.FinalLat.τ).loc Cert.FinalLat.main_arg1))
      ∧ r.2.sem = fun _ => 0)

def quiescent_FinalLatIdeal [hFinalLatIdeal : Cert.FinalLatIdeal.Facts] : Prop :=
  ∀ (m : (ℓ : Loc Cert.FinalLatIdeal.nD Cert.FinalLatIdeal.τ Cert.FinalLatIdeal.sig) → Buf (Elt Ideal) ℓ) (g : Dev Cert.FinalLatIdeal.nD → PrngReg), Pre_FinalLatIdeal m →
    θ_run (Cert.FinalLatIdeal.defs (F := Ideal)) (onTc (τ := Cert.FinalLatIdeal.τ) (Cert.FinalLatIdeal.main (F := Ideal))) ⟨m, fun _ => 0, g⟩ (fun r => (∀ c : Dev Cert.FinalLatIdeal.nD,
      r.2.mem ((c.tc : Thread Cert.FinalLatIdeal.nD Cert.FinalLatIdeal.τ).loc Cert.FinalLatIdeal.main_arg0) = m ((c.tc : Thread Cert.FinalLatIdeal.nD Cert.FinalLatIdeal.τ).loc Cert.FinalLatIdeal.main_arg0)
      ∧ r.2.mem ((c.tc : Thread Cert.FinalLatIdeal.nD Cert.FinalLatIdeal.τ).loc Cert.FinalLatIdeal.main_arg1) = m ((c.tc : Thread Cert.FinalLatIdeal.nD Cert.FinalLatIdeal.τ).loc Cert.FinalLatIdeal.main_arg1))
      ∧ r.2.sem = fun _ => 0)

def quiescent_FinalLatRefIdeal [hFinalLatRefIdeal : Cert.FinalLatRefIdeal.Facts] : Prop :=
  ∀ (m : (ℓ : Loc Cert.FinalLatRefIdeal.nD Cert.FinalLatRefIdeal.τ Cert.FinalLatRefIdeal.sig) → Buf (Elt Ideal) ℓ) (g : Dev Cert.FinalLatRefIdeal.nD → PrngReg), Pre_FinalLatRefIdeal m →
    θ_run (Cert.FinalLatRefIdeal.defs (F := Ideal)) (onTc (τ := Cert.FinalLatRefIdeal.τ) (Cert.FinalLatRefIdeal.main (F := Ideal))) ⟨m, fun _ => 0, g⟩ (fun r => (∀ c : Dev Cert.FinalLatRefIdeal.nD,
      r.2.mem ((c.tc : Thread Cert.FinalLatRefIdeal.nD Cert.FinalLatRefIdeal.τ).loc Cert.FinalLatRefIdeal.main_arg0) = m ((c.tc : Thread Cert.FinalLatRefIdeal.nD Cert.FinalLatRefIdeal.τ).loc Cert.FinalLatRefIdeal.main_arg0)
      ∧ r.2.mem ((c.tc : Thread Cert.FinalLatRefIdeal.nD Cert.FinalLatRefIdeal.τ).loc Cert.FinalLatRefIdeal.main_arg1) = m ((c.tc : Thread Cert.FinalLatRefIdeal.nD Cert.FinalLatRefIdeal.τ).loc Cert.FinalLatRefIdeal.main_arg1))
      ∧ r.2.sem = fun _ => 0)

def quiescent_Mlstm0 [hMlstm0 : Cert.Mlstm0.Facts] : Prop :=
  ∀ (m : (ℓ : Loc Cert.Mlstm0.nD Cert.Mlstm0.τ Cert.Mlstm0.sig) → Buf (Elt Bits) ℓ) (g : Dev Cert.Mlstm0.nD → PrngReg), Pre_Mlstm0 m →
    θ_run (Cert.Mlstm0.defs (F := Bits)) (onTc (τ := Cert.Mlstm0.τ) (Cert.Mlstm0.main (F := Bits))) ⟨m, fun _ => 0, g⟩ (fun r => (∀ c : Dev Cert.Mlstm0.nD,
      r.2.mem ((c.tc : Thread Cert.Mlstm0.nD Cert.Mlstm0.τ).loc Cert.Mlstm0.main_arg0) = m ((c.tc : Thread Cert.Mlstm0.nD Cert.Mlstm0.τ).loc Cert.Mlstm0.main_arg0)
      ∧ r.2.mem ((c.tc : Thread Cert.Mlstm0.nD Cert.Mlstm0.τ).loc Cert.Mlstm0.main_arg1) = m ((c.tc : Thread Cert.Mlstm0.nD Cert.Mlstm0.τ).loc Cert.Mlstm0.main_arg1)
      ∧ r.2.mem ((c.tc : Thread Cert.Mlstm0.nD Cert.Mlstm0.τ).loc Cert.Mlstm0.main_arg2) = m ((c.tc : Thread Cert.Mlstm0.nD Cert.Mlstm0.τ).loc Cert.Mlstm0.main_arg2)
      ∧ r.2.mem ((c.tc : Thread Cert.Mlstm0.nD Cert.Mlstm0.τ).loc Cert.Mlstm0.main_arg3) = m ((c.tc : Thread Cert.Mlstm0.nD Cert.Mlstm0.τ).loc Cert.Mlstm0.main_arg3)
      ∧ r.2.mem ((c.tc : Thread Cert.Mlstm0.nD Cert.Mlstm0.τ).loc Cert.Mlstm0.main_arg4) = m ((c.tc : Thread Cert.Mlstm0.nD Cert.Mlstm0.τ).loc Cert.Mlstm0.main_arg4))
      ∧ r.2.sem = fun _ => 0)

def quiescent_Mlstm0Ideal [hMlstm0Ideal : Cert.Mlstm0Ideal.Facts] : Prop :=
  ∀ (m : (ℓ : Loc Cert.Mlstm0Ideal.nD Cert.Mlstm0Ideal.τ Cert.Mlstm0Ideal.sig) → Buf (Elt Ideal) ℓ) (g : Dev Cert.Mlstm0Ideal.nD → PrngReg), Pre_Mlstm0Ideal m →
    θ_run (Cert.Mlstm0Ideal.defs (F := Ideal)) (onTc (τ := Cert.Mlstm0Ideal.τ) (Cert.Mlstm0Ideal.main (F := Ideal))) ⟨m, fun _ => 0, g⟩ (fun r => (∀ c : Dev Cert.Mlstm0Ideal.nD,
      r.2.mem ((c.tc : Thread Cert.Mlstm0Ideal.nD Cert.Mlstm0Ideal.τ).loc Cert.Mlstm0Ideal.main_arg0) = m ((c.tc : Thread Cert.Mlstm0Ideal.nD Cert.Mlstm0Ideal.τ).loc Cert.Mlstm0Ideal.main_arg0)
      ∧ r.2.mem ((c.tc : Thread Cert.Mlstm0Ideal.nD Cert.Mlstm0Ideal.τ).loc Cert.Mlstm0Ideal.main_arg1) = m ((c.tc : Thread Cert.Mlstm0Ideal.nD Cert.Mlstm0Ideal.τ).loc Cert.Mlstm0Ideal.main_arg1)
      ∧ r.2.mem ((c.tc : Thread Cert.Mlstm0Ideal.nD Cert.Mlstm0Ideal.τ).loc Cert.Mlstm0Ideal.main_arg2) = m ((c.tc : Thread Cert.Mlstm0Ideal.nD Cert.Mlstm0Ideal.τ).loc Cert.Mlstm0Ideal.main_arg2)
      ∧ r.2.mem ((c.tc : Thread Cert.Mlstm0Ideal.nD Cert.Mlstm0Ideal.τ).loc Cert.Mlstm0Ideal.main_arg3) = m ((c.tc : Thread Cert.Mlstm0Ideal.nD Cert.Mlstm0Ideal.τ).loc Cert.Mlstm0Ideal.main_arg3)
      ∧ r.2.mem ((c.tc : Thread Cert.Mlstm0Ideal.nD Cert.Mlstm0Ideal.τ).loc Cert.Mlstm0Ideal.main_arg4) = m ((c.tc : Thread Cert.Mlstm0Ideal.nD Cert.Mlstm0Ideal.τ).loc Cert.Mlstm0Ideal.main_arg4))
      ∧ r.2.sem = fun _ => 0)

def quiescent_Mlstm0RefIdeal [hMlstm0RefIdeal : Cert.Mlstm0RefIdeal.Facts] : Prop :=
  ∀ (m : (ℓ : Loc Cert.Mlstm0RefIdeal.nD Cert.Mlstm0RefIdeal.τ Cert.Mlstm0RefIdeal.sig) → Buf (Elt Ideal) ℓ) (g : Dev Cert.Mlstm0RefIdeal.nD → PrngReg), Pre_Mlstm0RefIdeal m →
    θ_run (Cert.Mlstm0RefIdeal.defs (F := Ideal)) (onTc (τ := Cert.Mlstm0RefIdeal.τ) (Cert.Mlstm0RefIdeal.main (F := Ideal))) ⟨m, fun _ => 0, g⟩ (fun r => (∀ c : Dev Cert.Mlstm0RefIdeal.nD,
      r.2.mem ((c.tc : Thread Cert.Mlstm0RefIdeal.nD Cert.Mlstm0RefIdeal.τ).loc Cert.Mlstm0RefIdeal.main_arg0) = m ((c.tc : Thread Cert.Mlstm0RefIdeal.nD Cert.Mlstm0RefIdeal.τ).loc Cert.Mlstm0RefIdeal.main_arg0)
      ∧ r.2.mem ((c.tc : Thread Cert.Mlstm0RefIdeal.nD Cert.Mlstm0RefIdeal.τ).loc Cert.Mlstm0RefIdeal.main_arg1) = m ((c.tc : Thread Cert.Mlstm0RefIdeal.nD Cert.Mlstm0RefIdeal.τ).loc Cert.Mlstm0RefIdeal.main_arg1)
      ∧ r.2.mem ((c.tc : Thread Cert.Mlstm0RefIdeal.nD Cert.Mlstm0RefIdeal.τ).loc Cert.Mlstm0RefIdeal.main_arg2) = m ((c.tc : Thread Cert.Mlstm0RefIdeal.nD Cert.Mlstm0RefIdeal.τ).loc Cert.Mlstm0RefIdeal.main_arg2)
      ∧ r.2.mem ((c.tc : Thread Cert.Mlstm0RefIdeal.nD Cert.Mlstm0RefIdeal.τ).loc Cert.Mlstm0RefIdeal.main_arg3) = m ((c.tc : Thread Cert.Mlstm0RefIdeal.nD Cert.Mlstm0RefIdeal.τ).loc Cert.Mlstm0RefIdeal.main_arg3)
      ∧ r.2.mem ((c.tc : Thread Cert.Mlstm0RefIdeal.nD Cert.Mlstm0RefIdeal.τ).loc Cert.Mlstm0RefIdeal.main_arg4) = m ((c.tc : Thread Cert.Mlstm0RefIdeal.nD Cert.Mlstm0RefIdeal.τ).loc Cert.Mlstm0RefIdeal.main_arg4))
      ∧ r.2.sem = fun _ => 0)

def quiescent_Mlstm1 [hMlstm1 : Cert.Mlstm1.Facts] : Prop :=
  ∀ (m : (ℓ : Loc Cert.Mlstm1.nD Cert.Mlstm1.τ Cert.Mlstm1.sig) → Buf (Elt Bits) ℓ) (g : Dev Cert.Mlstm1.nD → PrngReg), Pre_Mlstm1 m →
    θ_run (Cert.Mlstm1.defs (F := Bits)) (onTc (τ := Cert.Mlstm1.τ) (Cert.Mlstm1.main (F := Bits))) ⟨m, fun _ => 0, g⟩ (fun r => (∀ c : Dev Cert.Mlstm1.nD,
      r.2.mem ((c.tc : Thread Cert.Mlstm1.nD Cert.Mlstm1.τ).loc Cert.Mlstm1.main_arg0) = m ((c.tc : Thread Cert.Mlstm1.nD Cert.Mlstm1.τ).loc Cert.Mlstm1.main_arg0)
      ∧ r.2.mem ((c.tc : Thread Cert.Mlstm1.nD Cert.Mlstm1.τ).loc Cert.Mlstm1.main_arg1) = m ((c.tc : Thread Cert.Mlstm1.nD Cert.Mlstm1.τ).loc Cert.Mlstm1.main_arg1)
      ∧ r.2.mem ((c.tc : Thread Cert.Mlstm1.nD Cert.Mlstm1.τ).loc Cert.Mlstm1.main_arg2) = m ((c.tc : Thread Cert.Mlstm1.nD Cert.Mlstm1.τ).loc Cert.Mlstm1.main_arg2)
      ∧ r.2.mem ((c.tc : Thread Cert.Mlstm1.nD Cert.Mlstm1.τ).loc Cert.Mlstm1.main_arg3) = m ((c.tc : Thread Cert.Mlstm1.nD Cert.Mlstm1.τ).loc Cert.Mlstm1.main_arg3)
      ∧ r.2.mem ((c.tc : Thread Cert.Mlstm1.nD Cert.Mlstm1.τ).loc Cert.Mlstm1.main_arg4) = m ((c.tc : Thread Cert.Mlstm1.nD Cert.Mlstm1.τ).loc Cert.Mlstm1.main_arg4))
      ∧ r.2.sem = fun _ => 0)

def quiescent_Mlstm1Ideal [hMlstm1Ideal : Cert.Mlstm1Ideal.Facts] : Prop :=
  ∀ (m : (ℓ : Loc Cert.Mlstm1Ideal.nD Cert.Mlstm1Ideal.τ Cert.Mlstm1Ideal.sig) → Buf (Elt Ideal) ℓ) (g : Dev Cert.Mlstm1Ideal.nD → PrngReg), Pre_Mlstm1Ideal m →
    θ_run (Cert.Mlstm1Ideal.defs (F := Ideal)) (onTc (τ := Cert.Mlstm1Ideal.τ) (Cert.Mlstm1Ideal.main (F := Ideal))) ⟨m, fun _ => 0, g⟩ (fun r => (∀ c : Dev Cert.Mlstm1Ideal.nD,
      r.2.mem ((c.tc : Thread Cert.Mlstm1Ideal.nD Cert.Mlstm1Ideal.τ).loc Cert.Mlstm1Ideal.main_arg0) = m ((c.tc : Thread Cert.Mlstm1Ideal.nD Cert.Mlstm1Ideal.τ).loc Cert.Mlstm1Ideal.main_arg0)
      ∧ r.2.mem ((c.tc : Thread Cert.Mlstm1Ideal.nD Cert.Mlstm1Ideal.τ).loc Cert.Mlstm1Ideal.main_arg1) = m ((c.tc : Thread Cert.Mlstm1Ideal.nD Cert.Mlstm1Ideal.τ).loc Cert.Mlstm1Ideal.main_arg1)
      ∧ r.2.mem ((c.tc : Thread Cert.Mlstm1Ideal.nD Cert.Mlstm1Ideal.τ).loc Cert.Mlstm1Ideal.main_arg2) = m ((c.tc : Thread Cert.Mlstm1Ideal.nD Cert.Mlstm1Ideal.τ).loc Cert.Mlstm1Ideal.main_arg2)
      ∧ r.2.mem ((c.tc : Thread Cert.Mlstm1Ideal.nD Cert.Mlstm1Ideal.τ).loc Cert.Mlstm1Ideal.main_arg3) = m ((c.tc : Thread Cert.Mlstm1Ideal.nD Cert.Mlstm1Ideal.τ).loc Cert.Mlstm1Ideal.main_arg3)
      ∧ r.2.mem ((c.tc : Thread Cert.Mlstm1Ideal.nD Cert.Mlstm1Ideal.τ).loc Cert.Mlstm1Ideal.main_arg4) = m ((c.tc : Thread Cert.Mlstm1Ideal.nD Cert.Mlstm1Ideal.τ).loc Cert.Mlstm1Ideal.main_arg4))
      ∧ r.2.sem = fun _ => 0)

def quiescent_Mlstm1RefIdeal [hMlstm1RefIdeal : Cert.Mlstm1RefIdeal.Facts] : Prop :=
  ∀ (m : (ℓ : Loc Cert.Mlstm1RefIdeal.nD Cert.Mlstm1RefIdeal.τ Cert.Mlstm1RefIdeal.sig) → Buf (Elt Ideal) ℓ) (g : Dev Cert.Mlstm1RefIdeal.nD → PrngReg), Pre_Mlstm1RefIdeal m →
    θ_run (Cert.Mlstm1RefIdeal.defs (F := Ideal)) (onTc (τ := Cert.Mlstm1RefIdeal.τ) (Cert.Mlstm1RefIdeal.main (F := Ideal))) ⟨m, fun _ => 0, g⟩ (fun r => (∀ c : Dev Cert.Mlstm1RefIdeal.nD,
      r.2.mem ((c.tc : Thread Cert.Mlstm1RefIdeal.nD Cert.Mlstm1RefIdeal.τ).loc Cert.Mlstm1RefIdeal.main_arg0) = m ((c.tc : Thread Cert.Mlstm1RefIdeal.nD Cert.Mlstm1RefIdeal.τ).loc Cert.Mlstm1RefIdeal.main_arg0)
      ∧ r.2.mem ((c.tc : Thread Cert.Mlstm1RefIdeal.nD Cert.Mlstm1RefIdeal.τ).loc Cert.Mlstm1RefIdeal.main_arg1) = m ((c.tc : Thread Cert.Mlstm1RefIdeal.nD Cert.Mlstm1RefIdeal.τ).loc Cert.Mlstm1RefIdeal.main_arg1)
      ∧ r.2.mem ((c.tc : Thread Cert.Mlstm1RefIdeal.nD Cert.Mlstm1RefIdeal.τ).loc Cert.Mlstm1RefIdeal.main_arg2) = m ((c.tc : Thread Cert.Mlstm1RefIdeal.nD Cert.Mlstm1RefIdeal.τ).loc Cert.Mlstm1RefIdeal.main_arg2)
      ∧ r.2.mem ((c.tc : Thread Cert.Mlstm1RefIdeal.nD Cert.Mlstm1RefIdeal.τ).loc Cert.Mlstm1RefIdeal.main_arg3) = m ((c.tc : Thread Cert.Mlstm1RefIdeal.nD Cert.Mlstm1RefIdeal.τ).loc Cert.Mlstm1RefIdeal.main_arg3)
      ∧ r.2.mem ((c.tc : Thread Cert.Mlstm1RefIdeal.nD Cert.Mlstm1RefIdeal.τ).loc Cert.Mlstm1RefIdeal.main_arg4) = m ((c.tc : Thread Cert.Mlstm1RefIdeal.nD Cert.Mlstm1RefIdeal.τ).loc Cert.Mlstm1RefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Down_DownIdeal : Prop :=
  True

def algebraic_DownIdeal_DownRefIdeal [hDownIdeal : Cert.DownIdeal.Facts] [hDownRefIdeal : Cert.DownRefIdeal.Facts] [hPre_down_tables : Cert.Pre_down_tables.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v13)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v13) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v30) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Up_UpIdeal : Prop :=
  True

def algebraic_UpIdeal_UpRefIdeal [hUpIdeal : Cert.UpIdeal.Facts] [hUpRefIdeal : Cert.UpRefIdeal.Facts] [hPre_up_tables : Cert.Pre_up_tables.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v14)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v14) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v68) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6))

def preserves_InMl0_InMl0Ideal : Prop :=
  True

def algebraic_InMl0Ideal_InMl0RefIdeal [hInMl0Ideal : Cert.InMl0Ideal.Facts] [hInMl0RefIdeal : Cert.InMl0RefIdeal.Facts] : Prop :=
  ∀ (m : (ℓ : Loc Cert.InMl0Ideal.nD Cert.InMl0Ideal.τ Cert.InMl0Ideal.sig) → Buf (Elt Ideal) ℓ) (g : Dev Cert.InMl0Ideal.nD → PrngReg)
    (m' : (ℓ : Loc Cert.InMl0RefIdeal.nD Cert.InMl0RefIdeal.τ Cert.InMl0RefIdeal.sig) → Buf (Elt Ideal) ℓ) (g' : Dev Cert.InMl0RefIdeal.nD → PrngReg), Pre_InMl0Ideal m →
    (∀ c : Dev Cert.InMl0Ideal.nD,
      m' ((c.tc : Thread Cert.InMl0RefIdeal.nD Cert.InMl0RefIdeal.τ).loc Cert.InMl0RefIdeal.main_arg0) = m ((c.tc : Thread Cert.InMl0Ideal.nD Cert.InMl0Ideal.τ).loc Cert.InMl0Ideal.main_arg0)
      ∧ m' ((c.tc : Thread Cert.InMl0RefIdeal.nD Cert.InMl0RefIdeal.τ).loc Cert.InMl0RefIdeal.main_arg1) = m ((c.tc : Thread Cert.InMl0Ideal.nD Cert.InMl0Ideal.τ).loc Cert.InMl0Ideal.main_arg1)) →
    ∃ (v0 : (c : Dev Cert.InMl0Ideal.nD) → Buf (Elt Ideal) ((c.tc : Thread Cert.InMl0Ideal.nD Cert.InMl0Ideal.τ).loc Cert.InMl0Ideal.main_v1)),
      θ_run (Cert.InMl0Ideal.defs (F := Ideal)) (onTc (τ := Cert.InMl0Ideal.τ) (Cert.InMl0Ideal.main (F := Ideal))) ⟨m, fun _ => 0, g⟩ (fun r => ∀ c : Dev Cert.InMl0Ideal.nD,
          r.2.mem ((c.tc : Thread Cert.InMl0Ideal.nD Cert.InMl0Ideal.τ).loc Cert.InMl0Ideal.main_v1) = v0 c
          ∧ r.2.mem ((c.tc : Thread Cert.InMl0Ideal.nD Cert.InMl0Ideal.τ).loc Cert.InMl0Ideal.main_arg0) = m ((c.tc : Thread Cert.InMl0Ideal.nD Cert.InMl0Ideal.τ).loc Cert.InMl0Ideal.main_arg0)
          ∧ r.2.mem ((c.tc : Thread Cert.InMl0Ideal.nD Cert.InMl0Ideal.τ).loc Cert.InMl0Ideal.main_arg1) = m ((c.tc : Thread Cert.InMl0Ideal.nD Cert.InMl0Ideal.τ).loc Cert.InMl0Ideal.main_arg1))
      ∧ θ_run (Cert.InMl0RefIdeal.defs (F := Ideal)) (onTc (τ := Cert.InMl0RefIdeal.τ) (Cert.InMl0RefIdeal.main (F := Ideal))) ⟨m', fun _ => 0, g'⟩ (fun r => ∀ c : Dev Cert.InMl0RefIdeal.nD,
          r.2.mem ((c.tc : Thread Cert.InMl0RefIdeal.nD Cert.InMl0RefIdeal.τ).loc Cert.InMl0RefIdeal.main_v4) = v0 c
          ∧ r.2.mem ((c.tc : Thread Cert.InMl0RefIdeal.nD Cert.InMl0RefIdeal.τ).loc Cert.InMl0RefIdeal.main_arg0) = m' ((c.tc : Thread Cert.InMl0RefIdeal.nD Cert.InMl0RefIdeal.τ).loc Cert.InMl0RefIdeal.main_arg0)
          ∧ r.2.mem ((c.tc : Thread Cert.InMl0RefIdeal.nD Cert.InMl0RefIdeal.τ).loc Cert.InMl0RefIdeal.main_arg1) = m' ((c.tc : Thread Cert.InMl0RefIdeal.nD Cert.InMl0RefIdeal.τ).loc Cert.InMl0RefIdeal.main_arg1))

def preserves_InMl1_InMl1Ideal : Prop :=
  True

def algebraic_InMl1Ideal_InMl1RefIdeal [hInMl1Ideal : Cert.InMl1Ideal.Facts] [hInMl1RefIdeal : Cert.InMl1RefIdeal.Facts] : Prop :=
  ∀ (m : (ℓ : Loc Cert.InMl1Ideal.nD Cert.InMl1Ideal.τ Cert.InMl1Ideal.sig) → Buf (Elt Ideal) ℓ) (g : Dev Cert.InMl1Ideal.nD → PrngReg)
    (m' : (ℓ : Loc Cert.InMl1RefIdeal.nD Cert.InMl1RefIdeal.τ Cert.InMl1RefIdeal.sig) → Buf (Elt Ideal) ℓ) (g' : Dev Cert.InMl1RefIdeal.nD → PrngReg), Pre_InMl1Ideal m →
    (∀ c : Dev Cert.InMl1Ideal.nD,
      m' ((c.tc : Thread Cert.InMl1RefIdeal.nD Cert.InMl1RefIdeal.τ).loc Cert.InMl1RefIdeal.main_arg0) = m ((c.tc : Thread Cert.InMl1Ideal.nD Cert.InMl1Ideal.τ).loc Cert.InMl1Ideal.main_arg0)
      ∧ m' ((c.tc : Thread Cert.InMl1RefIdeal.nD Cert.InMl1RefIdeal.τ).loc Cert.InMl1RefIdeal.main_arg1) = m ((c.tc : Thread Cert.InMl1Ideal.nD Cert.InMl1Ideal.τ).loc Cert.InMl1Ideal.main_arg1)) →
    ∃ (v0 : (c : Dev Cert.InMl1Ideal.nD) → Buf (Elt Ideal) ((c.tc : Thread Cert.InMl1Ideal.nD Cert.InMl1Ideal.τ).loc Cert.InMl1Ideal.main_v1)),
      θ_run (Cert.InMl1Ideal.defs (F := Ideal)) (onTc (τ := Cert.InMl1Ideal.τ) (Cert.InMl1Ideal.main (F := Ideal))) ⟨m, fun _ => 0, g⟩ (fun r => ∀ c : Dev Cert.InMl1Ideal.nD,
          r.2.mem ((c.tc : Thread Cert.InMl1Ideal.nD Cert.InMl1Ideal.τ).loc Cert.InMl1Ideal.main_v1) = v0 c
          ∧ r.2.mem ((c.tc : Thread Cert.InMl1Ideal.nD Cert.InMl1Ideal.τ).loc Cert.InMl1Ideal.main_arg0) = m ((c.tc : Thread Cert.InMl1Ideal.nD Cert.InMl1Ideal.τ).loc Cert.InMl1Ideal.main_arg0)
          ∧ r.2.mem ((c.tc : Thread Cert.InMl1Ideal.nD Cert.InMl1Ideal.τ).loc Cert.InMl1Ideal.main_arg1) = m ((c.tc : Thread Cert.InMl1Ideal.nD Cert.InMl1Ideal.τ).loc Cert.InMl1Ideal.main_arg1))
      ∧ θ_run (Cert.InMl1RefIdeal.defs (F := Ideal)) (onTc (τ := Cert.InMl1RefIdeal.τ) (Cert.InMl1RefIdeal.main (F := Ideal))) ⟨m', fun _ => 0, g'⟩ (fun r => ∀ c : Dev Cert.InMl1RefIdeal.nD,
          r.2.mem ((c.tc : Thread Cert.InMl1RefIdeal.nD Cert.InMl1RefIdeal.τ).loc Cert.InMl1RefIdeal.main_v4) = v0 c
          ∧ r.2.mem ((c.tc : Thread Cert.InMl1RefIdeal.nD Cert.InMl1RefIdeal.τ).loc Cert.InMl1RefIdeal.main_arg0) = m' ((c.tc : Thread Cert.InMl1RefIdeal.nD Cert.InMl1RefIdeal.τ).loc Cert.InMl1RefIdeal.main_arg0)
          ∧ r.2.mem ((c.tc : Thread Cert.InMl1RefIdeal.nD Cert.InMl1RefIdeal.τ).loc Cert.InMl1RefIdeal.main_arg1) = m' ((c.tc : Thread Cert.InMl1RefIdeal.nD Cert.InMl1RefIdeal.τ).loc Cert.InMl1RefIdeal.main_arg1))

def preserves_InGate0_InGate0Ideal : Prop :=
  True

def algebraic_InGate0Ideal_InGate0RefIdeal [hInGate0Ideal : Cert.InGate0Ideal.Facts] [hInGate0RefIdeal : Cert.InGate0RefIdeal.Facts] : Prop :=
  ∀ (m : (ℓ : Loc Cert.InGate0Ideal.nD Cert.InGate0Ideal.τ Cert.InGate0Ideal.sig) → Buf (Elt Ideal) ℓ) (g : Dev Cert.InGate0Ideal.nD → PrngReg)
    (m' : (ℓ : Loc Cert.InGate0RefIdeal.nD Cert.InGate0RefIdeal.τ Cert.InGate0RefIdeal.sig) → Buf (Elt Ideal) ℓ) (g' : Dev Cert.InGate0RefIdeal.nD → PrngReg), Pre_InGate0Ideal m →
    (∀ c : Dev Cert.InGate0Ideal.nD,
      m' ((c.tc : Thread Cert.InGate0RefIdeal.nD Cert.InGate0RefIdeal.τ).loc Cert.InGate0RefIdeal.main_arg0) = m ((c.tc : Thread Cert.InGate0Ideal.nD Cert.InGate0Ideal.τ).loc Cert.InGate0Ideal.main_arg0)
      ∧ m' ((c.tc : Thread Cert.InGate0RefIdeal.nD Cert.InGate0RefIdeal.τ).loc Cert.InGate0RefIdeal.main_arg1) = m ((c.tc : Thread Cert.InGate0Ideal.nD Cert.InGate0Ideal.τ).loc Cert.InGate0Ideal.main_arg1)) →
    ∃ (v0 : (c : Dev Cert.InGate0Ideal.nD) → Buf (Elt Ideal) ((c.tc : Thread Cert.InGate0Ideal.nD Cert.InGate0Ideal.τ).loc Cert.InGate0Ideal.main_v1)),
      θ_run (Cert.InGate0Ideal.defs (F := Ideal)) (onTc (τ := Cert.InGate0Ideal.τ) (Cert.InGate0Ideal.main (F := Ideal))) ⟨m, fun _ => 0, g⟩ (fun r => ∀ c : Dev Cert.InGate0Ideal.nD,
          r.2.mem ((c.tc : Thread Cert.InGate0Ideal.nD Cert.InGate0Ideal.τ).loc Cert.InGate0Ideal.main_v1) = v0 c
          ∧ r.2.mem ((c.tc : Thread Cert.InGate0Ideal.nD Cert.InGate0Ideal.τ).loc Cert.InGate0Ideal.main_arg0) = m ((c.tc : Thread Cert.InGate0Ideal.nD Cert.InGate0Ideal.τ).loc Cert.InGate0Ideal.main_arg0)
          ∧ r.2.mem ((c.tc : Thread Cert.InGate0Ideal.nD Cert.InGate0Ideal.τ).loc Cert.InGate0Ideal.main_arg1) = m ((c.tc : Thread Cert.InGate0Ideal.nD Cert.InGate0Ideal.τ).loc Cert.InGate0Ideal.main_arg1))
      ∧ θ_run (Cert.InGate0RefIdeal.defs (F := Ideal)) (onTc (τ := Cert.InGate0RefIdeal.τ) (Cert.InGate0RefIdeal.main (F := Ideal))) ⟨m', fun _ => 0, g'⟩ (fun r => ∀ c : Dev Cert.InGate0RefIdeal.nD,
          r.2.mem ((c.tc : Thread Cert.InGate0RefIdeal.nD Cert.InGate0RefIdeal.τ).loc Cert.InGate0RefIdeal.main_v4) = v0 c
          ∧ r.2.mem ((c.tc : Thread Cert.InGate0RefIdeal.nD Cert.InGate0RefIdeal.τ).loc Cert.InGate0RefIdeal.main_arg0) = m' ((c.tc : Thread Cert.InGate0RefIdeal.nD Cert.InGate0RefIdeal.τ).loc Cert.InGate0RefIdeal.main_arg0)
          ∧ r.2.mem ((c.tc : Thread Cert.InGate0RefIdeal.nD Cert.InGate0RefIdeal.τ).loc Cert.InGate0RefIdeal.main_arg1) = m' ((c.tc : Thread Cert.InGate0RefIdeal.nD Cert.InGate0RefIdeal.τ).loc Cert.InGate0RefIdeal.main_arg1))

def preserves_InGate1_InGate1Ideal : Prop :=
  True

def algebraic_InGate1Ideal_InGate1RefIdeal [hInGate1Ideal : Cert.InGate1Ideal.Facts] [hInGate1RefIdeal : Cert.InGate1RefIdeal.Facts] : Prop :=
  ∀ (m : (ℓ : Loc Cert.InGate1Ideal.nD Cert.InGate1Ideal.τ Cert.InGate1Ideal.sig) → Buf (Elt Ideal) ℓ) (g : Dev Cert.InGate1Ideal.nD → PrngReg)
    (m' : (ℓ : Loc Cert.InGate1RefIdeal.nD Cert.InGate1RefIdeal.τ Cert.InGate1RefIdeal.sig) → Buf (Elt Ideal) ℓ) (g' : Dev Cert.InGate1RefIdeal.nD → PrngReg), Pre_InGate1Ideal m →
    (∀ c : Dev Cert.InGate1Ideal.nD,
      m' ((c.tc : Thread Cert.InGate1RefIdeal.nD Cert.InGate1RefIdeal.τ).loc Cert.InGate1RefIdeal.main_arg0) = m ((c.tc : Thread Cert.InGate1Ideal.nD Cert.InGate1Ideal.τ).loc Cert.InGate1Ideal.main_arg0)
      ∧ m' ((c.tc : Thread Cert.InGate1RefIdeal.nD Cert.InGate1RefIdeal.τ).loc Cert.InGate1RefIdeal.main_arg1) = m ((c.tc : Thread Cert.InGate1Ideal.nD Cert.InGate1Ideal.τ).loc Cert.InGate1Ideal.main_arg1)) →
    ∃ (v0 : (c : Dev Cert.InGate1Ideal.nD) → Buf (Elt Ideal) ((c.tc : Thread Cert.InGate1Ideal.nD Cert.InGate1Ideal.τ).loc Cert.InGate1Ideal.main_v1)),
      θ_run (Cert.InGate1Ideal.defs (F := Ideal)) (onTc (τ := Cert.InGate1Ideal.τ) (Cert.InGate1Ideal.main (F := Ideal))) ⟨m, fun _ => 0, g⟩ (fun r => ∀ c : Dev Cert.InGate1Ideal.nD,
          r.2.mem ((c.tc : Thread Cert.InGate1Ideal.nD Cert.InGate1Ideal.τ).loc Cert.InGate1Ideal.main_v1) = v0 c
          ∧ r.2.mem ((c.tc : Thread Cert.InGate1Ideal.nD Cert.InGate1Ideal.τ).loc Cert.InGate1Ideal.main_arg0) = m ((c.tc : Thread Cert.InGate1Ideal.nD Cert.InGate1Ideal.τ).loc Cert.InGate1Ideal.main_arg0)
          ∧ r.2.mem ((c.tc : Thread Cert.InGate1Ideal.nD Cert.InGate1Ideal.τ).loc Cert.InGate1Ideal.main_arg1) = m ((c.tc : Thread Cert.InGate1Ideal.nD Cert.InGate1Ideal.τ).loc Cert.InGate1Ideal.main_arg1))
      ∧ θ_run (Cert.InGate1RefIdeal.defs (F := Ideal)) (onTc (τ := Cert.InGate1RefIdeal.τ) (Cert.InGate1RefIdeal.main (F := Ideal))) ⟨m', fun _ => 0, g'⟩ (fun r => ∀ c : Dev Cert.InGate1RefIdeal.nD,
          r.2.mem ((c.tc : Thread Cert.InGate1RefIdeal.nD Cert.InGate1RefIdeal.τ).loc Cert.InGate1RefIdeal.main_v4) = v0 c
          ∧ r.2.mem ((c.tc : Thread Cert.InGate1RefIdeal.nD Cert.InGate1RefIdeal.τ).loc Cert.InGate1RefIdeal.main_arg0) = m' ((c.tc : Thread Cert.InGate1RefIdeal.nD Cert.InGate1RefIdeal.τ).loc Cert.InGate1RefIdeal.main_arg0)
          ∧ r.2.mem ((c.tc : Thread Cert.InGate1RefIdeal.nD Cert.InGate1RefIdeal.τ).loc Cert.InGate1RefIdeal.main_arg1) = m' ((c.tc : Thread Cert.InGate1RefIdeal.nD Cert.InGate1RefIdeal.τ).loc Cert.InGate1RefIdeal.main_arg1))

def preserves_InMix0_InMix0Ideal : Prop :=
  True

def algebraic_InMix0Ideal_InMix0RefIdeal [hInMix0Ideal : Cert.InMix0Ideal.Facts] [hInMix0RefIdeal : Cert.InMix0RefIdeal.Facts] : Prop :=
  ∀ (m : (ℓ : Loc Cert.InMix0Ideal.nD Cert.InMix0Ideal.τ Cert.InMix0Ideal.sig) → Buf (Elt Ideal) ℓ) (g : Dev Cert.InMix0Ideal.nD → PrngReg)
    (m' : (ℓ : Loc Cert.InMix0RefIdeal.nD Cert.InMix0RefIdeal.τ Cert.InMix0RefIdeal.sig) → Buf (Elt Ideal) ℓ) (g' : Dev Cert.InMix0RefIdeal.nD → PrngReg), Pre_InMix0Ideal m →
    (∀ c : Dev Cert.InMix0Ideal.nD,
      m' ((c.tc : Thread Cert.InMix0RefIdeal.nD Cert.InMix0RefIdeal.τ).loc Cert.InMix0RefIdeal.main_arg0) = m ((c.tc : Thread Cert.InMix0Ideal.nD Cert.InMix0Ideal.τ).loc Cert.InMix0Ideal.main_arg0)
      ∧ m' ((c.tc : Thread Cert.InMix0RefIdeal.nD Cert.InMix0RefIdeal.τ).loc Cert.InMix0RefIdeal.main_arg1) = m ((c.tc : Thread Cert.InMix0Ideal.nD Cert.InMix0Ideal.τ).loc Cert.InMix0Ideal.main_arg1)) →
    ∃ (v0 : (c : Dev Cert.InMix0Ideal.nD) → Buf (Elt Ideal) ((c.tc : Thread Cert.InMix0Ideal.nD Cert.InMix0Ideal.τ).loc Cert.InMix0Ideal.main_v1)),
      θ_run (Cert.InMix0Ideal.defs (F := Ideal)) (onTc (τ := Cert.InMix0Ideal.τ) (Cert.InMix0Ideal.main (F := Ideal))) ⟨m, fun _ => 0, g⟩ (fun r => ∀ c : Dev Cert.InMix0Ideal.nD,
          r.2.mem ((c.tc : Thread Cert.InMix0Ideal.nD Cert.InMix0Ideal.τ).loc Cert.InMix0Ideal.main_v1) = v0 c
          ∧ r.2.mem ((c.tc : Thread Cert.InMix0Ideal.nD Cert.InMix0Ideal.τ).loc Cert.InMix0Ideal.main_arg0) = m ((c.tc : Thread Cert.InMix0Ideal.nD Cert.InMix0Ideal.τ).loc Cert.InMix0Ideal.main_arg0)
          ∧ r.2.mem ((c.tc : Thread Cert.InMix0Ideal.nD Cert.InMix0Ideal.τ).loc Cert.InMix0Ideal.main_arg1) = m ((c.tc : Thread Cert.InMix0Ideal.nD Cert.InMix0Ideal.τ).loc Cert.InMix0Ideal.main_arg1))
      ∧ θ_run (Cert.InMix0RefIdeal.defs (F := Ideal)) (onTc (τ := Cert.InMix0RefIdeal.τ) (Cert.InMix0RefIdeal.main (F := Ideal))) ⟨m', fun _ => 0, g'⟩ (fun r => ∀ c : Dev Cert.InMix0RefIdeal.nD,
          r.2.mem ((c.tc : Thread Cert.InMix0RefIdeal.nD Cert.InMix0RefIdeal.τ).loc Cert.InMix0RefIdeal.main_v4) = v0 c
          ∧ r.2.mem ((c.tc : Thread Cert.InMix0RefIdeal.nD Cert.InMix0RefIdeal.τ).loc Cert.InMix0RefIdeal.main_arg0) = m' ((c.tc : Thread Cert.InMix0RefIdeal.nD Cert.InMix0RefIdeal.τ).loc Cert.InMix0RefIdeal.main_arg0)
          ∧ r.2.mem ((c.tc : Thread Cert.InMix0RefIdeal.nD Cert.InMix0RefIdeal.τ).loc Cert.InMix0RefIdeal.main_arg1) = m' ((c.tc : Thread Cert.InMix0RefIdeal.nD Cert.InMix0RefIdeal.τ).loc Cert.InMix0RefIdeal.main_arg1))

def preserves_InMix1_InMix1Ideal : Prop :=
  True

def algebraic_InMix1Ideal_InMix1RefIdeal [hInMix1Ideal : Cert.InMix1Ideal.Facts] [hInMix1RefIdeal : Cert.InMix1RefIdeal.Facts] : Prop :=
  ∀ (m : (ℓ : Loc Cert.InMix1Ideal.nD Cert.InMix1Ideal.τ Cert.InMix1Ideal.sig) → Buf (Elt Ideal) ℓ) (g : Dev Cert.InMix1Ideal.nD → PrngReg)
    (m' : (ℓ : Loc Cert.InMix1RefIdeal.nD Cert.InMix1RefIdeal.τ Cert.InMix1RefIdeal.sig) → Buf (Elt Ideal) ℓ) (g' : Dev Cert.InMix1RefIdeal.nD → PrngReg), Pre_InMix1Ideal m →
    (∀ c : Dev Cert.InMix1Ideal.nD,
      m' ((c.tc : Thread Cert.InMix1RefIdeal.nD Cert.InMix1RefIdeal.τ).loc Cert.InMix1RefIdeal.main_arg0) = m ((c.tc : Thread Cert.InMix1Ideal.nD Cert.InMix1Ideal.τ).loc Cert.InMix1Ideal.main_arg0)
      ∧ m' ((c.tc : Thread Cert.InMix1RefIdeal.nD Cert.InMix1RefIdeal.τ).loc Cert.InMix1RefIdeal.main_arg1) = m ((c.tc : Thread Cert.InMix1Ideal.nD Cert.InMix1Ideal.τ).loc Cert.InMix1Ideal.main_arg1)) →
    ∃ (v0 : (c : Dev Cert.InMix1Ideal.nD) → Buf (Elt Ideal) ((c.tc : Thread Cert.InMix1Ideal.nD Cert.InMix1Ideal.τ).loc Cert.InMix1Ideal.main_v1)),
      θ_run (Cert.InMix1Ideal.defs (F := Ideal)) (onTc (τ := Cert.InMix1Ideal.τ) (Cert.InMix1Ideal.main (F := Ideal))) ⟨m, fun _ => 0, g⟩ (fun r => ∀ c : Dev Cert.InMix1Ideal.nD,
          r.2.mem ((c.tc : Thread Cert.InMix1Ideal.nD Cert.InMix1Ideal.τ).loc Cert.InMix1Ideal.main_v1) = v0 c
          ∧ r.2.mem ((c.tc : Thread Cert.InMix1Ideal.nD Cert.InMix1Ideal.τ).loc Cert.InMix1Ideal.main_arg0) = m ((c.tc : Thread Cert.InMix1Ideal.nD Cert.InMix1Ideal.τ).loc Cert.InMix1Ideal.main_arg0)
          ∧ r.2.mem ((c.tc : Thread Cert.InMix1Ideal.nD Cert.InMix1Ideal.τ).loc Cert.InMix1Ideal.main_arg1) = m ((c.tc : Thread Cert.InMix1Ideal.nD Cert.InMix1Ideal.τ).loc Cert.InMix1Ideal.main_arg1))
      ∧ θ_run (Cert.InMix1RefIdeal.defs (F := Ideal)) (onTc (τ := Cert.InMix1RefIdeal.τ) (Cert.InMix1RefIdeal.main (F := Ideal))) ⟨m', fun _ => 0, g'⟩ (fun r => ∀ c : Dev Cert.InMix1RefIdeal.nD,
          r.2.mem ((c.tc : Thread Cert.InMix1RefIdeal.nD Cert.InMix1RefIdeal.τ).loc Cert.InMix1RefIdeal.main_v4) = v0 c
          ∧ r.2.mem ((c.tc : Thread Cert.InMix1RefIdeal.nD Cert.InMix1RefIdeal.τ).loc Cert.InMix1RefIdeal.main_arg0) = m' ((c.tc : Thread Cert.InMix1RefIdeal.nD Cert.InMix1RefIdeal.τ).loc Cert.InMix1RefIdeal.main_arg0)
          ∧ r.2.mem ((c.tc : Thread Cert.InMix1RefIdeal.nD Cert.InMix1RefIdeal.τ).loc Cert.InMix1RefIdeal.main_arg1) = m' ((c.tc : Thread Cert.InMix1RefIdeal.nD Cert.InMix1RefIdeal.τ).loc Cert.InMix1RefIdeal.main_arg1))

def preserves_InGl0_InGl0Ideal : Prop :=
  True

def algebraic_InGl0Ideal_InGl0RefIdeal [hInGl0Ideal : Cert.InGl0Ideal.Facts] [hInGl0RefIdeal : Cert.InGl0RefIdeal.Facts] : Prop :=
  ∀ (m : (ℓ : Loc Cert.InGl0Ideal.nD Cert.InGl0Ideal.τ Cert.InGl0Ideal.sig) → Buf (Elt Ideal) ℓ) (g : Dev Cert.InGl0Ideal.nD → PrngReg)
    (m' : (ℓ : Loc Cert.InGl0RefIdeal.nD Cert.InGl0RefIdeal.τ Cert.InGl0RefIdeal.sig) → Buf (Elt Ideal) ℓ) (g' : Dev Cert.InGl0RefIdeal.nD → PrngReg), Pre_InGl0Ideal m →
    (∀ c : Dev Cert.InGl0Ideal.nD,
      m' ((c.tc : Thread Cert.InGl0RefIdeal.nD Cert.InGl0RefIdeal.τ).loc Cert.InGl0RefIdeal.main_arg0) = m ((c.tc : Thread Cert.InGl0Ideal.nD Cert.InGl0Ideal.τ).loc Cert.InGl0Ideal.main_arg0)
      ∧ m' ((c.tc : Thread Cert.InGl0RefIdeal.nD Cert.InGl0RefIdeal.τ).loc Cert.InGl0RefIdeal.main_arg1) = m ((c.tc : Thread Cert.InGl0Ideal.nD Cert.InGl0Ideal.τ).loc Cert.InGl0Ideal.main_arg1)) →
    ∃ (v0 : (c : Dev Cert.InGl0Ideal.nD) → Buf (Elt Ideal) ((c.tc : Thread Cert.InGl0Ideal.nD Cert.InGl0Ideal.τ).loc Cert.InGl0Ideal.main_v1)),
      θ_run (Cert.InGl0Ideal.defs (F := Ideal)) (onTc (τ := Cert.InGl0Ideal.τ) (Cert.InGl0Ideal.main (F := Ideal))) ⟨m, fun _ => 0, g⟩ (fun r => ∀ c : Dev Cert.InGl0Ideal.nD,
          r.2.mem ((c.tc : Thread Cert.InGl0Ideal.nD Cert.InGl0Ideal.τ).loc Cert.InGl0Ideal.main_v1) = v0 c
          ∧ r.2.mem ((c.tc : Thread Cert.InGl0Ideal.nD Cert.InGl0Ideal.τ).loc Cert.InGl0Ideal.main_arg0) = m ((c.tc : Thread Cert.InGl0Ideal.nD Cert.InGl0Ideal.τ).loc Cert.InGl0Ideal.main_arg0)
          ∧ r.2.mem ((c.tc : Thread Cert.InGl0Ideal.nD Cert.InGl0Ideal.τ).loc Cert.InGl0Ideal.main_arg1) = m ((c.tc : Thread Cert.InGl0Ideal.nD Cert.InGl0Ideal.τ).loc Cert.InGl0Ideal.main_arg1))
      ∧ θ_run (Cert.InGl0RefIdeal.defs (F := Ideal)) (onTc (τ := Cert.InGl0RefIdeal.τ) (Cert.InGl0RefIdeal.main (F := Ideal))) ⟨m', fun _ => 0, g'⟩ (fun r => ∀ c : Dev Cert.InGl0RefIdeal.nD,
          r.2.mem ((c.tc : Thread Cert.InGl0RefIdeal.nD Cert.InGl0RefIdeal.τ).loc Cert.InGl0RefIdeal.main_v5) = v0 c
          ∧ r.2.mem ((c.tc : Thread Cert.InGl0RefIdeal.nD Cert.InGl0RefIdeal.τ).loc Cert.InGl0RefIdeal.main_arg0) = m' ((c.tc : Thread Cert.InGl0RefIdeal.nD Cert.InGl0RefIdeal.τ).loc Cert.InGl0RefIdeal.main_arg0)
          ∧ r.2.mem ((c.tc : Thread Cert.InGl0RefIdeal.nD Cert.InGl0RefIdeal.τ).loc Cert.InGl0RefIdeal.main_arg1) = m' ((c.tc : Thread Cert.InGl0RefIdeal.nD Cert.InGl0RefIdeal.τ).loc Cert.InGl0RefIdeal.main_arg1))

def preserves_InGl1_InGl1Ideal : Prop :=
  True

def algebraic_InGl1Ideal_InGl1RefIdeal [hInGl1Ideal : Cert.InGl1Ideal.Facts] [hInGl1RefIdeal : Cert.InGl1RefIdeal.Facts] : Prop :=
  ∀ (m : (ℓ : Loc Cert.InGl1Ideal.nD Cert.InGl1Ideal.τ Cert.InGl1Ideal.sig) → Buf (Elt Ideal) ℓ) (g : Dev Cert.InGl1Ideal.nD → PrngReg)
    (m' : (ℓ : Loc Cert.InGl1RefIdeal.nD Cert.InGl1RefIdeal.τ Cert.InGl1RefIdeal.sig) → Buf (Elt Ideal) ℓ) (g' : Dev Cert.InGl1RefIdeal.nD → PrngReg), Pre_InGl1Ideal m →
    (∀ c : Dev Cert.InGl1Ideal.nD,
      m' ((c.tc : Thread Cert.InGl1RefIdeal.nD Cert.InGl1RefIdeal.τ).loc Cert.InGl1RefIdeal.main_arg0) = m ((c.tc : Thread Cert.InGl1Ideal.nD Cert.InGl1Ideal.τ).loc Cert.InGl1Ideal.main_arg0)
      ∧ m' ((c.tc : Thread Cert.InGl1RefIdeal.nD Cert.InGl1RefIdeal.τ).loc Cert.InGl1RefIdeal.main_arg1) = m ((c.tc : Thread Cert.InGl1Ideal.nD Cert.InGl1Ideal.τ).loc Cert.InGl1Ideal.main_arg1)) →
    ∃ (v0 : (c : Dev Cert.InGl1Ideal.nD) → Buf (Elt Ideal) ((c.tc : Thread Cert.InGl1Ideal.nD Cert.InGl1Ideal.τ).loc Cert.InGl1Ideal.main_v1)),
      θ_run (Cert.InGl1Ideal.defs (F := Ideal)) (onTc (τ := Cert.InGl1Ideal.τ) (Cert.InGl1Ideal.main (F := Ideal))) ⟨m, fun _ => 0, g⟩ (fun r => ∀ c : Dev Cert.InGl1Ideal.nD,
          r.2.mem ((c.tc : Thread Cert.InGl1Ideal.nD Cert.InGl1Ideal.τ).loc Cert.InGl1Ideal.main_v1) = v0 c
          ∧ r.2.mem ((c.tc : Thread Cert.InGl1Ideal.nD Cert.InGl1Ideal.τ).loc Cert.InGl1Ideal.main_arg0) = m ((c.tc : Thread Cert.InGl1Ideal.nD Cert.InGl1Ideal.τ).loc Cert.InGl1Ideal.main_arg0)
          ∧ r.2.mem ((c.tc : Thread Cert.InGl1Ideal.nD Cert.InGl1Ideal.τ).loc Cert.InGl1Ideal.main_arg1) = m ((c.tc : Thread Cert.InGl1Ideal.nD Cert.InGl1Ideal.τ).loc Cert.InGl1Ideal.main_arg1))
      ∧ θ_run (Cert.InGl1RefIdeal.defs (F := Ideal)) (onTc (τ := Cert.InGl1RefIdeal.τ) (Cert.InGl1RefIdeal.main (F := Ideal))) ⟨m', fun _ => 0, g'⟩ (fun r => ∀ c : Dev Cert.InGl1RefIdeal.nD,
          r.2.mem ((c.tc : Thread Cert.InGl1RefIdeal.nD Cert.InGl1RefIdeal.τ).loc Cert.InGl1RefIdeal.main_v5) = v0 c
          ∧ r.2.mem ((c.tc : Thread Cert.InGl1RefIdeal.nD Cert.InGl1RefIdeal.τ).loc Cert.InGl1RefIdeal.main_arg0) = m' ((c.tc : Thread Cert.InGl1RefIdeal.nD Cert.InGl1RefIdeal.τ).loc Cert.InGl1RefIdeal.main_arg0)
          ∧ r.2.mem ((c.tc : Thread Cert.InGl1RefIdeal.nD Cert.InGl1RefIdeal.τ).loc Cert.InGl1RefIdeal.main_arg1) = m' ((c.tc : Thread Cert.InGl1RefIdeal.nD Cert.InGl1RefIdeal.τ).loc Cert.InGl1RefIdeal.main_arg1))

def preserves_Merge0_Merge0Ideal : Prop :=
  True

def algebraic_Merge0Ideal_Merge0RefIdeal [hMerge0Ideal : Cert.Merge0Ideal.Facts] [hMerge0RefIdeal : Cert.Merge0RefIdeal.Facts] : Prop :=
  ∀ (m : (ℓ : Loc Cert.Merge0Ideal.nD Cert.Merge0Ideal.τ Cert.Merge0Ideal.sig) → Buf (Elt Ideal) ℓ) (g : Dev Cert.Merge0Ideal.nD → PrngReg)
    (m' : (ℓ : Loc Cert.Merge0RefIdeal.nD Cert.Merge0RefIdeal.τ Cert.Merge0RefIdeal.sig) → Buf (Elt Ideal) ℓ) (g' : Dev Cert.Merge0RefIdeal.nD → PrngReg), Pre_Merge0Ideal m →
    (∀ c : Dev Cert.Merge0Ideal.nD,
      m' ((c.tc : Thread Cert.Merge0RefIdeal.nD Cert.Merge0RefIdeal.τ).loc Cert.Merge0RefIdeal.main_arg0) = m ((c.tc : Thread Cert.Merge0Ideal.nD Cert.Merge0Ideal.τ).loc Cert.Merge0Ideal.main_arg0)
      ∧ m' ((c.tc : Thread Cert.Merge0RefIdeal.nD Cert.Merge0RefIdeal.τ).loc Cert.Merge0RefIdeal.main_arg1) = m ((c.tc : Thread Cert.Merge0Ideal.nD Cert.Merge0Ideal.τ).loc Cert.Merge0Ideal.main_arg1)
      ∧ m' ((c.tc : Thread Cert.Merge0RefIdeal.nD Cert.Merge0RefIdeal.τ).loc Cert.Merge0RefIdeal.main_arg2) = m ((c.tc : Thread Cert.Merge0Ideal.nD Cert.Merge0Ideal.τ).loc Cert.Merge0Ideal.main_arg2)
      ∧ m' ((c.tc : Thread Cert.Merge0RefIdeal.nD Cert.Merge0RefIdeal.τ).loc Cert.Merge0RefIdeal.main_arg3) = m ((c.tc : Thread Cert.Merge0Ideal.nD Cert.Merge0Ideal.τ).loc Cert.Merge0Ideal.main_arg3)
      ∧ m' ((c.tc : Thread Cert.Merge0RefIdeal.nD Cert.Merge0RefIdeal.τ).loc Cert.Merge0RefIdeal.main_arg4) = m ((c.tc : Thread Cert.Merge0Ideal.nD Cert.Merge0Ideal.τ).loc Cert.Merge0Ideal.main_arg4)
      ∧ m' ((c.tc : Thread Cert.Merge0RefIdeal.nD Cert.Merge0RefIdeal.τ).loc Cert.Merge0RefIdeal.main_arg5) = m ((c.tc : Thread Cert.Merge0Ideal.nD Cert.Merge0Ideal.τ).loc Cert.Merge0Ideal.main_arg5)
      ∧ m' ((c.tc : Thread Cert.Merge0RefIdeal.nD Cert.Merge0RefIdeal.τ).loc Cert.Merge0RefIdeal.main_arg6) = m ((c.tc : Thread Cert.Merge0Ideal.nD Cert.Merge0Ideal.τ).loc Cert.Merge0Ideal.main_arg6)
      ∧ m' ((c.tc : Thread Cert.Merge0RefIdeal.nD Cert.Merge0RefIdeal.τ).loc Cert.Merge0RefIdeal.main_arg7) = m ((c.tc : Thread Cert.Merge0Ideal.nD Cert.Merge0Ideal.τ).loc Cert.Merge0Ideal.main_arg7)) →
    ∃ (v0 : (c : Dev Cert.Merge0Ideal.nD) → Buf (Elt Ideal) ((c.tc : Thread Cert.Merge0Ideal.nD Cert.Merge0Ideal.τ).loc Cert.Merge0Ideal.main_v1)),
      θ_run (Cert.Merge0Ideal.defs (F := Ideal)) (onTc (τ := Cert.Merge0Ideal.τ) (Cert.Merge0Ideal.main (F := Ideal))) ⟨m, fun _ => 0, g⟩ (fun r => ∀ c : Dev Cert.Merge0Ideal.nD,
          r.2.mem ((c.tc : Thread Cert.Merge0Ideal.nD Cert.Merge0Ideal.τ).loc Cert.Merge0Ideal.main_v1) = v0 c
          ∧ r.2.mem ((c.tc : Thread Cert.Merge0Ideal.nD Cert.Merge0Ideal.τ).loc Cert.Merge0Ideal.main_arg0) = m ((c.tc : Thread Cert.Merge0Ideal.nD Cert.Merge0Ideal.τ).loc Cert.Merge0Ideal.main_arg0)
          ∧ r.2.mem ((c.tc : Thread Cert.Merge0Ideal.nD Cert.Merge0Ideal.τ).loc Cert.Merge0Ideal.main_arg1) = m ((c.tc : Thread Cert.Merge0Ideal.nD Cert.Merge0Ideal.τ).loc Cert.Merge0Ideal.main_arg1)
          ∧ r.2.mem ((c.tc : Thread Cert.Merge0Ideal.nD Cert.Merge0Ideal.τ).loc Cert.Merge0Ideal.main_arg2) = m ((c.tc : Thread Cert.Merge0Ideal.nD Cert.Merge0Ideal.τ).loc Cert.Merge0Ideal.main_arg2)
          ∧ r.2.mem ((c.tc : Thread Cert.Merge0Ideal.nD Cert.Merge0Ideal.τ).loc Cert.Merge0Ideal.main_arg3) = m ((c.tc : Thread Cert.Merge0Ideal.nD Cert.Merge0Ideal.τ).loc Cert.Merge0Ideal.main_arg3)
          ∧ r.2.mem ((c.tc : Thread Cert.Merge0Ideal.nD Cert.Merge0Ideal.τ).loc Cert.Merge0Ideal.main_arg4) = m ((c.tc : Thread Cert.Merge0Ideal.nD Cert.Merge0Ideal.τ).loc Cert.Merge0Ideal.main_arg4)
          ∧ r.2.mem ((c.tc : Thread Cert.Merge0Ideal.nD Cert.Merge0Ideal.τ).loc Cert.Merge0Ideal.main_arg5) = m ((c.tc : Thread Cert.Merge0Ideal.nD Cert.Merge0Ideal.τ).loc Cert.Merge0Ideal.main_arg5)
          ∧ r.2.mem ((c.tc : Thread Cert.Merge0Ideal.nD Cert.Merge0Ideal.τ).loc Cert.Merge0Ideal.main_arg6) = m ((c.tc : Thread Cert.Merge0Ideal.nD Cert.Merge0Ideal.τ).loc Cert.Merge0Ideal.main_arg6)
          ∧ r.2.mem ((c.tc : Thread Cert.Merge0Ideal.nD Cert.Merge0Ideal.τ).loc Cert.Merge0Ideal.main_arg7) = m ((c.tc : Thread Cert.Merge0Ideal.nD Cert.Merge0Ideal.τ).loc Cert.Merge0Ideal.main_arg7))
      ∧ θ_run (Cert.Merge0RefIdeal.defs (F := Ideal)) (onTc (τ := Cert.Merge0RefIdeal.τ) (Cert.Merge0RefIdeal.main (F := Ideal))) ⟨m', fun _ => 0, g'⟩ (fun r => ∀ c : Dev Cert.Merge0RefIdeal.nD,
          r.2.mem ((c.tc : Thread Cert.Merge0RefIdeal.nD Cert.Merge0RefIdeal.τ).loc Cert.Merge0RefIdeal.main_v36) = v0 c
          ∧ r.2.mem ((c.tc : Thread Cert.Merge0RefIdeal.nD Cert.Merge0RefIdeal.τ).loc Cert.Merge0RefIdeal.main_arg0) = m' ((c.tc : Thread Cert.Merge0RefIdeal.nD Cert.Merge0RefIdeal.τ).loc Cert.Merge0RefIdeal.main_arg0)
          ∧ r.2.mem ((c.tc : Thread Cert.Merge0RefIdeal.nD Cert.Merge0RefIdeal.τ).loc Cert.Merge0RefIdeal.main_arg1) = m' ((c.tc : Thread Cert.Merge0RefIdeal.nD Cert.Merge0RefIdeal.τ).loc Cert.Merge0RefIdeal.main_arg1)
          ∧ r.2.mem ((c.tc : Thread Cert.Merge0RefIdeal.nD Cert.Merge0RefIdeal.τ).loc Cert.Merge0RefIdeal.main_arg2) = m' ((c.tc : Thread Cert.Merge0RefIdeal.nD Cert.Merge0RefIdeal.τ).loc Cert.Merge0RefIdeal.main_arg2)
          ∧ r.2.mem ((c.tc : Thread Cert.Merge0RefIdeal.nD Cert.Merge0RefIdeal.τ).loc Cert.Merge0RefIdeal.main_arg3) = m' ((c.tc : Thread Cert.Merge0RefIdeal.nD Cert.Merge0RefIdeal.τ).loc Cert.Merge0RefIdeal.main_arg3)
          ∧ r.2.mem ((c.tc : Thread Cert.Merge0RefIdeal.nD Cert.Merge0RefIdeal.τ).loc Cert.Merge0RefIdeal.main_arg4) = m' ((c.tc : Thread Cert.Merge0RefIdeal.nD Cert.Merge0RefIdeal.τ).loc Cert.Merge0RefIdeal.main_arg4)
          ∧ r.2.mem ((c.tc : Thread Cert.Merge0RefIdeal.nD Cert.Merge0RefIdeal.τ).loc Cert.Merge0RefIdeal.main_arg5) = m' ((c.tc : Thread Cert.Merge0RefIdeal.nD Cert.Merge0RefIdeal.τ).loc Cert.Merge0RefIdeal.main_arg5)
          ∧ r.2.mem ((c.tc : Thread Cert.Merge0RefIdeal.nD Cert.Merge0RefIdeal.τ).loc Cert.Merge0RefIdeal.main_arg6) = m' ((c.tc : Thread Cert.Merge0RefIdeal.nD Cert.Merge0RefIdeal.τ).loc Cert.Merge0RefIdeal.main_arg6)
          ∧ r.2.mem ((c.tc : Thread Cert.Merge0RefIdeal.nD Cert.Merge0RefIdeal.τ).loc Cert.Merge0RefIdeal.main_arg7) = m' ((c.tc : Thread Cert.Merge0RefIdeal.nD Cert.Merge0RefIdeal.τ).loc Cert.Merge0RefIdeal.main_arg7))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)
      ∧ m' ((c.tc : Thread Cert.Out0RefIdeal.nD Cert.Out0RefIdeal.τ).loc Cert.Out0RefIdeal.main_arg2) = m ((c.tc : Thread Cert.Out0Ideal.nD Cert.Out0Ideal.τ).loc Cert.Out0Ideal.main_arg2)
      ∧ m' ((c.tc : Thread Cert.Out0RefIdeal.nD Cert.Out0RefIdeal.τ).loc Cert.Out0RefIdeal.main_arg3) = m ((c.tc : Thread Cert.Out0Ideal.nD Cert.Out0Ideal.τ).loc Cert.Out0Ideal.main_arg3)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1)
          ∧ r.2.mem ((c.tc : Thread Cert.Out0Ideal.nD Cert.Out0Ideal.τ).loc Cert.Out0Ideal.main_arg2) = m ((c.tc : Thread Cert.Out0Ideal.nD Cert.Out0Ideal.τ).loc Cert.Out0Ideal.main_arg2)
          ∧ r.2.mem ((c.tc : Thread Cert.Out0Ideal.nD Cert.Out0Ideal.τ).loc Cert.Out0Ideal.main_arg3) = m ((c.tc : Thread Cert.Out0Ideal.nD Cert.Out0Ideal.τ).loc Cert.Out0Ideal.main_arg3))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v25) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1)
          ∧ r.2.mem ((c.tc : Thread Cert.Out0RefIdeal.nD Cert.Out0RefIdeal.τ).loc Cert.Out0RefIdeal.main_arg2) = m' ((c.tc : Thread Cert.Out0RefIdeal.nD Cert.Out0RefIdeal.τ).loc Cert.Out0RefIdeal.main_arg2)
          ∧ r.2.mem ((c.tc : Thread Cert.Out0RefIdeal.nD Cert.Out0RefIdeal.τ).loc Cert.Out0RefIdeal.main_arg3) = m' ((c.tc : Thread Cert.Out0RefIdeal.nD Cert.Out0RefIdeal.τ).loc Cert.Out0RefIdeal.main_arg3))

def preserves_Merge1_Merge1Ideal : Prop :=
  True

def algebraic_Merge1Ideal_Merge1RefIdeal [hMerge1Ideal : Cert.Merge1Ideal.Facts] [hMerge1RefIdeal : Cert.Merge1RefIdeal.Facts] : Prop :=
  ∀ (m : (ℓ : Loc Cert.Merge1Ideal.nD Cert.Merge1Ideal.τ Cert.Merge1Ideal.sig) → Buf (Elt Ideal) ℓ) (g : Dev Cert.Merge1Ideal.nD → PrngReg)
    (m' : (ℓ : Loc Cert.Merge1RefIdeal.nD Cert.Merge1RefIdeal.τ Cert.Merge1RefIdeal.sig) → Buf (Elt Ideal) ℓ) (g' : Dev Cert.Merge1RefIdeal.nD → PrngReg), Pre_Merge1Ideal m →
    (∀ c : Dev Cert.Merge1Ideal.nD,
      m' ((c.tc : Thread Cert.Merge1RefIdeal.nD Cert.Merge1RefIdeal.τ).loc Cert.Merge1RefIdeal.main_arg0) = m ((c.tc : Thread Cert.Merge1Ideal.nD Cert.Merge1Ideal.τ).loc Cert.Merge1Ideal.main_arg0)
      ∧ m' ((c.tc : Thread Cert.Merge1RefIdeal.nD Cert.Merge1RefIdeal.τ).loc Cert.Merge1RefIdeal.main_arg1) = m ((c.tc : Thread Cert.Merge1Ideal.nD Cert.Merge1Ideal.τ).loc Cert.Merge1Ideal.main_arg1)
      ∧ m' ((c.tc : Thread Cert.Merge1RefIdeal.nD Cert.Merge1RefIdeal.τ).loc Cert.Merge1RefIdeal.main_arg2) = m ((c.tc : Thread Cert.Merge1Ideal.nD Cert.Merge1Ideal.τ).loc Cert.Merge1Ideal.main_arg2)
      ∧ m' ((c.tc : Thread Cert.Merge1RefIdeal.nD Cert.Merge1RefIdeal.τ).loc Cert.Merge1RefIdeal.main_arg3) = m ((c.tc : Thread Cert.Merge1Ideal.nD Cert.Merge1Ideal.τ).loc Cert.Merge1Ideal.main_arg3)
      ∧ m' ((c.tc : Thread Cert.Merge1RefIdeal.nD Cert.Merge1RefIdeal.τ).loc Cert.Merge1RefIdeal.main_arg4) = m ((c.tc : Thread Cert.Merge1Ideal.nD Cert.Merge1Ideal.τ).loc Cert.Merge1Ideal.main_arg4)
      ∧ m' ((c.tc : Thread Cert.Merge1RefIdeal.nD Cert.Merge1RefIdeal.τ).loc Cert.Merge1RefIdeal.main_arg5) = m ((c.tc : Thread Cert.Merge1Ideal.nD Cert.Merge1Ideal.τ).loc Cert.Merge1Ideal.main_arg5)
      ∧ m' ((c.tc : Thread Cert.Merge1RefIdeal.nD Cert.Merge1RefIdeal.τ).loc Cert.Merge1RefIdeal.main_arg6) = m ((c.tc : Thread Cert.Merge1Ideal.nD Cert.Merge1Ideal.τ).loc Cert.Merge1Ideal.main_arg6)
      ∧ m' ((c.tc : Thread Cert.Merge1RefIdeal.nD Cert.Merge1RefIdeal.τ).loc Cert.Merge1RefIdeal.main_arg7) = m ((c.tc : Thread Cert.Merge1Ideal.nD Cert.Merge1Ideal.τ).loc Cert.Merge1Ideal.main_arg7)) →
    ∃ (v0 : (c : Dev Cert.Merge1Ideal.nD) → Buf (Elt Ideal) ((c.tc : Thread Cert.Merge1Ideal.nD Cert.Merge1Ideal.τ).loc Cert.Merge1Ideal.main_v1)),
      θ_run (Cert.Merge1Ideal.defs (F := Ideal)) (onTc (τ := Cert.Merge1Ideal.τ) (Cert.Merge1Ideal.main (F := Ideal))) ⟨m, fun _ => 0, g⟩ (fun r => ∀ c : Dev Cert.Merge1Ideal.nD,
          r.2.mem ((c.tc : Thread Cert.Merge1Ideal.nD Cert.Merge1Ideal.τ).loc Cert.Merge1Ideal.main_v1) = v0 c
          ∧ r.2.mem ((c.tc : Thread Cert.Merge1Ideal.nD Cert.Merge1Ideal.τ).loc Cert.Merge1Ideal.main_arg0) = m ((c.tc : Thread Cert.Merge1Ideal.nD Cert.Merge1Ideal.τ).loc Cert.Merge1Ideal.main_arg0)
          ∧ r.2.mem ((c.tc : Thread Cert.Merge1Ideal.nD Cert.Merge1Ideal.τ).loc Cert.Merge1Ideal.main_arg1) = m ((c.tc : Thread Cert.Merge1Ideal.nD Cert.Merge1Ideal.τ).loc Cert.Merge1Ideal.main_arg1)
          ∧ r.2.mem ((c.tc : Thread Cert.Merge1Ideal.nD Cert.Merge1Ideal.τ).loc Cert.Merge1Ideal.main_arg2) = m ((c.tc : Thread Cert.Merge1Ideal.nD Cert.Merge1Ideal.τ).loc Cert.Merge1Ideal.main_arg2)
          ∧ r.2.mem ((c.tc : Thread Cert.Merge1Ideal.nD Cert.Merge1Ideal.τ).loc Cert.Merge1Ideal.main_arg3) = m ((c.tc : Thread Cert.Merge1Ideal.nD Cert.Merge1Ideal.τ).loc Cert.Merge1Ideal.main_arg3)
          ∧ r.2.mem ((c.tc : Thread Cert.Merge1Ideal.nD Cert.Merge1Ideal.τ).loc Cert.Merge1Ideal.main_arg4) = m ((c.tc : Thread Cert.Merge1Ideal.nD Cert.Merge1Ideal.τ).loc Cert.Merge1Ideal.main_arg4)
          ∧ r.2.mem ((c.tc : Thread Cert.Merge1Ideal.nD Cert.Merge1Ideal.τ).loc Cert.Merge1Ideal.main_arg5) = m ((c.tc : Thread Cert.Merge1Ideal.nD Cert.Merge1Ideal.τ).loc Cert.Merge1Ideal.main_arg5)
          ∧ r.2.mem ((c.tc : Thread Cert.Merge1Ideal.nD Cert.Merge1Ideal.τ).loc Cert.Merge1Ideal.main_arg6) = m ((c.tc : Thread Cert.Merge1Ideal.nD Cert.Merge1Ideal.τ).loc Cert.Merge1Ideal.main_arg6)
          ∧ r.2.mem ((c.tc : Thread Cert.Merge1Ideal.nD Cert.Merge1Ideal.τ).loc Cert.Merge1Ideal.main_arg7) = m ((c.tc : Thread Cert.Merge1Ideal.nD Cert.Merge1Ideal.τ).loc Cert.Merge1Ideal.main_arg7))
      ∧ θ_run (Cert.Merge1RefIdeal.defs (F := Ideal)) (onTc (τ := Cert.Merge1RefIdeal.τ) (Cert.Merge1RefIdeal.main (F := Ideal))) ⟨m', fun _ => 0, g'⟩ (fun r => ∀ c : Dev Cert.Merge1RefIdeal.nD,
          r.2.mem ((c.tc : Thread Cert.Merge1RefIdeal.nD Cert.Merge1RefIdeal.τ).loc Cert.Merge1RefIdeal.main_v36) = v0 c
          ∧ r.2.mem ((c.tc : Thread Cert.Merge1RefIdeal.nD Cert.Merge1RefIdeal.τ).loc Cert.Merge1RefIdeal.main_arg0) = m' ((c.tc : Thread Cert.Merge1RefIdeal.nD Cert.Merge1RefIdeal.τ).loc Cert.Merge1RefIdeal.main_arg0)
          ∧ r.2.mem ((c.tc : Thread Cert.Merge1RefIdeal.nD Cert.Merge1RefIdeal.τ).loc Cert.Merge1RefIdeal.main_arg1) = m' ((c.tc : Thread Cert.Merge1RefIdeal.nD Cert.Merge1RefIdeal.τ).loc Cert.Merge1RefIdeal.main_arg1)
          ∧ r.2.mem ((c.tc : Thread Cert.Merge1RefIdeal.nD Cert.Merge1RefIdeal.τ).loc Cert.Merge1RefIdeal.main_arg2) = m' ((c.tc : Thread Cert.Merge1RefIdeal.nD Cert.Merge1RefIdeal.τ).loc Cert.Merge1RefIdeal.main_arg2)
          ∧ r.2.mem ((c.tc : Thread Cert.Merge1RefIdeal.nD Cert.Merge1RefIdeal.τ).loc Cert.Merge1RefIdeal.main_arg3) = m' ((c.tc : Thread Cert.Merge1RefIdeal.nD Cert.Merge1RefIdeal.τ).loc Cert.Merge1RefIdeal.main_arg3)
          ∧ r.2.mem ((c.tc : Thread Cert.Merge1RefIdeal.nD Cert.Merge1RefIdeal.τ).loc Cert.Merge1RefIdeal.main_arg4) = m' ((c.tc : Thread Cert.Merge1RefIdeal.nD Cert.Merge1RefIdeal.τ).loc Cert.Merge1RefIdeal.main_arg4)
          ∧ r.2.mem ((c.tc : Thread Cert.Merge1RefIdeal.nD Cert.Merge1RefIdeal.τ).loc Cert.Merge1RefIdeal.main_arg5) = m' ((c.tc : Thread Cert.Merge1RefIdeal.nD Cert.Merge1RefIdeal.τ).loc Cert.Merge1RefIdeal.main_arg5)
          ∧ r.2.mem ((c.tc : Thread Cert.Merge1RefIdeal.nD Cert.Merge1RefIdeal.τ).loc Cert.Merge1RefIdeal.main_arg6) = m' ((c.tc : Thread Cert.Merge1RefIdeal.nD Cert.Merge1RefIdeal.τ).loc Cert.Merge1RefIdeal.main_arg6)
          ∧ r.2.mem ((c.tc : Thread Cert.Merge1RefIdeal.nD Cert.Merge1RefIdeal.τ).loc Cert.Merge1RefIdeal.main_arg7) = m' ((c.tc : Thread Cert.Merge1RefIdeal.nD Cert.Merge1RefIdeal.τ).loc Cert.Merge1RefIdeal.main_arg7))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)
      ∧ m' ((c.tc : Thread Cert.Out1RefIdeal.nD Cert.Out1RefIdeal.τ).loc Cert.Out1RefIdeal.main_arg2) = m ((c.tc : Thread Cert.Out1Ideal.nD Cert.Out1Ideal.τ).loc Cert.Out1Ideal.main_arg2)
      ∧ m' ((c.tc : Thread Cert.Out1RefIdeal.nD Cert.Out1RefIdeal.τ).loc Cert.Out1RefIdeal.main_arg3) = m ((c.tc : Thread Cert.Out1Ideal.nD Cert.Out1Ideal.τ).loc Cert.Out1Ideal.main_arg3)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1)
          ∧ r.2.mem ((c.tc : Thread Cert.Out1Ideal.nD Cert.Out1Ideal.τ).loc Cert.Out1Ideal.main_arg2) = m ((c.tc : Thread Cert.Out1Ideal.nD Cert.Out1Ideal.τ).loc Cert.Out1Ideal.main_arg2)
          ∧ r.2.mem ((c.tc : Thread Cert.Out1Ideal.nD Cert.Out1Ideal.τ).loc Cert.Out1Ideal.main_arg3) = m ((c.tc : Thread Cert.Out1Ideal.nD Cert.Out1Ideal.τ).loc Cert.Out1Ideal.main_arg3))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v25) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1)
          ∧ r.2.mem ((c.tc : Thread Cert.Out1RefIdeal.nD Cert.Out1RefIdeal.τ).loc Cert.Out1RefIdeal.main_arg2) = m' ((c.tc : Thread Cert.Out1RefIdeal.nD Cert.Out1RefIdeal.τ).loc Cert.Out1RefIdeal.main_arg2)
          ∧ r.2.mem ((c.tc : Thread Cert.Out1RefIdeal.nD Cert.Out1RefIdeal.τ).loc Cert.Out1RefIdeal.main_arg3) = m' ((c.tc : Thread Cert.Out1RefIdeal.nD Cert.Out1RefIdeal.τ).loc Cert.Out1RefIdeal.main_arg3))

def preserves_FinalCtx_FinalCtxIdeal : Prop :=
  True

def algebraic_FinalCtxIdeal_FinalCtxRefIdeal [hFinalCtxIdeal : Cert.FinalCtxIdeal.Facts] [hFinalCtxRefIdeal : Cert.FinalCtxRefIdeal.Facts] : Prop :=
  ∀ (m : (ℓ : Loc Cert.FinalCtxIdeal.nD Cert.FinalCtxIdeal.τ Cert.FinalCtxIdeal.sig) → Buf (Elt Ideal) ℓ) (g : Dev Cert.FinalCtxIdeal.nD → PrngReg)
    (m' : (ℓ : Loc Cert.FinalCtxRefIdeal.nD Cert.FinalCtxRefIdeal.τ Cert.FinalCtxRefIdeal.sig) → Buf (Elt Ideal) ℓ) (g' : Dev Cert.FinalCtxRefIdeal.nD → PrngReg), Pre_FinalCtxIdeal m →
    (∀ c : Dev Cert.FinalCtxIdeal.nD,
      m' ((c.tc : Thread Cert.FinalCtxRefIdeal.nD Cert.FinalCtxRefIdeal.τ).loc Cert.FinalCtxRefIdeal.main_arg0) = m ((c.tc : Thread Cert.FinalCtxIdeal.nD Cert.FinalCtxIdeal.τ).loc Cert.FinalCtxIdeal.main_arg0)
      ∧ m' ((c.tc : Thread Cert.FinalCtxRefIdeal.nD Cert.FinalCtxRefIdeal.τ).loc Cert.FinalCtxRefIdeal.main_arg1) = m ((c.tc : Thread Cert.FinalCtxIdeal.nD Cert.FinalCtxIdeal.τ).loc Cert.FinalCtxIdeal.main_arg1)) →
    ∃ (v0 : (c : Dev Cert.FinalCtxIdeal.nD) → Buf (Elt Ideal) ((c.tc : Thread Cert.FinalCtxIdeal.nD Cert.FinalCtxIdeal.τ).loc Cert.FinalCtxIdeal.main_v1)),
      θ_run (Cert.FinalCtxIdeal.defs (F := Ideal)) (onTc (τ := Cert.FinalCtxIdeal.τ) (Cert.FinalCtxIdeal.main (F := Ideal))) ⟨m, fun _ => 0, g⟩ (fun r => ∀ c : Dev Cert.FinalCtxIdeal.nD,
          r.2.mem ((c.tc : Thread Cert.FinalCtxIdeal.nD Cert.FinalCtxIdeal.τ).loc Cert.FinalCtxIdeal.main_v1) = v0 c
          ∧ r.2.mem ((c.tc : Thread Cert.FinalCtxIdeal.nD Cert.FinalCtxIdeal.τ).loc Cert.FinalCtxIdeal.main_arg0) = m ((c.tc : Thread Cert.FinalCtxIdeal.nD Cert.FinalCtxIdeal.τ).loc Cert.FinalCtxIdeal.main_arg0)
          ∧ r.2.mem ((c.tc : Thread Cert.FinalCtxIdeal.nD Cert.FinalCtxIdeal.τ).loc Cert.FinalCtxIdeal.main_arg1) = m ((c.tc : Thread Cert.FinalCtxIdeal.nD Cert.FinalCtxIdeal.τ).loc Cert.FinalCtxIdeal.main_arg1))
      ∧ θ_run (Cert.FinalCtxRefIdeal.defs (F := Ideal)) (onTc (τ := Cert.FinalCtxRefIdeal.τ) (Cert.FinalCtxRefIdeal.main (F := Ideal))) ⟨m', fun _ => 0, g'⟩ (fun r => ∀ c : Dev Cert.FinalCtxRefIdeal.nD,
          r.2.mem ((c.tc : Thread Cert.FinalCtxRefIdeal.nD Cert.FinalCtxRefIdeal.τ).loc Cert.FinalCtxRefIdeal.main_v13) = v0 c
          ∧ r.2.mem ((c.tc : Thread Cert.FinalCtxRefIdeal.nD Cert.FinalCtxRefIdeal.τ).loc Cert.FinalCtxRefIdeal.main_arg0) = m' ((c.tc : Thread Cert.FinalCtxRefIdeal.nD Cert.FinalCtxRefIdeal.τ).loc Cert.FinalCtxRefIdeal.main_arg0)
          ∧ r.2.mem ((c.tc : Thread Cert.FinalCtxRefIdeal.nD Cert.FinalCtxRefIdeal.τ).loc Cert.FinalCtxRefIdeal.main_arg1) = m' ((c.tc : Thread Cert.FinalCtxRefIdeal.nD Cert.FinalCtxRefIdeal.τ).loc Cert.FinalCtxRefIdeal.main_arg1))

def preserves_FinalLat_FinalLatIdeal : Prop :=
  True

def algebraic_FinalLatIdeal_FinalLatRefIdeal [hFinalLatIdeal : Cert.FinalLatIdeal.Facts] [hFinalLatRefIdeal : Cert.FinalLatRefIdeal.Facts] : Prop :=
  ∀ (m : (ℓ : Loc Cert.FinalLatIdeal.nD Cert.FinalLatIdeal.τ Cert.FinalLatIdeal.sig) → Buf (Elt Ideal) ℓ) (g : Dev Cert.FinalLatIdeal.nD → PrngReg)
    (m' : (ℓ : Loc Cert.FinalLatRefIdeal.nD Cert.FinalLatRefIdeal.τ Cert.FinalLatRefIdeal.sig) → Buf (Elt Ideal) ℓ) (g' : Dev Cert.FinalLatRefIdeal.nD → PrngReg), Pre_FinalLatIdeal m →
    (∀ c : Dev Cert.FinalLatIdeal.nD,
      m' ((c.tc : Thread Cert.FinalLatRefIdeal.nD Cert.FinalLatRefIdeal.τ).loc Cert.FinalLatRefIdeal.main_arg0) = m ((c.tc : Thread Cert.FinalLatIdeal.nD Cert.FinalLatIdeal.τ).loc Cert.FinalLatIdeal.main_arg0)
      ∧ m' ((c.tc : Thread Cert.FinalLatRefIdeal.nD Cert.FinalLatRefIdeal.τ).loc Cert.FinalLatRefIdeal.main_arg1) = m ((c.tc : Thread Cert.FinalLatIdeal.nD Cert.FinalLatIdeal.τ).loc Cert.FinalLatIdeal.main_arg1)) →
    ∃ (v0 : (c : Dev Cert.FinalLatIdeal.nD) → Buf (Elt Ideal) ((c.tc : Thread Cert.FinalLatIdeal.nD Cert.FinalLatIdeal.τ).loc Cert.FinalLatIdeal.main_v1)),
      θ_run (Cert.FinalLatIdeal.defs (F := Ideal)) (onTc (τ := Cert.FinalLatIdeal.τ) (Cert.FinalLatIdeal.main (F := Ideal))) ⟨m, fun _ => 0, g⟩ (fun r => ∀ c : Dev Cert.FinalLatIdeal.nD,
          r.2.mem ((c.tc : Thread Cert.FinalLatIdeal.nD Cert.FinalLatIdeal.τ).loc Cert.FinalLatIdeal.main_v1) = v0 c
          ∧ r.2.mem ((c.tc : Thread Cert.FinalLatIdeal.nD Cert.FinalLatIdeal.τ).loc Cert.FinalLatIdeal.main_arg0) = m ((c.tc : Thread Cert.FinalLatIdeal.nD Cert.FinalLatIdeal.τ).loc Cert.FinalLatIdeal.main_arg0)
          ∧ r.2.mem ((c.tc : Thread Cert.FinalLatIdeal.nD Cert.FinalLatIdeal.τ).loc Cert.FinalLatIdeal.main_arg1) = m ((c.tc : Thread Cert.FinalLatIdeal.nD Cert.FinalLatIdeal.τ).loc Cert.FinalLatIdeal.main_arg1))
      ∧ θ_run (Cert.FinalLatRefIdeal.defs (F := Ideal)) (onTc (τ := Cert.FinalLatRefIdeal.τ) (Cert.FinalLatRefIdeal.main (F := Ideal))) ⟨m', fun _ => 0, g'⟩ (fun r => ∀ c : Dev Cert.FinalLatRefIdeal.nD,
          r.2.mem ((c.tc : Thread Cert.FinalLatRefIdeal.nD Cert.FinalLatRefIdeal.τ).loc Cert.FinalLatRefIdeal.main_v13) = v0 c
          ∧ r.2.mem ((c.tc : Thread Cert.FinalLatRefIdeal.nD Cert.FinalLatRefIdeal.τ).loc Cert.FinalLatRefIdeal.main_arg0) = m' ((c.tc : Thread Cert.FinalLatRefIdeal.nD Cert.FinalLatRefIdeal.τ).loc Cert.FinalLatRefIdeal.main_arg0)
          ∧ r.2.mem ((c.tc : Thread Cert.FinalLatRefIdeal.nD Cert.FinalLatRefIdeal.τ).loc Cert.FinalLatRefIdeal.main_arg1) = m' ((c.tc : Thread Cert.FinalLatRefIdeal.nD Cert.FinalLatRefIdeal.τ).loc Cert.FinalLatRefIdeal.main_arg1))

def preserves_Mlstm0_Mlstm0Ideal : Prop :=
  True

def algebraic_Mlstm0Ideal_Mlstm0RefIdeal [hMlstm0Ideal : Cert.Mlstm0Ideal.Facts] [hMlstm0RefIdeal : Cert.Mlstm0RefIdeal.Facts] : Prop :=
  ∀ (m : (ℓ : Loc Cert.Mlstm0Ideal.nD Cert.Mlstm0Ideal.τ Cert.Mlstm0Ideal.sig) → Buf (Elt Ideal) ℓ) (g : Dev Cert.Mlstm0Ideal.nD → PrngReg)
    (m' : (ℓ : Loc Cert.Mlstm0RefIdeal.nD Cert.Mlstm0RefIdeal.τ Cert.Mlstm0RefIdeal.sig) → Buf (Elt Ideal) ℓ) (g' : Dev Cert.Mlstm0RefIdeal.nD → PrngReg), Pre_Mlstm0Ideal m →
    (∀ c : Dev Cert.Mlstm0Ideal.nD,
      m' ((c.tc : Thread Cert.Mlstm0RefIdeal.nD Cert.Mlstm0RefIdeal.τ).loc Cert.Mlstm0RefIdeal.main_arg0) = m ((c.tc : Thread Cert.Mlstm0Ideal.nD Cert.Mlstm0Ideal.τ).loc Cert.Mlstm0Ideal.main_arg0)
      ∧ m' ((c.tc : Thread Cert.Mlstm0RefIdeal.nD Cert.Mlstm0RefIdeal.τ).loc Cert.Mlstm0RefIdeal.main_arg1) = m ((c.tc : Thread Cert.Mlstm0Ideal.nD Cert.Mlstm0Ideal.τ).loc Cert.Mlstm0Ideal.main_arg1)
      ∧ m' ((c.tc : Thread Cert.Mlstm0RefIdeal.nD Cert.Mlstm0RefIdeal.τ).loc Cert.Mlstm0RefIdeal.main_arg2) = m ((c.tc : Thread Cert.Mlstm0Ideal.nD Cert.Mlstm0Ideal.τ).loc Cert.Mlstm0Ideal.main_arg2)
      ∧ m' ((c.tc : Thread Cert.Mlstm0RefIdeal.nD Cert.Mlstm0RefIdeal.τ).loc Cert.Mlstm0RefIdeal.main_arg3) = m ((c.tc : Thread Cert.Mlstm0Ideal.nD Cert.Mlstm0Ideal.τ).loc Cert.Mlstm0Ideal.main_arg3)
      ∧ m' ((c.tc : Thread Cert.Mlstm0RefIdeal.nD Cert.Mlstm0RefIdeal.τ).loc Cert.Mlstm0RefIdeal.main_arg4) = m ((c.tc : Thread Cert.Mlstm0Ideal.nD Cert.Mlstm0Ideal.τ).loc Cert.Mlstm0Ideal.main_arg4)) →
    ∃ (v0 : (c : Dev Cert.Mlstm0Ideal.nD) → Buf (Elt Ideal) ((c.tc : Thread Cert.Mlstm0Ideal.nD Cert.Mlstm0Ideal.τ).loc Cert.Mlstm0Ideal.main_v16_0)) (v1 : (c : Dev Cert.Mlstm0Ideal.nD) → Buf (Elt Ideal) ((c.tc : Thread Cert.Mlstm0Ideal.nD Cert.Mlstm0Ideal.τ).loc Cert.Mlstm0Ideal.main_v16_1)) (v2 : (c : Dev Cert.Mlstm0Ideal.nD) → Buf (Elt Ideal) ((c.tc : Thread Cert.Mlstm0Ideal.nD Cert.Mlstm0Ideal.τ).loc Cert.Mlstm0Ideal.main_v16_2)) (v3 : (c : Dev Cert.Mlstm0Ideal.nD) → Buf (Elt Ideal) ((c.tc : Thread Cert.Mlstm0Ideal.nD Cert.Mlstm0Ideal.τ).loc Cert.Mlstm0Ideal.main_v16_3)),
      θ_run (Cert.Mlstm0Ideal.defs (F := Ideal)) (onTc (τ := Cert.Mlstm0Ideal.τ) (Cert.Mlstm0Ideal.main (F := Ideal))) ⟨m, fun _ => 0, g⟩ (fun r => ∀ c : Dev Cert.Mlstm0Ideal.nD,
          r.2.mem ((c.tc : Thread Cert.Mlstm0Ideal.nD Cert.Mlstm0Ideal.τ).loc Cert.Mlstm0Ideal.main_v16_0) = v0 c
          ∧ r.2.mem ((c.tc : Thread Cert.Mlstm0Ideal.nD Cert.Mlstm0Ideal.τ).loc Cert.Mlstm0Ideal.main_v16_1) = v1 c
          ∧ r.2.mem ((c.tc : Thread Cert.Mlstm0Ideal.nD Cert.Mlstm0Ideal.τ).loc Cert.Mlstm0Ideal.main_v16_2) = v2 c
          ∧ r.2.mem ((c.tc : Thread Cert.Mlstm0Ideal.nD Cert.Mlstm0Ideal.τ).loc Cert.Mlstm0Ideal.main_v16_3) = v3 c
          ∧ r.2.mem ((c.tc : Thread Cert.Mlstm0Ideal.nD Cert.Mlstm0Ideal.τ).loc Cert.Mlstm0Ideal.main_arg0) = m ((c.tc : Thread Cert.Mlstm0Ideal.nD Cert.Mlstm0Ideal.τ).loc Cert.Mlstm0Ideal.main_arg0)
          ∧ r.2.mem ((c.tc : Thread Cert.Mlstm0Ideal.nD Cert.Mlstm0Ideal.τ).loc Cert.Mlstm0Ideal.main_arg1) = m ((c.tc : Thread Cert.Mlstm0Ideal.nD Cert.Mlstm0Ideal.τ).loc Cert.Mlstm0Ideal.main_arg1)
          ∧ r.2.mem ((c.tc : Thread Cert.Mlstm0Ideal.nD Cert.Mlstm0Ideal.τ).loc Cert.Mlstm0Ideal.main_arg2) = m ((c.tc : Thread Cert.Mlstm0Ideal.nD Cert.Mlstm0Ideal.τ).loc Cert.Mlstm0Ideal.main_arg2)
          ∧ r.2.mem ((c.tc : Thread Cert.Mlstm0Ideal.nD Cert.Mlstm0Ideal.τ).loc Cert.Mlstm0Ideal.main_arg3) = m ((c.tc : Thread Cert.Mlstm0Ideal.nD Cert.Mlstm0Ideal.τ).loc Cert.Mlstm0Ideal.main_arg3)
          ∧ r.2.mem ((c.tc : Thread Cert.Mlstm0Ideal.nD Cert.Mlstm0Ideal.τ).loc Cert.Mlstm0Ideal.main_arg4) = m ((c.tc : Thread Cert.Mlstm0Ideal.nD Cert.Mlstm0Ideal.τ).loc Cert.Mlstm0Ideal.main_arg4))
      ∧ θ_run (Cert.Mlstm0RefIdeal.defs (F := Ideal)) (onTc (τ := Cert.Mlstm0RefIdeal.τ) (Cert.Mlstm0RefIdeal.main (F := Ideal))) ⟨m', fun _ => 0, g'⟩ (fun r => ∀ c : Dev Cert.Mlstm0RefIdeal.nD,
          r.2.mem ((c.tc : Thread Cert.Mlstm0RefIdeal.nD Cert.Mlstm0RefIdeal.τ).loc Cert.Mlstm0RefIdeal.main_v227) = v0 c
          ∧ r.2.mem ((c.tc : Thread Cert.Mlstm0RefIdeal.nD Cert.Mlstm0RefIdeal.τ).loc Cert.Mlstm0RefIdeal.main_v230) = v1 c
          ∧ r.2.mem ((c.tc : Thread Cert.Mlstm0RefIdeal.nD Cert.Mlstm0RefIdeal.τ).loc Cert.Mlstm0RefIdeal.main_v233) = v2 c
          ∧ r.2.mem ((c.tc : Thread Cert.Mlstm0RefIdeal.nD Cert.Mlstm0RefIdeal.τ).loc Cert.Mlstm0RefIdeal.main_v235) = v3 c
          ∧ r.2.mem ((c.tc : Thread Cert.Mlstm0RefIdeal.nD Cert.Mlstm0RefIdeal.τ).loc Cert.Mlstm0RefIdeal.main_arg0) = m' ((c.tc : Thread Cert.Mlstm0RefIdeal.nD Cert.Mlstm0RefIdeal.τ).loc Cert.Mlstm0RefIdeal.main_arg0)
          ∧ r.2.mem ((c.tc : Thread Cert.Mlstm0RefIdeal.nD Cert.Mlstm0RefIdeal.τ).loc Cert.Mlstm0RefIdeal.main_arg1) = m' ((c.tc : Thread Cert.Mlstm0RefIdeal.nD Cert.Mlstm0RefIdeal.τ).loc Cert.Mlstm0RefIdeal.main_arg1)
          ∧ r.2.mem ((c.tc : Thread Cert.Mlstm0RefIdeal.nD Cert.Mlstm0RefIdeal.τ).loc Cert.Mlstm0RefIdeal.main_arg2) = m' ((c.tc : Thread Cert.Mlstm0RefIdeal.nD Cert.Mlstm0RefIdeal.τ).loc Cert.Mlstm0RefIdeal.main_arg2)
          ∧ r.2.mem ((c.tc : Thread Cert.Mlstm0RefIdeal.nD Cert.Mlstm0RefIdeal.τ).loc Cert.Mlstm0RefIdeal.main_arg3) = m' ((c.tc : Thread Cert.Mlstm0RefIdeal.nD Cert.Mlstm0RefIdeal.τ).loc Cert.Mlstm0RefIdeal.main_arg3)
          ∧ r.2.mem ((c.tc : Thread Cert.Mlstm0RefIdeal.nD Cert.Mlstm0RefIdeal.τ).loc Cert.Mlstm0RefIdeal.main_arg4) = m' ((c.tc : Thread Cert.Mlstm0RefIdeal.nD Cert.Mlstm0RefIdeal.τ).loc Cert.Mlstm0RefIdeal.main_arg4))

def preserves_Mlstm1_Mlstm1Ideal : Prop :=
  True

def algebraic_Mlstm1Ideal_Mlstm1RefIdeal [hMlstm1Ideal : Cert.Mlstm1Ideal.Facts] [hMlstm1RefIdeal : Cert.Mlstm1RefIdeal.Facts] : Prop :=
  ∀ (m : (ℓ : Loc Cert.Mlstm1Ideal.nD Cert.Mlstm1Ideal.τ Cert.Mlstm1Ideal.sig) → Buf (Elt Ideal) ℓ) (g : Dev Cert.Mlstm1Ideal.nD → PrngReg)
    (m' : (ℓ : Loc Cert.Mlstm1RefIdeal.nD Cert.Mlstm1RefIdeal.τ Cert.Mlstm1RefIdeal.sig) → Buf (Elt Ideal) ℓ) (g' : Dev Cert.Mlstm1RefIdeal.nD → PrngReg), Pre_Mlstm1Ideal m →
    (∀ c : Dev Cert.Mlstm1Ideal.nD,
      m' ((c.tc : Thread Cert.Mlstm1RefIdeal.nD Cert.Mlstm1RefIdeal.τ).loc Cert.Mlstm1RefIdeal.main_arg0) = m ((c.tc : Thread Cert.Mlstm1Ideal.nD Cert.Mlstm1Ideal.τ).loc Cert.Mlstm1Ideal.main_arg0)
      ∧ m' ((c.tc : Thread Cert.Mlstm1RefIdeal.nD Cert.Mlstm1RefIdeal.τ).loc Cert.Mlstm1RefIdeal.main_arg1) = m ((c.tc : Thread Cert.Mlstm1Ideal.nD Cert.Mlstm1Ideal.τ).loc Cert.Mlstm1Ideal.main_arg1)
      ∧ m' ((c.tc : Thread Cert.Mlstm1RefIdeal.nD Cert.Mlstm1RefIdeal.τ).loc Cert.Mlstm1RefIdeal.main_arg2) = m ((c.tc : Thread Cert.Mlstm1Ideal.nD Cert.Mlstm1Ideal.τ).loc Cert.Mlstm1Ideal.main_arg2)
      ∧ m' ((c.tc : Thread Cert.Mlstm1RefIdeal.nD Cert.Mlstm1RefIdeal.τ).loc Cert.Mlstm1RefIdeal.main_arg3) = m ((c.tc : Thread Cert.Mlstm1Ideal.nD Cert.Mlstm1Ideal.τ).loc Cert.Mlstm1Ideal.main_arg3)
      ∧ m' ((c.tc : Thread Cert.Mlstm1RefIdeal.nD Cert.Mlstm1RefIdeal.τ).loc Cert.Mlstm1RefIdeal.main_arg4) = m ((c.tc : Thread Cert.Mlstm1Ideal.nD Cert.Mlstm1Ideal.τ).loc Cert.Mlstm1Ideal.main_arg4)) →
    ∃ (v0 : (c : Dev Cert.Mlstm1Ideal.nD) → Buf (Elt Ideal) ((c.tc : Thread Cert.Mlstm1Ideal.nD Cert.Mlstm1Ideal.τ).loc Cert.Mlstm1Ideal.main_v16_0)) (v1 : (c : Dev Cert.Mlstm1Ideal.nD) → Buf (Elt Ideal) ((c.tc : Thread Cert.Mlstm1Ideal.nD Cert.Mlstm1Ideal.τ).loc Cert.Mlstm1Ideal.main_v16_1)) (v2 : (c : Dev Cert.Mlstm1Ideal.nD) → Buf (Elt Ideal) ((c.tc : Thread Cert.Mlstm1Ideal.nD Cert.Mlstm1Ideal.τ).loc Cert.Mlstm1Ideal.main_v16_2)) (v3 : (c : Dev Cert.Mlstm1Ideal.nD) → Buf (Elt Ideal) ((c.tc : Thread Cert.Mlstm1Ideal.nD Cert.Mlstm1Ideal.τ).loc Cert.Mlstm1Ideal.main_v16_3)),
      θ_run (Cert.Mlstm1Ideal.defs (F := Ideal)) (onTc (τ := Cert.Mlstm1Ideal.τ) (Cert.Mlstm1Ideal.main (F := Ideal))) ⟨m, fun _ => 0, g⟩ (fun r => ∀ c : Dev Cert.Mlstm1Ideal.nD,
          r.2.mem ((c.tc : Thread Cert.Mlstm1Ideal.nD Cert.Mlstm1Ideal.τ).loc Cert.Mlstm1Ideal.main_v16_0) = v0 c
          ∧ r.2.mem ((c.tc : Thread Cert.Mlstm1Ideal.nD Cert.Mlstm1Ideal.τ).loc Cert.Mlstm1Ideal.main_v16_1) = v1 c
          ∧ r.2.mem ((c.tc : Thread Cert.Mlstm1Ideal.nD Cert.Mlstm1Ideal.τ).loc Cert.Mlstm1Ideal.main_v16_2) = v2 c
          ∧ r.2.mem ((c.tc : Thread Cert.Mlstm1Ideal.nD Cert.Mlstm1Ideal.τ).loc Cert.Mlstm1Ideal.main_v16_3) = v3 c
          ∧ r.2.mem ((c.tc : Thread Cert.Mlstm1Ideal.nD Cert.Mlstm1Ideal.τ).loc Cert.Mlstm1Ideal.main_arg0) = m ((c.tc : Thread Cert.Mlstm1Ideal.nD Cert.Mlstm1Ideal.τ).loc Cert.Mlstm1Ideal.main_arg0)
          ∧ r.2.mem ((c.tc : Thread Cert.Mlstm1Ideal.nD Cert.Mlstm1Ideal.τ).loc Cert.Mlstm1Ideal.main_arg1) = m ((c.tc : Thread Cert.Mlstm1Ideal.nD Cert.Mlstm1Ideal.τ).loc Cert.Mlstm1Ideal.main_arg1)
          ∧ r.2.mem ((c.tc : Thread Cert.Mlstm1Ideal.nD Cert.Mlstm1Ideal.τ).loc Cert.Mlstm1Ideal.main_arg2) = m ((c.tc : Thread Cert.Mlstm1Ideal.nD Cert.Mlstm1Ideal.τ).loc Cert.Mlstm1Ideal.main_arg2)
          ∧ r.2.mem ((c.tc : Thread Cert.Mlstm1Ideal.nD Cert.Mlstm1Ideal.τ).loc Cert.Mlstm1Ideal.main_arg3) = m ((c.tc : Thread Cert.Mlstm1Ideal.nD Cert.Mlstm1Ideal.τ).loc Cert.Mlstm1Ideal.main_arg3)
          ∧ r.2.mem ((c.tc : Thread Cert.Mlstm1Ideal.nD Cert.Mlstm1Ideal.τ).loc Cert.Mlstm1Ideal.main_arg4) = m ((c.tc : Thread Cert.Mlstm1Ideal.nD Cert.Mlstm1Ideal.τ).loc Cert.Mlstm1Ideal.main_arg4))
      ∧ θ_run (Cert.Mlstm1RefIdeal.defs (F := Ideal)) (onTc (τ := Cert.Mlstm1RefIdeal.τ) (Cert.Mlstm1RefIdeal.main (F := Ideal))) ⟨m', fun _ => 0, g'⟩ (fun r => ∀ c : Dev Cert.Mlstm1RefIdeal.nD,
          r.2.mem ((c.tc : Thread Cert.Mlstm1RefIdeal.nD Cert.Mlstm1RefIdeal.τ).loc Cert.Mlstm1RefIdeal.main_v227) = v0 c
          ∧ r.2.mem ((c.tc : Thread Cert.Mlstm1RefIdeal.nD Cert.Mlstm1RefIdeal.τ).loc Cert.Mlstm1RefIdeal.main_v230) = v1 c
          ∧ r.2.mem ((c.tc : Thread Cert.Mlstm1RefIdeal.nD Cert.Mlstm1RefIdeal.τ).loc Cert.Mlstm1RefIdeal.main_v233) = v2 c
          ∧ r.2.mem ((c.tc : Thread Cert.Mlstm1RefIdeal.nD Cert.Mlstm1RefIdeal.τ).loc Cert.Mlstm1RefIdeal.main_v235) = v3 c
          ∧ r.2.mem ((c.tc : Thread Cert.Mlstm1RefIdeal.nD Cert.Mlstm1RefIdeal.τ).loc Cert.Mlstm1RefIdeal.main_arg0) = m' ((c.tc : Thread Cert.Mlstm1RefIdeal.nD Cert.Mlstm1RefIdeal.τ).loc Cert.Mlstm1RefIdeal.main_arg0)
          ∧ r.2.mem ((c.tc : Thread Cert.Mlstm1RefIdeal.nD Cert.Mlstm1RefIdeal.τ).loc Cert.Mlstm1RefIdeal.main_arg1) = m' ((c.tc : Thread Cert.Mlstm1RefIdeal.nD Cert.Mlstm1RefIdeal.τ).loc Cert.Mlstm1RefIdeal.main_arg1)
          ∧ r.2.mem ((c.tc : Thread Cert.Mlstm1RefIdeal.nD Cert.Mlstm1RefIdeal.τ).loc Cert.Mlstm1RefIdeal.main_arg2) = m' ((c.tc : Thread Cert.Mlstm1RefIdeal.nD Cert.Mlstm1RefIdeal.τ).loc Cert.Mlstm1RefIdeal.main_arg2)
          ∧ r.2.mem ((c.tc : Thread Cert.Mlstm1RefIdeal.nD Cert.Mlstm1RefIdeal.τ).loc Cert.Mlstm1RefIdeal.main_arg3) = m' ((c.tc : Thread Cert.Mlstm1RefIdeal.nD Cert.Mlstm1RefIdeal.τ).loc Cert.Mlstm1RefIdeal.main_arg3)
          ∧ r.2.mem ((c.tc : Thread Cert.Mlstm1RefIdeal.nD Cert.Mlstm1RefIdeal.τ).loc Cert.Mlstm1RefIdeal.main_arg4) = m' ((c.tc : Thread Cert.Mlstm1RefIdeal.nD Cert.Mlstm1RefIdeal.τ).loc Cert.Mlstm1RefIdeal.main_arg4))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hInMl0 : Cert.InMl0.Facts) (hInMl0Ideal : Cert.InMl0Ideal.Facts) (hInMl0RefIdeal : Cert.InMl0RefIdeal.Facts) (hInMl1 : Cert.InMl1.Facts) (hInMl1Ideal : Cert.InMl1Ideal.Facts) (hInMl1RefIdeal : Cert.InMl1RefIdeal.Facts) (hInGate0 : Cert.InGate0.Facts) (hInGate0Ideal : Cert.InGate0Ideal.Facts) (hInGate0RefIdeal : Cert.InGate0RefIdeal.Facts) (hInGate1 : Cert.InGate1.Facts) (hInGate1Ideal : Cert.InGate1Ideal.Facts) (hInGate1RefIdeal : Cert.InGate1RefIdeal.Facts) (hInMix0 : Cert.InMix0.Facts) (hInMix0Ideal : Cert.InMix0Ideal.Facts) (hInMix0RefIdeal : Cert.InMix0RefIdeal.Facts) (hInMix1 : Cert.InMix1.Facts) (hInMix1Ideal : Cert.InMix1Ideal.Facts) (hInMix1RefIdeal : Cert.InMix1RefIdeal.Facts) (hInGl0 : Cert.InGl0.Facts) (hInGl0Ideal : Cert.InGl0Ideal.Facts) (hInGl0RefIdeal : Cert.InGl0RefIdeal.Facts) (hInGl1 : Cert.InGl1.Facts) (hInGl1Ideal : Cert.InGl1Ideal.Facts) (hInGl1RefIdeal : Cert.InGl1RefIdeal.Facts) (hMerge0 : Cert.Merge0.Facts) (hMerge0Ideal : Cert.Merge0Ideal.Facts) (hMerge0RefIdeal : Cert.Merge0RefIdeal.Facts) (hOut0 : Cert.Out0.Facts) (hOut0Ideal : Cert.Out0Ideal.Facts) (hOut0RefIdeal : Cert.Out0RefIdeal.Facts) (hMerge1 : Cert.Merge1.Facts) (hMerge1Ideal : Cert.Merge1Ideal.Facts) (hMerge1RefIdeal : Cert.Merge1RefIdeal.Facts) (hOut1 : Cert.Out1.Facts) (hOut1Ideal : Cert.Out1Ideal.Facts) (hOut1RefIdeal : Cert.Out1RefIdeal.Facts) (hFinalCtx : Cert.FinalCtx.Facts) (hFinalCtxIdeal : Cert.FinalCtxIdeal.Facts) (hFinalCtxRefIdeal : Cert.FinalCtxRefIdeal.Facts) (hFinalLat : Cert.FinalLat.Facts) (hFinalLatIdeal : Cert.FinalLatIdeal.Facts) (hFinalLatRefIdeal : Cert.FinalLatRefIdeal.Facts) (hMlstm0 : Cert.Mlstm0.Facts) (hMlstm0Ideal : Cert.Mlstm0Ideal.Facts) (hMlstm0RefIdeal : Cert.Mlstm0RefIdeal.Facts) (hMlstm1 : Cert.Mlstm1.Facts) (hMlstm1Ideal : Cert.Mlstm1Ideal.Facts) (hMlstm1RefIdeal : Cert.Mlstm1RefIdeal.Facts) (hPre_down_tables : Cert.Pre_down_tables.Facts) (hPre_up_tables : Cert.Pre_up_tables.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown) (hPre_down_tables := hPre_down_tables)
    ∧ quiescent_DownIdeal (hDownIdeal := hDownIdeal) (hPre_down_tables := hPre_down_tables)
    ∧ quiescent_DownRefIdeal (hDownRefIdeal := hDownRefIdeal)
    ∧ quiescent_DownRefIdeal_pre_down_tables (hDownRefIdeal := hDownRefIdeal) (hPre_down_tables := hPre_down_tables)
    ∧ quiescent_Up (hUp := hUp) (hPre_up_tables := hPre_up_tables)
    ∧ quiescent_UpIdeal (hUpIdeal := hUpIdeal) (hPre_up_tables := hPre_up_tables)
    ∧ quiescent_UpRefIdeal (hUpRefIdeal := hUpRefIdeal)
    ∧ quiescent_UpRefIdeal_pre_up_tables (hUpRefIdeal := hUpRefIdeal) (hPre_up_tables := hPre_up_tables)
    ∧ quiescent_InMl0 (hInMl0 := hInMl0)
    ∧ quiescent_InMl0Ideal (hInMl0Ideal := hInMl0Ideal)
    ∧ quiescent_InMl0RefIdeal (hInMl0RefIdeal := hInMl0RefIdeal)
    ∧ quiescent_InMl1 (hInMl1 := hInMl1)
    ∧ quiescent_InMl1Ideal (hInMl1Ideal := hInMl1Ideal)
    ∧ quiescent_InMl1RefIdeal (hInMl1RefIdeal := hInMl1RefIdeal)
    ∧ quiescent_InGate0 (hInGate0 := hInGate0)
    ∧ quiescent_InGate0Ideal (hInGate0Ideal := hInGate0Ideal)
    ∧ quiescent_InGate0RefIdeal (hInGate0RefIdeal := hInGate0RefIdeal)
    ∧ quiescent_InGate1 (hInGate1 := hInGate1)
    ∧ quiescent_InGate1Ideal (hInGate1Ideal := hInGate1Ideal)
    ∧ quiescent_InGate1RefIdeal (hInGate1RefIdeal := hInGate1RefIdeal)
    ∧ quiescent_InMix0 (hInMix0 := hInMix0)
    ∧ quiescent_InMix0Ideal (hInMix0Ideal := hInMix0Ideal)
    ∧ quiescent_InMix0RefIdeal (hInMix0RefIdeal := hInMix0RefIdeal)
    ∧ quiescent_InMix1 (hInMix1 := hInMix1)
    ∧ quiescent_InMix1Ideal (hInMix1Ideal := hInMix1Ideal)
    ∧ quiescent_InMix1RefIdeal (hInMix1RefIdeal := hInMix1RefIdeal)
    ∧ quiescent_InGl0 (hInGl0 := hInGl0)
    ∧ quiescent_InGl0Ideal (hInGl0Ideal := hInGl0Ideal)
    ∧ quiescent_InGl0RefIdeal (hInGl0RefIdeal := hInGl0RefIdeal)
    ∧ quiescent_InGl1 (hInGl1 := hInGl1)
    ∧ quiescent_InGl1Ideal (hInGl1Ideal := hInGl1Ideal)
    ∧ quiescent_InGl1RefIdeal (hInGl1RefIdeal := hInGl1RefIdeal)
    ∧ quiescent_Merge0 (hMerge0 := hMerge0)
    ∧ quiescent_Merge0Ideal (hMerge0Ideal := hMerge0Ideal)
    ∧ quiescent_Merge0RefIdeal (hMerge0RefIdeal := hMerge0RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Merge1 (hMerge1 := hMerge1)
    ∧ quiescent_Merge1Ideal (hMerge1Ideal := hMerge1Ideal)
    ∧ quiescent_Merge1RefIdeal (hMerge1RefIdeal := hMerge1RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_FinalCtx (hFinalCtx := hFinalCtx)
    ∧ quiescent_FinalCtxIdeal (hFinalCtxIdeal := hFinalCtxIdeal)
    ∧ quiescent_FinalCtxRefIdeal (hFinalCtxRefIdeal := hFinalCtxRefIdeal)
    ∧ quiescent_FinalLat (hFinalLat := hFinalLat)
    ∧ quiescent_FinalLatIdeal (hFinalLatIdeal := hFinalLatIdeal)
    ∧ quiescent_FinalLatRefIdeal (hFinalLatRefIdeal := hFinalLatRefIdeal)
    ∧ quiescent_Mlstm0 (hMlstm0 := hMlstm0)
    ∧ quiescent_Mlstm0Ideal (hMlstm0Ideal := hMlstm0Ideal)
    ∧ quiescent_Mlstm0RefIdeal (hMlstm0RefIdeal := hMlstm0RefIdeal)
    ∧ quiescent_Mlstm1 (hMlstm1 := hMlstm1)
    ∧ quiescent_Mlstm1Ideal (hMlstm1Ideal := hMlstm1Ideal)
    ∧ quiescent_Mlstm1RefIdeal (hMlstm1RefIdeal := hMlstm1RefIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal) (hPre_down_tables := hPre_down_tables)
    ∧ preserves_Up_UpIdeal
    ∧ algebraic_UpIdeal_UpRefIdeal (hUpIdeal := hUpIdeal) (hUpRefIdeal := hUpRefIdeal) (hPre_up_tables := hPre_up_tables)
    ∧ preserves_InMl0_InMl0Ideal
    ∧ algebraic_InMl0Ideal_InMl0RefIdeal (hInMl0Ideal := hInMl0Ideal) (hInMl0RefIdeal := hInMl0RefIdeal)
    ∧ preserves_InMl1_InMl1Ideal
    ∧ algebraic_InMl1Ideal_InMl1RefIdeal (hInMl1Ideal := hInMl1Ideal) (hInMl1RefIdeal := hInMl1RefIdeal)
    ∧ preserves_InGate0_InGate0Ideal
    ∧ algebraic_InGate0Ideal_InGate0RefIdeal (hInGate0Ideal := hInGate0Ideal) (hInGate0RefIdeal := hInGate0RefIdeal)
    ∧ preserves_InGate1_InGate1Ideal
    ∧ algebraic_InGate1Ideal_InGate1RefIdeal (hInGate1Ideal := hInGate1Ideal) (hInGate1RefIdeal := hInGate1RefIdeal)
    ∧ preserves_InMix0_InMix0Ideal
    ∧ algebraic_InMix0Ideal_InMix0RefIdeal (hInMix0Ideal := hInMix0Ideal) (hInMix0RefIdeal := hInMix0RefIdeal)
    ∧ preserves_InMix1_InMix1Ideal
    ∧ algebraic_InMix1Ideal_InMix1RefIdeal (hInMix1Ideal := hInMix1Ideal) (hInMix1RefIdeal := hInMix1RefIdeal)
    ∧ preserves_InGl0_InGl0Ideal
    ∧ algebraic_InGl0Ideal_InGl0RefIdeal (hInGl0Ideal := hInGl0Ideal) (hInGl0RefIdeal := hInGl0RefIdeal)
    ∧ preserves_InGl1_InGl1Ideal
    ∧ algebraic_InGl1Ideal_InGl1RefIdeal (hInGl1Ideal := hInGl1Ideal) (hInGl1RefIdeal := hInGl1RefIdeal)
    ∧ preserves_Merge0_Merge0Ideal
    ∧ algebraic_Merge0Ideal_Merge0RefIdeal (hMerge0Ideal := hMerge0Ideal) (hMerge0RefIdeal := hMerge0RefIdeal)
    ∧ preserves_Out0_Out0Ideal
    ∧ algebraic_Out0Ideal_Out0RefIdeal (hOut0Ideal := hOut0Ideal) (hOut0RefIdeal := hOut0RefIdeal)
    ∧ preserves_Merge1_Merge1Ideal
    ∧ algebraic_Merge1Ideal_Merge1RefIdeal (hMerge1Ideal := hMerge1Ideal) (hMerge1RefIdeal := hMerge1RefIdeal)
    ∧ preserves_Out1_Out1Ideal
    ∧ algebraic_Out1Ideal_Out1RefIdeal (hOut1Ideal := hOut1Ideal) (hOut1RefIdeal := hOut1RefIdeal)
    ∧ preserves_FinalCtx_FinalCtxIdeal
    ∧ algebraic_FinalCtxIdeal_FinalCtxRefIdeal (hFinalCtxIdeal := hFinalCtxIdeal) (hFinalCtxRefIdeal := hFinalCtxRefIdeal)
    ∧ preserves_FinalLat_FinalLatIdeal
    ∧ algebraic_FinalLatIdeal_FinalLatRefIdeal (hFinalLatIdeal := hFinalLatIdeal) (hFinalLatRefIdeal := hFinalLatRefIdeal)
    ∧ preserves_Mlstm0_Mlstm0Ideal
    ∧ algebraic_Mlstm0Ideal_Mlstm0RefIdeal (hMlstm0Ideal := hMlstm0Ideal) (hMlstm0RefIdeal := hMlstm0RefIdeal)
    ∧ preserves_Mlstm1_Mlstm1Ideal
    ∧ algebraic_Mlstm1Ideal_Mlstm1RefIdeal (hMlstm1Ideal := hMlstm1Ideal) (hMlstm1RefIdeal := hMlstm1RefIdeal)
-- ==== Pre_down_tables.lean ====
abbrev S112 : Shape := ⟨1, ![112]⟩
abbrev S1 : Shape := ⟨1, ![1]⟩
abbrev S57344x1024 : Shape := ⟨2, ![57344, 1024]⟩
abbrev S2x32x1024x4096 : Shape := ⟨4, ![2, 32, 1024, 4096]⟩
abbrev S2x32x4096 : Shape := ⟨3, ![2, 32, 4096]⟩
abbrev S_ : Shape := ⟨0, ![]⟩

class Facts : Prop where
  bcast_S_S112 : S_.BroadcastsInDim S112 (![] : Fin 0 → Fin S112.rank)
  shapeCasts_S1_S_ : S1.ShapeCasts S_

variable [Facts]

def fn {F : FTy → Type} [FloatOps F] (main_arg0 : IVec S112 32) (main_arg1 : IVec S1 32) (main_arg2 : FVec F S57344x1024 .bf16) (main_arg3 : FVec F S2x32x1024x4096 .f32) (main_arg4 : FVec F S2x32x4096 .f32) : IVec S112 1 :=
  let main_c : IVec S_ 32 := constantI S_ 32 0#32
  let main_v0 : IVec S112 32 := broadcastInDim S112 ![] bcast_S_S112 main_c
  let main_v1 : IVec S112 1 := cmpi .sge main_arg0 main_v0
  let main_c_0 : IVec S_ 32 := constantI S_ 32 31#32
  let main_v2 : IVec S112 32 := broadcastInDim S112 ![] bcast_S_S112 main_c_0
  let main_v3 : IVec S112 1 := cmpi .sle main_arg0 main_v2
  let main_v4 : IVec S112 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S112 1 := broadcastInDim S112 ![] bcast_S_S112 main_v6
  let main_v8 : IVec S112 1 := andi main_v4 main_v7
  main_v8
-- ==== Pre_up_tables.lean ====
abbrev S112 : Shape := ⟨1, ![112]⟩
abbrev S1 : Shape := ⟨1, ![1]⟩
abbrev S57344x4096 : Shape := ⟨2, ![57344, 4096]⟩
abbrev S2x32x4096x1024 : Shape := ⟨4, ![2, 32, 4096, 1024]⟩
abbrev S2x32x1024 : Shape := ⟨3, ![2, 32, 1024]⟩
abbrev S_ : Shape := ⟨0, ![]⟩

class Facts : Prop where
  bcast_S_S112 : S_.BroadcastsInDim S112 (![] : Fin 0 → Fin S112.rank)
  shapeCasts_S1_S_ : S1.ShapeCasts S_

variable [Facts]

def fn {F : FTy → Type} [FloatOps F] (main_arg0 : IVec S112 32) (main_arg1 : IVec S1 32) (main_arg2 : FVec F S57344x4096 .bf16) (main_arg3 : FVec F S2x32x4096x1024 .f32) (main_arg4 : FVec F S2x32x1024 .f32) (main_arg5 : FVec F S2x32x4096x1024 .f32) (main_arg6 : FVec F S2x32x1024 .f32) : IVec S112 1 :=
  let main_c : IVec S_ 32 := constantI S_ 32 0#32
  let main_v0 : IVec S112 32 := broadcastInDim S112 ![] bcast_S_S112 main_c
  let main_v1 : IVec S112 1 := cmpi .sge main_arg0 main_v0
  let main_c_0 : IVec S_ 32 := constantI S_ 32 31#32
  let main_v2 : IVec S112 32 := broadcastInDim S112 ![] bcast_S_S112 main_c_0
  let main_v3 : IVec S112 1 := cmpi .sle main_arg0 main_v2
  let main_v4 : IVec S112 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S112 1 := broadcastInDim S112 ![] bcast_S_S112 main_v6
  let main_v8 : IVec S112 1 := andi main_v4 main_v7
  main_v8
-- ==== Kernel.lean ====
abbrev S10240x6144 : Shape := ⟨2, ![10240, 6144]⟩
abbrev S2x4x64 : Shape := ⟨3, ![2, 4, 64]⟩
abbrev S2x128 : Shape := ⟨2, ![2, 128]⟩
abbrev S2x1x128 : Shape := ⟨3, ![2, 1, 128]⟩
abbrev S8192x1024 : Shape := ⟨2, ![8192, 1024]⟩
abbrev S256x128 : Shape := ⟨2, ![256, 128]⟩
abbrev S1x4x64 : Shape := ⟨3, ![1, 4, 64]⟩
abbrev S1x1x128 : Shape := ⟨3, ![1, 1, 128]⟩
abbrev S4x64 : Shape := ⟨2, ![4, 64]⟩
abbrev S1x64 : Shape := ⟨2, ![1, 64]⟩
abbrev S1 : Shape := ⟨1, ![1]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1x128 : Shape := ⟨2, ![1, 128]⟩

abbrev nBuf : Space → Nat
  | .hbm => 5
  | .vmem => 12
  | .smem => 0
  | _ => 0

abbrev bufTy : (tb : Table) → Fin (tcTables nBuf tb) → BufTy
  | .hbm, ⟨0, _⟩ => ⟨S10240x6144, .f32⟩
  | .hbm, ⟨1, _⟩ => ⟨S2x4x64, .f32⟩
  | .hbm, ⟨2, _⟩ => ⟨S2x128, .f32⟩
  | .hbm, ⟨3, _⟩ => ⟨S2x1x128, .f32⟩
  | .hbm, ⟨4, _⟩ => ⟨S8192x1024, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x4x64, .f32⟩
  | .local _ .vmem, ⟨7, _⟩ => ⟨S1x1x128, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | _, _ => ⟨S10240x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![32, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S10240x6144 : Shape := ⟨2, ![10240, 6144]⟩
abbrev S2x4x64 : Shape := ⟨3, ![2, 4, 64]⟩
abbrev S2x128 : Shape := ⟨2, ![2, 128]⟩
abbrev S8192x3072 : Shape := ⟨2, ![8192, 3072]⟩
abbrev S32x256x3072 : Shape := ⟨3, ![32, 256, 3072]⟩
abbrev S32x256x1024 : Shape := ⟨3, ![32, 256, 1024]⟩
abbrev S32x256x8x2x64 : Shape := ⟨5, ![32, 256, 8, 2, 64]⟩
abbrev S32x256x8x128 : Shape := ⟨4, ![32, 256, 8, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S32x8x2x256x256 : Shape := ⟨5, ![32, 8, 2, 256, 256]⟩
abbrev S32x8x2x256 : Shape := ⟨4, ![32, 8, 2, 256]⟩
abbrev S32x8x2x256x1 : Shape := ⟨5, ![32, 8, 2, 256, 1]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S1x128 : Shape := ⟨2, ![1, 128]⟩
abbrev S128 : Shape := ⟨1, ![128]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S8192x1024 : Shape := ⟨2, ![8192, 1024]⟩

abbrev nBuf : Space → Nat
  | .hbm => 82
  | .vmem => 0
  | .smem => 0
  | _ => 0

abbrev bufTy : (tb : Table) → Fin (tcTables nBuf tb) → BufTy
  | .hbm, ⟨0, _⟩ => ⟨S10240x6144, .f32⟩
  | .hbm, ⟨1, _⟩ => ⟨S2x4x64, .f32⟩
  | .hbm, ⟨2, _⟩ => ⟨S2x128, .f32⟩
  | .hbm, ⟨3, _⟩ => ⟨S8192x3072, .f32⟩
  | .hbm, ⟨4, _⟩ => ⟨S32x256x3072, .f32⟩
  | .hbm, ⟨5, _⟩ => ⟨S32x256x1024, .f32⟩
  | .hbm, ⟨6, _⟩ => ⟨S32x256x8x2x64, .f32⟩
  | .hbm, ⟨7, _⟩ => ⟨S32x256x1024, .f32⟩
  | .hbm, ⟨8, _⟩ => ⟨S32x256x8x2x64, .f32⟩
  | .hbm, ⟨9, _⟩ => ⟨S32x256x1024, .f32⟩
  | .hbm, ⟨10, _⟩ => ⟨S32x256x8x128, .f32⟩
  | .hbm, ⟨11, _⟩ => ⟨S1x4x64, .f32⟩
  | .hbm, ⟨12, _⟩ => ⟨S4x64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x64, .f32⟩
  | .hbm, ⟨22, _⟩ => ⟨S64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x8x2x256x256, .f32⟩
  | .hbm, ⟨33, _⟩ => ⟨S_, .f32⟩
  | .hbm, ⟨34, _⟩ => ⟨S32x8x2x256x256, .f32⟩
  | .hbm, ⟨35, _⟩ => ⟨S32x8x2x256x256, .f32⟩
  | .hbm, ⟨36, _⟩ => ⟨S_, .f32⟩
  | .hbm, ⟨37, _⟩ => ⟨S32x8x2x256, .f32⟩
  | .hbm, ⟨38, _⟩ => ⟨S_, .f32⟩
  | .hbm, ⟨39, _⟩ => ⟨S32x8x2x256, .f32⟩
  | .hbm, ⟨40, _⟩ => ⟨S32x8x2x256, .f32⟩
  | .hbm, ⟨41, _⟩ => ⟨S32x8x2x256x1, .f32⟩
  | .hbm, ⟨42, _⟩ => ⟨S32x8x2x256x256, .f32⟩
  | .hbm, ⟨43, _⟩ => ⟨S32x8x2x256x256, .f32⟩
  | .hbm, ⟨44, _⟩ => ⟨S32x8x2x256x256, .f32⟩
  | .hbm, ⟨45, _⟩ => ⟨S_, .f32⟩
  | .hbm, ⟨46, _⟩ => ⟨S32x8x2x256, .f32⟩
  | .hbm, ⟨47, _⟩ => ⟨S32x8x2x256x1, .f32⟩
  | .hbm, ⟨48, _⟩ => ⟨S32x8x2x256x256, .f32⟩
  | .hbm, ⟨49, _⟩ => ⟨S32x8x2x256x256, .f32⟩
  | .hbm, ⟨50, _⟩ => ⟨S32x8x1x256x256, .f32⟩
  | .hbm, ⟨51, _⟩ => ⟨S32x8x256x256, .f32⟩
  | .hbm, ⟨52, _⟩ => ⟨S32x8x1x256x256, .f32⟩
  | .hbm, ⟨53, _⟩ => ⟨S32x8x256x256, .f32⟩
  | .hbm, ⟨54, _⟩ => ⟨S32x8x256x256, .f32⟩
  | .hbm, ⟨55, _⟩ => ⟨S32x8x256x256, .f32⟩
  | .hbm, ⟨56, _⟩ => ⟨S32x8x256x256, .f32⟩
  | .hbm, ⟨57, _⟩ => ⟨S32x8x128x256, .f32⟩
  | .hbm, ⟨58, _⟩ => ⟨S32x256x8x128, .f32⟩
  | .hbm, ⟨59, _⟩ => ⟨S1x128, .f32⟩
  | .hbm, ⟨60, _⟩ => ⟨S128, .f32⟩
  | .hbm, ⟨61, _⟩ => ⟨S32x256x8x128, .f32⟩
  | .hbm, ⟨62, _⟩ => ⟨S_, .f32⟩
  | .hbm, ⟨63, _⟩ => ⟨S32x256x8, .f32⟩
  | .hbm, ⟨64, _⟩ => ⟨S32x256x8x1, .f32⟩
  | .hbm, ⟨65, _⟩ => ⟨S_, .f32⟩
  | .hbm, ⟨66, _⟩ => ⟨S32x256x8x1, .f32⟩
  | .hbm, ⟨67, _⟩ => ⟨S32x256x8x1, .f32⟩
  | .hbm, ⟨68, _⟩ => ⟨S_, .f32⟩
  | .hbm, ⟨69, _⟩ => ⟨S32x256x8x1, .f32⟩
  | .hbm, ⟨70, _⟩ => ⟨S32x256x8x1, .f32⟩
  | .hbm, ⟨71, _⟩ => ⟨S32x256x8x1, .f32⟩
  | .hbm, ⟨72, _⟩ => ⟨S32x256x8x128, .f32⟩
  | .hbm, ⟨73, _⟩ => ⟨S32x256x8x128, .f32⟩
  | .hbm, ⟨74, _⟩ => ⟨S1x1x1x128, .f32⟩
  | .hbm, ⟨75, _⟩ => ⟨S32x256x8x128, .f32⟩
  | .hbm, ⟨76, _⟩ => ⟨S32x256x8x128, .f32⟩
  | .hbm, ⟨77, _⟩ => ⟨S_, .f32⟩
  | .hbm, ⟨78, _⟩ => ⟨S32x256x8x128, .f32⟩
  | .hbm, ⟨79, _⟩ => ⟨S32x256x8x128, .f32⟩
  | .hbm, ⟨80, _⟩ => ⟨S8192x1024, .f32⟩
  | .hbm, ⟨81, _⟩ => ⟨S8192x1024, .bf16⟩
  | _, _ => ⟨S10240x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_9 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩

abbrev nD : Nat := 1
abbrev τ : Topo := Topo.v7x

variable {F : FTy → Type} [FloatOps F]
-- ==== Down.lean ====
abbrev S112 : Shape := ⟨1, ![112]⟩
abbrev S1 : Shape := ⟨1, ![1]⟩
abbrev S57344x1024 : Shape := ⟨2, ![57344, 1024]⟩
abbrev S2x32x1024x4096 : Shape := ⟨4, ![2, 32, 1024, 4096]⟩
abbrev S2x32x4096 : Shape := ⟨3, ![2, 32, 4096]⟩
abbrev S_ : Shape := ⟨0, ![]⟩
abbrev S112x1 : Shape := ⟨2, ![112, 1]⟩
abbrev S2x32x1x4096 : Shape := ⟨4, ![2, 32, 1, 4096]⟩
abbrev S57344x4096 : Shape := ⟨2, ![57344, 4096]⟩
abbrev S512x1024 : Shape := ⟨2, ![512, 1024]⟩
abbrev S1x1x1024x1024 : Shape := ⟨4, ![1, 1, 1024, 1024]⟩
abbrev S1x1x1x1024 : Shape := ⟨4, ![1, 1, 1, 1024]⟩
abbrev S1024x1024 : Shape := ⟨2, ![1024, 1024]⟩
abbrev S1x1024 : Shape := ⟨2, ![1, 1024]⟩

abbrev nBuf : Space → Nat
  | .hbm => 20
  | .vmem => 8
  | .smem => 2
  | _ => 0

abbrev bufTy : (tb : Table) → Fin (tcTables nBuf tb) → BufTy
  | .hbm, ⟨0, _⟩ => ⟨S112, .i32⟩
  | .hbm, ⟨1, _⟩ => ⟨S57344x1024, .bf16⟩
  | .hbm, ⟨2, _⟩ => ⟨S2x32x1024x4096, .f32⟩
  | .hbm, ⟨3, _⟩ => ⟨S2x32x4096, .f32⟩
  | .hbm, ⟨4, _⟩ => ⟨S112, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S112, .i32⟩
  | .hbm, ⟨9, _⟩ => ⟨S112, .i32⟩
  | .hbm, ⟨10, _⟩ => ⟨S_, .i32⟩
  | .hbm, ⟨11, _⟩ => ⟨S112, .i32⟩
  | .hbm, ⟨12, _⟩ => ⟨S112, .i1⟩
  | .hbm, ⟨13, _⟩ => ⟨S_, .i32⟩
  | .hbm, ⟨14, _⟩ => ⟨S112, .i32⟩
  | .hbm, ⟨15, _⟩ => ⟨S112, .i32⟩
  | .hbm, ⟨16, _⟩ => ⟨S112, .i32⟩
  | .hbm, ⟨17, _⟩ => ⟨S112x1, .i32⟩
  | .hbm, ⟨18, _⟩ => ⟨S2x32x1x4096, .f32⟩
  | .hbm, ⟨19, _⟩ => ⟨S57344x4096, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .smem, ⟨0, _⟩ => ⟨S112, .i32⟩
  | .local _ .smem, ⟨1, _⟩ => ⟨S1, .i32⟩
  | _, _ => ⟨S112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_v13 : Ref sig .tc := ⟨.hbm, 19, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 112], ![false, false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S112 : Shape := ⟨1, ![112]⟩
abbrev S1 : Shape := ⟨1, ![1]⟩
abbrev S57344x1024 : Shape := ⟨2, ![57344, 1024]⟩
abbrev S2x32x1024x4096 : Shape := ⟨4, ![2, 32, 1024, 4096]⟩
abbrev S2x32x4096 : Shape := ⟨3, ![2, 32, 4096]⟩
abbrev S112x512x1024 : Shape := ⟨3, ![112, 512, 1024]⟩
abbrev S1x32x1024x4096 : Shape := ⟨4, ![1, 32, 1024, 4096]⟩
abbrev S32x1024x4096 : Shape := ⟨3, ![32, 1024, 4096]⟩
abbrev S_ : Shape := ⟨0, ![]⟩
abbrev S112x1 : Shape := ⟨2, ![112, 1]⟩
abbrev S112x1024x4096 : Shape := ⟨3, ![112, 1024, 4096]⟩
abbrev S1x32x4096 : Shape := ⟨3, ![1, 32, 4096]⟩
abbrev S32x4096 : Shape := ⟨2, ![32, 4096]⟩
abbrev S112x4096 : Shape := ⟨2, ![112, 4096]⟩
abbrev S112x512x4096 : Shape := ⟨3, ![112, 512, 4096]⟩
abbrev S112x1x4096 : Shape := ⟨3, ![112, 1, 4096]⟩
abbrev S112x1x1 : Shape := ⟨3, ![112, 1, 1]⟩
abbrev S57344x4096 : Shape := ⟨2, ![57344, 4096]⟩

abbrev nBuf : Space → Nat
  | .hbm => 44
  | .vmem => 0
  | .smem => 0
  | _ => 0

abbrev bufTy : (tb : Table) → Fin (tcTables nBuf tb) → BufTy
  | .hbm, ⟨0, _⟩ => ⟨S112, .i32⟩
  | .hbm, ⟨1, _⟩ => ⟨S1, .i32⟩
  | .hbm, ⟨2, _⟩ => ⟨S57344x1024, .bf16⟩
  | .hbm, ⟨3, _⟩ => ⟨S2x32x1024x4096, .f32⟩
  | .hbm, ⟨4, _⟩ => ⟨S2x32x4096, .f32⟩
  | .hbm, ⟨5, _⟩ => ⟨S57344x1024, .f32⟩
  | .hbm, ⟨6, _⟩ => ⟨S112x512x1024, .f32⟩
  | .hbm, ⟨7, _⟩ => ⟨S1x32x1024x4096, .f32⟩
  | .hbm, ⟨8, _⟩ => ⟨S32x1024x4096, .f32⟩
  | .hbm, ⟨9, _⟩ => ⟨S_, .i32⟩
  | .hbm, ⟨10, _⟩ => ⟨S112, .i32⟩
  | .hbm, ⟨11, _⟩ => ⟨S112, .i1⟩
  | .hbm, ⟨12, _⟩ => ⟨S_, .i32⟩
  | .hbm, ⟨13, _⟩ => ⟨S112, .i32⟩
  | .hbm, ⟨14, _⟩ => ⟨S112, .i32⟩
  | .hbm, ⟨15, _⟩ => ⟨S112, .i32⟩
  | .hbm, ⟨16, _⟩ => ⟨S112x1, .i32⟩
  | .hbm, ⟨17, _⟩ => ⟨S112x1024x4096, .f32⟩
  | .hbm, ⟨18, _⟩ => ⟨S1x32x4096, .f32⟩
  | .hbm, ⟨19, _⟩ => ⟨S32x4096, .f32⟩
  | .hbm, ⟨20, _⟩ => ⟨S_, .i32⟩
  | .hbm, ⟨21, _⟩ => ⟨S112, .i32⟩
  | .hbm, ⟨22, _⟩ => ⟨S112, .i1⟩
  | .hbm, ⟨23, _⟩ => ⟨S_, .i32⟩
  | .hbm, ⟨24, _⟩ => ⟨S112, .i32⟩
  | .hbm, ⟨25, _⟩ => ⟨S112, .i32⟩
  | .hbm, ⟨26, _⟩ => ⟨S112, .i32⟩
  | .hbm, ⟨27, _⟩ => ⟨S112x1, .i32⟩
  | .hbm, ⟨28, _⟩ => ⟨S112x4096, .f32⟩
  | .hbm, ⟨29, _⟩ => ⟨S112x512x4096, .f32⟩
  | .hbm, ⟨30, _⟩ => ⟨S112x1x4096, .f32⟩
  | .hbm, ⟨31, _⟩ => ⟨S112x512x4096, .f32⟩
  | .hbm, ⟨32, _⟩ => ⟨S112x512x4096, .f32⟩
  | .hbm, ⟨33, _⟩ => ⟨S112, .i32⟩
  | .hbm, ⟨34, _⟩ => ⟨S_, .i32⟩
  | .hbm, ⟨35, _⟩ => ⟨S112, .i32⟩
  | .hbm, ⟨36, _⟩ => ⟨S112, .i1⟩
  | .hbm, ⟨37, _⟩ => ⟨S112x1x1, .i1⟩
  | .hbm, ⟨38, _⟩ => ⟨S_, .f32⟩
  | .hbm, ⟨39, _⟩ => ⟨S_, .f32⟩
  | .hbm, ⟨40, _⟩ => ⟨S112x512x4096, .i1⟩
  | .hbm, ⟨41, _⟩ => ⟨S112x512x4096, .f32⟩
  | .hbm, ⟨42, _⟩ => ⟨S112x512x4096, .f32⟩
  | .hbm, ⟨43, _⟩ => ⟨S57344x4096, .f32⟩
  | _, _ => ⟨S112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Up.lean ====
abbrev S112 : Shape := ⟨1, ![112]⟩
abbrev S1 : Shape := ⟨1, ![1]⟩
abbrev S57344x4096 : Shape := ⟨2, ![57344, 4096]⟩
abbrev S2x32x4096x1024 : Shape := ⟨4, ![2, 32, 4096, 1024]⟩
abbrev S2x32x1024 : Shape := ⟨3, ![2, 32, 1024]⟩
abbrev S_ : Shape := ⟨0, ![]⟩
abbrev S112x1 : Shape := ⟨2, ![112, 1]⟩
abbrev S2x32x1x1024 : Shape := ⟨4, ![2, 32, 1, 1024]⟩
abbrev S57344x1024 : Shape := ⟨2, ![57344, 1024]⟩
abbrev S512x4096 : Shape := ⟨2, ![512, 4096]⟩
abbrev S1x1x4096x512 : Shape := ⟨4, ![1, 1, 4096, 512]⟩
abbrev S1x1x1x512 : Shape := ⟨4, ![1, 1, 1, 512]⟩
abbrev S512x512 : Shape := ⟨2, ![512, 512]⟩
abbrev S4096x512 : Shape := ⟨2, ![4096, 512]⟩
abbrev S1x512 : Shape := ⟨2, ![1, 512]⟩

abbrev nBuf : Space → Nat
  | .hbm => 23
  | .vmem => 12
  | .smem => 2
  | _ => 0

abbrev bufTy : (tb : Table) → Fin (tcTables nBuf tb) → BufTy
  | .hbm, ⟨0, _⟩ => ⟨S112, .i32⟩
  | .hbm, ⟨1, _⟩ => ⟨S57344x4096, .bf16⟩
  | .hbm, ⟨2, _⟩ => ⟨S2x32x4096x1024, .f32⟩
  | .hbm, ⟨3, _⟩ => ⟨S2x32x1024, .f32⟩
  | .hbm, ⟨4, _⟩ => ⟨S2x32x4096x1024, .f32⟩
  | .hbm, ⟨5, _⟩ => ⟨S2x32x1024, .f32⟩
  | .hbm, ⟨6, _⟩ => ⟨S112, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S112, .i32⟩
  | .hbm, ⟨11, _⟩ => ⟨S112, .i32⟩
  | .hbm, ⟨12, _⟩ => ⟨S_, .i32⟩
  | .hbm, ⟨13, _⟩ => ⟨S112, .i32⟩
  | .hbm, ⟨14, _⟩ => ⟨S112, .i1⟩
  | .hbm, ⟨15, _⟩ => ⟨S_, .i32⟩
  | .hbm, ⟨16, _⟩ => ⟨S112, .i32⟩
  | .hbm, ⟨17, _⟩ => ⟨S112, .i32⟩
  | .hbm, ⟨18, _⟩ => ⟨S112, .i32⟩
  | .hbm, ⟨19, _⟩ => ⟨S112x1, .i32⟩
  | .hbm, ⟨20, _⟩ => ⟨S2x32x1x1024, .f32⟩
  | .hbm, ⟨21, _⟩ => ⟨S2x32x1x1024, .f32⟩
  | .hbm, ⟨22, _⟩ => ⟨S57344x1024, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S1x1x1x512, .f32⟩
  | .local _ .vmem, ⟨5, _⟩ => ⟨S1x1x1x512, .f32⟩
  | .local _ .vmem, ⟨6, _⟩ => ⟨S1x1x4096x512, .f32⟩
  | .local _ .vmem, ⟨7, _⟩ => ⟨S1x1x4096x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .smem, ⟨0, _⟩ => ⟨S112, .i32⟩
  | .local _ .smem, ⟨1, _⟩ => ⟨S1, .i32⟩
  | _, _ => ⟨S112, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v11 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 112], ![false, false]⟩

abbrev pre0 : Pipeline.Prefetch sig := ⟨2, ![main_v11.idx, main_arg1.idx], fun | 0 => main_v11.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S112.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S112) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpRefIdeal.lean ====
abbrev S112 : Shape := ⟨1, ![112]⟩
abbrev S1 : Shape := ⟨1, ![1]⟩
abbrev S57344x4096 : Shape := ⟨2, ![57344, 4096]⟩
abbrev S2x32x4096x1024 : Shape := ⟨4, ![2, 32, 4096, 1024]⟩
abbrev S2x32x1024 : Shape := ⟨3, ![2, 32, 1024]⟩
abbrev S112x512x4096 : Shape := ⟨3, ![112, 512, 4096]⟩
abbrev S1x32x4096x1024 : Shape := ⟨4, ![1, 32, 4096, 1024]⟩
abbrev S32x4096x1024 : Shape := ⟨3, ![32, 4096, 1024]⟩
abbrev S_ : Shape := ⟨0, ![]⟩
abbrev S112x1 : Shape := ⟨2, ![112, 1]⟩
abbrev S112x4096x1024 : Shape := ⟨3, ![112, 4096, 1024]⟩
abbrev S112x512x1024 : Shape := ⟨3, ![112, 512, 1024]⟩
abbrev S1x32x1024 : Shape := ⟨3, ![1, 32, 1024]⟩
abbrev S32x1024 : Shape := ⟨2, ![32, 1024]⟩
abbrev S112x1024 : Shape := ⟨2, ![112, 1024]⟩
abbrev S112x1x1024 : Shape := ⟨3, ![112, 1, 1024]⟩
abbrev S112x1x1 : Shape := ⟨3, ![112, 1, 1]⟩
abbrev S57344x1024 : Shape := ⟨2, ![57344, 1024]⟩

abbrev nBuf : Space → Nat
  | .hbm => 100
  | .vmem => 0
  | .smem => 0
  | _ => 0

abbrev bufTy : (tb : Table) → Fin (tcTables nBuf tb) → BufTy
  | .hbm, ⟨0, _⟩ => ⟨S112, .i32⟩
  | .hbm, ⟨1, _⟩ => ⟨S1, .i32⟩
  | .hbm, ⟨2, _⟩ => ⟨S57344x4096, .bf16⟩
  | .hbm, ⟨3, _⟩ => ⟨S2x32x4096x1024, .f32⟩
  | .hbm, ⟨4, _⟩ => ⟨S2x32x1024, .f32⟩
  | .hbm, ⟨5, _⟩ => ⟨S2x32x4096x1024, .f32⟩
  | .hbm, ⟨6, _⟩ => ⟨S2x32x1024, .f32⟩
  | .hbm, ⟨7, _⟩ => ⟨S57344x4096, .f32⟩
  | .hbm, ⟨8, _⟩ => ⟨S112x512x4096, .f32⟩
  | .hbm, ⟨9, _⟩ => ⟨S1x32x4096x1024, .f32⟩
  | .hbm, ⟨10, _⟩ => ⟨S32x4096x1024, .f32⟩
  | .hbm, ⟨11, _⟩ => ⟨S_, .i32⟩
  | .hbm, ⟨12, _⟩ => ⟨S112, .i32⟩
  | .hbm, ⟨13, _⟩ => ⟨S112, .i1⟩
  | .hbm, ⟨14, _⟩ => ⟨S_, .i32⟩
  | .hbm, ⟨15, _⟩ => ⟨S112, .i32⟩
  | .hbm, ⟨16, _⟩ => ⟨S112, .i32⟩
  | .hbm, ⟨17, _⟩ => ⟨S112, .i32⟩
  | .hbm, ⟨18, _⟩ => ⟨S112x1, .i32⟩
  | .hbm, ⟨19, _⟩ => ⟨S112x4096x1024, .f32⟩
  | .hbm, ⟨20, _⟩ => ⟨S112x512x1024, .f32⟩
  | .hbm, ⟨21, _⟩ => ⟨S1x32x1024, .f32⟩
  | .hbm, ⟨22, _⟩ => ⟨S32x1024, .f32⟩
  | .hbm, ⟨23, _⟩ => ⟨S_, .i32⟩
  | .hbm, ⟨24, _⟩ => ⟨S112, .i32⟩
  | .hbm, ⟨25, _⟩ => ⟨S112, .i1⟩
  | .hbm, ⟨26, _⟩ => ⟨S_, .i32⟩
  | .hbm, ⟨27, _⟩ => ⟨S112, .i32⟩
  | .hbm, ⟨28, _⟩ => ⟨S112, .i32⟩
  | .hbm, ⟨29, _⟩ => ⟨S112, .i32⟩
  | .hbm, ⟨30, _⟩ => ⟨S112x1, .i32⟩
  | .hbm, ⟨31, _⟩ => ⟨S112x1024, .f32⟩
  | .hbm, ⟨32, _⟩ => ⟨S112x1x1024, .f32⟩
  | .hbm, ⟨33, _⟩ => ⟨S112x512x1024, .f32⟩
  | .hbm, ⟨34, _⟩ => ⟨S112x512x1024, .f32⟩
  | .hbm, ⟨35, _⟩ => ⟨S1x32x4096x1024, .f32⟩
  | .hbm, ⟨36, _⟩ => ⟨S32x4096x1024, .f32⟩
  | .hbm, ⟨37, _⟩ => ⟨S_, .i32⟩
  | .hbm, ⟨38, _⟩ => ⟨S112, .i32⟩
  | .hbm, ⟨39, _⟩ => ⟨S112, .i1⟩
  | .hbm, ⟨40, _⟩ => ⟨S_, .i32⟩
  | .hbm, ⟨41, _⟩ => ⟨S112, .i32⟩
  | .hbm, ⟨42, _⟩ => ⟨S112, .i32⟩
  | .hbm, ⟨43, _⟩ => ⟨S112, .i32⟩
  | .hbm, ⟨44, _⟩ => ⟨S112x1, .i32⟩
  | .hbm, ⟨45, _⟩ => ⟨S112x4096x1024, .f32⟩
  | .hbm, ⟨46, _⟩ => ⟨S112x512x1024, .f32⟩
  | .hbm, ⟨47, _⟩ => ⟨S1x32x1024, .f32⟩
  | .hbm, ⟨48, _⟩ => ⟨S32x1024, .f32⟩
  | .hbm, ⟨49, _⟩ => ⟨S_, .i32⟩
  | .hbm, ⟨50, _⟩ => ⟨S112, .i32⟩
  | .hbm, ⟨51, _⟩ => ⟨S112, .i1⟩
  | .hbm, ⟨52, _⟩ => ⟨S_, .i32⟩
  | .hbm, ⟨53, _⟩ => ⟨S112, .i32⟩
  | .hbm, ⟨54, _⟩ => ⟨S112, .i32⟩
  | .hbm, ⟨55, _⟩ => ⟨S112, .i32⟩
  | .hbm, ⟨56, _⟩ => ⟨S112x1, .i32⟩
  | .hbm, ⟨57, _⟩ => ⟨S112x1024, .f32⟩
  | .hbm, ⟨58, _⟩ => ⟨S112x1x1024, .f32⟩
  | .hbm, ⟨59, _⟩ => ⟨S112x512x1024, .f32⟩
  | .hbm, ⟨60, _⟩ => ⟨S112x512x1024, .f32⟩
  | .hbm, ⟨61, _⟩ => ⟨S_, .f32⟩
  | .hbm, ⟨62, _⟩ => ⟨S112x512x1024, .f32⟩
  | .hbm, ⟨63, _⟩ => ⟨S112x512x1024, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S112x512x1024, .f32⟩
  | .hbm, ⟨68, _⟩ => ⟨S112x512x1024, .f32⟩
  | .hbm, ⟨69, _⟩ => ⟨S_, .f32⟩
  | .hbm, ⟨70, _⟩ => ⟨S112x512x1024, .f32⟩
  | .hbm, ⟨71, _⟩ => ⟨S112x512x1024, .f32⟩
  | .hbm, ⟨72, _⟩ => ⟨S_, .f32⟩
  | .hbm, ⟨73, _⟩ => ⟨S112x512x1024, .f32⟩
  | .hbm, ⟨74, _⟩ => ⟨S112x512x1024, .f32⟩
  | .hbm, ⟨75, _⟩ => ⟨S112x512x1024, .f32⟩
  | .hbm, ⟨76, _⟩ => ⟨S112x512x1024, .f32⟩
  | .hbm, ⟨77, _⟩ => ⟨S_, .f32⟩
  | .hbm, ⟨78, _⟩ => ⟨S112x512x1024, .f32⟩
  | .hbm, ⟨79, _⟩ => ⟨S112x512x1024, .f32⟩
  | .hbm, ⟨80, _⟩ => ⟨S_, .f32⟩
  | .hbm, ⟨81, _⟩ => ⟨S112x512x1024, .f32⟩
  | .hbm, ⟨82, _⟩ => ⟨S112x512x1024, .f32⟩
  | .hbm, ⟨83, _⟩ => ⟨S112x512x1024, .f32⟩
  | .hbm, ⟨84, _⟩ => ⟨S_, .f32⟩
  | .hbm, ⟨85, _⟩ => ⟨S112x512x1024, .f32⟩
  | .hbm, ⟨86, _⟩ => ⟨S112x512x1024, .f32⟩
  | .hbm, ⟨87, _⟩ => ⟨S112x512x1024, .f32⟩
  | .hbm, ⟨88, _⟩ => ⟨S112, .i32⟩
  | .hbm, ⟨89, _⟩ => ⟨S_, .i32⟩
  | .hbm, ⟨90, _⟩ => ⟨S112, .i32⟩
  | .hbm, ⟨91, _⟩ => ⟨S112, .i1⟩
  | .hbm, ⟨92, _⟩ => ⟨S112x1x1, .i1⟩
  | .hbm, ⟨93, _⟩ => ⟨S_, .f32⟩
  | .hbm, ⟨94, _⟩ => ⟨S_, .f32⟩
  | .hbm, ⟨95, _⟩ => ⟨S112x512x1024, .i1⟩
  | .hbm, ⟨96, _⟩ => ⟨S112x512x1024, .f32⟩
  | .hbm, ⟨97, _⟩ => ⟨S112x512x1024, .f32⟩
  | .hbm, ⟨98, _⟩ => ⟨S112x512x1024, .bf16⟩
  | .hbm, ⟨99, _⟩ => ⟨S57344x1024, .bf16⟩
  | _, _ => ⟨S112, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_cst_8 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_10 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== InMl0.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S2048x4096 : Shape := ⟨2, ![2048, 4096]⟩
abbrev S1x256x4096 : Shape := ⟨3, ![1, 256, 4096]⟩
abbrev S2048x256 : Shape := ⟨2, ![2048, 256]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x4096, .f32⟩
  | .local _ .vmem, ⟨0, _⟩ => ⟨S2048x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2048x256, .f32⟩
  | .local _ .vmem, ⟨4, _⟩ => ⟨S2048x256, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 16], ![false, false]⟩

def k0_mult1 (i : grid0.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMl0RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x4096, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InMl1.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S2048x4096 : Shape := ⟨2, ![2048, 4096]⟩
abbrev S1x256x4096 : Shape := ⟨3, ![1, 256, 4096]⟩
abbrev S2048x256 : Shape := ⟨2, ![2048, 256]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x4096, .f32⟩
  | .local _ .vmem, ⟨0, _⟩ => ⟨S2048x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2048x256, .f32⟩
  | .local _ .vmem, ⟨4, _⟩ => ⟨S2048x256, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 16], ![false, false]⟩

def k0_mult1 (i : grid0.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c1_i32 : BitVec 32 := 1#32
  let c0_i32_0 : BitVec 32 := 0#32
  let c0_i32_1 : BitVec 32 := 0#32
  ![c1_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMl1RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x4096, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InGate0.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S10240x128 : Shape := ⟨2, ![10240, 128]⟩
abbrev S2048x4096 : Shape := ⟨2, ![2048, 4096]⟩
abbrev S1x128x4096 : Shape := ⟨3, ![1, 128, 4096]⟩
abbrev S2048x128 : Shape := ⟨2, ![2048, 128]⟩
abbrev S128x4096 : Shape := ⟨2, ![128, 4096]⟩

abbrev nBuf : Space → Nat
  | .hbm => 4
  | .vmem => 4
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x128, .f32⟩
  | .local _ .vmem, ⟨0, _⟩ => ⟨S2048x4096, .bf16⟩
  | .local _ .vmem, ⟨1, _⟩ => ⟨S1x128x4096, .f32⟩
  | .local _ .vmem, ⟨2, _⟩ => ⟨S2048x128, .f32⟩
  | .local _ .vmem, ⟨3, _⟩ => ⟨S2048x128, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![5, 1], ![false, false]⟩

def k0_mult1 (i : grid0.Coords) : BitVec 32 :=
  let c4096_i32 : BitVec 32 := 4096#32
  let arg1 : BitVec 32 := BitVec.ofNat 32 (i 1).val
  let c128_i32 : BitVec 32 := 128#32
  let v0 : BitVec 32 := Scalar.muli arg1 c128_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c4096_i32 : BitVec 32 := 4096#32
  let v1 : BitVec 32 := Scalar.addi c4096_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGate0RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩
abbrev S10240x128 : Shape := ⟨2, ![10240, 128]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InGate1.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S10240x128 : Shape := ⟨2, ![10240, 128]⟩
abbrev S2048x4096 : Shape := ⟨2, ![2048, 4096]⟩
abbrev S1x128x4096 : Shape := ⟨3, ![1, 128, 4096]⟩
abbrev S2048x128 : Shape := ⟨2, ![2048, 128]⟩
abbrev S128x4096 : Shape := ⟨2, ![128, 4096]⟩

abbrev nBuf : Space → Nat
  | .hbm => 4
  | .vmem => 4
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x128, .f32⟩
  | .local _ .vmem, ⟨0, _⟩ => ⟨S2048x4096, .bf16⟩
  | .local _ .vmem, ⟨1, _⟩ => ⟨S1x128x4096, .f32⟩
  | .local _ .vmem, ⟨2, _⟩ => ⟨S2048x128, .f32⟩
  | .local _ .vmem, ⟨3, _⟩ => ⟨S2048x128, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨2, ![5, 1], ![false, false]⟩

def k0_mult1 (i : grid0.Coords) : BitVec 32 :=
  let c4096_i32 : BitVec 32 := 4096#32
  let arg1 : BitVec 32 := BitVec.ofNat 32 (i 1).val
  let c128_i32 : BitVec 32 := 128#32
  let v0 : BitVec 32 := Scalar.muli arg1 c128_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c4096_i32 : BitVec 32 := 4096#32
  let v1 : BitVec 32 := Scalar.addi c4096_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGate1RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩
abbrev S10240x128 : Shape := ⟨2, ![10240, 128]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InMix0.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S10240x6144 : Shape := ⟨2, ![10240, 6144]⟩
abbrev S2048x4096 : Shape := ⟨2, ![2048, 4096]⟩
abbrev S1x256x4096 : Shape := ⟨3, ![1, 256, 4096]⟩
abbrev S2048x256 : Shape := ⟨2, ![2048, 256]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x6144, .f32⟩
  | .local _ .vmem, ⟨0, _⟩ => ⟨S2048x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2048x256, .f32⟩
  | .local _ .vmem, ⟨4, _⟩ => ⟨S2048x256, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 24], ![false, false]⟩

def k0_mult1 (i : grid0.Coords) : BitVec 32 :=
  let c4128_i32 : BitVec 32 := 4128#32
  let arg1 : BitVec 32 := BitVec.ofNat 32 (i 1).val
  let c256_i32 : BitVec 32 := 256#32
  let v0 : BitVec 32 := Scalar.muli arg1 c256_i32
  let v1 : BitVec 32 := Scalar.addi c4128_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4128_i32 : BitVec 32 := 4128#32
  let v1 : BitVec 32 := Scalar.addi c4128_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMix0RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩
abbrev S10240x6144 : Shape := ⟨2, ![10240, 6144]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x6144, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InMix1.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S10240x6144 : Shape := ⟨2, ![10240, 6144]⟩
abbrev S2048x4096 : Shape := ⟨2, ![2048, 4096]⟩
abbrev S1x256x4096 : Shape := ⟨3, ![1, 256, 4096]⟩
abbrev S2048x256 : Shape := ⟨2, ![2048, 256]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x6144, .f32⟩
  | .local _ .vmem, ⟨0, _⟩ => ⟨S2048x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2048x256, .f32⟩
  | .local _ .vmem, ⟨4, _⟩ => ⟨S2048x256, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 24], ![false, false]⟩

def k0_mult1 (i : grid0.Coords) : BitVec 32 :=
  let c4128_i32 : BitVec 32 := 4128#32
  let arg1 : BitVec 32 := BitVec.ofNat 32 (i 1).val
  let c256_i32 : BitVec 32 := 256#32
  let v0 : BitVec 32 := Scalar.muli arg1 c256_i32
  let v1 : BitVec 32 := Scalar.addi c4128_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4128_i32 : BitVec 32 := 4128#32
  let v1 : BitVec 32 := Scalar.addi c4128_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMix1RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩
abbrev S10240x6144 : Shape := ⟨2, ![10240, 6144]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x6144, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InGl0.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S10240x12288 : Shape := ⟨2, ![10240, 12288]⟩
abbrev S2048x4096 : Shape := ⟨2, ![2048, 4096]⟩
abbrev S1x256x4096 : Shape := ⟨3, ![1, 256, 4096]⟩
abbrev S2048x256 : Shape := ⟨2, ![2048, 256]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x12288, .bf16⟩
  | .local _ .vmem, ⟨0, _⟩ => ⟨S2048x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2048x256, .bf16⟩
  | .local _ .vmem, ⟨4, _⟩ => ⟨S2048x256, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 48], ![false, false]⟩

def k0_mult1 (i : grid0.Coords) : BitVec 32 :=
  let c10272_i32 : BitVec 32 := 10272#32
  let arg1 : BitVec 32 := BitVec.ofNat 32 (i 1).val
  let c256_i32 : BitVec 32 := 256#32
  let v0 : BitVec 32 := Scalar.muli arg1 c256_i32
  let v1 : BitVec 32 := Scalar.addi c10272_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c10272_i32 : BitVec 32 := 10272#32
  let v1 : BitVec 32 := Scalar.addi c10272_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGl0RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩
abbrev S10240x12288 : Shape := ⟨2, ![10240, 12288]⟩

abbrev nBuf : Space → Nat
  | .hbm => 8
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x12288, .f32⟩
  | .hbm, ⟨7, _⟩ => ⟨S10240x12288, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InGl1.lean ====
abbrev S10240x4096 : Shape := ⟨2, ![10240, 4096]⟩
abbrev S2x4096x22560 : Shape := ⟨3, ![2, 4096, 22560]⟩
abbrev S2x22560x4096 : Shape := ⟨3, ![2, 22560, 4096]⟩
abbrev S10240x12288 : Shape := ⟨2, ![10240, 12288]⟩
abbrev S2048x4096 : Shape := ⟨2, ![2048, 4096]⟩
abbrev S1x256x4096 : Shape := ⟨3, ![1, 256, 4096]⟩
abbrev S2048x256 : Shape := ⟨2, ![2048, 256]⟩
abbrev S256x4096 : Shape := ⟨2, ![256, 4096]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S2x22560x4096, .f32⟩
  | .hbm, ⟨3, _⟩ => ⟨S10240x12288, .bf16⟩
  | .local _ .vmem, ⟨0, _⟩ => ⟨S2048x4096, .bf16⟩
  | .local _ .vmem, ⟨1, _⟩ => ⟨S1x256x4096, .f32⟩
  | .local _ .vmem, ⟨2, _⟩ => ⟨S1x256x4096, .f32⟩
  | .local _ .vmem, ⟨3, _⟩ => ⟨S2048x256, .bf16⟩
  | .local _ .vmem, ⟨4, _⟩ => ⟨S2048x256, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 48], ![false, false]⟩

def k0_mult1 (i : grid0.Coords) : BitVec 32 :=
  let c10272_i32 : BitVec 32 := 10272#32
  let arg1 : BitVec 32 := BitVec.ofNat 32 (i 1).val
  let c256_i32 : BitVec 32 := 256#32
  let v0 : BitVec 32 := Scalar.muli arg1 c256_i32
  let v1 : BitVec 32 := Scalar.addi c10272_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c10272_i32 : BitVec 32 := 10272#32
  let v1 : BitVec 32 := Scalar.addi c10272_i32 v0
  let v2 : BitVec 32 := v1
  let c1_i32 : BitVec 32 := 1#32
  let c0_i32 : BitVec 32 := 0#32
  let c0_i32_0 : BitVec 32 := 0#32
  ![c1_i32.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGl1RefIdeal.lean ====
abbrev S10240x4096 : Shape := ⟨2, ![10240, 4096]⟩
abbrev S2x4096x22560 : Shape := ⟨3, ![2, 4096, 22560]⟩
abbrev S1x4096x22560 : Shape := ⟨3, ![1, 4096, 22560]⟩
abbrev S4096x22560 : Shape := ⟨2, ![4096, 22560]⟩
abbrev S10240x22560 : Shape := ⟨2, ![10240, 22560]⟩
abbrev S10240x12288 : Shape := ⟨2, ![10240, 12288]⟩

abbrev nBuf : Space → Nat
  | .hbm => 8
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x22560, .f32⟩
  | .hbm, ⟨2, _⟩ => ⟨S10240x4096, .f32⟩
  | .hbm, ⟨3, _⟩ => ⟨S1x4096x22560, .f32⟩
  | .hbm, ⟨4, _⟩ => ⟨S4096x22560, .f32⟩
  | .hbm, ⟨5, _⟩ => ⟨S10240x22560, .f32⟩
  | .hbm, ⟨6, _⟩ => ⟨S10240x12288, .f32⟩
  | .hbm, ⟨7, _⟩ => ⟨S10240x12288, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Merge0.lean ====
abbrev S10240x1024 : Shape := ⟨2, ![10240, 1024]⟩
abbrev S2x1024x4096 : Shape := ⟨3, ![2, 1024, 4096]⟩
abbrev S10240x12288 : Shape := ⟨2, ![10240, 12288]⟩
abbrev S2x3x4096 : Shape := ⟨3, ![2, 3, 4096]⟩
abbrev S2x3x1x4096 : Shape := ⟨4, ![2, 3, 1, 4096]⟩
abbrev S10240x4096 : Shape := ⟨2, ![10240, 4096]⟩
abbrev S1024x1024 : Shape := ⟨2, ![1024, 1024]⟩
abbrev S1x1024x512 : Shape := ⟨3, ![1, 1024, 512]⟩
abbrev S1024x512 : Shape := ⟨2, ![1024, 512]⟩
abbrev S1x3x1x512 : Shape := ⟨4, ![1, 3, 1, 512]⟩
abbrev S1x1x1x512 : Shape := ⟨4, ![1, 1, 1, 512]⟩
abbrev S1x512 : Shape := ⟨2, ![1, 512]⟩

abbrev nBuf : Space → Nat
  | .hbm => 10
  | .vmem => 22
  | .smem => 0
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S2x1024x4096, .f32⟩
  | .hbm, ⟨4, _⟩ => ⟨S2x1024x4096, .f32⟩
  | .hbm, ⟨5, _⟩ => ⟨S2x1024x4096, .f32⟩
  | .hbm, ⟨6, _⟩ => ⟨S10240x12288, .bf16⟩
  | .hbm, ⟨7, _⟩ => ⟨S2x3x4096, .f32⟩
  | .hbm, ⟨8, _⟩ => ⟨S2x3x1x4096, .f32⟩
  | .hbm, ⟨9, _⟩ => ⟨S10240x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1x3x1x512, .f32⟩
  | .local _ .vmem, ⟨19, _⟩ => ⟨S1x3x1x512, .f32⟩
  | .local _ .vmem, ⟨20, _⟩ => ⟨S1024x512, .bf16⟩
  | .local _ .vmem, ⟨21, _⟩ => ⟨S1024x512, .bf16⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Merge0RefIdeal.lean ====
abbrev S10240x1024 : Shape := ⟨2, ![10240, 1024]⟩
abbrev S2x1024x4096 : Shape := ⟨3, ![2, 1024, 4096]⟩
abbrev S10240x12288 : Shape := ⟨2, ![10240, 12288]⟩
abbrev S2x3x4096 : Shape := ⟨3, ![2, 3, 4096]⟩
abbrev S10240x3x4096 : Shape := ⟨3, ![10240, 3, 4096]⟩
abbrev S1x3x4096 : Shape := ⟨3, ![1, 3, 4096]⟩
abbrev S3x4096 : Shape := ⟨2, ![3, 4096]⟩
abbrev S_ : Shape := ⟨0, ![]⟩
abbrev S10240x1x4096 : Shape := ⟨3, ![10240, 1, 4096]⟩
abbrev S10240x4096 : Shape := ⟨2, ![10240, 4096]⟩
abbrev S1x1024x4096 : Shape := ⟨3, ![1, 1024, 4096]⟩
abbrev S1024x4096 : Shape := ⟨2, ![1024, 4096]⟩

abbrev nBuf : Space → Nat
  | .hbm => 47
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S2x1024x4096, .f32⟩
  | .hbm, ⟨4, _⟩ => ⟨S2x1024x4096, .f32⟩
  | .hbm, ⟨5, _⟩ => ⟨S2x1024x4096, .f32⟩
  | .hbm, ⟨6, _⟩ => ⟨S10240x12288, .bf16⟩
  | .hbm, ⟨7, _⟩ => ⟨S2x3x4096, .f32⟩
  | .hbm, ⟨8, _⟩ => ⟨S10240x12288, .f32⟩
  | .hbm, ⟨9, _⟩ => ⟨S10240x3x4096, .f32⟩
  | .hbm, ⟨10, _⟩ => ⟨S1x3x4096, .f32⟩
  | .hbm, ⟨11, _⟩ => ⟨S3x4096, .f32⟩
  | .hbm, ⟨12, _⟩ => ⟨S1x3x4096, .f32⟩
  | .hbm, ⟨13, _⟩ => ⟨S10240x3x4096, .f32⟩
  | .hbm, ⟨14, _⟩ => ⟨S10240x3x4096, .f32⟩
  | .hbm, ⟨15, _⟩ => ⟨S10240x3x4096, .f32⟩
  | .hbm, ⟨16, _⟩ => ⟨S10240x3x4096, .f32⟩
  | .hbm, ⟨17, _⟩ => ⟨S_, .f32⟩
  | .hbm, ⟨18, _⟩ => ⟨S10240x3x4096, .f32⟩
  | .hbm, ⟨19, _⟩ => ⟨S10240x3x4096, .f32⟩
  | .hbm, ⟨20, _⟩ => ⟨S_, .f32⟩
  | .hbm, ⟨21, _⟩ => ⟨S10240x3x4096, .f32⟩
  | .hbm, ⟨22, _⟩ => ⟨S10240x3x4096, .f32⟩
  | .hbm, ⟨23, _⟩ => ⟨S10240x1x4096, .f32⟩
  | .hbm, ⟨24, _⟩ => ⟨S10240x4096, .f32⟩
  | .hbm, ⟨25, _⟩ => ⟨S10240x1024, .f32⟩
  | .hbm, ⟨26, _⟩ => ⟨S1x1024x4096, .f32⟩
  | .hbm, ⟨27, _⟩ => ⟨S1024x4096, .f32⟩
  | .hbm, ⟨28, _⟩ => ⟨S10240x4096, .f32⟩
  | .hbm, ⟨29, _⟩ => ⟨S10240x4096, .f32⟩
  | .hbm, ⟨30, _⟩ => ⟨S10240x1x4096, .f32⟩
  | .hbm, ⟨31, _⟩ => ⟨S10240x4096, .f32⟩
  | .hbm, ⟨32, _⟩ => ⟨S10240x1024, .f32⟩
  | .hbm, ⟨33, _⟩ => ⟨S1x1024x4096, .f32⟩
  | .hbm, ⟨34, _⟩ => ⟨S1024x4096, .f32⟩
  | .hbm, ⟨35, _⟩ => ⟨S10240x4096, .f32⟩
  | .hbm, ⟨36, _⟩ => ⟨S10240x4096, .f32⟩
  | .hbm, ⟨37, _⟩ => ⟨S10240x4096, .f32⟩
  | .hbm, ⟨38, _⟩ => ⟨S10240x1x4096, .f32⟩
  | .hbm, ⟨39, _⟩ => ⟨S10240x4096, .f32⟩
  | .hbm, ⟨40, _⟩ => ⟨S10240x1024, .f32⟩
  | .hbm, ⟨41, _⟩ => ⟨S1x1024x4096, .f32⟩
  | .hbm, ⟨42, _⟩ => ⟨S1024x4096, .f32⟩
  | .hbm, ⟨43, _⟩ => ⟨S10240x4096, .f32⟩
  | .hbm, ⟨44, _⟩ => ⟨S10240x4096, .f32⟩
  | .hbm, ⟨45, _⟩ => ⟨S10240x4096, .f32⟩
  | .hbm, ⟨46, _⟩ => ⟨S10240x4096, .bf16⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Out0.lean ====
abbrev S10240x4096 : Shape := ⟨2, ![10240, 4096]⟩
abbrev S2x4096x4096 : Shape := ⟨3, ![2, 4096, 4096]⟩
abbrev S48x1x4096 : Shape := ⟨3, ![48, 1, 4096]⟩
abbrev S1024x4096 : Shape := ⟨2, ![1024, 4096]⟩
abbrev S1x4096x256 : Shape := ⟨3, ![1, 4096, 256]⟩
abbrev S1024x256 : Shape := ⟨2, ![1024, 256]⟩
abbrev S1x1x256 : Shape := ⟨3, ![1, 1, 256]⟩
abbrev S1x256 : Shape := ⟨2, ![1, 256]⟩
abbrev S4096x256 : Shape := ⟨2, ![4096, 256]⟩

abbrev nBuf : Space → Nat
  | .hbm => 5
  | .vmem => 10
  | .smem => 0
  | _ => 0

abbrev bufTy : (tb : Table) → Fin (tcTables nBuf tb) → BufTy
  | .hbm, ⟨0, _⟩ => ⟨S10240x4096, .bf16⟩
  | .hbm, ⟨1, _⟩ => ⟨S2x4096x4096, .f32⟩
  | .hbm, ⟨2, _⟩ => ⟨S10240x4096, .f32⟩
  | .hbm, ⟨3, _⟩ => ⟨S48x1x4096, .f32⟩
  | .hbm, ⟨4, _⟩ => ⟨S10240x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1024x256, .f32⟩
  | .local _ .vmem, ⟨5, _⟩ => ⟨S1024x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .f32⟩
  | .local _ .vmem, ⟨9, _⟩ => ⟨S1024x256, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c6_i32 : BitVec 32 := 6#32
  let v22 : BitVec 32 := Scalar.muli v21 c6_i32
  let c2_i32 : BitVec 32 := 2#32
  let v23 : BitVec 32 := Scalar.addi v22 c2_i32
  let c0_i32_8 : BitVec 32 := 0#32
  let c0_i32_9 : BitVec 32 := 0#32
  ![v23.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Out0RefIdeal.lean ====
abbrev S10240x4096 : Shape := ⟨2, ![10240, 4096]⟩
abbrev S2x4096x4096 : Shape := ⟨3, ![2, 4096, 4096]⟩
abbrev S48x1x4096 : Shape := ⟨3, ![48, 1, 4096]⟩
abbrev S8x6x4096 : Shape := ⟨3, ![8, 6, 4096]⟩
abbrev S8x1x4096 : Shape := ⟨3, ![8, 1, 4096]⟩
abbrev S8x4096 : Shape := ⟨2, ![8, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S2048x4096 : Shape := ⟨2, ![2048, 4096]⟩
abbrev S2x1024x4096 : Shape := ⟨3, ![2, 1024, 4096]⟩
abbrev S2x4096 : Shape := ⟨2, ![2, 4096]⟩
abbrev S2x1x4096 : Shape := ⟨3, ![2, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x4096, .f32⟩
  | .hbm, ⟨2, _⟩ => ⟨S10240x4096, .f32⟩
  | .hbm, ⟨3, _⟩ => ⟨S48x1x4096, .f32⟩
  | .hbm, ⟨4, _⟩ => ⟨S8x6x4096, .f32⟩
  | .hbm, ⟨5, _⟩ => ⟨S8x1x4096, .f32⟩
  | .hbm, ⟨6, _⟩ => ⟨S8x4096, .f32⟩
  | .hbm, ⟨7, _⟩ => ⟨S10240x4096, .f32⟩
  | .hbm, ⟨8, _⟩ => ⟨S1x4096x4096, .f32⟩
  | .hbm, ⟨9, _⟩ => ⟨S4096x4096, .f32⟩
  | .hbm, ⟨10, _⟩ => ⟨S10240x4096, .f32⟩
  | .hbm, ⟨11, _⟩ => ⟨S8192x4096, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S2048x4096, .f32⟩
  | .hbm, ⟨20, _⟩ => ⟨S2x1024x4096, .f32⟩
  | .hbm, ⟨21, _⟩ => ⟨S2x4096, .f32⟩
  | .hbm, ⟨22, _⟩ => ⟨S2x1x4096, .f32⟩
  | .hbm, ⟨23, _⟩ => ⟨S2048x4096, .f32⟩
  | .hbm, ⟨24, _⟩ => ⟨S2x1024x4096, .f32⟩
  | .hbm, ⟨25, _⟩ => ⟨S2x1024x4096, .f32⟩
  | .hbm, ⟨26, _⟩ => ⟨S2x1024x4096, .f32⟩
  | .hbm, ⟨27, _⟩ => ⟨S2x1024x4096, .f32⟩
  | .hbm, ⟨28, _⟩ => ⟨S2048x4096, .f32⟩
  | .hbm, ⟨29, _⟩ => ⟨S10240x4096, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== Merge1.lean ====
abbrev S10240x1024 : Shape := ⟨2, ![10240, 1024]⟩
abbrev S2x1024x4096 : Shape := ⟨3, ![2, 1024, 4096]⟩
abbrev S10240x12288 : Shape := ⟨2, ![10240, 12288]⟩
abbrev S2x3x4096 : Shape := ⟨3, ![2, 3, 4096]⟩
abbrev S2x3x1x4096 : Shape := ⟨4, ![2, 3, 1, 4096]⟩
abbrev S10240x4096 : Shape := ⟨2, ![10240, 4096]⟩
abbrev S1024x1024 : Shape := ⟨2, ![1024, 1024]⟩
abbrev S1x1024x512 : Shape := ⟨3, ![1, 1024, 512]⟩
abbrev S1024x512 : Shape := ⟨2, ![1024, 512]⟩
abbrev S1x3x1x512 : Shape := ⟨4, ![1, 3, 1, 512]⟩
abbrev S1x1x1x512 : Shape := ⟨4, ![1, 1, 1, 512]⟩
abbrev S1x512 : Shape := ⟨2, ![1, 512]⟩

abbrev nBuf : Space → Nat
  | .hbm => 10
  | .vmem => 22
  | .smem => 0
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S2x1024x4096, .f32⟩
  | .hbm, ⟨4, _⟩ => ⟨S2x1024x4096, .f32⟩
  | .hbm, ⟨5, _⟩ => ⟨S2x1024x4096, .f32⟩
  | .hbm, ⟨6, _⟩ => ⟨S10240x12288, .bf16⟩
  | .hbm, ⟨7, _⟩ => ⟨S2x3x4096, .f32⟩
  | .hbm, ⟨8, _⟩ => ⟨S2x3x1x4096, .f32⟩
  | .hbm, ⟨9, _⟩ => ⟨S10240x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024x512, .f32⟩
  | .local _ .vmem, ⟨7, _⟩ => ⟨S1x1024x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1x3x1x512, .f32⟩
  | .local _ .vmem, ⟨19, _⟩ => ⟨S1x3x1x512, .f32⟩
  | .local _ .vmem, ⟨20, _⟩ => ⟨S1024x512, .bf16⟩
  | .local _ .vmem, ⟨21, _⟩ => ⟨S1024x512, .bf16⟩
  | _, _ => ⟨S10240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Merge1RefIdeal.lean ====
abbrev S10240x1024 : Shape := ⟨2, ![10240, 1024]⟩
abbrev S2x1024x4096 : Shape := ⟨3, ![2, 1024, 4096]⟩
abbrev S10240x12288 : Shape := ⟨2, ![10240, 12288]⟩
abbrev S2x3x4096 : Shape := ⟨3, ![2, 3, 4096]⟩
abbrev S10240x3x4096 : Shape := ⟨3, ![10240, 3, 4096]⟩
abbrev S1x3x4096 : Shape := ⟨3, ![1, 3, 4096]⟩
abbrev S3x4096 : Shape := ⟨2, ![3, 4096]⟩
abbrev S_ : Shape := ⟨0, ![]⟩
abbrev S10240x1x4096 : Shape := ⟨3, ![10240, 1, 4096]⟩
abbrev S10240x4096 : Shape := ⟨2, ![10240, 4096]⟩
abbrev S1x1024x4096 : Shape := ⟨3, ![1, 1024, 4096]⟩
abbrev S1024x4096 : Shape := ⟨2, ![1024, 4096]⟩

abbrev nBuf : Space → Nat
  | .hbm => 47
  | .vmem => 0
  | .smem => 0
  | _ => 0

abbrev bufTy : (tb : Table) → Fin (tcTables nBuf tb) → BufTy
  | .hbm, ⟨0, _⟩ => ⟨S10240x1024, .bf16⟩
  | .hbm, ⟨1, _⟩ => ⟨S10240x1024, .bf16⟩
  | .hbm, ⟨2, _⟩ => ⟨S10240x1024, .bf16⟩
  | .hbm, ⟨3, _⟩ => ⟨S2x1024x4096, .f32⟩
  | .hbm, ⟨4, _⟩ => ⟨S2x1024x4096, .f32⟩
  | .hbm, ⟨5, _⟩ => ⟨S2x1024x4096, .f32⟩
  | .hbm, ⟨6, _⟩ => ⟨S10240x12288, .bf16⟩
  | .hbm, ⟨7, _⟩ => ⟨S2x3x4096, .f32⟩
  | .hbm, ⟨8, _⟩ => ⟨S10240x12288, .f32⟩
  | .hbm, ⟨9, _⟩ => ⟨S10240x3x4096, .f32⟩
  | .hbm, ⟨10, _⟩ => ⟨S1x3x4096, .f32⟩
  | .hbm, ⟨11, _⟩ => ⟨S3x4096, .f32⟩
  | .hbm, ⟨12, _⟩ => ⟨S1x3x4096, .f32⟩
  | .hbm, ⟨13, _⟩ => ⟨S10240x3x4096, .f32⟩
  | .hbm, ⟨14, _⟩ => ⟨S10240x3x4096, .f32⟩
  | .hbm, ⟨15, _⟩ => ⟨S10240x3x4096, .f32⟩
  | .hbm, ⟨16, _⟩ => ⟨S10240x3x4096, .f32⟩
  | .hbm, ⟨17, _⟩ => ⟨S_, .f32⟩
  | .hbm, ⟨18, _⟩ => ⟨S10240x3x4096, .f32⟩
  | .hbm, ⟨19, _⟩ => ⟨S10240x3x4096, .f32⟩
  | .hbm, ⟨20, _⟩ => ⟨S_, .f32⟩
  | .hbm, ⟨21, _⟩ => ⟨S10240x3x4096, .f32⟩
  | .hbm, ⟨22, _⟩ => ⟨S10240x3x4096, .f32⟩
  | .hbm, ⟨23, _⟩ => ⟨S10240x1x4096, .f32⟩
  | .hbm, ⟨24, _⟩ => ⟨S10240x4096, .f32⟩
  | .hbm, ⟨25, _⟩ => ⟨S10240x1024, .f32⟩
  | .hbm, ⟨26, _⟩ => ⟨S1x1024x4096, .f32⟩
  | .hbm, ⟨27, _⟩ => ⟨S1024x4096, .f32⟩
  | .hbm, ⟨28, _⟩ => ⟨S10240x4096, .f32⟩
  | .hbm, ⟨29, _⟩ => ⟨S10240x4096, .f32⟩
  | .hbm, ⟨30, _⟩ => ⟨S10240x1x4096, .f32⟩
  | .hbm, ⟨31, _⟩ => ⟨S10240x4096, .f32⟩
  | .hbm, ⟨32, _⟩ => ⟨S10240x1024, .f32⟩
  | .hbm, ⟨33, _⟩ => ⟨S1x1024x4096, .f32⟩
  | .hbm, ⟨34, _⟩ => ⟨S1024x4096, .f32⟩
  | .hbm, ⟨35, _⟩ => ⟨S10240x4096, .f32⟩
  | .hbm, ⟨36, _⟩ => ⟨S10240x4096, .f32⟩
  | .hbm, ⟨37, _⟩ => ⟨S10240x4096, .f32⟩
  | .hbm, ⟨38, _⟩ => ⟨S10240x1x4096, .f32⟩
  | .hbm, ⟨39, _⟩ => ⟨S10240x4096, .f32⟩
  | .hbm, ⟨40, _⟩ => ⟨S10240x1024, .f32⟩
  | .hbm, ⟨41, _⟩ => ⟨S1x1024x4096, .f32⟩
  | .hbm, ⟨42, _⟩ => ⟨S1024x4096, .f32⟩
  | .hbm, ⟨43, _⟩ => ⟨S10240x4096, .f32⟩
  | .hbm, ⟨44, _⟩ => ⟨S10240x4096, .f32⟩
  | .hbm, ⟨45, _⟩ => ⟨S10240x4096, .f32⟩
  | .hbm, ⟨46, _⟩ => ⟨S10240x4096, .bf16⟩
  | _, _ => ⟨S10240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Out1.lean ====
abbrev S10240x4096 : Shape := ⟨2, ![10240, 4096]⟩
abbrev S2x4096x4096 : Shape := ⟨3, ![2, 4096, 4096]⟩
abbrev S48x1x4096 : Shape := ⟨3, ![48, 1, 4096]⟩
abbrev S1024x4096 : Shape := ⟨2, ![1024, 4096]⟩
abbrev S1x4096x256 : Shape := ⟨3, ![1, 4096, 256]⟩
abbrev S1024x256 : Shape := ⟨2, ![1024, 256]⟩
abbrev S1x1x256 : Shape := ⟨3, ![1, 1, 256]⟩
abbrev S1x256 : Shape := ⟨2, ![1, 256]⟩
abbrev S4096x256 : Shape := ⟨2, ![4096, 256]⟩

abbrev nBuf : Space → Nat
  | .hbm => 5
  | .vmem => 10
  | .smem => 0
  | _ => 0

abbrev bufTy : (tb : Table) → Fin (tcTables nBuf tb) → BufTy
  | .hbm, ⟨0, _⟩ => ⟨S10240x4096, .bf16⟩
  | .hbm, ⟨1, _⟩ => ⟨S2x4096x4096, .f32⟩
  | .hbm, ⟨2, _⟩ => ⟨S10240x4096, .f32⟩
  | .hbm, ⟨3, _⟩ => ⟨S48x1x4096, .f32⟩
  | .hbm, ⟨4, _⟩ => ⟨S10240x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1024x256, .f32⟩
  | .local _ .vmem, ⟨5, _⟩ => ⟨S1024x256, .f32⟩
  | .local _ .vmem, ⟨6, _⟩ => ⟨S1x1x256, .f32⟩
  | .local _ .vmem, ⟨7, _⟩ => ⟨S1x1x256, .f32⟩
  | .local _ .vmem, ⟨8, _⟩ => ⟨S1024x256, .f32⟩
  | .local _ .vmem, ⟨9, _⟩ => ⟨S1024x256, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c6_i32 : BitVec 32 := 6#32
  let v22 : BitVec 32 := Scalar.muli v21 c6_i32
  let c2_i32 : BitVec 32 := 2#32
  let v23 : BitVec 32 := Scalar.addi v22 c2_i32
  let c0_i32_8 : BitVec 32 := 0#32
  let c0_i32_9 : BitVec 32 := 0#32
  ![v23.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Out1RefIdeal.lean ====
abbrev S10240x4096 : Shape := ⟨2, ![10240, 4096]⟩
abbrev S2x4096x4096 : Shape := ⟨3, ![2, 4096, 4096]⟩
abbrev S48x1x4096 : Shape := ⟨3, ![48, 1, 4096]⟩
abbrev S8x6x4096 : Shape := ⟨3, ![8, 6, 4096]⟩
abbrev S8x1x4096 : Shape := ⟨3, ![8, 1, 4096]⟩
abbrev S8x4096 : Shape := ⟨2, ![8, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S2048x4096 : Shape := ⟨2, ![2048, 4096]⟩
abbrev S2x1024x4096 : Shape := ⟨3, ![2, 1024, 4096]⟩
abbrev S2x4096 : Shape := ⟨2, ![2, 4096]⟩
abbrev S2x1x4096 : Shape := ⟨3, ![2, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x4096, .f32⟩
  | .hbm, ⟨2, _⟩ => ⟨S10240x4096, .f32⟩
  | .hbm, ⟨3, _⟩ => ⟨S48x1x4096, .f32⟩
  | .hbm, ⟨4, _⟩ => ⟨S8x6x4096, .f32⟩
  | .hbm, ⟨5, _⟩ => ⟨S8x1x4096, .f32⟩
  | .hbm, ⟨6, _⟩ => ⟨S8x4096, .f32⟩
  | .hbm, ⟨7, _⟩ => ⟨S10240x4096, .f32⟩
  | .hbm, ⟨8, _⟩ => ⟨S1x4096x4096, .f32⟩
  | .hbm, ⟨9, _⟩ => ⟨S4096x4096, .f32⟩
  | .hbm, ⟨10, _⟩ => ⟨S10240x4096, .f32⟩
  | .hbm, ⟨11, _⟩ => ⟨S8192x4096, .f32⟩
  | .hbm, ⟨12, _⟩ => ⟨S1x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S2048x4096, .f32⟩
  | .hbm, ⟨20, _⟩ => ⟨S2x1024x4096, .f32⟩
  | .hbm, ⟨21, _⟩ => ⟨S2x4096, .f32⟩
  | .hbm, ⟨22, _⟩ => ⟨S2x1x4096, .f32⟩
  | .hbm, ⟨23, _⟩ => ⟨S2048x4096, .f32⟩
  | .hbm, ⟨24, _⟩ => ⟨S2x1024x4096, .f32⟩
  | .hbm, ⟨25, _⟩ => ⟨S2x1024x4096, .f32⟩
  | .hbm, ⟨26, _⟩ => ⟨S2x1024x4096, .f32⟩
  | .hbm, ⟨27, _⟩ => ⟨S2x1024x4096, .f32⟩
  | .hbm, ⟨28, _⟩ => ⟨S2048x4096, .f32⟩
  | .hbm, ⟨29, _⟩ => ⟨S10240x4096, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩

abbrev nD : Nat := 1
abbrev τ : Topo := Topo.v7x

variable {F : FTy → Type} [FloatOps F]
-- ==== FinalCtx.lean ====
abbrev S10240x4096 : Shape := ⟨2, ![10240, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalCtxRefIdeal.lean ====
abbrev S10240x4096 : Shape := ⟨2, ![10240, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalLat.lean ====
abbrev S10240x4096 : Shape := ⟨2, ![10240, 4096]⟩
abbrev S4096 : Shape := ⟨1, ![4096]⟩
abbrev S1x4096 : Shape := ⟨2, ![1, 4096]⟩
abbrev S2048x4096 : Shape := ⟨2, ![2048, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S1x4096, .f32⟩
  | .hbm, ⟨3, _⟩ => ⟨S2048x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalLatRefIdeal.lean ====
abbrev S10240x4096 : Shape := ⟨2, ![10240, 4096]⟩
abbrev S4096 : Shape := ⟨1, ![4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S4096, .f32⟩
  | .hbm, ⟨2, _⟩ => ⟨S2048x4096, .f32⟩
  | .hbm, ⟨3, _⟩ => ⟨S2048x4096, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x4096, .f32⟩
  | .hbm, ⟨15, _⟩ => ⟨S2048x4096, .f32⟩
  | .hbm, ⟨16, _⟩ => ⟨S1x4096, .f32⟩
  | .hbm, ⟨17, _⟩ => ⟨S2048x4096, .f32⟩
  | .hbm, ⟨18, _⟩ => ⟨S2048x4096, .f32⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Mlstm0.lean ====
abbrev S10240x4096 : Shape := ⟨2, ![10240, 4096]⟩
abbrev S10240x128 : Shape := ⟨2, ![10240, 128]⟩
abbrev S2x2x8 : Shape := ⟨3, ![2, 2, 8]⟩
abbrev S2x1024 : Shape := ⟨2, ![2, 1024]⟩
abbrev S10240x32 : Shape := ⟨2, ![10240, 32]⟩
abbrev S10240x4x8 : Shape := ⟨3, ![10240, 4, 8]⟩
abbrev S8x10240x4 : Shape := ⟨3, ![8, 10240, 4]⟩
abbrev S8x4x10240 : Shape := ⟨3, ![8, 4, 10240]⟩
abbrev S1x2x8 : Shape := ⟨3, ![1, 2, 8]⟩
abbrev S2x8 : Shape := ⟨2, ![2, 8]⟩
abbrev S4x8 : Shape := ⟨2, ![4, 8]⟩
abbrev S8x4 : Shape := ⟨2, ![8, 4]⟩
abbrev S8x1x4 : Shape := ⟨3, ![8, 1, 4]⟩
abbrev S8x4x1 : Shape := ⟨3, ![8, 4, 1]⟩
abbrev S1x1024 : Shape := ⟨2, ![1, 1024]⟩
abbrev S1024 : Shape := ⟨1, ![1024]⟩
abbrev S8x1x128 : Shape := ⟨3, ![8, 1, 128]⟩
abbrev S8192x1024 : Shape := ⟨2, ![8192, 1024]⟩
abbrev S32x8x2x128x128 : Shape := ⟨5, ![32, 8, 2, 128, 128]⟩
abbrev S32x8x2x128 : Shape := ⟨4, ![32, 8, 2, 128]⟩
abbrev S256x128 : Shape := ⟨2, ![256, 128]⟩
abbrev S1x256x4 : Shape := ⟨3, ![1, 256, 4]⟩
abbrev S1x4x256 : Shape := ⟨3, ![1, 4, 256]⟩
abbrev S1x1x4 : Shape := ⟨3, ![1, 1, 4]⟩
abbrev S1x4x1 : Shape := ⟨3, ![1, 4, 1]⟩
abbrev S1x1x128 : Shape := ⟨3, ![1, 1, 128]⟩
abbrev S1x1x2x128x128 : Shape := ⟨5, ![1, 1, 2, 128, 128]⟩
abbrev S1x1x2x128 : Shape := ⟨4, ![1, 1, 2, 128]⟩
abbrev S256x4 : Shape := ⟨2, ![256, 4]⟩
abbrev S1x4 : Shape := ⟨2, ![1, 4]⟩
abbrev S4x256 : Shape := ⟨2, ![4, 256]⟩
abbrev S4x1 : Shape := ⟨2, ![4, 1]⟩
abbrev S256x256 : Shape := ⟨2, ![256, 256]⟩
abbrev S128x128 : Shape := ⟨2, ![128, 128]⟩
abbrev S1x128 : Shape := ⟨2, ![1, 128]⟩
abbrev S1x1 : Shape := ⟨2, ![1, 1]⟩
abbrev S256x1 : Shape := ⟨2, ![256, 1]⟩
abbrev S1x256 : Shape := ⟨2, ![1, 256]⟩
abbrev S256 : Shape := ⟨1, ![256]⟩
abbrev S1 : Shape := ⟨1, ![1]⟩
abbrev S128 : Shape := ⟨1, ![128]⟩
abbrev S1x1x1x128x128 : Shape := ⟨5, ![1, 1, 1, 128, 128]⟩
abbrev S1x1x1x128 : Shape := ⟨4, ![1, 1, 1, 128]⟩

abbrev nBuf : Space → Nat
  | .hbm => 25
  | .vmem => 27
  | .smem => 0
  | _ => 0

abbrev bufTy : (tb : Table) → Fin (tcTables nBuf tb) → BufTy
  | .hbm, ⟨0, _⟩ => ⟨S10240x4096, .f32⟩
  | .hbm, ⟨1, _⟩ => ⟨S10240x128, .f32⟩
  | .hbm, ⟨2, _⟩ => ⟨S2x2x8, .f32⟩
  | .hbm, ⟨3, _⟩ => ⟨S2x2x8, .f32⟩
  | .hbm, ⟨4, _⟩ => ⟨S2x1024, .f32⟩
  | .hbm, ⟨5, _⟩ => ⟨S10240x32, .f32⟩
  | .hbm, ⟨6, _⟩ => ⟨S10240x4x8, .f32⟩
  | .hbm, ⟨7, _⟩ => ⟨S8x10240x4, .f32⟩
  | .hbm, ⟨8, _⟩ => ⟨S8x4x10240, .f32⟩
  | .hbm, ⟨9, _⟩ => ⟨S1x2x8, .f32⟩
  | .hbm, ⟨10, _⟩ => ⟨S2x8, .f32⟩
  | .hbm, ⟨11, _⟩ => ⟨S1x2x8, .f32⟩
  | .hbm, ⟨12, _⟩ => ⟨S2x8, .f32⟩
  | .hbm, ⟨13, _⟩ => ⟨S4x8, .f32⟩
  | .hbm, ⟨14, _⟩ => ⟨S8x4, .f32⟩
  | .hbm, ⟨15, _⟩ => ⟨S8x1x4, .f32⟩
  | .hbm, ⟨16, _⟩ => ⟨S8x4, .f32⟩
  | .hbm, ⟨17, _⟩ => ⟨S8x4x1, .f32⟩
  | .hbm, ⟨18, _⟩ => ⟨S1x1024, .f32⟩
  | .hbm, ⟨19, _⟩ => ⟨S1024, .f32⟩
  | .hbm, ⟨20, _⟩ => ⟨S8x1x128, .f32⟩
  | .hbm, ⟨21, _⟩ => ⟨S8192x1024, .bf16⟩
  | .hbm, ⟨22, _⟩ => ⟨S32x8x2x128x128, .f32⟩
  | .hbm, ⟨23, _⟩ => ⟨S32x8x2x128, .f32⟩
  | .hbm, ⟨24, _⟩ => ⟨S32x8x2x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x256x4, .f32⟩
  | .local _ .vmem, ⟨9, _⟩ => ⟨S1x256x4, .f32⟩
  | .local _ .vmem, ⟨10, _⟩ => ⟨S1x4x256, .f32⟩
  | .local _ .vmem, ⟨11, _⟩ => ⟨S1x4x256, .f32⟩
  | .local _ .vmem, ⟨12, _⟩ => ⟨S1x1x4, .f32⟩
  | .local _ .vmem, ⟨13, _⟩ => ⟨S1x1x4, .f32⟩
  | .local _ .vmem, ⟨14, _⟩ => ⟨S1x4x1, .f32⟩
  | .local _ .vmem, ⟨15, _⟩ => ⟨S1x4x1, .f32⟩
  | .local _ .vmem, ⟨16, _⟩ => ⟨S1x1x128, .f32⟩
  | .local _ .vmem, ⟨17, _⟩ => ⟨S1x1x128, .f32⟩
  | .local _ .vmem, ⟨18, _⟩ => ⟨S256x128, .bf16⟩
  | .local _ .vmem, ⟨19, _⟩ => ⟨S256x128, .bf16⟩
  | .local _ .vmem, ⟨20, _⟩ => ⟨S1x1x2x128x128, .f32⟩
  | .local _ .vmem, ⟨21, _⟩ => ⟨S1x1x2x128x128, .f32⟩
  | .local _ .vmem, ⟨22, _⟩ => ⟨S1x1x2x128, .f32⟩
  | .local _ .vmem, ⟨23, _⟩ => ⟨S1x1x2x128, .f32⟩
  | .local _ .vmem, ⟨24, _⟩ => ⟨S1x1x2x128, .f32⟩
  | .local _ .vmem, ⟨25, _⟩ => ⟨S1x1x2x128, .f32⟩
  | .local _ .vmem, ⟨26, _⟩ => ⟨S256x128, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Mlstm0RefIdeal.lean ====
abbrev S10240x4096 : Shape := ⟨2, ![10240, 4096]⟩
abbrev S10240x128 : Shape := ⟨2, ![10240, 128]⟩
abbrev S2x2x8 : Shape := ⟨3, ![2, 2, 8]⟩
abbrev S2x1024 : Shape := ⟨2, ![2, 1024]⟩
abbrev S8192x1024 : Shape := ⟨2, ![8192, 1024]⟩
abbrev S32x256x8x128 : Shape := ⟨4, ![32, 256, 8, 128]⟩
abbrev S32x8x256x128 : Shape := ⟨4, ![32, 8, 256, 128]⟩
abbrev S_ : Shape := ⟨0, ![]⟩
abbrev S8192x16 : Shape := ⟨2, ![8192, 16]⟩
abbrev S32x256x2x8 : Shape := ⟨4, ![32, 256, 2, 8]⟩
abbrev S1x2x8 : Shape := ⟨3, ![1, 2, 8]⟩
abbrev S2x8 : Shape := ⟨2, ![2, 8]⟩
abbrev S1x1x2x8 : Shape := ⟨4, ![1, 1, 2, 8]⟩
abbrev S256 : Shape := ⟨1, ![256]⟩
abbrev S32x256x1x8 : Shape := ⟨4, ![32, 256, 1, 8]⟩
abbrev S32x256x8 : Shape := ⟨3, ![32, 256, 8]⟩
abbrev S32x8x256 : Shape := ⟨3, ![32, 8, 256]⟩
abbrev S1x256 : Shape := ⟨2, ![1, 256]⟩
abbrev S256x1 : Shape := ⟨2, ![256, 1]⟩
abbrev S256x256 : Shape := ⟨2, ![256, 256]⟩
abbrev S32x8x128x128 : Shape := ⟨4, ![32, 8, 128, 128]⟩
abbrev S32x8x128 : Shape := ⟨3, ![32, 8, 128]⟩
abbrev S32x8 : Shape := ⟨2, ![32, 8]⟩
abbrev S32x8x1x256 : Shape := ⟨4, ![32, 8, 1, 256]⟩
abbrev S32x8x256x256 : Shape := ⟨4, ![32, 8, 256, 256]⟩
abbrev S32x8x256x1 : Shape := ⟨4, ![32, 8, 256, 1]⟩
abbrev S32x8x1 : Shape := ⟨3, ![32, 8, 1]⟩
abbrev S32x8x1x1 : Shape := ⟨4, ![32, 8, 1, 1]⟩
abbrev S1x1024 : Shape := ⟨2, ![1, 1024]⟩
abbrev S1024 : Shape := ⟨1, ![1024]⟩
abbrev S8x128 : Shape := ⟨2, ![8, 128]⟩
abbrev S32x256x8x1 : Shape := ⟨4, ![32, 256, 8, 1]⟩
abbrev S1x1x8x128 : Shape := ⟨4, ![1, 1, 8, 128]⟩
abbrev S32x8x2 : Shape := ⟨3, ![32, 8, 2]⟩
abbrev S32x8x1x128x128 : Shape := ⟨5, ![32, 8, 1, 128, 128]⟩
abbrev S32x8x2x128x128 : Shape := ⟨5, ![32, 8, 2, 128, 128]⟩
abbrev S32x8x1x128 : Shape := ⟨4, ![32, 8, 1, 128]⟩
abbrev S32x8x2x128 : Shape := ⟨4, ![32, 8, 2, 128]⟩
abbrev S32x8x2x1 : Shape := ⟨4, ![32, 8, 2, 1]⟩

abbrev nBuf : Space → Nat
  | .hbm => 296
  | .vmem => 0
  | .smem => 0
  | _ => 0

abbrev hbmTy0_0 (i : Nat) : BufTy := match i % 128 with
  | 0 => ⟨S10240x4096, .f32⟩
  | 1 => ⟨S10240x128, .f32⟩
  | 2 => ⟨S2x2x8, .f32⟩
  | 3 => ⟨S2x2x8, .f32⟩
  | 4 => ⟨S2x1024, .f32⟩
  | 5 => ⟨S8192x1024, .f32⟩
  | 6 => ⟨S32x256x8x128, .f32⟩
  | 7 => ⟨S32x8x256x128, .f32⟩
  | 8 => ⟨S8192x1024, .f32⟩
  | 9 => ⟨S32x256x8x128, .f32⟩
  | 10 => ⟨S32x8x256x128, .f32⟩
  | 11 => ⟨S_, .f32⟩
  | 12 => ⟨S32x8x256x128, .f32⟩
  | 13 => ⟨S32x8x256x128, .f32⟩
  | 14 => ⟨S8192x1024, .f32⟩
  | 15 => ⟨S32x256x8x128, .f32⟩
  | 16 => ⟨S32x8x256x128, .f32⟩
  | 17 => ⟨S8192x1024, .f32⟩
  | 18 => ⟨S32x256x8x128, .f32⟩
  | 19 => ⟨S32x8x256x128, .f32⟩
  | 20 => ⟨S8192x16, .f32⟩
  | 21 => ⟨S32x256x2x8, .f32⟩
  | 22 => ⟨S1x2x8, .f32⟩
  | 23 => ⟨S2x8, .f32⟩
  | 24 => ⟨S1x1x2x8, .f32⟩
  | 25 => ⟨S32x256x2x8, .f32⟩
  | 26 => ⟨S32x256x2x8, .f32⟩
  | 27 => ⟨S8192x16, .f32⟩
  | 28 => ⟨S32x256x2x8, .f32⟩
  | 29 => ⟨S1x2x8, .f32⟩
  | 30 => ⟨S2x8, .f32⟩
  | 31 => ⟨S1x1x2x8, .f32⟩
  | 32 => ⟨S32x256x2x8, .f32⟩
  | 33 => ⟨S32x256x2x8, .f32⟩
  | 34 => ⟨S32x256x2x8, .f32⟩
  | 35 => ⟨S_, .f32⟩
  | 36 => ⟨S32x256x2x8, .f32⟩
  | 37 => ⟨S32x256x2x8, .f32⟩
  | 38 => ⟨S32x256x2x8, .f32⟩
  | 39 => ⟨S32x256x2x8, .f32⟩
  | 40 => ⟨S32x256x2x8, .i1⟩
  | 41 => ⟨S32x256x2x8, .f32⟩
  | 42 => ⟨S32x256x2x8, .f32⟩
  | 43 => ⟨S32x256x2x8, .f32⟩
  | 44 => ⟨S32x256x2x8, .f32⟩
  | 45 => ⟨S32x256x2x8, .f32⟩
  | 46 => ⟨S32x256x2x8, .f32⟩
  | 47 => ⟨S32x256x2x8, .f32⟩
  | 48 => ⟨S32x256x2x8, .f32⟩
  | 49 => ⟨S32x256x2x8, .f32⟩
  | 50 => ⟨S256, .i32⟩
  | 51 => ⟨S32x256x1x8, .f32⟩
  | 52 => ⟨S32x256x8, .f32⟩
  | 53 => ⟨S32x8x256, .f32⟩
  | 54 => ⟨S32x256x1x8, .f32⟩
  | 55 => ⟨S32x256x8, .f32⟩
  | 56 => ⟨S32x8x256, .f32⟩
  | 57 => ⟨S1x256, .i32⟩
  | 58 => ⟨S256x1, .i32⟩
  | 59 => ⟨S256x256, .i32⟩
  | 60 => ⟨S256x256, .i32⟩
  | 61 => ⟨S256x256, .i1⟩
  | 62 => ⟨S_, .f32⟩
  | 63 => ⟨S32x8x128x128, .f32⟩
  | 64 => ⟨S_, .f32⟩
  | 65 => ⟨S32x8x128, .f32⟩
  | 66 => ⟨S_, .f32⟩
  | 67 => ⟨S32x8, .f32⟩
  | 68 => ⟨S32x8x1x256, .f32⟩
  | 69 => ⟨S_, .f32⟩
  | 70 => ⟨S_, .f32⟩
  | 71 => ⟨S32x8x256x256, .i1⟩
  | 72 => ⟨S32x8x256x256, .f32⟩
  | 73 => ⟨S32x8x256x256, .f32⟩
  | 74 => ⟨S32x8x256x256, .f32⟩
  | 75 => ⟨S_, .f32⟩
  | 76 => ⟨S32x8x256, .f32⟩
  | 77 => ⟨S32x8x256x1, .f32⟩
  | 78 => ⟨S32x8x1x256, .f32⟩
  | 79 => ⟨S32x8x256x256, .f32⟩
  | 80 => ⟨S32x8x256x256, .f32⟩
  | 81 => ⟨S32x8x256x256, .f32⟩
  | 82 => ⟨S32x8x1x256, .f32⟩
  | 83 => ⟨S32x8x256x256, .f32⟩
  | 84 => ⟨S32x8x256x256, .f32⟩
  | 85 => ⟨S_, .f32⟩
  | 86 => ⟨S_, .f32⟩
  | 87 => ⟨S32x8x256x256, .i1⟩
  | 88 => ⟨S32x8x256x256, .f32⟩
  | 89 => ⟨S32x8x256x256, .f32⟩
  | 90 => ⟨S32x8x1, .f32⟩
  | 91 => ⟨S32x8x256, .f32⟩
  | 92 => ⟨S32x8x256, .f32⟩
  | 93 => ⟨S_, .f32⟩
  | 94 => ⟨S32x8x256, .f32⟩
  | 95 => ⟨S32x8x256, .f32⟩
  | 96 => ⟨S32x8x256x256, .f32⟩
  | 97 => ⟨S32x8x256x1, .f32⟩
  | 98 => ⟨S32x8x256x256, .f32⟩
  | 99 => ⟨S32x8x256x256, .f32⟩
  | 100 => ⟨S32x8x256x256, .f32⟩
  | 101 => ⟨S32x8x256x256, .f32⟩
  | 102 => ⟨S32x8x256, .f32⟩
  | 103 => ⟨S32x8x256, .f32⟩
  | 104 => ⟨S32x8x256x128, .f32⟩
  | 105 => ⟨S32x8x256x1, .f32⟩
  | 106 => ⟨S32x8x256x128, .f32⟩
  | 107 => ⟨S32x8x256x128, .f32⟩
  | 108 => ⟨S32x8x256x128, .f32⟩
  | 109 => ⟨S32x8x256x128, .f32⟩
  | 110 => ⟨S_, .f32⟩
  | 111 => ⟨S32x8x256, .f32⟩
  | 112 => ⟨S32x8x256, .f32⟩
  | 113 => ⟨S32x8x256, .f32⟩
  | 114 => ⟨S32x8x256, .f32⟩
  | 115 => ⟨S32x8x256, .f32⟩
  | 116 => ⟨S32x8x256, .f32⟩
  | 117 => ⟨S32x8x256, .f32⟩
  | 118 => ⟨S32x8x256, .f32⟩
  | 119 => ⟨S32x8x256x1, .f32⟩
  | 120 => ⟨S32x8x256x128, .f32⟩
  | 121 => ⟨S32x8x256x128, .f32⟩
  | 122 => ⟨S_, .f32⟩
  | 123 => ⟨S32x8, .f32⟩
  | 124 => ⟨S32x8x1, .f32⟩
  | 125 => ⟨S32x8x256, .f32⟩
  | 126 => ⟨S32x8x256, .f32⟩
  | 127 => ⟨S32x8x256, .f32⟩
  | _ => ⟨S10240x4096, .f32⟩

abbrev hbmTy0_1 (i : Nat) : BufTy := match i % 128 with
  | 0 => ⟨S32x8, .f32⟩
  | 1 => ⟨S_, .f32⟩
  | 2 => ⟨S32x8, .f32⟩
  | 3 => ⟨S32x8, .f32⟩
  | 4 => ⟨S32x8x1, .f32⟩
  | 5 => ⟨S32x8x256, .f32⟩
  | 6 => ⟨S32x8x256, .f32⟩
  | 7 => ⟨S32x8x256, .f32⟩
  | 8 => ⟨S32x8, .f32⟩
  | 9 => ⟨S32x8, .f32⟩
  | 10 => ⟨S32x8, .f32⟩
  | 11 => ⟨S32x8x1x1, .f32⟩
  | 12 => ⟨S32x8x128x128, .f32⟩
  | 13 => ⟨S32x8x128x128, .f32⟩
  | 14 => ⟨S32x8x256x1, .f32⟩
  | 15 => ⟨S32x8x256x128, .f32⟩
  | 16 => ⟨S32x8x256x128, .f32⟩
  | 17 => ⟨S32x8x128x128, .f32⟩
  | 18 => ⟨S32x8x128x128, .f32⟩
  | 19 => ⟨S32x8x1, .f32⟩
  | 20 => ⟨S32x8x128, .f32⟩
  | 21 => ⟨S32x8x128, .f32⟩
  | 22 => ⟨S32x8x128, .f32⟩
  | 23 => ⟨S32x8x128, .f32⟩
  | 24 => ⟨S32x256x1x8, .f32⟩
  | 25 => ⟨S32x256x8, .f32⟩
  | 26 => ⟨S32x8x256, .f32⟩
  | 27 => ⟨S32x256x1x8, .f32⟩
  | 28 => ⟨S32x256x8, .f32⟩
  | 29 => ⟨S32x8x256, .f32⟩
  | 30 => ⟨S1x256, .i32⟩
  | 31 => ⟨S256x1, .i32⟩
  | 32 => ⟨S256x256, .i32⟩
  | 33 => ⟨S256x256, .i32⟩
  | 34 => ⟨S256x256, .i1⟩
  | 35 => ⟨S_, .f32⟩
  | 36 => ⟨S32x8x128x128, .f32⟩
  | 37 => ⟨S_, .f32⟩
  | 38 => ⟨S32x8x128, .f32⟩
  | 39 => ⟨S_, .f32⟩
  | 40 => ⟨S32x8, .f32⟩
  | 41 => ⟨S32x8x1x256, .f32⟩
  | 42 => ⟨S_, .f32⟩
  | 43 => ⟨S_, .f32⟩
  | 44 => ⟨S32x8x256x256, .i1⟩
  | 45 => ⟨S32x8x256x256, .f32⟩
  | 46 => ⟨S32x8x256x256, .f32⟩
  | 47 => ⟨S32x8x256x256, .f32⟩
  | 48 => ⟨S_, .f32⟩
  | 49 => ⟨S32x8x256, .f32⟩
  | 50 => ⟨S32x8x256x1, .f32⟩
  | 51 => ⟨S32x8x1x256, .f32⟩
  | 52 => ⟨S32x8x256x256, .f32⟩
  | 53 => ⟨S32x8x256x256, .f32⟩
  | 54 => ⟨S32x8x256x256, .f32⟩
  | 55 => ⟨S32x8x1x256, .f32⟩
  | 56 => ⟨S32x8x256x256, .f32⟩
  | 57 => ⟨S32x8x256x256, .f32⟩
  | 58 => ⟨S_, .f32⟩
  | 59 => ⟨S_, .f32⟩
  | 60 => ⟨S32x8x256x256, .i1⟩
  | 61 => ⟨S32x8x256x256, .f32⟩
  | 62 => ⟨S32x8x256x256, .f32⟩
  | 63 => ⟨S32x8x1, .f32⟩
  | 64 => ⟨S32x8x256, .f32⟩
  | 65 => ⟨S32x8x256, .f32⟩
  | 66 => ⟨S_, .f32⟩
  | 67 => ⟨S32x8x256, .f32⟩
  | 68 => ⟨S32x8x256, .f32⟩
  | 69 => ⟨S32x8x256x256, .f32⟩
  | 70 => ⟨S32x8x256x1, .f32⟩
  | 71 => ⟨S32x8x256x256, .f32⟩
  | 72 => ⟨S32x8x256x256, .f32⟩
  | 73 => ⟨S32x8x256x256, .f32⟩
  | 74 => ⟨S32x8x256x256, .f32⟩
  | 75 => ⟨S32x8x256, .f32⟩
  | 76 => ⟨S32x8x256, .f32⟩
  | 77 => ⟨S32x8x256x128, .f32⟩
  | 78 => ⟨S32x8x256x1, .f32⟩
  | 79 => ⟨S32x8x256x128, .f32⟩
  | 80 => ⟨S32x8x256x128, .f32⟩
  | 81 => ⟨S32x8x256x128, .f32⟩
  | 82 => ⟨S32x8x256x128, .f32⟩
  | 83 => ⟨S_, .f32⟩
  | 84 => ⟨S32x8x256, .f32⟩
  | 85 => ⟨S32x8x256, .f32⟩
  | 86 => ⟨S32x8x256, .f32⟩
  | 87 => ⟨S32x8x256, .f32⟩
  | 88 => ⟨S32x8x256, .f32⟩
  | 89 => ⟨S32x8x256, .f32⟩
  | 90 => ⟨S32x8x256, .f32⟩
  | 91 => ⟨S32x8x256, .f32⟩
  | 92 => ⟨S32x8x256x1, .f32⟩
  | 93 => ⟨S32x8x256x128, .f32⟩
  | 94 => ⟨S32x8x256x128, .f32⟩
  | 95 => ⟨S_, .f32⟩
  | 96 => ⟨S32x8, .f32⟩
  | 97 => ⟨S32x8x1, .f32⟩
  | 98 => ⟨S32x8x256, .f32⟩
  | 99 => ⟨S32x8x256, .f32⟩
  | 100 => ⟨S32x8x256, .f32⟩
  | 101 => ⟨S32x8, .f32⟩
  | 102 => ⟨S_, .f32⟩
  | 103 => ⟨S32x8, .f32⟩
  | 104 => ⟨S32x8, .f32⟩
  | 105 => ⟨S32x8x1, .f32⟩
  | 106 => ⟨S32x8x256, .f32⟩
  | 107 => ⟨S32x8x256, .f32⟩
  | 108 => ⟨S32x8x256, .f32⟩
  | 109 => ⟨S32x8, .f32⟩
  | 110 => ⟨S32x8, .f32⟩
  | 111 => ⟨S32x8, .f32⟩
  | 112 => ⟨S32x8x1x1, .f32⟩
  | 113 => ⟨S32x8x128x128, .f32⟩
  | 114 => ⟨S32x8x128x128, .f32⟩
  | 115 => ⟨S32x8x256x1, .f32⟩
  | 116 => ⟨S32x8x256x128, .f32⟩
  | 117 => ⟨S32x8x256x128, .f32⟩
  | 118 => ⟨S32x8x128x128, .f32⟩
  | 119 => ⟨S32x8x128x128, .f32⟩
  | 120 => ⟨S32x8x1, .f32⟩
  | 121 => ⟨S32x8x128, .f32⟩
  | 122 => ⟨S32x8x128, .f32⟩
  | 123 => ⟨S32x8x128, .f32⟩
  | 124 => ⟨S32x8x128, .f32⟩
  | 125 => ⟨S32x8x256x128, .f32⟩
  | 126 => ⟨S32x8x256x128, .f32⟩
  | 127 => ⟨S_, .f32⟩
  | _ => ⟨S10240x4096, .f32⟩

abbrev hbmTy0_2 (i : Nat) : BufTy := match i % 128 with
  | 0 => ⟨S32x8x256x128, .f32⟩
  | 1 => ⟨S32x8x256x128, .f32⟩
  | 2 => ⟨S_, .f32⟩
  | 3 => ⟨S32x8x256x128, .f32⟩
  | 4 => ⟨S32x8x256x128, .f32⟩
  | 5 => ⟨S32x8x256x128, .f32⟩
  | 6 => ⟨S32x8x256x128, .f32⟩
  | 7 => ⟨S32x256x8x128, .f32⟩
  | 8 => ⟨S1x1024, .f32⟩
  | 9 => ⟨S1024, .f32⟩
  | 10 => ⟨S8x128, .f32⟩
  | 11 => ⟨S32x256x8x128, .f32⟩
  | 12 => ⟨S_, .f32⟩
  | 13 => ⟨S32x256x8, .f32⟩
  | 14 => ⟨S32x256x8x1, .f32⟩
  | 15 => ⟨S_, .f32⟩
  | 16 => ⟨S32x256x8x1, .f32⟩
  | 17 => ⟨S32x256x8x1, .f32⟩
  | 18 => ⟨S_, .f32⟩
  | 19 => ⟨S32x256x8x1, .f32⟩
  | 20 => ⟨S32x256x8x1, .f32⟩
  | 21 => ⟨S32x256x8x1, .f32⟩
  | 22 => ⟨S32x256x8x128, .f32⟩
  | 23 => ⟨S32x256x8x128, .f32⟩
  | 24 => ⟨S1x1x8x128, .f32⟩
  | 25 => ⟨S32x256x8x128, .f32⟩
  | 26 => ⟨S32x256x8x128, .f32⟩
  | 27 => ⟨S8192x1024, .f32⟩
  | 28 => ⟨S32x8x1, .f32⟩
  | 29 => ⟨S32x8x1, .f32⟩
  | 30 => ⟨S32x8x2, .f32⟩
  | 31 => ⟨S8192x1024, .bf16⟩
  | 32 => ⟨S32x8x1x128x128, .f32⟩
  | 33 => ⟨S32x8x1x128x128, .f32⟩
  | 34 => ⟨S32x8x2x128x128, .f32⟩
  | 35 => ⟨S32x8x1x128, .f32⟩
  | 36 => ⟨S32x8x1x128, .f32⟩
  | 37 => ⟨S32x8x2x128, .f32⟩
  | 38 => ⟨S32x8x2x1, .f32⟩
  | 39 => ⟨S32x8x2x128, .f32⟩
  | _ => ⟨S10240x4096, .f32⟩

abbrev hbmTy (i : Nat) : BufTy := match i / 128 with
  | 0 => hbmTy0_0 i
  | 1 => hbmTy0_1 i
  | 2 => hbmTy0_2 i
  | _ => ⟨S10240x4096, .f32⟩

abbrev bufTy : (tb : Table) → Fin (tcTables nBuf tb) → BufTy
  | .hbm, ⟨i, _⟩ => hbmTy i
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_0 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_5 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_6 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_7 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_8 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_9 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_10 : Ref sig .tc := ⟨.hbm, 163, rfl⟩
abbrev main_v125 : Ref sig .tc := ⟨.hbm, 164, rfl⟩
abbrev main_cst_11 : Ref sig .tc := ⟨.hbm, 165, rfl⟩
abbrev main_v126 : Ref sig .tc := ⟨.hbm, 166, rfl⟩
abbrev main_cst_12 : Ref sig .tc := ⟨.hbm, 167, rfl⟩
abbrev main_v127 : Ref sig .tc := ⟨.hbm, 168, rfl⟩
abbrev main_v128 : Ref sig .tc := ⟨.hbm, 169, rfl⟩
abbrev main_cst_13 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_v129 : Ref sig .tc := ⟨.hbm, 175, rfl⟩
abbrev main_cst_14 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_15 : Ref sig .tc := ⟨.hbm, 186, rfl⟩
abbrev main_call4_v0 : Ref sig .tc := ⟨.hbm, 187, rfl⟩
abbrev main_call4_v1 : Ref sig .tc := ⟨.hbm, 188, rfl⟩
abbrev main_call4_v2 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_16 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_17 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_18 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_19 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_20 : Ref sig .tc := ⟨.hbm, 255, rfl⟩
abbrev main_v200 : Ref sig .tc := ⟨.hbm, 256, rfl⟩
abbrev main_v201 : Ref sig .tc := ⟨.hbm, 257, rfl⟩
abbrev main_cst_21 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_22 : Ref sig .tc := ⟨.hbm, 268, rfl⟩
abbrev main_v211 : Ref sig .tc := ⟨.hbm, 269, rfl⟩
abbrev main_v212 : Ref sig .tc := ⟨.hbm, 270, rfl⟩
abbrev main_cst_23 : Ref sig .tc := ⟨.hbm, 271, rfl⟩
abbrev main_v213 : Ref sig .tc := ⟨.hbm, 272, rfl⟩
abbrev main_v214 : Ref sig .tc := ⟨.hbm, 273, rfl⟩
abbrev main_cst_24 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩

abbrev nD : Nat := 1
abbrev τ : Topo := Topo.v7x

variable {F : FTy → Type} [FloatOps F]
-- ==== Mlstm1.lean ====
abbrev S10240x4096 : Shape := ⟨2, ![10240, 4096]⟩
abbrev S10240x128 : Shape := ⟨2, ![10240, 128]⟩
abbrev S2x2x8 : Shape := ⟨3, ![2, 2, 8]⟩
abbrev S2x1024 : Shape := ⟨2, ![2, 1024]⟩
abbrev S10240x32 : Shape := ⟨2, ![10240, 32]⟩
abbrev S10240x4x8 : Shape := ⟨3, ![10240, 4, 8]⟩
abbrev S8x10240x4 : Shape := ⟨3, ![8, 10240, 4]⟩
abbrev S8x4x10240 : Shape := ⟨3, ![8, 4, 10240]⟩
abbrev S1x2x8 : Shape := ⟨3, ![1, 2, 8]⟩
abbrev S2x8 : Shape := ⟨2, ![2, 8]⟩
abbrev S4x8 : Shape := ⟨2, ![4, 8]⟩
abbrev S8x4 : Shape := ⟨2, ![8, 4]⟩
abbrev S8x1x4 : Shape := ⟨3, ![8, 1, 4]⟩
abbrev S8x4x1 : Shape := ⟨3, ![8, 4, 1]⟩
abbrev S1x1024 : Shape := ⟨2, ![1, 1024]⟩
abbrev S1024 : Shape := ⟨1, ![1024]⟩
abbrev S8x1x128 : Shape := ⟨3, ![8, 1, 128]⟩
abbrev S8192x1024 : Shape := ⟨2, ![8192, 1024]⟩
abbrev S32x8x2x128x128 : Shape := ⟨5, ![32, 8, 2, 128, 128]⟩
abbrev S32x8x2x128 : Shape := ⟨4, ![32, 8, 2, 128]⟩
abbrev S256x128 : Shape := ⟨2, ![256, 128]⟩
abbrev S1x256x4 : Shape := ⟨3, ![1, 256, 4]⟩
abbrev S1x4x256 : Shape := ⟨3, ![1, 4, 256]⟩
abbrev S1x1x4 : Shape := ⟨3, ![1, 1, 4]⟩
abbrev S1x4x1 : Shape := ⟨3, ![1, 4, 1]⟩
abbrev S1x1x128 : Shape := ⟨3, ![1, 1, 128]⟩
abbrev S1x1x2x128x128 : Shape := ⟨5, ![1, 1, 2, 128, 128]⟩
abbrev S1x1x2x128 : Shape := ⟨4, ![1, 1, 2, 128]⟩
abbrev S256x4 : Shape := ⟨2, ![256, 4]⟩
abbrev S1x4 : Shape := ⟨2, ![1, 4]⟩
abbrev S4x256 : Shape := ⟨2, ![4, 256]⟩
abbrev S4x1 : Shape := ⟨2, ![4, 1]⟩
abbrev S256x256 : Shape := ⟨2, ![256, 256]⟩
abbrev S128x128 : Shape := ⟨2, ![128, 128]⟩
abbrev S1x128 : Shape := ⟨2, ![1, 128]⟩
abbrev S1x1 : Shape := ⟨2, ![1, 1]⟩
abbrev S256x1 : Shape := ⟨2, ![256, 1]⟩
abbrev S1x256 : Shape := ⟨2, ![1, 256]⟩
abbrev S256 : Shape := ⟨1, ![256]⟩
abbrev S1 : Shape := ⟨1, ![1]⟩
abbrev S128 : Shape := ⟨1, ![128]⟩
abbrev S1x1x1x128x128 : Shape := ⟨5, ![1, 1, 1, 128, 128]⟩
abbrev S1x1x1x128 : Shape := ⟨4, ![1, 1, 1, 128]⟩

abbrev nBuf : Space → Nat
  | .hbm => 25
  | .vmem => 27
  | .smem => 0
  | _ => 0

abbrev bufTy : (tb : Table) → Fin (tcTables nBuf tb) → BufTy
  | .hbm, ⟨0, _⟩ => ⟨S10240x4096, .f32⟩
  | .hbm, ⟨1, _⟩ => ⟨S10240x128, .f32⟩
  | .hbm, ⟨2, _⟩ => ⟨S2x2x8, .f32⟩
  | .hbm, ⟨3, _⟩ => ⟨S2x2x8, .f32⟩
  | .hbm, ⟨4, _⟩ => ⟨S2x1024, .f32⟩
  | .hbm, ⟨5, _⟩ => ⟨S10240x32, .f32⟩
  | .hbm, ⟨6, _⟩ => ⟨S10240x4x8, .f32⟩
  | .hbm, ⟨7, _⟩ => ⟨S8x10240x4, .f32⟩
  | .hbm, ⟨8, _⟩ => ⟨S8x4x10240, .f32⟩
  | .hbm, ⟨9, _⟩ => ⟨S1x2x8, .f32⟩
  | .hbm, ⟨10, _⟩ => ⟨S2x8, .f32⟩
  | .hbm, ⟨11, _⟩ => ⟨S1x2x8, .f32⟩
  | .hbm, ⟨12, _⟩ => ⟨S2x8, .f32⟩
  | .hbm, ⟨13, _⟩ => ⟨S4x8, .f32⟩
  | .hbm, ⟨14, _⟩ => ⟨S8x4, .f32⟩
  | .hbm, ⟨15, _⟩ => ⟨S8x1x4, .f32⟩
  | .hbm, ⟨16, _⟩ => ⟨S8x4, .f32⟩
  | .hbm, ⟨17, _⟩ => ⟨S8x4x1, .f32⟩
  | .hbm, ⟨18, _⟩ => ⟨S1x1024, .f32⟩
  | .hbm, ⟨19, _⟩ => ⟨S1024, .f32⟩
  | .hbm, ⟨20, _⟩ => ⟨S8x1x128, .f32⟩
  | .hbm, ⟨21, _⟩ => ⟨S8192x1024, .bf16⟩
  | .hbm, ⟨22, _⟩ => ⟨S32x8x2x128x128, .f32⟩
  | .hbm, ⟨23, _⟩ => ⟨S32x8x2x128, .f32⟩
  | .hbm, ⟨24, _⟩ => ⟨S32x8x2x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x256x4, .f32⟩
  | .local _ .vmem, ⟨9, _⟩ => ⟨S1x256x4, .f32⟩
  | .local _ .vmem, ⟨10, _⟩ => ⟨S1x4x256, .f32⟩
  | .local _ .vmem, ⟨11, _⟩ => ⟨S1x4x256, .f32⟩
  | .local _ .vmem, ⟨12, _⟩ => ⟨S1x1x4, .f32⟩
  | .local _ .vmem, ⟨13, _⟩ => ⟨S1x1x4, .f32⟩
  | .local _ .vmem, ⟨14, _⟩ => ⟨S1x4x1, .f32⟩
  | .local _ .vmem, ⟨15, _⟩ => ⟨S1x4x1, .f32⟩
  | .local _ .vmem, ⟨16, _⟩ => ⟨S1x1x128, .f32⟩
  | .local _ .vmem, ⟨17, _⟩ => ⟨S1x1x128, .f32⟩
  | .local _ .vmem, ⟨18, _⟩ => ⟨S256x128, .bf16⟩
  | .local _ .vmem, ⟨19, _⟩ => ⟨S256x128, .bf16⟩
  | .local _ .vmem, ⟨20, _⟩ => ⟨S1x1x2x128x128, .f32⟩
  | .local _ .vmem, ⟨21, _⟩ => ⟨S1x1x2x128x128, .f32⟩
  | .local _ .vmem, ⟨22, _⟩ => ⟨S1x1x2x128, .f32⟩
  | .local _ .vmem, ⟨23, _⟩ => ⟨S1x1x2x128, .f32⟩
  | .local _ .vmem, ⟨24, _⟩ => ⟨S1x1x2x128, .f32⟩
  | .local _ .vmem, ⟨25, _⟩ => ⟨S1x1x2x128, .f32⟩
  | .local _ .vmem, ⟨26, _⟩ => ⟨S256x128, .f32⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let v1 : BitVec 32 := Scalar.addi c0_i32_0 arg1
  let c0_i32_1 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c16_i32 : BitVec 32 := 16#32
  let v1 : BitVec 32 := Scalar.addi c16_i32 arg1
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x2x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Mlstm1RefIdeal.lean ====
abbrev S10240x4096 : Shape := ⟨2, ![10240, 4096]⟩
abbrev S10240x128 : Shape := ⟨2, ![10240, 128]⟩
abbrev S2x2x8 : Shape := ⟨3, ![2, 2, 8]⟩
abbrev S2x1024 : Shape := ⟨2, ![2, 1024]⟩
abbrev S8192x1024 : Shape := ⟨2, ![8192, 1024]⟩
abbrev S32x256x8x128 : Shape := ⟨4, ![32, 256, 8, 128]⟩
abbrev S32x8x256x128 : Shape := ⟨4, ![32, 8, 256, 128]⟩
abbrev S_ : Shape := ⟨0, ![]⟩
abbrev S8192x16 : Shape := ⟨2, ![8192, 16]⟩
abbrev S32x256x2x8 : Shape := ⟨4, ![32, 256, 2, 8]⟩
abbrev S1x2x8 : Shape := ⟨3, ![1, 2, 8]⟩
abbrev S2x8 : Shape := ⟨2, ![2, 8]⟩
abbrev S1x1x2x8 : Shape := ⟨4, ![1, 1, 2, 8]⟩
abbrev S256 : Shape := ⟨1, ![256]⟩
abbrev S32x256x1x8 : Shape := ⟨4, ![32, 256, 1, 8]⟩
abbrev S32x256x8 : Shape := ⟨3, ![32, 256, 8]⟩
abbrev S32x8x256 : Shape := ⟨3, ![32, 8, 256]⟩
abbrev S1x256 : Shape := ⟨2, ![1, 256]⟩
abbrev S256x1 : Shape := ⟨2, ![256, 1]⟩
abbrev S256x256 : Shape := ⟨2, ![256, 256]⟩
abbrev S32x8x128x128 : Shape := ⟨4, ![32, 8, 128, 128]⟩
abbrev S32x8x128 : Shape := ⟨3, ![32, 8, 128]⟩
abbrev S32x8 : Shape := ⟨2, ![32, 8]⟩
abbrev S32x8x1x256 : Shape := ⟨4, ![32, 8, 1, 256]⟩
abbrev S32x8x256x256 : Shape := ⟨4, ![32, 8, 256, 256]⟩
abbrev S32x8x256x1 : Shape := ⟨4, ![32, 8, 256, 1]⟩
abbrev S32x8x1 : Shape := ⟨3, ![32, 8, 1]⟩
abbrev S32x8x1x1 : Shape := ⟨4, ![32, 8, 1, 1]⟩
abbrev S1x1024 : Shape := ⟨2, ![1, 1024]⟩
abbrev S1024 : Shape := ⟨1, ![1024]⟩
abbrev S8x128 : Shape := ⟨2, ![8, 128]⟩
abbrev S32x256x8x1 : Shape := ⟨4, ![32, 256, 8, 1]⟩
abbrev S1x1x8x128 : Shape := ⟨4, ![1, 1, 8, 128]⟩
abbrev S32x8x2 : Shape := ⟨3, ![32, 8, 2]⟩
abbrev S32x8x1x128x128 : Shape := ⟨5, ![32, 8, 1, 128, 128]⟩
abbrev S32x8x2x128x128 : Shape := ⟨5, ![32, 8, 2, 128, 128]⟩
abbrev S32x8x1x128 : Shape := ⟨4, ![32, 8, 1, 128]⟩
abbrev S32x8x2x128 : Shape := ⟨4, ![32, 8, 2, 128]⟩
abbrev S32x8x2x1 : Shape := ⟨4, ![32, 8, 2, 1]⟩

abbrev nBuf : Space → Nat
  | .hbm => 296
  | .vmem => 0
  | .smem => 0
  | _ => 0

abbrev hbmTy0_0 (i : Nat) : BufTy := match i % 128 with
  | 0 => ⟨S10240x4096, .f32⟩
  | 1 => ⟨S10240x128, .f32⟩
  | 2 => ⟨S2x2x8, .f32⟩
  | 3 => ⟨S2x2x8, .f32⟩
  | 4 => ⟨S2x1024, .f32⟩
  | 5 => ⟨S8192x1024, .f32⟩
  | 6 => ⟨S32x256x8x128, .f32⟩
  | 7 => ⟨S32x8x256x128, .f32⟩
  | 8 => ⟨S8192x1024, .f32⟩
  | 9 => ⟨S32x256x8x128, .f32⟩
  | 10 => ⟨S32x8x256x128, .f32⟩
  | 11 => ⟨S_, .f32⟩
  | 12 => ⟨S32x8x256x128, .f32⟩
  | 13 => ⟨S32x8x256x128, .f32⟩
  | 14 => ⟨S8192x1024, .f32⟩
  | 15 => ⟨S32x256x8x128, .f32⟩
  | 16 => ⟨S32x8x256x128, .f32⟩
  | 17 => ⟨S8192x1024, .f32⟩
  | 18 => ⟨S32x256x8x128, .f32⟩
  | 19 => ⟨S32x8x256x128, .f32⟩
  | 20 => ⟨S8192x16, .f32⟩
  | 21 => ⟨S32x256x2x8, .f32⟩
  | 22 => ⟨S1x2x8, .f32⟩
  | 23 => ⟨S2x8, .f32⟩
  | 24 => ⟨S1x1x2x8, .f32⟩
  | 25 => ⟨S32x256x2x8, .f32⟩
  | 26 => ⟨S32x256x2x8, .f32⟩
  | 27 => ⟨S8192x16, .f32⟩
  | 28 => ⟨S32x256x2x8, .f32⟩
  | 29 => ⟨S1x2x8, .f32⟩
  | 30 => ⟨S2x8, .f32⟩
  | 31 => ⟨S1x1x2x8, .f32⟩
  | 32 => ⟨S32x256x2x8, .f32⟩
  | 33 => ⟨S32x256x2x8, .f32⟩
  | 34 => ⟨S32x256x2x8, .f32⟩
  | 35 => ⟨S_, .f32⟩
  | 36 => ⟨S32x256x2x8, .f32⟩
  | 37 => ⟨S32x256x2x8, .f32⟩
  | 38 => ⟨S32x256x2x8, .f32⟩
  | 39 => ⟨S32x256x2x8, .f32⟩
  | 40 => ⟨S32x256x2x8, .i1⟩
  | 41 => ⟨S32x256x2x8, .f32⟩
  | 42 => ⟨S32x256x2x8, .f32⟩
  | 43 => ⟨S32x256x2x8, .f32⟩
  | 44 => ⟨S32x256x2x8, .f32⟩
  | 45 => ⟨S32x256x2x8, .f32⟩
  | 46 => ⟨S32x256x2x8, .f32⟩
  | 47 => ⟨S32x256x2x8, .f32⟩
  | 48 => ⟨S32x256x2x8, .f32⟩
  | 49 => ⟨S32x256x2x8, .f32⟩
  | 50 => ⟨S256, .i32⟩
  | 51 => ⟨S32x256x1x8, .f32⟩
  | 52 => ⟨S32x256x8, .f32⟩
  | 53 => ⟨S32x8x256, .f32⟩
  | 54 => ⟨S32x256x1x8, .f32⟩
  | 55 => ⟨S32x256x8, .f32⟩
  | 56 => ⟨S32x8x256, .f32⟩
  | 57 => ⟨S1x256, .i32⟩
  | 58 => ⟨S256x1, .i32⟩
  | 59 => ⟨S256x256, .i32⟩
  | 60 => ⟨S256x256, .i32⟩
  | 61 => ⟨S256x256, .i1⟩
  | 62 => ⟨S_, .f32⟩
  | 63 => ⟨S32x8x128x128, .f32⟩
  | 64 => ⟨S_, .f32⟩
  | 65 => ⟨S32x8x128, .f32⟩
  | 66 => ⟨S_, .f32⟩
  | 67 => ⟨S32x8, .f32⟩
  | 68 => ⟨S32x8x1x256, .f32⟩
  | 69 => ⟨S_, .f32⟩
  | 70 => ⟨S_, .f32⟩
  | 71 => ⟨S32x8x256x256, .i1⟩
  | 72 => ⟨S32x8x256x256, .f32⟩
  | 73 => ⟨S32x8x256x256, .f32⟩
  | 74 => ⟨S32x8x256x256, .f32⟩
  | 75 => ⟨S_, .f32⟩
  | 76 => ⟨S32x8x256, .f32⟩
  | 77 => ⟨S32x8x256x1, .f32⟩
  | 78 => ⟨S32x8x1x256, .f32⟩
  | 79 => ⟨S32x8x256x256, .f32⟩
  | 80 => ⟨S32x8x256x256, .f32⟩
  | 81 => ⟨S32x8x256x256, .f32⟩
  | 82 => ⟨S32x8x1x256, .f32⟩
  | 83 => ⟨S32x8x256x256, .f32⟩
  | 84 => ⟨S32x8x256x256, .f32⟩
  | 85 => ⟨S_, .f32⟩
  | 86 => ⟨S_, .f32⟩
  | 87 => ⟨S32x8x256x256, .i1⟩
  | 88 => ⟨S32x8x256x256, .f32⟩
  | 89 => ⟨S32x8x256x256, .f32⟩
  | 90 => ⟨S32x8x1, .f32⟩
  | 91 => ⟨S32x8x256, .f32⟩
  | 92 => ⟨S32x8x256, .f32⟩
  | 93 => ⟨S_, .f32⟩
  | 94 => ⟨S32x8x256, .f32⟩
  | 95 => ⟨S32x8x256, .f32⟩
  | 96 => ⟨S32x8x256x256, .f32⟩
  | 97 => ⟨S32x8x256x1, .f32⟩
  | 98 => ⟨S32x8x256x256, .f32⟩
  | 99 => ⟨S32x8x256x256, .f32⟩
  | 100 => ⟨S32x8x256x256, .f32⟩
  | 101 => ⟨S32x8x256x256, .f32⟩
  | 102 => ⟨S32x8x256, .f32⟩
  | 103 => ⟨S32x8x256, .f32⟩
  | 104 => ⟨S32x8x256x128, .f32⟩
  | 105 => ⟨S32x8x256x1, .f32⟩
  | 106 => ⟨S32x8x256x128, .f32⟩
  | 107 => ⟨S32x8x256x128, .f32⟩
  | 108 => ⟨S32x8x256x128, .f32⟩
  | 109 => ⟨S32x8x256x128, .f32⟩
  | 110 => ⟨S_, .f32⟩
  | 111 => ⟨S32x8x256, .f32⟩
  | 112 => ⟨S32x8x256, .f32⟩
  | 113 => ⟨S32x8x256, .f32⟩
  | 114 => ⟨S32x8x256, .f32⟩
  | 115 => ⟨S32x8x256, .f32⟩
  | 116 => ⟨S32x8x256, .f32⟩
  | 117 => ⟨S32x8x256, .f32⟩
  | 118 => ⟨S32x8x256, .f32⟩
  | 119 => ⟨S32x8x256x1, .f32⟩
  | 120 => ⟨S32x8x256x128, .f32⟩
  | 121 => ⟨S32x8x256x128, .f32⟩
  | 122 => ⟨S_, .f32⟩
  | 123 => ⟨S32x8, .f32⟩
  | 124 => ⟨S32x8x1, .f32⟩
  | 125 => ⟨S32x8x256, .f32⟩
  | 126 => ⟨S32x8x256, .f32⟩
  | 127 => ⟨S32x8x256, .f32⟩
  | _ => ⟨S10240x4096, .f32⟩

abbrev hbmTy0_1 (i : Nat) : BufTy := match i % 128 with
  | 0 => ⟨S32x8, .f32⟩
  | 1 => ⟨S_, .f32⟩
  | 2 => ⟨S32x8, .f32⟩
  | 3 => ⟨S32x8, .f32⟩
  | 4 => ⟨S32x8x1, .f32⟩
  | 5 => ⟨S32x8x256, .f32⟩
  | 6 => ⟨S32x8x256, .f32⟩
  | 7 => ⟨S32x8x256, .f32⟩
  | 8 => ⟨S32x8, .f32⟩
  | 9 => ⟨S32x8, .f32⟩
  | 10 => ⟨S32x8, .f32⟩
  | 11 => ⟨S32x8x1x1, .f32⟩
  | 12 => ⟨S32x8x128x128, .f32⟩
  | 13 => ⟨S32x8x128x128, .f32⟩
  | 14 => ⟨S32x8x256x1, .f32⟩
  | 15 => ⟨S32x8x256x128, .f32⟩
  | 16 => ⟨S32x8x256x128, .f32⟩
  | 17 => ⟨S32x8x128x128, .f32⟩
  | 18 => ⟨S32x8x128x128, .f32⟩
  | 19 => ⟨S32x8x1, .f32⟩
  | 20 => ⟨S32x8x128, .f32⟩
  | 21 => ⟨S32x8x128, .f32⟩
  | 22 => ⟨S32x8x128, .f32⟩
  | 23 => ⟨S32x8x128, .f32⟩
  | 24 => ⟨S32x256x1x8, .f32⟩
  | 25 => ⟨S32x256x8, .f32⟩
  | 26 => ⟨S32x8x256, .f32⟩
  | 27 => ⟨S32x256x1x8, .f32⟩
  | 28 => ⟨S32x256x8, .f32⟩
  | 29 => ⟨S32x8x256, .f32⟩
  | 30 => ⟨S1x256, .i32⟩
  | 31 => ⟨S256x1, .i32⟩
  | 32 => ⟨S256x256, .i32⟩
  | 33 => ⟨S256x256, .i32⟩
  | 34 => ⟨S256x256, .i1⟩
  | 35 => ⟨S_, .f32⟩
  | 36 => ⟨S32x8x128x128, .f32⟩
  | 37 => ⟨S_, .f32⟩
  | 38 => ⟨S32x8x128, .f32⟩
  | 39 => ⟨S_, .f32⟩
  | 40 => ⟨S32x8, .f32⟩
  | 41 => ⟨S32x8x1x256, .f32⟩
  | 42 => ⟨S_, .f32⟩
  | 43 => ⟨S_, .f32⟩
  | 44 => ⟨S32x8x256x256, .i1⟩
  | 45 => ⟨S32x8x256x256, .f32⟩
  | 46 => ⟨S32x8x256x256, .f32⟩
  | 47 => ⟨S32x8x256x256, .f32⟩
  | 48 => ⟨S_, .f32⟩
  | 49 => ⟨S32x8x256, .f32⟩
  | 50 => ⟨S32x8x256x1, .f32⟩
  | 51 => ⟨S32x8x1x256, .f32⟩
  | 52 => ⟨S32x8x256x256, .f32⟩
  | 53 => ⟨S32x8x256x256, .f32⟩
  | 54 => ⟨S32x8x256x256, .f32⟩
  | 55 => ⟨S32x8x1x256, .f32⟩
  | 56 => ⟨S32x8x256x256, .f32⟩
  | 57 => ⟨S32x8x256x256, .f32⟩
  | 58 => ⟨S_, .f32⟩
  | 59 => ⟨S_, .f32⟩
  | 60 => ⟨S32x8x256x256, .i1⟩
  | 61 => ⟨S32x8x256x256, .f32⟩
  | 62 => ⟨S32x8x256x256, .f32⟩
  | 63 => ⟨S32x8x1, .f32⟩
  | 64 => ⟨S32x8x256, .f32⟩
  | 65 => ⟨S32x8x256, .f32⟩
  | 66 => ⟨S_, .f32⟩
  | 67 => ⟨S32x8x256, .f32⟩
  | 68 => ⟨S32x8x256, .f32⟩
  | 69 => ⟨S32x8x256x256, .f32⟩
  | 70 => ⟨S32x8x256x1, .f32⟩
  | 71 => ⟨S32x8x256x256, .f32⟩
  | 72 => ⟨S32x8x256x256, .f32⟩
  | 73 => ⟨S32x8x256x256, .f32⟩
  | 74 => ⟨S32x8x256x256, .f32⟩
  | 75 => ⟨S32x8x256, .f32⟩
  | 76 => ⟨S32x8x256, .f32⟩
  | 77 => ⟨S32x8x256x128, .f32⟩
  | 78 => ⟨S32x8x256x1, .f32⟩
  | 79 => ⟨S32x8x256x128, .f32⟩
  | 80 => ⟨S32x8x256x128, .f32⟩
  | 81 => ⟨S32x8x256x128, .f32⟩
  | 82 => ⟨S32x8x256x128, .f32⟩
  | 83 => ⟨S_, .f32⟩
  | 84 => ⟨S32x8x256, .f32⟩
  | 85 => ⟨S32x8x256, .f32⟩
  | 86 => ⟨S32x8x256, .f32⟩
  | 87 => ⟨S32x8x256, .f32⟩
  | 88 => ⟨S32x8x256, .f32⟩
  | 89 => ⟨S32x8x256, .f32⟩
  | 90 => ⟨S32x8x256, .f32⟩
  | 91 => ⟨S32x8x256, .f32⟩
  | 92 => ⟨S32x8x256x1, .f32⟩
  | 93 => ⟨S32x8x256x128, .f32⟩
  | 94 => ⟨S32x8x256x128, .f32⟩
  | 95 => ⟨S_, .f32⟩
  | 96 => ⟨S32x8, .f32⟩
  | 97 => ⟨S32x8x1, .f32⟩
  | 98 => ⟨S32x8x256, .f32⟩
  | 99 => ⟨S32x8x256, .f32⟩
  | 100 => ⟨S32x8x256, .f32⟩
  | 101 => ⟨S32x8, .f32⟩
  | 102 => ⟨S_, .f32⟩
  | 103 => ⟨S32x8, .f32⟩
  | 104 => ⟨S32x8, .f32⟩
  | 105 => ⟨S32x8x1, .f32⟩
  | 106 => ⟨S32x8x256, .f32⟩
  | 107 => ⟨S32x8x256, .f32⟩
  | 108 => ⟨S32x8x256, .f32⟩
  | 109 => ⟨S32x8, .f32⟩
  | 110 => ⟨S32x8, .f32⟩
  | 111 => ⟨S32x8, .f32⟩
  | 112 => ⟨S32x8x1x1, .f32⟩
  | 113 => ⟨S32x8x128x128, .f32⟩
  | 114 => ⟨S32x8x128x128, .f32⟩
  | 115 => ⟨S32x8x256x1, .f32⟩
  | 116 => ⟨S32x8x256x128, .f32⟩
  | 117 => ⟨S32x8x256x128, .f32⟩
  | 118 => ⟨S32x8x128x128, .f32⟩
  | 119 => ⟨S32x8x128x128, .f32⟩
  | 120 => ⟨S32x8x1, .f32⟩
  | 121 => ⟨S32x8x128, .f32⟩
  | 122 => ⟨S32x8x128, .f32⟩
  | 123 => ⟨S32x8x128, .f32⟩
  | 124 => ⟨S32x8x128, .f32⟩
  | 125 => ⟨S32x8x256x128, .f32⟩
  | 126 => ⟨S32x8x256x128, .f32⟩
  | 127 => ⟨S_, .f32⟩
  | _ => ⟨S10240x4096, .f32⟩

abbrev hbmTy0_2 (i : Nat) : BufTy := match i % 128 with
  | 0 => ⟨S32x8x256x128, .f32⟩
  | 1 => ⟨S32x8x256x128, .f32⟩
  | 2 => ⟨S_, .f32⟩
  | 3 => ⟨S32x8x256x128, .f32⟩
  | 4 => ⟨S32x8x256x128, .f32⟩
  | 5 => ⟨S32x8x256x128, .f32⟩
  | 6 => ⟨S32x8x256x128, .f32⟩
  | 7 => ⟨S32x256x8x128, .f32⟩
  | 8 => ⟨S1x1024, .f32⟩
  | 9 => ⟨S1024, .f32⟩
  | 10 => ⟨S8x128, .f32⟩
  | 11 => ⟨S32x256x8x128, .f32⟩
  | 12 => ⟨S_, .f32⟩
  | 13 => ⟨S32x256x8, .f32⟩
  | 14 => ⟨S32x256x8x1, .f32⟩
  | 15 => ⟨S_, .f32⟩
  | 16 => ⟨S32x256x8x1, .f32⟩
  | 17 => ⟨S32x256x8x1, .f32⟩
  | 18 => ⟨S_, .f32⟩
  | 19 => ⟨S32x256x8x1, .f32⟩
  | 20 => ⟨S32x256x8x1, .f32⟩
  | 21 => ⟨S32x256x8x1, .f32⟩
  | 22 => ⟨S32x256x8x128, .f32⟩
  | 23 => ⟨S32x256x8x128, .f32⟩
  | 24 => ⟨S1x1x8x128, .f32⟩
  | 25 => ⟨S32x256x8x128, .f32⟩
  | 26 => ⟨S32x256x8x128, .f32⟩
  | 27 => ⟨S8192x1024, .f32⟩
  | 28 => ⟨S32x8x1, .f32⟩
  | 29 => ⟨S32x8x1, .f32⟩
  | 30 => ⟨S32x8x2, .f32⟩
  | 31 => ⟨S8192x1024, .bf16⟩
  | 32 => ⟨S32x8x1x128x128, .f32⟩
  | 33 => ⟨S32x8x1x128x128, .f32⟩
  | 34 => ⟨S32x8x2x128x128, .f32⟩
  | 35 => ⟨S32x8x1x128, .f32⟩
  | 36 => ⟨S32x8x1x128, .f32⟩
  | 37 => ⟨S32x8x2x128, .f32⟩
  | 38 => ⟨S32x8x2x1, .f32⟩
  | 39 => ⟨S32x8x2x128, .f32⟩
  | _ => ⟨S10240x4096, .f32⟩

abbrev hbmTy (i : Nat) : BufTy := match i / 128 with
  | 0 => hbmTy0_0 i
  | 1 => hbmTy0_1 i
  | 2 => hbmTy0_2 i
  | _ => ⟨S10240x4096, .f32⟩

abbrev bufTy : (tb : Table) → Fin (tcTables nBuf tb) → BufTy
  | .hbm, ⟨i, _⟩ => hbmTy i
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_0 : Ref sig .tc := ⟨.hbm, 62, rfl⟩
abbrev main_v41 : Ref sig .tc := ⟨.hbm, 63, rfl⟩
abbrev main_cst_1 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_5 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_6 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_7 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_8 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_9 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_10 : Ref sig .tc := ⟨.hbm, 163, rfl⟩
abbrev main_v125 : Ref sig .tc := ⟨.hbm, 164, rfl⟩
abbrev main_cst_11 : Ref sig .tc := ⟨.hbm, 165, rfl⟩
abbrev main_v126 : Ref sig .tc := ⟨.hbm, 166, rfl⟩
abbrev main_cst_12 : Ref sig .tc := ⟨.hbm, 167, rfl⟩
abbrev main_v127 : Ref sig .tc := ⟨.hbm, 168, rfl⟩
abbrev main_v128 : Ref sig .tc := ⟨.hbm, 169, rfl⟩
abbrev main_cst_13 : Ref sig .tc := ⟨.hbm, 170, rfl⟩
abbrev main_call3_v0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_v129 : Ref sig .tc := ⟨.hbm, 175, rfl⟩
abbrev main_cst_14 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_15 : Ref sig .tc := ⟨.hbm, 186, rfl⟩
abbrev main_call4_v0 : Ref sig .tc := ⟨.hbm, 187, rfl⟩
abbrev main_call4_v1 : Ref sig .tc := ⟨.hbm, 188, rfl⟩
abbrev main_call4_v2 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_16 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_17 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_cst_18 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_19 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_cst_20 : Ref sig .tc := ⟨.hbm, 255, rfl⟩
abbrev main_v200 : Ref sig .tc := ⟨.hbm, 256, rfl⟩
abbrev main_v201 : Ref sig .tc := ⟨.hbm, 257, rfl⟩
abbrev main_cst_21 : Ref sig .tc := ⟨.hbm, 258, rfl⟩
abbrev main_v202 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_22 : Ref sig .tc := ⟨.hbm, 268, rfl⟩
abbrev main_v211 : Ref sig .tc := ⟨.hbm, 269, rfl⟩
abbrev main_v212 : Ref sig .tc := ⟨.hbm, 270, rfl⟩
abbrev main_cst_23 : Ref sig .tc := ⟨.hbm, 271, rfl⟩
abbrev main_v213 : Ref sig .tc := ⟨.hbm, 272, rfl⟩
abbrev main_v214 : Ref sig .tc := ⟨.hbm, 273, rfl⟩
abbrev main_cst_24 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩

abbrev nD : Nat := 1
abbrev τ : Topo := Topo.v7x

variable {F : FTy → Type} [FloatOps F]
-- ==== Proof.AttnSpec.lean ====
/- Differential attention over one sequence of 256 tokens and one head, as extended reals: what both the kernel's block
   and the reference's element are read as. -/
module

public import Idealize.ShloMosaic.Lib.Pointwise

@[expose] public section

noncomputable section

namespace Cert.AttnSpec

open Idealize.ShloMosaic

/-- The head's λ from its four vectors. -/
def lam (l : Fin 4 → Fin 64 → EReal) : EReal :=
  Ideal.exp (∑ x, l 0 x * l 1 x) - Ideal.exp (∑ x, l 2 x * l 3 x) + Ideal.ofBits .f32 0x3E4CCCCD#32

/-- The greatest of a row of scores. -/
def top (s : Fin 256 → EReal) : EReal := Finset.fold max (Ideal.ofBits .f32 0xFF800000#32) s Finset.univ

/-- Softmax of a row of scores at key `j`. -/
def prob (s : Fin 256 → EReal) (j : Fin 256) : EReal :=
  Ideal.div (Ideal.exp (s j - top s)) (∑ x, Ideal.exp (s x - top s))

/-- One query's output lane before the norm: values weighted by the difference of the two softmaxes. -/
def mix (s0 s1 : Fin 256 → EReal) (la : EReal) (V : Fin 256 → Fin 128 → EReal) (v : Fin 128) : EReal :=
  ∑ x, V x v * (prob s0 x - la * prob s1 x)

/-- The head's normalised and scaled output lane. -/
def head (o : Fin 128 → EReal) (g : Fin 128 → EReal) (v : Fin 128) : EReal :=
  o v * Ideal.rsqrt (Ideal.div (∑ x, o x * o x) (Ideal.ofBits .f32 0x43000000#32) + Ideal.ofBits .f32 0x358637BD#32) * g v
    * Ideal.ofBits .f32 0x3F4CCCCD#32

/-- The reference's score of a query against a key in one of the head's two components: the product over its 64 lanes,
    then the scale. -/
def score (q k : Fin 64 → EReal) : EReal := (∑ x, q x * k x) * Ideal.ofBits .f32 0x3E000000#32

/-- Taking the maximum with the start of the fold again changes nothing. -/
theorem max_top (s : Fin 256 → EReal) :
    max (Ideal.ofBits .f32 0xFF800000#32) (Finset.fold max (Ideal.ofBits .f32 0xFF800000#32) s Finset.univ) = top s :=
  max_eq_right ((Finset.le_fold_max _).mpr (Or.inl le_rfl))

/-- The scale 1/8 is a finite nonnegative number. -/
theorem eighth : Ideal.ofBits .f32 0x3E000000#32 = (((1 : ℝ) / 8 : ℝ) : EReal) := by
  simp [Ideal.ofBits, Ideal.ieee, -EReal.coe_mul]; norm_num

/-- A finite nonnegative factor comes out of a sum of extended reals. -/
theorem sum_mul_right {ι : Type} (c : EReal) (h0 : 0 ≤ c) (ht : c ≠ ⊤) (s : Finset ι) (f : ι → EReal) :
    ∑ x ∈ s, f x * c = (∑ x ∈ s, f x) * c := by
  classical
  induction s using Finset.induction_on with
  | empty => simp
  | insert a s ha ih => rw [Finset.sum_insert ha, Finset.sum_insert ha, ih, EReal.right_distrib_of_nonneg_of_ne_top h0 ht]

/-- The scale applied to each query lane, as the kernel does, is the scale applied to the product. -/
theorem score_eq (q k : Fin 64 → EReal) : ∑ x, q x * Ideal.ofBits .f32 0x3E000000#32 * k x = score q k := by
  rw [score, ← sum_mul_right]
  · exact Finset.sum_congr rfl fun x _ => mul_right_comm ..
  · rw [eighth]; exact EReal.coe_nonneg.mpr (by norm_num)
  · rw [eighth]; exact EReal.coe_ne_top _

/-- A sum over 128 lanes that a mask restricts to the first 64. -/
theorem sum_low (f : Fin 128 → EReal) :
    (∑ x, Scalar.select (IntOp.andi (IntOp.cmpi .sge (BitVec.ofNat 32 x.val) 0#32) (IntOp.cmpi .slt (BitVec.ofNat 32 x.val) 64#32)) (f x) 0)
      = ∑ x : Fin 64, f ⟨x.val, by omega⟩ := by
  have hm : ∀ x : Fin 128, IntOp.andi (IntOp.cmpi .sge (BitVec.ofNat 32 x.val) 0#32) (IntOp.cmpi .slt (BitVec.ofNat 32 x.val) 64#32)
      = if x.val < 64 then 1#1 else 0#1 := by decide
  simp only [hm, Scalar.select]
  rw [Fin.sum_univ_add (a := 64) (b := 64)]
  refine (congrArg₂ (· + ·) (Finset.sum_congr rfl fun x _ => ?_) (Finset.sum_eq_zero fun x _ => ?_)).trans (add_zero _)
  · have hx : (Fin.castAdd 64 x).val < 64 := x.isLt
    simp only [hx, if_true]; rfl
  · have hx : ¬ (Fin.natAdd 64 x).val < 64 := by simp
    simp only [hx, if_false]; rfl

/-- A sum over 128 lanes that a mask restricts to the last 64. -/
theorem sum_high (f : Fin 128 → EReal) :
    (∑ x, Scalar.select (IntOp.andi (IntOp.cmpi .sge (BitVec.ofNat 32 x.val) 64#32) (IntOp.cmpi .slt (BitVec.ofNat 32 x.val) 128#32)) (f x) 0)
      = ∑ x : Fin 64, f ⟨64 + x.val, by omega⟩ := by
  have hm : ∀ x : Fin 128, IntOp.andi (IntOp.cmpi .sge (BitVec.ofNat 32 x.val) 64#32) (IntOp.cmpi .slt (BitVec.ofNat 32 x.val) 128#32)
      = if x.val < 64 then 0#1 else 1#1 := by decide
  simp only [hm, Scalar.select]
  rw [Fin.sum_univ_add (a := 64) (b := 64)]
  refine (congrArg₂ (· + ·) (Finset.sum_eq_zero fun x _ => ?_) (Finset.sum_congr rfl fun x _ => ?_)).trans (zero_add _)
  · have hx : (Fin.castAdd 64 x).val < 64 := x.isLt
    simp only [hx, if_true]; rfl
  · have hx : ¬ (Fin.natAdd 64 x).val < 64 := by simp
    simp only [hx, if_false]; rfl

end Cert.AttnSpec

end
-- ==== Proof.AttnBlock.lean ====
/- What one grid point of the attention kernel leaves in its output block: the payload of its one store, over the blocks
   of the arguments the point stages. -/
module

public import proofs.«01_k».proof.Proof.Gen.KernelIdeal.Value
public import Idealize.ShloMosaic.Lib.Tactic
public import proofs.«01_k».proof.Proof.AttnSpec

@[expose] public section

noncomputable section

namespace Cert.AttnBlock

open Cert.KernelIdeal Cert.KernelIdeal.Gen Idealize.ShloMosaic Idealize.ShloMosaic.TcCoe Idealize.SL.Sem

variable {F : FTy → Type} [FloatOps F]

/-- Zero offsets on two axes, as the constant function. -/
theorem off2 : (![0, 0] : Fin 2 → Nat) = fun _ => 0 := funext fun a => by fin_cases a <;> rfl

/-- Zero offsets on three axes, as the constant function. -/
theorem off3 : (![0, 0, 0] : Fin 3 → Nat) = fun _ => 0 := funext fun a => by fin_cases a <;> rfl

/-- The block a point computes from its blocks of queries, keys, values, λ vectors and gain. -/
def block (q k v : Vec F S256x128 .f32) (l : Vec F S1x4x64 .f32) (g : Vec F S1x1x128 .f32) : Vec F S256x128 .bf16 :=
  k0_pay1 (k0_pay7 (k0_pay4 q) (iota .tc S256x128 32 [1] iota_S256x128_d1_w32) (k0_pay5 l) (k0_pay2 k)
    (k0_pay6 q (k0_pay2 k)) (k0_pay3 v) g) (Scalar.ofBits .f32 0x3F4CCCCD#32)

set_option maxHeartbeats 1000000 in
/-- What the run's stores leave in the output's staging buffer is that block. -/
theorem out_eq (c : Dev nD) (i : grid0.Coords) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S1x4x64 .f32) (harg6 : arg6.IsWhole) (arg7 : Memref sig .tc .vmem S1x1x128 .f32) (harg7 : arg7.IsWhole) (arg8 : Memref sig .tc .vmem S256x128 .bf16) (harg8 : arg8.IsWhole) (arg9 : Memref sig .tc .vmem S256x128 .bf16) (harg9 : arg9.IsWhole) (arg10 : Memref sig .tc .vmem S256x128 .bf16) (harg10 : arg10.IsWhole) (hc0 : cond0_0 i)
    (x0 : Vec F S256x128 .f32) (x1 : Vec F S256x128 .f32) (x2 : Vec F S256x128 .f32) (x3 : Vec F S1x4x64 .f32) (x4 : Vec F S1x1x128 .f32) :
    out0_A_5 c i arg3 harg3 arg4 harg4 arg5 harg5 arg6 harg6 arg7 harg7 arg8 harg8 arg9 harg9 arg10 harg10 hc0 x0 x1 x2 x3 x4
      = block x0 x1 x2 x3 x4 := by
  unfold out0_A_5
  rw [View.read_writes_eq_canon _ _ _ (cover0_A_5 c i arg3 harg3 arg4 harg4 arg5 harg5 arg6 harg6 arg7 harg7 arg8 harg8 arg9 harg9 arg10 harg10 hc0 x0 x1 x2 x3 x4)]
  unfold kernelRun0_A
  dsimp only
  sl_unfold_words
  rw [View.canon_unit_zero off2]
  simp only [View.readAt_eq_ld, harg3.read_unread, harg4.read_unread, harg5.read_unread, harg6.read_unread, harg7.read_unread,
    View.ld_unit_zero (S := S256x128) off2, View.ld_unit_zero (S := S1x4x64) off3, View.ld_unit_zero (S := S1x1x128) off3,
    View.readCov_unit_zero (S := S256x128) _ off2]
  rfl

/-! ## The block at an index, at the extended reals -/

open Cert.AttnSpec

section Read

variable (q k v : Vec Ideal S256x128 .f32) (l : Vec Ideal S1x4x64 .f32) (g : Vec Ideal S1x1x128 .f32)

/-- The scores of the block's query `i` in the head's first component: the first 64 lanes. -/
def low (i j : Fin 256) : EReal :=
  score (fun x => q (ix2 i ⟨x.val, by omega⟩)) (fun x => k (ix2 j ⟨x.val, by omega⟩))

/-- The scores of the block's query `i` in the head's second component: the last 64 lanes. -/
def high (i j : Fin 256) : EReal :=
  score (fun x => q (ix2 i ⟨64 + x.val, by omega⟩)) (fun x => k (ix2 j ⟨64 + x.val, by omega⟩))

/-- The first component's scores as the kernel computes them: a product over 128 lanes, the query masked to the first 64. -/
def maskedLow (i j : Fin 256) : EReal :=
  ∑ x, Scalar.select (IntOp.andi (IntOp.cmpi .sge (BitVec.ofNat 32 x.val) 0#32) (IntOp.cmpi .slt (BitVec.ofNat 32 x.val) 64#32))
      (q (ix2 i x) * Ideal.ofBits .f32 0x3E000000#32 * k (ix2 j x)) 0

/-- They are the scores of the first 64 lanes. -/
theorem masked_low : maskedLow q k = low q k := funext fun i => funext fun j =>
  (sum_low fun x => q (ix2 i x) * Ideal.ofBits .f32 0x3E000000#32 * k (ix2 j x)).trans (score_eq _ _)

/-- The second component's scores as the kernel computes them: a product over 128 lanes, the query masked to the last 64. -/
def masked (i j : Fin 256) : EReal :=
  ∑ x, Scalar.select (IntOp.andi (IntOp.cmpi .sge (BitVec.ofNat 32 x.val) 64#32) (IntOp.cmpi .slt (BitVec.ofNat 32 x.val) 128#32))
      (q (ix2 i x) * Ideal.ofBits .f32 0x3E000000#32 * k (ix2 j x)) 0

/-- They are the scores of the last 64 lanes. -/
theorem masked_high : masked q k = high q k := funext fun i => funext fun j =>
  (sum_high fun x => q (ix2 i x) * Ideal.ofBits .f32 0x3E000000#32 * k (ix2 j x)).trans (score_eq _ _)

/-- The block's λ. -/
theorem lam_apply (i : S1x1.Idx) : k0_pay5 l i = lam fun a x => l (ix3 0 a x) := by
  pointwise [k0_pay5]
  rfl

/-- The first component's shifted scores. -/
theorem low_apply (i j : Fin 256) : k0_pay6 q (k0_pay2 k) (ix2 i j) = low q k i j - top (low q k i) := by
  pointwise [k0_pay6, k0_pay2, k0_pay4]
  rw [← masked_low]
  rfl

/-- THE BLOCK AT AN INDEX: row `i` and lane `x`. -/
theorem block_apply (i : Fin 256) (x : Fin 128) :
    block q k v l g (ix2 i x)
      = head (mix (low q k i) (high q k i) (lam fun a x => l (ix3 0 a x)) fun j x => v (ix2 j x))
          (fun x => g (ix3 0 0 x)) x := by
  have e0 := low_apply q k
  have e1 := lam_apply l
  unfold block
  revert e0 e1
  generalize k0_pay6 q (k0_pay2 k) = s
  generalize k0_pay5 l = la
  intro e0 e1
  pointwise [k0_pay7, k0_pay2, k0_pay4, k0_pay3, k0_pay1]
  simp only [e0, e1]
  rw [← masked_high q k]
  have hm : mix (low q k i) (masked q k i) (lam fun a x => l (ix3 0 a x)) (fun j x => v (ix2 j x))
      = fun y => ∑ j, (prob (low q k i) j - (lam fun a x => l (ix3 0 a x)) * prob (masked q k i) j) * v (ix2 j y) :=
    funext fun y => Finset.sum_congr rfl fun j _ => mul_comm ..
  rw [hm]
  rfl

end Read

end Cert.AttnBlock

end
-- ==== Proof.AttnRef.lean ====
/- The attention reference's result read at an index, as `AttnSpec`'s function of the argument arrays. -/
module

public import proofs.«01_k».proof.Proof.Gen.ReferenceIdeal.Read
public import proofs.«01_k».proof.Proof.AttnSpec

@[expose] public section

noncomputable section

namespace Cert.AttnRef

open Cert.ReferenceIdeal Cert.ReferenceIdeal.Read Cert.ReferenceIdeal.Gen Idealize.ShloMosaic Idealize.ShloMosaic.TcCoe
open Cert.AttnSpec

variable (x0 : FVec Ideal S10240x6144 .f32) (x1 : FVec Ideal S2x4x64 .f32) (x2 : FVec Ideal S2x128 .f32)

/-- The lanes of row `i` of sequence `b`, head `h`, component `c`, from column `o` on. -/
def lanes (o : Nat) (ho : o ≤ 1024) (b : Fin 32) (h : Fin 8) (c : Fin 2) (i : Fin 256) (x : Fin 64) : EReal :=
  x0 (ix2 ⟨b.val * 256 + i.val, by omega⟩ ⟨o + (h.val * 128 + c.val * 64 + x.val), by omega⟩)

/-- The scores of query `i` of one sequence, head and component. -/
def scores (b : Fin 32) (h : Fin 8) (c : Fin 2) (i j : Fin 256) : EReal :=
  score (lanes x0 0 (by decide) b h c i) (lanes x0 1024 (by decide) b h c j)

/-- The values of one sequence and head. -/
def vals (b : Fin 32) (h : Fin 8) (j : Fin 256) (v : Fin 128) : EReal :=
  x0 (ix2 ⟨b.val * 256 + j.val, by omega⟩ ⟨2048 + (h.val * 128 + v.val), by omega⟩)

/-- The layer's λ vectors. -/
def lams (a : Fin 4) (x : Fin 64) : EReal := x1 (ix3 0 a x)

/-- The layer's gain. -/
def gain (v : Fin 128) : EReal := x2 (ix2 0 v)

/-- The reference's scaled scores. -/
theorem scores_apply (b : Fin 32) (h : Fin 8) (c : Fin 2) (i j : Fin 256) :
    val_main_v28 (F := Ideal) x0 (ix5 b h c i j) = scores x0 b h c i j := by
  pointwise [val_main_v28, val_main_v27, val_main_cst_2, val_main_v26, val_main_v3, val_main_v2, val_main_v1, val_main_v0,
    val_main_v5, val_main_v4]
  unfold scores score lanes
  refine congrArg (· * _) (Finset.sum_congr rfl fun x _ => congrArg (· * _) (congrArg x0 ?_))
  funext a; match a with
  | ⟨0, _⟩ => rfl
  | ⟨1, _⟩ => exact Fin.ext (Nat.zero_add _).symm

/-- The reference's λ. -/
theorem lam_apply (i : S_.Idx) : val_main_v25 (F := Ideal) x1 i = lam (lams x1) := by
  pointwise [val_main_v25, val_main_v24, val_main_cst_1, val_main_v16, val_main_v15, val_main_v23, val_main_v22, val_main_v14,
    val_main_v21, val_main_cst_0, val_main_cst, val_main_v8, val_main_v9, val_main_v10, val_main_v11, val_main_v12,
    val_main_v13, val_main_v17, val_main_v18, val_main_v19, val_main_v20]
  rfl

/-- A maximum over the last axis is a fold over the keys. -/
theorem reduce_apply (y : FVec Ideal S32x8x2x256x256 .f32) (b : Fin 32) (h : Fin 8) (c : Fin 2) (i : Fin 256) :
    Host.reduce FloatOps.maximumf y (val_main_cst_3 (F := Ideal)) reducesTo_S32x8x2x256x256_S32x8x2x256_d4 h_S_ (ix4 b h c i)
      = Finset.fold max (Ideal.ofBits .f32 0xFF800000#32) (fun x => y (ix5 b h c i x)) Finset.univ := by
  pointwise [val_main_cst_3]

/-- The exponentials of the shifted scores. -/
theorem exps_apply (b : Fin 32) (h : Fin 8) (c : Fin 2) (i j : Fin 256) :
    val_main_v35 (F := Ideal) x0 (ix5 b h c i j) = Ideal.exp (scores x0 b h c i j - top (scores x0 b h c i)) := by
  have e : idx_main_v32 (idx_main_v33 (ix5 b h c i j)) = ix4 b h c i := by
    funext a; match a with
      | ⟨0, _⟩ => rfl
      | ⟨1, _⟩ => rfl
      | ⟨2, _⟩ => rfl
      | ⟨3, _⟩ => rfl
  have r : val_main_v29 (F := Ideal) x0 (ix4 b h c i)
      = Finset.fold max (Ideal.ofBits .f32 0xFF800000#32) (scores x0 b h c i) Finset.univ := by
    unfold val_main_v29
    rw [reduce_apply]
    simp only [scores_apply]
  rw [val_main_v35_apply, val_main_v34_apply, val_main_v33_apply, val_main_v32_apply, val_main_v31_apply,
    val_main_v30_apply, val_main_cst_4_apply, e, r, scores_apply]
  simp only [pointwise]
  rw [max_top]

/-- The softmax of one row of scores. -/
theorem probs_apply (b : Fin 32) (h : Fin 8) (c : Fin 2) (i j : Fin 256) :
    val_main_v39 (F := Ideal) x0 (ix5 b h c i j) = prob (scores x0 b h c i) j := by
  have e := exps_apply x0 b h c i
  unfold val_main_v39 val_main_v38 val_main_v37 val_main_v36 val_main_cst_5
  revert e
  generalize val_main_v35 (F := Ideal) x0 = z
  intro e
  pointwise []
  simp only [e]
  rfl

/-- The difference of the two softmaxes. -/
theorem diff_apply (b : Fin 32) (h : Fin 8) (i j : Fin 256) :
    val_main_v46 (F := Ideal) x0 x1 (ix4 b h i j)
      = prob (scores x0 b h 0 i) j - lam (lams x1) * prob (scores x0 b h 1 i) j := by
  rw [← probs_apply, ← probs_apply, ← lam_apply x1 ix0]
  unfold val_main_v46 val_main_v45 val_main_v44 val_main_v43 val_main_v42 val_main_v41 val_main_v40
  generalize val_main_v39 (F := Ideal) x0 = z
  generalize val_main_v25 (F := Ideal) x1 = w
  pointwise []

/-- The weighted values. -/
theorem mix_apply (b : Fin 32) (h : Fin 8) (i : Fin 256) (v : Fin 128) :
    val_main_v48 (F := Ideal) x0 x1 (ix4 b i h v)
      = mix (scores x0 b h 0 i) (scores x0 b h 1 i) (lam (lams x1)) (vals x0 b h) v := by
  have e := diff_apply x0 x1 b h i
  unfold val_main_v48 val_main_v47
  revert e
  generalize val_main_v46 (F := Ideal) x0 x1 = z
  intro e
  pointwise [val_main_v7, val_main_v6, val_main_v1, val_main_v0]
  simp only [e]
  rfl

/-- THE REFERENCE'S RESULT at row `R` and column `C`: the head `C / 128` of the sequence `R / 256`. -/
theorem ref_apply (R : Fin 8192) (C : Fin 1024) :
    val_main_v67 (F := Ideal) x0 x1 x2 (ix2 R C)
      = head (mix (scores x0 ⟨R.val / 256, by omega⟩ ⟨C.val / 128, by omega⟩ 0 ⟨R.val % 256, by omega⟩)
          (scores x0 ⟨R.val / 256, by omega⟩ ⟨C.val / 128, by omega⟩ 1 ⟨R.val % 256, by omega⟩) (lam (lams x1))
          (vals x0 ⟨R.val / 256, by omega⟩ ⟨C.val / 128, by omega⟩)) (gain x2) ⟨C.val % 128, by omega⟩ := by
  have e := fun v => mix_apply x0 x1 ⟨R.val / 256, by omega⟩ ⟨C.val / 128, by omega⟩ ⟨R.val % 256, by omega⟩ v
  unfold val_main_v67 val_main_v66 val_main_v65 val_main_v63 val_main_v60 val_main_v59 val_main_v58 val_main_v57 val_main_v55
    val_main_v53 val_main_v52 val_main_v51
  revert e
  generalize val_main_v48 (F := Ideal) x0 x1 = z
  intro e
  pointwise [val_main_v64, val_main_cst_9, val_main_v62, val_main_v61, val_main_v56, val_main_cst_8, val_main_v54,
    val_main_cst_7, val_main_cst_6, val_main_v50, val_main_v49]
  simp only [e]
  rfl

end Cert.AttnRef

end
-- ==== Proof.AttnArray.lean ====
/- The attention kernel's result array after the run, index by index: block `t` is head `t % 8` of sequence `t / 8`. -/
module

public import proofs.«01_k».proof.Proof.AttnBlock
public import proofs.«01_k».proof.Proof.AttnRef

@[expose] public section

noncomputable section

namespace Cert.AttnArray

open Cert.KernelIdeal Cert.KernelIdeal.Gen Idealize.ShloMosaic Idealize.ShloMosaic.TcCoe Idealize.SL.Sem
open Cert.AttnSpec Cert.AttnBlock

variable (m : (ℓ : Loc nD τ sig) → Buf (Elt Ideal) ℓ)

/-- Where each window's block sits at each point. -/
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = 8 + t.val % 8)
    ∧ (win0_2.index t (0 : Fin 2) = t.val / 8 ∧ win0_2.index t (1 : Fin 2) = 16 + t.val % 8)
    ∧ (win0_3.index t (0 : Fin 3) = 0 ∧ win0_3.index t (1 : Fin 3) = 0 ∧ win0_3.index t (2 : Fin 3) = 0)
    ∧ (win0_4.index t (0 : Fin 3) = 0 ∧ win0_4.index t (1 : Fin 3) = 0 ∧ win0_4.index t (2 : Fin 3) = 0)
    ∧ (win0_5.index t (0 : Fin 2) = t.val / 8 ∧ win0_5.index t (1 : Fin 2) = t.val % 8) :=
  (by decide +kernel : ∀ t : Fin grid0.N, _)

/-- The query block of a point, as elements of the first argument. -/
theorem q_apply (c : Dev nD) (t : Fin cfg0.N) (i : Fin 256) (x : Fin 128) :
    iblk m c 0 t (ix2 i x) = m ((c : Thread nD τ).loc main_arg0)
      (ix2 ⟨t.val / 8 * 256 + i.val, by have := t.isLt; have hN : cfg0.N = 256 := N_0; omega⟩ ⟨t.val % 8 * 128 + x.val, by omega⟩) := by
  obtain ⟨⟨e0, e1⟩, -⟩ := idx_facts t
  show V m c main_arg0 (((cfg0.win 0).blk t).view.emb (ix2 i x)) = _
  rw [V_main_arg0]
  congr 1
  funext a; apply Fin.ext
  match a with
  | ⟨0, _⟩ => show win0_0.index t (0 : Fin 2) * 256 + 1 * i.val = t.val / 8 * 256 + i.val; omega
  | ⟨1, _⟩ => show win0_0.index t (1 : Fin 2) * 128 + 1 * x.val = t.val % 8 * 128 + x.val; omega

/-- The key block of a point. -/
theorem k_apply (c : Dev nD) (t : Fin cfg0.N) (i : Fin 256) (x : Fin 128) :
    iblk m c 1 t (ix2 i x) = m ((c : Thread nD τ).loc main_arg0)
      (ix2 ⟨t.val / 8 * 256 + i.val, by have := t.isLt; have hN : cfg0.N = 256 := N_0; omega⟩ ⟨1024 + (t.val % 8 * 128 + x.val), by omega⟩) := by
  obtain ⟨-, ⟨e0, e1⟩, -⟩ := idx_facts t
  show V m c main_arg0 (((cfg0.win 1).blk t).view.emb (ix2 i x)) = _
  rw [V_main_arg0]
  congr 1
  funext a; apply Fin.ext
  match a with
  | ⟨0, _⟩ => show win0_1.index t (0 : Fin 2) * 256 + 1 * i.val = t.val / 8 * 256 + i.val; omega
  | ⟨1, _⟩ => show win0_1.index t (1 : Fin 2) * 128 + 1 * x.val = 1024 + (t.val % 8 * 128 + x.val); omega

/-- The value block of a point. -/
theorem v_apply (c : Dev nD) (t : Fin cfg0.N) (i : Fin 256) (x : Fin 128) :
    iblk m c 2 t (ix2 i x) = m ((c : Thread nD τ).loc main_arg0)
      (ix2 ⟨t.val / 8 * 256 + i.val, by have := t.isLt; have hN : cfg0.N = 256 := N_0; omega⟩ ⟨2048 + (t.val % 8 * 128 + x.val), by omega⟩) := by
  obtain ⟨-, -, ⟨e0, e1⟩, -⟩ := idx_facts t
  show V m c main_arg0 (((cfg0.win 2).blk t).view.emb (ix2 i x)) = _
  rw [V_main_arg0]
  congr 1
  funext a; apply Fin.ext
  match a with
  | ⟨0, _⟩ => show win0_2.index t (0 : Fin 2) * 256 + 1 * i.val = t.val / 8 * 256 + i.val; omega
  | ⟨1, _⟩ => show win0_2.index t (1 : Fin 2) * 128 + 1 * x.val = 2048 + (t.val % 8 * 128 + x.val); omega

/-- The λ vectors' block: the first layer's. -/
theorem l_apply (c : Dev nD) (t : Fin cfg0.N) (a : Fin 4) (x : Fin 64) :
    iblk m c 3 t (ix3 0 a x) = m ((c : Thread nD τ).loc main_arg1) (ix3 0 a x) := by
  obtain ⟨-, -, -, ⟨e0, e1, e2⟩, -⟩ := idx_facts t
  show V m c main_arg1 (((cfg0.win 3).blk t).view.emb (ix3 0 a x)) = _
  rw [V_main_arg1]
  congr 1
  funext d; apply Fin.ext
  match d with
  | ⟨0, _⟩ => show win0_3.index t (0 : Fin 3) * 1 + 1 * 0 = 0; omega
  | ⟨1, _⟩ => show win0_3.index t (1 : Fin 3) * 4 + 1 * a.val = a.val; omega
  | ⟨2, _⟩ => show win0_3.index t (2 : Fin 3) * 64 + 1 * x.val = x.val; omega

/-- The reshaped gain the region finds. -/
theorem V_gain (c : Dev nD) : V m c main_v0
    = shapeCast S2x1x128 (m ((c : Thread nD τ).loc main_arg2)) shapeCasts_S2x128_S2x1x128 := by
  show StableHlo.after hostOps0 (fun b => m (c, b)) main_v0 = _
  unfold hostOps0
  after_results_simp <;> rfl

/-- The gain's block: the first layer's. -/
theorem g_apply (c : Dev nD) (t : Fin cfg0.N) (x : Fin 128) :
    iblk m c 4 t (ix3 0 0 x) = m ((c : Thread nD τ).loc main_arg2) (ix2 0 x) := by
  obtain ⟨-, -, -, -, ⟨e0, e1, e2⟩, -⟩ := idx_facts t
  show V m c main_v0 (((cfg0.win 4).blk t).view.emb (ix3 0 0 x)) = _
  rw [V_gain, show ((cfg0.win 4).blk t).view.emb (ix3 0 0 x) = ix3 0 0 x from ?_]
  · pointwise []
  · funext d; apply Fin.ext
    match d with
    | ⟨0, _⟩ => show win0_4.index t (0 : Fin 3) * 1 + 1 * 0 = 0; omega
    | ⟨1, _⟩ => show win0_4.index t (1 : Fin 3) * 1 + 1 * 0 = 0; omega
    | ⟨2, _⟩ => show win0_4.index t (2 : Fin 3) * 128 + 1 * x.val = x.val; omega

/-- THE ARRAY AFTER THE RUN is the reference's function of the arguments. -/
theorem array (c : Dev nD) : (dats m 0 c).arrAt 5 cfg0.N
    = Cert.ReferenceIdeal.Read.val_main_v67 (F := Ideal) (m ((c : Thread nD τ).loc main_arg0))
        (m ((c : Thread nD τ).loc main_arg1)) (m ((c : Thread nD τ).loc main_arg2)) := by
  refine (dats m 0 c).arrAt_eq_of_cover 5 _ (fun t _ => ?_) fun i => ?_
  · have ht : t.val < 256 := lt_of_lt_of_eq t.isLt N_0
    rw [Cert.KernelIdeal.Value.flushed5_A, out_eq]
    funext y
    show block _ _ _ _ _ y = Cert.ReferenceIdeal.Read.val_main_v67 (F := Ideal) _ _ _ (((cfg0.win 5).blk t).view.emb y)
    obtain ⟨-, -, -, -, -, ⟨e0, e1⟩⟩ := idx_facts t
    have hi : (y 0).val < 256 := (y 0).isLt
    have hx : (y 1).val < 128 := (y 1).isLt
    have hy : ((cfg0.win 5).blk t).view.emb y
        = ix2 ⟨t.val / 8 * 256 + (y 0).val, by omega⟩ ⟨t.val % 8 * 128 + (y 1).val, by omega⟩ := by
      funext d; apply Fin.ext
      match d with
      | ⟨0, _⟩ => show win0_5.index t (0 : Fin 2) * 256 + 1 * (y 0).val = t.val / 8 * 256 + (y 0).val; omega
      | ⟨1, _⟩ => show win0_5.index t (1 : Fin 2) * 128 + 1 * (y 1).val = t.val % 8 * 128 + (y 1).val; omega
    rw [hy, Cert.AttnRef.ref_apply]
    obtain ⟨i, x, rfl⟩ : ∃ (i : Fin 256) (x : Fin 128), y = ix2 i x := ⟨y 0, y 1, (eq_ix2 y)⟩
    rw [block_apply]
    have hb : (⟨(t.val / 8 * 256 + i.val) / 256, by omega⟩ : Fin 32) = ⟨t.val / 8, by omega⟩ := Fin.ext (by show (t.val / 8 * 256 + i.val) / 256 = t.val / 8; omega)
    have hr : (⟨(t.val / 8 * 256 + i.val) % 256, by omega⟩ : Fin 256) = i := Fin.ext (by show (t.val / 8 * 256 + i.val) % 256 = i.val; omega)
    have hh : (⟨(t.val % 8 * 128 + x.val) / 128, by omega⟩ : Fin 8) = ⟨t.val % 8, by omega⟩ := Fin.ext (by show (t.val % 8 * 128 + x.val) / 128 = t.val % 8; omega)
    have hv : (⟨(t.val % 8 * 128 + x.val) % 128, by omega⟩ : Fin 128) = x := Fin.ext (by show (t.val % 8 * 128 + x.val) % 128 = x.val; omega)
    show _ = head (mix (Cert.AttnRef.scores _ ⟨(t.val / 8 * 256 + i.val) / 256, _⟩ ⟨(t.val % 8 * 128 + x.val) / 128, _⟩ 0 ⟨(t.val / 8 * 256 + i.val) % 256, _⟩)
      (Cert.AttnRef.scores _ ⟨(t.val / 8 * 256 + i.val) / 256, _⟩ ⟨(t.val % 8 * 128 + x.val) / 128, _⟩ 1 ⟨(t.val / 8 * 256 + i.val) % 256, _⟩) _
      (Cert.AttnRef.vals _ ⟨(t.val / 8 * 256 + i.val) / 256, _⟩ ⟨(t.val % 8 * 128 + x.val) / 128, _⟩)) _ ⟨(t.val % 8 * 128 + x.val) % 128, _⟩
    rw [hb, hr, hh, hv]
    have hlow : low (iblk m c 0 t) (iblk m c 1 t) i = Cert.AttnRef.scores (m ((c : Thread nD τ).loc main_arg0)) ⟨t.val / 8, by omega⟩ ⟨t.val % 8, by omega⟩ 0 i := by
      funext j
      unfold low Cert.AttnRef.scores Cert.AttnRef.lanes
      simp only [q_apply, k_apply]
      congr 1 <;> funext d <;> congr 2 <;> apply Fin.ext <;> simp
    have hhigh : high (iblk m c 0 t) (iblk m c 1 t) i = Cert.AttnRef.scores (m ((c : Thread nD τ).loc main_arg0)) ⟨t.val / 8, by omega⟩ ⟨t.val % 8, by omega⟩ 1 i := by
      funext j
      unfold high Cert.AttnRef.scores Cert.AttnRef.lanes
      simp only [q_apply, k_apply]
      congr 1 <;> funext d <;> congr 2 <;> apply Fin.ext <;> simp <;> omega
    have hV : (fun j x => iblk m c 2 t (ix2 j x)) = Cert.AttnRef.vals (m ((c : Thread nD τ).loc main_arg0)) ⟨t.val / 8, by omega⟩ ⟨t.val % 8, by omega⟩ :=
      funext fun j => funext fun x => v_apply m c t j x
    have hL : (fun a x => iblk m c 3 t (ix3 0 a x)) = Cert.AttnRef.lams (m ((c : Thread nD τ).loc main_arg1)) :=
      funext fun a => funext fun x => l_apply m c t a x
    have hG : (fun x => iblk m c 4 t (ix3 0 0 x)) = Cert.AttnRef.gain (m ((c : Thread nD τ).loc main_arg2)) :=
      funext fun x => g_apply m c t x
    rw [hlow, hhigh, hV, hL, hG]
  · have h0 : (i 0).val < 8192 := (i 0).isLt
    have h1 : (i 1).val < 1024 := (i 1).isLt
    have hlt : (i 0).val / 256 * 8 + (i 1).val / 128 < cfg0.N := by have hN : cfg0.N = 256 := N_0; omega
    refine ⟨⟨(i 0).val / 256 * 8 + (i 1).val / 128, hlt⟩, Cert.KernelIdeal.Gen.flush0_5 _, ?_⟩
    obtain ⟨-, -, -, -, -, ⟨e0, e1⟩⟩ := idx_facts ⟨(i 0).val / 256 * 8 + (i 1).val / 128, hlt⟩
    show i ∈ ((View.whole main_v1).slice (win0_5.rect ⟨(i 0).val / 256 * 8 + (i 1).val / 128, hlt⟩)).set
    rw [View.set_slice_whole, Rect.mem_set_unit]
    intro a
    match a with
    | ⟨0, _⟩ =>
      show win0_5.index ⟨_, hlt⟩ (0 : Fin 2) * 256 ≤ (i 0).val ∧ (i 0).val < win0_5.index ⟨_, hlt⟩ (0 : Fin 2) * 256 + 256
      rw [e0]; dsimp only; omega
    | ⟨1, _⟩ =>
      show win0_5.index ⟨_, hlt⟩ (1 : Fin 2) * 128 ≤ (i 1).val ∧ (i 1).val < win0_5.index ⟨_, hlt⟩ (1 : Fin 2) * 128 + 128
      rw [e1]; dsimp only; omega

end Cert.AttnArray

end
-- ==== Proof.AttnClaim.lean ====
/- The attention call's claims: the reference's frame and the algebraic equality with the reference. -/
module

public import proofs.«01_k».proof.Proof.AttnArray
public import proofs.«01_k».proof.Defs
public import Idealize.ShloMosaic.Lib.Quiescent

@[expose] public section

noncomputable section

namespace Cert.AttnClaim

open Idealize.ShloMosaic Idealize.SL.Sem

/-- The reference runs to an end, leaves its arguments as launched and every counter at zero. -/
theorem reference_frame : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Over the extended reals the kernel's result is the reference's, from the same arguments. -/
theorem algebraic : Cert.algebraic_KernelIdeal_ReferenceIdeal := by
  intro m g m' g' _ hargs
  refine ⟨fun c => Cert.ReferenceIdeal.Read.val_main_v67 (F := Ideal) (m (c.tc.loc Cert.KernelIdeal.main_arg0))
    (m (c.tc.loc Cert.KernelIdeal.main_arg1)) (m (c.tc.loc Cert.KernelIdeal.main_arg2)), ?_, ?_⟩
  · exact (θ_run Cert.KernelIdeal.defs _ _).mono (fun r h c => ⟨(h c).1.trans (Cert.AttnArray.array m c), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨e0, e1, e2⟩ := hargs c
    rw [Cert.ReferenceIdeal.Read.val_main_v67_eq, e0, e1, e2]

end Cert.AttnClaim

end
-- ==== Proof.DownFrame.lean ====
module

public import proofs.«01_k».proof.Proof.Gen.DownIdeal.Launch
public import proofs.«01_k».proof.Proof.Gen.DownIdeal.Skeleton
public import Idealize.ShloMosaic.Lib.Pipeline.Kit
public import Idealize.ShloMosaic.Lib.Pipeline.FrameBody
public import Idealize.ShloMosaic.Lib.Pipeline.Value
public import Idealize.ShloMosaic.Lib.Claim
public import Idealize.ShloMosaic.Lib.Tactic
public import Idealize.ShloMosaic.Lib.WordCmp
public import Idealize.ShloMosaic.Lib.VecWindow

@[expose] public section

set_option maxRecDepth 16384

noncomputable section

/-! The run of the experts' down projection: what the staged blocks hold at every point, what the body stores there,
    and the program's final memory with the result array named block by block. -/

namespace Cert.DownIdeal.Frame

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two comparisons of the tile's number with the number of used tiles -/

/-- Exactly one of the body's two branches is taken: the second's condition is the first's negation. -/
theorem cond2_iff (i : grid0.Coords) (w : BitVec 32) : k0_cond2 i w = 1#1 ↔ ¬ k0_cond1 i w = 1#1 := by
  unfold k0_cond1 k0_cond2
  generalize BitVec.ofNat 32 (i 1).val = a
  simp only [Scalar.cmpi, Scalar.extui, IntOp.cmpi, BitVec.slt, BitVec.sle]
  by_cases h : a.toInt < w.toInt
  · have h' : ¬ w.toInt ≤ a.toInt := by omega
    simp [h, h']
  · have h' : w.toInt ≤ a.toInt := by omega
    simp [h, h']

/-! ## The body on any staging memrefs -/

theorem zero2 : (![0, 0] : Fin 2 → Nat) = fun _ => 0 := by funext a; fin_cases a <;> rfl
theorem zero4 : (![0, 0, 0, 0] : Fin 4 → Nat) = fun _ => 0 := by funext a; fin_cases a <;> rfl

/-- A table's buffer held at half the full share: the pipeline keeps the other half. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The two tables as the body is handed them. -/
abbrev tab0 : Memref sig .tc .smem S112 .i32 := Memref.whole main_v11
abbrev tab1 : Memref sig .tc .smem S1 .i32 := Memref.whole main_arg1

/-- What the body leaves in the output's buffer: the tile's rows through the expert's matrix, or zeros past the used tiles. -/
def stored (i : grid0.Coords) (w : BitVec 32) (x0 : Vec F S512x1024 .bf16) (x1 : Vec F S1x1x1024x1024 .f32) (x2 : Vec F S1x1x1x1024 .f32) :
    Vec F S512x1024 .f32 :=
  if k0_cond1 i w = 1#1 then k0_pay1 x0 x1 x2 else k0_pay2

set_option maxHeartbeats 1000000 in
/-- The body at a used tile: the output's buffer ends at the tile's rows through the expert's matrix, the inputs as they were. -/
theorem run_used (c : Dev nD) (i : grid0.Coords) (w : BitVec 32) (arg4 : Memref sig .tc .vmem S512x1024 .bf16) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S512x1024 .f32) (harg7 : arg7.IsWhole)
    (x0 : Vec F S512x1024 .bf16) (x1 : Vec F S1x1x1024x1024 .f32) (x2 : Vec F S1x1x1x1024 .f32) (xt0 : Buf (Elt F) (tab0.view.loc (c : Thread nD τ)))
    (hc : k0_cond1 i w = 1#1) (E : Set ℕ) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ held c tab0 xt0 ∗ held c tab1 (fun _ => w)
            ∗ (iprop(owns (c : Thread nD τ) arg4 fullShare x0 ∗ owns (c : Thread nD τ) arg5 fullShare x1 ∗ owns (c : Thread nD τ) arg6 fullShare x2 ∗ owns (c : Thread nD τ) arg7 fullShare (k0_pay1 x0 x1 x2) ∗ held c tab0 xt0 ∗ held c tab1 (fun _ => w)) -∗ K ⟨⟩))
          ⊢ wp frame (wpE (defs₀ (F := F)) Variants.none c none) E (cc0_expert_down i tab0 (Memref.isWhole_whole _) tab1 (Memref.isWhole_whole _) arg4 harg4 arg5 harg5 arg6 harg6 arg7 harg7) K := by
  have hc2 : ¬ k0_cond2 i w = 1#1 := fun h => (cond2_iff i w).mp h hc
  simp only [cc0_expert_down_eq_skeleton]; unfold cc0_expert_down_skel
  unfold owns
  iintro ⟨⟨%f0, %hf0, H0⟩, ⟨%f1, %hf1, H1⟩, ⟨%f2, %hf2, H2⟩, ⟨%d3, %f3, -, H3⟩, HT0, HT1, Hk⟩
  obtain rfl := harg4.eq_unread hf0; obtain rfl := harg5.eq_unread hf1; obtain rfl := harg6.eq_unread hf2
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; swap; · iexact H3
    ipureintro
    rw [View.read_writes_full _ _ _ _ _]
    simp only [View.readAt_eq_ld, harg4.read_unread, harg5.read_unread, harg6.read_unread,
      View.ld_unit_zero (S := S512x1024) zero2, View.ld_unit_zero (S := S1x1x1024x1024) zero4, View.ld_unit_zero (S := S1x1x1x1024) zero4]
  isplitl [HT0]; · iexact HT0
  iexact HT1

set_option maxHeartbeats 1000000 in
/-- The body past the used tiles: the output's buffer ends at zeros, the inputs as they were. -/
theorem run_rest (c : Dev nD) (i : grid0.Coords) (w : BitVec 32) (arg4 : Memref sig .tc .vmem S512x1024 .bf16) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S512x1024 .f32) (harg7 : arg7.IsWhole)
    (x0 : Vec F S512x1024 .bf16) (x1 : Vec F S1x1x1024x1024 .f32) (x2 : Vec F S1x1x1x1024 .f32) (xt0 : Buf (Elt F) (tab0.view.loc (c : Thread nD τ)))
    (hc : ¬ k0_cond1 i w = 1#1) (E : Set ℕ) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ held c tab0 xt0 ∗ held c tab1 (fun _ => w)
            ∗ (iprop(owns (c : Thread nD τ) arg4 fullShare x0 ∗ owns (c : Thread nD τ) arg5 fullShare x1 ∗ owns (c : Thread nD τ) arg6 fullShare x2 ∗ owns (c : Thread nD τ) arg7 fullShare (k0_pay2 (F := F)) ∗ held c tab0 xt0 ∗ held c tab1 (fun _ => w)) -∗ K ⟨⟩))
          ⊢ wp frame (wpE (defs₀ (F := F)) Variants.none c none) E (cc0_expert_down i tab0 (Memref.isWhole_whole _) tab1 (Memref.isWhole_whole _) arg4 harg4 arg5 harg5 arg6 harg6 arg7 harg7) K := by
  have hc2 : k0_cond2 i w = 1#1 := (cond2_iff i w).mpr hc
  simp only [cc0_expert_down_eq_skeleton]; unfold cc0_expert_down_skel
  unfold owns
  iintro ⟨⟨%f0, %hf0, H0⟩, ⟨%f1, %hf1, H1⟩, ⟨%f2, %hf2, H2⟩, ⟨%d3, %f3, -, H3⟩, HT0, HT1, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; swap; · iexact H3
    ipureintro
    exact View.read_writes_full _ _ _ _ _
  isplitl [HT0]; · iexact HT0
  iexact HT1

/-- The body at any point: the output's buffer ends at `stored`, the inputs as they were. -/
theorem run_body (c : Dev nD) (i : grid0.Coords) (w : BitVec 32) (arg4 : Memref sig .tc .vmem S512x1024 .bf16) (harg4 : arg4.IsWhole) (arg5 : Memref sig .tc .vmem S1x1x1024x1024 .f32) (harg5 : arg5.IsWhole) (arg6 : Memref sig .tc .vmem S1x1x1x1024 .f32) (harg6 : arg6.IsWhole) (arg7 : Memref sig .tc .vmem S512x1024 .f32) (harg7 : arg7.IsWhole)
    (x0 : Vec F S512x1024 .bf16) (x1 : Vec F S1x1x1024x1024 .f32) (x2 : Vec F S1x1x1x1024 .f32) (xt0 : Buf (Elt F) (tab0.view.loc (c : Thread nD τ)))
    (E : Set ℕ) (K : PUnit → sProp 𝕄) :
        iprop(owns (c : Thread nD τ) arg4 fullShare x0 ∗ owns (c : Thread nD τ) arg5 fullShare x1 ∗ owns (c : Thread nD τ) arg6 fullShare x2 ∗ (∃ d, owns (c : Thread nD τ) arg7 fullShare d) ∗ held c tab0 xt0 ∗ held c tab1 (fun _ => w)
            ∗ (iprop(owns (c : Thread nD τ) arg4 fullShare x0 ∗ owns (c : Thread nD τ) arg5 fullShare x1 ∗ owns (c : Thread nD τ) arg6 fullShare x2 ∗ owns (c : Thread nD τ) arg7 fullShare (stored i w x0 x1 x2) ∗ held c tab0 xt0 ∗ held c tab1 (fun _ => w)) -∗ K ⟨⟩))
          ⊢ wp frame (wpE (defs₀ (F := F)) Variants.none c none) E (cc0_expert_down i tab0 (Memref.isWhole_whole _) tab1 (Memref.isWhole_whole _) arg4 harg4 arg5 harg5 arg6 harg6 arg7 harg7) K := by
  unfold stored
  by_cases hc : k0_cond1 i w = 1#1
  · rw [if_pos hc]; exact run_used c i w arg4 harg4 arg5 harg5 arg6 harg6 arg7 harg7 x0 x1 x2 xt0 hc E K
  · rw [if_neg hc]; exact run_rest c i w arg4 harg4 arg5 harg5 arg6 harg6 arg7 harg7 x0 x1 x2 xt0 hc E K

variable (m : (ℓ : Loc nD τ sig) → Buf (Elt F) ℓ) (ρ : Dev nD → PrngReg)

/-! ## The memory when the kernel starts -/

/-- Core `c`'s buffers when the kernel starts: after the host operations. -/
abbrev V (c : Dev nD) (b : Ref sig .tc) : Buf (Elt F) ((c : Thread nD τ).loc b) := StableHlo.after hostOps0 (fun b => m (c, b)) b

/-- No host operation leaves a buffer of its own making. -/
theorem ops_fresh : (hostOps0 : List (HloOp τ sig (Elt F))).Forall fun op => op.fresh = ∅ := by
  simp only [List.Forall]; repeat' constructor

set_option maxHeartbeats 800000 in
/-- The program is its host operations, then the kernel. -/
theorem main_is (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- A buffer that no host operation writes is as launched. -/
theorem V_kept (c : Dev nD) (b : Ref sig .tc) (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

/-- The host operations' written buffers are none of the arguments. -/
theorem args_kept (b : Ref sig .tc) (hb : b ∈ [main_arg0, main_arg1, main_arg2, main_arg3, main_arg4]) :
    ∀ op ∈ (hostOps0 : List (HloOp τ sig (Elt F))), Proc.devRef .tc b ∉ op.writes := by
  refine List.forall_iff_forall_mem.mp ?_
  simp only [List.mem_cons, List.not_mem_nil, or_false] at hb
  rcases hb with rfl | rfl | rfl | rfl | rfl
  all_goals
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)

theorem V_arg0 (c : Dev nD) : V m c main_arg0 = m ((c : Thread nD τ).loc main_arg0) := V_kept m c _ (args_kept _ (by simp))
theorem V_arg1 (c : Dev nD) : V m c main_arg1 = m ((c : Thread nD τ).loc main_arg1) := V_kept m c _ (args_kept _ (by simp))
theorem V_arg2 (c : Dev nD) : V m c main_arg2 = m ((c : Thread nD τ).loc main_arg2) := V_kept m c _ (args_kept _ (by simp))
theorem V_arg3 (c : Dev nD) : V m c main_arg3 = m ((c : Thread nD τ).loc main_arg3) := V_kept m c _ (args_kept _ (by simp))
theorem V_arg4 (c : Dev nD) : V m c main_arg4 = m ((c : Thread nD τ).loc main_arg4) := V_kept m c _ (args_kept _ (by simp))

/-! ## The two tables -/

/-- The tables' contents when the kernel starts (there is one device). -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- What the tables must satisfy: every block they name lies inside its array. -/
abbrev Ok : Prop := ok0 (F := F) (tbl m)

/-- The pipeline at those tables. -/
abbrev adm (hO : Ok m) : (pcfg0 (F := F)).Adm := ⟨tbl m, hO⟩
abbrev cfgM (hO : Ok m) : Pipeline.Cfg sig Λ₀ := cfg0 (adm m hO)

/-- The number of used tiles: the second table's one word. -/
def used : BitVec 32 := tbl m 1 (fun a => ⟨0, by fin_cases a; decide⟩)

theorem tbl1_eq : tbl m 1 = fun _ => used m := by
  funext x
  unfold used
  congr 1
  funext a
  fin_cases a
  exact Subsingleton.elim (α := Fin 1) _ _

/-- The halves of the tables that the body holds, table by table. -/
theorem tables_eq (c : Dev nD) : (Pipeline.ΦT pre0 (tbl m) c : sProp 𝕄) = iprop(held c tab0 (tbl m 0) ∗ held c tab1 (fun _ => used m)) := by
  unfold Pipeline.ΦT Pipeline.prefHeld
  rw [show (Finset.univ : Finset (Fin 2)) = insert (0 : Fin 2) {(1 : Fin 2)} from by decide,
    bigSep_insert (by decide), bigSep_singleton, tbl1_eq]
  rfl

/-! ## The windows -/

/-- Window `w`'s block at point `t`, read off its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The proof data: each input's buffer at its block, the output's at what the body stores there. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => stored (grid0.coords t) (used m) (iblk m hO c 0 t) (iblk m hO c 1 t) (iblk m hO c 2 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = stored (grid0.coords t) (used m) (iblk m hO c 0 t) (iblk m hO c 1 t) (iblk m hO c 2 t) := by dsimp only [dats]; try rfl

/-- Each input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The output's block is stored at every point, by one branch or the other, whatever the tables. -/
theorem never_idle (pf : pre0.Contents (Elt F)) (i : grid0.Coords) : idle0 pf 3 i = false := by
  have key : ∀ w : BitVec 32, (!(k0_cond1 i w == 1#1) && !(k0_cond2 i w == 1#1)) = false := fun w => by
    have h := cond2_iff i w
    by_cases hc : k0_cond1 i w = 1#1
    · simp [hc]
    · simp [h.mpr hc]
  exact key _

/-- The pipeline's own idle table is that one. -/
theorem idle_eq (a : (pcfg0 (F := F)).Adm) : (cfg0 a).idle = idle0 a.1 := rfl

theorem live_out (a : (pcfg0 (F := F)).Adm) (i : (cfg0 a).grid.Coords) : (cfg0 a).idle 3 i = false :=
  (congrFun (congrFun (idle_eq a) 3) i).trans (never_idle a.1 i)

/-! ## The body at a point -/

abbrev ms0 (hO : Ok m) (t : Fin (cfgM m hO).N) : Memref sig .tc .vmem S512x1024 .bf16 := spec0_0.stage ((cfgM m hO).slots t 0)
abbrev ms1 (hO : Ok m) (t : Fin (cfgM m hO).N) : Memref sig .tc .vmem S1x1x1024x1024 .f32 := spec0_1.stage ((cfgM m hO).slots t 1)
abbrev ms2 (hO : Ok m) (t : Fin (cfgM m hO).N) : Memref sig .tc .vmem S1x1x1x1024 .f32 := spec0_2.stage ((cfgM m hO).slots t 2)
abbrev ms3 (hO : Ok m) (t : Fin (cfgM m hO).N) : Memref sig .tc .vmem S512x1024 .f32 := spec0_3.stage ((cfgM m hO).slots t 3)

/-- The body as the pipeline calls it at point `t`. -/
abbrev bodyAt (hO : Ok m) (t : Fin (cfgM m hO).N) : Prog (TpuEff nD τ sig (Elt F) Λ₀ .tc) PUnit :=
  cc0_expert_down (grid0.coords t) tab0 (Memref.isWhole_whole _) tab1 (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t))

/-- The body at any point, from the blocks it finds to the blocks it leaves. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩⟩
  iapply ((run_body c (grid0.coords t) (used m) _ _ _ _ _ _ _ _ (iblk m hO c 0 t) (iblk m hO c 1 t) (iblk m hO c 2 t) (tbl m 0)) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem obligation (hO : Ok m) (c : Dev nD) : BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  simp only []
  split
  · next h => exact absurd (h.symm.trans (never_idle (tbl m) _)) (by decide)
  · exact .rfl

/-! ## The whole run -/

set_option backward.isDefEq.respectTransparency.types false in
/-- Every execution ends, with every array named and every counter at zero. -/
theorem run (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := main_is m Variants.none) (hA := A_eq m hO) (hpf := V_tbl m) (hΦ := fun _ _ => rfl)

/-- The program's final memory: the result array named, the arguments as launched, every counter at zero. -/
theorem run_named (hO : Ok m) : θ_run defs (onTc (τ := τ) (main (F := F))) ⟨m, fun _ => 0, ρ⟩ (fun r => (∀ c : Dev nD,
      r.2.mem ((c.tc : Thread nD τ).loc main_v13) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c).1 3,
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).1 0).trans (((dats m hO 0 c).arrAt_in 0 rfl _).trans ((A_eq m hO c 0).trans (V_arg2 m c))),
    ((h.1 c).1 1).trans (((dats m hO 0 c).arrAt_in 1 rfl _).trans ((A_eq m hO c 1).trans (V_arg3 m c))),
    ((h.1 c).2 main_arg4 (by decide : main_arg4 ∈ Pipeline.restRefs sig spec0)).trans (V_arg4 m c)⟩, h.2⟩) (run m ρ hO)

end Cert.DownIdeal.Frame
-- ==== Proof.DownTables.lean ====
module

public import proofs.«01_k».proof.Proof.DownFrame
public import Idealize.ShloMosaic.Lib.Routing.OpsSet
public import Idealize.ShloMosaic.Lib.WordArith
public import Idealize.ShloMosaic.Lib.Pointwise
public import Idealize.ShloMosaic.Lib.PairWhole
public import Idealize.ShloMosaic.Lib.StableHlo.Run

@[expose] public section

set_option maxRecDepth 16384

noncomputable section

namespace Cert.DownIdeal.Frame

open Idealize Idealize.SL Idealize.SL.Sem
open Idealize.ShloMosaic Idealize.ShloMosaic.TcCoe
open Cert.DownIdeal Cert.DownIdeal.Gen

attribute [local instance] Cert.DownIdeal.Gen.facts

variable {F : FTy → Type} [FloatOps F]
variable (m : (ℓ : Loc nD τ sig) → Buf (Elt F) ℓ)

/-- The expert of tile `r` and the number of used tiles, as launched. -/
def expert (r : Fin 112) : ℕ := ((m ((0 : Dev nD), main_arg0) : IVec S112 32) (ix1 r)).toNat
def count : ℕ := ((m ((0 : Dev nD), main_arg1) : IVec S1 32) (ix1 0)).toNat

/-- What is asked of the two integer arguments: every tile's expert is one of the thirty-two, and at least one tile is used. -/
structure Named : Prop where
  tile : ∀ r : Fin 112, expert m r < 32
  pos : 1 ≤ count m
  small : count m < 2 ^ 31

/-- The signed minimum of two small words is the word of the minimum. -/
theorem minsi_ofNat (a b : ℕ) (ha : a < 2 ^ 31) (hb : b < 2 ^ 31) : IntOp.minsi (BitVec.ofNat 32 a) (BitVec.ofNat 32 b) = BitVec.ofNat 32 (min a b) := by
  apply BitVec.eq_of_toNat_eq
  rw [Idealize.ShloMosaic.WordArith.toNat_minsi_of_lt _ _ (by rw [BitVec.toNat_ofNat]; omega) (by rw [BitVec.toNat_ofNat]; omega)]
  simp only [BitVec.toNat_ofNat]
  omega

/-- One less than a positive small word. -/
theorem sub_one_ofNat (n : ℕ) (h1 : 1 ≤ n) (h : n < 2 ^ 31) : IntOp.subi (BitVec.ofNat 32 n) 1#32 = BitVec.ofNat 32 (n - 1) := by
  apply BitVec.eq_of_toNat_eq
  unfold IntOp.subi
  rw [BitVec.toNat_sub]
  simp only [BitVec.toNat_ofNat]
  omega

/-- A small word is not negative. -/
theorem slt_zero_ofNat (n : ℕ) (h : n < 2 ^ 31) : IntOp.cmpi .slt (BitVec.ofNat 32 n) 0#32 = 0#1 := by
  unfold IntOp.cmpi
  have : (BitVec.ofNat 32 n).slt 0#32 = false := by
    rw [Bool.eq_false_iff]; intro hh
    rw [BitVec.slt_iff_toInt_lt, StableHlo.Predicate.toInt_ofNat_small _ h] at hh
    simp at hh; omega
  simp [this]

/-- The positions the clamped table reads: tile `r` reads at the smaller of `r` and the last used tile. -/
def positions (a1 : IVec S1 32) : IVec S112 32 :=
  minsi (iotaInDim S112 32 0) (broadcastInDim S112 ![] bcast_S_S112 (subi (shapeCast S_ a1 shapeCasts_S1_S_) (constantI S_ 32 1#32)))

/-- The clamped table, as the host computes it. -/
def clamped (a0 : IVec S112 32) (a1 : IVec S1 32) : IVec S112 32 :=
  Host.gather gather_S112_S112x1_S112_n_0_n_n_0_1_1 a0
    (broadcastInDim S112x1 ![0] bcast_S112_S112x1_0
      (select (cmpi .slt (positions a1) (broadcastInDim S112 ![] bcast_S_S112 (constantI S_ 32 0#32)))
        (addi (positions a1) (broadcastInDim S112 ![] bcast_S_S112 (constantI S_ 32 112#32))) (positions a1)))

theorem positions_apply (a1 : IVec S1 32) (n : ℕ) (h1 : 1 ≤ n) (h : n < 2 ^ 31) (e : a1 (ix1 0) = BitVec.ofNat 32 n) (r : Fin 112) :
    positions a1 (ix1 r) = BitVec.ofNat 32 (min r.val (n - 1)) := by
  have er : shapeCast S_ a1 shapeCasts_S1_S_ = fun _ => a1 (ix1 0) := by
    funext x
    exact shapeCast_apply a1 shapeCasts_S1_S_ x (ix1 0) (by sl_kernel_rfl)
  unfold positions
  rw [er]
  show IntOp.minsi (BitVec.ofNat 32 r.val) (IntOp.subi (a1 (ix1 0)) 1#32) = _
  rw [e, sub_one_ofNat n h1 h, minsi_ofNat _ _ (by omega) (by omega)]

theorem clamped_apply (a0 : IVec S112 32) (a1 : IVec S1 32) (n : ℕ) (h1 : 1 ≤ n) (h : n < 2 ^ 31) (e : a1 (ix1 0) = BitVec.ofNat 32 n) (r : Fin 112) :
    clamped a0 a1 (ix1 r) = a0 (ix1 ⟨min r.val (n - 1), by omega⟩) := by
  refine Routing.gather_take1 gather_S112_S112x1_S112_n_0_n_n_0_1_1 rfl rfl rfl rfl a0 _ r ⟨min r.val (n - 1), by omega⟩ ?_ (by decide)
  have hp := positions_apply a1 n h1 h e r
  generalize positions a1 = p at hp ⊢
  pointwise
  show Scalar.select (IntOp.cmpi .slt (p (ix1 r)) 0#32) (IntOp.addi (p (ix1 r)) 112#32) (p (ix1 r)) = _
  rw [hp, slt_zero_ofNat _ (by omega)]
  rfl

/-- The first table the kernel reads. -/
theorem V_table (c : Dev nD) : V m c main_v11 = clamped (m ((c : Thread nD τ).loc main_arg0)) (m ((c : Thread nD τ).loc main_arg1)) := by
  show StableHlo.after hostOps0 (fun b => m (c, b)) main_v11 = _
  unfold hostOps0 clamped positions
  after_results_simp <;> rfl

/-- The tile that stands in for tile `r`: itself where used, else the last used one. -/
def standIn (hN : Named m) (r : Fin 112) : Fin 112 := ⟨min r.val (count m - 1), by omega⟩

theorem arg1_eq : (m ((0 : Dev nD), main_arg1) : IVec S1 32) (ix1 0) = BitVec.ofNat 32 (count m) := (BitVec.ofNat_toNat (x := _) 32).trans (BitVec.setWidth_eq _) |>.symm

theorem tbl0_apply (hN : Named m) (r : Fin 112) : (tbl m 0 : IVec S112 32) (ix1 r) = BitVec.ofNat 32 (expert m (standIn m hN r)) := by
  refine (congrFun (V_table m 0) (ix1 r)).trans ?_
  refine (clamped_apply _ _ (count m) hN.pos hN.small (arg1_eq m) r).trans ?_
  exact (BitVec.ofNat_toNat (x := _) 32).trans (BitVec.setWidth_eq _) |>.symm

theorem used_eq : used m = BitVec.ofNat 32 (count m) := by
  refine Eq.trans ?_ (arg1_eq m)
  refine (congrFun (V_arg1 m 0) _).trans ?_
  refine congrArg (m ((0 : Dev nD), main_arg1)) ?_
  funext a
  fin_cases a
  rfl

/-- The activations' block: rows of the standing-in tile. -/
theorem rows_at (hN : Named m) (i : grid0.Coords) :
    cc0_transform_0 inb_S1_S1_0 numel1_S1 (tbl m) i = ![(standIn m hN (i 1)).val, 0] := by
  have hu : ((tbl m).at 1 (Rect.unit (s := S1) ![0] S1.size inb_S1_S1_0) numel1_S1 : BitVec 32) = BitVec.ofNat 32 (count m) := by
    rw [← used_eq]; exact congrFun (tbl1_eq m) _
  have hi : (i 1).val < 112 := (i 1).isLt
  have hp := hN.pos
  have hs := hN.small
  show ![(IntOp.minsi (BitVec.ofNat 32 (i 1).val) (IntOp.subi ((tbl m).at 1 (Rect.unit (s := S1) ![0] S1.size inb_S1_S1_0) numel1_S1 : BitVec 32) 1#32)).toNat, 0] = _
  rw [hu, sub_one_ofNat _ hp hs, minsi_ofNat _ _ (by omega) (by omega), BitVec.toNat_ofNat, Nat.mod_eq_of_lt (by omega)]
  rfl

theorem word_at (hN : Named m) (i : grid0.Coords) :
    ((tbl m).at 0 (Rect.unit (s := S112) (k0_off1 i) S1.size (k0_off1_inb i)) numel1_S1 : BitVec 32) = BitVec.ofNat 32 (expert m (standIn m hN (i 1))) := by
  refine Eq.trans ?_ (tbl0_apply m hN (i 1))
  refine congrArg (tbl m 0) ?_
  funext a
  fin_cases a
  apply Fin.ext
  have hi : (i 1).val < 112 := (i 1).isLt
  show (BitVec.ofNat 32 (i 1).val).toNat + 1 * 0 = (i 1).val
  rw [BitVec.toNat_ofNat]; omega

/-- The weights' block: the standing-in tile's expert, the point's columns. -/
theorem weights_at (hN : Named m) (i : grid0.Coords) :
    cc0_transform_1 k0_off1_inb numel1_S1 (tbl m) i = ![0, expert m (standIn m hN (i 1)), 0, (i 0).val] := by
  have hw := word_at m hN i
  have he := hN.tile (standIn m hN (i 1))
  have hi : (i 0).val < 4 := (i 0).isLt
  show ![0, ((tbl m).at 0 (Rect.unit (s := S112) (k0_off1 i) S1.size (k0_off1_inb i)) numel1_S1 : BitVec 32).toNat, 0, (BitVec.ofNat 32 (i 0).val).toNat] = _
  rw [hw, BitVec.toNat_ofNat, BitVec.toNat_ofNat, Nat.mod_eq_of_lt (by omega), Nat.mod_eq_of_lt (by omega)]

theorem bias_at (hN : Named m) (i : grid0.Coords) :
    cc0_transform_2 k0_off1_inb numel1_S1 (tbl m) i = ![0, expert m (standIn m hN (i 1)), 0, (i 0).val] := weights_at m hN i

/-- The tables name blocks inside their arrays. -/
theorem ok_of_named (hN : Named m) : Ok m := by
  refine ⟨fun i => ?_, fun i => ?_, fun i => ?_⟩
  · rw [rows_at m hN]
    have hi : (standIn m hN (i 1)).val < 112 := (standIn m hN (i 1)).isLt
    refine ⟨fun a => ?_, .inr (Rect.packedRows_of_rowAxis _ _ (by decide) (Dvd.dvd.mul_left (show 2 ∣ 512 by decide) _) (show 2 ∣ 512 by decide) rfl).wholeWords⟩
    match a with
    | ⟨0, _⟩ => show ((standIn m hN (i 1)).val + 1) * 512 ≤ 57344; omega
    | ⟨1, _⟩ => show (0 + 1) * 1024 ≤ 1024; omega
  · rw [weights_at m hN]
    have he := hN.tile (standIn m hN (i 1))
    have hi : (i 0).val < 4 := (i 0).isLt
    refine ⟨fun a => ?_, .inl rfl⟩
    match a with
    | ⟨0, _⟩ => show (0 + 1) * 1 ≤ 2; omega
    | ⟨1, _⟩ => show (expert m (standIn m hN (i 1)) + 1) * 1 ≤ 32; omega
    | ⟨2, _⟩ => show (0 + 1) * 1024 ≤ 1024; omega
    | ⟨3, _⟩ => show ((i 0).val + 1) * 1024 ≤ 4096; omega
  · rw [bias_at m hN]
    have he := hN.tile (standIn m hN (i 1))
    have hi : (i 0).val < 4 := (i 0).isLt
    refine ⟨fun a => ?_, .inl rfl⟩
    match a with
    | ⟨0, _⟩ => show (0 + 1) * 1 ≤ 2; omega
    | ⟨1, _⟩ => show (expert m (standIn m hN (i 1)) + 1) * 1 ≤ 32; omega
    | ⟨2, _⟩ => show (0 + 1) * 1 ≤ 1; omega
    | ⟨3, _⟩ => show ((i 0).val + 1) * 1024 ≤ 4096; omega

end Cert.DownIdeal.Frame
-- ==== Proof.ExpertGather.lean ====
/- Reading a gather that takes one whole matrix of a stack per index, the form in which a tile's expert picks its weights. -/
module

public import Idealize.ShloMosaic.Lib.Routing.OpsSet
public import Idealize.ShloMosaic.Lib.Pointwise

@[expose] public section

noncomputable section

namespace Cert.ExpertGather

open Idealize Idealize.ShloMosaic

/-- The dimension numbers of a take of whole matrices `[B, C]` out of a stack of `nb`, one per entry of a column of `n` indices. -/
def stackDims {nb B C n : Nat} (wf : GatherDims.WF ⟨3, ![nb, B, C]⟩ ⟨2, ![n, 1]⟩ ⟨3, ![n, B, C]⟩ [1, 2] [0] [] [0] [] 1 ![1, B, C]) :
    GatherDims ⟨3, ![nb, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- The take read at an entry: where the column holds a number `b` below `nb`, the result is matrix `b`. -/
theorem stack_apply {α : Type} {nb B C n : Nat} (wf : GatherDims.WF ⟨3, ![nb, B, C]⟩ ⟨2, ![n, 1]⟩ ⟨3, ![n, B, C]⟩ [1, 2] [0] [] [0] [] 1 ![1, B, C])
    (x : (⟨3, ![nb, B, C]⟩ : Shape).Idx → α) (idx : IVec ⟨2, ![n, 1]⟩ 32) (p : Fin n) (y : Fin B) (z : Fin C) (b : Fin nb)
    (hb : idx (ix2 p (0 : Fin 1)) = BitVec.ofNat 32 b.val) (hN : nb < 2 ^ 31) :
    Host.gather (stackDims wf) x idx (ix3 p y z) = x (ix3 b y z) := by
  unfold Host.gather
  refine congrArg x (funext fun a => Fin.ext ?_)
  have hbl := b.isLt
  have c0 : (stackDims wf).start (ix3 p y z) idx (0 : Fin 3) + (stackDims wf).batchCoord (ix3 p y z) (0 : Fin 3) + (stackDims wf).offCoord (ix3 p y z) (0 : Fin 3) = b.val := by
    rw [GatherDims.batchCoord_eq_zero _ _ _ List.not_mem_nil, Nat.add_zero,
      GatherDims.offCoord_eq_zero _ _ _ (fun h => ((GatherDims.mem_sKept _ _).mp h).1 (List.mem_singleton.mpr rfl)), Nat.add_zero]
    unfold GatherDims.start
    rw [dif_pos (show (0 : Fin 3) ∈ (stackDims wf).startIndexMap from List.mem_singleton.mpr rfl)]
    have hsi : (stackDims wf).siIdx (ix3 p y z) ⟨List.idxOf (0 : Fin 3) (stackDims wf).startIndexMap,
        List.idxOf_lt_length_iff.2 (List.mem_singleton.mpr rfl)⟩ = ix2 p (0 : Fin 1) := by
      funext d; refine Fin.ext ?_
      match d with
      | ⟨0, _⟩ => rfl
      | ⟨1, _⟩ => rfl
    rw [hsi, hb, StableHlo.Predicate.toInt_ofNat_small _ (by omega)]
    show min ((b.val : Int)).toNat (nb - 1) = b.val
    omega
  have c1 : (stackDims wf).start (ix3 p y z) idx (1 : Fin 3) + (stackDims wf).batchCoord (ix3 p y z) (1 : Fin 3) + (stackDims wf).offCoord (ix3 p y z) (1 : Fin 3) = y.val := by
    rw [GatherDims.batchCoord_eq_zero _ _ _ List.not_mem_nil, Nat.add_zero]
    unfold GatherDims.start
    rw [dif_neg (show ¬ (1 : Fin 3) ∈ (stackDims wf).startIndexMap from fun h => nomatch (congrArg Fin.val (List.mem_singleton.mp h))), Nat.zero_add]
    rfl
  have c2 : (stackDims wf).start (ix3 p y z) idx (2 : Fin 3) + (stackDims wf).batchCoord (ix3 p y z) (2 : Fin 3) + (stackDims wf).offCoord (ix3 p y z) (2 : Fin 3) = z.val := by
    rw [GatherDims.batchCoord_eq_zero _ _ _ List.not_mem_nil, Nat.add_zero]
    unfold GatherDims.start
    rw [dif_neg (show ¬ (2 : Fin 3) ∈ (stackDims wf).startIndexMap from fun h => nomatch (congrArg Fin.val (List.mem_singleton.mp h))), Nat.zero_add]
    rfl
  match a with
  | ⟨0, _⟩ => exact c0
  | ⟨1, _⟩ => exact c1
  | ⟨2, _⟩ => exact c2

end Cert.ExpertGather

end
-- ==== Proof.DownRef.lean ====
/- The down projection's reference read at an index: a tile's rows times its expert's weights, plus that expert's bias, and zero past the
   used tiles. -/
module

public import proofs.«01_k».proof.Proof.Gen.DownRefIdeal.Read
public import proofs.«01_k».proof.Proof.ExpertGather
public import Idealize.ShloMosaic.Lib.Routing.Ops

@[expose] public section

set_option maxRecDepth 16384

noncomputable section

namespace Cert.DownRef

open Cert.DownRefIdeal Cert.DownRefIdeal.Read Cert.DownRefIdeal.Gen Idealize Idealize.ShloMosaic Idealize.ShloMosaic.TcCoe

attribute [local instance] Cert.DownRefIdeal.Gen.facts

/-- One element of the projection: a row against a column, plus the column's bias. -/
def project (row col : Fin 1024 → EReal) (bias : EReal) : EReal := (∑ k : Fin 1024, row k * col k) + bias

variable (x0 : IVec S112 32) (x1 : IVec S1 32) (x2 : FVec Ideal S57344x1024 .bf16) (x3 : FVec Ideal S2x32x1024x4096 .f32) (x4 : FVec Ideal S2x32x4096 .f32)

theorem index_apply (r : Fin 112) (e : ℕ) (he : x0 (ix1 r) = BitVec.ofNat 32 e) (h : e < 32) :
    val_main_v9 (F := Ideal) x0 (ix2 r 0) = BitVec.ofNat 32 e ∧ val_main_v18 (F := Ideal) x0 (ix2 r 0) = BitVec.ofNat 32 e := by
  have hz : IntOp.cmpi .slt (x0 (ix1 r)) 0#32 = 0#1 := by
    rw [he]; exact (by decide : ∀ e : Fin 32, IntOp.cmpi .slt (BitVec.ofNat 32 e.val) 0#32 = 0#1) ⟨e, h⟩
  constructor
  · pointwise [val_main_v9, val_main_v8, val_main_v5, val_main_v4, val_main_c, val_main_v7, val_main_v6, val_main_c_0]
    rw [hz]; exact he
  · pointwise [val_main_v18, val_main_v17, val_main_v14, val_main_v13, val_main_c_1, val_main_v16, val_main_v15, val_main_c_2]
    rw [hz]; exact he

theorem weights_apply (r : Fin 112) (e : Fin 32) (he : x0 (ix1 r) = BitVec.ofNat 32 e.val) (k : Fin 1024) (j : Fin 4096) :
    val_main_v10 (F := Ideal) x0 x3 (ix3 r k j) = x3 (ix4 0 e k j) := by
  refine (ExpertGather.stack_apply _ (val_main_v3 (F := Ideal) x3) (val_main_v9 (F := Ideal) x0) r k j e (index_apply x0 r e he e.isLt).1 (by decide)).trans ?_
  pointwise [val_main_v3, val_main_v2]

theorem bias_apply (r : Fin 112) (e : Fin 32) (he : x0 (ix1 r) = BitVec.ofNat 32 e.val) (j : Fin 4096) :
    val_main_v19 (F := Ideal) x0 x4 (ix2 r j) = x4 (ix3 0 e j) := by
  refine (Routing.gather_row _ rfl rfl rfl rfl rfl (val_main_v12 (F := Ideal) x4) (val_main_v18 (F := Ideal) x0) r j e (index_apply x0 r e he e.isLt).2 (by decide)).trans ?_
  pointwise [val_main_v12, val_main_v11]

/-- The reference at row `t` of tile `r`, column `j`, the tile's expert being `e`. -/
theorem ref_apply (r : Fin 112) (t : Fin 512) (j : Fin 4096) (e : Fin 32) (he : x0 (ix1 r) = BitVec.ofNat 32 e.val) :
    val_main_v30 (F := Ideal) x0 x1 x2 x3 x4 (ix2 ⟨r.val * 512 + t.val, by omega⟩ j)
      = Scalar.select (IntOp.cmpi .slt (BitVec.ofNat 32 r.val) (x1 (ix1 0)))
          (project (fun k => x2 (ix2 ⟨r.val * 512 + t.val, by omega⟩ k)) (fun k => x3 (ix4 0 e k j)) (x4 (ix3 0 e j))) (0 : EReal) := by
  have hw := weights_apply x0 x3 r e he
  have hb := bias_apply x0 x4 r e he
  unfold val_main_v30 val_main_v29 val_main_v23 val_main_v22 val_main_v21 val_main_v20
  generalize val_main_v10 (F := Ideal) x0 x3 = w at hw ⊢
  generalize val_main_v19 (F := Ideal) x0 x4 = b at hb ⊢
  pointwise [val_main_v1, val_main_v0, val_main_call0_v1, val_main_v28, val_main_v27, val_main_v26, val_main_v25, val_main_v24, val_main_call0_v2, val_main_call0_v0, val_main_cst]
  simp only [hw, hb]
  have hz : (Ideal.ofBits .f32 0#32 : EReal) = 0 := by simp [Ideal.ofBits, Ideal.ieee]
  show Scalar.select _ _ (Ideal.ofBits .f32 0#32 : EReal) = _
  rw [hz]
  rfl

end Cert.DownRef

end
-- ==== Proof.DownArray.lean ====
module

public import proofs.«01_k».proof.Proof.DownTables
public import proofs.«01_k».proof.Proof.DownRef

@[expose] public section

set_option maxRecDepth 16384

noncomputable section

namespace Cert.DownArray

open Idealize Idealize.SL Idealize.SL.Sem
open Idealize.ShloMosaic Idealize.ShloMosaic.TcCoe
open Cert.DownIdeal Cert.DownIdeal.Gen Cert.DownIdeal.Frame Cert.DownRef

attribute [local instance] Cert.DownIdeal.Gen.facts

/-- One element of the block of a used tile. -/
theorem product_apply (v8 : Vec Ideal S512x1024 .bf16) (v9 : Vec Ideal S1x1x1024x1024 .f32) (v13 : Vec Ideal S1x1x1x1024 .f32) (t : Fin 512) (j : Fin 1024) :
    k0_pay1 (F := Ideal) v8 v9 v13 (ix2 t j) = project (fun k => v8 (ix2 t k)) (fun k => v9 (ix4 0 0 k j)) (v13 (ix4 0 0 0 j)) := by
  pointwise [k0_pay1]
  rfl

/-- The block past the used tiles. -/
theorem rest_apply (t : Fin 512) (j : Fin 1024) : k0_pay2 (F := Ideal) (ix2 t j) = (0 : EReal) := by
  pointwise [k0_pay2]

variable (m : (ℓ : Loc nD τ sig) → Buf (Elt Ideal) ℓ)

/-- The two coordinates of a point. -/
theorem coords_val : ∀ t : Fin grid0.N, (grid0.coords t 0).val = t.val / 112 ∧ (grid0.coords t 1).val = t.val % 112 :=
  by decide +kernel

/-- The row of `S57344` that row `x` of tile `r` is. -/
abbrev rowOf (r : Fin 112) (x : Fin 512) : Fin 57344 := ⟨r.val * 512 + x.val, by omega⟩
/-- The column that column `y` of column block `q` is. -/
abbrev colOf (q : Fin 4) (y : Fin 1024) : Fin 4096 := ⟨q.val * 1024 + y.val, by omega⟩
/-- The tile and the column block of a point. -/
abbrev tileOf (t : Fin grid0.N) : Fin 112 := grid0.coords t 1
abbrev partOf (t : Fin grid0.N) : Fin 4 := grid0.coords t 0
/-- The expert of a tile, as one of the thirty-two. -/
abbrev expertOf (hN : Named m) (r : Fin 112) : Fin 32 := ⟨expert m r, hN.tile r⟩

/-- The activations' block at a point: the standing-in tile's rows. -/
theorem act_apply (hN : Named m) (c : Dev nD) (t : Fin grid0.N) (x : Fin 512) (k : Fin 1024) :
    iblk m (ok_of_named m hN) c 0 t (ix2 x k) = m ((c : Thread nD τ).loc main_arg2) (ix2 (rowOf (standIn m hN (tileOf t)) x) k) := by
  have e : ((cfgM m (ok_of_named m hN)).win 0).index t = ![(standIn m hN (tileOf t)).val, 0] := rows_at m hN (grid0.coords t)
  have e0 : ((cfgM m (ok_of_named m hN)).win 0).index t (0 : Fin 2) = (standIn m hN (tileOf t)).val := congrFun e (0 : Fin 2)
  have e1 : ((cfgM m (ok_of_named m hN)).win 0).index t (1 : Fin 2) = 0 := congrFun e (1 : Fin 2)
  show V m c main_arg2 ((((cfgM m (ok_of_named m hN)).win 0).blk t).view.emb (ix2 x k)) = _
  have hix : (((cfgM m (ok_of_named m hN)).win 0).blk t).view.emb (ix2 x k) = (ix2 (rowOf (standIn m hN (tileOf t)) x) k : S57344x1024.Idx) := by
    funext a; apply Fin.ext
    match a with
    | ⟨0, _⟩ => show ((cfgM m (ok_of_named m hN)).win 0).index t (0 : Fin 2) * 512 + 1 * x.val = (standIn m hN (tileOf t)).val * 512 + x.val; rw [e0]; omega
    | ⟨1, _⟩ => show ((cfgM m (ok_of_named m hN)).win 0).index t (1 : Fin 2) * 1024 + 1 * k.val = k.val; rw [e1]; omega
  rw [V_arg2, hix]

/-- The weights' block at a point. -/
theorem wt_apply (hN : Named m) (c : Dev nD) (t : Fin grid0.N) (k : Fin 1024) (y : Fin 1024) :
    iblk m (ok_of_named m hN) c 1 t (ix4 0 0 k y) = m ((c : Thread nD τ).loc main_arg3) (ix4 0 (expertOf m hN (standIn m hN (tileOf t))) k (colOf (partOf t) y)) := by
  have e : ((cfgM m (ok_of_named m hN)).win 1).index t = ![0, expert m (standIn m hN (tileOf t)), 0, (partOf t).val] := weights_at m hN (grid0.coords t)
  have e0 : ((cfgM m (ok_of_named m hN)).win 1).index t (0 : Fin 4) = 0 := congrFun e (0 : Fin 4)
  have e1 : ((cfgM m (ok_of_named m hN)).win 1).index t (1 : Fin 4) = expert m (standIn m hN (tileOf t)) := congrFun e (1 : Fin 4)
  have e2 : ((cfgM m (ok_of_named m hN)).win 1).index t (2 : Fin 4) = 0 := congrFun e (2 : Fin 4)
  have e3 : ((cfgM m (ok_of_named m hN)).win 1).index t (3 : Fin 4) = (partOf t).val := congrFun e (3 : Fin 4)
  show V m c main_arg3 ((((cfgM m (ok_of_named m hN)).win 1).blk t).view.emb (ix4 0 0 k y)) = _
  have hix : (((cfgM m (ok_of_named m hN)).win 1).blk t).view.emb (ix4 0 0 k y) = (ix4 0 (expertOf m hN (standIn m hN (tileOf t))) k (colOf (partOf t) y) : S2x32x1024x4096.Idx) := by
    funext a; apply Fin.ext
    match a with
    | ⟨0, _⟩ => show ((cfgM m (ok_of_named m hN)).win 1).index t (0 : Fin 4) * 1 + 1 * 0 = 0; rw [e0]
    | ⟨1, _⟩ => show ((cfgM m (ok_of_named m hN)).win 1).index t (1 : Fin 4) * 1 + 1 * 0 = expert m (standIn m hN (tileOf t)); rw [e1]; omega
    | ⟨2, _⟩ => show ((cfgM m (ok_of_named m hN)).win 1).index t (2 : Fin 4) * 1024 + 1 * k.val = k.val; rw [e2]; omega
    | ⟨3, _⟩ => show ((cfgM m (ok_of_named m hN)).win 1).index t (3 : Fin 4) * 1024 + 1 * y.val = (partOf t).val * 1024 + y.val; rw [e3]; omega
  rw [V_arg3, hix]

/-- The biases as the kernel finds them: an axis of one put in. -/
theorem V_bias (c : Dev nD) : V m c main_v12 = shapeCast S2x32x1x4096 (m ((c : Thread nD τ).loc main_arg4)) shapeCasts_S2x32x4096_S2x32x1x4096 := by
  show StableHlo.after hostOps0 (fun b => m (c, b)) main_v12 = _
  unfold hostOps0
  after_results_simp <;> rfl

/-- The biases' block at a point. -/
theorem bs_apply (hN : Named m) (c : Dev nD) (t : Fin grid0.N) (y : Fin 1024) :
    iblk m (ok_of_named m hN) c 2 t (ix4 0 0 0 y) = m ((c : Thread nD τ).loc main_arg4) (ix3 0 (expertOf m hN (standIn m hN (tileOf t))) (colOf (partOf t) y)) := by
  have e : ((cfgM m (ok_of_named m hN)).win 2).index t = ![0, expert m (standIn m hN (tileOf t)), 0, (partOf t).val] := bias_at m hN (grid0.coords t)
  have e0 : ((cfgM m (ok_of_named m hN)).win 2).index t (0 : Fin 4) = 0 := congrFun e (0 : Fin 4)
  have e1 : ((cfgM m (ok_of_named m hN)).win 2).index t (1 : Fin 4) = expert m (standIn m hN (tileOf t)) := congrFun e (1 : Fin 4)
  have e2 : ((cfgM m (ok_of_named m hN)).win 2).index t (2 : Fin 4) = 0 := congrFun e (2 : Fin 4)
  have e3 : ((cfgM m (ok_of_named m hN)).win 2).index t (3 : Fin 4) = (partOf t).val := congrFun e (3 : Fin 4)
  show V m c main_v12 ((((cfgM m (ok_of_named m hN)).win 2).blk t).view.emb (ix4 0 0 0 y)) = _
  have hix : (((cfgM m (ok_of_named m hN)).win 2).blk t).view.emb (ix4 0 0 0 y) = (ix4 0 (expertOf m hN (standIn m hN (tileOf t))) 0 (colOf (partOf t) y) : S2x32x1x4096.Idx) := by
    funext a; apply Fin.ext
    match a with
    | ⟨0, _⟩ => show ((cfgM m (ok_of_named m hN)).win 2).index t (0 : Fin 4) * 1 + 1 * 0 = 0; rw [e0]
    | ⟨1, _⟩ => show ((cfgM m (ok_of_named m hN)).win 2).index t (1 : Fin 4) * 1 + 1 * 0 = expert m (standIn m hN (tileOf t)); rw [e1]; omega
    | ⟨2, _⟩ => show ((cfgM m (ok_of_named m hN)).win 2).index t (2 : Fin 4) * 1 + 1 * 0 = 0; rw [e2]
    | ⟨3, _⟩ => show ((cfgM m (ok_of_named m hN)).win 2).index t (3 : Fin 4) * 1024 + 1 * y.val = (partOf t).val * 1024 + y.val; rw [e3]; omega
  rw [V_bias, hix]
  refine shapeCast_apply _ _ _ (ix3 0 (expertOf m hN (standIn m hN (tileOf t))) (colOf (partOf t) y)) ?_
  rw [Shape.rowMajor_val_three, Shape.rowMajor_val_four]
  show (0 * 32 + expert m (standIn m hN (tileOf t))) * 4096 + ((partOf t).val * 1024 + y.val)
    = ((0 * 32 + expert m (standIn m hN (tileOf t))) * 1 + 0) * 4096 + ((partOf t).val * 1024 + y.val)
  omega

/-- Where the output's block sits at each point. -/
theorem out_index (hO : Ok m) (t : Fin grid0.N) :
    ((cfgM m hO).win 3).index t (0 : Fin 2) = (tileOf t).val ∧ ((cfgM m hO).win 3).index t (1 : Fin 2) = (partOf t).val := by
  have h0 : (partOf t).val < 4 := (partOf t).isLt
  have h1 : (tileOf t).val < 112 := (tileOf t).isLt
  constructor
  · show (BitVec.ofNat 32 (tileOf t).val).toNat = _
    rw [BitVec.toNat_ofNat]; omega
  · show (BitVec.ofNat 32 (partOf t).val).toNat = _
    rw [BitVec.toNat_ofNat]; omega

theorem out_emb (hO : Ok m) (t : Fin grid0.N) (x : Fin 512) (y : Fin 1024) :
    (((cfgM m hO).win 3).blk t).view.emb (ix2 x y) = (ix2 (rowOf (tileOf t) x) (colOf (partOf t) y) : S57344x4096.Idx) := by
  obtain ⟨e0, e1⟩ := out_index m hO t
  funext a; apply Fin.ext
  match a with
  | ⟨0, _⟩ => show ((cfgM m hO).win 3).index t (0 : Fin 2) * 512 + 1 * x.val = (tileOf t).val * 512 + x.val; rw [e0]; omega
  | ⟨1, _⟩ => show ((cfgM m hO).win 3).index t (1 : Fin 2) * 1024 + 1 * y.val = (partOf t).val * 1024 + y.val; rw [e1]; omega

/-- The output's block is written back at every point: the next point's block is another. -/
theorem out_flush (hO : Ok m) (t : Fin (cfgM m hO).N) : ((cfgM m hO).win 3).flush t = true :=
  (fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr (Nat.mod_one _)
    : ∀ t : Fin grid0.N, Pipeline.Window.flushOf grid0 true cc0_transform_3 t = true) t

/-- The branch taken at a point, by its tile and the number of used tiles. -/
theorem taken_iff (i : grid0.Coords) (w : BitVec 32) : k0_cond1 i w = 1#1 ↔ IntOp.cmpi .slt (BitVec.ofNat 32 (i 1).val) w = 1#1 := by
  have h : ∀ b : BitVec 1, Scalar.cmpi .ne (Scalar.extui b : BitVec 32) 0#32 = b := by decide
  show Scalar.cmpi .ne (Scalar.extui (IntOp.cmpi .slt (BitVec.ofNat 32 (i 1).val) w) : BitVec 32) 0#32 = 1#1 ↔ _
  rw [h]

/-- What a point stores when its tile is used. -/
theorem stored_taken (i : grid0.Coords) (w : BitVec 32) (x0 : Vec Ideal S512x1024 .bf16) (x1 : Vec Ideal S1x1x1024x1024 .f32) (x2 : Vec Ideal S1x1x1x1024 .f32)
    (h : k0_cond1 i w = 1#1) (x : Fin 512) (y : Fin 1024) : stored i w x0 x1 x2 (ix2 x y) = project (fun k => x0 (ix2 x k)) (fun k => x1 (ix4 0 0 k y)) (x2 (ix4 0 0 0 y)) := by
  unfold stored; rw [if_pos h]; exact product_apply _ _ _ x y

/-- What a point stores when its tile is past the used ones. -/
theorem stored_rest (i : grid0.Coords) (w : BitVec 32) (x0 : Vec Ideal S512x1024 .bf16) (x1 : Vec Ideal S1x1x1024x1024 .f32) (x2 : Vec Ideal S1x1x1x1024 .f32)
    (h : ¬ k0_cond1 i w = 1#1) (x : Fin 512) (y : Fin 1024) : stored i w x0 x1 x2 (ix2 x y) = (0 : EReal) := by
  unfold stored; rw [if_neg h]; exact rest_apply x y

/-- A used tile stands for itself. -/
theorem standIn_of_taken (hN : Named m) (r : Fin 112) (h : IntOp.cmpi .slt (BitVec.ofNat 32 r.val) (BitVec.ofNat 32 (count m)) = 1#1) : standIn m hN r = r := by
  have hlt : r.val < count m := by
    unfold IntOp.cmpi at h
    by_contra hge
    have hf : (BitVec.ofNat 32 r.val).slt (BitVec.ofNat 32 (count m)) = false := by
      rw [Bool.eq_false_iff]; intro hh
      rw [BitVec.slt_iff_toInt_lt, StableHlo.Predicate.toInt_ofNat_small _ (by omega), StableHlo.Predicate.toInt_ofNat_small _ hN.small] at hh
      omega
    simp [hf] at h
  apply Fin.ext
  show min r.val (count m - 1) = r.val
  omega

/-- Every element of the output lies in the block of the point of its row's tile and its column's block. -/
theorem covered (hO : Ok m) (i : S57344x4096.Idx) : ∃ t : Fin (cfgM m hO).N, ((cfgM m hO).win 3).flush t = true ∧ i ∈ (((cfgM m hO).win 3).blk t).view.set := by
  have h0 : (i 0).val < 57344 := (i 0).isLt
  have h1 : (i 1).val < 4096 := (i 1).isLt
  have hlt : (i 1).val / 1024 * 112 + (i 0).val / 512 < grid0.N := lt_of_lt_of_eq (b := 448) (by omega) (by decide)
  refine ⟨⟨(i 1).val / 1024 * 112 + (i 0).val / 512, hlt⟩, out_flush m _ _, ?_⟩
  obtain ⟨e0, e1⟩ := out_index m hO ⟨(i 1).val / 1024 * 112 + (i 0).val / 512, hlt⟩
  obtain ⟨c0, c1⟩ := coords_val ⟨(i 1).val / 1024 * 112 + (i 0).val / 512, hlt⟩
  have hset : (((cfgM m hO).win 3).blk ⟨(i 1).val / 1024 * 112 + (i 0).val / 512, hlt⟩).view.set = (((cfgM m hO).win 3).rect ⟨(i 1).val / 1024 * 112 + (i 0).val / 512, hlt⟩).set :=
    View.set_slice_whole main_v13 _
  rw [hset]
  refine Rect.mem_set_unit.mpr ?_
  intro a
  match a with
  | ⟨0, _⟩ =>
    show ((cfgM m hO).win 3).index ⟨_, hlt⟩ (0 : Fin 2) * 512 ≤ (i 0).val ∧ (i 0).val < ((cfgM m hO).win 3).index ⟨_, hlt⟩ (0 : Fin 2) * 512 + 512
    rw [e0, c1]; dsimp only; omega
  | ⟨1, _⟩ =>
    show ((cfgM m hO).win 3).index ⟨_, hlt⟩ (1 : Fin 2) * 1024 ≤ (i 1).val ∧ (i 1).val < ((cfgM m hO).win 3).index ⟨_, hlt⟩ (1 : Fin 2) * 1024 + 1024
    rw [e1, c0]; dsimp only; omega

/-- THE ARRAY AFTER THE RUN is the reference's function of the arguments. -/
theorem array (hN : Named m) (c : Dev nD) : (dats m (ok_of_named m hN) 0 c).arrAt 3 (cfgM m (ok_of_named m hN)).N
    = Cert.DownRefIdeal.Read.val_main_v30 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  obtain rfl : c = 0 := Subsingleton.elim _ _
  refine (dats m (ok_of_named m hN) 0 0).arrAt_eq_of_cover 3 _ (fun t _ => ?_) fun i => ?_
  · show (dats m (ok_of_named m hN) 0 0).after 3 t = _
    rw [after_3]
    funext z
    obtain ⟨x, y, rfl⟩ : ∃ (x : Fin 512) (y : Fin 1024), z = ix2 x y := ⟨z 0, z 1, eq_ix2 z⟩
    show stored _ _ _ _ _ (ix2 x y) = Cert.DownRefIdeal.Read.val_main_v30 (F := Ideal) _ _ _ _ _ ((((cfgM m (ok_of_named m hN)).win 3).blk t).view.emb (ix2 x y))
    have he : (m (((0 : Dev nD) : Thread nD τ).loc main_arg0) : IVec S112 32) (ix1 (tileOf t)) = BitVec.ofNat 32 (expertOf m hN (tileOf t)).val :=
      (BitVec.ofNat_toNat (x := _) 32).trans (BitVec.setWidth_eq _) |>.symm
    have hn : (m (((0 : Dev nD) : Thread nD τ).loc main_arg1) : IVec S1 32) (ix1 0) = BitVec.ofNat 32 (count m) := arg1_eq m
    rw [out_emb]
    refine Eq.trans ?_ (ref_apply _ _ _ _ _ (tileOf t) x (colOf (partOf t) y) (expertOf m hN (tileOf t)) he).symm
    rw [hn]
    rw [used_eq]
    by_cases hc : k0_cond1 (grid0.coords t) (BitVec.ofNat 32 (count m)) = 1#1
    · have hs := (taken_iff _ _).mp hc
      have hst := standIn_of_taken m hN (tileOf t) hs
      refine (stored_taken _ _ _ _ _ hc x y).trans ?_
      refine Eq.trans (congr (congr (congrArg project (funext fun k => ?_)) (funext fun k => ?_)) ?_)
        (show _ = Scalar.select (IntOp.cmpi .slt (BitVec.ofNat 32 (tileOf t).val) (BitVec.ofNat 32 (count m))) _ _ by rw [show IntOp.cmpi .slt (BitVec.ofNat 32 (tileOf t).val) (BitVec.ofNat 32 (count m)) = 1#1 from hs]; rfl)
      · exact (act_apply m hN 0 t x k).trans (by rw [hst])
      · exact (wt_apply m hN 0 t k y).trans (by rw [hst])
      · exact (bs_apply m hN 0 t y).trans (by rw [hst])
    · have hs : IntOp.cmpi .slt (BitVec.ofNat 32 (tileOf t).val) (BitVec.ofNat 32 (count m)) = 0#1 := by
        have := fun h => hc ((taken_iff _ _).mpr h)
        generalize IntOp.cmpi .slt (BitVec.ofNat 32 (tileOf t).val) (BitVec.ofNat 32 (count m)) = b at this ⊢
        revert b; decide
      refine (stored_rest _ _ _ _ _ hc x y).trans ?_
      rw [hs]; rfl
  · exact covered m (ok_of_named m hN) i

end Cert.DownArray
-- ==== Proof.DownPre.lean ====
/- The precondition of the experts' down projection, read as facts about the two integer arguments. -/
module

public import proofs.«01_k».proof.Proof.Gen.Pre_down_tables
public import Idealize.ShloMosaic.Lib.Pointwise
public import Idealize.ShloMosaic.Lib.Tactic
public import Idealize.ShloMosaic.Lib.Pipeline.Value

@[expose] public section

noncomputable section

namespace Cert.DownPre

open Idealize.ShloMosaic Cert.Pre_down_tables

attribute [local instance] Cert.Pre_down_tables.Gen.facts

variable {F : FTy → Type} [FloatOps F]

/-- The one index of a one-element vector, from the only index of a scalar. -/
theorem head_apply (a1 : IVec S1 32) (w : S_.Idx) : shapeCast S_ a1 Facts.shapeCasts_S1_S_ w = a1 (ix1 0) :=
  shapeCast_apply a1 Facts.shapeCasts_S1_S_ w (ix1 0) (by sl_kernel_rfl)

/-- A true conjunction of bits is two true bits. -/
theorem both_of_andi : ∀ a b : BitVec 1, IntOp.andi a b = 1#1 → a = 1#1 ∧ b = 1#1 := by decide

/-- A word between 0 and 31 as a signed number is one of the first thirty-two. -/
theorem lt_of_signed (w : BitVec 32) (h0 : IntOp.cmpi .sge w 0#32 = 1#1) (h1 : IntOp.cmpi .sle w 31#32 = 1#1) : w.toNat < 32 := by
  simp only [IntOp.cmpi] at h0 h1
  have e0 : (0#32).sle w = true := by cases h : (0#32).sle w <;> simp_all
  have e1 : w.sle 31#32 = true := by cases h : w.sle 31#32 <;> simp_all
  rw [BitVec.sle_iff_toInt_le] at e0 e1
  rw [show (0#32).toInt = 0 by decide] at e0
  rw [show (31#32).toInt = 31 by decide] at e1
  rw [BitVec.toInt_eq_toNat_cond] at e0 e1
  have := w.isLt
  split at e1 <;> omega

/-- A word that is at least 1 as a signed number is a positive number below half the words. -/
theorem pos_of_signed (w : BitVec 32) (h : IntOp.cmpi .sge w 1#32 = 1#1) : 1 ≤ w.toNat ∧ w.toNat < 2 ^ 31 := by
  simp only [IntOp.cmpi] at h
  have e : (1#32).sle w = true := by cases h' : (1#32).sle w <;> simp_all
  rw [BitVec.sle_iff_toInt_le] at e
  rw [BitVec.toInt_eq_toNat_cond (x := w)] at e
  have := w.isLt
  simp at e
  split at e <;> omega

/-- What the precondition says of the experts' table and of the number of used tiles. -/
theorem read (a0 : IVec S112 32) (a1 : IVec S1 32) (a2 : FVec F S57344x1024 .bf16) (a3 : FVec F S2x32x1024x4096 .f32) (a4 : FVec F S2x32x4096 .f32)
    (h : Cert.Pre_down_tables.fn (F := F) a0 a1 a2 a3 a4 = fun _ => 1#1) :
    (∀ r : Fin 112, (a0 (ix1 r)).toNat < 32) ∧ 1 ≤ (a1 (ix1 0)).toNat ∧ (a1 (ix1 0)).toNat < 2 ^ 31 := by
  have key : ∀ r : Fin 112, ((a0 (ix1 r)).toNat < 32) ∧ 1 ≤ (a1 (ix1 0)).toNat ∧ (a1 (ix1 0)).toNat < 2 ^ 31 := fun r => by
    have hr := congrFun h (ix1 r)
    obtain ⟨hA, hB⟩ := both_of_andi _ _ (show IntOp.andi _ _ = 1#1 from hr)
    obtain ⟨h0, h1⟩ := both_of_andi _ _ (show IntOp.andi _ _ = 1#1 from hA)
    refine ⟨lt_of_signed _ h0 h1, pos_of_signed _ ?_⟩
    have hB' : IntOp.cmpi .sge (shapeCast S_ a1 Facts.shapeCasts_S1_S_ _) 1#32 = 1#1 := hB
    rwa [head_apply] at hB'
  exact ⟨fun r => (key r).1, (key 0).2⟩

end Cert.DownPre

end
-- ==== Proof.DownClaim.lean ====
/- The experts' down projection's claims: the frames under the precondition, the reference's frame, and the algebraic
   equality with the reference. -/
module

public import proofs.«01_k».proof.Proof.DownArray
public import proofs.«01_k».proof.Proof.DownBitsTables
public import proofs.«01_k».proof.Proof.DownPre
public import proofs.«01_k».proof.Proof.Gen.DownRefIdeal.Run
public import proofs.«01_k».proof.Defs
public import Idealize.ShloMosaic.Lib.Quiescent

@[expose] public section

noncomputable section

namespace Cert.DownClaim

open Idealize.ShloMosaic Idealize.SL.Sem

attribute [local instance] Cert.Down.Gen.facts Cert.DownIdeal.Gen.facts Cert.DownRefIdeal.Gen.facts Cert.Pre_down_tables.Gen.facts

/-- The precondition on the kernel's memory, as facts about the two tables. -/
theorem named (m) (h : Cert.Pre_Down m) : Cert.Down.Frame.Named m := by
  obtain ⟨a, b, c⟩ := Cert.DownPre.read _ _ _ _ _ (h 0)
  exact ⟨a, b, c⟩

/-- The same for the idealized kernel. -/
theorem named_ideal (m) (h : Cert.Pre_DownIdeal m) : Cert.DownIdeal.Frame.Named m := by
  obtain ⟨a, b, c⟩ := Cert.DownPre.read _ _ _ _ _ (h 0)
  exact ⟨a, b, c⟩

/-- The kernel runs to an end, leaves its arguments as launched and every counter at zero. -/
theorem frame : Cert.quiescent_Down := fun m g h =>
  (θ_run Cert.Down.defs _ _).mono (fun r h => ⟨fun c => (h.1 c).2, h.2⟩)
    (Cert.Down.Frame.run_named (F := Bits) m g (Cert.Down.Frame.ok_of_named m (named m h)))

/-- So does the idealized kernel. -/
theorem frame_ideal : Cert.quiescent_DownIdeal := fun m g h =>
  (θ_run Cert.DownIdeal.defs _ _).mono (fun r h => ⟨fun c => (h.1 c).2, h.2⟩)
    (Cert.DownIdeal.Frame.run_named (F := Ideal) m g (Cert.DownIdeal.Frame.ok_of_named m (named_ideal m h)))

/-- The reference runs to an end, leaves its arguments as launched and every counter at zero. -/
theorem reference_frame : Cert.quiescent_DownRefIdeal := fun m g _ =>
  (θ_run Cert.DownRefIdeal.defs _ _).mono
    (fun r h => ⟨fun c => (h c).2, sem_eq_zero_of_no_sems (by decide) r.2⟩)
    (Cert.DownRefIdeal.Value.run (F := Ideal) m g)

/-- The same under the precondition. -/
theorem reference_frame_pre : Cert.quiescent_DownRefIdeal_pre_down_tables := fun m g _ =>
  (θ_run Cert.DownRefIdeal.defs _ _).mono
    (fun r h => ⟨fun c => (h c).2, sem_eq_zero_of_no_sems (by decide) r.2⟩)
    (Cert.DownRefIdeal.Value.run (F := Ideal) m g)

/-- Over the extended reals the kernel's result is the reference's, from the same arguments. -/
theorem algebraic : Cert.algebraic_DownIdeal_DownRefIdeal := by
  intro m g m' g' hpre hargs
  refine ⟨fun c => Cert.DownRefIdeal.Read.val_main_v30 (F := Ideal) (m (c.tc.loc Cert.DownIdeal.main_arg0))
    (m (c.tc.loc Cert.DownIdeal.main_arg1)) (m (c.tc.loc Cert.DownIdeal.main_arg2)) (m (c.tc.loc Cert.DownIdeal.main_arg3))
    (m (c.tc.loc Cert.DownIdeal.main_arg4)), ?_, ?_⟩
  · have hN := named_ideal m hpre
    exact (θ_run Cert.DownIdeal.defs _ _).mono (fun r h c => ⟨(h.1 c).1.trans (Cert.DownArray.array m hN c), (h.1 c).2⟩)
      (Cert.DownIdeal.Frame.run_named (F := Ideal) m g (Cert.DownIdeal.Frame.ok_of_named m hN))
  · refine (θ_run Cert.DownRefIdeal.defs _ _).mono (fun r h c => ⟨(h c).1.trans ?_, (h c).2⟩)
      (Cert.DownRefIdeal.Value.run (F := Ideal) m' g')
    obtain ⟨e0, e1, e2, e3, e4⟩ := hargs c
    rw [Cert.DownRefIdeal.Read.val_main_v30_eq, e0, e1, e2, e3, e4]

end Cert.DownClaim

end
-- ==== Proof.UpFrame.lean ====
module

public import proofs.«01_k».proof.Proof.Gen.UpIdeal.Launch
public import proofs.«01_k».proof.Proof.Gen.UpIdeal.Skeleton
public import Idealize.ShloMosaic.Lib.Pipeline.Kit
public import Idealize.ShloMosaic.Lib.Pipeline.FrameBody
public import Idealize.ShloMosaic.Lib.Pipeline.Value
public import Idealize.ShloMosaic.Lib.Claim
public import Idealize.ShloMosaic.Lib.Tactic
public import Idealize.ShloMosaic.Lib.WordCmp
public import Idealize.ShloMosaic.Lib.VecWindow
public import proofs.«01_k».proof.Proof.DownBitsFrame

@[expose] public section

set_option maxRecDepth 16384

noncomputable section

/-! The run of the experts' gated up projection: what the staged blocks hold at every point, what the body stores there,
    and the program's final memory with the result array named block by block. -/

namespace Cert.UpIdeal.Frame

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two comparisons of the tile's number with the number of used tiles -/

/-- Exactly one of the body's two branches is taken: the second's condition is the first's negation. -/
theorem cond2_iff (i : grid0.Coords) (w : BitVec 32) : k0_cond2 i w = 1#1 ↔ ¬ k0_cond1 i w = 1#1 := by
  unfold k0_cond1 k0_cond2
  generalize BitVec.ofNat 32 (i 1).val = a
  simp only [Scalar.cmpi, Scalar.extui, IntOp.cmpi, BitVec.slt, BitVec.sle]
  by_cases h : a.toInt < w.toInt
  · have h' : ¬ w.toInt ≤ a.toInt := by omega
    simp [h, h']
  · have h' : w.toInt ≤ a.toInt := by omega
    simp [h, h']

/-! ## The body on any staging memrefs -/

theorem zero2 : (![0, 0] : Fin 2 → Nat) = fun _ => 0 := by funext a; fin_cases a <;> rfl
theorem zero4 : (![0, 0, 0, 0] : Fin 4 → Nat) = fun _ => 0 := by funext a; fin_cases a <;> rfl

/-- A table's buffer held at half the full share: the pipeline keeps the other half. -/
abbrev held (c : Dev nD) {S : Shape} {e : EltTy} (M : Memref sig .tc .smem S e) (f : Buf (Elt F) (M.view.loc (c : Thread nD τ))) : sProp 𝕄 :=
  M.view.loc (c : Thread nD τ) ↦{fullShare.right} f

/-- The two tables as the body is handed them. -/
abbrev tab0 : Memref sig .tc .smem S112 .i32 := Memref.whole main_v11
abbrev tab1 : Memref sig .tc .smem S1 .i32 := Memref.whole main_arg1

/-- What the body leaves in the output's buffer: the tile's rows through the expert's two matrices and the gate, or zeros past the used tiles. -/
def stored (i : grid0.Coords) (w : BitVec 32) (x0 : Vec F S512x4096 .bf16) (x1 : Vec F S1x1x4096x512 .f32) (x2 : Vec F S1x1x1x512 .f32) (x3 : Vec F S1x1x4096x512 .f32) (x4 : Vec F S1x1x1x512 .f32) :
    Vec F S512x512 .bf16 :=
  if k0_cond1 i w = 1#1 then k0_pay2 x0 x1 x2 x3 x4 else k0_pay1

set_option maxHeartbeats 1000000 in
/-- The body at a used tile: the output's buffer ends at the tile's rows through the expert's two matrices and the gate, the inputs as they were. -/
theorem run_used (c : Dev nD) (i : grid0.Coords) (w : BitVec 32) (arg4 : Memref sig .tc .vmem S512x4096 .bf16) (harg4 : arg4.IsWhole) (arg5 : Memref sig .tc .vmem S1x1x4096x512 .f32) (harg5 : arg5.IsWhole) (arg6 : Memref sig .tc .vmem S1x1x1x512 .f32) (harg6 : arg6.IsWhole) (arg7 : Memref sig .tc .vmem S1x1x4096x512 .f32) (harg7 : arg7.IsWhole) (arg8 : Memref sig .tc .vmem S1x1x1x512 .f32) (harg8 : arg8.IsWhole) (arg9 : Memref sig .tc .vmem S512x512 .bf16) (harg9 : arg9.IsWhole)
    (x0 : Vec F S512x4096 .bf16) (x1 : Vec F S1x1x4096x512 .f32) (x2 : Vec F S1x1x1x512 .f32) (x3 : Vec F S1x1x4096x512 .f32) (x4 : Vec F S1x1x1x512 .f32) (xt0 : Buf (Elt F) (tab0.view.loc (c : Thread nD τ)))
    (hc : k0_cond1 i w = 1#1) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ held c tab0 xt0 ∗ held c tab1 (fun _ => w)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay2 x0 x1 x2 x3 x4) ∗ held c tab0 xt0 ∗ held c tab1 (fun _ => w)) -∗ K ⟨⟩))
          ⊢ wp frame (wpE (defs₀ (F := F)) Variants.none c none) E (cc0_expert_up i tab0 (Memref.isWhole_whole _) tab1 (Memref.isWhole_whole _) arg4 harg4 arg5 harg5 arg6 harg6 arg7 harg7 arg8 harg8 arg9 harg9) K := by
  have hc2 : ¬ k0_cond2 i w = 1#1 := fun h => (cond2_iff i w).mp h hc
  simp only [cc0_expert_up_eq_skeleton]; unfold cc0_expert_up_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := harg4.eq_unread hf0; obtain rfl := harg5.eq_unread hf1; obtain rfl := harg6.eq_unread hf2; obtain rfl := harg7.eq_unread hf3; obtain rfl := harg8.eq_unread hf4
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr; swap; · iexact H5
    ipureintro
    rw [View.read_writes_full _ _ _ _ _]
    simp only [View.readAt_eq_ld, harg4.read_unread, harg5.read_unread, harg6.read_unread, harg7.read_unread, harg8.read_unread,
      View.ld_unit_zero (S := S512x4096) zero2, View.ld_unit_zero (S := S1x1x4096x512) zero4, View.ld_unit_zero (S := S1x1x1x512) zero4]
  isplitl [HT0]; · iexact HT0
  iexact HT1

set_option maxHeartbeats 1000000 in
/-- The body past the used tiles: the output's buffer ends at zeros, the inputs as they were. -/
theorem run_rest (c : Dev nD) (i : grid0.Coords) (w : BitVec 32) (arg4 : Memref sig .tc .vmem S512x4096 .bf16) (harg4 : arg4.IsWhole) (arg5 : Memref sig .tc .vmem S1x1x4096x512 .f32) (harg5 : arg5.IsWhole) (arg6 : Memref sig .tc .vmem S1x1x1x512 .f32) (harg6 : arg6.IsWhole) (arg7 : Memref sig .tc .vmem S1x1x4096x512 .f32) (harg7 : arg7.IsWhole) (arg8 : Memref sig .tc .vmem S1x1x1x512 .f32) (harg8 : arg8.IsWhole) (arg9 : Memref sig .tc .vmem S512x512 .bf16) (harg9 : arg9.IsWhole)
    (x0 : Vec F S512x4096 .bf16) (x1 : Vec F S1x1x4096x512 .f32) (x2 : Vec F S1x1x1x512 .f32) (x3 : Vec F S1x1x4096x512 .f32) (x4 : Vec F S1x1x1x512 .f32) (xt0 : Buf (Elt F) (tab0.view.loc (c : Thread nD τ)))
    (hc : ¬ k0_cond1 i w = 1#1) (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ held c tab0 xt0 ∗ held c tab1 (fun _ => w)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay1 (F := F)) ∗ held c tab0 xt0 ∗ held c tab1 (fun _ => w)) -∗ K ⟨⟩))
          ⊢ wp frame (wpE (defs₀ (F := F)) Variants.none c none) E (cc0_expert_up i tab0 (Memref.isWhole_whole _) tab1 (Memref.isWhole_whole _) arg4 harg4 arg5 harg5 arg6 harg6 arg7 harg7 arg8 harg8 arg9 harg9) K := by
  have hc2 : k0_cond2 i w = 1#1 := (cond2_iff i w).mpr hc
  simp only [cc0_expert_up_eq_skeleton]; unfold cc0_expert_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    exact View.read_writes_full _ _ _ _ _
  isplitl [HT0]; · iexact HT0
  iexact HT1

/-- The body at any point: the output's buffer ends at `stored`, the inputs as they were. -/
theorem run_body (c : Dev nD) (i : grid0.Coords) (w : BitVec 32) (arg4 : Memref sig .tc .vmem S512x4096 .bf16) (harg4 : arg4.IsWhole) (arg5 : Memref sig .tc .vmem S1x1x4096x512 .f32) (harg5 : arg5.IsWhole) (arg6 : Memref sig .tc .vmem S1x1x1x512 .f32) (harg6 : arg6.IsWhole) (arg7 : Memref sig .tc .vmem S1x1x4096x512 .f32) (harg7 : arg7.IsWhole) (arg8 : Memref sig .tc .vmem S1x1x1x512 .f32) (harg8 : arg8.IsWhole) (arg9 : Memref sig .tc .vmem S512x512 .bf16) (harg9 : arg9.IsWhole)
    (x0 : Vec F S512x4096 .bf16) (x1 : Vec F S1x1x4096x512 .f32) (x2 : Vec F S1x1x1x512 .f32) (x3 : Vec F S1x1x4096x512 .f32) (x4 : Vec F S1x1x1x512 .f32) (xt0 : Buf (Elt F) (tab0.view.loc (c : Thread nD τ)))
    (E : Set ℕ) (K : PUnit → sProp 𝕄) :
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ held c tab0 xt0 ∗ held c tab1 (fun _ => w)
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (stored i w x0 x1 x2 x3 x4) ∗ held c tab0 xt0 ∗ held c tab1 (fun _ => w)) -∗ K ⟨⟩))
          ⊢ wp frame (wpE (defs₀ (F := F)) Variants.none c none) E (cc0_expert_up i tab0 (Memref.isWhole_whole _) tab1 (Memref.isWhole_whole _) arg4 harg4 arg5 harg5 arg6 harg6 arg7 harg7 arg8 harg8 arg9 harg9) K := by
  unfold stored
  by_cases hc : k0_cond1 i w = 1#1
  · rw [if_pos hc]; exact run_used c i w arg4 harg4 arg5 harg5 arg6 harg6 arg7 harg7 arg8 harg8 arg9 harg9 x0 x1 x2 x3 x4 xt0 hc E K
  · rw [if_neg hc]; exact run_rest c i w arg4 harg4 arg5 harg5 arg6 harg6 arg7 harg7 arg8 harg8 arg9 harg9 x0 x1 x2 x3 x4 xt0 hc E K

variable (m : (ℓ : Loc nD τ sig) → Buf (Elt F) ℓ) (ρ : Dev nD → PrngReg)

/-! ## The memory when the kernel starts -/

/-- Core `c`'s buffers when the kernel starts: after the host operations. -/
abbrev V (c : Dev nD) (b : Ref sig .tc) : Buf (Elt F) ((c : Thread nD τ).loc b) := StableHlo.after hostOps0 (fun b => m (c, b)) b

/-- No host operation leaves a buffer of its own making. -/
theorem ops_fresh : (hostOps0 : List (HloOp τ sig (Elt F))).Forall fun op => op.fresh = ∅ := by
  simp only [List.Forall]; repeat' constructor

set_option maxHeartbeats 800000 in
/-- The program is its host operations, then the kernel. -/
theorem main_is (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- A buffer that no host operation writes is as launched. -/
theorem V_kept (c : Dev nD) (b : Ref sig .tc) (hb : ∀ op ∈ (hostOps0 : List (HloOp τ sig (Elt F))), Proc.devRef .tc b ∉ op.writes) :
    V m c b = m ((c : Thread nD τ).loc b) :=
  StableHlo.after_of_forall_not_mem (b := Proc.devRef .tc b) _ _ hb

/-- The host operations' written buffers are none of the arguments. -/
theorem args_kept (b : Ref sig .tc) (hb : b ∈ [main_arg0, main_arg1, main_arg2, main_arg3, main_arg4, main_arg5, main_arg6]) :
    ∀ op ∈ (hostOps0 : List (HloOp τ sig (Elt F))), Proc.devRef .tc b ∉ op.writes := by
  refine List.forall_iff_forall_mem.mp ?_
  simp only [List.mem_cons, List.not_mem_nil, or_false] at hb
  rcases hb with rfl | rfl | rfl | rfl | rfl | rfl | rfl
  all_goals
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)

theorem V_arg0 (c : Dev nD) : V m c main_arg0 = m ((c : Thread nD τ).loc main_arg0) := V_kept m c _ (args_kept _ (by simp))
theorem V_arg1 (c : Dev nD) : V m c main_arg1 = m ((c : Thread nD τ).loc main_arg1) := V_kept m c _ (args_kept _ (by simp))
theorem V_arg2 (c : Dev nD) : V m c main_arg2 = m ((c : Thread nD τ).loc main_arg2) := V_kept m c _ (args_kept _ (by simp))
theorem V_arg3 (c : Dev nD) : V m c main_arg3 = m ((c : Thread nD τ).loc main_arg3) := V_kept m c _ (args_kept _ (by simp))
theorem V_arg4 (c : Dev nD) : V m c main_arg4 = m ((c : Thread nD τ).loc main_arg4) := V_kept m c _ (args_kept _ (by simp))
theorem V_arg5 (c : Dev nD) : V m c main_arg5 = m ((c : Thread nD τ).loc main_arg5) := V_kept m c _ (args_kept _ (by simp))
theorem V_arg6 (c : Dev nD) : V m c main_arg6 = m ((c : Thread nD τ).loc main_arg6) := V_kept m c _ (args_kept _ (by simp))

/-! ## The two tables -/

/-- The tables' contents when the kernel starts (there is one device). -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- What the tables must satisfy: every block they name lies inside its array. -/
abbrev Ok : Prop := ok0 (F := F) (tbl m)

/-- The pipeline at those tables. -/
abbrev adm (hO : Ok m) : (pcfg0 (F := F)).Adm := ⟨tbl m, hO⟩
abbrev cfgM (hO : Ok m) : Pipeline.Cfg sig Λ₀ := cfg0 (adm m hO)

/-- The number of used tiles: the second table's one word. -/
def used : BitVec 32 := tbl m 1 (fun a => ⟨0, by fin_cases a; decide⟩)

theorem tbl1_eq : tbl m 1 = fun _ => used m := by
  funext x
  unfold used
  congr 1
  funext a
  fin_cases a
  exact Subsingleton.elim (α := Fin 1) _ _

/-- The halves of the tables that the body holds, table by table. -/
theorem tables_eq (c : Dev nD) : (Pipeline.ΦT pre0 (tbl m) c : sProp 𝕄) = iprop(held c tab0 (tbl m 0) ∗ held c tab1 (fun _ => used m)) := by
  unfold Pipeline.ΦT Pipeline.prefHeld
  rw [show (Finset.univ : Finset (Fin 2)) = insert (0 : Fin 2) {(1 : Fin 2)} from by decide,
    bigSep_insert (by decide), bigSep_singleton, tbl1_eq]
  rfl

/-! ## The windows -/

/-- Window `w`'s block at point `t`, read off its array as the kernel finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The proof data: each input's buffer at its block, the output's at what the body stores there. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => stored (grid0.coords t) (used m) (iblk m hO c 0 t) (iblk m hO c 1 t) (iblk m hO c 2 t) (iblk m hO c 3 t) (iblk m hO c 4 t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = stored (grid0.coords t) (used m) (iblk m hO c 0 t) (iblk m hO c 1 t) (iblk m hO c 2 t) (iblk m hO c 3 t) (iblk m hO c 4 t) := by dsimp only [dats]; try rfl

/-- Each input's buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-- The output's block is stored at every point, by one branch or the other, whatever the tables. -/
theorem never_idle (pf : pre0.Contents (Elt F)) (i : grid0.Coords) : idle0 pf 5 i = false := by
  have key : ∀ w : BitVec 32, (!(k0_cond1 i w == 1#1) && !(k0_cond2 i w == 1#1)) = false := fun w => by
    have h := cond2_iff i w
    by_cases hc : k0_cond1 i w = 1#1
    · simp [hc]
    · simp [h.mpr hc]
  exact key _

/-- The pipeline's own idle table is that one. -/
theorem idle_eq (a : (pcfg0 (F := F)).Adm) : (cfg0 a).idle = idle0 a.1 := rfl

theorem live_out (a : (pcfg0 (F := F)).Adm) (i : (cfg0 a).grid.Coords) : (cfg0 a).idle 5 i = false :=
  (congrFun (congrFun (idle_eq a) 5) i).trans (never_idle a.1 i)

/-! ## The body at a point -/

abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x1x4096x512 .f32 := spec0_1.stage ((cfgM m hO).slots t 1)
abbrev ms2 (hO : Ok m) (t : Fin (cfgM m hO).N) : Memref sig .tc .vmem S1x1x1x512 .f32 := spec0_2.stage ((cfgM m hO).slots t 2)
abbrev ms3 (hO : Ok m) (t : Fin (cfgM m hO).N) : Memref sig .tc .vmem S1x1x4096x512 .f32 := spec0_3.stage ((cfgM m hO).slots t 3)
abbrev ms4 (hO : Ok m) (t : Fin (cfgM m hO).N) : Memref sig .tc .vmem S1x1x1x512 .f32 := spec0_4.stage ((cfgM m hO).slots t 4)
abbrev ms5 (hO : Ok m) (t : Fin (cfgM m hO).N) : Memref sig .tc .vmem S512x512 .bf16 := spec0_5.stage ((cfgM m hO).slots t 5)

/-- The body as the pipeline calls it at point `t`. -/
abbrev bodyAt (hO : Ok m) (t : Fin (cfgM m hO).N) : Prog (TpuEff nD τ sig (Elt F) Λ₀ .tc) PUnit :=
  cc0_expert_up (grid0.coords t) tab0 (Memref.isWhole_whole _) tab1 (Memref.isWhole_whole _) (ms0 m hO t) (hstage0_0 (((cfgM m hO).slots t 0).cast nbuf0_0)) (ms1 m hO t) (hstage0_1 (((cfgM m hO).slots t 1).cast nbuf0_1)) (ms2 m hO t) (hstage0_2 (((cfgM m hO).slots t 2).cast nbuf0_2)) (ms3 m hO t) (hstage0_3 (((cfgM m hO).slots t 3).cast nbuf0_3)) (ms4 m hO t) (hstage0_4 (((cfgM m hO).slots t 4).cast nbuf0_4)) (ms5 m hO t) (hstage0_5 (((cfgM m hO).slots t 5).cast nbuf0_5))

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

/-- The body at any point, from the blocks it finds to the blocks it leaves. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply ((run_body c (grid0.coords t) (used m) _ _ _ _ _ _ _ _ _ _ _ _ (iblk m hO c 0 t) (iblk m hO c 1 t) (iblk m hO c 2 t) (iblk m hO c 3 t) (iblk m hO c 4 t) (tbl m 0)) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body's obligation at every point. -/
theorem obligation (hO : Ok m) (c : Dev nD) : BodyObligation (dats (F := F) m hO 0 c) (defs₀ (F := F)) Variants.none () Set.univ := fun t => by
  rw [bigSep_W0, bigSep_W0, row_eq m hO]
  refine triple_restated (sound_body m hO c t) rfl .rfl fun _ => ?_
  unfold bodyPost
  simp only []
  split
  · next h => exact absurd (h.symm.trans (never_idle (tbl m) _)) (by decide)
  · exact .rfl

/-! ## The whole run -/

set_option backward.isDefEq.respectTransparency.types false in
/-- Every execution ends, with every array named and every counter at zero. -/
theorem run (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := main_is m Variants.none) (hA := A_eq m hO) (hpf := V_tbl m) (hΦ := fun _ _ => rfl)

/-- The program's final memory: the result array named, the arguments as launched, every counter at zero. -/
theorem run_named (hO : Ok m) : θ_run defs (onTc (τ := τ) (main (F := F))) ⟨m, fun _ => 0, ρ⟩ (fun r => (∀ c : Dev nD,
      r.2.mem ((c.tc : Thread nD τ).loc main_v14) = (dats m hO 0 c).arrAt 5 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h.1 c).1 5,
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).1 0).trans (((dats m hO 0 c).arrAt_in 0 rfl _).trans ((A_eq m hO c 0).trans (V_arg2 m c))),
    ((h.1 c).1 1).trans (((dats m hO 0 c).arrAt_in 1 rfl _).trans ((A_eq m hO c 1).trans (V_arg3 m c))),
    ((h.1 c).2 main_arg4 (by decide : main_arg4 ∈ Pipeline.restRefs sig spec0)).trans (V_arg4 m c),
    ((h.1 c).1 3).trans (((dats m hO 0 c).arrAt_in 3 rfl _).trans ((A_eq m hO c 3).trans (V_arg5 m c))),
    ((h.1 c).2 main_arg6 (by decide : main_arg6 ∈ Pipeline.restRefs sig spec0)).trans (V_arg6 m c)⟩, h.2⟩) (run m ρ hO)

end Cert.UpIdeal.Frame
-- ==== Proof.UpTables.lean ====
module

public import proofs.«01_k».proof.Proof.UpFrame
public import Idealize.ShloMosaic.Lib.Routing.OpsSet
public import Idealize.ShloMosaic.Lib.WordArith
public import Idealize.ShloMosaic.Lib.Pointwise
public import Idealize.ShloMosaic.Lib.PairWhole
public import Idealize.ShloMosaic.Lib.StableHlo.Run
public import proofs.«01_k».proof.Proof.DownBitsTables

@[expose] public section

set_option maxRecDepth 16384

noncomputable section

namespace Cert.UpIdeal.Frame

open Idealize Idealize.SL Idealize.SL.Sem
open Idealize.ShloMosaic Idealize.ShloMosaic.TcCoe
open Cert.UpIdeal Cert.UpIdeal.Gen

attribute [local instance] Cert.UpIdeal.Gen.facts

variable {F : FTy → Type} [FloatOps F]
variable (m : (ℓ : Loc nD τ sig) → Buf (Elt F) ℓ)

/-- The expert of tile `r` and the number of used tiles, as launched. -/
def expert (r : Fin 112) : ℕ := ((m ((0 : Dev nD), main_arg0) : IVec S112 32) (ix1 r)).toNat
def count : ℕ := ((m ((0 : Dev nD), main_arg1) : IVec S1 32) (ix1 0)).toNat

/-- What is asked of the two integer arguments: every tile's expert is one of the thirty-two, and at least one tile is used. -/
structure Named : Prop where
  tile : ∀ r : Fin 112, expert m r < 32
  pos : 1 ≤ count m
  small : count m < 2 ^ 31

/-- The signed minimum of two small words is the word of the minimum. -/
theorem minsi_ofNat (a b : ℕ) (ha : a < 2 ^ 31) (hb : b < 2 ^ 31) : IntOp.minsi (BitVec.ofNat 32 a) (BitVec.ofNat 32 b) = BitVec.ofNat 32 (min a b) := by
  apply BitVec.eq_of_toNat_eq
  rw [Idealize.ShloMosaic.WordArith.toNat_minsi_of_lt _ _ (by rw [BitVec.toNat_ofNat]; omega) (by rw [BitVec.toNat_ofNat]; omega)]
  simp only [BitVec.toNat_ofNat]
  omega

/-- One less than a positive small word. -/
theorem sub_one_ofNat (n : ℕ) (h1 : 1 ≤ n) (h : n < 2 ^ 31) : IntOp.subi (BitVec.ofNat 32 n) 1#32 = BitVec.ofNat 32 (n - 1) := by
  apply BitVec.eq_of_toNat_eq
  unfold IntOp.subi
  rw [BitVec.toNat_sub]
  simp only [BitVec.toNat_ofNat]
  omega

/-- A small word is not negative. -/
theorem slt_zero_ofNat (n : ℕ) (h : n < 2 ^ 31) : IntOp.cmpi .slt (BitVec.ofNat 32 n) 0#32 = 0#1 := by
  unfold IntOp.cmpi
  have : (BitVec.ofNat 32 n).slt 0#32 = false := by
    rw [Bool.eq_false_iff]; intro hh
    rw [BitVec.slt_iff_toInt_lt, StableHlo.Predicate.toInt_ofNat_small _ h] at hh
    simp at hh; omega
  simp [this]

/-- The positions the clamped table reads: tile `r` reads at the smaller of `r` and the last used tile. -/
def positions (a1 : IVec S1 32) : IVec S112 32 :=
  minsi (iotaInDim S112 32 0) (broadcastInDim S112 ![] bcast_S_S112 (subi (shapeCast S_ a1 shapeCasts_S1_S_) (constantI S_ 32 1#32)))

/-- The clamped table, as the host computes it. -/
def clamped (a0 : IVec S112 32) (a1 : IVec S1 32) : IVec S112 32 :=
  Host.gather gather_S112_S112x1_S112_n_0_n_n_0_1_1 a0
    (broadcastInDim S112x1 ![0] bcast_S112_S112x1_0
      (select (cmpi .slt (positions a1) (broadcastInDim S112 ![] bcast_S_S112 (constantI S_ 32 0#32)))
        (addi (positions a1) (broadcastInDim S112 ![] bcast_S_S112 (constantI S_ 32 112#32))) (positions a1)))

theorem positions_apply (a1 : IVec S1 32) (n : ℕ) (h1 : 1 ≤ n) (h : n < 2 ^ 31) (e : a1 (ix1 0) = BitVec.ofNat 32 n) (r : Fin 112) :
    positions a1 (ix1 r) = BitVec.ofNat 32 (min r.val (n - 1)) := by
  have er : shapeCast S_ a1 shapeCasts_S1_S_ = fun _ => a1 (ix1 0) := by
    funext x
    exact shapeCast_apply a1 shapeCasts_S1_S_ x (ix1 0) (by sl_kernel_rfl)
  unfold positions
  rw [er]
  show IntOp.minsi (BitVec.ofNat 32 r.val) (IntOp.subi (a1 (ix1 0)) 1#32) = _
  rw [e, sub_one_ofNat n h1 h, minsi_ofNat _ _ (by omega) (by omega)]

theorem clamped_apply (a0 : IVec S112 32) (a1 : IVec S1 32) (n : ℕ) (h1 : 1 ≤ n) (h : n < 2 ^ 31) (e : a1 (ix1 0) = BitVec.ofNat 32 n) (r : Fin 112) :
    clamped a0 a1 (ix1 r) = a0 (ix1 ⟨min r.val (n - 1), by omega⟩) := by
  refine Routing.gather_take1 gather_S112_S112x1_S112_n_0_n_n_0_1_1 rfl rfl rfl rfl a0 _ r ⟨min r.val (n - 1), by omega⟩ ?_ (by decide)
  have hp := positions_apply a1 n h1 h e r
  generalize positions a1 = p at hp ⊢
  pointwise
  show Scalar.select (IntOp.cmpi .slt (p (ix1 r)) 0#32) (IntOp.addi (p (ix1 r)) 112#32) (p (ix1 r)) = _
  rw [hp, slt_zero_ofNat _ (by omega)]
  rfl

/-- The first table the kernel reads. -/
theorem V_table (c : Dev nD) : V m c main_v11 = clamped (m ((c : Thread nD τ).loc main_arg0)) (m ((c : Thread nD τ).loc main_arg1)) := by
  show StableHlo.after hostOps0 (fun b => m (c, b)) main_v11 = _
  unfold hostOps0 clamped positions
  after_results_simp <;> rfl

/-- The tile that stands in for tile `r`: itself where used, else the last used one. -/
def standIn (hN : Named m) (r : Fin 112) : Fin 112 := ⟨min r.val (count m - 1), by omega⟩

theorem arg1_eq : (m ((0 : Dev nD), main_arg1) : IVec S1 32) (ix1 0) = BitVec.ofNat 32 (count m) := (BitVec.ofNat_toNat (x := _) 32).trans (BitVec.setWidth_eq _) |>.symm

theorem tbl0_apply (hN : Named m) (r : Fin 112) : (tbl m 0 : IVec S112 32) (ix1 r) = BitVec.ofNat 32 (expert m (standIn m hN r)) := by
  refine (congrFun (V_table m 0) (ix1 r)).trans ?_
  refine (clamped_apply _ _ (count m) hN.pos hN.small (arg1_eq m) r).trans ?_
  exact (BitVec.ofNat_toNat (x := _) 32).trans (BitVec.setWidth_eq _) |>.symm

theorem used_eq : used m = BitVec.ofNat 32 (count m) := by
  refine Eq.trans ?_ (arg1_eq m)
  refine (congrFun (V_arg1 m 0) _).trans ?_
  refine congrArg (m ((0 : Dev nD), main_arg1)) ?_
  funext a
  fin_cases a
  rfl

/-- The activations' block: rows of the standing-in tile. -/
theorem rows_at (hN : Named m) (i : grid0.Coords) :
    cc0_transform_0 inb_S1_S1_0 numel1_S1 (tbl m) i = ![(standIn m hN (i 1)).val, 0] := by
  have hu : ((tbl m).at 1 (Rect.unit (s := S1) ![0] S1.size inb_S1_S1_0) numel1_S1 : BitVec 32) = BitVec.ofNat 32 (count m) := by
    rw [← used_eq]; exact congrFun (tbl1_eq m) _
  have hi : (i 1).val < 112 := (i 1).isLt
  have hp := hN.pos
  have hs := hN.small
  show ![(IntOp.minsi (BitVec.ofNat 32 (i 1).val) (IntOp.subi ((tbl m).at 1 (Rect.unit (s := S1) ![0] S1.size inb_S1_S1_0) numel1_S1 : BitVec 32) 1#32)).toNat, 0] = _
  rw [hu, sub_one_ofNat _ hp hs, minsi_ofNat _ _ (by omega) (by omega), BitVec.toNat_ofNat, Nat.mod_eq_of_lt (by omega)]
  rfl

theorem word_at (hN : Named m) (i : grid0.Coords) :
    ((tbl m).at 0 (Rect.unit (s := S112) (k0_off1 i) S1.size (k0_off1_inb i)) numel1_S1 : BitVec 32) = BitVec.ofNat 32 (expert m (standIn m hN (i 1))) := by
  refine Eq.trans ?_ (tbl0_apply m hN (i 1))
  refine congrArg (tbl m 0) ?_
  funext a
  fin_cases a
  apply Fin.ext
  have hi : (i 1).val < 112 := (i 1).isLt
  show (BitVec.ofNat 32 (i 1).val).toNat + 1 * 0 = (i 1).val
  rw [BitVec.toNat_ofNat]; omega

/-- The weights' block: the standing-in tile's expert, the point's columns. -/
theorem weights_at (hN : Named m) (i : grid0.Coords) :
    cc0_transform_1 k0_off1_inb numel1_S1 (tbl m) i = ![0, expert m (standIn m hN (i 1)), 0, (i 0).val] := by
  have hw := word_at m hN i
  have he := hN.tile (standIn m hN (i 1))
  have hi : (i 0).val < 2 := (i 0).isLt
  show ![0, ((tbl m).at 0 (Rect.unit (s := S112) (k0_off1 i) S1.size (k0_off1_inb i)) numel1_S1 : BitVec 32).toNat, 0, (BitVec.ofNat 32 (i 0).val).toNat] = _
  rw [hw, BitVec.toNat_ofNat, BitVec.toNat_ofNat, Nat.mod_eq_of_lt (by omega), Nat.mod_eq_of_lt (by omega)]

theorem bias_at (hN : Named m) (i : grid0.Coords) :
    cc0_transform_2 k0_off1_inb numel1_S1 (tbl m) i = ![0, expert m (standIn m hN (i 1)), 0, (i 0).val] := weights_at m hN i
theorem weights_at' (hN : Named m) (i : grid0.Coords) :
    cc0_transform_3 k0_off1_inb numel1_S1 (tbl m) i = ![0, expert m (standIn m hN (i 1)), 0, (i 0).val] := weights_at m hN i
theorem bias_at' (hN : Named m) (i : grid0.Coords) :
    cc0_transform_4 k0_off1_inb numel1_S1 (tbl m) i = ![0, expert m (standIn m hN (i 1)), 0, (i 0).val] := weights_at m hN i

/-- The tables name blocks inside their arrays. -/
theorem ok_of_named (hN : Named m) : Ok m := by
  refine ⟨fun i => ?_, fun i => ?_, fun i => ?_, fun i => ?_, fun i => ?_⟩
  · rw [rows_at m hN]
    have hi : (standIn m hN (i 1)).val < 112 := (standIn m hN (i 1)).isLt
    refine ⟨fun a => ?_, .inr (Rect.packedRows_of_rowAxis _ _ (by decide) (Dvd.dvd.mul_left (show 2 ∣ 512 by decide) _) (show 2 ∣ 512 by decide) rfl).wholeWords⟩
    match a with
    | ⟨0, _⟩ => show ((standIn m hN (i 1)).val + 1) * 512 ≤ 57344; omega
    | ⟨1, _⟩ => show (0 + 1) * 4096 ≤ 4096; omega
  · rw [weights_at m hN]
    have he := hN.tile (standIn m hN (i 1))
    have hi : (i 0).val < 2 := (i 0).isLt
    refine ⟨fun a => ?_, .inl rfl⟩
    match a with
    | ⟨0, _⟩ => show (0 + 1) * 1 ≤ 2; omega
    | ⟨1, _⟩ => show (expert m (standIn m hN (i 1)) + 1) * 1 ≤ 32; omega
    | ⟨2, _⟩ => show (0 + 1) * 4096 ≤ 4096; omega
    | ⟨3, _⟩ => show ((i 0).val + 1) * 512 ≤ 1024; omega
  · rw [bias_at m hN]
    have he := hN.tile (standIn m hN (i 1))
    have hi : (i 0).val < 2 := (i 0).isLt
    refine ⟨fun a => ?_, .inl rfl⟩
    match a with
    | ⟨0, _⟩ => show (0 + 1) * 1 ≤ 2; omega
    | ⟨1, _⟩ => show (expert m (standIn m hN (i 1)) + 1) * 1 ≤ 32; omega
    | ⟨2, _⟩ => show (0 + 1) * 1 ≤ 1; omega
    | ⟨3, _⟩ => show ((i 0).val + 1) * 512 ≤ 1024; omega
  · rw [weights_at' m hN]
    have he := hN.tile (standIn m hN (i 1))
    have hi : (i 0).val < 2 := (i 0).isLt
    refine ⟨fun a => ?_, .inl rfl⟩
    match a with
    | ⟨0, _⟩ => show (0 + 1) * 1 ≤ 2; omega
    | ⟨1, _⟩ => show (expert m (standIn m hN (i 1)) + 1) * 1 ≤ 32; omega
    | ⟨2, _⟩ => show (0 + 1) * 4096 ≤ 4096; omega
    | ⟨3, _⟩ => show ((i 0).val + 1) * 512 ≤ 1024; omega
  · rw [bias_at' m hN]
    have he := hN.tile (standIn m hN (i 1))
    have hi : (i 0).val < 2 := (i 0).isLt
    refine ⟨fun a => ?_, .inl rfl⟩
    match a with
    | ⟨0, _⟩ => show (0 + 1) * 1 ≤ 2; omega
    | ⟨1, _⟩ => show (expert m (standIn m hN (i 1)) + 1) * 1 ≤ 32; omega
    | ⟨2, _⟩ => show (0 + 1) * 1 ≤ 1; omega
    | ⟨3, _⟩ => show ((i 0).val + 1) * 512 ≤ 1024; omega

end Cert.UpIdeal.Frame
-- ==== Proof.UpRef.lean ====
/- The gated up projection's reference read at an index: a tile's rows through its expert's two matrices, the clamped gate and the clamped
   linear half put together, and zero past the used tiles. -/
module

public import proofs.«01_k».proof.Proof.Gen.UpRefIdeal.Read
public import proofs.«01_k».proof.Proof.ExpertGather
public import Idealize.ShloMosaic.Lib.Routing.Ops

@[expose] public section

set_option maxRecDepth 16384

noncomputable section

namespace Cert.UpRef

open Cert.UpRefIdeal Cert.UpRefIdeal.Read Cert.UpRefIdeal.Gen Idealize Idealize.ShloMosaic Idealize.ShloMosaic.TcCoe

attribute [local instance] Cert.UpRefIdeal.Gen.facts

/-- One element of a projection: a row against a column, plus the column's bias. -/
def project (row col : Fin 4096 → EReal) (bias : EReal) : EReal := (∑ k : Fin 4096, row k * col k) + bias

/-- The gated unit: the gate clamped above, times its logistic at 1.702, times one more than the linear half clamped on both sides. -/
def gated (gate lin : EReal) : EReal :=
  (min gate (Ideal.ofBits .f32 0x40E00000#32) * Ideal.div 1 (1 + Ideal.exp (-(Ideal.ofBits .f32 0x3FD9DB23#32 * min gate (Ideal.ofBits .f32 0x40E00000#32)))))
    * (min (Ideal.ofBits .f32 0x40E00000#32) (max (Ideal.ofBits .f32 0xC0E00000#32) lin) + 1)

variable (x0 : IVec S112 32) (x1 : IVec S1 32) (x2 : FVec Ideal S57344x4096 .bf16) (x3 : FVec Ideal S2x32x4096x1024 .f32) (x4 : FVec Ideal S2x32x1024 .f32)
  (x5 : FVec Ideal S2x32x4096x1024 .f32) (x6 : FVec Ideal S2x32x1024 .f32)

theorem nonneg (r : Fin 112) (e : ℕ) (he : x0 (ix1 r) = BitVec.ofNat 32 e) (h : e < 32) : IntOp.cmpi .slt (x0 (ix1 r)) 0#32 = 0#1 := by
  rw [he]; exact (by decide : ∀ e : Fin 32, IntOp.cmpi .slt (BitVec.ofNat 32 e.val) 0#32 = 0#1) ⟨e, h⟩

theorem index_9 (r : Fin 112) (e : ℕ) (he : x0 (ix1 r) = BitVec.ofNat 32 e) (h : e < 32) :
    val_main_v9 (F := Ideal) x0 (ix2 r 0) = BitVec.ofNat 32 e := by
  pointwise [val_main_v9, val_main_v8, val_main_v5, val_main_v4, val_main_c, val_main_v7, val_main_v6, val_main_c_0]
  rw [nonneg x0 r e he h]; exact he

theorem index_19 (r : Fin 112) (e : ℕ) (he : x0 (ix1 r) = BitVec.ofNat 32 e) (h : e < 32) :
    val_main_v19 (F := Ideal) x0 (ix2 r 0) = BitVec.ofNat 32 e := by
  pointwise [val_main_v19, val_main_v18, val_main_v15, val_main_v14, val_main_c_1, val_main_v17, val_main_v16, val_main_c_2]
  rw [nonneg x0 r e he h]; exact he

theorem index_31 (r : Fin 112) (e : ℕ) (he : x0 (ix1 r) = BitVec.ofNat 32 e) (h : e < 32) :
    val_main_v31 (F := Ideal) x0 (ix2 r 0) = BitVec.ofNat 32 e := by
  pointwise [val_main_v31, val_main_v30, val_main_v27, val_main_v26, val_main_c_3, val_main_v29, val_main_v28, val_main_c_4]
  rw [nonneg x0 r e he h]; exact he

theorem index_41 (r : Fin 112) (e : ℕ) (he : x0 (ix1 r) = BitVec.ofNat 32 e) (h : e < 32) :
    val_main_v41 (F := Ideal) x0 (ix2 r 0) = BitVec.ofNat 32 e := by
  pointwise [val_main_v41, val_main_v40, val_main_v37, val_main_v36, val_main_c_5, val_main_v39, val_main_v38, val_main_c_6]
  rw [nonneg x0 r e he h]; exact he

theorem weights_10 (r : Fin 112) (e : Fin 32) (he : x0 (ix1 r) = BitVec.ofNat 32 e.val) (k : Fin 4096) (j : Fin 1024) :
    val_main_v10 (F := Ideal) x0 x3 (ix3 r k j) = x3 (ix4 0 e k j) := by
  refine (ExpertGather.stack_apply _ (val_main_v3 (F := Ideal) x3) (val_main_v9 (F := Ideal) x0) r k j e (index_9 x0 r e he e.isLt) (by decide)).trans ?_
  pointwise [val_main_v3, val_main_v2]

theorem weights_32 (r : Fin 112) (e : Fin 32) (he : x0 (ix1 r) = BitVec.ofNat 32 e.val) (k : Fin 4096) (j : Fin 1024) :
    val_main_v32 (F := Ideal) x0 x5 (ix3 r k j) = x5 (ix4 0 e k j) := by
  refine (ExpertGather.stack_apply _ (val_main_v25 (F := Ideal) x5) (val_main_v31 (F := Ideal) x0) r k j e (index_31 x0 r e he e.isLt) (by decide)).trans ?_
  pointwise [val_main_v25, val_main_v24]

theorem bias_20 (r : Fin 112) (e : Fin 32) (he : x0 (ix1 r) = BitVec.ofNat 32 e.val) (j : Fin 1024) :
    val_main_v20 (F := Ideal) x0 x4 (ix2 r j) = x4 (ix3 0 e j) := by
  refine (Routing.gather_row _ rfl rfl rfl rfl rfl (val_main_v13 (F := Ideal) x4) (val_main_v19 (F := Ideal) x0) r j e (index_19 x0 r e he e.isLt) (by decide)).trans ?_
  pointwise [val_main_v13, val_main_v12]

theorem bias_42 (r : Fin 112) (e : Fin 32) (he : x0 (ix1 r) = BitVec.ofNat 32 e.val) (j : Fin 1024) :
    val_main_v42 (F := Ideal) x0 x6 (ix2 r j) = x6 (ix3 0 e j) := by
  refine (Routing.gather_row _ rfl rfl rfl rfl rfl (val_main_v35 (F := Ideal) x6) (val_main_v41 (F := Ideal) x0) r j e (index_41 x0 r e he e.isLt) (by decide)).trans ?_
  pointwise [val_main_v35, val_main_v34]

/-- The gate half at row `t` of tile `r`, column `j`, the tile's expert being `e`. -/
theorem gate_apply (r : Fin 112) (t : Fin 512) (j : Fin 1024) (e : Fin 32) (he : x0 (ix1 r) = BitVec.ofNat 32 e.val) :
    val_main_v23 (F := Ideal) x0 x2 x3 x4 (ix3 r t j)
      = project (fun k => x2 (ix2 ⟨r.val * 512 + t.val, by omega⟩ k)) (fun k => x3 (ix4 0 e k j)) (x4 (ix3 0 e j)) := by
  have hw := weights_10 x0 x3 r e he
  have hb := bias_20 x0 x4 r e he
  unfold val_main_v23 val_main_v11 val_main_v22 val_main_v21
  generalize val_main_v10 (F := Ideal) x0 x3 = w at hw ⊢
  generalize val_main_v20 (F := Ideal) x0 x4 = b at hb ⊢
  pointwise [val_main_v1, val_main_v0]
  simp only [hw, hb]
  rfl

/-- The linear half at row `t` of tile `r`, column `j`, the tile's expert being `e`. -/
theorem linear_apply (r : Fin 112) (t : Fin 512) (j : Fin 1024) (e : Fin 32) (he : x0 (ix1 r) = BitVec.ofNat 32 e.val) :
    val_main_v45 (F := Ideal) x0 x2 x5 x6 (ix3 r t j)
      = project (fun k => x2 (ix2 ⟨r.val * 512 + t.val, by omega⟩ k)) (fun k => x5 (ix4 0 e k j)) (x6 (ix3 0 e j)) := by
  have hw := weights_32 x0 x5 r e he
  have hb := bias_42 x0 x6 r e he
  unfold val_main_v45 val_main_v33 val_main_v44 val_main_v43
  generalize val_main_v32 (F := Ideal) x0 x5 = w at hw ⊢
  generalize val_main_v42 (F := Ideal) x0 x6 = b at hb ⊢
  pointwise [val_main_v1, val_main_v0]
  simp only [hw, hb]
  rfl

/-- The reference at row `t` of tile `r`, column `j`, the tile's expert being `e`. -/
theorem ref_apply (r : Fin 112) (t : Fin 512) (j : Fin 1024) (e : Fin 32) (he : x0 (ix1 r) = BitVec.ofNat 32 e.val) :
    val_main_v68 (F := Ideal) x0 x1 x2 x3 x4 x5 x6 (ix2 ⟨r.val * 512 + t.val, by omega⟩ j)
      = Scalar.select (IntOp.cmpi .slt (BitVec.ofNat 32 r.val) (x1 (ix1 0)))
          (gated (project (fun k => x2 (ix2 ⟨r.val * 512 + t.val, by omega⟩ k)) (fun k => x3 (ix4 0 e k j)) (x4 (ix3 0 e j)))
            (project (fun k => x2 (ix2 ⟨r.val * 512 + t.val, by omega⟩ k)) (fun k => x5 (ix4 0 e k j)) (x6 (ix3 0 e j)))) (0 : EReal) := by
  have hg := gate_apply x0 x2 x3 x4 r t j e he
  have hl := linear_apply x0 x2 x5 x6 r t j e he
  unfold val_main_v68 val_main_v67 val_main_v66 val_main_v60 val_main_v57 val_main_v56 val_main_v54 val_main_v52 val_main_v51 val_main_v50 val_main_v47 val_main_v59 val_main_v48 val_main_call0_v2
  generalize val_main_v23 (F := Ideal) x0 x2 x3 x4 = g at hg ⊢
  generalize val_main_v45 (F := Ideal) x0 x2 x5 x6 = l at hl ⊢
  pointwise [val_main_cst, val_main_v46, val_main_cst_7, val_main_cst_8, val_main_call0_v0, val_main_call0_v1, val_main_call0_v3, val_main_call0_v4,
    val_main_cst_9, val_main_v49, val_main_cst_10, val_main_v53, val_main_cst_11, val_main_v55, val_main_cst_12, val_main_v58,
    val_main_v65, val_main_v64, val_main_v63, val_main_v62, val_main_v61, val_main_cst_13, val_main_call1_v0, val_main_call1_v1, val_main_call1_v2]
  rw [hg, hl]
  have hz : (Ideal.ofBits .f32 0#32 : EReal) = 0 := by simp [Ideal.ofBits, Ideal.ieee]
  show Scalar.select _ _ (Ideal.ofBits .f32 0#32 : EReal) = _
  rw [hz]
  rfl

end Cert.UpRef

end
-- ==== Proof.UpArray.lean ====
module

public import proofs.«01_k».proof.Proof.UpTables
public import proofs.«01_k».proof.Proof.UpRef

@[expose] public section

set_option maxRecDepth 16384

noncomputable section

namespace Cert.UpArray

open Idealize Idealize.SL Idealize.SL.Sem
open Idealize.ShloMosaic Idealize.ShloMosaic.TcCoe
open Cert.UpIdeal Cert.UpIdeal.Gen Cert.UpIdeal.Frame Cert.UpRef

attribute [local instance] Cert.UpIdeal.Gen.facts

/-- One element of the block of a used tile. -/
theorem product_apply (v8 : Vec Ideal S512x4096 .bf16) (v9 : Vec Ideal S1x1x4096x512 .f32) (v13 : Vec Ideal S1x1x1x512 .f32) (v17 : Vec Ideal S1x1x4096x512 .f32)
    (v21 : Vec Ideal S1x1x1x512 .f32) (t : Fin 512) (j : Fin 512) :
    k0_pay2 (F := Ideal) v8 v9 v13 v17 v21 (ix2 t j)
      = gated (project (fun k => v8 (ix2 t k)) (fun k => v9 (ix4 0 0 k j)) (v13 (ix4 0 0 0 j)))
          (project (fun k => v8 (ix2 t k)) (fun k => v17 (ix4 0 0 k j)) (v21 (ix4 0 0 0 j))) := by
  pointwise [k0_pay2]
  rfl

/-- The block past the used tiles. -/
theorem rest_apply (t : Fin 512) (j : Fin 512) : k0_pay1 (F := Ideal) (ix2 t j) = (0 : EReal) := by
  pointwise [k0_pay1]

variable (m : (ℓ : Loc nD τ sig) → Buf (Elt Ideal) ℓ)

/-- The two coordinates of a point. -/
theorem coords_val : ∀ t : Fin grid0.N, (grid0.coords t 0).val = t.val / 112 ∧ (grid0.coords t 1).val = t.val % 112 :=
  by decide +kernel

/-- The row of `S57344` that row `x` of tile `r` is. -/
abbrev rowOf (r : Fin 112) (x : Fin 512) : Fin 57344 := ⟨r.val * 512 + x.val, by omega⟩
/-- The column that column `y` of column block `q` is. -/
abbrev colOf (q : Fin 2) (y : Fin 512) : Fin 1024 := ⟨q.val * 512 + y.val, by omega⟩
/-- The tile and the column block of a point. -/
abbrev tileOf (t : Fin grid0.N) : Fin 112 := grid0.coords t 1
abbrev partOf (t : Fin grid0.N) : Fin 2 := grid0.coords t 0
/-- The expert of a tile, as one of the thirty-two. -/
abbrev expertOf (hN : Named m) (r : Fin 112) : Fin 32 := ⟨expert m r, hN.tile r⟩

/-- The activations' block at a point: the standing-in tile's rows. -/
theorem act_apply (hN : Named m) (c : Dev nD) (t : Fin grid0.N) (x : Fin 512) (k : Fin 4096) :
    iblk m (ok_of_named m hN) c 0 t (ix2 x k) = m ((c : Thread nD τ).loc main_arg2) (ix2 (rowOf (standIn m hN (tileOf t)) x) k) := by
  have e : ((cfgM m (ok_of_named m hN)).win 0).index t = ![(standIn m hN (tileOf t)).val, 0] := rows_at m hN (grid0.coords t)
  have e0 : ((cfgM m (ok_of_named m hN)).win 0).index t (0 : Fin 2) = (standIn m hN (tileOf t)).val := congrFun e (0 : Fin 2)
  have e1 : ((cfgM m (ok_of_named m hN)).win 0).index t (1 : Fin 2) = 0 := congrFun e (1 : Fin 2)
  show V m c main_arg2 ((((cfgM m (ok_of_named m hN)).win 0).blk t).view.emb (ix2 x k)) = _
  have hix : (((cfgM m (ok_of_named m hN)).win 0).blk t).view.emb (ix2 x k) = (ix2 (rowOf (standIn m hN (tileOf t)) x) k : S57344x4096.Idx) := by
    funext a; apply Fin.ext
    match a with
    | ⟨0, _⟩ => show ((cfgM m (ok_of_named m hN)).win 0).index t (0 : Fin 2) * 512 + 1 * x.val = (standIn m hN (tileOf t)).val * 512 + x.val; rw [e0]; omega
    | ⟨1, _⟩ => show ((cfgM m (ok_of_named m hN)).win 0).index t (1 : Fin 2) * 4096 + 1 * k.val = k.val; rw [e1]; omega
  rw [V_arg2, hix]

/-- The gate's weights' block at a point. -/
theorem wt_apply (hN : Named m) (c : Dev nD) (t : Fin grid0.N) (k : Fin 4096) (y : Fin 512) :
    iblk m (ok_of_named m hN) c 1 t (ix4 0 0 k y) = m ((c : Thread nD τ).loc main_arg3) (ix4 0 (expertOf m hN (standIn m hN (tileOf t))) k (colOf (partOf t) y)) := by
  have e : ((cfgM m (ok_of_named m hN)).win 1).index t = ![0, expert m (standIn m hN (tileOf t)), 0, (partOf t).val] := weights_at m hN (grid0.coords t)
  have e0 : ((cfgM m (ok_of_named m hN)).win 1).index t (0 : Fin 4) = 0 := congrFun e (0 : Fin 4)
  have e1 : ((cfgM m (ok_of_named m hN)).win 1).index t (1 : Fin 4) = expert m (standIn m hN (tileOf t)) := congrFun e (1 : Fin 4)
  have e2 : ((cfgM m (ok_of_named m hN)).win 1).index t (2 : Fin 4) = 0 := congrFun e (2 : Fin 4)
  have e3 : ((cfgM m (ok_of_named m hN)).win 1).index t (3 : Fin 4) = (partOf t).val := congrFun e (3 : Fin 4)
  show V m c main_arg3 ((((cfgM m (ok_of_named m hN)).win 1).blk t).view.emb (ix4 0 0 k y)) = _
  have hix : (((cfgM m (ok_of_named m hN)).win 1).blk t).view.emb (ix4 0 0 k y) = (ix4 0 (expertOf m hN (standIn m hN (tileOf t))) k (colOf (partOf t) y) : S2x32x4096x1024.Idx) := by
    funext a; apply Fin.ext
    match a with
    | ⟨0, _⟩ => show ((cfgM m (ok_of_named m hN)).win 1).index t (0 : Fin 4) * 1 + 1 * 0 = 0; rw [e0]
    | ⟨1, _⟩ => show ((cfgM m (ok_of_named m hN)).win 1).index t (1 : Fin 4) * 1 + 1 * 0 = expert m (standIn m hN (tileOf t)); rw [e1]; omega
    | ⟨2, _⟩ => show ((cfgM m (ok_of_named m hN)).win 1).index t (2 : Fin 4) * 4096 + 1 * k.val = k.val; rw [e2]; omega
    | ⟨3, _⟩ => show ((cfgM m (ok_of_named m hN)).win 1).index t (3 : Fin 4) * 512 + 1 * y.val = (partOf t).val * 512 + y.val; rw [e3]; omega
  rw [V_arg3, hix]

/-- The linear half's weights' block at a point. -/
theorem wt_apply' (hN : Named m) (c : Dev nD) (t : Fin grid0.N) (k : Fin 4096) (y : Fin 512) :
    iblk m (ok_of_named m hN) c 3 t (ix4 0 0 k y) = m ((c : Thread nD τ).loc main_arg5) (ix4 0 (expertOf m hN (standIn m hN (tileOf t))) k (colOf (partOf t) y)) := by
  have e : ((cfgM m (ok_of_named m hN)).win 3).index t = ![0, expert m (standIn m hN (tileOf t)), 0, (partOf t).val] := weights_at' m hN (grid0.coords t)
  have e0 : ((cfgM m (ok_of_named m hN)).win 3).index t (0 : Fin 4) = 0 := congrFun e (0 : Fin 4)
  have e1 : ((cfgM m (ok_of_named m hN)).win 3).index t (1 : Fin 4) = expert m (standIn m hN (tileOf t)) := congrFun e (1 : Fin 4)
  have e2 : ((cfgM m (ok_of_named m hN)).win 3).index t (2 : Fin 4) = 0 := congrFun e (2 : Fin 4)
  have e3 : ((cfgM m (ok_of_named m hN)).win 3).index t (3 : Fin 4) = (partOf t).val := congrFun e (3 : Fin 4)
  show V m c main_arg5 ((((cfgM m (ok_of_named m hN)).win 3).blk t).view.emb (ix4 0 0 k y)) = _
  have hix : (((cfgM m (ok_of_named m hN)).win 3).blk t).view.emb (ix4 0 0 k y) = (ix4 0 (expertOf m hN (standIn m hN (tileOf t))) k (colOf (partOf t) y) : S2x32x4096x1024.Idx) := by
    funext a; apply Fin.ext
    match a with
    | ⟨0, _⟩ => show ((cfgM m (ok_of_named m hN)).win 3).index t (0 : Fin 4) * 1 + 1 * 0 = 0; rw [e0]
    | ⟨1, _⟩ => show ((cfgM m (ok_of_named m hN)).win 3).index t (1 : Fin 4) * 1 + 1 * 0 = expert m (standIn m hN (tileOf t)); rw [e1]; omega
    | ⟨2, _⟩ => show ((cfgM m (ok_of_named m hN)).win 3).index t (2 : Fin 4) * 4096 + 1 * k.val = k.val; rw [e2]; omega
    | ⟨3, _⟩ => show ((cfgM m (ok_of_named m hN)).win 3).index t (3 : Fin 4) * 512 + 1 * y.val = (partOf t).val * 512 + y.val; rw [e3]; omega
  rw [V_arg5, hix]

/-- The biases as the kernel finds them: an axis of one put in. -/
theorem V_bias (c : Dev nD) : V m c main_v12 = shapeCast S2x32x1x1024 (m ((c : Thread nD τ).loc main_arg4)) shapeCasts_S2x32x1024_S2x32x1x1024 := by
  show StableHlo.after hostOps0 (fun b => m (c, b)) main_v12 = _
  unfold hostOps0
  after_results_simp <;> rfl

/-- The biases' block at a point. -/
theorem bs_apply (hN : Named m) (c : Dev nD) (t : Fin grid0.N) (y : Fin 512) :
    iblk m (ok_of_named m hN) c 2 t (ix4 0 0 0 y) = m ((c : Thread nD τ).loc main_arg4) (ix3 0 (expertOf m hN (standIn m hN (tileOf t))) (colOf (partOf t) y)) := by
  have e : ((cfgM m (ok_of_named m hN)).win 2).index t = ![0, expert m (standIn m hN (tileOf t)), 0, (partOf t).val] := bias_at m hN (grid0.coords t)
  have e0 : ((cfgM m (ok_of_named m hN)).win 2).index t (0 : Fin 4) = 0 := congrFun e (0 : Fin 4)
  have e1 : ((cfgM m (ok_of_named m hN)).win 2).index t (1 : Fin 4) = expert m (standIn m hN (tileOf t)) := congrFun e (1 : Fin 4)
  have e2 : ((cfgM m (ok_of_named m hN)).win 2).index t (2 : Fin 4) = 0 := congrFun e (2 : Fin 4)
  have e3 : ((cfgM m (ok_of_named m hN)).win 2).index t (3 : Fin 4) = (partOf t).val := congrFun e (3 : Fin 4)
  show V m c main_v12 ((((cfgM m (ok_of_named m hN)).win 2).blk t).view.emb (ix4 0 0 0 y)) = _
  have hix : (((cfgM m (ok_of_named m hN)).win 2).blk t).view.emb (ix4 0 0 0 y) = (ix4 0 (expertOf m hN (standIn m hN (tileOf t))) 0 (colOf (partOf t) y) : S2x32x1x1024.Idx) := by
    funext a; apply Fin.ext
    match a with
    | ⟨0, _⟩ => show ((cfgM m (ok_of_named m hN)).win 2).index t (0 : Fin 4) * 1 + 1 * 0 = 0; rw [e0]
    | ⟨1, _⟩ => show ((cfgM m (ok_of_named m hN)).win 2).index t (1 : Fin 4) * 1 + 1 * 0 = expert m (standIn m hN (tileOf t)); rw [e1]; omega
    | ⟨2, _⟩ => show ((cfgM m (ok_of_named m hN)).win 2).index t (2 : Fin 4) * 1 + 1 * 0 = 0; rw [e2]
    | ⟨3, _⟩ => show ((cfgM m (ok_of_named m hN)).win 2).index t (3 : Fin 4) * 512 + 1 * y.val = (partOf t).val * 512 + y.val; rw [e3]; omega
  rw [V_bias, hix]
  refine shapeCast_apply _ _ _ (ix3 0 (expertOf m hN (standIn m hN (tileOf t))) (colOf (partOf t) y)) ?_
  rw [Shape.rowMajor_val_three, Shape.rowMajor_val_four]
  show (0 * 32 + expert m (standIn m hN (tileOf t))) * 1024 + ((partOf t).val * 512 + y.val)
    = ((0 * 32 + expert m (standIn m hN (tileOf t))) * 1 + 0) * 1024 + ((partOf t).val * 512 + y.val)
  omega

/-- The linear half's biases as the kernel finds them: an axis of one put in. -/
theorem V_bias' (c : Dev nD) : V m c main_v13 = shapeCast S2x32x1x1024 (m ((c : Thread nD τ).loc main_arg6)) shapeCasts_S2x32x1024_S2x32x1x1024 := by
  show StableHlo.after hostOps0 (fun b => m (c, b)) main_v13 = _
  unfold hostOps0
  after_results_simp <;> rfl

/-- The linear half's biases' block at a point. -/
theorem bs_apply' (hN : Named m) (c : Dev nD) (t : Fin grid0.N) (y : Fin 512) :
    iblk m (ok_of_named m hN) c 4 t (ix4 0 0 0 y) = m ((c : Thread nD τ).loc main_arg6) (ix3 0 (expertOf m hN (standIn m hN (tileOf t))) (colOf (partOf t) y)) := by
  have e : ((cfgM m (ok_of_named m hN)).win 4).index t = ![0, expert m (standIn m hN (tileOf t)), 0, (partOf t).val] := bias_at' m hN (grid0.coords t)
  have e0 : ((cfgM m (ok_of_named m hN)).win 4).index t (0 : Fin 4) = 0 := congrFun e (0 : Fin 4)
  have e1 : ((cfgM m (ok_of_named m hN)).win 4).index t (1 : Fin 4) = expert m (standIn m hN (tileOf t)) := congrFun e (1 : Fin 4)
  have e2 : ((cfgM m (ok_of_named m hN)).win 4).index t (2 : Fin 4) = 0 := congrFun e (2 : Fin 4)
  have e3 : ((cfgM m (ok_of_named m hN)).win 4).index t (3 : Fin 4) = (partOf t).val := congrFun e (3 : Fin 4)
  show V m c main_v13 ((((cfgM m (ok_of_named m hN)).win 4).blk t).view.emb (ix4 0 0 0 y)) = _
  have hix : (((cfgM m (ok_of_named m hN)).win 4).blk t).view.emb (ix4 0 0 0 y) = (ix4 0 (expertOf m hN (standIn m hN (tileOf t))) 0 (colOf (partOf t) y) : S2x32x1x1024.Idx) := by
    funext a; apply Fin.ext
    match a with
    | ⟨0, _⟩ => show ((cfgM m (ok_of_named m hN)).win 4).index t (0 : Fin 4) * 1 + 1 * 0 = 0; rw [e0]
    | ⟨1, _⟩ => show ((cfgM m (ok_of_named m hN)).win 4).index t (1 : Fin 4) * 1 + 1 * 0 = expert m (standIn m hN (tileOf t)); rw [e1]; omega
    | ⟨2, _⟩ => show ((cfgM m (ok_of_named m hN)).win 4).index t (2 : Fin 4) * 1 + 1 * 0 = 0; rw [e2]
    | ⟨3, _⟩ => show ((cfgM m (ok_of_named m hN)).win 4).index t (3 : Fin 4) * 512 + 1 * y.val = (partOf t).val * 512 + y.val; rw [e3]; omega
  rw [V_bias', hix]
  refine shapeCast_apply _ _ _ (ix3 0 (expertOf m hN (standIn m hN (tileOf t))) (colOf (partOf t) y)) ?_
  rw [Shape.rowMajor_val_three, Shape.rowMajor_val_four]
  show (0 * 32 + expert m (standIn m hN (tileOf t))) * 1024 + ((partOf t).val * 512 + y.val)
    = ((0 * 32 + expert m (standIn m hN (tileOf t))) * 1 + 0) * 1024 + ((partOf t).val * 512 + y.val)
  omega

/-- Where the output's block sits at each point. -/
theorem out_index (hO : Ok m) (t : Fin grid0.N) :
    ((cfgM m hO).win 5).index t (0 : Fin 2) = (tileOf t).val ∧ ((cfgM m hO).win 5).index t (1 : Fin 2) = (partOf t).val := by
  have h0 : (partOf t).val < 2 := (partOf t).isLt
  have h1 : (tileOf t).val < 112 := (tileOf t).isLt
  constructor
  · show (BitVec.ofNat 32 (tileOf t).val).toNat = _
    rw [BitVec.toNat_ofNat]; omega
  · show (BitVec.ofNat 32 (partOf t).val).toNat = _
    rw [BitVec.toNat_ofNat]; omega

theorem out_emb (hO : Ok m) (t : Fin grid0.N) (x : Fin 512) (y : Fin 512) :
    (((cfgM m hO).win 5).blk t).view.emb (ix2 x y) = (ix2 (rowOf (tileOf t) x) (colOf (partOf t) y) : S57344x1024.Idx) := by
  obtain ⟨e0, e1⟩ := out_index m hO t
  funext a; apply Fin.ext
  match a with
  | ⟨0, _⟩ => show ((cfgM m hO).win 5).index t (0 : Fin 2) * 512 + 1 * x.val = (tileOf t).val * 512 + x.val; rw [e0]; omega
  | ⟨1, _⟩ => show ((cfgM m hO).win 5).index t (1 : Fin 2) * 512 + 1 * y.val = (partOf t).val * 512 + y.val; rw [e1]; omega

/-- The output's block is written back at every point: the next point's block is another. -/
theorem out_flush (hO : Ok m) (t : Fin (cfgM m hO).N) : ((cfgM m hO).win 5).flush t = true :=
  (fun t => (Pipeline.Window.flushOf_reads cc0_transform_5 reads0_5 hreads0_5 1 (by decide) (by decide)
    (Pipeline.Window.sep_of_coord cc0_transform_5 1 0 (fun _ => rfl) (by decide)) (P := 1) (m := 0) (by decide) rfl t).mpr (Nat.mod_one _)
    : ∀ t : Fin grid0.N, Pipeline.Window.flushOf grid0 true cc0_transform_5 t = true) t

/-- The branch taken at a point, by its tile and the number of used tiles. -/
theorem taken_iff (i : grid0.Coords) (w : BitVec 32) : k0_cond1 i w = 1#1 ↔ IntOp.cmpi .slt (BitVec.ofNat 32 (i 1).val) w = 1#1 := by
  have h : ∀ b : BitVec 1, Scalar.cmpi .ne (Scalar.extui b : BitVec 32) 0#32 = b := by decide
  show Scalar.cmpi .ne (Scalar.extui (IntOp.cmpi .slt (BitVec.ofNat 32 (i 1).val) w) : BitVec 32) 0#32 = 1#1 ↔ _
  rw [h]

/-- What a point stores when its tile is used. -/
theorem stored_taken (i : grid0.Coords) (w : BitVec 32) (x0 : Vec Ideal S512x4096 .bf16) (x1 : Vec Ideal S1x1x4096x512 .f32) (x2 : Vec Ideal S1x1x1x512 .f32)
    (x3 : Vec Ideal S1x1x4096x512 .f32) (x4 : Vec Ideal S1x1x1x512 .f32)
    (h : k0_cond1 i w = 1#1) (x : Fin 512) (y : Fin 512) : stored i w x0 x1 x2 x3 x4 (ix2 x y)
      = gated (project (fun k => x0 (ix2 x k)) (fun k => x1 (ix4 0 0 k y)) (x2 (ix4 0 0 0 y)))
          (project (fun k => x0 (ix2 x k)) (fun k => x3 (ix4 0 0 k y)) (x4 (ix4 0 0 0 y))) := by
  unfold stored; rw [if_pos h]; exact product_apply _ _ _ _ _ x y

/-- What a point stores when its tile is past the used ones. -/
theorem stored_rest (i : grid0.Coords) (w : BitVec 32) (x0 : Vec Ideal S512x4096 .bf16) (x1 : Vec Ideal S1x1x4096x512 .f32) (x2 : Vec Ideal S1x1x1x512 .f32)
    (x3 : Vec Ideal S1x1x4096x512 .f32) (x4 : Vec Ideal S1x1x1x512 .f32)
    (h : ¬ k0_cond1 i w = 1#1) (x : Fin 512) (y : Fin 512) : stored i w x0 x1 x2 x3 x4 (ix2 x y) = (0 : EReal) := by
  unfold stored; rw [if_neg h]; exact rest_apply x y

/-- A used tile stands for itself. -/
theorem standIn_of_taken (hN : Named m) (r : Fin 112) (h : IntOp.cmpi .slt (BitVec.ofNat 32 r.val) (BitVec.ofNat 32 (count m)) = 1#1) : standIn m hN r = r := by
  have hlt : r.val < count m := by
    unfold IntOp.cmpi at h
    by_contra hge
    have hf : (BitVec.ofNat 32 r.val).slt (BitVec.ofNat 32 (count m)) = false := by
      rw [Bool.eq_false_iff]; intro hh
      rw [BitVec.slt_iff_toInt_lt, StableHlo.Predicate.toInt_ofNat_small _ (by omega), StableHlo.Predicate.toInt_ofNat_small _ hN.small] at hh
      omega
    simp [hf] at h
  apply Fin.ext
  show min r.val (count m - 1) = r.val
  omega

/-- Every element of the output lies in the block of the point of its row's tile and its column's block. -/
theorem covered (hO : Ok m) (i : S57344x1024.Idx) : ∃ t : Fin (cfgM m hO).N, ((cfgM m hO).win 5).flush t = true ∧ i ∈ (((cfgM m hO).win 5).blk t).view.set := by
  have h0 : (i 0).val < 57344 := (i 0).isLt
  have h1 : (i 1).val < 1024 := (i 1).isLt
  have hlt : (i 1).val / 512 * 112 + (i 0).val / 512 < grid0.N := lt_of_lt_of_eq (b := 224) (by omega) (by decide)
  refine ⟨⟨(i 1).val / 512 * 112 + (i 0).val / 512, hlt⟩, out_flush m _ _, ?_⟩
  obtain ⟨e0, e1⟩ := out_index m hO ⟨(i 1).val / 512 * 112 + (i 0).val / 512, hlt⟩
  obtain ⟨c0, c1⟩ := coords_val ⟨(i 1).val / 512 * 112 + (i 0).val / 512, hlt⟩
  have hset : (((cfgM m hO).win 5).blk ⟨(i 1).val / 512 * 112 + (i 0).val / 512, hlt⟩).view.set = (((cfgM m hO).win 5).rect ⟨(i 1).val / 512 * 112 + (i 0).val / 512, hlt⟩).set :=
    View.set_slice_whole main_v14 _
  rw [hset]
  refine Rect.mem_set_unit.mpr ?_
  intro a
  match a with
  | ⟨0, _⟩ =>
    show ((cfgM m hO).win 5).index ⟨_, hlt⟩ (0 : Fin 2) * 512 ≤ (i 0).val ∧ (i 0).val < ((cfgM m hO).win 5).index ⟨_, hlt⟩ (0 : Fin 2) * 512 + 512
    rw [e0, c1]; dsimp only; omega
  | ⟨1, _⟩ =>
    show ((cfgM m hO).win 5).index ⟨_, hlt⟩ (1 : Fin 2) * 512 ≤ (i 1).val ∧ (i 1).val < ((cfgM m hO).win 5).index ⟨_, hlt⟩ (1 : Fin 2) * 512 + 512
    rw [e1, c0]; dsimp only; omega

/-- THE ARRAY AFTER THE RUN is the reference's function of the arguments. -/
theorem array (hN : Named m) (c : Dev nD) : (dats m (ok_of_named m hN) 0 c).arrAt 5 (cfgM m (ok_of_named m hN)).N
    = Cert.UpRefIdeal.Read.val_main_v68 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  obtain rfl : c = 0 := Subsingleton.elim _ _
  refine (dats m (ok_of_named m hN) 0 0).arrAt_eq_of_cover 5 _ (fun t _ => ?_) fun i => ?_
  · show (dats m (ok_of_named m hN) 0 0).after 5 t = _
    rw [after_5]
    funext z
    obtain ⟨x, y, rfl⟩ : ∃ (x : Fin 512) (y : Fin 512), z = ix2 x y := ⟨z 0, z 1, eq_ix2 z⟩
    show stored _ _ _ _ _ _ _ (ix2 x y) = Cert.UpRefIdeal.Read.val_main_v68 (F := Ideal) _ _ _ _ _ _ _ ((((cfgM m (ok_of_named m hN)).win 5).blk t).view.emb (ix2 x y))
    have he : (m (((0 : Dev nD) : Thread nD τ).loc main_arg0) : IVec S112 32) (ix1 (tileOf t)) = BitVec.ofNat 32 (expertOf m hN (tileOf t)).val :=
      (BitVec.ofNat_toNat (x := _) 32).trans (BitVec.setWidth_eq _) |>.symm
    have hn : (m (((0 : Dev nD) : Thread nD τ).loc main_arg1) : IVec S1 32) (ix1 0) = BitVec.ofNat 32 (count m) := arg1_eq m
    rw [out_emb]
    refine Eq.trans ?_ (ref_apply _ _ _ _ _ _ _ (tileOf t) x (colOf (partOf t) y) (expertOf m hN (tileOf t)) he).symm
    rw [hn]
    rw [used_eq]
    by_cases hc : k0_cond1 (grid0.coords t) (BitVec.ofNat 32 (count m)) = 1#1
    · have hs := (taken_iff _ _).mp hc
      have hst := standIn_of_taken m hN (tileOf t) hs
      refine (stored_taken _ _ _ _ _ _ _ hc x y).trans ?_
      refine Eq.trans (congr (congrArg gated (congr (congr (congrArg project (funext fun k => ?_)) (funext fun k => ?_)) ?_))
          (congr (congr (congrArg project (funext fun k => ?_)) (funext fun k => ?_)) ?_))
        (show _ = Scalar.select (IntOp.cmpi .slt (BitVec.ofNat 32 (tileOf t).val) (BitVec.ofNat 32 (count m))) _ _ by rw [show IntOp.cmpi .slt (BitVec.ofNat 32 (tileOf t).val) (BitVec.ofNat 32 (count m)) = 1#1 from hs]; rfl)
      · exact (act_apply m hN 0 t x k).trans (by rw [hst])
      · exact (wt_apply m hN 0 t k y).trans (by rw [hst])
      · exact (bs_apply m hN 0 t y).trans (by rw [hst])
      · exact (act_apply m hN 0 t x k).trans (by rw [hst])
      · exact (wt_apply' m hN 0 t k y).trans (by rw [hst])
      · exact (bs_apply' m hN 0 t y).trans (by rw [hst])
    · have hs : IntOp.cmpi .slt (BitVec.ofNat 32 (tileOf t).val) (BitVec.ofNat 32 (count m)) = 0#1 := by
        have := fun h => hc ((taken_iff _ _).mpr h)
        generalize IntOp.cmpi .slt (BitVec.ofNat 32 (tileOf t).val) (BitVec.ofNat 32 (count m)) = b at this ⊢
        revert b; decide
      refine (stored_rest _ _ _ _ _ _ _ hc x y).trans ?_
      rw [hs]; rfl
  · exact covered m (ok_of_named m hN) i

end Cert.UpArray
-- ==== Proof.UpPre.lean ====
/- The precondition of the experts' gated up projection, read as facts about the two integer arguments. -/
module

public import proofs.«01_k».proof.Proof.Gen.Pre_up_tables
public import proofs.«01_k».proof.Proof.DownPre
public import Idealize.ShloMosaic.Lib.Pointwise
public import Idealize.ShloMosaic.Lib.Tactic
public import Idealize.ShloMosaic.Lib.Pipeline.Value

@[expose] public section

noncomputable section

namespace Cert.UpPre

open Idealize.ShloMosaic Cert.Pre_up_tables
open Cert.DownPre (both_of_andi lt_of_signed pos_of_signed)

attribute [local instance] Cert.Pre_up_tables.Gen.facts

variable {F : FTy → Type} [FloatOps F]

/-- The one index of a one-element vector, from the only index of a scalar. -/
theorem head_apply (a1 : IVec S1 32) (w : S_.Idx) : shapeCast S_ a1 Facts.shapeCasts_S1_S_ w = a1 (ix1 0) :=
  shapeCast_apply a1 Facts.shapeCasts_S1_S_ w (ix1 0) (by sl_kernel_rfl)

/-- What the precondition says of the experts' table and of the number of used tiles. -/
theorem read (a0 : IVec S112 32) (a1 : IVec S1 32) (a2 : FVec F S57344x4096 .bf16) (a3 : FVec F S2x32x4096x1024 .f32) (a4 : FVec F S2x32x1024 .f32)
    (a5 : FVec F S2x32x4096x1024 .f32) (a6 : FVec F S2x32x1024 .f32)
    (h : Cert.Pre_up_tables.fn (F := F) a0 a1 a2 a3 a4 a5 a6 = fun _ => 1#1) :
    (∀ r : Fin 112, (a0 (ix1 r)).toNat < 32) ∧ 1 ≤ (a1 (ix1 0)).toNat ∧ (a1 (ix1 0)).toNat < 2 ^ 31 := by
  have key : ∀ r : Fin 112, ((a0 (ix1 r)).toNat < 32) ∧ 1 ≤ (a1 (ix1 0)).toNat ∧ (a1 (ix1 0)).toNat < 2 ^ 31 := fun r => by
    have hr := congrFun h (ix1 r)
    obtain ⟨hA, hB⟩ := both_of_andi _ _ (show IntOp.andi _ _ = 1#1 from hr)
    obtain ⟨h0, h1⟩ := both_of_andi _ _ (show IntOp.andi _ _ = 1#1 from hA)
    refine ⟨lt_of_signed _ h0 h1, pos_of_signed _ ?_⟩
    have hB' : IntOp.cmpi .sge (shapeCast S_ a1 Facts.shapeCasts_S1_S_ _) 1#32 = 1#1 := hB
    rwa [head_apply] at hB'
  exact ⟨fun r => (key r).1, (key 0).2⟩

end Cert.UpPre

end
-- ==== Proof.UpClaim.lean ====
/- The experts' gated up projection's claims: the frames under the precondition, the reference's frame, and the algebraic
   equality with the reference. -/
module

public import proofs.«01_k».proof.Proof.UpArray
public import proofs.«01_k».proof.Proof.UpBitsTables
public import proofs.«01_k».proof.Proof.UpPre
public import proofs.«01_k».proof.Proof.Gen.UpRefIdeal.Run
public import proofs.«01_k».proof.Defs
public import Idealize.ShloMosaic.Lib.Quiescent

@[expose] public section

noncomputable section

namespace Cert.UpClaim

open Idealize.ShloMosaic Idealize.SL.Sem

attribute [local instance] Cert.Up.Gen.facts Cert.UpIdeal.Gen.facts Cert.UpRefIdeal.Gen.facts Cert.Pre_up_tables.Gen.facts

/-- The precondition on the kernel's memory, as facts about the two tables. -/
theorem named (m) (h : Cert.Pre_Up m) : Cert.Up.Frame.Named m := by
  obtain ⟨a, b, c⟩ := Cert.UpPre.read _ _ _ _ _ _ _ (h 0)
  exact ⟨a, b, c⟩

/-- The same for the idealized kernel. -/
theorem named_ideal (m) (h : Cert.Pre_UpIdeal m) : Cert.UpIdeal.Frame.Named m := by
  obtain ⟨a, b, c⟩ := Cert.UpPre.read _ _ _ _ _ _ _ (h 0)
  exact ⟨a, b, c⟩

/-- The kernel runs to an end, leaves its arguments as launched and every counter at zero. -/
theorem frame : Cert.quiescent_Up := fun m g h =>
  (θ_run Cert.Up.defs _ _).mono (fun r h => ⟨fun c => (h.1 c).2, h.2⟩)
    (Cert.Up.Frame.run_named (F := Bits) m g (Cert.Up.Frame.ok_of_named m (named m h)))

/-- So does the idealized kernel. -/
theorem frame_ideal : Cert.quiescent_UpIdeal := fun m g h =>
  (θ_run Cert.UpIdeal.defs _ _).mono (fun r h => ⟨fun c => (h.1 c).2, h.2⟩)
    (Cert.UpIdeal.Frame.run_named (F := Ideal) m g (Cert.UpIdeal.Frame.ok_of_named m (named_ideal m h)))

/-- The reference runs to an end, leaves its arguments as launched and every counter at zero. -/
theorem reference_frame : Cert.quiescent_UpRefIdeal := fun m g _ =>
  (θ_run Cert.UpRefIdeal.defs _ _).mono
    (fun r h => ⟨fun c => (h c).2, sem_eq_zero_of_no_sems (by decide) r.2⟩)
    (Cert.UpRefIdeal.Value.run (F := Ideal) m g)

/-- The same under the precondition. -/
theorem reference_frame_pre : Cert.quiescent_UpRefIdeal_pre_up_tables := fun m g _ =>
  (θ_run Cert.UpRefIdeal.defs _ _).mono
    (fun r h => ⟨fun c => (h c).2, sem_eq_zero_of_no_sems (by decide) r.2⟩)
    (Cert.UpRefIdeal.Value.run (F := Ideal) m g)

/-- Over the extended reals the kernel's result is the reference's, from the same arguments. -/
theorem algebraic : Cert.algebraic_UpIdeal_UpRefIdeal := by
  intro m g m' g' hpre hargs
  refine ⟨fun c => Cert.UpRefIdeal.Read.val_main_v68 (F := Ideal) (m (c.tc.loc Cert.UpIdeal.main_arg0))
    (m (c.tc.loc Cert.UpIdeal.main_arg1)) (m (c.tc.loc Cert.UpIdeal.main_arg2)) (m (c.tc.loc Cert.UpIdeal.main_arg3))
    (m (c.tc.loc Cert.UpIdeal.main_arg4)) (m (c.tc.loc Cert.UpIdeal.main_arg5)) (m (c.tc.loc Cert.UpIdeal.main_arg6)), ?_, ?_⟩
  · have hN := named_ideal m hpre
    exact (θ_run Cert.UpIdeal.defs _ _).mono (fun r h c => ⟨(h.1 c).1.trans (Cert.UpArray.array m hN c), (h.1 c).2⟩)
      (Cert.UpIdeal.Frame.run_named (F := Ideal) m g (Cert.UpIdeal.Frame.ok_of_named m hN))
  · refine (θ_run Cert.UpRefIdeal.defs _ _).mono (fun r h c => ⟨(h c).1.trans ?_, (h c).2⟩)
      (Cert.UpRefIdeal.Value.run (F := Ideal) m' g')
    obtain ⟨e0, e1, e2, e3, e4, e5, e6⟩ := hargs c
    rw [Cert.UpRefIdeal.Read.val_main_v68_eq, e0, e1, e2, e3, e4, e5, e6]

end Cert.UpClaim

end
-- ==== Proof.FinalCtxClaim.lean ====
/- The final normalisation of the context rows: the array after the run is the reference's, and the claims that follow. -/
module

public import proofs.«01_k».proof.Proof.Gen.FinalCtxIdeal.Value
public import proofs.«01_k».proof.Proof.Gen.FinalCtxRefIdeal.Run
public import proofs.«01_k».proof.Proof.Gen.FinalCtxRefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.FinalCtxClaim

open Cert.FinalCtxIdeal Cert.FinalCtxIdeal.Gen Idealize.ShloMosaic Idealize.ShloMosaic.TcCoe Idealize.SL.Sem
open Cert.AttnBlock (off2 off3)

/-- A row normalised at one place: its entry over the root of its mean square, times the gain. -/
def normed (row : Fin 4096 → EReal) (g : EReal) (j : Fin 4096) : EReal :=
  row j * Ideal.rsqrt (Ideal.div (∑ k : Fin 4096, row k * row k) (Ideal.ofBits FTy.f32 1166016512#32) + Ideal.ofBits FTy.f32 897988541#32) * g

/-- What a point leaves in its output block. -/
theorem out_apply (a : Vec Ideal S512x4096 .f32) (g : Vec Ideal S1x4096 .f32) (i : Fin 512) (j : Fin 4096) :
    out0_2 a g (ix2 i j) = normed (fun k => a (ix2 i k)) (g (ix2 0 j)) j := by
  unfold out0_2 normed
  rw [View.canon_unit_zero off2]
  simp only [View.ld_unit_zero (S := S512x4096) off2, View.ld_unit_zero (S := S1x4096) off2]
  pointwise [k0_pay1]

/-- The reference at an index: the same. -/
theorem ref_apply (x0 : FVec Ideal S10240x4096 .f32) (x1 : FVec Ideal S4096 .f32) (i : Fin 8192) (j : Fin 4096) :
    Cert.FinalCtxRefIdeal.Read.val_main_v13 (F := Ideal) x0 x1 (ix2 i j) = normed (fun k => x0 (ix2 ⟨i.val, by omega⟩ k)) (x1 (ix1 j)) j := by
  unfold normed
  pointwise [Cert.FinalCtxRefIdeal.Read.val_main_v13, Cert.FinalCtxRefIdeal.Read.val_main_v12, Cert.FinalCtxRefIdeal.Read.val_main_v11, Cert.FinalCtxRefIdeal.Read.val_main_v10, Cert.FinalCtxRefIdeal.Read.val_main_v9, Cert.FinalCtxRefIdeal.Read.val_main_v8, Cert.FinalCtxRefIdeal.Read.val_main_v7, Cert.FinalCtxRefIdeal.Read.val_main_v6, Cert.FinalCtxRefIdeal.Read.val_main_cst_1, Cert.FinalCtxRefIdeal.Read.val_main_v5, Cert.FinalCtxRefIdeal.Read.val_main_v4, Cert.FinalCtxRefIdeal.Read.val_main_cst_0, Cert.FinalCtxRefIdeal.Read.val_main_v3, Cert.FinalCtxRefIdeal.Read.val_main_v2, Cert.FinalCtxRefIdeal.Read.val_main_cst, Cert.FinalCtxRefIdeal.Read.val_main_v1, Cert.FinalCtxRefIdeal.Read.val_main_v0]

/-- Where each window's block sits at each point. -/
theorem idx_facts : ∀ t : Fin cfg0.N,
    (win0_0.index t (0 : Fin 2) = t.val / 1 ∧ win0_0.index t (1 : Fin 2) = 0)
    ∧ (win0_1.index t (0 : Fin 2) = 0 ∧ win0_1.index t (1 : Fin 2) = 0)
    ∧ (win0_2.index t (0 : Fin 2) = t.val / 1 ∧ win0_2.index t (1 : Fin 2) = t.val % 1) :=
  (by decide +kernel : ∀ t : Fin grid0.N, _)

variable (m : (ℓ : Loc nD τ sig) → Buf (Elt Ideal) ℓ)

/-- The row of the result that row `x` of point `t` is. -/
abbrev rowOf (t : Fin cfg0.N) (x : Fin 512) : Fin 8192 :=
  ⟨t.val / 1 * 512 + x.val, by have := t.isLt; have hN : cfg0.N = 16 := N_0; omega⟩
/-- The column of the result that column `y` of point `t` is. -/
abbrev colOf (t : Fin cfg0.N) (y : Fin 4096) : Fin 4096 := ⟨t.val % 1 * 4096 + y.val, by omega⟩

/-- The rows of a point. -/
theorem act_apply (c : Dev nD) (t : Fin cfg0.N) (x : Fin 512) (k : Fin 4096) :
    iblk m c 0 t (ix2 x k) = m ((c : Thread nD τ).loc main_arg0) (ix2 ⟨(rowOf t x).val, by omega⟩ k) := by
  obtain ⟨⟨e0, e1⟩, -⟩ := idx_facts t
  show V m c main_arg0 (((cfg0.win 0).blk t).view.emb (ix2 x k)) = _
  have hix : ((cfg0.win 0).blk t).view.emb (ix2 x k) = (ix2 ⟨(rowOf t x).val, by omega⟩ k : S10240x4096.Idx) := by
    funext a; apply Fin.ext
    match a with
    | ⟨0, _⟩ => show win0_0.index t (0 : Fin 2) * 512 + 1 * x.val = t.val / 1 * 512 + x.val; omega
    | ⟨1, _⟩ => show win0_0.index t (1 : Fin 2) * 4096 + 1 * k.val = k.val; omega
  rw [V_main_arg0, hix]

/-- The gain as the region finds it: one row. -/
theorem V_gain (c : Dev nD) : V m c main_v0 = shapeCast S1x4096 (m ((c : Thread nD τ).loc main_arg1)) shapeCasts_S4096_S1x4096 := by
  show StableHlo.after hostOps0 (fun b => m (c, b)) main_v0 = _
  unfold hostOps0
  after_results_simp <;> rfl

/-- The gain of a point. -/
theorem gain_apply (c : Dev nD) (t : Fin cfg0.N) (y : Fin 4096) :
    iblk m c 1 t (ix2 0 y) = m ((c : Thread nD τ).loc main_arg1) (ix1 (colOf t y)) := by
  obtain ⟨-, ⟨e0, e1⟩, -⟩ := idx_facts t
  show V m c main_v0 (((cfg0.win 1).blk t).view.emb (ix2 0 y)) = _
  have hix : ((cfg0.win 1).blk t).view.emb (ix2 0 y) = (ix2 0 (colOf t y) : S1x4096.Idx) := by
    funext a; apply Fin.ext
    match a with
    | ⟨0, _⟩ => show win0_1.index t (0 : Fin 2) * 1 + 1 * 0 = 0; omega
    | ⟨1, _⟩ => show win0_1.index t (1 : Fin 2) * 4096 + 1 * y.val = t.val % 1 * 4096 + y.val; omega
  rw [V_gain, hix]
  generalize m ((c : Thread nD τ).loc main_arg1) = z
  refine shapeCast_apply _ _ _ (ix1 (colOf t y)) ?_
  rw [Shape.rowMajor_val_one, Shape.rowMajor_val_two]
  show (colOf t y).val = 0 * 4096 + (colOf t y).val
  omega

/-- THE ARRAY AFTER THE RUN is the reference's function of the arguments. -/
theorem array (c : Dev nD) : (dats m 0 c).arrAt 2 cfg0.N
    = Cert.FinalCtxRefIdeal.Read.val_main_v13 (F := Ideal) (m ((c : Thread nD τ).loc main_arg0)) (m ((c : Thread nD τ).loc main_arg1)) := by
  refine (dats m 0 c).arrAt_eq_of_cover 2 _ (fun t _ => ?_) fun i => ?_
  · rw [Cert.FinalCtxIdeal.Value.flushed2]
    funext z
    obtain ⟨x, y, rfl⟩ : ∃ (x : Fin 512) (y : Fin 4096), z = ix2 x y := ⟨z 0, z 1, eq_ix2 z⟩
    show out0_2 _ _ (ix2 x y) = Cert.FinalCtxRefIdeal.Read.val_main_v13 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S8192x4096.Idx) := by
      funext d; apply Fin.ext
      match d with
      | ⟨0, _⟩ => show win0_2.index t (0 : Fin 2) * 512 + 1 * x.val = t.val / 1 * 512 + x.val; omega
      | ⟨1, _⟩ => show win0_2.index t (1 : Fin 2) * 4096 + 1 * y.val = t.val % 1 * 4096 + y.val; omega
    rw [hy]
    refine (out_apply _ _ x y).trans (Eq.trans ?_ (ref_apply _ _ (rowOf t x) (colOf t y)).symm)
    have hc : colOf t y = y := Fin.ext (by show t.val % 1 * 4096 + y.val = y.val; omega)
    rw [gain_apply m c t y, hc]
    exact congrArg (fun r => normed r _ y) (funext fun k => act_apply m c t x k)
  · have h0 : (i 0).val < 8192 := (i 0).isLt
    have h1 : (i 1).val < 4096 := (i 1).isLt
    have hlt : (i 0).val / 512 * 1 + (i 1).val / 4096 < cfg0.N := lt_of_lt_of_eq (b := 16) (by omega) N_0.symm
    refine ⟨⟨(i 0).val / 512 * 1 + (i 1).val / 4096, hlt⟩, (by decide +kernel : ∀ t : Fin grid0.N, (cfg0.win 2).flush t = true) ⟨_, hlt⟩, ?_⟩
    obtain ⟨-, -, ⟨e0, e1⟩⟩ := idx_facts ⟨(i 0).val / 512 * 1 + (i 1).val / 4096, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 512 ≤ (i 0).val ∧ (i 0).val < win0_2.index ⟨_, hlt⟩ (0 : Fin 2) * 512 + 512
      rw [e0]; dsimp only; omega
    | ⟨1, _⟩ =>
      show win0_2.index ⟨_, hlt⟩ (1 : Fin 2) * 4096 ≤ (i 1).val ∧ (i 1).val < win0_2.index ⟨_, hlt⟩ (1 : Fin 2) * 4096 + 4096
      rw [e1]; dsimp only; omega

/-- The reference runs to an end, leaves its arguments as launched and every counter at zero. -/
theorem reference_frame : Cert.quiescent_FinalCtxRefIdeal := fun m g _ =>
  (θ_run Cert.FinalCtxRefIdeal.defs _ _).mono
    (fun r h => ⟨fun c => (h c).2, sem_eq_zero_of_no_sems (by decide) r.2⟩)
    (Cert.FinalCtxRefIdeal.Value.run (F := Ideal) m g)

/-- Over the extended reals the kernel's result is the reference's, from the same arguments. -/
theorem algebraic : Cert.algebraic_FinalCtxIdeal_FinalCtxRefIdeal := by
  intro m g m' g' _ hargs
  refine ⟨fun c => Cert.FinalCtxRefIdeal.Read.val_main_v13 (F := Ideal) (m (c.tc.loc Cert.FinalCtxIdeal.main_arg0)) (m (c.tc.loc Cert.FinalCtxIdeal.main_arg1)), ?_, ?_⟩
  · exact (θ_run Cert.FinalCtxIdeal.defs _ _).mono (fun r h c => ⟨(h c).1.trans (array m c), (h c).2⟩)
      (Cert.FinalCtxIdeal.Value.run_blocks m g)
  · refine (θ_run Cert.FinalCtxRefIdeal.defs _ _).mono (fun r h c => ⟨(h c).1.trans ?_, (h c).2⟩)
      (Cert.FinalCtxRefIdeal.Value.run (F := Ideal) m' g')
    obtain ⟨e0, e1⟩ := hargs c
    rw [Cert.FinalCtxRefIdeal.Read.val_main_v13_eq, e0, e1]

end Cert.FinalCtxClaim

end
-- ==== Proof.FinalLatClaim.lean ====
/- The final normalisation of the latent rows: the array after the run is the reference's, and the claims that follow. -/
module

public import proofs.«01_k».proof.Proof.Gen.FinalLatIdeal.Value
public import proofs.«01_k».proof.Proof.Gen.FinalLatRefIdeal.Run
public import proofs.«01_k».proof.Proof.Gen.FinalLatRefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.FinalLatClaim

open Cert.FinalLatIdeal Cert.FinalLatIdeal.Gen Idealize.ShloMosaic Idealize.ShloMosaic.TcCoe Idealize.SL.Sem
open Cert.AttnBlock (off2 off3)

/-- A row normalised at one place: its entry over the root of its mean square, times the gain. -/
def normed (row : Fin 4096 → EReal) (g : EReal) (j : Fin 4096) : EReal :=
  row j * Ideal.rsqrt (Ideal.div (∑ k : Fin 4096, row k * row k) (Ideal.ofBits FTy.f32 1166016512#32) + Ideal.ofBits FTy.f32 897988541#32) * g

/-- What a point leaves in its output block. -/
theorem out_apply (a : Vec Ideal S512x4096 .f32) (g : Vec Ideal S1x4096 .f32) (i : Fin 512) (j : Fin 4096) :
    out0_2 a g (ix2 i j) = normed (fun k => a (ix2 i k)) (g (ix2 0 j)) j := by
  unfold out0_2 normed
  rw [View.canon_unit_zero off2]
  simp only [View.ld_unit_zero (S := S512x4096) off2, View.ld_unit_zero (S := S1x4096) off2]
  pointwise [k0_pay1]

/-- The reference at an index: the same. -/
theorem ref_apply (x0 : FVec Ideal S10240x4096 .f32) (x1 : FVec Ideal S4096 .f32) (i : Fin 2048) (j : Fin 4096) :
    Cert.FinalLatRefIdeal.Read.val_main_v13 (F := Ideal) x0 x1 (ix2 i j) = normed (fun k => x0 (ix2 ⟨8192 + i.val, by omega⟩ k)) (x1 (ix1 j)) j := by
  unfold normed
  pointwise [Cert.FinalLatRefIdeal.Read.val_main_v13, Cert.FinalLatRefIdeal.Read.val_main_v12, Cert.FinalLatRefIdeal.Read.val_main_v11, Cert.FinalLatRefIdeal.Read.val_main_v10, Cert.FinalLatRefIdeal.Read.val_main_v9, Cert.FinalLatRefIdeal.Read.val_main_v8, Cert.FinalLatRefIdeal.Read.val_main_v7, Cert.FinalLatRefIdeal.Read.val_main_v6, Cert.FinalLatRefIdeal.Read.val_main_cst_1, Cert.FinalLatRefIdeal.Read.val_main_v5, Cert.FinalLatRefIdeal.Read.val_main_v4, Cert.FinalLatRefIdeal.Read.val_main_cst_0, Cert.FinalLatRefIdeal.Read.val_main_v3, Cert.FinalLatRefIdeal.Read.val_main_v2, Cert.FinalLatRefIdeal.Read.val_main_cst, Cert.FinalLatRefIdeal.Read.val_main_v1, Cert.FinalLatRefIdeal.Read.val_main_v0]

/-- Where each window's block sits at each point. -/
theorem idx_facts : ∀ t : Fin cfg0.N,
    (win0_0.index t (0 : Fin 2) = 16 + t.val / 1 ∧ win0_0.index t (1 : Fin 2) = 0)
    ∧ (win0_1.index t (0 : Fin 2) = 0 ∧ win0_1.index t (1 : Fin 2) = 0)
    ∧ (win0_2.index t (0 : Fin 2) = t.val / 1 ∧ win0_2.index t (1 : Fin 2) = t.val % 1) :=
  (by decide +kernel : ∀ t : Fin grid0.N, _)

variable (m : (ℓ : Loc nD τ sig) → Buf (Elt Ideal) ℓ)

/-- The row of the result that row `x` of point `t` is. -/
abbrev rowOf (t : Fin cfg0.N) (x : Fin 512) : Fin 2048 :=
  ⟨t.val / 1 * 512 + x.val, by have := t.isLt; have hN : cfg0.N = 4 := N_0; omega⟩
/-- The column of the result that column `y` of point `t` is. -/
abbrev colOf (t : Fin cfg0.N) (y : Fin 4096) : Fin 4096 := ⟨t.val % 1 * 4096 + y.val, by omega⟩

/-- The rows of a point. -/
theorem act_apply (c : Dev nD) (t : Fin cfg0.N) (x : Fin 512) (k : Fin 4096) :
    iblk m c 0 t (ix2 x k) = m ((c : Thread nD τ).loc main_arg0) (ix2 ⟨8192 + (rowOf t x).val, by omega⟩ k) := by
  obtain ⟨⟨e0, e1⟩, -⟩ := idx_facts t
  show V m c main_arg0 (((cfg0.win 0).blk t).view.emb (ix2 x k)) = _
  have hix : ((cfg0.win 0).blk t).view.emb (ix2 x k) = (ix2 ⟨8192 + (rowOf t x).val, by omega⟩ k : S10240x4096.Idx) := by
    funext a; apply Fin.ext
    match a with
    | ⟨0, _⟩ => show win0_0.index t (0 : Fin 2) * 512 + 1 * x.val = 8192 + (t.val / 1 * 512 + x.val); omega
    | ⟨1, _⟩ => show win0_0.index t (1 : Fin 2) * 4096 + 1 * k.val = k.val; omega
  rw [V_main_arg0, hix]

/-- The gain as the region finds it: one row. -/
theorem V_gain (c : Dev nD) : V m c main_v0 = shapeCast S1x4096 (m ((c : Thread nD τ).loc main_arg1)) shapeCasts_S4096_S1x4096 := by
  show StableHlo.after hostOps0 (fun b => m (c, b)) main_v0 = _
  unfold hostOps0
  after_results_simp <;> rfl

/-- The gain of a point. -/
theorem gain_apply (c : Dev nD) (t : Fin cfg0.N) (y : Fin 4096) :
    iblk m c 1 t (ix2 0 y) = m ((c : Thread nD τ).loc main_arg1) (ix1 (colOf t y)) := by
  obtain ⟨-, ⟨e0, e1⟩, -⟩ := idx_facts t
  show V m c main_v0 (((cfg0.win 1).blk t).view.emb (ix2 0 y)) = _
  have hix : ((cfg0.win 1).blk t).view.emb (ix2 0 y) = (ix2 0 (colOf t y) : S1x4096.Idx) := by
    funext a; apply Fin.ext
    match a with
    | ⟨0, _⟩ => show win0_1.index t (0 : Fin 2) * 1 + 1 * 0 = 0; omega
    | ⟨1, _⟩ => show win0_1.index t (1 : Fin 2) * 4096 + 1 * y.val = t.val % 1 * 4096 + y.val; omega
  rw [V_gain, hix]
  generalize m ((c : Thread nD τ).loc main_arg1) = z
  refine shapeCast_apply _ _ _ (ix1 (colOf t y)) ?_
  rw [Shape.rowMajor_val_one, Shape.rowMajor_val_two]
  show (colOf t y).val = 0 * 4096 + (colOf t y).val
  omega

/-- THE ARRAY AFTER THE RUN is the reference's function of the arguments. -/
theorem array (c : Dev nD) : (dats m 0 c).arrAt 2 cfg0.N
    = Cert.FinalLatRefIdeal.Read.val_main_v13 (F := Ideal) (m ((c : Thread nD τ).loc main_arg0)) (m ((c : Thread nD τ).loc main_arg1)) := by
  refine (dats m 0 c).arrAt_eq_of_cover 2 _ (fun t _ => ?_) fun i => ?_
  · rw [Cert.FinalLatIdeal.Value.flushed2]
    funext z
    obtain ⟨x, y, rfl⟩ : ∃ (x : Fin 512) (y : Fin 4096), z = ix2 x y := ⟨z 0, z 1, eq_ix2 z⟩
    show out0_2 _ _ (ix2 x y) = Cert.FinalLatRefIdeal.Read.val_main_v13 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S2048x4096.Idx) := by
      funext d; apply Fin.ext
      match d with
      | ⟨0, _⟩ => show win0_2.index t (0 : Fin 2) * 512 + 1 * x.val = t.val / 1 * 512 + x.val; omega
      | ⟨1, _⟩ => show win0_2.index t (1 : Fin 2) * 4096 + 1 * y.val = t.val % 1 * 4096 + y.val; omega
    rw [hy]
    refine (out_apply _ _ x y).trans (Eq.trans ?_ (ref_apply _ _ (rowOf t x) (colOf t y)).symm)
    have hc : colOf t y = y := Fin.ext (by show t.val % 1 * 4096 + y.val = y.val; omega)
    rw [gain_apply m c t y, hc]
    exact congrArg (fun r => normed r _ y) (funext fun k => act_apply m c t x k)
  · have h0 : (i 0).val < 2048 := (i 0).isLt
    have h1 : (i 1).val < 4096 := (i 1).isLt
    have hlt : (i 0).val / 512 * 1 + (i 1).val / 4096 < cfg0.N := lt_of_lt_of_eq (b := 4) (by omega) N_0.symm
    refine ⟨⟨(i 0).val / 512 * 1 + (i 1).val / 4096, hlt⟩, (by decide +kernel : ∀ t : Fin grid0.N, (cfg0.win 2).flush t = true) ⟨_, hlt⟩, ?_⟩
    obtain ⟨-, -, ⟨e0, e1⟩⟩ := idx_facts ⟨(i 0).val / 512 * 1 + (i 1).val / 4096, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 512 ≤ (i 0).val ∧ (i 0).val < win0_2.index ⟨_, hlt⟩ (0 : Fin 2) * 512 + 512
      rw [e0]; dsimp only; omega
    | ⟨1, _⟩ =>
      show win0_2.index ⟨_, hlt⟩ (1 : Fin 2) * 4096 ≤ (i 1).val ∧ (i 1).val < win0_2.index ⟨_, hlt⟩ (1 : Fin 2) * 4096 + 4096
      rw [e1]; dsimp only; omega

/-- The reference runs to an end, leaves its arguments as launched and every counter at zero. -/
theorem reference_frame : Cert.quiescent_FinalLatRefIdeal := fun m g _ =>
  (θ_run Cert.FinalLatRefIdeal.defs _ _).mono
    (fun r h => ⟨fun c => (h c).2, sem_eq_zero_of_no_sems (by decide) r.2⟩)
    (Cert.FinalLatRefIdeal.Value.run (F := Ideal) m g)

/-- Over the extended reals the kernel's result is the reference's, from the same arguments. -/
theorem algebraic : Cert.algebraic_FinalLatIdeal_FinalLatRefIdeal := by
  intro m g m' g' _ hargs
  refine ⟨fun c => Cert.FinalLatRefIdeal.Read.val_main_v13 (F := Ideal) (m (c.tc.loc Cert.FinalLatIdeal.main_arg0)) (m (c.tc.loc Cert.FinalLatIdeal.main_arg1)), ?_, ?_⟩
  · exact (θ_run Cert.FinalLatIdeal.defs _ _).mono (fun r h c => ⟨(h c).1.trans (array m c), (h c).2⟩)
      (Cert.FinalLatIdeal.Value.run_blocks m g)
  · refine (θ_run Cert.FinalLatRefIdeal.defs _ _).mono (fun r h c => ⟨(h c).1.trans ?_, (h c).2⟩)
      (Cert.FinalLatRefIdeal.Value.run (F := Ideal) m' g')
    obtain ⟨e0, e1⟩ := hargs c
    rw [Cert.FinalLatRefIdeal.Read.val_main_v13_eq, e0, e1]

end Cert.FinalLatClaim

end
-- ==== Proof.InGate0Claim.lean ====
/- The input projection of layer 0, columns 4096 to 4224: the array after the run is the reference's product, and the claims that follow. -/
module

public import proofs.«01_k».proof.Proof.Gen.InGate0Ideal.Value
public import proofs.«01_k».proof.Proof.Gen.InGate0RefIdeal.Run
public import proofs.«01_k».proof.Proof.Gen.InGate0RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InGate0Claim

open Cert.InGate0Ideal Cert.InGate0Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x128x4096 .f32) (i : Fin 2048) (j : Fin 128) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x128x4096) off3]
  pointwise [k0_pay1]

/-- The reference at an index: the same product. -/
theorem ref_apply (x0 : FVec Ideal S10240x4096 .bf16) (x1 : FVec Ideal S2x4096x22560 .f32) (i : Fin 10240) (j : Fin 128) :
    Cert.InGate0RefIdeal.Read.val_main_v4 (F := Ideal) x0 x1 (ix2 i j)
      = ∑ k : Fin 4096, x0 (ix2 i k) * x1 (ix3 0 k ⟨4096 + j.val, by omega⟩) := by
  pointwise [Cert.InGate0RefIdeal.Read.val_main_v4, Cert.InGate0RefIdeal.Read.val_main_v3, Cert.InGate0RefIdeal.Read.val_main_v2, Cert.InGate0RefIdeal.Read.val_main_v1, Cert.InGate0RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 1 ∧ win0_0.index t (1 : Fin 2) = 0)
    ∧ (win0_1.index t (0 : Fin 3) = 0 ∧ win0_1.index t (1 : Fin 3) = 4096 + t.val % 1 * 128 ∧ win0_1.index t (2 : Fin 3) = 0)
    ∧ (win0_2.index t (0 : Fin 2) = t.val / 1 ∧ win0_2.index t (1 : Fin 2) = t.val % 1) :=
  (by decide +kernel : ∀ t : Fin grid0.N, _)

/-- The row of the activations that row `x` of point `t` is. -/
abbrev rowOf (t : Fin cfg0.N) (x : Fin 2048) : Fin 10240 :=
  ⟨t.val / 1 * 2048 + x.val, by have := t.isLt; have hN : cfg0.N = 5 := N_0; omega⟩
/-- The column of the result that column `y` of point `t` is. -/
abbrev colOf (t : Fin cfg0.N) (y : Fin 128) : Fin 128 := ⟨t.val % 1 * 128 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 1 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 128 columns of the layer's matrix. -/
theorem wt_apply (c : Dev nD) (t : Fin cfg0.N) (y : Fin 128) (k : Fin 4096) :
    iblk m c 1 t (ix3 0 y k) = m ((c : Thread nD τ).loc main_arg1) (ix3 0 k ⟨4096 + (colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 0 ⟨4096 + (colOf t y).val, by omega⟩ k : S2x22560x4096.Idx) := by
    funext a; apply Fin.ext
    match a with
    | ⟨0, _⟩ => show win0_1.index t (0 : Fin 3) + 1 * 0 = 0; omega
    | ⟨1, _⟩ => show win0_1.index t (1 : Fin 3) + 1 * y.val = 4096 + (t.val % 1 * 128 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InGate0RefIdeal.Read.val_main_v4 (F := Ideal) (m ((c : Thread nD τ).loc main_arg0)) (m ((c : Thread nD τ).loc main_arg1)) := by
  refine (dats m 0 c).arrAt_eq_of_cover 2 _ (fun t _ => ?_) fun i => ?_
  · rw [Cert.InGate0Ideal.Value.flushed2]
    funext z
    obtain ⟨x, y, rfl⟩ : ∃ (x : Fin 2048) (y : Fin 128), z = ix2 x y := ⟨z 0, z 1, eq_ix2 z⟩
    show out0_2 _ _ (ix2 x y) = Cert.InGate0RefIdeal.Read.val_main_v4 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x128.Idx) := by
      funext d; apply Fin.ext
      match d with
      | ⟨0, _⟩ => show win0_2.index t (0 : Fin 2) * 2048 + 1 * x.val = t.val / 1 * 2048 + x.val; omega
      | ⟨1, _⟩ => show win0_2.index t (1 : Fin 2) * 128 + 1 * y.val = t.val % 1 * 128 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 128 := (i 1).isLt
    have hlt : (i 0).val / 2048 * 1 + (i 1).val / 128 < cfg0.N := lt_of_lt_of_eq (b := 5) (by omega) N_0.symm
    refine ⟨⟨(i 0).val / 2048 * 1 + (i 1).val / 128, hlt⟩,
      (by decide +kernel : ∀ t : Fin grid0.N, (cfg0.win 2).flush t = true) ⟨_, hlt⟩, ?_⟩
    obtain ⟨-, -, ⟨e0, e1⟩⟩ := idx_facts ⟨(i 0).val / 2048 * 1 + (i 1).val / 128, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 128 ≤ (i 1).val ∧ (i 1).val < win0_2.index ⟨_, hlt⟩ (1 : Fin 2) * 128 + 128
      rw [e1]; dsimp only; omega

/-- The reference runs to an end, leaves its arguments as launched and every counter at zero. -/
theorem reference_frame : Cert.quiescent_InGate0RefIdeal := fun m g _ =>
  (θ_run Cert.InGate0RefIdeal.defs _ _).mono
    (fun r h => ⟨fun c => (h c).2, sem_eq_zero_of_no_sems (by decide) r.2⟩)
    (Cert.InGate0RefIdeal.Value.run (F := Ideal) m g)

/-- Over the extended reals the kernel's result is the reference's, from the same arguments. -/
theorem algebraic : Cert.algebraic_InGate0Ideal_InGate0RefIdeal := by
  intro m g m' g' _ hargs
  refine ⟨fun c => Cert.InGate0RefIdeal.Read.val_main_v4 (F := Ideal) (m (c.tc.loc Cert.InGate0Ideal.main_arg0))
    (m (c.tc.loc Cert.InGate0Ideal.main_arg1)), ?_, ?_⟩
  · exact (θ_run Cert.InGate0Ideal.defs _ _).mono (fun r h c => ⟨(h c).1.trans (array m c), (h c).2⟩)
      (Cert.InGate0Ideal.Value.run_blocks m g)
  · refine (θ_run Cert.InGate0RefIdeal.defs _ _).mono (fun r h c => ⟨(h c).1.trans ?_, (h c).2⟩)
      (Cert.InGate0RefIdeal.Value.run (F := Ideal) m' g')
    obtain ⟨e0, e1⟩ := hargs c
    rw [Cert.InGate0RefIdeal.Read.val_main_v4_eq, e0, e1]

end Cert.InGate0Claim

end
-- ==== Proof.InGate1Claim.lean ====
/- The input projection of layer 1, columns 4096 to 4224: the array after the run is the reference's product, and the claims that follow. -/
module

public import proofs.«01_k».proof.Proof.Gen.InGate1Ideal.Value
public import proofs.«01_k».proof.Proof.Gen.InGate1RefIdeal.Run
public import proofs.«01_k».proof.Proof.Gen.InGate1RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InGate1Claim

open Cert.InGate1Ideal Cert.InGate1Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x128x4096 .f32) (i : Fin 2048) (j : Fin 128) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x128x4096) off3]
  pointwise [k0_pay1]

/-- The reference at an index: the same product. -/
theorem ref_apply (x0 : FVec Ideal S10240x4096 .bf16) (x1 : FVec Ideal S2x4096x22560 .f32) (i : Fin 10240) (j : Fin 128) :
    Cert.InGate1RefIdeal.Read.val_main_v4 (F := Ideal) x0 x1 (ix2 i j)
      = ∑ k : Fin 4096, x0 (ix2 i k) * x1 (ix3 1 k ⟨4096 + j.val, by omega⟩) := by
  pointwise [Cert.InGate1RefIdeal.Read.val_main_v4, Cert.InGate1RefIdeal.Read.val_main_v3, Cert.InGate1RefIdeal.Read.val_main_v2, Cert.InGate1RefIdeal.Read.val_main_v1, Cert.InGate1RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 1 ∧ win0_0.index t (1 : Fin 2) = 0)
    ∧ (win0_1.index t (0 : Fin 3) = 1 ∧ win0_1.index t (1 : Fin 3) = 4096 + t.val % 1 * 128 ∧ win0_1.index t (2 : Fin 3) = 0)
    ∧ (win0_2.index t (0 : Fin 2) = t.val / 1 ∧ win0_2.index t (1 : Fin 2) = t.val % 1) :=
  (by decide +kernel : ∀ t : Fin grid0.N, _)

/-- The row of the activations that row `x` of point `t` is. -/
abbrev rowOf (t : Fin cfg0.N) (x : Fin 2048) : Fin 10240 :=
  ⟨t.val / 1 * 2048 + x.val, by have := t.isLt; have hN : cfg0.N = 5 := N_0; omega⟩
/-- The column of the result that column `y` of point `t` is. -/
abbrev colOf (t : Fin cfg0.N) (y : Fin 128) : Fin 128 := ⟨t.val % 1 * 128 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 1 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 128 columns of the layer's matrix. -/
theorem wt_apply (c : Dev nD) (t : Fin cfg0.N) (y : Fin 128) (k : Fin 4096) :
    iblk m c 1 t (ix3 0 y k) = m ((c : Thread nD τ).loc main_arg1) (ix3 1 k ⟨4096 + (colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 1 ⟨4096 + (colOf t y).val, by omega⟩ k : S2x22560x4096.Idx) := by
    funext a; apply Fin.ext
    match a with
    | ⟨0, _⟩ => show win0_1.index t (0 : Fin 3) + 1 * 0 = 1; omega
    | ⟨1, _⟩ => show win0_1.index t (1 : Fin 3) + 1 * y.val = 4096 + (t.val % 1 * 128 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InGate1RefIdeal.Read.val_main_v4 (F := Ideal) (m ((c : Thread nD τ).loc main_arg0)) (m ((c : Thread nD τ).loc main_arg1)) := by
  refine (dats m 0 c).arrAt_eq_of_cover 2 _ (fun t _ => ?_) fun i => ?_
  · rw [Cert.InGate1Ideal.Value.flushed2]
    funext z
    obtain ⟨x, y, rfl⟩ : ∃ (x : Fin 2048) (y : Fin 128), z = ix2 x y := ⟨z 0, z 1, eq_ix2 z⟩
    show out0_2 _ _ (ix2 x y) = Cert.InGate1RefIdeal.Read.val_main_v4 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x128.Idx) := by
      funext d; apply Fin.ext
      match d with
      | ⟨0, _⟩ => show win0_2.index t (0 : Fin 2) * 2048 + 1 * x.val = t.val / 1 * 2048 + x.val; omega
      | ⟨1, _⟩ => show win0_2.index t (1 : Fin 2) * 128 + 1 * y.val = t.val % 1 * 128 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 128 := (i 1).isLt
    have hlt : (i 0).val / 2048 * 1 + (i 1).val / 128 < cfg0.N := lt_of_lt_of_eq (b := 5) (by omega) N_0.symm
    refine ⟨⟨(i 0).val / 2048 * 1 + (i 1).val / 128, hlt⟩,
      (by decide +kernel : ∀ t : Fin grid0.N, (cfg0.win 2).flush t = true) ⟨_, hlt⟩, ?_⟩
    obtain ⟨-, -, ⟨e0, e1⟩⟩ := idx_facts ⟨(i 0).val / 2048 * 1 + (i 1).val / 128, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 128 ≤ (i 1).val ∧ (i 1).val < win0_2.index ⟨_, hlt⟩ (1 : Fin 2) * 128 + 128
      rw [e1]; dsimp only; omega

/-- The reference runs to an end, leaves its arguments as launched and every counter at zero. -/
theorem reference_frame : Cert.quiescent_InGate1RefIdeal := fun m g _ =>
  (θ_run Cert.InGate1RefIdeal.defs _ _).mono
    (fun r h => ⟨fun c => (h c).2, sem_eq_zero_of_no_sems (by decide) r.2⟩)
    (Cert.InGate1RefIdeal.Value.run (F := Ideal) m g)

/-- Over the extended reals the kernel's result is the reference's, from the same arguments. -/
theorem algebraic : Cert.algebraic_InGate1Ideal_InGate1RefIdeal := by
  intro m g m' g' _ hargs
  refine ⟨fun c => Cert.InGate1RefIdeal.Read.val_main_v4 (F := Ideal) (m (c.tc.loc Cert.InGate1Ideal.main_arg0))
    (m (c.tc.loc Cert.InGate1Ideal.main_arg1)), ?_, ?_⟩
  · exact (θ_run Cert.InGate1Ideal.defs _ _).mono (fun r h c => ⟨(h c).1.trans (array m c), (h c).2⟩)
      (Cert.InGate1Ideal.Value.run_blocks m g)
  · refine (θ_run Cert.InGate1RefIdeal.defs _ _).mono (fun r h c => ⟨(h c).1.trans ?_, (h c).2⟩)
      (Cert.InGate1RefIdeal.Value.run (F := Ideal) m' g')
    obtain ⟨e0, e1⟩ := hargs c
    rw [Cert.InGate1RefIdeal.Read.val_main_v4_eq, e0, e1]

end Cert.InGate1Claim

end
-- ==== Proof.InGl0Claim.lean ====
/- The input projection of layer 0, columns 10272 to 22560: the array after the run is the reference's product, and the claims that follow. -/
module

public import proofs.«01_k».proof.Proof.Gen.InGl0Ideal.Value
public import proofs.«01_k».proof.Proof.Gen.InGl0RefIdeal.Run
public import proofs.«01_k».proof.Proof.Gen.InGl0RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InGl0Claim

open Cert.InGl0Ideal Cert.InGl0Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x256x4096 .f32) (i : Fin 2048) (j : Fin 256) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x256x4096) off3]
  pointwise [k0_pay1]

/-- The reference at an index: the same product. -/
theorem ref_apply (x0 : FVec Ideal S10240x4096 .bf16) (x1 : FVec Ideal S2x4096x22560 .f32) (i : Fin 10240) (j : Fin 12288) :
    Cert.InGl0RefIdeal.Read.val_main_v5 (F := Ideal) x0 x1 (ix2 i j)
      = ∑ k : Fin 4096, x0 (ix2 i k) * x1 (ix3 0 k ⟨10272 + j.val, by omega⟩) := by
  pointwise [Cert.InGl0RefIdeal.Read.val_main_v5, Cert.InGl0RefIdeal.Read.val_main_v4, Cert.InGl0RefIdeal.Read.val_main_v3, Cert.InGl0RefIdeal.Read.val_main_v2, Cert.InGl0RefIdeal.Read.val_main_v1, Cert.InGl0RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 48 ∧ win0_0.index t (1 : Fin 2) = 0)
    ∧ (win0_1.index t (0 : Fin 3) = 0 ∧ win0_1.index t (1 : Fin 3) = 10272 + t.val % 48 * 256 ∧ win0_1.index t (2 : Fin 3) = 0)
    ∧ (win0_2.index t (0 : Fin 2) = t.val / 48 ∧ win0_2.index t (1 : Fin 2) = t.val % 48) :=
  (by decide +kernel : ∀ t : Fin grid0.N, _)

/-- The row of the activations that row `x` of point `t` is. -/
abbrev rowOf (t : Fin cfg0.N) (x : Fin 2048) : Fin 10240 :=
  ⟨t.val / 48 * 2048 + x.val, by have := t.isLt; have hN : cfg0.N = 240 := N_0; omega⟩
/-- The column of the result that column `y` of point `t` is. -/
abbrev colOf (t : Fin cfg0.N) (y : Fin 256) : Fin 12288 := ⟨t.val % 48 * 256 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 48 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 256 columns of the layer's matrix. -/
theorem wt_apply (c : Dev nD) (t : Fin cfg0.N) (y : Fin 256) (k : Fin 4096) :
    iblk m c 1 t (ix3 0 y k) = m ((c : Thread nD τ).loc main_arg1) (ix3 0 k ⟨10272 + (colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 0 ⟨10272 + (colOf t y).val, by omega⟩ k : S2x22560x4096.Idx) := by
    funext a; apply Fin.ext
    match a with
    | ⟨0, _⟩ => show win0_1.index t (0 : Fin 3) + 1 * 0 = 0; omega
    | ⟨1, _⟩ => show win0_1.index t (1 : Fin 3) + 1 * y.val = 10272 + (t.val % 48 * 256 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InGl0RefIdeal.Read.val_main_v5 (F := Ideal) (m ((c : Thread nD τ).loc main_arg0)) (m ((c : Thread nD τ).loc main_arg1)) := by
  refine (dats m 0 c).arrAt_eq_of_cover 2 _ (fun t _ => ?_) fun i => ?_
  · rw [Cert.InGl0Ideal.Value.flushed2]
    funext z
    obtain ⟨x, y, rfl⟩ : ∃ (x : Fin 2048) (y : Fin 256), z = ix2 x y := ⟨z 0, z 1, eq_ix2 z⟩
    show out0_2 _ _ (ix2 x y) = Cert.InGl0RefIdeal.Read.val_main_v5 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x12288.Idx) := by
      funext d; apply Fin.ext
      match d with
      | ⟨0, _⟩ => show win0_2.index t (0 : Fin 2) * 2048 + 1 * x.val = t.val / 48 * 2048 + x.val; omega
      | ⟨1, _⟩ => show win0_2.index t (1 : Fin 2) * 256 + 1 * y.val = t.val % 48 * 256 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 12288 := (i 1).isLt
    have hlt : (i 0).val / 2048 * 48 + (i 1).val / 256 < cfg0.N := lt_of_lt_of_eq (b := 240) (by omega) N_0.symm
    refine ⟨⟨(i 0).val / 2048 * 48 + (i 1).val / 256, hlt⟩,
      (by decide +kernel : ∀ t : Fin grid0.N, (cfg0.win 2).flush t = true) ⟨_, hlt⟩, ?_⟩
    obtain ⟨-, -, ⟨e0, e1⟩⟩ := idx_facts ⟨(i 0).val / 2048 * 48 + (i 1).val / 256, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 256 ≤ (i 1).val ∧ (i 1).val < win0_2.index ⟨_, hlt⟩ (1 : Fin 2) * 256 + 256
      rw [e1]; dsimp only; omega

/-- The reference runs to an end, leaves its arguments as launched and every counter at zero. -/
theorem reference_frame : Cert.quiescent_InGl0RefIdeal := fun m g _ =>
  (θ_run Cert.InGl0RefIdeal.defs _ _).mono
    (fun r h => ⟨fun c => (h c).2, sem_eq_zero_of_no_sems (by decide) r.2⟩)
    (Cert.InGl0RefIdeal.Value.run (F := Ideal) m g)

/-- Over the extended reals the kernel's result is the reference's, from the same arguments. -/
theorem algebraic : Cert.algebraic_InGl0Ideal_InGl0RefIdeal := by
  intro m g m' g' _ hargs
  refine ⟨fun c => Cert.InGl0RefIdeal.Read.val_main_v5 (F := Ideal) (m (c.tc.loc Cert.InGl0Ideal.main_arg0))
    (m (c.tc.loc Cert.InGl0Ideal.main_arg1)), ?_, ?_⟩
  · exact (θ_run Cert.InGl0Ideal.defs _ _).mono (fun r h c => ⟨(h c).1.trans (array m c), (h c).2⟩)
      (Cert.InGl0Ideal.Value.run_blocks m g)
  · refine (θ_run Cert.InGl0RefIdeal.defs _ _).mono (fun r h c => ⟨(h c).1.trans ?_, (h c).2⟩)
      (Cert.InGl0RefIdeal.Value.run (F := Ideal) m' g')
    obtain ⟨e0, e1⟩ := hargs c
    rw [Cert.InGl0RefIdeal.Read.val_main_v5_eq, e0, e1]

end Cert.InGl0Claim

end
-- ==== Proof.InGl1Claim.lean ====
/- The input projection of layer 1, columns 10272 to 22560: the array after the run is the reference's product, and the claims that follow. -/
module

public import proofs.«01_k».proof.Proof.Gen.InGl1Ideal.Value
public import proofs.«01_k».proof.Proof.Gen.InGl1RefIdeal.Run
public import proofs.«01_k».proof.Proof.Gen.InGl1RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InGl1Claim

open Cert.InGl1Ideal Cert.InGl1Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x256x4096 .f32) (i : Fin 2048) (j : Fin 256) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x256x4096) off3]
  pointwise [k0_pay1]

/-- The reference at an index: the same product. -/
theorem ref_apply (x0 : FVec Ideal S10240x4096 .bf16) (x1 : FVec Ideal S2x4096x22560 .f32) (i : Fin 10240) (j : Fin 12288) :
    Cert.InGl1RefIdeal.Read.val_main_v5 (F := Ideal) x0 x1 (ix2 i j)
      = ∑ k : Fin 4096, x0 (ix2 i k) * x1 (ix3 1 k ⟨10272 + j.val, by omega⟩) := by
  pointwise [Cert.InGl1RefIdeal.Read.val_main_v5, Cert.InGl1RefIdeal.Read.val_main_v4, Cert.InGl1RefIdeal.Read.val_main_v3, Cert.InGl1RefIdeal.Read.val_main_v2, Cert.InGl1RefIdeal.Read.val_main_v1, Cert.InGl1RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 48 ∧ win0_0.index t (1 : Fin 2) = 0)
    ∧ (win0_1.index t (0 : Fin 3) = 1 ∧ win0_1.index t (1 : Fin 3) = 10272 + t.val % 48 * 256 ∧ win0_1.index t (2 : Fin 3) = 0)
    ∧ (win0_2.index t (0 : Fin 2) = t.val / 48 ∧ win0_2.index t (1 : Fin 2) = t.val % 48) :=
  (by decide +kernel : ∀ t : Fin grid0.N, _)

/-- The row of the activations that row `x` of point `t` is. -/
abbrev rowOf (t : Fin cfg0.N) (x : Fin 2048) : Fin 10240 :=
  ⟨t.val / 48 * 2048 + x.val, by have := t.isLt; have hN : cfg0.N = 240 := N_0; omega⟩
/-- The column of the result that column `y` of point `t` is. -/
abbrev colOf (t : Fin cfg0.N) (y : Fin 256) : Fin 12288 := ⟨t.val % 48 * 256 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 48 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 256 columns of the layer's matrix. -/
theorem wt_apply (c : Dev nD) (t : Fin cfg0.N) (y : Fin 256) (k : Fin 4096) :
    iblk m c 1 t (ix3 0 y k) = m ((c : Thread nD τ).loc main_arg1) (ix3 1 k ⟨10272 + (colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 1 ⟨10272 + (colOf t y).val, by omega⟩ k : S2x22560x4096.Idx) := by
    funext a; apply Fin.ext
    match a with
    | ⟨0, _⟩ => show win0_1.index t (0 : Fin 3) + 1 * 0 = 1; omega
    | ⟨1, _⟩ => show win0_1.index t (1 : Fin 3) + 1 * y.val = 10272 + (t.val % 48 * 256 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InGl1RefIdeal.Read.val_main_v5 (F := Ideal) (m ((c : Thread nD τ).loc main_arg0)) (m ((c : Thread nD τ).loc main_arg1)) := by
  refine (dats m 0 c).arrAt_eq_of_cover 2 _ (fun t _ => ?_) fun i => ?_
  · rw [Cert.InGl1Ideal.Value.flushed2]
    funext z
    obtain ⟨x, y, rfl⟩ : ∃ (x : Fin 2048) (y : Fin 256), z = ix2 x y := ⟨z 0, z 1, eq_ix2 z⟩
    show out0_2 _ _ (ix2 x y) = Cert.InGl1RefIdeal.Read.val_main_v5 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x12288.Idx) := by
      funext d; apply Fin.ext
      match d with
      | ⟨0, _⟩ => show win0_2.index t (0 : Fin 2) * 2048 + 1 * x.val = t.val / 48 * 2048 + x.val; omega
      | ⟨1, _⟩ => show win0_2.index t (1 : Fin 2) * 256 + 1 * y.val = t.val % 48 * 256 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 12288 := (i 1).isLt
    have hlt : (i 0).val / 2048 * 48 + (i 1).val / 256 < cfg0.N := lt_of_lt_of_eq (b := 240) (by omega) N_0.symm
    refine ⟨⟨(i 0).val / 2048 * 48 + (i 1).val / 256, hlt⟩,
      (by decide +kernel : ∀ t : Fin grid0.N, (cfg0.win 2).flush t = true) ⟨_, hlt⟩, ?_⟩
    obtain ⟨-, -, ⟨e0, e1⟩⟩ := idx_facts ⟨(i 0).val / 2048 * 48 + (i 1).val / 256, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 256 ≤ (i 1).val ∧ (i 1).val < win0_2.index ⟨_, hlt⟩ (1 : Fin 2) * 256 + 256
      rw [e1]; dsimp only; omega

/-- The reference runs to an end, leaves its arguments as launched and every counter at zero. -/
theorem reference_frame : Cert.quiescent_InGl1RefIdeal := fun m g _ =>
  (θ_run Cert.InGl1RefIdeal.defs _ _).mono
    (fun r h => ⟨fun c => (h c).2, sem_eq_zero_of_no_sems (by decide) r.2⟩)
    (Cert.InGl1RefIdeal.Value.run (F := Ideal) m g)

/-- Over the extended reals the kernel's result is the reference's, from the same arguments. -/
theorem algebraic : Cert.algebraic_InGl1Ideal_InGl1RefIdeal := by
  intro m g m' g' _ hargs
  refine ⟨fun c => Cert.InGl1RefIdeal.Read.val_main_v5 (F := Ideal) (m (c.tc.loc Cert.InGl1Ideal.main_arg0))
    (m (c.tc.loc Cert.InGl1Ideal.main_arg1)), ?_, ?_⟩
  · exact (θ_run Cert.InGl1Ideal.defs _ _).mono (fun r h c => ⟨(h c).1.trans (array m c), (h c).2⟩)
      (Cert.InGl1Ideal.Value.run_blocks m g)
  · refine (θ_run Cert.InGl1RefIdeal.defs _ _).mono (fun r h c => ⟨(h c).1.trans ?_, (h c).2⟩)
      (Cert.InGl1RefIdeal.Value.run (F := Ideal) m' g')
    obtain ⟨e0, e1⟩ := hargs c
    rw [Cert.InGl1RefIdeal.Read.val_main_v5_eq, e0, e1]

end Cert.InGl1Claim

end
-- ==== Proof.InMix0Claim.lean ====
/- The input projection of layer 0, columns 4128 to 10272: the array after the run is the reference's product, and the claims that follow. -/
module

public import proofs.«01_k».proof.Proof.Gen.InMix0Ideal.Value
public import proofs.«01_k».proof.Proof.Gen.InMix0RefIdeal.Run
public import proofs.«01_k».proof.Proof.Gen.InMix0RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InMix0Claim

open Cert.InMix0Ideal Cert.InMix0Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x256x4096 .f32) (i : Fin 2048) (j : Fin 256) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x256x4096) off3]
  pointwise [k0_pay1]

/-- The reference at an index: the same product. -/
theorem ref_apply (x0 : FVec Ideal S10240x4096 .bf16) (x1 : FVec Ideal S2x4096x22560 .f32) (i : Fin 10240) (j : Fin 6144) :
    Cert.InMix0RefIdeal.Read.val_main_v4 (F := Ideal) x0 x1 (ix2 i j)
      = ∑ k : Fin 4096, x0 (ix2 i k) * x1 (ix3 0 k ⟨4128 + j.val, by omega⟩) := by
  pointwise [Cert.InMix0RefIdeal.Read.val_main_v4, Cert.InMix0RefIdeal.Read.val_main_v3, Cert.InMix0RefIdeal.Read.val_main_v2, Cert.InMix0RefIdeal.Read.val_main_v1, Cert.InMix0RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 24 ∧ win0_0.index t (1 : Fin 2) = 0)
    ∧ (win0_1.index t (0 : Fin 3) = 0 ∧ win0_1.index t (1 : Fin 3) = 4128 + t.val % 24 * 256 ∧ win0_1.index t (2 : Fin 3) = 0)
    ∧ (win0_2.index t (0 : Fin 2) = t.val / 24 ∧ win0_2.index t (1 : Fin 2) = t.val % 24) :=
  (by decide +kernel : ∀ t : Fin grid0.N, _)

/-- The row of the activations that row `x` of point `t` is. -/
abbrev rowOf (t : Fin cfg0.N) (x : Fin 2048) : Fin 10240 :=
  ⟨t.val / 24 * 2048 + x.val, by have := t.isLt; have hN : cfg0.N = 120 := N_0; omega⟩
/-- The column of the result that column `y` of point `t` is. -/
abbrev colOf (t : Fin cfg0.N) (y : Fin 256) : Fin 6144 := ⟨t.val % 24 * 256 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 24 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 256 columns of the layer's matrix. -/
theorem wt_apply (c : Dev nD) (t : Fin cfg0.N) (y : Fin 256) (k : Fin 4096) :
    iblk m c 1 t (ix3 0 y k) = m ((c : Thread nD τ).loc main_arg1) (ix3 0 k ⟨4128 + (colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 0 ⟨4128 + (colOf t y).val, by omega⟩ k : S2x22560x4096.Idx) := by
    funext a; apply Fin.ext
    match a with
    | ⟨0, _⟩ => show win0_1.index t (0 : Fin 3) + 1 * 0 = 0; omega
    | ⟨1, _⟩ => show win0_1.index t (1 : Fin 3) + 1 * y.val = 4128 + (t.val % 24 * 256 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InMix0RefIdeal.Read.val_main_v4 (F := Ideal) (m ((c : Thread nD τ).loc main_arg0)) (m ((c : Thread nD τ).loc main_arg1)) := by
  refine (dats m 0 c).arrAt_eq_of_cover 2 _ (fun t _ => ?_) fun i => ?_
  · rw [Cert.InMix0Ideal.Value.flushed2]
    funext z
    obtain ⟨x, y, rfl⟩ : ∃ (x : Fin 2048) (y : Fin 256), z = ix2 x y := ⟨z 0, z 1, eq_ix2 z⟩
    show out0_2 _ _ (ix2 x y) = Cert.InMix0RefIdeal.Read.val_main_v4 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x6144.Idx) := by
      funext d; apply Fin.ext
      match d with
      | ⟨0, _⟩ => show win0_2.index t (0 : Fin 2) * 2048 + 1 * x.val = t.val / 24 * 2048 + x.val; omega
      | ⟨1, _⟩ => show win0_2.index t (1 : Fin 2) * 256 + 1 * y.val = t.val % 24 * 256 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 6144 := (i 1).isLt
    have hlt : (i 0).val / 2048 * 24 + (i 1).val / 256 < cfg0.N := lt_of_lt_of_eq (b := 120) (by omega) N_0.symm
    refine ⟨⟨(i 0).val / 2048 * 24 + (i 1).val / 256, hlt⟩,
      (by decide +kernel : ∀ t : Fin grid0.N, (cfg0.win 2).flush t = true) ⟨_, hlt⟩, ?_⟩
    obtain ⟨-, -, ⟨e0, e1⟩⟩ := idx_facts ⟨(i 0).val / 2048 * 24 + (i 1).val / 256, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 256 ≤ (i 1).val ∧ (i 1).val < win0_2.index ⟨_, hlt⟩ (1 : Fin 2) * 256 + 256
      rw [e1]; dsimp only; omega

/-- The reference runs to an end, leaves its arguments as launched and every counter at zero. -/
theorem reference_frame : Cert.quiescent_InMix0RefIdeal := fun m g _ =>
  (θ_run Cert.InMix0RefIdeal.defs _ _).mono
    (fun r h => ⟨fun c => (h c).2, sem_eq_zero_of_no_sems (by decide) r.2⟩)
    (Cert.InMix0RefIdeal.Value.run (F := Ideal) m g)

/-- Over the extended reals the kernel's result is the reference's, from the same arguments. -/
theorem algebraic : Cert.algebraic_InMix0Ideal_InMix0RefIdeal := by
  intro m g m' g' _ hargs
  refine ⟨fun c => Cert.InMix0RefIdeal.Read.val_main_v4 (F := Ideal) (m (c.tc.loc Cert.InMix0Ideal.main_arg0))
    (m (c.tc.loc Cert.InMix0Ideal.main_arg1)), ?_, ?_⟩
  · exact (θ_run Cert.InMix0Ideal.defs _ _).mono (fun r h c => ⟨(h c).1.trans (array m c), (h c).2⟩)
      (Cert.InMix0Ideal.Value.run_blocks m g)
  · refine (θ_run Cert.InMix0RefIdeal.defs _ _).mono (fun r h c => ⟨(h c).1.trans ?_, (h c).2⟩)
      (Cert.InMix0RefIdeal.Value.run (F := Ideal) m' g')
    obtain ⟨e0, e1⟩ := hargs c
    rw [Cert.InMix0RefIdeal.Read.val_main_v4_eq, e0, e1]

end Cert.InMix0Claim

end
-- ==== Proof.InMix1Claim.lean ====
/- The input projection of layer 1, columns 4128 to 10272: the array after the run is the reference's product, and the claims that follow. -/
module

public import proofs.«01_k».proof.Proof.Gen.InMix1Ideal.Value
public import proofs.«01_k».proof.Proof.Gen.InMix1RefIdeal.Run
public import proofs.«01_k».proof.Proof.Gen.InMix1RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InMix1Claim

open Cert.InMix1Ideal Cert.InMix1Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x256x4096 .f32) (i : Fin 2048) (j : Fin 256) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x256x4096) off3]
  pointwise [k0_pay1]

/-- The reference at an index: the same product. -/
theorem ref_apply (x0 : FVec Ideal S10240x4096 .bf16) (x1 : FVec Ideal S2x4096x22560 .f32) (i : Fin 10240) (j : Fin 6144) :
    Cert.InMix1RefIdeal.Read.val_main_v4 (F := Ideal) x0 x1 (ix2 i j)
      = ∑ k : Fin 4096, x0 (ix2 i k) * x1 (ix3 1 k ⟨4128 + j.val, by omega⟩) := by
  pointwise [Cert.InMix1RefIdeal.Read.val_main_v4, Cert.InMix1RefIdeal.Read.val_main_v3, Cert.InMix1RefIdeal.Read.val_main_v2, Cert.InMix1RefIdeal.Read.val_main_v1, Cert.InMix1RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 24 ∧ win0_0.index t (1 : Fin 2) = 0)
    ∧ (win0_1.index t (0 : Fin 3) = 1 ∧ win0_1.index t (1 : Fin 3) = 4128 + t.val % 24 * 256 ∧ win0_1.index t (2 : Fin 3) = 0)
    ∧ (win0_2.index t (0 : Fin 2) = t.val / 24 ∧ win0_2.index t (1 : Fin 2) = t.val % 24) :=
  (by decide +kernel : ∀ t : Fin grid0.N, _)

/-- The row of the activations that row `x` of point `t` is. -/
abbrev rowOf (t : Fin cfg0.N) (x : Fin 2048) : Fin 10240 :=
  ⟨t.val / 24 * 2048 + x.val, by have := t.isLt; have hN : cfg0.N = 120 := N_0; omega⟩
/-- The column of the result that column `y` of point `t` is. -/
abbrev colOf (t : Fin cfg0.N) (y : Fin 256) : Fin 6144 := ⟨t.val % 24 * 256 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 24 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 256 columns of the layer's matrix. -/
theorem wt_apply (c : Dev nD) (t : Fin cfg0.N) (y : Fin 256) (k : Fin 4096) :
    iblk m c 1 t (ix3 0 y k) = m ((c : Thread nD τ).loc main_arg1) (ix3 1 k ⟨4128 + (colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 1 ⟨4128 + (colOf t y).val, by omega⟩ k : S2x22560x4096.Idx) := by
    funext a; apply Fin.ext
    match a with
    | ⟨0, _⟩ => show win0_1.index t (0 : Fin 3) + 1 * 0 = 1; omega
    | ⟨1, _⟩ => show win0_1.index t (1 : Fin 3) + 1 * y.val = 4128 + (t.val % 24 * 256 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InMix1RefIdeal.Read.val_main_v4 (F := Ideal) (m ((c : Thread nD τ).loc main_arg0)) (m ((c : Thread nD τ).loc main_arg1)) := by
  refine (dats m 0 c).arrAt_eq_of_cover 2 _ (fun t _ => ?_) fun i => ?_
  · rw [Cert.InMix1Ideal.Value.flushed2]
    funext z
    obtain ⟨x, y, rfl⟩ : ∃ (x : Fin 2048) (y : Fin 256), z = ix2 x y := ⟨z 0, z 1, eq_ix2 z⟩
    show out0_2 _ _ (ix2 x y) = Cert.InMix1RefIdeal.Read.val_main_v4 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x6144.Idx) := by
      funext d; apply Fin.ext
      match d with
      | ⟨0, _⟩ => show win0_2.index t (0 : Fin 2) * 2048 + 1 * x.val = t.val / 24 * 2048 + x.val; omega
      | ⟨1, _⟩ => show win0_2.index t (1 : Fin 2) * 256 + 1 * y.val = t.val % 24 * 256 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 6144 := (i 1).isLt
    have hlt : (i 0).val / 2048 * 24 + (i 1).val / 256 < cfg0.N := lt_of_lt_of_eq (b := 120) (by omega) N_0.symm
    refine ⟨⟨(i 0).val / 2048 * 24 + (i 1).val / 256, hlt⟩,
      (by decide +kernel : ∀ t : Fin grid0.N, (cfg0.win 2).flush t = true) ⟨_, hlt⟩, ?_⟩
    obtain ⟨-, -, ⟨e0, e1⟩⟩ := idx_facts ⟨(i 0).val / 2048 * 24 + (i 1).val / 256, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 256 ≤ (i 1).val ∧ (i 1).val < win0_2.index ⟨_, hlt⟩ (1 : Fin 2) * 256 + 256
      rw [e1]; dsimp only; omega

/-- The reference runs to an end, leaves its arguments as launched and every counter at zero. -/
theorem reference_frame : Cert.quiescent_InMix1RefIdeal := fun m g _ =>
  (θ_run Cert.InMix1RefIdeal.defs _ _).mono
    (fun r h => ⟨fun c => (h c).2, sem_eq_zero_of_no_sems (by decide) r.2⟩)
    (Cert.InMix1RefIdeal.Value.run (F := Ideal) m g)

/-- Over the extended reals the kernel's result is the reference's, from the same arguments. -/
theorem algebraic : Cert.algebraic_InMix1Ideal_InMix1RefIdeal := by
  intro m g m' g' _ hargs
  refine ⟨fun c => Cert.InMix1RefIdeal.Read.val_main_v4 (F := Ideal) (m (c.tc.loc Cert.InMix1Ideal.main_arg0))
    (m (c.tc.loc Cert.InMix1Ideal.main_arg1)), ?_, ?_⟩
  · exact (θ_run Cert.InMix1Ideal.defs _ _).mono (fun r h c => ⟨(h c).1.trans (array m c), (h c).2⟩)
      (Cert.InMix1Ideal.Value.run_blocks m g)
  · refine (θ_run Cert.InMix1RefIdeal.defs _ _).mono (fun r h c => ⟨(h c).1.trans ?_, (h c).2⟩)
      (Cert.InMix1RefIdeal.Value.run (F := Ideal) m' g')
    obtain ⟨e0, e1⟩ := hargs c
    rw [Cert.InMix1RefIdeal.Read.val_main_v4_eq, e0, e1]

end Cert.InMix1Claim

end
-- ==== Proof.InMl0Claim.lean ====
/- The input projection of layer 0, columns 0 to 4096: the array after the run is the reference's product, and the claims that follow. -/
module

public import proofs.«01_k».proof.Proof.Gen.InMl0Ideal.Value
public import proofs.«01_k».proof.Proof.Gen.InMl0RefIdeal.Run
public import proofs.«01_k».proof.Proof.Gen.InMl0RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InMl0Claim

open Cert.InMl0Ideal Cert.InMl0Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x256x4096 .f32) (i : Fin 2048) (j : Fin 256) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x256x4096) off3]
  pointwise [k0_pay1]

/-- The reference at an index: the same product. -/
theorem ref_apply (x0 : FVec Ideal S10240x4096 .bf16) (x1 : FVec Ideal S2x4096x22560 .f32) (i : Fin 10240) (j : Fin 4096) :
    Cert.InMl0RefIdeal.Read.val_main_v4 (F := Ideal) x0 x1 (ix2 i j)
      = ∑ k : Fin 4096, x0 (ix2 i k) * x1 (ix3 0 k ⟨j.val, by omega⟩) := by
  pointwise [Cert.InMl0RefIdeal.Read.val_main_v4, Cert.InMl0RefIdeal.Read.val_main_v3, Cert.InMl0RefIdeal.Read.val_main_v2, Cert.InMl0RefIdeal.Read.val_main_v1, Cert.InMl0RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 16 ∧ win0_0.index t (1 : Fin 2) = 0)
    ∧ (win0_1.index t (0 : Fin 3) = 0 ∧ win0_1.index t (1 : Fin 3) = t.val % 16 * 256 ∧ win0_1.index t (2 : Fin 3) = 0)
    ∧ (win0_2.index t (0 : Fin 2) = t.val / 16 ∧ win0_2.index t (1 : Fin 2) = t.val % 16) :=
  (by decide +kernel : ∀ t : Fin grid0.N, _)

/-- The row of the activations that row `x` of point `t` is. -/
abbrev rowOf (t : Fin cfg0.N) (x : Fin 2048) : Fin 10240 :=
  ⟨t.val / 16 * 2048 + x.val, by have := t.isLt; have hN : cfg0.N = 80 := N_0; omega⟩
/-- The column of the result that column `y` of point `t` is. -/
abbrev colOf (t : Fin cfg0.N) (y : Fin 256) : Fin 4096 := ⟨t.val % 16 * 256 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 16 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 256 columns of the layer's matrix. -/
theorem wt_apply (c : Dev nD) (t : Fin cfg0.N) (y : Fin 256) (k : Fin 4096) :
    iblk m c 1 t (ix3 0 y k) = m ((c : Thread nD τ).loc main_arg1) (ix3 0 k ⟨(colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 0 ⟨(colOf t y).val, by omega⟩ k : S2x22560x4096.Idx) := by
    funext a; apply Fin.ext
    match a with
    | ⟨0, _⟩ => show win0_1.index t (0 : Fin 3) + 1 * 0 = 0; omega
    | ⟨1, _⟩ => show win0_1.index t (1 : Fin 3) + 1 * y.val = (t.val % 16 * 256 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InMl0RefIdeal.Read.val_main_v4 (F := Ideal) (m ((c : Thread nD τ).loc main_arg0)) (m ((c : Thread nD τ).loc main_arg1)) := by
  refine (dats m 0 c).arrAt_eq_of_cover 2 _ (fun t _ => ?_) fun i => ?_
  · rw [Cert.InMl0Ideal.Value.flushed2]
    funext z
    obtain ⟨x, y, rfl⟩ : ∃ (x : Fin 2048) (y : Fin 256), z = ix2 x y := ⟨z 0, z 1, eq_ix2 z⟩
    show out0_2 _ _ (ix2 x y) = Cert.InMl0RefIdeal.Read.val_main_v4 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x4096.Idx) := by
      funext d; apply Fin.ext
      match d with
      | ⟨0, _⟩ => show win0_2.index t (0 : Fin 2) * 2048 + 1 * x.val = t.val / 16 * 2048 + x.val; omega
      | ⟨1, _⟩ => show win0_2.index t (1 : Fin 2) * 256 + 1 * y.val = t.val % 16 * 256 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 4096 := (i 1).isLt
    have hlt : (i 0).val / 2048 * 16 + (i 1).val / 256 < cfg0.N := lt_of_lt_of_eq (b := 80) (by omega) N_0.symm
    refine ⟨⟨(i 0).val / 2048 * 16 + (i 1).val / 256, hlt⟩,
      (by decide +kernel : ∀ t : Fin grid0.N, (cfg0.win 2).flush t = true) ⟨_, hlt⟩, ?_⟩
    obtain ⟨-, -, ⟨e0, e1⟩⟩ := idx_facts ⟨(i 0).val / 2048 * 16 + (i 1).val / 256, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 256 ≤ (i 1).val ∧ (i 1).val < win0_2.index ⟨_, hlt⟩ (1 : Fin 2) * 256 + 256
      rw [e1]; dsimp only; omega

/-- The reference runs to an end, leaves its arguments as launched and every counter at zero. -/
theorem reference_frame : Cert.quiescent_InMl0RefIdeal := fun m g _ =>
  (θ_run Cert.InMl0RefIdeal.defs _ _).mono
    (fun r h => ⟨fun c => (h c).2, sem_eq_zero_of_no_sems (by decide) r.2⟩)
    (Cert.InMl0RefIdeal.Value.run (F := Ideal) m g)

/-- Over the extended reals the kernel's result is the reference's, from the same arguments. -/
theorem algebraic : Cert.algebraic_InMl0Ideal_InMl0RefIdeal := by
  intro m g m' g' _ hargs
  refine ⟨fun c => Cert.InMl0RefIdeal.Read.val_main_v4 (F := Ideal) (m (c.tc.loc Cert.InMl0Ideal.main_arg0))
    (m (c.tc.loc Cert.InMl0Ideal.main_arg1)), ?_, ?_⟩
  · exact (θ_run Cert.InMl0Ideal.defs _ _).mono (fun r h c => ⟨(h c).1.trans (array m c), (h c).2⟩)
      (Cert.InMl0Ideal.Value.run_blocks m g)
  · refine (θ_run Cert.InMl0RefIdeal.defs _ _).mono (fun r h c => ⟨(h c).1.trans ?_, (h c).2⟩)
      (Cert.InMl0RefIdeal.Value.run (F := Ideal) m' g')
    obtain ⟨e0, e1⟩ := hargs c
    rw [Cert.InMl0RefIdeal.Read.val_main_v4_eq, e0, e1]

end Cert.InMl0Claim

end
-- ==== Proof.InMl1Claim.lean ====
/- The input projection of layer 1, columns 0 to 4096: the array after the run is the reference's product, and the claims that follow. -/
module

public import proofs.«01_k».proof.Proof.Gen.InMl1Ideal.Value
public import proofs.«01_k».proof.Proof.Gen.InMl1RefIdeal.Run
public import proofs.«01_k».proof.Proof.Gen.InMl1RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.InMl1Claim

open Cert.InMl1Ideal Cert.InMl1Ideal.Gen Idealize.ShloMosaic Idealize.ShloMosaic.TcCoe Idealize.SL.Sem
open Cert.AttnBlock (off2 off3)

/-- What a point leaves in its output block: rows of activations against rows of the transposed weights. -/
theorem out_apply (a : Vec Ideal S2048x4096 .bf16) (w : Vec Ideal S1x256x4096 .f32) (i : Fin 2048) (j : Fin 256) :
    out0_2 a w (ix2 i j) = ∑ k : Fin 4096, a (ix2 i k) * w (ix3 0 j k) := by
  unfold out0_2
  rw [View.canon_unit_zero off2]
  simp only [View.ld_unit_zero (S := S2048x4096) off2, View.ld_unit_zero (S := S1x256x4096) off3]
  pointwise [k0_pay1]

/-- The reference at an index: the same product. -/
theorem ref_apply (x0 : FVec Ideal S10240x4096 .bf16) (x1 : FVec Ideal S2x4096x22560 .f32) (i : Fin 10240) (j : Fin 4096) :
    Cert.InMl1RefIdeal.Read.val_main_v4 (F := Ideal) x0 x1 (ix2 i j)
      = ∑ k : Fin 4096, x0 (ix2 i k) * x1 (ix3 1 k ⟨j.val, by omega⟩) := by
  pointwise [Cert.InMl1RefIdeal.Read.val_main_v4, Cert.InMl1RefIdeal.Read.val_main_v3, Cert.InMl1RefIdeal.Read.val_main_v2, Cert.InMl1RefIdeal.Read.val_main_v1, Cert.InMl1RefIdeal.Read.val_main_v0]

variable (m : (ℓ : Loc nD τ sig) → Buf (Elt Ideal) ℓ)

/-- Where each window's block sits at each point. -/
theorem idx_facts : ∀ t : Fin cfg0.N,
    (win0_0.index t (0 : Fin 2) = t.val / 16 ∧ win0_0.index t (1 : Fin 2) = 0)
    ∧ (win0_1.index t (0 : Fin 3) = 1 ∧ win0_1.index t (1 : Fin 3) = t.val % 16 * 256 ∧ win0_1.index t (2 : Fin 3) = 0)
    ∧ (win0_2.index t (0 : Fin 2) = t.val / 16 ∧ win0_2.index t (1 : Fin 2) = t.val % 16) :=
  (by decide +kernel : ∀ t : Fin grid0.N, _)

/-- The row of the activations that row `x` of point `t` is. -/
abbrev rowOf (t : Fin cfg0.N) (x : Fin 2048) : Fin 10240 :=
  ⟨t.val / 16 * 2048 + x.val, by have := t.isLt; have hN : cfg0.N = 80 := N_0; omega⟩
/-- The column of the result that column `y` of point `t` is. -/
abbrev colOf (t : Fin cfg0.N) (y : Fin 256) : Fin 4096 := ⟨t.val % 16 * 256 + y.val, by omega⟩

/-- The activations' block of a point. -/
theorem act_apply (c : Dev nD) (t : Fin cfg0.N) (x : Fin 2048) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 2048 + 1 * x.val = t.val / 16 * 2048 + x.val; omega
    | ⟨1, _⟩ => show win0_0.index t (1 : Fin 2) * 4096 + 1 * k.val = k.val; omega
  rw [V_main_arg0, hix]

/-- The weights as the region finds them: rows and columns exchanged. -/
theorem V_weights (c : Dev nD) : V m c main_v0 = transpose S2x22560x4096 [0, 2, 1] (m ((c : Thread nD τ).loc main_arg1)) transposes_S2x4096x22560_S2x22560x4096_0_2_1 := by
  show StableHlo.after hostOps0 (fun b => m (c, b)) main_v0 = _
  unfold hostOps0
  after_results_simp <;> rfl

/-- The weights' block of a point: 256 columns of the layer's matrix. -/
theorem wt_apply (c : Dev nD) (t : Fin cfg0.N) (y : Fin 256) (k : Fin 4096) :
    iblk m c 1 t (ix3 0 y k) = m ((c : Thread nD τ).loc main_arg1) (ix3 1 k ⟨(colOf t y).val, by omega⟩) := by
  obtain ⟨-, ⟨e0, e1, e2⟩, -⟩ := idx_facts t
  show V m c main_v0 (((cfg0.win 1).blk t).view.emb (ix3 0 y k)) = _
  have hix : ((cfg0.win 1).blk t).view.emb (ix3 0 y k) = (ix3 1 ⟨(colOf t y).val, by omega⟩ k : S2x22560x4096.Idx) := by
    funext a; apply Fin.ext
    match a with
    | ⟨0, _⟩ => show win0_1.index t (0 : Fin 3) + 1 * 0 = 1; omega
    | ⟨1, _⟩ => show win0_1.index t (1 : Fin 3) + 1 * y.val = (t.val % 16 * 256 + y.val); omega
    | ⟨2, _⟩ => show win0_1.index t (2 : Fin 3) + 1 * k.val = k.val; omega
  rw [V_weights, hix]
  pointwise []

/-- THE ARRAY AFTER THE RUN is the reference's function of the arguments. -/
theorem array (c : Dev nD) : (dats m 0 c).arrAt 2 cfg0.N
    = Cert.InMl1RefIdeal.Read.val_main_v4 (F := Ideal) (m ((c : Thread nD τ).loc main_arg0)) (m ((c : Thread nD τ).loc main_arg1)) := by
  refine (dats m 0 c).arrAt_eq_of_cover 2 _ (fun t _ => ?_) fun i => ?_
  · rw [Cert.InMl1Ideal.Value.flushed2]
    funext z
    obtain ⟨x, y, rfl⟩ : ∃ (x : Fin 2048) (y : Fin 256), z = ix2 x y := ⟨z 0, z 1, eq_ix2 z⟩
    show out0_2 _ _ (ix2 x y) = Cert.InMl1RefIdeal.Read.val_main_v4 (F := Ideal) _ _ (((cfg0.win 2).blk t).view.emb (ix2 x y))
    obtain ⟨-, -, ⟨e0, e1⟩⟩ := idx_facts t
    have hy : ((cfg0.win 2).blk t).view.emb (ix2 x y) = (ix2 (rowOf t x) (colOf t y) : S10240x4096.Idx) := by
      funext d; apply Fin.ext
      match d with
      | ⟨0, _⟩ => show win0_2.index t (0 : Fin 2) * 2048 + 1 * x.val = t.val / 16 * 2048 + x.val; omega
      | ⟨1, _⟩ => show win0_2.index t (1 : Fin 2) * 256 + 1 * y.val = t.val % 16 * 256 + y.val; omega
    rw [hy]
    refine (out_apply _ _ x y).trans (Eq.trans ?_ (ref_apply _ _ (rowOf t x) (colOf t y)).symm)
    refine Finset.sum_congr rfl fun k _ => ?_
    exact congrArg₂ (fun a b : EReal => a * b) (act_apply m c t x k) (wt_apply m c t y k)
  · have h0 : (i 0).val < 10240 := (i 0).isLt
    have h1 : (i 1).val < 4096 := (i 1).isLt
    have hlt : (i 0).val / 2048 * 16 + (i 1).val / 256 < cfg0.N := lt_of_lt_of_eq (b := 80) (by omega) N_0.symm
    refine ⟨⟨(i 0).val / 2048 * 16 + (i 1).val / 256, hlt⟩,
      (by decide +kernel : ∀ t : Fin grid0.N, (cfg0.win 2).flush t = true) ⟨_, hlt⟩, ?_⟩
    obtain ⟨-, -, ⟨e0, e1⟩⟩ := idx_facts ⟨(i 0).val / 2048 * 16 + (i 1).val / 256, hlt⟩
    refine (View.set_slice_whole main_v1 (win0_2.rect ⟨_, hlt⟩)).symm ▸ Rect.mem_set_unit.mpr ?_
    intro d
    match d with
    | ⟨0, _⟩ =>
      show win0_2.index ⟨_, hlt⟩ (0 : Fin 2) * 2048 ≤ (i 0).val ∧ (i 0).val < win0_2.index ⟨_, hlt⟩ (0 : Fin 2) * 2048 + 2048
      rw [e0]; dsimp only; omega
    | ⟨1, _⟩ =>
      show win0_2.index ⟨_, hlt⟩ (1 : Fin 2) * 256 ≤ (i 1).val ∧ (i 1).val < win0_2.index ⟨_, hlt⟩ (1 : Fin 2) * 256 + 256
      rw [e1]; dsimp only; omega

/-- The reference runs to an end, leaves its arguments as launched and every counter at zero. -/
theorem reference_frame : Cert.quiescent_InMl1RefIdeal := fun m g _ =>
  (θ_run Cert.InMl1RefIdeal.defs _ _).mono
    (fun r h => ⟨fun c => (h c).2, sem_eq_zero_of_no_sems (by decide) r.2⟩)
    (Cert.InMl1RefIdeal.Value.run (F := Ideal) m g)

/-- Over the extended reals the kernel's result is the reference's, from the same arguments. -/
theorem algebraic : Cert.algebraic_InMl1Ideal_InMl1RefIdeal := by
  intro m g m' g' _ hargs
  refine ⟨fun c => Cert.InMl1RefIdeal.Read.val_main_v4 (F := Ideal) (m (c.tc.loc Cert.InMl1Ideal.main_arg0))
    (m (c.tc.loc Cert.InMl1Ideal.main_arg1)), ?_, ?_⟩
  · exact (θ_run Cert.InMl1Ideal.defs _ _).mono (fun r h c => ⟨(h c).1.trans (array m c), (h c).2⟩)
      (Cert.InMl1Ideal.Value.run_blocks m g)
  · refine (θ_run Cert.InMl1RefIdeal.defs _ _).mono (fun r h c => ⟨(h c).1.trans ?_, (h c).2⟩)
      (Cert.InMl1RefIdeal.Value.run (F := Ideal) m' g')
    obtain ⟨e0, e1⟩ := hargs c
    rw [Cert.InMl1RefIdeal.Read.val_main_v4_eq, e0, e1]

end Cert.InMl1Claim

end
-- ==== Proof.Merge0Claim.lean ====
/- The gated merge of the three branches at layer 0: the array after the run is the reference's, and the claims that follow. -/
module

public import proofs.«01_k».proof.Proof.Gen.Merge0Ideal.Value
public import proofs.«01_k».proof.Proof.Gen.Merge0RefIdeal.Run
public import proofs.«01_k».proof.Proof.Gen.Merge0RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.Merge0Claim

open Cert.Merge0Ideal Cert.Merge0Ideal.Gen Idealize.ShloMosaic Idealize.ShloMosaic.TcCoe Idealize.SL.Sem
open Cert.AttnBlock (off2 off3)

/-- One branch's term: the gate at a logit and its bias, times a row against a column. -/
def term (g b : EReal) (row col : Fin 1024 → EReal) : EReal := Ideal.div 1 (1 + Ideal.exp (-(g + b))) * ∑ k : Fin 1024, row k * col k

/-- The logistic of the payload is the quotient the reference writes. -/
theorem logistic_eq (x : EReal) : Ideal.logistic x = Ideal.div 1 (1 + Ideal.exp (-x)) := rfl

/-- Zero offsets on four axes. -/
theorem off4 : (![0, 0, 0, 0] : Fin 4 → Nat) = fun _ => 0 := funext fun a => by fin_cases a <;> rfl

/-- The load of bias row 0 of a block. -/
theorem bias_r0_1 (x : Vec Ideal S1x3x1x512 .f32) (j : Fin 512) : View.ld x r0_1 (ix4 0 0 0 j) = x (ix4 0 0 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

/-- The load of bias row 1 of a block. -/
theorem bias_r0_4 (x : Vec Ideal S1x3x1x512 .f32) (j : Fin 512) : View.ld x r0_4 (ix4 0 0 0 j) = x (ix4 0 1 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

/-- The load of bias row 2 of a block. -/
theorem bias_r0_5 (x : Vec Ideal S1x3x1x512 .f32) (j : Fin 512) : View.ld x r0_5 (ix4 0 0 0 j) = x (ix4 0 2 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

/-- The body's arithmetic at an index, over the loads. -/
theorem pay_apply (u0 u1 u2 : Vec Ideal S1024x512 .bf16) (b0 b1 b2 : Vec Ideal S1x1x1x512 .f32)
    (a0 a1 a2 : Vec Ideal S1024x1024 .bf16) (w0 w1 w2 : Vec Ideal S1x1024x512 .f32) (i : Fin 1024) (j : Fin 512) :
    k0_pay1 (k0_pay2 u0 b0 a0 w0 u1 b1 a1 w1) (k0_pay3 u2) b2 a2 w2 (ix2 i j)
      = term (u0 (ix2 i j)) (b0 (ix4 0 0 0 j)) (fun k => a0 (ix2 i k)) (fun k => w0 (ix3 0 k j))
        + term (u1 (ix2 i j)) (b1 (ix4 0 0 0 j)) (fun k => a1 (ix2 i k)) (fun k => w1 (ix3 0 k j))
        + term (u2 (ix2 i j)) (b2 (ix4 0 0 0 j)) (fun k => a2 (ix2 i k)) (fun k => w2 (ix3 0 k j)) := by
  simp only [term, ← logistic_eq]
  pointwise [k0_pay1, k0_pay2, k0_pay3]

/-- What a point leaves in its output block: the three branches' terms, added in order. -/
theorem out_apply (x0 x1 x2 : Vec Ideal S1024x1024 .bf16) (x3 x4 x5 : Vec Ideal S1x1024x512 .f32)
    (x6 x7 x8 : Vec Ideal S1024x512 .bf16) (x9 : Vec Ideal S1x3x1x512 .f32) (i : Fin 1024) (j : Fin 512) :
    out0_10 x0 x1 x2 x3 x4 x5 x6 x7 x8 x9 (ix2 i j)
      = term (x6 (ix2 i j)) (x9 (ix4 0 0 0 j)) (fun k => x0 (ix2 i k)) (fun k => x3 (ix3 0 k j))
        + term (x7 (ix2 i j)) (x9 (ix4 0 1 0 j)) (fun k => x1 (ix2 i k)) (fun k => x4 (ix3 0 k j))
        + term (x8 (ix2 i j)) (x9 (ix4 0 2 0 j)) (fun k => x2 (ix2 i k)) (fun k => x5 (ix3 0 k j)) := by
  unfold out0_10
  rw [View.canon_unit_zero off2]
  simp only [View.ld_unit_zero (S := S1024x512) off2, View.ld_unit_zero (S := S1024x1024) off2, View.ld_unit_zero (S := S1x1024x512) off3]
  rw [pay_apply, bias_r0_1, bias_r0_4, bias_r0_5]

/-- The reference at an index: the same three terms. -/
theorem ref_apply (x0 x1 x2 : FVec Ideal S10240x1024 .bf16) (x3 x4 x5 : FVec Ideal S2x1024x4096 .f32) (x6 : FVec Ideal S10240x12288 .bf16) (x7 : FVec Ideal S2x3x4096 .f32) (i : Fin 10240) (j : Fin 4096) :
    Cert.Merge0RefIdeal.Read.val_main_v36 (F := Ideal) x0 x1 x2 x3 x4 x5 x6 x7 (ix2 i j)
      = term (x6 (ix2 i ⟨j.val, by omega⟩)) (x7 (ix3 0 0 j)) (fun k => x0 (ix2 i k)) (fun k => x3 (ix3 0 k j))
        + term (x6 (ix2 i ⟨4096 + j.val, by omega⟩)) (x7 (ix3 0 1 j)) (fun k => x1 (ix2 i k)) (fun k => x4 (ix3 0 k j))
        + term (x6 (ix2 i ⟨8192 + j.val, by omega⟩)) (x7 (ix3 0 2 j)) (fun k => x2 (ix2 i k)) (fun k => x5 (ix3 0 k j)) := by
  simp only [term]
  pointwise [Cert.Merge0RefIdeal.Read.val_main_v36, Cert.Merge0RefIdeal.Read.val_main_v35, Cert.Merge0RefIdeal.Read.val_main_v34, Cert.Merge0RefIdeal.Read.val_main_v33, Cert.Merge0RefIdeal.Read.val_main_v32, Cert.Merge0RefIdeal.Read.val_main_v31, Cert.Merge0RefIdeal.Read.val_main_v30, Cert.Merge0RefIdeal.Read.val_main_v29, Cert.Merge0RefIdeal.Read.val_main_v28, Cert.Merge0RefIdeal.Read.val_main_v27, Cert.Merge0RefIdeal.Read.val_main_v26, Cert.Merge0RefIdeal.Read.val_main_v25, Cert.Merge0RefIdeal.Read.val_main_v24, Cert.Merge0RefIdeal.Read.val_main_v23, Cert.Merge0RefIdeal.Read.val_main_v22, Cert.Merge0RefIdeal.Read.val_main_v21, Cert.Merge0RefIdeal.Read.val_main_v20, Cert.Merge0RefIdeal.Read.val_main_v19, Cert.Merge0RefIdeal.Read.val_main_v18, Cert.Merge0RefIdeal.Read.val_main_v17, Cert.Merge0RefIdeal.Read.val_main_v16, Cert.Merge0RefIdeal.Read.val_main_v15, Cert.Merge0RefIdeal.Read.val_main_v14, Cert.Merge0RefIdeal.Read.val_main_v13, Cert.Merge0RefIdeal.Read.val_main_v12, Cert.Merge0RefIdeal.Read.val_main_v11, Cert.Merge0RefIdeal.Read.val_main_cst_0, Cert.Merge0RefIdeal.Read.val_main_v10, Cert.Merge0RefIdeal.Read.val_main_v9, Cert.Merge0RefIdeal.Read.val_main_cst, Cert.Merge0RefIdeal.Read.val_main_v8, Cert.Merge0RefIdeal.Read.val_main_v7, Cert.Merge0RefIdeal.Read.val_main_v6, Cert.Merge0RefIdeal.Read.val_main_v5, Cert.Merge0RefIdeal.Read.val_main_v4, Cert.Merge0RefIdeal.Read.val_main_v3, Cert.Merge0RefIdeal.Read.val_main_v2, Cert.Merge0RefIdeal.Read.val_main_v1, Cert.Merge0RefIdeal.Read.val_main_v0]

/-- Where each window's block sits at each point. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 3) = 0 ∧ win0_3.index t (1 : Fin 3) = 0 ∧ win0_3.index t (2 : Fin 3) = t.val % 8)
    ∧ (win0_4.index t (0 : Fin 3) = 0 ∧ win0_4.index t (1 : Fin 3) = 0 ∧ win0_4.index t (2 : Fin 3) = t.val % 8)
    ∧ (win0_5.index t (0 : Fin 3) = 0 ∧ win0_5.index t (1 : Fin 3) = 0 ∧ win0_5.index t (2 : Fin 3) = t.val % 8)
    ∧ (win0_6.index t (0 : Fin 2) = t.val / 8 ∧ win0_6.index t (1 : Fin 2) = 0 + t.val % 8)
    ∧ (win0_7.index t (0 : Fin 2) = t.val / 8 ∧ win0_7.index t (1 : Fin 2) = 8 + t.val % 8)
    ∧ (win0_8.index t (0 : Fin 2) = t.val / 8 ∧ win0_8.index t (1 : Fin 2) = 16 + t.val % 8)
    ∧ (win0_9.index t (0 : Fin 4) = 0 ∧ win0_9.index t (1 : Fin 4) = 0 ∧ win0_9.index t (2 : Fin 4) = 0 ∧ win0_9.index t (3 : Fin 4) = t.val % 8)
    ∧ (win0_10.index t (0 : Fin 2) = t.val / 8 ∧ win0_10.index t (1 : Fin 2) = t.val % 8) :=
  (by decide +kernel : ∀ t : Fin grid0.N, _)

variable (m : (ℓ : Loc nD τ sig) → Buf (Elt Ideal) ℓ)

/-- The row of the result that row `x` of point `t` is. -/
abbrev rowOf (t : Fin cfg0.N) (x : Fin 1024) : Fin 10240 :=
  ⟨t.val / 8 * 1024 + x.val, by have := t.isLt; have hN : cfg0.N = 80 := N_0; omega⟩
/-- The column of the result that column `y` of point `t` is. -/
abbrev colOf (t : Fin cfg0.N) (y : Fin 512) : Fin 4096 := ⟨t.val % 8 * 512 + y.val, by omega⟩

/-- Branch 0's rows of a point. -/
theorem act0_apply (c : Dev nD) (t : Fin cfg0.N) (x : Fin 1024) (k : Fin 1024) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x1024.Idx) := by
    funext a; apply Fin.ext
    match a with
    | ⟨0, _⟩ => show win0_0.index t (0 : Fin 2) * 1024 + 1 * x.val = t.val / 8 * 1024 + x.val; omega
    | ⟨1, _⟩ => show win0_0.index t (1 : Fin 2) * 1024 + 1 * k.val = k.val; omega
  rw [V_main_arg0, hix]

/-- Branch 1's rows of a point. -/
theorem act1_apply (c : Dev nD) (t : Fin cfg0.N) (x : Fin 1024) (k : Fin 1024) :
    iblk m c 1 t (ix2 x k) = m ((c : Thread nD τ).loc main_arg1) (ix2 (rowOf t x) k) := by
  obtain ⟨-, ⟨e0, e1⟩, -⟩ := idx_facts t
  show V m c main_arg1 (((cfg0.win 1).blk t).view.emb (ix2 x k)) = _
  have hix : ((cfg0.win 1).blk t).view.emb (ix2 x k) = (ix2 (rowOf t x) k : S10240x1024.Idx) := by
    funext a; apply Fin.ext
    match a with
    | ⟨0, _⟩ => show win0_1.index t (0 : Fin 2) * 1024 + 1 * x.val = t.val / 8 * 1024 + x.val; omega
    | ⟨1, _⟩ => show win0_1.index t (1 : Fin 2) * 1024 + 1 * k.val = k.val; omega
  rw [V_main_arg1, hix]

/-- Branch 2's rows of a point. -/
theorem act2_apply (c : Dev nD) (t : Fin cfg0.N) (x : Fin 1024) (k : Fin 1024) :
    iblk m c 2 t (ix2 x k) = m ((c : Thread nD τ).loc main_arg2) (ix2 (rowOf t x) k) := by
  obtain ⟨-, -, ⟨e0, e1⟩, -⟩ := idx_facts t
  show V m c main_arg2 (((cfg0.win 2).blk t).view.emb (ix2 x k)) = _
  have hix : ((cfg0.win 2).blk t).view.emb (ix2 x k) = (ix2 (rowOf t x) k : S10240x1024.Idx) := by
    funext a; apply Fin.ext
    match a with
    | ⟨0, _⟩ => show win0_2.index t (0 : Fin 2) * 1024 + 1 * x.val = t.val / 8 * 1024 + x.val; omega
    | ⟨1, _⟩ => show win0_2.index t (1 : Fin 2) * 1024 + 1 * k.val = k.val; omega
  rw [V_main_arg2, hix]

/-- Branch 0's weights of a point. -/
theorem wt0_apply (c : Dev nD) (t : Fin cfg0.N) (y : Fin 512) (k : Fin 1024) :
    iblk m c 3 t (ix3 0 k y) = m ((c : Thread nD τ).loc main_arg3) (ix3 0 k (colOf t y)) := by
  obtain ⟨-, -, -, ⟨e0, e1, e2⟩, -⟩ := idx_facts t
  show V m c main_arg3 (((cfg0.win 3).blk t).view.emb (ix3 0 k y)) = _
  have hix : ((cfg0.win 3).blk t).view.emb (ix3 0 k y) = (ix3 0 k (colOf t y) : S2x1024x4096.Idx) := by
    funext a; apply Fin.ext
    match a with
    | ⟨0, _⟩ => show win0_3.index t (0 : Fin 3) * 1 + 1 * 0 = 0; omega
    | ⟨1, _⟩ => show win0_3.index t (1 : Fin 3) * 1024 + 1 * k.val = k.val; omega
    | ⟨2, _⟩ => show win0_3.index t (2 : Fin 3) * 512 + 1 * y.val = t.val % 8 * 512 + y.val; omega
  rw [V_main_arg3, hix]

/-- Branch 1's weights of a point. -/
theorem wt1_apply (c : Dev nD) (t : Fin cfg0.N) (y : Fin 512) (k : Fin 1024) :
    iblk m c 4 t (ix3 0 k y) = m ((c : Thread nD τ).loc main_arg4) (ix3 0 k (colOf t y)) := by
  obtain ⟨-, -, -, -, ⟨e0, e1, e2⟩, -⟩ := idx_facts t
  show V m c main_arg4 (((cfg0.win 4).blk t).view.emb (ix3 0 k y)) = _
  have hix : ((cfg0.win 4).blk t).view.emb (ix3 0 k y) = (ix3 0 k (colOf t y) : S2x1024x4096.Idx) := by
    funext a; apply Fin.ext
    match a with
    | ⟨0, _⟩ => show win0_4.index t (0 : Fin 3) * 1 + 1 * 0 = 0; omega
    | ⟨1, _⟩ => show win0_4.index t (1 : Fin 3) * 1024 + 1 * k.val = k.val; omega
    | ⟨2, _⟩ => show win0_4.index t (2 : Fin 3) * 512 + 1 * y.val = t.val % 8 * 512 + y.val; omega
  rw [V_main_arg4, hix]

/-- Branch 2's weights of a point. -/
theorem wt2_apply (c : Dev nD) (t : Fin cfg0.N) (y : Fin 512) (k : Fin 1024) :
    iblk m c 5 t (ix3 0 k y) = m ((c : Thread nD τ).loc main_arg5) (ix3 0 k (colOf t y)) := by
  obtain ⟨-, -, -, -, -, ⟨e0, e1, e2⟩, -⟩ := idx_facts t
  show V m c main_arg5 (((cfg0.win 5).blk t).view.emb (ix3 0 k y)) = _
  have hix : ((cfg0.win 5).blk t).view.emb (ix3 0 k y) = (ix3 0 k (colOf t y) : S2x1024x4096.Idx) := by
    funext a; apply Fin.ext
    match a with
    | ⟨0, _⟩ => show win0_5.index t (0 : Fin 3) * 1 + 1 * 0 = 0; omega
    | ⟨1, _⟩ => show win0_5.index t (1 : Fin 3) * 1024 + 1 * k.val = k.val; omega
    | ⟨2, _⟩ => show win0_5.index t (2 : Fin 3) * 512 + 1 * y.val = t.val % 8 * 512 + y.val; omega
  rw [V_main_arg5, hix]

/-- Branch 0's gate logits of a point. -/
theorem gl0_apply (c : Dev nD) (t : Fin cfg0.N) (x : Fin 1024) (y : Fin 512) :
    iblk m c 6 t (ix2 x y) = m ((c : Thread nD τ).loc main_arg6) (ix2 (rowOf t x) ⟨(colOf t y).val, by omega⟩) := by
  obtain ⟨-, -, -, -, -, -, ⟨e0, e1⟩, -⟩ := idx_facts t
  show V m c main_arg6 (((cfg0.win 6).blk t).view.emb (ix2 x y)) = _
  have hix : ((cfg0.win 6).blk t).view.emb (ix2 x y) = (ix2 (rowOf t x) ⟨(colOf t y).val, by omega⟩ : S10240x12288.Idx) := by
    funext a; apply Fin.ext
    match a with
    | ⟨0, _⟩ => show win0_6.index t (0 : Fin 2) * 1024 + 1 * x.val = t.val / 8 * 1024 + x.val; omega
    | ⟨1, _⟩ => show win0_6.index t (1 : Fin 2) * 512 + 1 * y.val = t.val % 8 * 512 + y.val; omega
  rw [V_main_arg6, hix]

/-- Branch 1's gate logits of a point. -/
theorem gl1_apply (c : Dev nD) (t : Fin cfg0.N) (x : Fin 1024) (y : Fin 512) :
    iblk m c 7 t (ix2 x y) = m ((c : Thread nD τ).loc main_arg6) (ix2 (rowOf t x) ⟨4096 + (colOf t y).val, by omega⟩) := by
  obtain ⟨-, -, -, -, -, -, -, ⟨e0, e1⟩, -⟩ := idx_facts t
  show V m c main_arg6 (((cfg0.win 7).blk t).view.emb (ix2 x y)) = _
  have hix : ((cfg0.win 7).blk t).view.emb (ix2 x y) = (ix2 (rowOf t x) ⟨4096 + (colOf t y).val, by omega⟩ : S10240x12288.Idx) := by
    funext a; apply Fin.ext
    match a with
    | ⟨0, _⟩ => show win0_7.index t (0 : Fin 2) * 1024 + 1 * x.val = t.val / 8 * 1024 + x.val; omega
    | ⟨1, _⟩ => show win0_7.index t (1 : Fin 2) * 512 + 1 * y.val = 4096 + (t.val % 8 * 512 + y.val); omega
  rw [V_main_arg6, hix]

/-- Branch 2's gate logits of a point. -/
theorem gl2_apply (c : Dev nD) (t : Fin cfg0.N) (x : Fin 1024) (y : Fin 512) :
    iblk m c 8 t (ix2 x y) = m ((c : Thread nD τ).loc main_arg6) (ix2 (rowOf t x) ⟨8192 + (colOf t y).val, by omega⟩) := by
  obtain ⟨-, -, -, -, -, -, -, -, ⟨e0, e1⟩, -⟩ := idx_facts t
  show V m c main_arg6 (((cfg0.win 8).blk t).view.emb (ix2 x y)) = _
  have hix : ((cfg0.win 8).blk t).view.emb (ix2 x y) = (ix2 (rowOf t x) ⟨8192 + (colOf t y).val, by omega⟩ : S10240x12288.Idx) := by
    funext a; apply Fin.ext
    match a with
    | ⟨0, _⟩ => show win0_8.index t (0 : Fin 2) * 1024 + 1 * x.val = t.val / 8 * 1024 + x.val; omega
    | ⟨1, _⟩ => show win0_8.index t (1 : Fin 2) * 512 + 1 * y.val = 8192 + (t.val % 8 * 512 + y.val); omega
  rw [V_main_arg6, hix]

/-- The biases as the region finds them: the array with an axis of one put in. -/
theorem V_bias (c : Dev nD) : V m c main_v0 = shapeCast S2x3x1x4096 (m ((c : Thread nD τ).loc main_arg7)) shapeCasts_S2x3x4096_S2x3x1x4096 := by
  show StableHlo.after hostOps0 (fun b => m (c, b)) main_v0 = _
  unfold hostOps0
  after_results_simp <;> rfl

/-- The biases of a point. -/
theorem bias_apply (c : Dev nD) (t : Fin cfg0.N) (r : Fin 3) (y : Fin 512) :
    iblk m c 9 t (ix4 0 r 0 y) = m ((c : Thread nD τ).loc main_arg7) (ix3 0 r (colOf t y)) := by
  obtain ⟨-, -, -, -, -, -, -, -, -, ⟨e0, e1, e2, e3⟩, -⟩ := idx_facts t
  show V m c main_v0 (((cfg0.win 9).blk t).view.emb (ix4 0 r 0 y)) = _
  have hix : ((cfg0.win 9).blk t).view.emb (ix4 0 r 0 y) = (ix4 0 r 0 (colOf t y) : S2x3x1x4096.Idx) := by
    funext a; apply Fin.ext
    match a with
    | ⟨0, _⟩ => show win0_9.index t (0 : Fin 4) * 1 + 1 * 0 = 0; omega
    | ⟨1, _⟩ => show win0_9.index t (1 : Fin 4) * 3 + 1 * r.val = r.val; omega
    | ⟨2, _⟩ => show win0_9.index t (2 : Fin 4) * 1 + 1 * 0 = 0; omega
    | ⟨3, _⟩ => show win0_9.index t (3 : Fin 4) * 512 + 1 * y.val = t.val % 8 * 512 + y.val; omega
  rw [V_bias, hix]
  generalize m ((c : Thread nD τ).loc main_arg7) = z
  refine shapeCast_apply _ _ _ (ix3 0 r (colOf t y)) ?_
  rw [Shape.rowMajor_val_three, Shape.rowMajor_val_four]
  show (0 * 3 + r.val) * 4096 + (colOf t y).val = ((0 * 3 + r.val) * 1 + 0) * 4096 + (colOf t y).val
  omega

/-- THE ARRAY AFTER THE RUN is the reference's function of the arguments. -/
theorem array (c : Dev nD) : (dats m 0 c).arrAt 10 cfg0.N
    = Cert.Merge0RefIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 10 _ (fun t _ => ?_) fun i => ?_
  · rw [Cert.Merge0Ideal.Value.flushed10]
    funext z
    obtain ⟨x, y, rfl⟩ : ∃ (x : Fin 1024) (y : Fin 512), z = ix2 x y := ⟨z 0, z 1, eq_ix2 z⟩
    show out0_10 _ _ _ _ _ _ _ _ _ _ (ix2 x y) = Cert.Merge0RefIdeal.Read.val_main_v36 (F := Ideal) _ _ _ _ _ _ _ _ (((cfg0.win 10).blk t).view.emb (ix2 x y))
    obtain ⟨-, -, -, -, -, -, -, -, -, -, ⟨e0, e1⟩⟩ := idx_facts t
    have hy : ((cfg0.win 10).blk t).view.emb (ix2 x y) = (ix2 (rowOf t x) (colOf t y) : S10240x4096.Idx) := by
      funext d; apply Fin.ext
      match d with
      | ⟨0, _⟩ => show win0_10.index t (0 : Fin 2) * 1024 + 1 * x.val = t.val / 8 * 1024 + x.val; omega
      | ⟨1, _⟩ => show win0_10.index t (1 : Fin 2) * 512 + 1 * y.val = t.val % 8 * 512 + y.val; omega
    rw [hy]
    refine (out_apply _ _ _ _ _ _ _ _ _ _ x y).trans (Eq.trans ?_ (ref_apply _ _ _ _ _ _ _ _ (rowOf t x) (colOf t y)).symm)
    refine congrArg₂ (fun a b : EReal => a + b) (congrArg₂ (fun a b : EReal => a + b) ?_ ?_) ?_
    · rw [gl0_apply m c t x y, bias_apply m c t 0 y]
      exact congrArg₂ (term _ _) (funext fun k => act0_apply m c t x k) (funext fun k => wt0_apply m c t y k)
    · rw [gl1_apply m c t x y, bias_apply m c t 1 y]
      exact congrArg₂ (term _ _) (funext fun k => act1_apply m c t x k) (funext fun k => wt1_apply m c t y k)
    · rw [gl2_apply m c t x y, bias_apply m c t 2 y]
      exact congrArg₂ (term _ _) (funext fun k => act2_apply m c t x k) (funext fun k => wt2_apply m c t y k)
  · have h0 : (i 0).val < 10240 := (i 0).isLt
    have h1 : (i 1).val < 4096 := (i 1).isLt
    have hlt : (i 0).val / 1024 * 8 + (i 1).val / 512 < cfg0.N := lt_of_lt_of_eq (b := 80) (by omega) N_0.symm
    refine ⟨⟨(i 0).val / 1024 * 8 + (i 1).val / 512, hlt⟩, (by decide +kernel : ∀ t : Fin grid0.N, (cfg0.win 10).flush t = true) ⟨_, hlt⟩, ?_⟩
    obtain ⟨-, -, -, -, -, -, -, -, -, -, ⟨e0, e1⟩⟩ := idx_facts ⟨(i 0).val / 1024 * 8 + (i 1).val / 512, hlt⟩
    refine (View.set_slice_whole main_v1 (win0_10.rect ⟨_, hlt⟩)).symm ▸ Rect.mem_set_unit.mpr ?_
    intro d
    match d with
    | ⟨0, _⟩ =>
      show win0_10.index ⟨_, hlt⟩ (0 : Fin 2) * 1024 ≤ (i 0).val ∧ (i 0).val < win0_10.index ⟨_, hlt⟩ (0 : Fin 2) * 1024 + 1024
      rw [e0]; dsimp only; omega
    | ⟨1, _⟩ =>
      show win0_10.index ⟨_, hlt⟩ (1 : Fin 2) * 512 ≤ (i 1).val ∧ (i 1).val < win0_10.index ⟨_, hlt⟩ (1 : Fin 2) * 512 + 512
      rw [e1]; dsimp only; omega

/-- The reference runs to an end, leaves its arguments as launched and every counter at zero. -/
theorem reference_frame : Cert.quiescent_Merge0RefIdeal := fun m g _ =>
  (θ_run Cert.Merge0RefIdeal.defs _ _).mono
    (fun r h => ⟨fun c => (h c).2, sem_eq_zero_of_no_sems (by decide) r.2⟩)
    (Cert.Merge0RefIdeal.Value.run (F := Ideal) m g)

/-- Over the extended reals the kernel's result is the reference's, from the same arguments. -/
theorem algebraic : Cert.algebraic_Merge0Ideal_Merge0RefIdeal := by
  intro m g m' g' _ hargs
  refine ⟨fun c => Cert.Merge0RefIdeal.Read.val_main_v36 (F := Ideal) (m (c.tc.loc Cert.Merge0Ideal.main_arg0)) (m (c.tc.loc Cert.Merge0Ideal.main_arg1)) (m (c.tc.loc Cert.Merge0Ideal.main_arg2)) (m (c.tc.loc Cert.Merge0Ideal.main_arg3)) (m (c.tc.loc Cert.Merge0Ideal.main_arg4)) (m (c.tc.loc Cert.Merge0Ideal.main_arg5)) (m (c.tc.loc Cert.Merge0Ideal.main_arg6)) (m (c.tc.loc Cert.Merge0Ideal.main_arg7)), ?_, ?_⟩
  · exact (θ_run Cert.Merge0Ideal.defs _ _).mono (fun r h c => ⟨(h c).1.trans (array m c), (h c).2⟩)
      (Cert.Merge0Ideal.Value.run_blocks m g)
  · refine (θ_run Cert.Merge0RefIdeal.defs _ _).mono (fun r h c => ⟨(h c).1.trans ?_, (h c).2⟩)
      (Cert.Merge0RefIdeal.Value.run (F := Ideal) m' g')
    obtain ⟨e0, e1, e2, e3, e4, e5, e6, e7⟩ := hargs c
    rw [Cert.Merge0RefIdeal.Read.val_main_v36_eq, e0, e1, e2, e3, e4, e5, e6, e7]

end Cert.Merge0Claim

end
-- ==== Proof.Merge1Claim.lean ====
/- The gated merge of the three branches at layer 1: the array after the run is the reference's, and the claims that follow. -/
module

public import proofs.«01_k».proof.Proof.Gen.Merge1Ideal.Value
public import proofs.«01_k».proof.Proof.Gen.Merge1RefIdeal.Run
public import proofs.«01_k».proof.Proof.Gen.Merge1RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.Merge1Claim

open Cert.Merge1Ideal Cert.Merge1Ideal.Gen Idealize.ShloMosaic Idealize.ShloMosaic.TcCoe Idealize.SL.Sem
open Cert.AttnBlock (off2 off3)

/-- One branch's term: the gate at a logit and its bias, times a row against a column. -/
def term (g b : EReal) (row col : Fin 1024 → EReal) : EReal := Ideal.div 1 (1 + Ideal.exp (-(g + b))) * ∑ k : Fin 1024, row k * col k

/-- The logistic of the payload is the quotient the reference writes. -/
theorem logistic_eq (x : EReal) : Ideal.logistic x = Ideal.div 1 (1 + Ideal.exp (-x)) := rfl

/-- Zero offsets on four axes. -/
theorem off4 : (![0, 0, 0, 0] : Fin 4 → Nat) = fun _ => 0 := funext fun a => by fin_cases a <;> rfl

/-- The load of bias row 0 of a block. -/
theorem bias_r0_1 (x : Vec Ideal S1x3x1x512 .f32) (j : Fin 512) : View.ld x r0_1 (ix4 0 0 0 j) = x (ix4 0 0 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

/-- The load of bias row 1 of a block. -/
theorem bias_r0_4 (x : Vec Ideal S1x3x1x512 .f32) (j : Fin 512) : View.ld x r0_4 (ix4 0 0 0 j) = x (ix4 0 1 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

/-- The load of bias row 2 of a block. -/
theorem bias_r0_5 (x : Vec Ideal S1x3x1x512 .f32) (j : Fin 512) : View.ld x r0_5 (ix4 0 0 0 j) = x (ix4 0 2 0 j) := by
  refine congrArg x (funext fun a => Fin.ext ?_)
  match a with
  | ⟨0, _⟩ => rfl
  | ⟨1, _⟩ => rfl
  | ⟨2, _⟩ => rfl
  | ⟨3, _⟩ => show 0 + 1 * j.val = j.val; omega

/-- The body's arithmetic at an index, over the loads. -/
theorem pay_apply (u0 u1 u2 : Vec Ideal S1024x512 .bf16) (b0 b1 b2 : Vec Ideal S1x1x1x512 .f32)
    (a0 a1 a2 : Vec Ideal S1024x1024 .bf16) (w0 w1 w2 : Vec Ideal S1x1024x512 .f32) (i : Fin 1024) (j : Fin 512) :
    k0_pay1 (k0_pay2 u0 b0 a0 w0 u1 b1 a1 w1) (k0_pay3 u2) b2 a2 w2 (ix2 i j)
      = term (u0 (ix2 i j)) (b0 (ix4 0 0 0 j)) (fun k => a0 (ix2 i k)) (fun k => w0 (ix3 0 k j))
        + term (u1 (ix2 i j)) (b1 (ix4 0 0 0 j)) (fun k => a1 (ix2 i k)) (fun k => w1 (ix3 0 k j))
        + term (u2 (ix2 i j)) (b2 (ix4 0 0 0 j)) (fun k => a2 (ix2 i k)) (fun k => w2 (ix3 0 k j)) := by
  simp only [term, ← logistic_eq]
  pointwise [k0_pay1, k0_pay2, k0_pay3]

/-- What a point leaves in its output block: the three branches' terms, added in order. -/
theorem out_apply (x0 x1 x2 : Vec Ideal S1024x1024 .bf16) (x3 x4 x5 : Vec Ideal S1x1024x512 .f32)
    (x6 x7 x8 : Vec Ideal S1024x512 .bf16) (x9 : Vec Ideal S1x3x1x512 .f32) (i : Fin 1024) (j : Fin 512) :
    out0_10 x0 x1 x2 x3 x4 x5 x6 x7 x8 x9 (ix2 i j)
      = term (x6 (ix2 i j)) (x9 (ix4 0 0 0 j)) (fun k => x0 (ix2 i k)) (fun k => x3 (ix3 0 k j))
        + term (x7 (ix2 i j)) (x9 (ix4 0 1 0 j)) (fun k => x1 (ix2 i k)) (fun k => x4 (ix3 0 k j))
        + term (x8 (ix2 i j)) (x9 (ix4 0 2 0 j)) (fun k => x2 (ix2 i k)) (fun k => x5 (ix3 0 k j)) := by
  unfold out0_10
  rw [View.canon_unit_zero off2]
  simp only [View.ld_unit_zero (S := S1024x512) off2, View.ld_unit_zero (S := S1024x1024) off2, View.ld_unit_zero (S := S1x1024x512) off3]
  rw [pay_apply, bias_r0_1, bias_r0_4, bias_r0_5]

/-- The reference at an index: the same three terms. -/
theorem ref_apply (x0 x1 x2 : FVec Ideal S10240x1024 .bf16) (x3 x4 x5 : FVec Ideal S2x1024x4096 .f32) (x6 : FVec Ideal S10240x12288 .bf16) (x7 : FVec Ideal S2x3x4096 .f32) (i : Fin 10240) (j : Fin 4096) :
    Cert.Merge1RefIdeal.Read.val_main_v36 (F := Ideal) x0 x1 x2 x3 x4 x5 x6 x7 (ix2 i j)
      = term (x6 (ix2 i ⟨j.val, by omega⟩)) (x7 (ix3 1 0 j)) (fun k => x0 (ix2 i k)) (fun k => x3 (ix3 1 k j))
        + term (x6 (ix2 i ⟨4096 + j.val, by omega⟩)) (x7 (ix3 1 1 j)) (fun k => x1 (ix2 i k)) (fun k => x4 (ix3 1 k j))
        + term (x6 (ix2 i ⟨8192 + j.val, by omega⟩)) (x7 (ix3 1 2 j)) (fun k => x2 (ix2 i k)) (fun k => x5 (ix3 1 k j)) := by
  simp only [term]
  pointwise [Cert.Merge1RefIdeal.Read.val_main_v36, Cert.Merge1RefIdeal.Read.val_main_v35, Cert.Merge1RefIdeal.Read.val_main_v34, Cert.Merge1RefIdeal.Read.val_main_v33, Cert.Merge1RefIdeal.Read.val_main_v32, Cert.Merge1RefIdeal.Read.val_main_v31, Cert.Merge1RefIdeal.Read.val_main_v30, Cert.Merge1RefIdeal.Read.val_main_v29, Cert.Merge1RefIdeal.Read.val_main_v28, Cert.Merge1RefIdeal.Read.val_main_v27, Cert.Merge1RefIdeal.Read.val_main_v26, Cert.Merge1RefIdeal.Read.val_main_v25, Cert.Merge1RefIdeal.Read.val_main_v24, Cert.Merge1RefIdeal.Read.val_main_v23, Cert.Merge1RefIdeal.Read.val_main_v22, Cert.Merge1RefIdeal.Read.val_main_v21, Cert.Merge1RefIdeal.Read.val_main_v20, Cert.Merge1RefIdeal.Read.val_main_v19, Cert.Merge1RefIdeal.Read.val_main_v18, Cert.Merge1RefIdeal.Read.val_main_v17, Cert.Merge1RefIdeal.Read.val_main_v16, Cert.Merge1RefIdeal.Read.val_main_v15, Cert.Merge1RefIdeal.Read.val_main_v14, Cert.Merge1RefIdeal.Read.val_main_v13, Cert.Merge1RefIdeal.Read.val_main_v12, Cert.Merge1RefIdeal.Read.val_main_v11, Cert.Merge1RefIdeal.Read.val_main_cst_0, Cert.Merge1RefIdeal.Read.val_main_v10, Cert.Merge1RefIdeal.Read.val_main_v9, Cert.Merge1RefIdeal.Read.val_main_cst, Cert.Merge1RefIdeal.Read.val_main_v8, Cert.Merge1RefIdeal.Read.val_main_v7, Cert.Merge1RefIdeal.Read.val_main_v6, Cert.Merge1RefIdeal.Read.val_main_v5, Cert.Merge1RefIdeal.Read.val_main_v4, Cert.Merge1RefIdeal.Read.val_main_v3, Cert.Merge1RefIdeal.Read.val_main_v2, Cert.Merge1RefIdeal.Read.val_main_v1, Cert.Merge1RefIdeal.Read.val_main_v0]

/-- Where each window's block sits at each point. -/
theorem idx_facts : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 2) = t.val / 8 ∧ win0_2.index t (1 : Fin 2) = 0)
    ∧ (win0_3.index t (0 : Fin 3) = 1 ∧ win0_3.index t (1 : Fin 3) = 0 ∧ win0_3.index t (2 : Fin 3) = t.val % 8)
    ∧ (win0_4.index t (0 : Fin 3) = 1 ∧ win0_4.index t (1 : Fin 3) = 0 ∧ win0_4.index t (2 : Fin 3) = t.val % 8)
    ∧ (win0_5.index t (0 : Fin 3) = 1 ∧ win0_5.index t (1 : Fin 3) = 0 ∧ win0_5.index t (2 : Fin 3) = t.val % 8)
    ∧ (win0_6.index t (0 : Fin 2) = t.val / 8 ∧ win0_6.index t (1 : Fin 2) = 0 + t.val % 8)
    ∧ (win0_7.index t (0 : Fin 2) = t.val / 8 ∧ win0_7.index t (1 : Fin 2) = 8 + t.val % 8)
    ∧ (win0_8.index t (0 : Fin 2) = t.val / 8 ∧ win0_8.index t (1 : Fin 2) = 16 + t.val % 8)
    ∧ (win0_9.index t (0 : Fin 4) = 1 ∧ win0_9.index t (1 : Fin 4) = 0 ∧ win0_9.index t (2 : Fin 4) = 0 ∧ win0_9.index t (3 : Fin 4) = t.val % 8)
    ∧ (win0_10.index t (0 : Fin 2) = t.val / 8 ∧ win0_10.index t (1 : Fin 2) = t.val % 8) :=
  (by decide +kernel : ∀ t : Fin grid0.N, _)

variable (m : (ℓ : Loc nD τ sig) → Buf (Elt Ideal) ℓ)

/-- The row of the result that row `x` of point `t` is. -/
abbrev rowOf (t : Fin cfg0.N) (x : Fin 1024) : Fin 10240 :=
  ⟨t.val / 8 * 1024 + x.val, by have := t.isLt; have hN : cfg0.N = 80 := N_0; omega⟩
/-- The column of the result that column `y` of point `t` is. -/
abbrev colOf (t : Fin cfg0.N) (y : Fin 512) : Fin 4096 := ⟨t.val % 8 * 512 + y.val, by omega⟩

/-- Branch 0's rows of a point. -/
theorem act0_apply (c : Dev nD) (t : Fin cfg0.N) (x : Fin 1024) (k : Fin 1024) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x1024.Idx) := by
    funext a; apply Fin.ext
    match a with
    | ⟨0, _⟩ => show win0_0.index t (0 : Fin 2) * 1024 + 1 * x.val = t.val / 8 * 1024 + x.val; omega
    | ⟨1, _⟩ => show win0_0.index t (1 : Fin 2) * 1024 + 1 * k.val = k.val; omega
  rw [V_main_arg0, hix]

/-- Branch 1's rows of a point. -/
theorem act1_apply (c : Dev nD) (t : Fin cfg0.N) (x : Fin 1024) (k : Fin 1024) :
    iblk m c 1 t (ix2 x k) = m ((c : Thread nD τ).loc main_arg1) (ix2 (rowOf t x) k) := by
  obtain ⟨-, ⟨e0, e1⟩, -⟩ := idx_facts t
  show V m c main_arg1 (((cfg0.win 1).blk t).view.emb (ix2 x k)) = _
  have hix : ((cfg0.win 1).blk t).view.emb (ix2 x k) = (ix2 (rowOf t x) k : S10240x1024.Idx) := by
    funext a; apply Fin.ext
    match a with
    | ⟨0, _⟩ => show win0_1.index t (0 : Fin 2) * 1024 + 1 * x.val = t.val / 8 * 1024 + x.val; omega
    | ⟨1, _⟩ => show win0_1.index t (1 : Fin 2) * 1024 + 1 * k.val = k.val; omega
  rw [V_main_arg1, hix]

/-- Branch 2's rows of a point. -/
theorem act2_apply (c : Dev nD) (t : Fin cfg0.N) (x : Fin 1024) (k : Fin 1024) :
    iblk m c 2 t (ix2 x k) = m ((c : Thread nD τ).loc main_arg2) (ix2 (rowOf t x) k) := by
  obtain ⟨-, -, ⟨e0, e1⟩, -⟩ := idx_facts t
  show V m c main_arg2 (((cfg0.win 2).blk t).view.emb (ix2 x k)) = _
  have hix : ((cfg0.win 2).blk t).view.emb (ix2 x k) = (ix2 (rowOf t x) k : S10240x1024.Idx) := by
    funext a; apply Fin.ext
    match a with
    | ⟨0, _⟩ => show win0_2.index t (0 : Fin 2) * 1024 + 1 * x.val = t.val / 8 * 1024 + x.val; omega
    | ⟨1, _⟩ => show win0_2.index t (1 : Fin 2) * 1024 + 1 * k.val = k.val; omega
  rw [V_main_arg2, hix]

/-- Branch 0's weights of a point. -/
theorem wt0_apply (c : Dev nD) (t : Fin cfg0.N) (y : Fin 512) (k : Fin 1024) :
    iblk m c 3 t (ix3 0 k y) = m ((c : Thread nD τ).loc main_arg3) (ix3 1 k (colOf t y)) := by
  obtain ⟨-, -, -, ⟨e0, e1, e2⟩, -⟩ := idx_facts t
  show V m c main_arg3 (((cfg0.win 3).blk t).view.emb (ix3 0 k y)) = _
  have hix : ((cfg0.win 3).blk t).view.emb (ix3 0 k y) = (ix3 1 k (colOf t y) : S2x1024x4096.Idx) := by
    funext a; apply Fin.ext
    match a with
    | ⟨0, _⟩ => show win0_3.index t (0 : Fin 3) * 1 + 1 * 0 = 1; omega
    | ⟨1, _⟩ => show win0_3.index t (1 : Fin 3) * 1024 + 1 * k.val = k.val; omega
    | ⟨2, _⟩ => show win0_3.index t (2 : Fin 3) * 512 + 1 * y.val = t.val % 8 * 512 + y.val; omega
  rw [V_main_arg3, hix]

/-- Branch 1's weights of a point. -/
theorem wt1_apply (c : Dev nD) (t : Fin cfg0.N) (y : Fin 512) (k : Fin 1024) :
    iblk m c 4 t (ix3 0 k y) = m ((c : Thread nD τ).loc main_arg4) (ix3 1 k (colOf t y)) := by
  obtain ⟨-, -, -, -, ⟨e0, e1, e2⟩, -⟩ := idx_facts t
  show V m c main_arg4 (((cfg0.win 4).blk t).view.emb (ix3 0 k y)) = _
  have hix : ((cfg0.win 4).blk t).view.emb (ix3 0 k y) = (ix3 1 k (colOf t y) : S2x1024x4096.Idx) := by
    funext a; apply Fin.ext
    match a with
    | ⟨0, _⟩ => show win0_4.index t (0 : Fin 3) * 1 + 1 * 0 = 1; omega
    | ⟨1, _⟩ => show win0_4.index t (1 : Fin 3) * 1024 + 1 * k.val = k.val; omega
    | ⟨2, _⟩ => show win0_4.index t (2 : Fin 3) * 512 + 1 * y.val = t.val % 8 * 512 + y.val; omega
  rw [V_main_arg4, hix]

/-- Branch 2's weights of a point. -/
theorem wt2_apply (c : Dev nD) (t : Fin cfg0.N) (y : Fin 512) (k : Fin 1024) :
    iblk m c 5 t (ix3 0 k y) = m ((c : Thread nD τ).loc main_arg5) (ix3 1 k (colOf t y)) := by
  obtain ⟨-, -, -, -, -, ⟨e0, e1, e2⟩, -⟩ := idx_facts t
  show V m c main_arg5 (((cfg0.win 5).blk t).view.emb (ix3 0 k y)) = _
  have hix : ((cfg0.win 5).blk t).view.emb (ix3 0 k y) = (ix3 1 k (colOf t y) : S2x1024x4096.Idx) := by
    funext a; apply Fin.ext
    match a with
    | ⟨0, _⟩ => show win0_5.index t (0 : Fin 3) * 1 + 1 * 0 = 1; omega
    | ⟨1, _⟩ => show win0_5.index t (1 : Fin 3) * 1024 + 1 * k.val = k.val; omega
    | ⟨2, _⟩ => show win0_5.index t (2 : Fin 3) * 512 + 1 * y.val = t.val % 8 * 512 + y.val; omega
  rw [V_main_arg5, hix]

/-- Branch 0's gate logits of a point. -/
theorem gl0_apply (c : Dev nD) (t : Fin cfg0.N) (x : Fin 1024) (y : Fin 512) :
    iblk m c 6 t (ix2 x y) = m ((c : Thread nD τ).loc main_arg6) (ix2 (rowOf t x) ⟨(colOf t y).val, by omega⟩) := by
  obtain ⟨-, -, -, -, -, -, ⟨e0, e1⟩, -⟩ := idx_facts t
  show V m c main_arg6 (((cfg0.win 6).blk t).view.emb (ix2 x y)) = _
  have hix : ((cfg0.win 6).blk t).view.emb (ix2 x y) = (ix2 (rowOf t x) ⟨(colOf t y).val, by omega⟩ : S10240x12288.Idx) := by
    funext a; apply Fin.ext
    match a with
    | ⟨0, _⟩ => show win0_6.index t (0 : Fin 2) * 1024 + 1 * x.val = t.val / 8 * 1024 + x.val; omega
    | ⟨1, _⟩ => show win0_6.index t (1 : Fin 2) * 512 + 1 * y.val = t.val % 8 * 512 + y.val; omega
  rw [V_main_arg6, hix]

/-- Branch 1's gate logits of a point. -/
theorem gl1_apply (c : Dev nD) (t : Fin cfg0.N) (x : Fin 1024) (y : Fin 512) :
    iblk m c 7 t (ix2 x y) = m ((c : Thread nD τ).loc main_arg6) (ix2 (rowOf t x) ⟨4096 + (colOf t y).val, by omega⟩) := by
  obtain ⟨-, -, -, -, -, -, -, ⟨e0, e1⟩, -⟩ := idx_facts t
  show V m c main_arg6 (((cfg0.win 7).blk t).view.emb (ix2 x y)) = _
  have hix : ((cfg0.win 7).blk t).view.emb (ix2 x y) = (ix2 (rowOf t x) ⟨4096 + (colOf t y).val, by omega⟩ : S10240x12288.Idx) := by
    funext a; apply Fin.ext
    match a with
    | ⟨0, _⟩ => show win0_7.index t (0 : Fin 2) * 1024 + 1 * x.val = t.val / 8 * 1024 + x.val; omega
    | ⟨1, _⟩ => show win0_7.index t (1 : Fin 2) * 512 + 1 * y.val = 4096 + (t.val % 8 * 512 + y.val); omega
  rw [V_main_arg6, hix]

/-- Branch 2's gate logits of a point. -/
theorem gl2_apply (c : Dev nD) (t : Fin cfg0.N) (x : Fin 1024) (y : Fin 512) :
    iblk m c 8 t (ix2 x y) = m ((c : Thread nD τ).loc main_arg6) (ix2 (rowOf t x) ⟨8192 + (colOf t y).val, by omega⟩) := by
  obtain ⟨-, -, -, -, -, -, -, -, ⟨e0, e1⟩, -⟩ := idx_facts t
  show V m c main_arg6 (((cfg0.win 8).blk t).view.emb (ix2 x y)) = _
  have hix : ((cfg0.win 8).blk t).view.emb (ix2 x y) = (ix2 (rowOf t x) ⟨8192 + (colOf t y).val, by omega⟩ : S10240x12288.Idx) := by
    funext a; apply Fin.ext
    match a with
    | ⟨0, _⟩ => show win0_8.index t (0 : Fin 2) * 1024 + 1 * x.val = t.val / 8 * 1024 + x.val; omega
    | ⟨1, _⟩ => show win0_8.index t (1 : Fin 2) * 512 + 1 * y.val = 8192 + (t.val % 8 * 512 + y.val); omega
  rw [V_main_arg6, hix]

/-- The biases as the region finds them: the array with an axis of one put in. -/
theorem V_bias (c : Dev nD) : V m c main_v0 = shapeCast S2x3x1x4096 (m ((c : Thread nD τ).loc main_arg7)) shapeCasts_S2x3x4096_S2x3x1x4096 := by
  show StableHlo.after hostOps0 (fun b => m (c, b)) main_v0 = _
  unfold hostOps0
  after_results_simp <;> rfl

/-- The biases of a point. -/
theorem bias_apply (c : Dev nD) (t : Fin cfg0.N) (r : Fin 3) (y : Fin 512) :
    iblk m c 9 t (ix4 0 r 0 y) = m ((c : Thread nD τ).loc main_arg7) (ix3 1 r (colOf t y)) := by
  obtain ⟨-, -, -, -, -, -, -, -, -, ⟨e0, e1, e2, e3⟩, -⟩ := idx_facts t
  show V m c main_v0 (((cfg0.win 9).blk t).view.emb (ix4 0 r 0 y)) = _
  have hix : ((cfg0.win 9).blk t).view.emb (ix4 0 r 0 y) = (ix4 1 r 0 (colOf t y) : S2x3x1x4096.Idx) := by
    funext a; apply Fin.ext
    match a with
    | ⟨0, _⟩ => show win0_9.index t (0 : Fin 4) * 1 + 1 * 0 = 1; omega
    | ⟨1, _⟩ => show win0_9.index t (1 : Fin 4) * 3 + 1 * r.val = r.val; omega
    | ⟨2, _⟩ => show win0_9.index t (2 : Fin 4) * 1 + 1 * 0 = 0; omega
    | ⟨3, _⟩ => show win0_9.index t (3 : Fin 4) * 512 + 1 * y.val = t.val % 8 * 512 + y.val; omega
  rw [V_bias, hix]
  generalize m ((c : Thread nD τ).loc main_arg7) = z
  refine shapeCast_apply _ _ _ (ix3 1 r (colOf t y)) ?_
  rw [Shape.rowMajor_val_three, Shape.rowMajor_val_four]
  show (1 * 3 + r.val) * 4096 + (colOf t y).val = ((1 * 3 + r.val) * 1 + 0) * 4096 + (colOf t y).val
  omega

/-- THE ARRAY AFTER THE RUN is the reference's function of the arguments. -/
theorem array (c : Dev nD) : (dats m 0 c).arrAt 10 cfg0.N
    = Cert.Merge1RefIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_cover 10 _ (fun t _ => ?_) fun i => ?_
  · rw [Cert.Merge1Ideal.Value.flushed10]
    funext z
    obtain ⟨x, y, rfl⟩ : ∃ (x : Fin 1024) (y : Fin 512), z = ix2 x y := ⟨z 0, z 1, eq_ix2 z⟩
    show out0_10 _ _ _ _ _ _ _ _ _ _ (ix2 x y) = Cert.Merge1RefIdeal.Read.val_main_v36 (F := Ideal) _ _ _ _ _ _ _ _ (((cfg0.win 10).blk t).view.emb (ix2 x y))
    obtain ⟨-, -, -, -, -, -, -, -, -, -, ⟨e0, e1⟩⟩ := idx_facts t
    have hy : ((cfg0.win 10).blk t).view.emb (ix2 x y) = (ix2 (rowOf t x) (colOf t y) : S10240x4096.Idx) := by
      funext d; apply Fin.ext
      match d with
      | ⟨0, _⟩ => show win0_10.index t (0 : Fin 2) * 1024 + 1 * x.val = t.val / 8 * 1024 + x.val; omega
      | ⟨1, _⟩ => show win0_10.index t (1 : Fin 2) * 512 + 1 * y.val = t.val % 8 * 512 + y.val; omega
    rw [hy]
    refine (out_apply _ _ _ _ _ _ _ _ _ _ x y).trans (Eq.trans ?_ (ref_apply _ _ _ _ _ _ _ _ (rowOf t x) (colOf t y)).symm)
    refine congrArg₂ (fun a b : EReal => a + b) (congrArg₂ (fun a b : EReal => a + b) ?_ ?_) ?_
    · rw [gl0_apply m c t x y, bias_apply m c t 0 y]
      exact congrArg₂ (term _ _) (funext fun k => act0_apply m c t x k) (funext fun k => wt0_apply m c t y k)
    · rw [gl1_apply m c t x y, bias_apply m c t 1 y]
      exact congrArg₂ (term _ _) (funext fun k => act1_apply m c t x k) (funext fun k => wt1_apply m c t y k)
    · rw [gl2_apply m c t x y, bias_apply m c t 2 y]
      exact congrArg₂ (term _ _) (funext fun k => act2_apply m c t x k) (funext fun k => wt2_apply m c t y k)
  · have h0 : (i 0).val < 10240 := (i 0).isLt
    have h1 : (i 1).val < 4096 := (i 1).isLt
    have hlt : (i 0).val / 1024 * 8 + (i 1).val / 512 < cfg0.N := lt_of_lt_of_eq (b := 80) (by omega) N_0.symm
    refine ⟨⟨(i 0).val / 1024 * 8 + (i 1).val / 512, hlt⟩, (by decide +kernel : ∀ t : Fin grid0.N, (cfg0.win 10).flush t = true) ⟨_, hlt⟩, ?_⟩
    obtain ⟨-, -, -, -, -, -, -, -, -, -, ⟨e0, e1⟩⟩ := idx_facts ⟨(i 0).val / 1024 * 8 + (i 1).val / 512, hlt⟩
    refine (View.set_slice_whole main_v1 (win0_10.rect ⟨_, hlt⟩)).symm ▸ Rect.mem_set_unit.mpr ?_
    intro d
    match d with
    | ⟨0, _⟩ =>
      show win0_10.index ⟨_, hlt⟩ (0 : Fin 2) * 1024 ≤ (i 0).val ∧ (i 0).val < win0_10.index ⟨_, hlt⟩ (0 : Fin 2) * 1024 + 1024
      rw [e0]; dsimp only; omega
    | ⟨1, _⟩ =>
      show win0_10.index ⟨_, hlt⟩ (1 : Fin 2) * 512 ≤ (i 1).val ∧ (i 1).val < win0_10.index ⟨_, hlt⟩ (1 : Fin 2) * 512 + 512
      rw [e1]; dsimp only; omega

/-- The reference runs to an end, leaves its arguments as launched and every counter at zero. -/
theorem reference_frame : Cert.quiescent_Merge1RefIdeal := fun m g _ =>
  (θ_run Cert.Merge1RefIdeal.defs _ _).mono
    (fun r h => ⟨fun c => (h c).2, sem_eq_zero_of_no_sems (by decide) r.2⟩)
    (Cert.Merge1RefIdeal.Value.run (F := Ideal) m g)

/-- Over the extended reals the kernel's result is the reference's, from the same arguments. -/
theorem algebraic : Cert.algebraic_Merge1Ideal_Merge1RefIdeal := by
  intro m g m' g' _ hargs
  refine ⟨fun c => Cert.Merge1RefIdeal.Read.val_main_v36 (F := Ideal) (m (c.tc.loc Cert.Merge1Ideal.main_arg0)) (m (c.tc.loc Cert.Merge1Ideal.main_arg1)) (m (c.tc.loc Cert.Merge1Ideal.main_arg2)) (m (c.tc.loc Cert.Merge1Ideal.main_arg3)) (m (c.tc.loc Cert.Merge1Ideal.main_arg4)) (m (c.tc.loc Cert.Merge1Ideal.main_arg5)) (m (c.tc.loc Cert.Merge1Ideal.main_arg6)) (m (c.tc.loc Cert.Merge1Ideal.main_arg7)), ?_, ?_⟩
  · exact (θ_run Cert.Merge1Ideal.defs _ _).mono (fun r h c => ⟨(h c).1.trans (array m c), (h c).2⟩)
      (Cert.Merge1Ideal.Value.run_blocks m g)
  · refine (θ_run Cert.Merge1RefIdeal.defs _ _).mono (fun r h c => ⟨(h c).1.trans ?_, (h c).2⟩)
      (Cert.Merge1RefIdeal.Value.run (F := Ideal) m' g')
    obtain ⟨e0, e1, e2, e3, e4, e5, e6, e7⟩ := hargs c
    rw [Cert.Merge1RefIdeal.Read.val_main_v36_eq, e0, e1, e2, e3, e4, e5, e6, e7]

end Cert.Merge1Claim

end
-- ==== Proof.Out0Claim.lean ====
/- The output projection and gated residual at layer 0: the array after the run is the reference's, and the claims that follow. -/
module

public import proofs.«01_k».proof.Proof.Gen.Out0Ideal.Value
public import proofs.«01_k».proof.Proof.Gen.Out0RefIdeal.Run
public import proofs.«01_k».proof.Proof.Gen.Out0RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.Out0Claim

open Cert.Out0Ideal Cert.Out0Ideal.Gen Idealize.ShloMosaic Idealize.ShloMosaic.TcCoe Idealize.SL.Sem
open Cert.AttnBlock (off2 off3)

/-- What a point leaves in its output block: the stream plus the gate times rows against columns. -/
theorem out_apply (a : Vec Ideal S1024x4096 .bf16) (w : Vec Ideal S1x4096x256 .f32) (x : Vec Ideal S1024x256 .f32)
    (g : Vec Ideal S1x1x256 .f32) (i : Fin 1024) (j : Fin 256) :
    out0_4 a w x g (ix2 i j) = x (ix2 i j) + g (ix3 0 0 j) * ∑ k : Fin 4096, a (ix2 i k) * w (ix3 0 k j) := by
  unfold out0_4
  rw [View.canon_unit_zero off2]
  simp only [View.ld_unit_zero (S := S1024x4096) off2, View.ld_unit_zero (S := S1024x256) off2,
    View.ld_unit_zero (S := S1x4096x256) off3, View.ld_unit_zero (S := S1x1x256) off3]
  pointwise [k0_pay1]

/-- The row of the modulation table that gates a token's update: conditioning vector 0 for context rows, then one per run of 1024. -/
def gateRow (i : Nat) : Nat := (if i < 8192 then 0 else 1 + (i - 8192) / 1024) * 6 + 2

/-- Every token's gate row is a row of the table. -/
theorem gateRow_lt (i : Fin 10240) : gateRow i.val < 48 := by unfold gateRow; split <;> omega

/-- The reference at an index: the same sum, the gate taken at the token's row. -/
theorem ref_apply (x0 : FVec Ideal S10240x4096 .bf16) (x1 : FVec Ideal S2x4096x4096 .f32) (x2 : FVec Ideal S10240x4096 .f32)
    (x3 : FVec Ideal S48x1x4096 .f32) (i : Fin 10240) (j : Fin 4096) :
    Cert.Out0RefIdeal.Read.val_main_v25 (F := Ideal) x0 x1 x2 x3 (ix2 i j)
      = x2 (ix2 i j) + x3 (ix3 ⟨gateRow i.val, gateRow_lt i⟩ 0 j) * ∑ k : Fin 4096, x0 (ix2 i k) * x1 (ix3 0 k j) := by
  have h2 : i.val < 8192 → (⟨gateRow i.val, gateRow_lt i⟩ : Fin 48) = 2 := fun h => Fin.ext (by
    show gateRow i.val = 2; unfold gateRow; rw [if_pos h])
  pointwise [Cert.Out0RefIdeal.Read.val_main_v25, Cert.Out0RefIdeal.Read.val_main_v24, Cert.Out0RefIdeal.Read.val_main_v23, Cert.Out0RefIdeal.Read.val_main_v22, Cert.Out0RefIdeal.Read.val_main_v21, Cert.Out0RefIdeal.Read.val_main_v20, Cert.Out0RefIdeal.Read.val_main_v19, Cert.Out0RefIdeal.Read.val_main_v18, Cert.Out0RefIdeal.Read.val_main_v17, Cert.Out0RefIdeal.Read.val_main_v16, Cert.Out0RefIdeal.Read.val_main_v15, Cert.Out0RefIdeal.Read.val_main_v14, Cert.Out0RefIdeal.Read.val_main_v13, Cert.Out0RefIdeal.Read.val_main_v12, Cert.Out0RefIdeal.Read.val_main_v11, Cert.Out0RefIdeal.Read.val_main_v10, Cert.Out0RefIdeal.Read.val_main_v9, Cert.Out0RefIdeal.Read.val_main_v8, Cert.Out0RefIdeal.Read.val_main_v7, Cert.Out0RefIdeal.Read.val_main_v6, Cert.Out0RefIdeal.Read.val_main_v5, Cert.Out0RefIdeal.Read.val_main_v4, Cert.Out0RefIdeal.Read.val_main_v3, Cert.Out0RefIdeal.Read.val_main_v2, Cert.Out0RefIdeal.Read.val_main_v1, Cert.Out0RefIdeal.Read.val_main_v0]
  split
  · rename_i h
    rw [h2 h]
  · rename_i h
    have hi : (⟨8192 + ((i.val - 8192) / 1024 * 1024 + (i.val - 8192) % 1024), by omega⟩ : Fin 10240) = i := Fin.ext (by
      show 8192 + ((i.val - 8192) / 1024 * 1024 + (i.val - 8192) % 1024) = i.val; omega)
    have hg : (⟨(1 + (i.val - 8192) / 1024) * 6 + 2, by omega⟩ : Fin 48) = ⟨gateRow i.val, gateRow_lt i⟩ := Fin.ext (by
      show _ = gateRow i.val; unfold gateRow; rw [if_neg h])
    simp only [hi, hg]

/-- Where each window's block sits at each point. -/
theorem idx_facts : ∀ t : Fin cfg0.N,
    (win0_0.index t (0 : Fin 2) = t.val / 16 ∧ win0_0.index t (1 : Fin 2) = 0)
    ∧ (win0_1.index t (0 : Fin 3) = 0 ∧ win0_1.index t (1 : Fin 3) = 0 ∧ win0_1.index t (2 : Fin 3) = t.val % 16)
    ∧ (win0_2.index t (0 : Fin 2) = t.val / 16 ∧ win0_2.index t (1 : Fin 2) = t.val % 16)
    ∧ (win0_3.index t (0 : Fin 3) = (if t.val / 16 < 8 then 0 else t.val / 16 - 7) * 6 + 2 ∧ win0_3.index t (1 : Fin 3) = 0
      ∧ win0_3.index t (2 : Fin 3) = t.val % 16)
    ∧ (win0_4.index t (0 : Fin 2) = t.val / 16 ∧ win0_4.index t (1 : Fin 2) = t.val % 16) :=
  (by decide +kernel : ∀ t : Fin grid0.N, _)

variable (m : (ℓ : Loc nD τ sig) → Buf (Elt Ideal) ℓ)

/-- The row of the result that row `x` of point `t` is. -/
abbrev rowOf (t : Fin cfg0.N) (x : Fin 1024) : Fin 10240 :=
  ⟨t.val / 16 * 1024 + x.val, by have := t.isLt; have hN : cfg0.N = 160 := N_0; omega⟩
/-- The column of the result that column `y` of point `t` is. -/
abbrev colOf (t : Fin cfg0.N) (y : Fin 256) : Fin 4096 := ⟨t.val % 16 * 256 + y.val, by omega⟩

/-- The merged rows of a point. -/
theorem act_apply (c : Dev nD) (t : Fin cfg0.N) (x : Fin 1024) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 1024 + 1 * x.val = t.val / 16 * 1024 + x.val; omega
    | ⟨1, _⟩ => show win0_0.index t (1 : Fin 2) * 4096 + 1 * k.val = k.val; omega
  rw [V_main_arg0, hix]

/-- The weights of a point. -/
theorem wt_apply (c : Dev nD) (t : Fin cfg0.N) (y : Fin 256) (k : Fin 4096) :
    iblk m c 1 t (ix3 0 k y) = m ((c : Thread nD τ).loc main_arg1) (ix3 0 k (colOf t y)) := by
  obtain ⟨-, ⟨e0, e1, e2⟩, -⟩ := idx_facts t
  show V m c main_arg1 (((cfg0.win 1).blk t).view.emb (ix3 0 k y)) = _
  have hix : ((cfg0.win 1).blk t).view.emb (ix3 0 k y) = (ix3 0 k (colOf t y) : S2x4096x4096.Idx) := by
    funext a; apply Fin.ext
    match a with
    | ⟨0, _⟩ => show win0_1.index t (0 : Fin 3) * 1 + 1 * 0 = 0; omega
    | ⟨1, _⟩ => show win0_1.index t (1 : Fin 3) * 4096 + 1 * k.val = k.val; omega
    | ⟨2, _⟩ => show win0_1.index t (2 : Fin 3) * 256 + 1 * y.val = t.val % 16 * 256 + y.val; omega
  rw [V_main_arg1, hix]

/-- The stream's block of a point. -/
theorem res_apply (c : Dev nD) (t : Fin cfg0.N) (x : Fin 1024) (y : Fin 256) :
    iblk m c 2 t (ix2 x y) = m ((c : Thread nD τ).loc main_arg2) (ix2 (rowOf t x) (colOf t y)) := by
  obtain ⟨-, -, ⟨e0, e1⟩, -⟩ := idx_facts t
  show V m c main_arg2 (((cfg0.win 2).blk t).view.emb (ix2 x y)) = _
  have hix : ((cfg0.win 2).blk t).view.emb (ix2 x y) = (ix2 (rowOf t x) (colOf t y) : S10240x4096.Idx) := by
    funext a; apply Fin.ext
    match a with
    | ⟨0, _⟩ => show win0_2.index t (0 : Fin 2) * 1024 + 1 * x.val = t.val / 16 * 1024 + x.val; omega
    | ⟨1, _⟩ => show win0_2.index t (1 : Fin 2) * 256 + 1 * y.val = t.val % 16 * 256 + y.val; omega
  rw [V_main_arg2, hix]

/-- The gate of a point: one row of the table, the row of every token of the block. -/
theorem gate_apply (c : Dev nD) (t : Fin cfg0.N) (x : Fin 1024) (y : Fin 256) :
    iblk m c 3 t (ix3 0 0 y) = m ((c : Thread nD τ).loc main_arg3) (ix3 ⟨gateRow (rowOf t x).val, gateRow_lt _⟩ 0 (colOf t y)) := by
  obtain ⟨-, -, -, ⟨e0, e1, e2⟩, -⟩ := idx_facts t
  have hg : (if t.val / 16 < 8 then 0 else t.val / 16 - 7) * 6 + 2 = gateRow (rowOf t x).val := by
    show _ = gateRow (t.val / 16 * 1024 + x.val)
    unfold gateRow
    by_cases h : t.val / 16 < 8
    · rw [if_pos h, if_pos (by omega)]
    · rw [if_neg h, if_neg (by omega)]; omega
  rw [hg] at e0
  show V m c main_arg3 (((cfg0.win 3).blk t).view.emb (ix3 0 0 y)) = _
  have hix : ((cfg0.win 3).blk t).view.emb (ix3 0 0 y) = (ix3 ⟨gateRow (rowOf t x).val, gateRow_lt _⟩ 0 (colOf t y) : S48x1x4096.Idx) := by
    funext a; apply Fin.ext
    match a with
    | ⟨0, _⟩ => show win0_3.index t (0 : Fin 3) * 1 + 1 * 0 = gateRow (rowOf t x).val; omega
    | ⟨1, _⟩ => show win0_3.index t (1 : Fin 3) * 1 + 1 * 0 = 0; omega
    | ⟨2, _⟩ => show win0_3.index t (2 : Fin 3) * 256 + 1 * y.val = t.val % 16 * 256 + y.val; omega
  rw [V_main_arg3, hix]

/-- THE ARRAY AFTER THE RUN is the reference's function of the arguments. -/
theorem array (c : Dev nD) : (dats m 0 c).arrAt 4 cfg0.N
    = Cert.Out0RefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) fun i => ?_
  · rw [Cert.Out0Ideal.Value.flushed4]
    funext z
    obtain ⟨x, y, rfl⟩ : ∃ (x : Fin 1024) (y : Fin 256), z = ix2 x y := ⟨z 0, z 1, eq_ix2 z⟩
    show out0_4 _ _ _ _ (ix2 x y) = Cert.Out0RefIdeal.Read.val_main_v25 (F := Ideal) _ _ _ _ (((cfg0.win 4).blk t).view.emb (ix2 x y))
    obtain ⟨-, -, -, -, ⟨e0, e1⟩⟩ := idx_facts t
    have hy : ((cfg0.win 4).blk t).view.emb (ix2 x y) = (ix2 (rowOf t x) (colOf t y) : S10240x4096.Idx) := by
      funext d; apply Fin.ext
      match d with
      | ⟨0, _⟩ => show win0_4.index t (0 : Fin 2) * 1024 + 1 * x.val = t.val / 16 * 1024 + x.val; omega
      | ⟨1, _⟩ => show win0_4.index t (1 : Fin 2) * 256 + 1 * y.val = t.val % 16 * 256 + y.val; omega
    rw [hy]
    refine (out_apply _ _ _ _ x y).trans (Eq.trans ?_ (ref_apply _ _ _ _ (rowOf t x) (colOf t y)).symm)
    refine congrArg₂ (fun a b : EReal => a + b) (res_apply m c t x y) (congrArg₂ (fun a b : EReal => a * b) (gate_apply m c t x y) ?_)
    refine Finset.sum_congr rfl fun k _ => ?_
    exact congrArg₂ (fun a b : EReal => a * b) (act_apply m c t x k) (wt_apply m c t y k)
  · have h0 : (i 0).val < 10240 := (i 0).isLt
    have h1 : (i 1).val < 4096 := (i 1).isLt
    have hlt : (i 0).val / 1024 * 16 + (i 1).val / 256 < cfg0.N := lt_of_lt_of_eq (b := 160) (by omega) N_0.symm
    refine ⟨⟨(i 0).val / 1024 * 16 + (i 1).val / 256, hlt⟩, (by decide +kernel : ∀ t : Fin grid0.N, (cfg0.win 4).flush t = true) ⟨_, hlt⟩, ?_⟩
    obtain ⟨-, -, -, -, ⟨e0, e1⟩⟩ := idx_facts ⟨(i 0).val / 1024 * 16 + (i 1).val / 256, hlt⟩
    refine (View.set_slice_whole main_v0 (win0_4.rect ⟨_, hlt⟩)).symm ▸ Rect.mem_set_unit.mpr ?_
    intro d
    match d with
    | ⟨0, _⟩ =>
      show win0_4.index ⟨_, hlt⟩ (0 : Fin 2) * 1024 ≤ (i 0).val ∧ (i 0).val < win0_4.index ⟨_, hlt⟩ (0 : Fin 2) * 1024 + 1024
      rw [e0]; dsimp only; omega
    | ⟨1, _⟩ =>
      show win0_4.index ⟨_, hlt⟩ (1 : Fin 2) * 256 ≤ (i 1).val ∧ (i 1).val < win0_4.index ⟨_, hlt⟩ (1 : Fin 2) * 256 + 256
      rw [e1]; dsimp only; omega

/-- The reference runs to an end, leaves its arguments as launched and every counter at zero. -/
theorem reference_frame : Cert.quiescent_Out0RefIdeal := fun m g _ =>
  (θ_run Cert.Out0RefIdeal.defs _ _).mono
    (fun r h => ⟨fun c => (h c).2, sem_eq_zero_of_no_sems (by decide) r.2⟩)
    (Cert.Out0RefIdeal.Value.run (F := Ideal) m g)

/-- Over the extended reals the kernel's result is the reference's, from the same arguments. -/
theorem algebraic : Cert.algebraic_Out0Ideal_Out0RefIdeal := by
  intro m g m' g' _ hargs
  refine ⟨fun c => Cert.Out0RefIdeal.Read.val_main_v25 (F := Ideal) (m (c.tc.loc Cert.Out0Ideal.main_arg0)) (m (c.tc.loc Cert.Out0Ideal.main_arg1)) (m (c.tc.loc Cert.Out0Ideal.main_arg2)) (m (c.tc.loc Cert.Out0Ideal.main_arg3)), ?_, ?_⟩
  · exact (θ_run Cert.Out0Ideal.defs _ _).mono (fun r h c => ⟨(h c).1.trans (array m c), (h c).2⟩)
      (Cert.Out0Ideal.Value.run_blocks m g)
  · refine (θ_run Cert.Out0RefIdeal.defs _ _).mono (fun r h c => ⟨(h c).1.trans ?_, (h c).2⟩)
      (Cert.Out0RefIdeal.Value.run (F := Ideal) m' g')
    obtain ⟨e0, e1, e2, e3⟩ := hargs c
    rw [Cert.Out0RefIdeal.Read.val_main_v25_eq, e0, e1, e2, e3]

end Cert.Out0Claim

end
-- ==== Proof.Out1Claim.lean ====
/- The output projection and gated residual at layer 1: the array after the run is the reference's, and the claims that follow. -/
module

public import proofs.«01_k».proof.Proof.Gen.Out1Ideal.Value
public import proofs.«01_k».proof.Proof.Gen.Out1RefIdeal.Run
public import proofs.«01_k».proof.Proof.Gen.Out1RefIdeal.Read
public import proofs.«01_k».proof.Defs
public import proofs.«01_k».proof.Proof.AttnBlock
public import Idealize.ShloMosaic.Lib.Pointwise
public import Idealize.ShloMosaic.Lib.Tactic
public import Idealize.ShloMosaic.Lib.Quiescent

@[expose] public section

set_option maxRecDepth 16384

noncomputable section

namespace Cert.Out1Claim

open Cert.Out1Ideal Cert.Out1Ideal.Gen Idealize.ShloMosaic Idealize.ShloMosaic.TcCoe Idealize.SL.Sem
open Cert.AttnBlock (off2 off3)

/-- What a point leaves in its output block: the stream plus the gate times rows against columns. -/
theorem out_apply (a : Vec Ideal S1024x4096 .bf16) (w : Vec Ideal S1x4096x256 .f32) (x : Vec Ideal S1024x256 .f32)
    (g : Vec Ideal S1x1x256 .f32) (i : Fin 1024) (j : Fin 256) :
    out0_4 a w x g (ix2 i j) = x (ix2 i j) + g (ix3 0 0 j) * ∑ k : Fin 4096, a (ix2 i k) * w (ix3 0 k j) := by
  unfold out0_4
  rw [View.canon_unit_zero off2]
  simp only [View.ld_unit_zero (S := S1024x4096) off2, View.ld_unit_zero (S := S1024x256) off2,
    View.ld_unit_zero (S := S1x4096x256) off3, View.ld_unit_zero (S := S1x1x256) off3]
  pointwise [k0_pay1]

/-- The row of the modulation table that gates a token's update: conditioning vector 0 for context rows, then one per run of 1024. -/
def gateRow (i : Nat) : Nat := (if i < 8192 then 0 else 1 + (i - 8192) / 1024) * 6 + 2

/-- Every token's gate row is a row of the table. -/
theorem gateRow_lt (i : Fin 10240) : gateRow i.val < 48 := by unfold gateRow; split <;> omega

/-- The reference at an index: the same sum, the gate taken at the token's row. -/
theorem ref_apply (x0 : FVec Ideal S10240x4096 .bf16) (x1 : FVec Ideal S2x4096x4096 .f32) (x2 : FVec Ideal S10240x4096 .f32)
    (x3 : FVec Ideal S48x1x4096 .f32) (i : Fin 10240) (j : Fin 4096) :
    Cert.Out1RefIdeal.Read.val_main_v25 (F := Ideal) x0 x1 x2 x3 (ix2 i j)
      = x2 (ix2 i j) + x3 (ix3 ⟨gateRow i.val, gateRow_lt i⟩ 0 j) * ∑ k : Fin 4096, x0 (ix2 i k) * x1 (ix3 1 k j) := by
  have h2 : i.val < 8192 → (⟨gateRow i.val, gateRow_lt i⟩ : Fin 48) = 2 := fun h => Fin.ext (by
    show gateRow i.val = 2; unfold gateRow; rw [if_pos h])
  pointwise [Cert.Out1RefIdeal.Read.val_main_v25, Cert.Out1RefIdeal.Read.val_main_v24, Cert.Out1RefIdeal.Read.val_main_v23, Cert.Out1RefIdeal.Read.val_main_v22, Cert.Out1RefIdeal.Read.val_main_v21, Cert.Out1RefIdeal.Read.val_main_v20, Cert.Out1RefIdeal.Read.val_main_v19, Cert.Out1RefIdeal.Read.val_main_v18, Cert.Out1RefIdeal.Read.val_main_v17, Cert.Out1RefIdeal.Read.val_main_v16, Cert.Out1RefIdeal.Read.val_main_v15, Cert.Out1RefIdeal.Read.val_main_v14, Cert.Out1RefIdeal.Read.val_main_v13, Cert.Out1RefIdeal.Read.val_main_v12, Cert.Out1RefIdeal.Read.val_main_v11, Cert.Out1RefIdeal.Read.val_main_v10, Cert.Out1RefIdeal.Read.val_main_v9, Cert.Out1RefIdeal.Read.val_main_v8, Cert.Out1RefIdeal.Read.val_main_v7, Cert.Out1RefIdeal.Read.val_main_v6, Cert.Out1RefIdeal.Read.val_main_v5, Cert.Out1RefIdeal.Read.val_main_v4, Cert.Out1RefIdeal.Read.val_main_v3, Cert.Out1RefIdeal.Read.val_main_v2, Cert.Out1RefIdeal.Read.val_main_v1, Cert.Out1RefIdeal.Read.val_main_v0]
  split
  · rename_i h
    rw [h2 h]
  · rename_i h
    have hi : (⟨8192 + ((i.val - 8192) / 1024 * 1024 + (i.val - 8192) % 1024), by omega⟩ : Fin 10240) = i := Fin.ext (by
      show 8192 + ((i.val - 8192) / 1024 * 1024 + (i.val - 8192) % 1024) = i.val; omega)
    have hg : (⟨(1 + (i.val - 8192) / 1024) * 6 + 2, by omega⟩ : Fin 48) = ⟨gateRow i.val, gateRow_lt i⟩ := Fin.ext (by
      show _ = gateRow i.val; unfold gateRow; rw [if_neg h])
    simp only [hi, hg]

/-- Where each window's block sits at each point. -/
theorem idx_facts : ∀ t : Fin cfg0.N,
    (win0_0.index t (0 : Fin 2) = t.val / 16 ∧ win0_0.index t (1 : Fin 2) = 0)
    ∧ (win0_1.index t (0 : Fin 3) = 1 ∧ win0_1.index t (1 : Fin 3) = 0 ∧ win0_1.index t (2 : Fin 3) = t.val % 16)
    ∧ (win0_2.index t (0 : Fin 2) = t.val / 16 ∧ win0_2.index t (1 : Fin 2) = t.val % 16)
    ∧ (win0_3.index t (0 : Fin 3) = (if t.val / 16 < 8 then 0 else t.val / 16 - 7) * 6 + 2 ∧ win0_3.index t (1 : Fin 3) = 0
      ∧ win0_3.index t (2 : Fin 3) = t.val % 16)
    ∧ (win0_4.index t (0 : Fin 2) = t.val / 16 ∧ win0_4.index t (1 : Fin 2) = t.val % 16) :=
  (by decide +kernel : ∀ t : Fin grid0.N, _)

variable (m : (ℓ : Loc nD τ sig) → Buf (Elt Ideal) ℓ)

/-- The row of the result that row `x` of point `t` is. -/
abbrev rowOf (t : Fin cfg0.N) (x : Fin 1024) : Fin 10240 :=
  ⟨t.val / 16 * 1024 + x.val, by have := t.isLt; have hN : cfg0.N = 160 := N_0; omega⟩
/-- The column of the result that column `y` of point `t` is. -/
abbrev colOf (t : Fin cfg0.N) (y : Fin 256) : Fin 4096 := ⟨t.val % 16 * 256 + y.val, by omega⟩

/-- The merged rows of a point. -/
theorem act_apply (c : Dev nD) (t : Fin cfg0.N) (x : Fin 1024) (k : Fin 4096) :
    iblk m c 0 t (ix2 x k) = m ((c : Thread nD τ).loc main_arg0) (ix2 (rowOf t x) k) := by
  obtain ⟨⟨e0, e1⟩, -⟩ := idx_facts t
  show V m c main_arg0 (((cfg0.win 0).blk t).view.emb (ix2 x k)) = _
  have hix : ((cfg0.win 0).blk t).view.emb (ix2 x k) = (ix2 (rowOf t x) k : S10240x4096.Idx) := by
    funext a; apply Fin.ext
    match a with
    | ⟨0, _⟩ => show win0_0.index t (0 : Fin 2) * 1024 + 1 * x.val = t.val / 16 * 1024 + x.val; omega
    | ⟨1, _⟩ => show win0_0.index t (1 : Fin 2) * 4096 + 1 * k.val = k.val; omega
  rw [V_main_arg0, hix]

/-- The weights of a point. -/
theorem wt_apply (c : Dev nD) (t : Fin cfg0.N) (y : Fin 256) (k : Fin 4096) :
    iblk m c 1 t (ix3 0 k y) = m ((c : Thread nD τ).loc main_arg1) (ix3 1 k (colOf t y)) := by
  obtain ⟨-, ⟨e0, e1, e2⟩, -⟩ := idx_facts t
  show V m c main_arg1 (((cfg0.win 1).blk t).view.emb (ix3 0 k y)) = _
  have hix : ((cfg0.win 1).blk t).view.emb (ix3 0 k y) = (ix3 1 k (colOf t y) : S2x4096x4096.Idx) := by
    funext a; apply Fin.ext
    match a with
    | ⟨0, _⟩ => show win0_1.index t (0 : Fin 3) * 1 + 1 * 0 = 1; omega
    | ⟨1, _⟩ => show win0_1.index t (1 : Fin 3) * 4096 + 1 * k.val = k.val; omega
    | ⟨2, _⟩ => show win0_1.index t (2 : Fin 3) * 256 + 1 * y.val = t.val % 16 * 256 + y.val; omega
  rw [V_main_arg1, hix]

/-- The stream's block of a point. -/
theorem res_apply (c : Dev nD) (t : Fin cfg0.N) (x : Fin 1024) (y : Fin 256) :
    iblk m c 2 t (ix2 x y) = m ((c : Thread nD τ).loc main_arg2) (ix2 (rowOf t x) (colOf t y)) := by
  obtain ⟨-, -, ⟨e0, e1⟩, -⟩ := idx_facts t
  show V m c main_arg2 (((cfg0.win 2).blk t).view.emb (ix2 x y)) = _
  have hix : ((cfg0.win 2).blk t).view.emb (ix2 x y) = (ix2 (rowOf t x) (colOf t y) : S10240x4096.Idx) := by
    funext a; apply Fin.ext
    match a with
    | ⟨0, _⟩ => show win0_2.index t (0 : Fin 2) * 1024 + 1 * x.val = t.val / 16 * 1024 + x.val; omega
    | ⟨1, _⟩ => show win0_2.index t (1 : Fin 2) * 256 + 1 * y.val = t.val % 16 * 256 + y.val; omega
  rw [V_main_arg2, hix]

/-- The gate of a point: one row of the table, the row of every token of the block. -/
theorem gate_apply (c : Dev nD) (t : Fin cfg0.N) (x : Fin 1024) (y : Fin 256) :
    iblk m c 3 t (ix3 0 0 y) = m ((c : Thread nD τ).loc main_arg3) (ix3 ⟨gateRow (rowOf t x).val, gateRow_lt _⟩ 0 (colOf t y)) := by
  obtain ⟨-, -, -, ⟨e0, e1, e2⟩, -⟩ := idx_facts t
  have hg : (if t.val / 16 < 8 then 0 else t.val / 16 - 7) * 6 + 2 = gateRow (rowOf t x).val := by
    show _ = gateRow (t.val / 16 * 1024 + x.val)
    unfold gateRow
    by_cases h : t.val / 16 < 8
    · rw [if_pos h, if_pos (by omega)]
    · rw [if_neg h, if_neg (by omega)]; omega
  rw [hg] at e0
  show V m c main_arg3 (((cfg0.win 3).blk t).view.emb (ix3 0 0 y)) = _
  have hix : ((cfg0.win 3).blk t).view.emb (ix3 0 0 y) = (ix3 ⟨gateRow (rowOf t x).val, gateRow_lt _⟩ 0 (colOf t y) : S48x1x4096.Idx) := by
    funext a; apply Fin.ext
    match a with
    | ⟨0, _⟩ => show win0_3.index t (0 : Fin 3) * 1 + 1 * 0 = gateRow (rowOf t x).val; omega
    | ⟨1, _⟩ => show win0_3.index t (1 : Fin 3) * 1 + 1 * 0 = 0; omega
    | ⟨2, _⟩ => show win0_3.index t (2 : Fin 3) * 256 + 1 * y.val = t.val % 16 * 256 + y.val; omega
  rw [V_main_arg3, hix]

/-- THE ARRAY AFTER THE RUN is the reference's function of the arguments. -/
theorem array (c : Dev nD) : (dats m 0 c).arrAt 4 cfg0.N
    = Cert.Out1RefIdeal.Read.val_main_v25 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) fun i => ?_
  · rw [Cert.Out1Ideal.Value.flushed4]
    funext z
    obtain ⟨x, y, rfl⟩ : ∃ (x : Fin 1024) (y : Fin 256), z = ix2 x y := ⟨z 0, z 1, eq_ix2 z⟩
    show out0_4 _ _ _ _ (ix2 x y) = Cert.Out1RefIdeal.Read.val_main_v25 (F := Ideal) _ _ _ _ (((cfg0.win 4).blk t).view.emb (ix2 x y))
    obtain ⟨-, -, -, -, ⟨e0, e1⟩⟩ := idx_facts t
    have hy : ((cfg0.win 4).blk t).view.emb (ix2 x y) = (ix2 (rowOf t x) (colOf t y) : S10240x4096.Idx) := by
      funext d; apply Fin.ext
      match d with
      | ⟨0, _⟩ => show win0_4.index t (0 : Fin 2) * 1024 + 1 * x.val = t.val / 16 * 1024 + x.val; omega
      | ⟨1, _⟩ => show win0_4.index t (1 : Fin 2) * 256 + 1 * y.val = t.val % 16 * 256 + y.val; omega
    rw [hy]
    refine (out_apply _ _ _ _ x y).trans (Eq.trans ?_ (ref_apply _ _ _ _ (rowOf t x) (colOf t y)).symm)
    refine congrArg₂ (fun a b : EReal => a + b) (res_apply m c t x y) (congrArg₂ (fun a b : EReal => a * b) (gate_apply m c t x y) ?_)
    refine Finset.sum_congr rfl fun k _ => ?_
    exact congrArg₂ (fun a b : EReal => a * b) (act_apply m c t x k) (wt_apply m c t y k)
  · have h0 : (i 0).val < 10240 := (i 0).isLt
    have h1 : (i 1).val < 4096 := (i 1).isLt
    have hlt : (i 0).val / 1024 * 16 + (i 1).val / 256 < cfg0.N := lt_of_lt_of_eq (b := 160) (by omega) N_0.symm
    refine ⟨⟨(i 0).val / 1024 * 16 + (i 1).val / 256, hlt⟩, (by decide +kernel : ∀ t : Fin grid0.N, (cfg0.win 4).flush t = true) ⟨_, hlt⟩, ?_⟩
    obtain ⟨-, -, -, -, ⟨e0, e1⟩⟩ := idx_facts ⟨(i 0).val / 1024 * 16 + (i 1).val / 256, hlt⟩
    refine (View.set_slice_whole main_v0 (win0_4.rect ⟨_, hlt⟩)).symm ▸ Rect.mem_set_unit.mpr ?_
    intro d
    match d with
    | ⟨0, _⟩ =>
      show win0_4.index ⟨_, hlt⟩ (0 : Fin 2) * 1024 ≤ (i 0).val ∧ (i 0).val < win0_4.index ⟨_, hlt⟩ (0 : Fin 2) * 1024 + 1024
      rw [e0]; dsimp only; omega
    | ⟨1, _⟩ =>
      show win0_4.index ⟨_, hlt⟩ (1 : Fin 2) * 256 ≤ (i 1).val ∧ (i 1).val < win0_4.index ⟨_, hlt⟩ (1 : Fin 2) * 256 + 256
      rw [e1]; dsimp only; omega

/-- The reference runs to an end, leaves its arguments as launched and every counter at zero. -/
theorem reference_frame : Cert.quiescent_Out1RefIdeal := fun m g _ =>
  (θ_run Cert.Out1RefIdeal.defs _ _).mono
    (fun r h => ⟨fun c => (h c).2, sem_eq_zero_of_no_sems (by decide) r.2⟩)
    (Cert.Out1RefIdeal.Value.run (F := Ideal) m g)

/-- Over the extended reals the kernel's result is the reference's, from the same arguments. -/
theorem algebraic : Cert.algebraic_Out1Ideal_Out1RefIdeal := by
  intro m g m' g' _ hargs
  refine ⟨fun c => Cert.Out1RefIdeal.Read.val_main_v25 (F := Ideal) (m (c.tc.loc Cert.Out1Ideal.main_arg0)) (m (c.tc.loc Cert.Out1Ideal.main_arg1)) (m (c.tc.loc Cert.Out1Ideal.main_arg2)) (m (c.tc.loc Cert.Out1Ideal.main_arg3)), ?_, ?_⟩
  · exact (θ_run Cert.Out1Ideal.defs _ _).mono (fun r h c => ⟨(h c).1.trans (array m c), (h c).2⟩)
      (Cert.Out1Ideal.Value.run_blocks m g)
  · refine (θ_run Cert.Out1RefIdeal.defs _ _).mono (fun r h c => ⟨(h c).1.trans ?_, (h c).2⟩)
      (Cert.Out1RefIdeal.Value.run (F := Ideal) m' g')
    obtain ⟨e0, e1, e2, e3⟩ := hargs c
    rw [Cert.Out1RefIdeal.Read.val_main_v25_eq, e0, e1, e2, e3]

end Cert.Out1Claim

end
-- ==== Proof.MlstmSpec.lean ====
/- One direction of the matrix memory over one sequence of 256 tokens and one head, as extended reals: what both the
   kernel's block and the reference's element are read as. -/
module

public import Idealize.ShloMosaic.Lib.Pointwise

@[expose] public section

noncomputable section

namespace Cert.MlstmSpec

open Idealize.ShloMosaic

/-- The magnitude. -/
def mag (x : EReal) : EReal := max x (-x)

/-- The logarithm of the sigmoid, split at zero so that no exponential overflows. -/
def logsig (x : EReal) : EReal := min x 0 - Ideal.log (1 + Ideal.exp (0 - mag x))

/-- The logarithm in it is a finite number. -/
theorem softplus_finite (x : EReal) : Ideal.log (1 + Ideal.exp (-mag x)) ≠ ⊤ ∧ Ideal.log (1 + Ideal.exp (-mag x)) ≠ ⊥ := by
  have key : ∀ r : ℝ, Ideal.log (1 + ((Real.exp r : ℝ) : EReal)) ≠ ⊤ ∧ Ideal.log (1 + ((Real.exp r : ℝ) : EReal)) ≠ ⊥ := fun r => by
    have h : (1 : EReal) + ((Real.exp r : ℝ) : EReal) = ((1 + Real.exp r : ℝ) : EReal) := by norm_cast
    have hp : ¬ (1 + Real.exp r ≤ 0) := not_le.mpr (by positivity)
    rw [h]
    show (if 1 + Real.exp r ≤ 0 then (⊥ : EReal) else ((Real.log (1 + Real.exp r) : ℝ) : EReal)) ≠ ⊤
      ∧ (if 1 + Real.exp r ≤ 0 then (⊥ : EReal) else ((Real.log (1 + Real.exp r) : ℝ) : EReal)) ≠ ⊥
    rw [if_neg hp]
    exact ⟨EReal.coe_ne_top _, EReal.coe_ne_bot _⟩
  have zero : Ideal.log (1 + Ideal.exp ⊥) ≠ ⊤ ∧ Ideal.log (1 + Ideal.exp ⊥) ≠ ⊥ := by
    have h : (1 : EReal) + Ideal.exp ⊥ = ((1 : ℝ) : EReal) := by
      show (1 : EReal) + 0 = _
      norm_num
    rw [h]
    show (if (1 : ℝ) ≤ 0 then (⊥ : EReal) else ((Real.log 1 : ℝ) : EReal)) ≠ ⊤
      ∧ (if (1 : ℝ) ≤ 0 then (⊥ : EReal) else ((Real.log 1 : ℝ) : EReal)) ≠ ⊥
    rw [if_neg (by norm_num)]
    exact ⟨EReal.coe_ne_top _, EReal.coe_ne_bot _⟩
  unfold mag
  induction x using EReal.rec with
  | bot => rw [show -max (⊥ : EReal) (-⊥) = ⊥ by simp]; exact zero
  | top => rw [show -max (⊤ : EReal) (-⊤) = ⊥ by simp]; exact zero
  | coe r =>
    have h : -max (r : EReal) (-(r : EReal)) = ((-max r (-r) : ℝ) : EReal) := by
      norm_cast
    rw [h]
    exact key _

/-- The reference's form of it: the negated softplus of the negation. -/
theorem softplus_neg (x : EReal) :
    (-if -x ≠ -x then -x else max (-x) 0 + Ideal.log1p (Ideal.exp (-max (-x) (- -x)))) = logsig x := by
  obtain ⟨ht, hb⟩ := softplus_finite x
  have hm : -max (-x) 0 = min x 0 := by
    rcases le_total x 0 with h | h
    · rw [max_eq_left (EReal.neg_nonneg.mpr h), min_eq_left h, neg_neg]
    · rw [max_eq_right (by simpa using EReal.neg_le_neg_iff.mpr h), min_eq_right h, neg_zero]
  rw [if_neg (not_not.mpr rfl), neg_neg, max_comm (-x) x]
  unfold logsig Ideal.log1p
  rw [zero_sub]
  show -(max (-x) 0 + Ideal.log (1 + Ideal.exp (-mag x))) = _
  rw [EReal.neg_add (Or.inr ht) (Or.inr hb), hm]

/-- Whether the step at `s` sees the token `j`, forwards. -/
def fwd (s j : Fin 256) : BitVec 1 := IntOp.cmpi .sle (BitVec.ofNat 32 j.val) (BitVec.ofNat 32 s.val)

/-- Whether the step at `s` sees the token `j`, backwards. -/
def bwd (s j : Fin 256) : BitVec 1 := IntOp.cmpi .sge (BitVec.ofNat 32 j.val) (BitVec.ofNat 32 s.val)

/-- Seeing backwards is being seen forwards. -/
theorem bwd_eq (s j : Fin 256) : bwd s j = fwd j s := rfl

/-- The sum of the log forget gates a step has passed. -/
def cum (seen : Fin 256 → Fin 256 → BitVec 1) (f : Fin 256 → EReal) (s : Fin 256) : EReal :=
  ∑ j, Scalar.select (seen s j) (f j) 0

/-- The log decay from token `j` to step `s`, with the input gate. -/
def logD (seen : Fin 256 → Fin 256 → BitVec 1) (f i : Fin 256 → EReal) (s j : Fin 256) : EReal :=
  Scalar.select (seen s j) (cum seen f s - cum seen f j + i j) (Ideal.ofBits .f32 0xFF800000#32)

/-- A step's stabiliser. -/
def stab (seen : Fin 256 → Fin 256 → BitVec 1) (f i : Fin 256 → EReal) (s : Fin 256) : EReal :=
  max (cum seen f s + 0) (Finset.fold max (Ideal.ofBits .f32 0xFF800000#32) (logD seen f i s) Finset.univ)

/-- The stabiliser without the initial zero. -/
theorem stab_eq (seen : Fin 256 → Fin 256 → BitVec 1) (f i : Fin 256 → EReal) (s : Fin 256) :
    stab seen f i s = max (cum seen f s) (Finset.fold max (Ideal.ofBits .f32 0xFF800000#32) (logD seen f i s) Finset.univ) :=
  congrArg (fun z : EReal => max z _) (add_zero _)

/-- The weight of token `j` at step `s`. -/
def wt (seen : Fin 256 → Fin 256 → BitVec 1) (f i : Fin 256 → EReal) (q k : Fin 256 → Fin 128 → EReal) (s j : Fin 256) : EReal :=
  (∑ x, q s x * k j x) * Ideal.exp (logD seen f i s j - stab seen f i s)

/-- The weight of the state before the sequence at step `s`. -/
def carried (seen : Fin 256 → Fin 256 → BitVec 1) (f i : Fin 256 → EReal) (s : Fin 256) : EReal :=
  Ideal.exp (cum seen f s + 0 - stab seen f i s)

/-- The carried weight without the initial zero. -/
theorem carried_eq (seen : Fin 256 → Fin 256 → BitVec 1) (f i : Fin 256 → EReal) (s : Fin 256) :
    carried seen f i s = Ideal.exp (cum seen f s - stab seen f i s) :=
  congrArg (fun z : EReal => Ideal.exp (z - _)) (add_zero _)

/-- The denominator at step `s`. -/
def den (seen : Fin 256 → Fin 256 → BitVec 1) (f i : Fin 256 → EReal) (q k : Fin 256 → Fin 128 → EReal) (s : Fin 256) : EReal :=
  max (mag (∑ j, wt seen f i q k s j + carried seen f i s * ∑ x, q s x * 0)) (Ideal.exp (0 - stab seen f i s))

/-- The step's output lane. -/
def out (seen : Fin 256 → Fin 256 → BitVec 1) (f i : Fin 256 → EReal) (q k v : Fin 256 → Fin 128 → EReal) (s : Fin 256)
    (x : Fin 128) : EReal :=
  Ideal.div ((∑ j, wt seen f i q k s j * v j x) + carried seen f i s * ∑ y, q s y * 0) (den seen f i q k s)

/-- The log decay from token `j` to the end, with the input gate. -/
def logW (seen : Fin 256 → Fin 256 → BitVec 1) (f i : Fin 256 → EReal) (j : Fin 256) : EReal :=
  (∑ y, f y) - cum seen f j + i j

/-- The state's stabiliser after the sequence. -/
def stabEnd (seen : Fin 256 → Fin 256 → BitVec 1) (f i : Fin 256 → EReal) : EReal :=
  max ((∑ y, f y) + 0) (Finset.fold max (Ideal.ofBits .f32 0xFF800000#32) (logW seen f i) Finset.univ)

/-- The state's stabiliser without the initial zero. -/
theorem stabEnd_eq (seen : Fin 256 → Fin 256 → BitVec 1) (f i : Fin 256 → EReal) :
    stabEnd seen f i = max (∑ y, f y) (Finset.fold max (Ideal.ofBits .f32 0xFF800000#32) (logW seen f i) Finset.univ) :=
  congrArg (fun z : EReal => max z _) (add_zero _)

/-- The weight of token `j` in the state after the sequence. -/
def wEnd (seen : Fin 256 → Fin 256 → BitVec 1) (f i : Fin 256 → EReal) (j : Fin 256) : EReal :=
  Ideal.exp (logW seen f i j - stabEnd seen f i)

/-- The weight of the state before the sequence in the one after. -/
def keep (seen : Fin 256 → Fin 256 → BitVec 1) (f i : Fin 256 → EReal) : EReal :=
  Ideal.exp ((∑ y, f y) + 0 - stabEnd seen f i)

/-- The kept part without the initial zero. -/
theorem keep_eq (seen : Fin 256 → Fin 256 → BitVec 1) (f i : Fin 256 → EReal) :
    keep seen f i = Ideal.exp ((∑ y, f y) - stabEnd seen f i) :=
  congrArg (fun z : EReal => Ideal.exp (z - _)) (add_zero _)

/-- The matrix memory after the sequence. -/
def mem (seen : Fin 256 → Fin 256 → BitVec 1) (f i : Fin 256 → EReal) (k v : Fin 256 → Fin 128 → EReal) (x y : Fin 128) : EReal :=
  keep seen f i * 0 + ∑ j, k j x * wEnd seen f i j * v j y

/-- The normaliser after the sequence. -/
def nrm (seen : Fin 256 → Fin 256 → BitVec 1) (f i : Fin 256 → EReal) (k : Fin 256 → Fin 128 → EReal) (x : Fin 128) : EReal :=
  keep seen f i * 0 + ∑ j, k j x * wEnd seen f i j

/-- The two directions' sum under the output gate. -/
def gated (o a b : EReal) : EReal := Ideal.logistic o * (a + b)

/-- The head's normalised and scaled output lane. -/
def head (z g : Fin 128 → EReal) (x : Fin 128) : EReal :=
  z x * Ideal.rsqrt (Ideal.div (∑ y, z y * z y) (Ideal.ofBits .f32 0x43000000#32) + Ideal.ofBits .f32 0x358637BD#32) * g x

end Cert.MlstmSpec

end
-- ==== Proof.Mlstm0Block.lean ====
/- What one grid point of the matrix-memory kernel computes from its blocks, read at an index as `MlstmSpec`'s functions. -/
module

public import proofs.«01_k».proof.Proof.Gen.Mlstm0Ideal.Value
public import Idealize.ShloMosaic.Lib.Tactic
public import proofs.«01_k».proof.Proof.MlstmSpec
public import proofs.«01_k».proof.Proof.AttnBlock

@[expose] public section

noncomputable section

namespace Cert.Mlstm0Block

open Cert.Mlstm0Ideal Cert.Mlstm0Ideal.Gen Idealize.ShloMosaic Idealize.ShloMosaic.TcCoe Idealize.SL.Sem
open Cert.MlstmSpec

/-! ## Forwards -/

section forward

variable (v11 : FVec Ideal S4x256 .f32) (v14 v15 : IVec S256x256 1) (v27 v31 v32 : FVec Ideal S256x1 .f32)
  (v16 : FVec Ideal S128x128 .f32) (v17 : FVec Ideal S1x128 .f32) (v18 : FVec Ideal S1x1 .f32)
  (seen : Fin 256 → Fin 256 → BitVec 1) (f i : Fin 256 → EReal)
  (h14 : ∀ s j, v14 (ix2 s j) = seen s j) (h15 : ∀ s j, v15 (ix2 s j) = seen j s)
  (hf : ∀ s, k0_pay15 v27 v31 v32 (ix2 s 0) = f s) (hr : ∀ s, logsig (v11 (ix2 2 s)) = f s) (hi : ∀ s, v11 (ix2 0 s) = i s)
  (h16 : ∀ x y, v16 (ix2 x y) = 0) (h17 : ∀ x, v17 (ix2 0 x) = 0) (h18 : v18 (ix2 0 0) = 0)

include h14 hr in
/-- The passed log forget gates. -/
theorem forward_cum (s : Fin 256) : k0_pay16 v11 v14 (ix2 s 0) = cum seen f s := by
  pointwise [k0_pay16]
  unfold cum
  refine Finset.sum_congr rfl fun j _ => ?_
  rw [h14, ← hr]
  rfl

include h14 h15 hf hr hi in
/-- The log decays. -/
theorem forward_logD (s j : Fin 256) : k0_pay18 v11 v14 v15 v27 v31 v32 (ix2 s j) = logD seen f i s j := by
  have e := forward_cum v11 v14 seen f h14 hr
  unfold k0_pay18
  revert e hf
  generalize k0_pay16 v11 v14 = z
  generalize k0_pay15 v27 v31 v32 = w
  intro hf e
  pointwise []
  simp only [h14, h15, hf, e, hi]
  rfl

include h14 h15 hf hr hi h18 in
/-- The stabilisers. -/
theorem forward_stab (s : Fin 256) : k0_pay20 v11 v14 v15 v18 v27 v31 v32 (ix2 s 0) = stab seen f i s := by
  have e := forward_cum v11 v14 seen f h14 hr
  have d := forward_logD v11 v14 v15 v27 v31 v32 seen f i h14 h15 hf hr hi
  unfold k0_pay20 k0_pay19
  revert e d
  generalize k0_pay16 v11 v14 = z
  generalize k0_pay18 v11 v14 v15 v27 v31 v32 = w
  intro e d
  pointwise []
  simp only [e, d, h18]
  rfl

include h14 h15 hf hr hi h18 in
/-- The tokens' weights. -/
theorem forward_wt (q k : FVec Ideal S256x128 .f32) (s j : Fin 256) : k0_pay23 v11 v14 v15 v18 q k v27 v31 v32 (ix2 s j)
    = wt seen f i (fun s x => q (ix2 s x)) (fun s x => k (ix2 s x)) s j := by
  have e := forward_stab v11 v14 v15 v27 v31 v32 v18 seen f i h14 h15 hf hr hi h18
  have d := forward_logD v11 v14 v15 v27 v31 v32 seen f i h14 h15 hf hr hi
  unfold k0_pay23 k0_pay21
  revert e d
  generalize k0_pay20 v11 v14 v15 v18 v27 v31 v32 = z
  generalize k0_pay18 v11 v14 v15 v27 v31 v32 = w
  intro e d
  pointwise []
  simp only [e, d]
  rfl

include h14 h15 hf hr hi h16 h17 h18 in
/-- The steps' outputs. -/
theorem forward_out (q k v : FVec Ideal S256x128 .f32) (s : Fin 256) (x : Fin 128) :
    k0_pay24 v16 v17 q (k0_pay19 v11 v14 v18) (k0_pay20 v11 v14 v15 v18 v27 v31 v32) (k0_pay21 q) (k0_pay22 v)
      (k0_pay23 v11 v14 v15 v18 q k v27 v31 v32) (ix2 s x)
    = out seen f i (fun s x => q (ix2 s x)) (fun s x => k (ix2 s x)) (fun s x => v (ix2 s x)) s x := by
  have e := forward_stab v11 v14 v15 v27 v31 v32 v18 seen f i h14 h15 hf hr hi h18
  have d := forward_wt v11 v14 v15 v27 v31 v32 v18 seen f i h14 h15 hf hr hi h18 q k
  have u := forward_cum v11 v14 seen f h14 hr
  unfold k0_pay19 k0_pay21 k0_pay22
  revert e d u
  generalize k0_pay20 v11 v14 v15 v18 v27 v31 v32 = z
  generalize k0_pay23 v11 v14 v15 v18 q k v27 v31 v32 = w
  generalize k0_pay16 v11 v14 = c
  intro e d u
  pointwise [k0_pay24]
  simp only [e, d, u, h16, h17, h18]
  rfl

include hf in
/-- The whole of the log forget gates. -/
theorem forward_tot : k0_pay17 v27 v31 v32 (ix2 0 0) = ∑ s, f s := by
  unfold k0_pay17
  revert hf
  generalize k0_pay15 v27 v31 v32 = w
  intro hf
  pointwise []
  simp only [hf]

section End

variable (v24 v53 : FVec Ideal S256x1 .f32) (v61 : FVec Ideal S1x1 .f32)
  (h24 : ∀ s, v24 (ix2 s 0) = i s) (h53 : ∀ s, v53 (ix2 s 0) = cum seen f s) (h61 : v61 (ix2 0 0) = ∑ s, f s)

include h24 h53 h61 in
/-- The log decays to the end. -/
theorem forward_logW (s : Fin 256) : k0_pay25 v24 v53 v61 (ix2 s 0) = logW seen f i s := by
  pointwise [k0_pay25]
  simp only [h24, h53, h61]
  rfl

include h24 h53 h61 h18 in
/-- The state's stabiliser. -/
theorem forward_stabEnd : k0_pay26 v18 v24 v53 v61 (ix2 0 0) = stabEnd seen f i := by
  have e := forward_logW seen f i v24 v53 v61 h24 h53 h61
  unfold k0_pay26
  revert e
  generalize k0_pay25 v24 v53 v61 = w
  intro e
  pointwise []
  simp only [e, h18, h61]
  rfl

include h24 h53 h61 h18 in
/-- The keys under the tokens' weights. -/
theorem forward_kw (k : FVec Ideal S256x128 .f32) (s : Fin 256) (x : Fin 128) :
    k0_pay28 v18 k v24 v53 v61 (ix2 s x) = k (ix2 s x) * wEnd seen f i s := by
  have e := forward_logW seen f i v24 v53 v61 h24 h53 h61
  have d := forward_stabEnd v18 seen f i h18 v24 v53 v61 h24 h53 h61
  unfold k0_pay28
  revert e d
  generalize k0_pay25 v24 v53 v61 = w
  generalize k0_pay26 v18 v24 v53 v61 = z
  intro e d
  pointwise []
  simp only [e, d]
  rfl

include h24 h53 h61 h18 in
/-- The kept part of the state. -/
theorem forward_keep : k0_pay27 v18 v24 v53 v61 (ix2 0 0) = keep seen f i := by
  have d := forward_stabEnd v18 seen f i h18 v24 v53 v61 h24 h53 h61
  unfold k0_pay27
  revert d
  generalize k0_pay26 v18 v24 v53 v61 = z
  intro d
  pointwise []
  simp only [d, h18, h61]
  rfl

include h24 h53 h61 h16 h18 in
/-- The matrix memory. -/
theorem forward_mem (k v : FVec Ideal S256x128 .f32) (x y : Fin 128) :
    k0_pay29 v16 v18 k v24 v53 v61 (k0_pay22 v) (ix2 x y)
      = mem seen f i (fun s x => k (ix2 s x)) (fun s x => v (ix2 s x)) x y := by
  have e := forward_kw v18 seen f i h18 v24 v53 v61 h24 h53 h61 k
  have d := forward_keep v18 seen f i h18 v24 v53 v61 h24 h53 h61
  unfold k0_pay29 k0_pay22
  revert e d
  generalize k0_pay28 v18 k v24 v53 v61 = w
  generalize k0_pay27 v18 v24 v53 v61 = z
  intro e d
  pointwise []
  simp only [e, d, h16]
  rfl

include h24 h53 h61 h17 h18 in
/-- The normaliser. -/
theorem forward_nrm (k : FVec Ideal S256x128 .f32) (x : Fin 128) :
    k0_pay30 v17 v18 k v24 v53 v61 (ix2 0 x) = nrm seen f i (fun s x => k (ix2 s x)) x := by
  have e := forward_kw v18 seen f i h18 v24 v53 v61 h24 h53 h61 k
  have d := forward_keep v18 seen f i h18 v24 v53 v61 h24 h53 h61
  unfold k0_pay30
  revert e d
  generalize k0_pay28 v18 k v24 v53 v61 = w
  generalize k0_pay27 v18 v24 v53 v61 = z
  intro e d
  pointwise []
  simp only [e, d, h17]
  rfl

end End

end forward

/-! ## Backwards -/

section backward

variable (v11 : FVec Ideal S4x256 .f32) (v14 v15 : IVec S256x256 1) (v27 v31 v32 : FVec Ideal S256x1 .f32)
  (v16 : FVec Ideal S128x128 .f32) (v17 : FVec Ideal S1x128 .f32) (v18 : FVec Ideal S1x1 .f32)
  (seen : Fin 256 → Fin 256 → BitVec 1) (f i : Fin 256 → EReal)
  (h14 : ∀ s j, v14 (ix2 s j) = seen s j) (h15 : ∀ s j, v15 (ix2 s j) = seen j s)
  (hf : ∀ s, k0_pay44 v27 v31 v32 (ix2 s 0) = f s) (hr : ∀ s, logsig (v11 (ix2 3 s)) = f s) (hi : ∀ s, v11 (ix2 1 s) = i s)
  (h16 : ∀ x y, v16 (ix2 x y) = 0) (h17 : ∀ x, v17 (ix2 0 x) = 0) (h18 : v18 (ix2 0 0) = 0)

include h14 hr in
/-- The passed log forget gates. -/
theorem backward_cum (s : Fin 256) : k0_pay45 v11 v14 (ix2 s 0) = cum seen f s := by
  pointwise [k0_pay45]
  unfold cum
  refine Finset.sum_congr rfl fun j _ => ?_
  rw [h14, ← hr]
  rfl

include h14 h15 hf hr hi in
/-- The log decays. -/
theorem backward_logD (s j : Fin 256) : k0_pay47 v11 v15 v14 v27 v31 v32 (ix2 s j) = logD seen f i s j := by
  have e := backward_cum v11 v14 seen f h14 hr
  unfold k0_pay47
  revert e hf
  generalize k0_pay45 v11 v14 = z
  generalize k0_pay44 v27 v31 v32 = w
  intro hf e
  pointwise []
  simp only [h14, h15, hf, e, hi]
  rfl

include h14 h15 hf hr hi h18 in
/-- The stabilisers. -/
theorem backward_stab (s : Fin 256) : k0_pay49 v11 v15 v14 v18 v27 v31 v32 (ix2 s 0) = stab seen f i s := by
  have e := backward_cum v11 v14 seen f h14 hr
  have d := backward_logD v11 v14 v15 v27 v31 v32 seen f i h14 h15 hf hr hi
  unfold k0_pay49 k0_pay48
  revert e d
  generalize k0_pay45 v11 v14 = z
  generalize k0_pay47 v11 v15 v14 v27 v31 v32 = w
  intro e d
  pointwise []
  simp only [e, d, h18]
  rfl

include h14 h15 hf hr hi h18 in
/-- The tokens' weights. -/
theorem backward_wt (q k : FVec Ideal S256x128 .f32) (s j : Fin 256) : k0_pay52 v11 v15 v14 v18 q k v27 v31 v32 (ix2 s j)
    = wt seen f i (fun s x => q (ix2 s x)) (fun s x => k (ix2 s x)) s j := by
  have e := backward_stab v11 v14 v15 v27 v31 v32 v18 seen f i h14 h15 hf hr hi h18
  have d := backward_logD v11 v14 v15 v27 v31 v32 seen f i h14 h15 hf hr hi
  unfold k0_pay52 k0_pay50
  revert e d
  generalize k0_pay49 v11 v15 v14 v18 v27 v31 v32 = z
  generalize k0_pay47 v11 v15 v14 v27 v31 v32 = w
  intro e d
  pointwise []
  simp only [e, d]
  rfl

include h14 h15 hf hr hi h16 h17 h18 in
/-- The steps' outputs. -/
theorem backward_out (q k v : FVec Ideal S256x128 .f32) (s : Fin 256) (x : Fin 128) :
    k0_pay53 v16 v17 q (k0_pay48 v11 v14 v18) (k0_pay49 v11 v15 v14 v18 v27 v31 v32) (k0_pay50 q) (k0_pay51 v)
      (k0_pay52 v11 v15 v14 v18 q k v27 v31 v32) (ix2 s x)
    = out seen f i (fun s x => q (ix2 s x)) (fun s x => k (ix2 s x)) (fun s x => v (ix2 s x)) s x := by
  have e := backward_stab v11 v14 v15 v27 v31 v32 v18 seen f i h14 h15 hf hr hi h18
  have d := backward_wt v11 v14 v15 v27 v31 v32 v18 seen f i h14 h15 hf hr hi h18 q k
  have u := backward_cum v11 v14 seen f h14 hr
  unfold k0_pay48 k0_pay50 k0_pay51
  revert e d u
  generalize k0_pay49 v11 v15 v14 v18 v27 v31 v32 = z
  generalize k0_pay52 v11 v15 v14 v18 q k v27 v31 v32 = w
  generalize k0_pay45 v11 v14 = c
  intro e d u
  pointwise [k0_pay53]
  simp only [e, d, u, h16, h17, h18]
  rfl

include hf in
/-- The whole of the log forget gates. -/
theorem backward_tot : k0_pay46 v27 v31 v32 (ix2 0 0) = ∑ s, f s := by
  unfold k0_pay46
  revert hf
  generalize k0_pay44 v27 v31 v32 = w
  intro hf
  pointwise []
  simp only [hf]

section End

variable (v24 v53 : FVec Ideal S256x1 .f32) (v61 : FVec Ideal S1x1 .f32)
  (h24 : ∀ s, v24 (ix2 s 0) = i s) (h53 : ∀ s, v53 (ix2 s 0) = cum seen f s) (h61 : v61 (ix2 0 0) = ∑ s, f s)

include h24 h53 h61 in
/-- The log decays to the end. -/
theorem backward_logW (s : Fin 256) : k0_pay54 v24 v53 v61 (ix2 s 0) = logW seen f i s := by
  pointwise [k0_pay54]
  simp only [h24, h53, h61]
  rfl

include h24 h53 h61 h18 in
/-- The state's stabiliser. -/
theorem backward_stabEnd : k0_pay55 v18 v24 v53 v61 (ix2 0 0) = stabEnd seen f i := by
  have e := backward_logW seen f i v24 v53 v61 h24 h53 h61
  unfold k0_pay55
  revert e
  generalize k0_pay54 v24 v53 v61 = w
  intro e
  pointwise []
  simp only [e, h18, h61]
  rfl

include h24 h53 h61 h18 in
/-- The keys under the tokens' weights. -/
theorem backward_kw (k : FVec Ideal S256x128 .f32) (s : Fin 256) (x : Fin 128) :
    k0_pay57 v18 k v24 v53 v61 (ix2 s x) = k (ix2 s x) * wEnd seen f i s := by
  have e := backward_logW seen f i v24 v53 v61 h24 h53 h61
  have d := backward_stabEnd v18 seen f i h18 v24 v53 v61 h24 h53 h61
  unfold k0_pay57
  revert e d
  generalize k0_pay54 v24 v53 v61 = w
  generalize k0_pay55 v18 v24 v53 v61 = z
  intro e d
  pointwise []
  simp only [e, d]
  rfl

include h24 h53 h61 h18 in
/-- The kept part of the state. -/
theorem backward_keep : k0_pay56 v18 v24 v53 v61 (ix2 0 0) = keep seen f i := by
  have d := backward_stabEnd v18 seen f i h18 v24 v53 v61 h24 h53 h61
  unfold k0_pay56
  revert d
  generalize k0_pay55 v18 v24 v53 v61 = z
  intro d
  pointwise []
  simp only [d, h18, h61]
  rfl

include h24 h53 h61 h16 h18 in
/-- The matrix memory. -/
theorem backward_mem (k v : FVec Ideal S256x128 .f32) (x y : Fin 128) :
    k0_pay58 v16 v18 k v24 v53 v61 (k0_pay51 v) (ix2 x y)
      = mem seen f i (fun s x => k (ix2 s x)) (fun s x => v (ix2 s x)) x y := by
  have e := backward_kw v18 seen f i h18 v24 v53 v61 h24 h53 h61 k
  have d := backward_keep v18 seen f i h18 v24 v53 v61 h24 h53 h61
  unfold k0_pay58 k0_pay51
  revert e d
  generalize k0_pay57 v18 k v24 v53 v61 = w
  generalize k0_pay56 v18 v24 v53 v61 = z
  intro e d
  pointwise []
  simp only [e, d, h16]
  rfl

include h24 h53 h61 h17 h18 in
/-- The normaliser. -/
theorem backward_nrm (k : FVec Ideal S256x128 .f32) (x : Fin 128) :
    k0_pay59 v17 v18 k v24 v53 v61 (ix2 0 x) = nrm seen f i (fun s x => k (ix2 s x)) x := by
  have e := backward_kw v18 seen f i h18 v24 v53 v61 h24 h53 h61 k
  have d := backward_keep v18 seen f i h18 v24 v53 v61 h24 h53 h61
  unfold k0_pay59
  revert e d
  generalize k0_pay57 v18 k v24 v53 v61 = w
  generalize k0_pay56 v18 v24 v53 v61 = z
  intro e d
  pointwise []
  simp only [e, d, h17]
  rfl

end End

end backward

end Cert.Mlstm0Block

end
-- ==== Proof.Mlstm0Store.lean ====
/- What one grid point of the matrix-memory kernel computes from its blocks, and stores, at an index. -/
module

public import proofs.«01_k».proof.Proof.Gen.Mlstm0Ideal.Value
public import Idealize.ShloMosaic.Lib.Tactic
public import proofs.«01_k».proof.Proof.Mlstm0Block
public import proofs.«01_k».proof.Proof.AttnBlock

@[expose] public section

noncomputable section

namespace Cert.Mlstm0Block

open Cert.Mlstm0Ideal Cert.Mlstm0Ideal.Gen Idealize.ShloMosaic Idealize.ShloMosaic.TcCoe Idealize.SL.Sem
open Cert.MlstmSpec

/-! ## What a point leaves in its output blocks -/

/-- The forward outputs of a point. -/
def fwdOut (x0 x1 x2 : FVec Ideal S256x128 .f32) (x4 : FVec Ideal S1x256x4 .f32) (x5 : FVec Ideal S1x4x256 .f32) (x6 : FVec Ideal S1x1x4 .f32) (x7 : FVec Ideal S1x4x1 .f32) : FVec Ideal S256x128 .f32 :=
  k0_pay24 k0_pay6 k0_pay7 x0 (k0_pay19 (k0_pay3 x5 x7) k0_pay4 k0_pay8) (k0_pay20 (k0_pay3 x5 x7) k0_pay4 k0_pay5 k0_pay8 (k0_pay12 x4 x6) (k0_pay13 x4 x6) k0_pay14) (k0_pay21 x0) (k0_pay22 x2)
    (k0_pay23 (k0_pay3 x5 x7) k0_pay4 k0_pay5 k0_pay8 x0 (k0_pay9 x1) (k0_pay12 x4 x6) (k0_pay13 x4 x6) k0_pay14)

/-- The forward matrix memory of a point. -/
def fwdMem (x1 x2 : FVec Ideal S256x128 .f32) (x4 : FVec Ideal S1x256x4 .f32) (x5 : FVec Ideal S1x4x256 .f32) (x6 : FVec Ideal S1x1x4 .f32) (x7 : FVec Ideal S1x4x1 .f32) : FVec Ideal S128x128 .f32 :=
  k0_pay29 k0_pay6 k0_pay8 (k0_pay9 x1) (k0_pay10 x4 x6) (k0_pay16 (k0_pay3 x5 x7) k0_pay4) (k0_pay17 (k0_pay12 x4 x6) (k0_pay13 x4 x6) k0_pay14) (k0_pay22 x2)

/-- The forward normaliser of a point. -/
def fwdNrm (x1 : FVec Ideal S256x128 .f32) (x4 : FVec Ideal S1x256x4 .f32) (x5 : FVec Ideal S1x4x256 .f32) (x6 : FVec Ideal S1x1x4 .f32) (x7 : FVec Ideal S1x4x1 .f32) : FVec Ideal S1x128 .f32 :=
  k0_pay30 k0_pay7 k0_pay8 (k0_pay9 x1) (k0_pay10 x4 x6) (k0_pay16 (k0_pay3 x5 x7) k0_pay4) (k0_pay17 (k0_pay12 x4 x6) (k0_pay13 x4 x6) k0_pay14)

/-- The forward stabiliser of a point. -/
def fwdStab (x4 : FVec Ideal S1x256x4 .f32) (x5 : FVec Ideal S1x4x256 .f32) (x6 : FVec Ideal S1x1x4 .f32) (x7 : FVec Ideal S1x4x1 .f32) : FVec Ideal S1x1 .f32 :=
  k0_pay26 k0_pay8 (k0_pay10 x4 x6) (k0_pay16 (k0_pay3 x5 x7) k0_pay4) (k0_pay17 (k0_pay12 x4 x6) (k0_pay13 x4 x6) k0_pay14)

/-- The backward outputs of a point. -/
def bwdOut (x0 x1 x2 : FVec Ideal S256x128 .f32) (x4 : FVec Ideal S1x256x4 .f32) (x5 : FVec Ideal S1x4x256 .f32) (x6 : FVec Ideal S1x1x4 .f32) (x7 : FVec Ideal S1x4x1 .f32) : FVec Ideal S256x128 .f32 :=
  k0_pay53 k0_pay35 k0_pay36 x0 (k0_pay48 (k0_pay3 x5 x7) k0_pay5 k0_pay37) (k0_pay49 (k0_pay3 x5 x7) k0_pay4 k0_pay5 k0_pay37 (k0_pay41 (k0_pay2 x4 x6)) (k0_pay42 (k0_pay2 x4 x6)) k0_pay43) (k0_pay50 x0) (k0_pay51 x2)
    (k0_pay52 (k0_pay3 x5 x7) k0_pay4 k0_pay5 k0_pay37 x0 (k0_pay38 x1) (k0_pay41 (k0_pay2 x4 x6)) (k0_pay42 (k0_pay2 x4 x6)) k0_pay43)

/-- The backward matrix memory of a point. -/
def bwdMem (x1 x2 : FVec Ideal S256x128 .f32) (x4 : FVec Ideal S1x256x4 .f32) (x5 : FVec Ideal S1x4x256 .f32) (x6 : FVec Ideal S1x1x4 .f32) (x7 : FVec Ideal S1x4x1 .f32) : FVec Ideal S128x128 .f32 :=
  k0_pay58 k0_pay35 k0_pay37 (k0_pay38 x1) (k0_pay39 (k0_pay2 x4 x6)) (k0_pay45 (k0_pay3 x5 x7) k0_pay5) (k0_pay46 (k0_pay41 (k0_pay2 x4 x6)) (k0_pay42 (k0_pay2 x4 x6)) k0_pay43) (k0_pay51 x2)

/-- The backward normaliser of a point. -/
def bwdNrm (x1 : FVec Ideal S256x128 .f32) (x4 : FVec Ideal S1x256x4 .f32) (x5 : FVec Ideal S1x4x256 .f32) (x6 : FVec Ideal S1x1x4 .f32) (x7 : FVec Ideal S1x4x1 .f32) : FVec Ideal S1x128 .f32 :=
  k0_pay59 k0_pay36 k0_pay37 (k0_pay38 x1) (k0_pay39 (k0_pay2 x4 x6)) (k0_pay45 (k0_pay3 x5 x7) k0_pay5) (k0_pay46 (k0_pay41 (k0_pay2 x4 x6)) (k0_pay42 (k0_pay2 x4 x6)) k0_pay43)

/-- The backward stabiliser of a point. -/
def bwdStab (x4 : FVec Ideal S1x256x4 .f32) (x5 : FVec Ideal S1x4x256 .f32) (x6 : FVec Ideal S1x1x4 .f32) (x7 : FVec Ideal S1x4x1 .f32) : FVec Ideal S1x1 .f32 :=
  k0_pay55 k0_pay37 (k0_pay39 (k0_pay2 x4 x6)) (k0_pay45 (k0_pay3 x5 x7) k0_pay5) (k0_pay46 (k0_pay41 (k0_pay2 x4 x6)) (k0_pay42 (k0_pay2 x4 x6)) k0_pay43)

/-- The outputs a point stores. -/
def blockH (x0 : Vec Ideal S256x128 .f32) (x1 : Vec Ideal S256x128 .f32) (x2 : Vec Ideal S256x128 .f32) (x3 : Vec Ideal S256x128 .f32) (x4 : Vec Ideal S1x256x4 .f32) (x5 : Vec Ideal S1x4x256 .f32) (x6 : Vec Ideal S1x1x4 .f32) (x7 : Vec Ideal S1x4x1 .f32) (x8 : Vec Ideal S1x1x128 .f32) : FVec Ideal S256x128 .bf16 :=
  k0_pay1 (k0_pay64 x3 (k0_pay60 (bwdOut x0 x1 x2 x4 x5 x6 x7) (k0_pay31 (fwdOut x0 x1 x2 x4 x5 x6 x7)))) (k0_pay65 x8)

/-- The rectangle of the backward matrix memory. -/
abbrev rectBwd5 : Rect S1x1x2x128x128 := Rect.unit (s := S1x1x2x128x128) ![0, 0, 1, 0, 0] S1x1x1x128x128.size inb_S1x1x2x128x128_S1x1x1x128x128_0_0_1_0_0
/-- The rectangle of the forward matrix memory. -/
abbrev rectFwd5 : Rect S1x1x2x128x128 := Rect.unit (s := S1x1x2x128x128) ![0, 0, 0, 0, 0] S1x1x1x128x128.size inb_S1x1x2x128x128_S1x1x1x128x128_0_0_0_0_0

/-- The forward half is before the backward rectangle. -/
theorem before5 (x y : Fin 128) (h2 : (![0, 0, 1, 0, 0] : Fin 5 → Nat) 2 ≤ ((ix5 0 0 0 x y : S1x1x2x128x128.Idx) (2 : Fin 5)).val) : False := by
  have e : ((ix5 0 0 0 x y : S1x1x2x128x128.Idx) (2 : Fin 5)).val = 0 := rfl
  have e1 : (![0, 0, 1, 0, 0] : Fin 5 → Nat) 2 = 1 := rfl
  rw [e, e1] at h2
  exact absurd h2 (by decide)

/-- The forward half is outside the backward rectangle. -/
theorem outside5 (x y : Fin 128) : (ix5 0 0 0 x y : S1x1x2x128x128.Idx) ∉ rectBwd5.set := by
  intro h
  exact before5 x y (Rect.mem_set_unit.mp h (2 : Fin 5)).1

/-- The forward half is the forward rectangle. -/
theorem inside5 (x y : Fin 128) : (ix5 0 0 0 x y : S1x1x2x128x128.Idx) = rectFwd5.emb (ix5 0 0 0 x y) := by
    funext a; apply Fin.ext; match a with
    | ⟨0, _⟩ => rfl
    | ⟨1, _⟩ => rfl
    | ⟨2, _⟩ => rfl
    | ⟨3, _⟩ => show x.val = 0 + 1 * x.val; omega
    | ⟨4, _⟩ => show y.val = 0 + 1 * y.val; omega

/-- Of two stores, the earlier one holds the forward half. -/
theorem store_fwd5 (P1 : rectBwd5.shape.Idx → Elt Ideal .f32) (P0 : rectFwd5.shape.Idx → Elt Ideal .f32) (x y : Fin 128) :
    View.canon (Val := Elt Ideal) (s := S1x1x2x128x128) (e := .f32) [⟨rectBwd5, P1⟩, ⟨rectFwd5, P0⟩] (ix5 0 0 0 x y) = P0 (ix5 0 0 0 x y) := by
  have h : (ix5 0 0 0 x y : S1x1x2x128x128.Idx) ∉ (⟨rectBwd5, P1⟩ : View.Piece (Elt Ideal) S1x1x2x128x128 .f32).1.set := outside5 x y
  have h' := View.canon_cons_of_not_mem (Val := Elt Ideal) (s := S1x1x2x128x128) (e := .f32) ⟨rectBwd5, P1⟩ [⟨rectFwd5, P0⟩] h
  refine h'.trans ?_
  exact (congrArg (View.canon (Val := Elt Ideal) (s := S1x1x2x128x128) (e := .f32) _) (inside5 x y)).trans (View.canon_cons_emb _ _ _ _)

/-- Of two stores, the later one holds the backward half. -/
theorem store_bwd5 (P1 : rectBwd5.shape.Idx → Elt Ideal .f32) (P0 : rectFwd5.shape.Idx → Elt Ideal .f32) (x y : Fin 128) :
    View.canon (Val := Elt Ideal) (s := S1x1x2x128x128) (e := .f32) [⟨rectBwd5, P1⟩, ⟨rectFwd5, P0⟩] (ix5 0 0 1 x y) = P1 (ix5 0 0 0 x y) := by
  have e : (ix5 0 0 1 x y : S1x1x2x128x128.Idx) = rectBwd5.emb (ix5 0 0 0 x y) := by
    funext a; apply Fin.ext; match a with
    | ⟨0, _⟩ => rfl
    | ⟨1, _⟩ => rfl
    | ⟨2, _⟩ => rfl
    | ⟨3, _⟩ => show x.val = 0 + 1 * x.val; omega
    | ⟨4, _⟩ => show y.val = 0 + 1 * y.val; omega
  exact (congrArg (View.canon (Val := Elt Ideal) (s := S1x1x2x128x128) (e := .f32) _) e).trans (View.canon_cons_emb _ _ _ _)

/-- The rectangle of the backward row. -/
abbrev rectBwd4 : Rect S1x1x2x128 := Rect.unit (s := S1x1x2x128) ![0, 0, 1, 0] S1x1x1x128.size inb_S1x1x2x128_S1x1x1x128_0_0_1_0
/-- The rectangle of the forward row. -/
abbrev rectFwd4 : Rect S1x1x2x128 := Rect.unit (s := S1x1x2x128) ![0, 0, 0, 0] S1x1x1x128.size inb_S1x1x2x128_S1x1x1x128_0_0_0_0

/-- The forward half is before the backward rectangle. -/
theorem before4 (x : Fin 128) (h2 : (![0, 0, 1, 0] : Fin 4 → Nat) 2 ≤ ((ix4 0 0 0 x : S1x1x2x128.Idx) (2 : Fin 4)).val) : False := by
  have e : ((ix4 0 0 0 x : S1x1x2x128.Idx) (2 : Fin 4)).val = 0 := rfl
  have e1 : (![0, 0, 1, 0] : Fin 4 → Nat) 2 = 1 := rfl
  rw [e, e1] at h2
  exact absurd h2 (by decide)

/-- The forward half is outside the backward rectangle. -/
theorem outside4 (x : Fin 128) : (ix4 0 0 0 x : S1x1x2x128.Idx) ∉ rectBwd4.set := by
  intro h
  exact before4 x (Rect.mem_set_unit.mp h (2 : Fin 4)).1

/-- The forward half is the forward rectangle. -/
theorem inside4 (x : Fin 128) : (ix4 0 0 0 x : S1x1x2x128.Idx) = rectFwd4.emb (ix4 0 0 0 x) := by
    funext a; apply Fin.ext; match a with
    | ⟨0, _⟩ => rfl
    | ⟨1, _⟩ => rfl
    | ⟨2, _⟩ => rfl
    | ⟨3, _⟩ => show x.val = 0 + 1 * x.val; omega

/-- Of two stores, the earlier one holds the forward half. -/
theorem store_fwd4 (P1 : rectBwd4.shape.Idx → Elt Ideal .f32) (P0 : rectFwd4.shape.Idx → Elt Ideal .f32) (x : Fin 128) :
    View.canon (Val := Elt Ideal) (s := S1x1x2x128) (e := .f32) [⟨rectBwd4, P1⟩, ⟨rectFwd4, P0⟩] (ix4 0 0 0 x) = P0 (ix4 0 0 0 x) := by
  have h : (ix4 0 0 0 x : S1x1x2x128.Idx) ∉ (⟨rectBwd4, P1⟩ : View.Piece (Elt Ideal) S1x1x2x128 .f32).1.set := outside4 x
  have h' := View.canon_cons_of_not_mem (Val := Elt Ideal) (s := S1x1x2x128) (e := .f32) ⟨rectBwd4, P1⟩ [⟨rectFwd4, P0⟩] h
  refine h'.trans ?_
  exact (congrArg (View.canon (Val := Elt Ideal) (s := S1x1x2x128) (e := .f32) _) (inside4 x)).trans (View.canon_cons_emb _ _ _ _)

/-- Of two stores, the later one holds the backward half. -/
theorem store_bwd4 (P1 : rectBwd4.shape.Idx → Elt Ideal .f32) (P0 : rectFwd4.shape.Idx → Elt Ideal .f32) (x : Fin 128) :
    View.canon (Val := Elt Ideal) (s := S1x1x2x128) (e := .f32) [⟨rectBwd4, P1⟩, ⟨rectFwd4, P0⟩] (ix4 0 0 1 x) = P1 (ix4 0 0 0 x) := by
  have e : (ix4 0 0 1 x : S1x1x2x128.Idx) = rectBwd4.emb (ix4 0 0 0 x) := by
    funext a; apply Fin.ext; match a with
    | ⟨0, _⟩ => rfl
    | ⟨1, _⟩ => rfl
    | ⟨2, _⟩ => rfl
    | ⟨3, _⟩ => show x.val = 0 + 1 * x.val; omega
  exact (congrArg (View.canon (Val := Elt Ideal) (s := S1x1x2x128) (e := .f32) _) e).trans (View.canon_cons_emb _ _ _ _)

section Pieces

open Cert.AttnBlock (off2 off3)

variable (c : Dev nD) (i : grid0.Coords) (a2 : Memref sig .tc .vmem S256x128 .f32) (w2 : a2.IsWhole) (a3 : Memref sig .tc .vmem S256x128 .f32) (w3 : a3.IsWhole) (a4 : Memref sig .tc .vmem S256x128 .f32) (w4 : a4.IsWhole) (a5 : Memref sig .tc .vmem S256x128 .f32) (w5 : a5.IsWhole) (a6 : Memref sig .tc .vmem S1x256x4 .f32) (w6 : a6.IsWhole) (a7 : Memref sig .tc .vmem S1x4x256 .f32) (w7 : a7.IsWhole) (a8 : Memref sig .tc .vmem S1x1x4 .f32) (w8 : a8.IsWhole) (a9 : Memref sig .tc .vmem S1x4x1 .f32) (w9 : a9.IsWhole) (a10 : Memref sig .tc .vmem S1x1x128 .f32) (w10 : a10.IsWhole) (a11 : Memref sig .tc .vmem S256x128 .bf16) (w11 : a11.IsWhole) (a12 : Memref sig .tc .vmem S1x1x2x128x128 .f32) (w12 : a12.IsWhole) (a13 : Memref sig .tc .vmem S1x1x2x128 .f32) (w13 : a13.IsWhole) (a14 : Memref sig .tc .vmem S1x1x2x128 .f32) (w14 : a14.IsWhole) (a15 : Memref sig .tc .vmem S256x128 .f32) (w15 : a15.IsWhole)
  (x0 : Vec Ideal S256x128 .f32) (x1 : Vec Ideal S256x128 .f32) (x2 : Vec Ideal S256x128 .f32) (x3 : Vec Ideal S256x128 .f32) (x4 : Vec Ideal S1x256x4 .f32) (x5 : Vec Ideal S1x4x256 .f32) (x6 : Vec Ideal S1x1x4 .f32) (x7 : Vec Ideal S1x4x1 .f32) (x8 : Vec Ideal S1x1x128 .f32)

set_option maxHeartbeats 1000000 in
/-- The outputs' block. -/
theorem out9_eq : out0_A_9 c i a2 w2 a3 w3 a4 w4 a5 w5 a6 w6 a7 w7 a8 w8 a9 w9 a10 w10 a11 w11 a12 w12 a13 w13 a14 w14 a15 w15 x0 x1 x2 x3 x4 x5 x6 x7 x8 = blockH x0 x1 x2 x3 x4 x5 x6 x7 x8 := by
  unfold out0_A_9
  rw [View.read_writes_eq_canon _ _ _ (cover0_A_9 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  rw [View.canon_unit_zero off2]
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  rw [View.readCov_cons_toLoadRect, View.readCov_cons_toLoadRect]
  rfl

set_option maxHeartbeats 1000000 in
/-- The block of matrix memories at the forward direction. -/
theorem out10_fwd (x y : Fin 128) : out0_A_10 c i a2 w2 a3 w3 a4 w4 a5 w5 a6 w6 a7 w7 a8 w8 a9 w9 a10 w10 a11 w11 a12 w12 a13 w13 a14 w14 a15 w15 x0 x1 x2 x3 x4 x5 x6 x7 x8 (ix5 0 0 0 x y) = fwdMem x1 x2 x4 x5 x6 x7 (ix2 x y) := by
  unfold out0_A_10
  rw [View.read_writes_eq_canon _ _ _ (cover0_A_10 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_fwd5 _ _ x y).trans ?_
  pointwise [k0_pay32]
  rfl

set_option maxHeartbeats 1000000 in
/-- The block of matrix memories at the backward direction. -/
theorem out10_bwd (x y : Fin 128) : out0_A_10 c i a2 w2 a3 w3 a4 w4 a5 w5 a6 w6 a7 w7 a8 w8 a9 w9 a10 w10 a11 w11 a12 w12 a13 w13 a14 w14 a15 w15 x0 x1 x2 x3 x4 x5 x6 x7 x8 (ix5 0 0 1 x y) = bwdMem x1 x2 x4 x5 x6 x7 (ix2 x y) := by
  unfold out0_A_10
  rw [View.read_writes_eq_canon _ _ _ (cover0_A_10 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_bwd5 _ _ x y).trans ?_
  pointwise [k0_pay61]
  rfl

set_option maxHeartbeats 1000000 in
/-- The block of normalisers at the forward direction. -/
theorem out11_fwd (x : Fin 128) : out0_A_11 c i a2 w2 a3 w3 a4 w4 a5 w5 a6 w6 a7 w7 a8 w8 a9 w9 a10 w10 a11 w11 a12 w12 a13 w13 a14 w14 a15 w15 x0 x1 x2 x3 x4 x5 x6 x7 x8 (ix4 0 0 0 x) = fwdNrm x1 x4 x5 x6 x7 (ix2 0 x) := by
  unfold out0_A_11
  rw [View.read_writes_eq_canon _ _ _ (cover0_A_11 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_fwd4 _ _ x).trans ?_
  pointwise [k0_pay33]
  rfl

set_option maxHeartbeats 1000000 in
/-- The block of normalisers at the backward direction. -/
theorem out11_bwd (x : Fin 128) : out0_A_11 c i a2 w2 a3 w3 a4 w4 a5 w5 a6 w6 a7 w7 a8 w8 a9 w9 a10 w10 a11 w11 a12 w12 a13 w13 a14 w14 a15 w15 x0 x1 x2 x3 x4 x5 x6 x7 x8 (ix4 0 0 1 x) = bwdNrm x1 x4 x5 x6 x7 (ix2 0 x) := by
  unfold out0_A_11
  rw [View.read_writes_eq_canon _ _ _ (cover0_A_11 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_bwd4 _ _ x).trans ?_
  pointwise [k0_pay62]
  rfl

set_option maxHeartbeats 1000000 in
/-- The block of stabilisers at the forward direction. -/
theorem out12_fwd (x : Fin 128) : out0_A_12 c i a2 w2 a3 w3 a4 w4 a5 w5 a6 w6 a7 w7 a8 w8 a9 w9 a10 w10 a11 w11 a12 w12 a13 w13 a14 w14 a15 w15 x0 x1 x2 x3 x4 x5 x6 x7 x8 (ix4 0 0 0 x) = fwdStab x4 x5 x6 x7 (ix2 0 0) := by
  unfold out0_A_12
  rw [View.read_writes_eq_canon _ _ _ (cover0_A_12 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_fwd4 _ _ x).trans ?_
  pointwise [k0_pay34]
  rfl

set_option maxHeartbeats 1000000 in
/-- The block of stabilisers at the backward direction. -/
theorem out12_bwd (x : Fin 128) : out0_A_12 c i a2 w2 a3 w3 a4 w4 a5 w5 a6 w6 a7 w7 a8 w8 a9 w9 a10 w10 a11 w11 a12 w12 a13 w13 a14 w14 a15 w15 x0 x1 x2 x3 x4 x5 x6 x7 x8 (ix4 0 0 1 x) = bwdStab x4 x5 x6 x7 (ix2 0 0) := by
  unfold out0_A_12
  rw [View.read_writes_eq_canon _ _ _ (cover0_A_12 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_bwd4 _ _ x).trans ?_
  pointwise [k0_pay63]
  rfl

end Pieces

/-! ## The blocks at an index -/

section Values

variable (x0 x1 x2 x3 : FVec Ideal S256x128 .f32) (x4 : FVec Ideal S1x256x4 .f32) (x5 : FVec Ideal S1x4x256 .f32)
  (x6 : FVec Ideal S1x1x4 .f32) (x7 : FVec Ideal S1x4x1 .f32) (x8 : FVec Ideal S1x1x128 .f32)
  (G : Fin 256 → Fin 4 → EReal) (hc : ∀ s a, x4 (ix3 0 s a) + x6 (ix3 0 0 a) = G s a) (hr : ∀ s a, x5 (ix3 0 a s) + x7 (ix3 0 a 0) = G s a)

/-- The key a point uses: the block's, scaled. -/
def key (s : Fin 256) (x : Fin 128) : EReal := x1 (ix2 s x) * Ideal.ofBits .f32 0x3DB504F3#32

include hc in
/-- The column gates. -/
theorem col_apply (s : Fin 256) (a : Fin 4) : k0_pay2 (F := Ideal) x4 x6 (ix2 s a) = G s a := by
  rw [← hc]
  pointwise [k0_pay2]

include hr in
/-- The row gates. -/
theorem row_apply (s : Fin 256) (a : Fin 4) : k0_pay3 (F := Ideal) x5 x7 (ix2 a s) = G s a := by
  rw [← hr]
  pointwise [k0_pay3]

/-- The lower mask. -/
theorem mask_fwd (s j : Fin 256) : k0_pay4 (ix2 s j) = fwd s j := by
  pointwise [k0_pay4]
  rfl

/-- The upper mask. -/
theorem mask_bwd (s j : Fin 256) : k0_pay5 (ix2 s j) = bwd s j := by
  pointwise [k0_pay5]
  rfl

include hc in
/-- The forward log forget gates. -/
theorem fwd_gate (s : Fin 256) : k0_pay15 (F := Ideal) (k0_pay12 x4 x6) (k0_pay13 x4 x6) k0_pay14 (ix2 s 0) = logsig (G s 2) := by
  have e := col_apply x4 x6 G hc
  unfold k0_pay12 k0_pay13 k0_pay11
  revert e
  generalize k0_pay2 (F := Ideal) x4 x6 = z
  intro e
  pointwise [k0_pay15, k0_pay14]
  rw [e]
  rfl

include hc in
/-- The forward input gates. -/
theorem fwd_in (s : Fin 256) : k0_pay10 (F := Ideal) x4 x6 (ix2 s 0) = G s 0 := by
  have e := col_apply x4 x6 G hc
  unfold k0_pay10
  revert e
  generalize k0_pay2 (F := Ideal) x4 x6 = z
  intro e
  pointwise []
  rw [e]

/-- The scaled keys. -/
theorem fwd_key (s : Fin 256) (x : Fin 128) : k0_pay9 (F := Ideal) x1 (ix2 s x) = key x1 s x := by
  pointwise [k0_pay9]
  rfl

include hc hr in
/-- The forward outputs. -/
theorem fwdOut_apply (s : Fin 256) (x : Fin 128) : fwdOut x0 x1 x2 x4 x5 x6 x7 (ix2 s x)
    = out fwd (fun s => logsig (G s 2)) (fun s => G s 0) (fun s x => x0 (ix2 s x)) (key x1) (fun s x => x2 (ix2 s x)) s x := by
  refine (forward_out (k0_pay3 x5 x7) k0_pay4 k0_pay5 (k0_pay12 x4 x6) (k0_pay13 x4 x6) k0_pay14 k0_pay6 k0_pay7 k0_pay8 fwd (fun s => logsig (G s 2)) (fun s => G s 0)
    (fun s j => mask_fwd s j) (fun s j => mask_bwd s j) (fun s => fwd_gate x4 x6 G hc s)
    (fun s => congrArg logsig (row_apply x5 x7 G hr s 2)) (fun s => row_apply x5 x7 G hr s 0)
    (fun x y => by pointwise [k0_pay6]) (fun x => by pointwise [k0_pay7]) (by pointwise [k0_pay8]) x0 (k0_pay9 x1) x2 s x).trans ?_
  simp only [fwd_key]

include hc hr in
/-- The forward matrix memory. -/
theorem fwdMem_apply (x y : Fin 128) : fwdMem x1 x2 x4 x5 x6 x7 (ix2 x y)
    = mem fwd (fun s => logsig (G s 2)) (fun s => G s 0) (key x1) (fun s x => x2 (ix2 s x)) x y := by
  refine (forward_mem k0_pay6 k0_pay8 fwd (fun s => logsig (G s 2)) (fun s => G s 0)
    (fun x y => by pointwise [k0_pay6]) (by pointwise [k0_pay8]) (k0_pay10 x4 x6) (k0_pay16 (k0_pay3 x5 x7) k0_pay4) (k0_pay17 (k0_pay12 x4 x6) (k0_pay13 x4 x6) k0_pay14)
    (fun s => fwd_in x4 x6 G hc s)
    (fun s => forward_cum (k0_pay3 x5 x7) k0_pay4 fwd (fun s => logsig (G s 2)) (fun s j => mask_fwd s j) (fun s => congrArg logsig (row_apply x5 x7 G hr s 2)) s)
    (forward_tot (k0_pay12 x4 x6) (k0_pay13 x4 x6) k0_pay14 (fun s => logsig (G s 2)) fun s => fwd_gate x4 x6 G hc s) (k0_pay9 x1) x2 x y).trans ?_
  simp only [fwd_key]

include hc hr in
/-- The forward normaliser. -/
theorem fwdNrm_apply (x : Fin 128) : fwdNrm x1 x4 x5 x6 x7 (ix2 0 x) = nrm fwd (fun s => logsig (G s 2)) (fun s => G s 0) (key x1) x := by
  refine (forward_nrm k0_pay7 k0_pay8 fwd (fun s => logsig (G s 2)) (fun s => G s 0)
    (fun x => by pointwise [k0_pay7]) (by pointwise [k0_pay8]) (k0_pay10 x4 x6) (k0_pay16 (k0_pay3 x5 x7) k0_pay4) (k0_pay17 (k0_pay12 x4 x6) (k0_pay13 x4 x6) k0_pay14)
    (fun s => fwd_in x4 x6 G hc s)
    (fun s => forward_cum (k0_pay3 x5 x7) k0_pay4 fwd (fun s => logsig (G s 2)) (fun s j => mask_fwd s j) (fun s => congrArg logsig (row_apply x5 x7 G hr s 2)) s)
    (forward_tot (k0_pay12 x4 x6) (k0_pay13 x4 x6) k0_pay14 (fun s => logsig (G s 2)) fun s => fwd_gate x4 x6 G hc s) (k0_pay9 x1) x).trans ?_
  simp only [fwd_key]

include hc hr in
/-- The forward stabiliser. -/
theorem fwdStab_apply : fwdStab x4 x5 x6 x7 (ix2 0 0) = stabEnd fwd (fun s => logsig (G s 2)) (fun s => G s 0) :=
  forward_stabEnd k0_pay8 fwd (fun s => logsig (G s 2)) (fun s => G s 0) (by pointwise [k0_pay8]) (k0_pay10 x4 x6) (k0_pay16 (k0_pay3 x5 x7) k0_pay4) (k0_pay17 (k0_pay12 x4 x6) (k0_pay13 x4 x6) k0_pay14)
    (fun s => fwd_in x4 x6 G hc s)
    (fun s => forward_cum (k0_pay3 x5 x7) k0_pay4 fwd (fun s => logsig (G s 2)) (fun s j => mask_fwd s j) (fun s => congrArg logsig (row_apply x5 x7 G hr s 2)) s)
    (forward_tot (k0_pay12 x4 x6) (k0_pay13 x4 x6) k0_pay14 (fun s => logsig (G s 2)) fun s => fwd_gate x4 x6 G hc s)

include hc in
/-- The backward log forget gates. -/
theorem bwd_gate (s : Fin 256) : k0_pay44 (F := Ideal) (k0_pay41 (k0_pay2 x4 x6)) (k0_pay42 (k0_pay2 x4 x6)) k0_pay43 (ix2 s 0) = logsig (G s 3) := by
  have e := col_apply x4 x6 G hc
  unfold k0_pay41 k0_pay42 k0_pay40
  revert e
  generalize k0_pay2 (F := Ideal) x4 x6 = z
  intro e
  pointwise [k0_pay44, k0_pay43]
  rw [e]
  rfl

include hc in
/-- The backward input gates. -/
theorem bwd_in (s : Fin 256) : k0_pay39 (F := Ideal) (k0_pay2 x4 x6) (ix2 s 0) = G s 1 := by
  have e := col_apply x4 x6 G hc
  unfold k0_pay39
  revert e
  generalize k0_pay2 (F := Ideal) x4 x6 = z
  intro e
  pointwise []
  rw [e]

/-- The scaled keys. -/
theorem bwd_key (s : Fin 256) (x : Fin 128) : k0_pay38 (F := Ideal) x1 (ix2 s x) = key x1 s x := by
  pointwise [k0_pay38]
  rfl

include hc hr in
/-- The backward outputs. -/
theorem bwdOut_apply (s : Fin 256) (x : Fin 128) : bwdOut x0 x1 x2 x4 x5 x6 x7 (ix2 s x)
    = out bwd (fun s => logsig (G s 3)) (fun s => G s 1) (fun s x => x0 (ix2 s x)) (key x1) (fun s x => x2 (ix2 s x)) s x := by
  refine (backward_out (k0_pay3 x5 x7) k0_pay5 k0_pay4 (k0_pay41 (k0_pay2 x4 x6)) (k0_pay42 (k0_pay2 x4 x6)) k0_pay43 k0_pay35 k0_pay36 k0_pay37 bwd (fun s => logsig (G s 3)) (fun s => G s 1)
    (fun s j => mask_bwd s j) (fun s j => mask_fwd s j) (fun s => bwd_gate x4 x6 G hc s)
    (fun s => congrArg logsig (row_apply x5 x7 G hr s 3)) (fun s => row_apply x5 x7 G hr s 1)
    (fun x y => by pointwise [k0_pay35]) (fun x => by pointwise [k0_pay36]) (by pointwise [k0_pay37]) x0 (k0_pay38 x1) x2 s x).trans ?_
  simp only [bwd_key]

include hc hr in
/-- The backward matrix memory. -/
theorem bwdMem_apply (x y : Fin 128) : bwdMem x1 x2 x4 x5 x6 x7 (ix2 x y)
    = mem bwd (fun s => logsig (G s 3)) (fun s => G s 1) (key x1) (fun s x => x2 (ix2 s x)) x y := by
  refine (backward_mem k0_pay35 k0_pay37 bwd (fun s => logsig (G s 3)) (fun s => G s 1)
    (fun x y => by pointwise [k0_pay35]) (by pointwise [k0_pay37]) (k0_pay39 (k0_pay2 x4 x6)) (k0_pay45 (k0_pay3 x5 x7) k0_pay5) (k0_pay46 (k0_pay41 (k0_pay2 x4 x6)) (k0_pay42 (k0_pay2 x4 x6)) k0_pay43)
    (fun s => bwd_in x4 x6 G hc s)
    (fun s => backward_cum (k0_pay3 x5 x7) k0_pay5 bwd (fun s => logsig (G s 3)) (fun s j => mask_bwd s j) (fun s => congrArg logsig (row_apply x5 x7 G hr s 3)) s)
    (backward_tot (k0_pay41 (k0_pay2 x4 x6)) (k0_pay42 (k0_pay2 x4 x6)) k0_pay43 (fun s => logsig (G s 3)) fun s => bwd_gate x4 x6 G hc s) (k0_pay38 x1) x2 x y).trans ?_
  simp only [bwd_key]

include hc hr in
/-- The backward normaliser. -/
theorem bwdNrm_apply (x : Fin 128) : bwdNrm x1 x4 x5 x6 x7 (ix2 0 x) = nrm bwd (fun s => logsig (G s 3)) (fun s => G s 1) (key x1) x := by
  refine (backward_nrm k0_pay36 k0_pay37 bwd (fun s => logsig (G s 3)) (fun s => G s 1)
    (fun x => by pointwise [k0_pay36]) (by pointwise [k0_pay37]) (k0_pay39 (k0_pay2 x4 x6)) (k0_pay45 (k0_pay3 x5 x7) k0_pay5) (k0_pay46 (k0_pay41 (k0_pay2 x4 x6)) (k0_pay42 (k0_pay2 x4 x6)) k0_pay43)
    (fun s => bwd_in x4 x6 G hc s)
    (fun s => backward_cum (k0_pay3 x5 x7) k0_pay5 bwd (fun s => logsig (G s 3)) (fun s j => mask_bwd s j) (fun s => congrArg logsig (row_apply x5 x7 G hr s 3)) s)
    (backward_tot (k0_pay41 (k0_pay2 x4 x6)) (k0_pay42 (k0_pay2 x4 x6)) k0_pay43 (fun s => logsig (G s 3)) fun s => bwd_gate x4 x6 G hc s) (k0_pay38 x1) x).trans ?_
  simp only [bwd_key]

include hc hr in
/-- The backward stabiliser. -/
theorem bwdStab_apply : bwdStab x4 x5 x6 x7 (ix2 0 0) = stabEnd bwd (fun s => logsig (G s 3)) (fun s => G s 1) :=
  backward_stabEnd k0_pay37 bwd (fun s => logsig (G s 3)) (fun s => G s 1) (by pointwise [k0_pay37]) (k0_pay39 (k0_pay2 x4 x6)) (k0_pay45 (k0_pay3 x5 x7) k0_pay5) (k0_pay46 (k0_pay41 (k0_pay2 x4 x6)) (k0_pay42 (k0_pay2 x4 x6)) k0_pay43)
    (fun s => bwd_in x4 x6 G hc s)
    (fun s => backward_cum (k0_pay3 x5 x7) k0_pay5 bwd (fun s => logsig (G s 3)) (fun s j => mask_bwd s j) (fun s => congrArg logsig (row_apply x5 x7 G hr s 3)) s)
    (backward_tot (k0_pay41 (k0_pay2 x4 x6)) (k0_pay42 (k0_pay2 x4 x6)) k0_pay43 (fun s => logsig (G s 3)) fun s => bwd_gate x4 x6 G hc s)

include hc hr in
/-- THE OUTPUTS' BLOCK at an index. -/
theorem blockH_apply (s : Fin 256) (x : Fin 128) : blockH x0 x1 x2 x3 x4 x5 x6 x7 x8 (ix2 s x)
    = head (fun y => gated (x3 (ix2 s y))
        (out fwd (fun s => logsig (G s 2)) (fun s => G s 0) (fun s x => x0 (ix2 s x)) (key x1) (fun s x => x2 (ix2 s x)) s y)
        (out bwd (fun s => logsig (G s 3)) (fun s => G s 1) (fun s x => x0 (ix2 s x)) (key x1) (fun s x => x2 (ix2 s x)) s y))
      (fun y => x8 (ix3 0 0 y)) x := by
  have e := fwdOut_apply x0 x1 x2 x4 x5 x6 x7 G hc hr
  have d := bwdOut_apply x0 x1 x2 x4 x5 x6 x7 G hc hr
  unfold blockH
  revert e d
  generalize fwdOut x0 x1 x2 x4 x5 x6 x7 = z
  generalize bwdOut x0 x1 x2 x4 x5 x6 x7 = w
  intro e d
  pointwise [k0_pay1, k0_pay64, k0_pay60, k0_pay31, k0_pay65]
  simp only [e, d]
  rfl

end Values

end Cert.Mlstm0Block

end
-- ==== Proof.Mlstm0Ref.lean ====
/- The matrix-memory reference's results read at an index, as `MlstmSpec`'s functions of the argument arrays. -/
module

public import proofs.«01_k».proof.Proof.Gen.Mlstm0RefIdeal.Read
public import proofs.«01_k».proof.Proof.MlstmSpec

@[expose] public section

noncomputable section

namespace Cert.Mlstm0Ref

open Cert.Mlstm0RefIdeal Cert.Mlstm0RefIdeal.Read Cert.Mlstm0RefIdeal.Gen Idealize.ShloMosaic Idealize.ShloMosaic.TcCoe
open Cert.MlstmSpec

variable (x0 : FVec Ideal S10240x4096 .f32) (x1 : FVec Ideal S10240x128 .f32) (x2 x3 : FVec Ideal S2x2x8 .f32)
  (x4 : FVec Ideal S2x1024 .f32)

/-- The lanes of row `s` of sequence `b`, head `h`, from column `o` on. -/
def lanes (o : Nat) (ho : o ≤ 3072) (b : Fin 32) (h : Fin 8) (s : Fin 256) (x : Fin 128) : EReal :=
  x0 (ix2 ⟨b.val * 256 + s.val, by omega⟩ ⟨o + (h.val * 128 + x.val), by omega⟩)

/-- The scaled keys. -/
def keys (b : Fin 32) (h : Fin 8) (s : Fin 256) (x : Fin 128) : EReal :=
  lanes x0 1024 (by decide) b h s x * Ideal.ofBits .f32 0x3DB504F3#32

/-- The input gates of direction `d`. -/
def inGate (b : Fin 32) (h : Fin 8) (d : Fin 2) (s : Fin 256) : EReal :=
  x1 (ix2 ⟨b.val * 256 + s.val, by omega⟩ ⟨d.val * 8 + h.val, by omega⟩) + x2 (ix3 0 d h)

/-- The log forget gates of direction `d`. -/
def outGate (b : Fin 32) (h : Fin 8) (d : Fin 2) (s : Fin 256) : EReal :=
  logsig (x1 (ix2 ⟨b.val * 256 + s.val, by omega⟩ ⟨16 + (d.val * 8 + h.val), by omega⟩) + x3 (ix3 0 d h))

/-- The head's gain. -/
def gain (h : Fin 8) (x : Fin 128) : EReal := x4 (ix2 0 ⟨h.val * 128 + x.val, by omega⟩)

/-- The queries. -/
theorem q_apply (b : Fin 32) (h : Fin 8) (s : Fin 256) (x : Fin 128) :
    val_main_v2 (F := Ideal) x0 (ix4 b h s x) = lanes x0 0 (by decide) b h s x := by
  pointwise [val_main_v2, val_main_v1, val_main_v0]
  refine congrArg x0 ?_
  funext a; match a with
  | ⟨0, _⟩ => rfl
  | ⟨1, _⟩ => exact Fin.ext (Nat.zero_add _).symm

/-- The keys. -/
theorem k_apply (b : Fin 32) (h : Fin 8) (s : Fin 256) (x : Fin 128) :
    val_main_v7 (F := Ideal) x0 (ix4 b h s x) = keys x0 b h s x := by
  pointwise [val_main_v7, val_main_v6, val_main_cst, val_main_v5, val_main_v4, val_main_v3]
  rfl

/-- The values. -/
theorem v_apply (b : Fin 32) (h : Fin 8) (s : Fin 256) (x : Fin 128) :
    val_main_v10 (F := Ideal) x0 (ix4 b h s x) = lanes x0 2048 (by decide) b h s x := by
  pointwise [val_main_v10, val_main_v9, val_main_v8]
  rfl

/-- The output gates. -/
theorem o_apply (b : Fin 32) (h : Fin 8) (s : Fin 256) (x : Fin 128) :
    val_main_v13 (F := Ideal) x0 (ix4 b h s x) = lanes x0 3072 (by decide) b h s x := by
  pointwise [val_main_v13, val_main_v12, val_main_v11]
  rfl

/-- The input gates before the heads move. -/
theorem in_apply (b : Fin 32) (h : Fin 8) (d : Fin 2) (s : Fin 256) :
    val_main_v20 (F := Ideal) x1 x2 (ix4 b s d h) = inGate x1 x2 b h d s := by
  pointwise [val_main_v20, val_main_v15, val_main_v14, val_main_v19, val_main_v18, val_main_v17, val_main_v16]
  refine congrArg₂ (fun a b : EReal => a + b) (congrArg x1 ?_) (congrArg x2 ?_)
  · funext a; match a with
    | ⟨0, _⟩ => rfl
    | ⟨1, _⟩ => exact Fin.ext (by simp)
  · funext a; match a with
    | ⟨0, _⟩ => rfl
    | ⟨1, _⟩ => exact Fin.ext (by simp)
    | ⟨2, _⟩ => exact Fin.ext (by simp)

/-- The forget gates' arguments before the heads move. -/
theorem out_arg (b : Fin 32) (h : Fin 8) (d : Fin 2) (s : Fin 256) :
    val_main_v27 (F := Ideal) x1 x3 (ix4 b s d h)
      = x1 (ix2 ⟨b.val * 256 + s.val, by omega⟩ ⟨16 + (d.val * 8 + h.val), by omega⟩) + x3 (ix3 0 d h) := by
  pointwise [val_main_v27, val_main_v22, val_main_v21, val_main_v26, val_main_v25, val_main_v24, val_main_v23]

/-- The log forget gates before the heads move. -/
theorem out_apply (b : Fin 32) (h : Fin 8) (d : Fin 2) (s : Fin 256) :
    val_main_v28 (F := Ideal) x1 x3 (ix4 b s d h) = outGate x1 x3 b h d s := by
  have e := out_arg x1 x3 b h d s
  unfold outGate
  rw [← e]
  unfold val_main_v28 val_main_call0_v1 val_main_call0_call0_v11 val_main_call0_call0_v10 val_main_call0_call0_v9
    val_main_call0_call0_v8 val_main_call0_call0_v7 val_main_call0_call0_v6 val_main_call0_call0_v4
    val_main_call0_call0_v3 val_main_call0_call0_v1 val_main_call0_v0
  generalize val_main_v27 (F := Ideal) x1 x3 = z
  pointwise [val_main_call0_call0_v0, val_main_call0_call0_v2, val_main_call0_call0_v5, val_main_call0_call0_cst]
  exact softplus_neg _

/-! ## Forwards -/

section forwards

variable (b : Fin 32) (h : Fin 8)

/-- The input gates. -/
theorem forwards_in (s : Fin 256) : val_main_v32 (F := Ideal) x1 x2 (ix3 b h s) = inGate x1 x2 b h 0 s := by
  have e := in_apply x1 x2 b h 0
  unfold val_main_v32 val_main_v31 val_main_v30
  revert e
  generalize val_main_v20 (F := Ideal) x1 x2 = z
  intro e
  pointwise []
  exact e s

/-- The log forget gates. -/
theorem forwards_gate (s : Fin 256) : val_main_v35 (F := Ideal) x1 x3 (ix3 b h s) = outGate x1 x3 b h 0 s := by
  have e := out_apply x1 x3 b h 0
  unfold val_main_v35 val_main_v34 val_main_v33
  revert e
  generalize val_main_v28 (F := Ideal) x1 x3 = z
  intro e
  pointwise []
  exact e s

/-- The mask. -/
theorem forwards_mask (s j : Fin 256) : val_main_v40 (F := Ideal) (ix2 s j) = fwd s j := by
  pointwise [val_main_v40, val_main_v39, val_main_v38, val_main_v37, val_main_v36, val_main_v29]
  rfl

/-- The passed log forget gates. -/
theorem forwards_cum (s : Fin 256) : val_main_v46 (F := Ideal) x1 x3 (ix3 b h s) = cum fwd (outGate x1 x3 b h 0) s := by
  have e := forwards_gate x1 x3 b h
  have d := forwards_mask
  unfold val_main_v46 val_main_v45 val_main_call1_v1 val_main_call1_v2 val_main_v44
  revert e d
  generalize val_main_v35 (F := Ideal) x1 x3 = z
  generalize val_main_v40 (F := Ideal) = w
  intro e d
  unfold val_main_call1_v3 val_main_call1_v0 val_main_cst_3
  simp only [id]
  pointwise [val_main_cst_4]
  simp only [e, d]
  rfl

/-- The log decays. -/
theorem forwards_logD (s j : Fin 256) : val_main_v55 (F := Ideal) x1 x2 x3 (ix4 b h s j)
    = logD fwd (outGate x1 x3 b h 0) (inGate x1 x2 b h 0) s j := by
  have e := forwards_cum x1 x3 b h
  have d := forwards_mask
  have u := forwards_in x1 x2 b h
  unfold val_main_v55 val_main_v54 val_main_v53 val_main_v52 val_main_v51 val_main_v50 val_main_v49 val_main_v48 val_main_v47 val_main_call2_v1
  revert e d u
  generalize val_main_v46 (F := Ideal) x1 x3 = z
  generalize val_main_v40 (F := Ideal) = w
  generalize val_main_v32 (F := Ideal) x1 x2 = y
  intro e d u
  unfold val_main_call2_v2 val_main_call2_v0 val_main_cst_5
  simp only [id]
  pointwise []
  simp only [e, d, u]
  rfl

/-- A maximum over the last axis is a fold over the tokens. -/
theorem forwards_max (y : FVec Ideal S32x8x256x256 .f32) (s : Fin 256) :
    Host.reduce FloatOps.maximumf y (val_main_cst_6 (F := Ideal)) reducesTo_S32x8x256x256_S32x8x256_d3 h_S_ (ix3 b h s)
      = Finset.fold max (Ideal.ofBits .f32 0xFF800000#32) (fun x => y (ix4 b h s x)) Finset.univ := by
  pointwise [val_main_cst_6]

/-- The largest log decays. -/
theorem forwards_top (s : Fin 256) : val_main_v59 (F := Ideal) x1 x2 x3 (ix3 b h s)
    = Finset.fold max (Ideal.ofBits .f32 0xFF800000#32) (logD fwd (outGate x1 x3 b h 0) (inGate x1 x2 b h 0) s) Finset.univ := by
  unfold val_main_v59
  rw [forwards_max]
  simp only [forwards_logD]

/-- The stabilisers. -/
theorem forwards_stab (s : Fin 256) : val_main_v60 (F := Ideal) x1 x2 x3 (ix3 b h s)
    = stab fwd (outGate x1 x3 b h 0) (inGate x1 x2 b h 0) s := by
  have e := forwards_cum x1 x3 b h
  have d := forwards_top x1 x2 x3 b h
  unfold val_main_v60 val_main_v58
  revert e d
  generalize val_main_v46 (F := Ideal) x1 x3 = z
  generalize val_main_v59 (F := Ideal) x1 x2 x3 = w
  intro e d
  pointwise [val_main_v57, val_main_v56, val_main_v43, val_main_cst_2]
  rw [stab_eq, e, d]

/-- The tokens' weights. -/
theorem forwards_wt (s j : Fin 256) : val_main_v66 (F := Ideal) x0 x1 x2 x3 (ix4 b h s j)
    = wt fwd (outGate x1 x3 b h 0) (inGate x1 x2 b h 0) (lanes x0 0 (by decide) b h) (keys x0 b h) s j := by
  have e := forwards_stab x1 x2 x3 b h
  have d := forwards_logD x1 x2 x3 b h
  have q := q_apply x0 b h
  have k := k_apply x0 b h
  unfold val_main_v66 val_main_v65 val_main_v64 val_main_v63 val_main_v62 val_main_v61
  revert e d q k
  generalize val_main_v60 (F := Ideal) x1 x2 x3 = z
  generalize val_main_v55 (F := Ideal) x1 x2 x3 = w
  generalize val_main_v2 (F := Ideal) x0 = a
  generalize val_main_v7 (F := Ideal) x0 = c
  intro e d q k
  pointwise []
  simp only [e, d, q, k]
  rfl

/-- The weight of the state before the sequence. -/
theorem forwards_carried (s : Fin 256) : val_main_v68 (F := Ideal) x1 x2 x3 (ix3 b h s)
    = carried fwd (outGate x1 x3 b h 0) (inGate x1 x2 b h 0) s := by
  have e := forwards_stab x1 x2 x3 b h
  have d := forwards_cum x1 x3 b h
  unfold val_main_v68 val_main_v67 val_main_v58
  revert e d
  generalize val_main_v60 (F := Ideal) x1 x2 x3 = z
  generalize val_main_v46 (F := Ideal) x1 x3 = w
  intro e d
  pointwise [val_main_v57, val_main_v56, val_main_v43, val_main_cst_2]
  rw [carried_eq, e, d]

/-- The denominators. -/
theorem forwards_den (s : Fin 256) : val_main_v82 (F := Ideal) x0 x1 x2 x3 (ix3 b h s)
    = den fwd (outGate x1 x3 b h 0) (inGate x1 x2 b h 0) (lanes x0 0 (by decide) b h) (keys x0 b h) s := by
  have e := forwards_stab x1 x2 x3 b h
  have d := forwards_wt x0 x1 x2 x3 b h
  have u := forwards_carried x1 x2 x3 b h
  have q := q_apply x0 b h
  unfold val_main_v82 val_main_v81 val_main_v80 val_main_v79 val_main_v78 val_main_v77 val_main_v76 val_main_v75
  revert e d u q
  generalize val_main_v60 (F := Ideal) x1 x2 x3 = z
  generalize val_main_v66 (F := Ideal) x0 x1 x2 x3 = w
  generalize val_main_v68 (F := Ideal) x1 x2 x3 = y
  generalize val_main_v2 (F := Ideal) x0 = a
  intro e d u q
  pointwise [val_main_v42, val_main_cst_1, val_main_cst_7]
  simp only [e, d, u, q]
  unfold den
  rw [zero_sub]
  rfl

/-- The steps' outputs. -/
theorem forwards_out (s : Fin 256) (x : Fin 128) : val_main_v85 (F := Ideal) x0 x1 x2 x3 (ix4 b h s x)
    = out fwd (outGate x1 x3 b h 0) (inGate x1 x2 b h 0) (lanes x0 0 (by decide) b h) (keys x0 b h)
        (lanes x0 2048 (by decide) b h) s x := by
  have e := forwards_den x0 x1 x2 x3 b h
  have d := forwards_wt x0 x1 x2 x3 b h
  have u := forwards_carried x1 x2 x3 b h
  have q := q_apply x0 b h
  have k := v_apply x0 b h
  unfold val_main_v85 val_main_v84 val_main_v83 val_main_v74 val_main_v73 val_main_v72 val_main_v71 val_main_v70 val_main_v69
  revert e d u q k
  generalize val_main_v82 (F := Ideal) x0 x1 x2 x3 = z
  generalize val_main_v66 (F := Ideal) x0 x1 x2 x3 = w
  generalize val_main_v68 (F := Ideal) x1 x2 x3 = y
  generalize val_main_v2 (F := Ideal) x0 = a
  generalize val_main_v10 (F := Ideal) x0 = c
  intro e d u q k
  pointwise [val_main_v41, val_main_cst_0]
  simp only [e, d, u, q, k]
  rfl

/-- The whole of the log forget gates. -/
theorem forwards_tot : val_main_v86 (F := Ideal) x1 x3 (ix2 b h) = ∑ s, outGate x1 x3 b h 0 s := by
  have e := forwards_gate x1 x3 b h
  unfold val_main_v86
  revert e
  generalize val_main_v35 (F := Ideal) x1 x3 = z
  intro e
  pointwise [val_main_cst_8]
  simp only [e]

/-- The log decays to the end. -/
theorem forwards_logW (s : Fin 256) : val_main_v90 (F := Ideal) x1 x2 x3 (ix3 b h s)
    = logW fwd (outGate x1 x3 b h 0) (inGate x1 x2 b h 0) s := by
  have e := forwards_tot x1 x3 b h
  have d := forwards_cum x1 x3 b h
  have u := forwards_in x1 x2 b h
  unfold val_main_v90 val_main_v89 val_main_v88 val_main_v87
  revert e d u
  generalize val_main_v86 (F := Ideal) x1 x3 = z
  generalize val_main_v46 (F := Ideal) x1 x3 = w
  generalize val_main_v32 (F := Ideal) x1 x2 = y
  intro e d u
  pointwise []
  simp only [e, d, u]
  rfl

/-- A maximum over a head's tokens is a fold. -/
theorem forwards_maxEnd (y : FVec Ideal S32x8x256 .f32) :
    Host.reduce FloatOps.maximumf y (val_main_cst_9 (F := Ideal)) reducesTo_S32x8x256_S32x8_d2 h_S_ (ix2 b h)
      = Finset.fold max (Ideal.ofBits .f32 0xFF800000#32) (fun x => y (ix3 b h x)) Finset.univ := by
  pointwise [val_main_cst_9]

/-- The largest log weight. -/
theorem forwards_topEnd : val_main_v92 (F := Ideal) x1 x2 x3 (ix2 b h)
    = Finset.fold max (Ideal.ofBits .f32 0xFF800000#32) (logW fwd (outGate x1 x3 b h 0) (inGate x1 x2 b h 0)) Finset.univ := by
  unfold val_main_v92
  rw [forwards_maxEnd]
  simp only [forwards_logW]

/-- The state's stabiliser. -/
theorem forwards_stabEnd : val_main_v93 (F := Ideal) x1 x2 x3 (ix2 b h)
    = stabEnd fwd (outGate x1 x3 b h 0) (inGate x1 x2 b h 0) := by
  have e := forwards_tot x1 x3 b h
  have d := forwards_topEnd x1 x2 x3 b h
  unfold val_main_v93 val_main_v91
  revert e d
  generalize val_main_v86 (F := Ideal) x1 x3 = z
  generalize val_main_v92 (F := Ideal) x1 x2 x3 = w
  intro e d
  pointwise [val_main_v43, val_main_cst_2]
  rw [stabEnd_eq, e, d]

/-- The tokens' weights in the state. -/
theorem forwards_wEnd (s : Fin 256) : val_main_v97 (F := Ideal) x1 x2 x3 (ix3 b h s)
    = wEnd fwd (outGate x1 x3 b h 0) (inGate x1 x2 b h 0) s := by
  have e := forwards_stabEnd x1 x2 x3 b h
  have d := forwards_logW x1 x2 x3 b h
  unfold val_main_v97 val_main_v96 val_main_v95 val_main_v94
  revert e d
  generalize val_main_v93 (F := Ideal) x1 x2 x3 = z
  generalize val_main_v90 (F := Ideal) x1 x2 x3 = w
  intro e d
  pointwise []
  simp only [e, d]
  rfl

/-- The kept part of the state. -/
theorem forwards_keep : val_main_v100 (F := Ideal) x1 x2 x3 (ix2 b h)
    = keep fwd (outGate x1 x3 b h 0) (inGate x1 x2 b h 0) := by
  have e := forwards_stabEnd x1 x2 x3 b h
  have d := forwards_tot x1 x3 b h
  unfold val_main_v100 val_main_v99 val_main_v98
  revert e d
  generalize val_main_v93 (F := Ideal) x1 x2 x3 = z
  generalize val_main_v86 (F := Ideal) x1 x3 = w
  intro e d
  pointwise [val_main_v43, val_main_cst_2]
  rw [keep_eq, e, d]

/-- The matrix memory. -/
theorem forwards_mem (x y : Fin 128) : val_main_v108 (F := Ideal) x0 x1 x2 x3 (ix4 b h x y)
    = mem fwd (outGate x1 x3 b h 0) (inGate x1 x2 b h 0) (keys x0 b h) (lanes x0 2048 (by decide) b h) x y := by
  have e := forwards_keep x1 x2 x3 b h
  have d := forwards_wEnd x1 x2 x3 b h
  have q := k_apply x0 b h
  have k := v_apply x0 b h
  unfold val_main_v108 val_main_v107 val_main_v106 val_main_v105 val_main_v104 val_main_v103 val_main_v102 val_main_v101
  revert e d q k
  generalize val_main_v100 (F := Ideal) x1 x2 x3 = z
  generalize val_main_v97 (F := Ideal) x1 x2 x3 = w
  generalize val_main_v7 (F := Ideal) x0 = a
  generalize val_main_v10 (F := Ideal) x0 = c
  intro e d q k
  pointwise [val_main_v41, val_main_cst_0]
  simp only [e, d, q, k]
  rfl

/-- The normaliser. -/
theorem forwards_nrm (x : Fin 128) : val_main_v113 (F := Ideal) x0 x1 x2 x3 (ix3 b h x)
    = nrm fwd (outGate x1 x3 b h 0) (inGate x1 x2 b h 0) (keys x0 b h) x := by
  have e := forwards_keep x1 x2 x3 b h
  have d := forwards_wEnd x1 x2 x3 b h
  have q := k_apply x0 b h
  unfold val_main_v113 val_main_v112 val_main_v111 val_main_v110 val_main_v109
  revert e d q
  generalize val_main_v100 (F := Ideal) x1 x2 x3 = z
  generalize val_main_v97 (F := Ideal) x1 x2 x3 = w
  generalize val_main_v7 (F := Ideal) x0 = a
  intro e d q
  pointwise [val_main_v42, val_main_cst_1]
  simp only [e, d, q, mul_comm (wEnd _ _ _ _)]
  rfl

end forwards

/-! ## Backwards -/

section backwards

variable (b : Fin 32) (h : Fin 8)

/-- The input gates. -/
theorem backwards_in (s : Fin 256) : val_main_v116 (F := Ideal) x1 x2 (ix3 b h s) = inGate x1 x2 b h 1 s := by
  have e := in_apply x1 x2 b h 1
  unfold val_main_v116 val_main_v115 val_main_v114
  revert e
  generalize val_main_v20 (F := Ideal) x1 x2 = z
  intro e
  pointwise []
  exact e s

/-- The log forget gates. -/
theorem backwards_gate (s : Fin 256) : val_main_v119 (F := Ideal) x1 x3 (ix3 b h s) = outGate x1 x3 b h 1 s := by
  have e := out_apply x1 x3 b h 1
  unfold val_main_v119 val_main_v118 val_main_v117
  revert e
  generalize val_main_v28 (F := Ideal) x1 x3 = z
  intro e
  pointwise []
  exact e s

/-- The mask. -/
theorem backwards_mask (s j : Fin 256) : val_main_v124 (F := Ideal) (ix2 s j) = bwd s j := by
  pointwise [val_main_v124, val_main_v123, val_main_v122, val_main_v121, val_main_v120, val_main_v29]
  rfl

/-- The passed log forget gates. -/
theorem backwards_cum (s : Fin 256) : val_main_v130 (F := Ideal) x1 x3 (ix3 b h s) = cum bwd (outGate x1 x3 b h 1) s := by
  have e := backwards_gate x1 x3 b h
  have d := backwards_mask
  unfold val_main_v130 val_main_v129 val_main_call3_v1 val_main_call3_v2 val_main_v128
  revert e d
  generalize val_main_v119 (F := Ideal) x1 x3 = z
  generalize val_main_v124 (F := Ideal) = w
  intro e d
  unfold val_main_call3_v3 val_main_call3_v0 val_main_cst_13
  simp only [id]
  pointwise [val_main_cst_14]
  simp only [e, d]
  rfl

/-- The log decays. -/
theorem backwards_logD (s j : Fin 256) : val_main_v139 (F := Ideal) x1 x2 x3 (ix4 b h s j)
    = logD bwd (outGate x1 x3 b h 1) (inGate x1 x2 b h 1) s j := by
  have e := backwards_cum x1 x3 b h
  have d := backwards_mask
  have u := backwards_in x1 x2 b h
  unfold val_main_v139 val_main_v138 val_main_v137 val_main_v136 val_main_v135 val_main_v134 val_main_v133 val_main_v132 val_main_v131 val_main_call4_v1
  revert e d u
  generalize val_main_v130 (F := Ideal) x1 x3 = z
  generalize val_main_v124 (F := Ideal) = w
  generalize val_main_v116 (F := Ideal) x1 x2 = y
  intro e d u
  unfold val_main_call4_v2 val_main_call4_v0 val_main_cst_15
  simp only [id]
  pointwise []
  simp only [e, d, u]
  rfl

/-- A maximum over the last axis is a fold over the tokens. -/
theorem backwards_max (y : FVec Ideal S32x8x256x256 .f32) (s : Fin 256) :
    Host.reduce FloatOps.maximumf y (val_main_cst_16 (F := Ideal)) reducesTo_S32x8x256x256_S32x8x256_d3 h_S_ (ix3 b h s)
      = Finset.fold max (Ideal.ofBits .f32 0xFF800000#32) (fun x => y (ix4 b h s x)) Finset.univ := by
  pointwise [val_main_cst_16]

/-- The largest log decays. -/
theorem backwards_top (s : Fin 256) : val_main_v143 (F := Ideal) x1 x2 x3 (ix3 b h s)
    = Finset.fold max (Ideal.ofBits .f32 0xFF800000#32) (logD bwd (outGate x1 x3 b h 1) (inGate x1 x2 b h 1) s) Finset.univ := by
  unfold val_main_v143
  rw [backwards_max]
  simp only [backwards_logD]

/-- The stabilisers. -/
theorem backwards_stab (s : Fin 256) : val_main_v144 (F := Ideal) x1 x2 x3 (ix3 b h s)
    = stab bwd (outGate x1 x3 b h 1) (inGate x1 x2 b h 1) s := by
  have e := backwards_cum x1 x3 b h
  have d := backwards_top x1 x2 x3 b h
  unfold val_main_v144 val_main_v142
  revert e d
  generalize val_main_v130 (F := Ideal) x1 x3 = z
  generalize val_main_v143 (F := Ideal) x1 x2 x3 = w
  intro e d
  pointwise [val_main_v141, val_main_v140, val_main_v127, val_main_cst_12]
  rw [stab_eq, e, d]

/-- The tokens' weights. -/
theorem backwards_wt (s j : Fin 256) : val_main_v150 (F := Ideal) x0 x1 x2 x3 (ix4 b h s j)
    = wt bwd (outGate x1 x3 b h 1) (inGate x1 x2 b h 1) (lanes x0 0 (by decide) b h) (keys x0 b h) s j := by
  have e := backwards_stab x1 x2 x3 b h
  have d := backwards_logD x1 x2 x3 b h
  have q := q_apply x0 b h
  have k := k_apply x0 b h
  unfold val_main_v150 val_main_v149 val_main_v148 val_main_v147 val_main_v146 val_main_v145
  revert e d q k
  generalize val_main_v144 (F := Ideal) x1 x2 x3 = z
  generalize val_main_v139 (F := Ideal) x1 x2 x3 = w
  generalize val_main_v2 (F := Ideal) x0 = a
  generalize val_main_v7 (F := Ideal) x0 = c
  intro e d q k
  pointwise []
  simp only [e, d, q, k]
  rfl

/-- The weight of the state before the sequence. -/
theorem backwards_carried (s : Fin 256) : val_main_v152 (F := Ideal) x1 x2 x3 (ix3 b h s)
    = carried bwd (outGate x1 x3 b h 1) (inGate x1 x2 b h 1) s := by
  have e := backwards_stab x1 x2 x3 b h
  have d := backwards_cum x1 x3 b h
  unfold val_main_v152 val_main_v151 val_main_v142
  revert e d
  generalize val_main_v144 (F := Ideal) x1 x2 x3 = z
  generalize val_main_v130 (F := Ideal) x1 x3 = w
  intro e d
  pointwise [val_main_v141, val_main_v140, val_main_v127, val_main_cst_12]
  rw [carried_eq, e, d]

/-- The denominators. -/
theorem backwards_den (s : Fin 256) : val_main_v166 (F := Ideal) x0 x1 x2 x3 (ix3 b h s)
    = den bwd (outGate x1 x3 b h 1) (inGate x1 x2 b h 1) (lanes x0 0 (by decide) b h) (keys x0 b h) s := by
  have e := backwards_stab x1 x2 x3 b h
  have d := backwards_wt x0 x1 x2 x3 b h
  have u := backwards_carried x1 x2 x3 b h
  have q := q_apply x0 b h
  unfold val_main_v166 val_main_v165 val_main_v164 val_main_v163 val_main_v162 val_main_v161 val_main_v160 val_main_v159
  revert e d u q
  generalize val_main_v144 (F := Ideal) x1 x2 x3 = z
  generalize val_main_v150 (F := Ideal) x0 x1 x2 x3 = w
  generalize val_main_v152 (F := Ideal) x1 x2 x3 = y
  generalize val_main_v2 (F := Ideal) x0 = a
  intro e d u q
  pointwise [val_main_v126, val_main_cst_11, val_main_cst_17]
  simp only [e, d, u, q]
  unfold den
  rw [zero_sub]
  rfl

/-- The steps' outputs. -/
theorem backwards_out (s : Fin 256) (x : Fin 128) : val_main_v169 (F := Ideal) x0 x1 x2 x3 (ix4 b h s x)
    = out bwd (outGate x1 x3 b h 1) (inGate x1 x2 b h 1) (lanes x0 0 (by decide) b h) (keys x0 b h)
        (lanes x0 2048 (by decide) b h) s x := by
  have e := backwards_den x0 x1 x2 x3 b h
  have d := backwards_wt x0 x1 x2 x3 b h
  have u := backwards_carried x1 x2 x3 b h
  have q := q_apply x0 b h
  have k := v_apply x0 b h
  unfold val_main_v169 val_main_v168 val_main_v167 val_main_v158 val_main_v157 val_main_v156 val_main_v155 val_main_v154 val_main_v153
  revert e d u q k
  generalize val_main_v166 (F := Ideal) x0 x1 x2 x3 = z
  generalize val_main_v150 (F := Ideal) x0 x1 x2 x3 = w
  generalize val_main_v152 (F := Ideal) x1 x2 x3 = y
  generalize val_main_v2 (F := Ideal) x0 = a
  generalize val_main_v10 (F := Ideal) x0 = c
  intro e d u q k
  pointwise [val_main_v125, val_main_cst_10]
  simp only [e, d, u, q, k]
  rfl

/-- The whole of the log forget gates. -/
theorem backwards_tot : val_main_v170 (F := Ideal) x1 x3 (ix2 b h) = ∑ s, outGate x1 x3 b h 1 s := by
  have e := backwards_gate x1 x3 b h
  unfold val_main_v170
  revert e
  generalize val_main_v119 (F := Ideal) x1 x3 = z
  intro e
  pointwise [val_main_cst_18]
  simp only [e]

/-- The log decays to the end. -/
theorem backwards_logW (s : Fin 256) : val_main_v174 (F := Ideal) x1 x2 x3 (ix3 b h s)
    = logW bwd (outGate x1 x3 b h 1) (inGate x1 x2 b h 1) s := by
  have e := backwards_tot x1 x3 b h
  have d := backwards_cum x1 x3 b h
  have u := backwards_in x1 x2 b h
  unfold val_main_v174 val_main_v173 val_main_v172 val_main_v171
  revert e d u
  generalize val_main_v170 (F := Ideal) x1 x3 = z
  generalize val_main_v130 (F := Ideal) x1 x3 = w
  generalize val_main_v116 (F := Ideal) x1 x2 = y
  intro e d u
  pointwise []
  simp only [e, d, u]
  rfl

/-- A maximum over a head's tokens is a fold. -/
theorem backwards_maxEnd (y : FVec Ideal S32x8x256 .f32) :
    Host.reduce FloatOps.maximumf y (val_main_cst_19 (F := Ideal)) reducesTo_S32x8x256_S32x8_d2 h_S_ (ix2 b h)
      = Finset.fold max (Ideal.ofBits .f32 0xFF800000#32) (fun x => y (ix3 b h x)) Finset.univ := by
  pointwise [val_main_cst_19]

/-- The largest log weight. -/
theorem backwards_topEnd : val_main_v176 (F := Ideal) x1 x2 x3 (ix2 b h)
    = Finset.fold max (Ideal.ofBits .f32 0xFF800000#32) (logW bwd (outGate x1 x3 b h 1) (inGate x1 x2 b h 1)) Finset.univ := by
  unfold val_main_v176
  rw [backwards_maxEnd]
  simp only [backwards_logW]

/-- The state's stabiliser. -/
theorem backwards_stabEnd : val_main_v177 (F := Ideal) x1 x2 x3 (ix2 b h)
    = stabEnd bwd (outGate x1 x3 b h 1) (inGate x1 x2 b h 1) := by
  have e := backwards_tot x1 x3 b h
  have d := backwards_topEnd x1 x2 x3 b h
  unfold val_main_v177 val_main_v175
  revert e d
  generalize val_main_v170 (F := Ideal) x1 x3 = z
  generalize val_main_v176 (F := Ideal) x1 x2 x3 = w
  intro e d
  pointwise [val_main_v127, val_main_cst_12]
  rw [stabEnd_eq, e, d]

/-- The tokens' weights in the state. -/
theorem backwards_wEnd (s : Fin 256) : val_main_v181 (F := Ideal) x1 x2 x3 (ix3 b h s)
    = wEnd bwd (outGate x1 x3 b h 1) (inGate x1 x2 b h 1) s := by
  have e := backwards_stabEnd x1 x2 x3 b h
  have d := backwards_logW x1 x2 x3 b h
  unfold val_main_v181 val_main_v180 val_main_v179 val_main_v178
  revert e d
  generalize val_main_v177 (F := Ideal) x1 x2 x3 = z
  generalize val_main_v174 (F := Ideal) x1 x2 x3 = w
  intro e d
  pointwise []
  simp only [e, d]
  rfl

/-- The kept part of the state. -/
theorem backwards_keep : val_main_v184 (F := Ideal) x1 x2 x3 (ix2 b h)
    = keep bwd (outGate x1 x3 b h 1) (inGate x1 x2 b h 1) := by
  have e := backwards_stabEnd x1 x2 x3 b h
  have d := backwards_tot x1 x3 b h
  unfold val_main_v184 val_main_v183 val_main_v182
  revert e d
  generalize val_main_v177 (F := Ideal) x1 x2 x3 = z
  generalize val_main_v170 (F := Ideal) x1 x3 = w
  intro e d
  pointwise [val_main_v127, val_main_cst_12]
  rw [keep_eq, e, d]

/-- The matrix memory. -/
theorem backwards_mem (x y : Fin 128) : val_main_v192 (F := Ideal) x0 x1 x2 x3 (ix4 b h x y)
    = mem bwd (outGate x1 x3 b h 1) (inGate x1 x2 b h 1) (keys x0 b h) (lanes x0 2048 (by decide) b h) x y := by
  have e := backwards_keep x1 x2 x3 b h
  have d := backwards_wEnd x1 x2 x3 b h
  have q := k_apply x0 b h
  have k := v_apply x0 b h
  unfold val_main_v192 val_main_v191 val_main_v190 val_main_v189 val_main_v188 val_main_v187 val_main_v186 val_main_v185
  revert e d q k
  generalize val_main_v184 (F := Ideal) x1 x2 x3 = z
  generalize val_main_v181 (F := Ideal) x1 x2 x3 = w
  generalize val_main_v7 (F := Ideal) x0 = a
  generalize val_main_v10 (F := Ideal) x0 = c
  intro e d q k
  pointwise [val_main_v125, val_main_cst_10]
  simp only [e, d, q, k]
  rfl

/-- The normaliser. -/
theorem backwards_nrm (x : Fin 128) : val_main_v197 (F := Ideal) x0 x1 x2 x3 (ix3 b h x)
    = nrm bwd (outGate x1 x3 b h 1) (inGate x1 x2 b h 1) (keys x0 b h) x := by
  have e := backwards_keep x1 x2 x3 b h
  have d := backwards_wEnd x1 x2 x3 b h
  have q := k_apply x0 b h
  unfold val_main_v197 val_main_v196 val_main_v195 val_main_v194 val_main_v193
  revert e d q
  generalize val_main_v184 (F := Ideal) x1 x2 x3 = z
  generalize val_main_v181 (F := Ideal) x1 x2 x3 = w
  generalize val_main_v7 (F := Ideal) x0 = a
  intro e d q
  pointwise [val_main_v126, val_main_cst_11]
  simp only [e, d, q, mul_comm (wEnd _ _ _ _)]
  rfl

end backwards

/-! ## The results -/

section Results

variable (b : Fin 32) (h : Fin 8)

/-- The gated sum of the two directions. -/
def sums (s : Fin 256) (x : Fin 128) : EReal :=
  gated (lanes x0 3072 (by decide) b h s x)
    (out fwd (outGate x1 x3 b h 0) (inGate x1 x2 b h 0) (lanes x0 0 (by decide) b h) (keys x0 b h)
      (lanes x0 2048 (by decide) b h) s x)
    (out bwd (outGate x1 x3 b h 1) (inGate x1 x2 b h 1) (lanes x0 0 (by decide) b h) (keys x0 b h)
      (lanes x0 2048 (by decide) b h) s x)

/-- The reference's gated sum. -/
theorem sums_apply (s : Fin 256) (x : Fin 128) : val_main_v206 (F := Ideal) x0 x1 x2 x3 (ix4 b s h x) = sums x0 x1 x2 x3 b h s x := by
  have e := forwards_out x0 x1 x2 x3 b h
  have d := backwards_out x0 x1 x2 x3 b h
  have u := o_apply x0 b h
  unfold val_main_v206 val_main_v205 val_main_v204 val_main_v203 val_main_v201 val_main_v199 val_main_v198
  revert e d u
  generalize val_main_v85 (F := Ideal) x0 x1 x2 x3 = z
  generalize val_main_v169 (F := Ideal) x0 x1 x2 x3 = w
  generalize val_main_v13 (F := Ideal) x0 = y
  intro e d u
  pointwise [val_main_v202, val_main_v200, val_main_cst_20, val_main_cst_21]
  simp only [e, d, u]
  rfl

/-- The reference's gain. -/
theorem gain_apply (x : Fin 128) : val_main_v209 (F := Ideal) x4 (ix2 h x) = gain x4 h x := by
  pointwise [val_main_v209, val_main_v208, val_main_v207]
  refine congrArg x4 ?_
  funext a; match a with
  | ⟨0, _⟩ => rfl
  | ⟨1, _⟩ => exact Fin.ext (by simp)

/-- The reference's normalised outputs. -/
theorem head_apply (s : Fin 256) (x : Fin 128) : val_main_v222 (F := Ideal) x0 x1 x2 x3 x4 (ix4 b s h x)
    = head (sums x0 x1 x2 x3 b h s) (gain x4 h) x := by
  have e := sums_apply x0 x1 x2 x3 b h
  have d := gain_apply x4 h
  unfold val_main_v222 val_main_v221 val_main_v220 val_main_v219 val_main_v218 val_main_v217 val_main_v216 val_main_v214
    val_main_v212 val_main_v211 val_main_v210
  revert e d
  generalize val_main_v206 (F := Ideal) x0 x1 x2 x3 = z
  generalize val_main_v209 (F := Ideal) x4 = w
  intro e d
  pointwise [val_main_v213, val_main_v215, val_main_cst_22, val_main_cst_23, val_main_cst_24]
  simp only [e, d]
  rfl

/-- THE OUTPUTS at row `R` and column `C`: the head `C / 128` of the sequence `R / 256`. -/
theorem h_apply (R : Fin 8192) (C : Fin 1024) : val_main_v227 (F := Ideal) x0 x1 x2 x3 x4 (ix2 R C)
    = head (sums x0 x1 x2 x3 ⟨R.val / 256, by omega⟩ ⟨C.val / 128, by omega⟩ ⟨R.val % 256, by omega⟩) (gain x4 ⟨C.val / 128, by omega⟩)
        ⟨C.val % 128, by omega⟩ := by
  rw [← head_apply]
  unfold val_main_v227 val_main_v223
  generalize val_main_v222 (F := Ideal) x0 x1 x2 x3 x4 = z
  pointwise []

/-- The forward matrix memory's result. -/
theorem mem_fwd (x y : Fin 128) : val_main_v230 (F := Ideal) x0 x1 x2 x3 (ix5 b h 0 x y)
    = mem fwd (outGate x1 x3 b h 0) (inGate x1 x2 b h 0) (keys x0 b h) (lanes x0 2048 (by decide) b h) x y := by
  rw [← forwards_mem]
  unfold val_main_v230 val_main_v229 val_main_v228
  generalize val_main_v108 (F := Ideal) x0 x1 x2 x3 = z
  generalize val_main_v192 (F := Ideal) x0 x1 x2 x3 = w
  pointwise []

/-- The backward matrix memory's result. -/
theorem mem_bwd (x y : Fin 128) : val_main_v230 (F := Ideal) x0 x1 x2 x3 (ix5 b h 1 x y)
    = mem bwd (outGate x1 x3 b h 1) (inGate x1 x2 b h 1) (keys x0 b h) (lanes x0 2048 (by decide) b h) x y := by
  rw [← backwards_mem]
  unfold val_main_v230 val_main_v229 val_main_v228
  generalize val_main_v108 (F := Ideal) x0 x1 x2 x3 = z
  generalize val_main_v192 (F := Ideal) x0 x1 x2 x3 = w
  pointwise []

/-- The forward normaliser's result. -/
theorem nrm_fwd (x : Fin 128) : val_main_v233 (F := Ideal) x0 x1 x2 x3 (ix4 b h 0 x)
    = nrm fwd (outGate x1 x3 b h 0) (inGate x1 x2 b h 0) (keys x0 b h) x := by
  rw [← forwards_nrm]
  unfold val_main_v233 val_main_v232 val_main_v231
  generalize val_main_v113 (F := Ideal) x0 x1 x2 x3 = z
  generalize val_main_v197 (F := Ideal) x0 x1 x2 x3 = w
  pointwise []

/-- The backward normaliser's result. -/
theorem nrm_bwd (x : Fin 128) : val_main_v233 (F := Ideal) x0 x1 x2 x3 (ix4 b h 1 x)
    = nrm bwd (outGate x1 x3 b h 1) (inGate x1 x2 b h 1) (keys x0 b h) x := by
  rw [← backwards_nrm]
  unfold val_main_v233 val_main_v232 val_main_v231
  generalize val_main_v113 (F := Ideal) x0 x1 x2 x3 = z
  generalize val_main_v197 (F := Ideal) x0 x1 x2 x3 = w
  pointwise []

/-- The forward stabiliser's result. -/
theorem stab_fwd (x : Fin 128) : val_main_v235 (F := Ideal) x1 x2 x3 (ix4 b h 0 x)
    = stabEnd fwd (outGate x1 x3 b h 0) (inGate x1 x2 b h 0) := by
  rw [← forwards_stabEnd]
  unfold val_main_v235 val_main_v234 val_main_v226 val_main_v225 val_main_v224
  generalize val_main_v93 (F := Ideal) x1 x2 x3 = z
  generalize val_main_v177 (F := Ideal) x1 x2 x3 = w
  pointwise []

/-- The backward stabiliser's result. -/
theorem stab_bwd (x : Fin 128) : val_main_v235 (F := Ideal) x1 x2 x3 (ix4 b h 1 x)
    = stabEnd bwd (outGate x1 x3 b h 1) (inGate x1 x2 b h 1) := by
  rw [← backwards_stabEnd]
  unfold val_main_v235 val_main_v234 val_main_v226 val_main_v225 val_main_v224
  generalize val_main_v93 (F := Ideal) x1 x2 x3 = z
  generalize val_main_v177 (F := Ideal) x1 x2 x3 = w
  pointwise []

end Results

end Cert.Mlstm0Ref

end
-- ==== Proof.Mlstm0Array.lean ====
/- The matrix-memory kernel's result arrays after the run, index by index: block `t` is head `t % 8` of sequence `t / 8`. -/
module

public import proofs.«01_k».proof.Proof.Mlstm0Store
public import proofs.«01_k».proof.Proof.Mlstm0Ref

@[expose] public section

noncomputable section

namespace Cert.Mlstm0Array

open Cert.Mlstm0Ideal Cert.Mlstm0Ideal.Gen Idealize.ShloMosaic Idealize.ShloMosaic.TcCoe Idealize.SL.Sem
open Cert.MlstmSpec Cert.Mlstm0Block Cert.Mlstm0Ref

variable (m : (ℓ : Loc nD τ sig) → Buf (Elt Ideal) ℓ)

/-- A direction is the first or the second. -/
theorem two : ∀ d : Fin 2, d = 0 ∨ d = 1 := by decide

/-- One of four rows is one of the four. -/
theorem four : ∀ a : Fin 4, a = 0 ∨ a = 1 ∨ a = 2 ∨ a = 3 := by decide

/-- Where each window's block sits at each point. -/
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = 8 + t.val % 8)
    ∧ (win0_2.index t (0 : Fin 2) = t.val / 8 ∧ win0_2.index t (1 : Fin 2) = 16 + t.val % 8)
    ∧ (win0_3.index t (0 : Fin 2) = t.val / 8 ∧ win0_3.index t (1 : Fin 2) = 24 + t.val % 8)
    ∧ (win0_4.index t (0 : Fin 3) = t.val % 8 ∧ win0_4.index t (1 : Fin 3) = t.val / 8 ∧ win0_4.index t (2 : Fin 3) = 0)
    ∧ (win0_5.index t (0 : Fin 3) = t.val % 8 ∧ win0_5.index t (1 : Fin 3) = 0 ∧ win0_5.index t (2 : Fin 3) = t.val / 8)
    ∧ (win0_6.index t (0 : Fin 3) = t.val % 8 ∧ win0_6.index t (1 : Fin 3) = 0 ∧ win0_6.index t (2 : Fin 3) = 0)
    ∧ (win0_7.index t (0 : Fin 3) = t.val % 8 ∧ win0_7.index t (1 : Fin 3) = 0 ∧ win0_7.index t (2 : Fin 3) = 0)
    ∧ (win0_8.index t (0 : Fin 3) = t.val % 8 ∧ win0_8.index t (1 : Fin 3) = 0 ∧ win0_8.index t (2 : Fin 3) = 0)
    ∧ (win0_9.index t (0 : Fin 2) = t.val / 8 ∧ win0_9.index t (1 : Fin 2) = t.val % 8) :=
  (by decide +kernel : ∀ t : Fin grid0.N, _)

/-- Where the states' blocks sit at each point. -/
theorem state_facts : ∀ t : Fin cfg0.N,
    (win0_10.index t (0 : Fin 5) = t.val / 8 ∧ win0_10.index t (1 : Fin 5) = t.val % 8 ∧ win0_10.index t (2 : Fin 5) = 0
      ∧ win0_10.index t (3 : Fin 5) = 0 ∧ win0_10.index t (4 : Fin 5) = 0)
    ∧ (win0_11.index t (0 : Fin 4) = t.val / 8 ∧ win0_11.index t (1 : Fin 4) = t.val % 8 ∧ win0_11.index t (2 : Fin 4) = 0
      ∧ win0_11.index t (3 : Fin 4) = 0)
    ∧ (win0_12.index t (0 : Fin 4) = t.val / 8 ∧ win0_12.index t (1 : Fin 4) = t.val % 8 ∧ win0_12.index t (2 : Fin 4) = 0
      ∧ win0_12.index t (3 : Fin 4) = 0) :=
  (by decide +kernel : ∀ t : Fin grid0.N, _)

/-- A point's sequence. -/
def sq (t : Fin cfg0.N) : Fin 32 := ⟨t.val / 8, by have := t.isLt; have hN : cfg0.N = 256 := N_0; omega⟩

/-- A point's head. -/
def hd (t : Fin cfg0.N) : Fin 8 := ⟨t.val % 8, by omega⟩

/-- The query block of a point. -/
theorem q_blk (c : Dev nD) (t : Fin cfg0.N) (i : Fin 256) (x : Fin 128) :
    iblk m c 0 t (ix2 i x) = lanes (m ((c : Thread nD τ).loc main_arg0)) 0 (by decide) (sq t) (hd t) i x := by
  obtain ⟨⟨e0, e1⟩, -⟩ := idx_facts t
  show V m c main_arg0 (((cfg0.win 0).blk t).view.emb (ix2 i x)) = _
  rw [V_main_arg0]
  unfold lanes
  congr 1
  funext a; apply Fin.ext
  match a with
  | ⟨0, _⟩ => show win0_0.index t (0 : Fin 2) * 256 + 1 * i.val = t.val / 8 * 256 + i.val; omega
  | ⟨1, _⟩ => show win0_0.index t (1 : Fin 2) * 128 + 1 * x.val = 0 + (t.val % 8 * 128 + x.val); omega

/-- The key block of a point. -/
theorem k_blk (c : Dev nD) (t : Fin cfg0.N) (i : Fin 256) (x : Fin 128) :
    iblk m c 1 t (ix2 i x) = lanes (m ((c : Thread nD τ).loc main_arg0)) 1024 (by decide) (sq t) (hd t) i x := by
  obtain ⟨-, ⟨e0, e1⟩, -⟩ := idx_facts t
  show V m c main_arg0 (((cfg0.win 1).blk t).view.emb (ix2 i x)) = _
  rw [V_main_arg0]
  unfold lanes
  congr 1
  funext a; apply Fin.ext
  match a with
  | ⟨0, _⟩ => show win0_1.index t (0 : Fin 2) * 256 + 1 * i.val = t.val / 8 * 256 + i.val; omega
  | ⟨1, _⟩ => show win0_1.index t (1 : Fin 2) * 128 + 1 * x.val = 1024 + (t.val % 8 * 128 + x.val); omega

/-- The value block of a point. -/
theorem v_blk (c : Dev nD) (t : Fin cfg0.N) (i : Fin 256) (x : Fin 128) :
    iblk m c 2 t (ix2 i x) = lanes (m ((c : Thread nD τ).loc main_arg0)) 2048 (by decide) (sq t) (hd t) i x := by
  obtain ⟨-, -, ⟨e0, e1⟩, -⟩ := idx_facts t
  show V m c main_arg0 (((cfg0.win 2).blk t).view.emb (ix2 i x)) = _
  rw [V_main_arg0]
  unfold lanes
  congr 1
  funext a; apply Fin.ext
  match a with
  | ⟨0, _⟩ => show win0_2.index t (0 : Fin 2) * 256 + 1 * i.val = t.val / 8 * 256 + i.val; omega
  | ⟨1, _⟩ => show win0_2.index t (1 : Fin 2) * 128 + 1 * x.val = 2048 + (t.val % 8 * 128 + x.val); omega

/-- The output gate block of a point. -/
theorem o_blk (c : Dev nD) (t : Fin cfg0.N) (i : Fin 256) (x : Fin 128) :
    iblk m c 3 t (ix2 i x) = lanes (m ((c : Thread nD τ).loc main_arg0)) 3072 (by decide) (sq t) (hd t) i x := by
  obtain ⟨-, -, -, ⟨e0, e1⟩, -⟩ := idx_facts t
  show V m c main_arg0 (((cfg0.win 3).blk t).view.emb (ix2 i x)) = _
  rw [V_main_arg0]
  unfold lanes
  congr 1
  funext a; apply Fin.ext
  match a with
  | ⟨0, _⟩ => show win0_3.index t (0 : Fin 2) * 256 + 1 * i.val = t.val / 8 * 256 + i.val; omega
  | ⟨1, _⟩ => show win0_3.index t (1 : Fin 2) * 128 + 1 * x.val = 3072 + (t.val % 8 * 128 + x.val); omega

/-- The gates as columns. -/
theorem V_col (c : Dev nD) : V m c main_v2 = transpose S8x10240x4 [2, 0, 1] (shapeCast S10240x4x8 (extractStridedSlice S10240x32 ![0, 0] (m ((c : Thread nD τ).loc main_arg1)) slices_S10240x128_S10240x32_0_0) shapeCasts_S10240x32_S10240x4x8) transposes_S10240x4x8_S8x10240x4_2_0_1 := by
  show StableHlo.after hostOps0 (fun b => m (c, b)) main_v2 = _
  unfold hostOps0
  after_results_simp <;> rfl

/-- The gates as rows. -/
theorem V_row (c : Dev nD) : V m c main_v3 = transpose S8x4x10240 [2, 1, 0] (shapeCast S10240x4x8 (extractStridedSlice S10240x32 ![0, 0] (m ((c : Thread nD τ).loc main_arg1)) slices_S10240x128_S10240x32_0_0) shapeCasts_S10240x32_S10240x4x8) transposes_S10240x4x8_S8x4x10240_2_1_0 := by
  show StableHlo.after hostOps0 (fun b => m (c, b)) main_v3 = _
  unfold hostOps0
  after_results_simp <;> rfl

/-- The biases as columns. -/
theorem V_bcol (c : Dev nD) : V m c main_v10 = shapeCast S8x1x4 (transpose S8x4 [1, 0] (concatenate S4x8 0 [⟨S2x8, (shapeCast S2x8 (extractStridedSlice S1x2x8 ![0, 0, 0] (m ((c : Thread nD τ).loc main_arg2)) slices_S2x2x8_S1x2x8_0_0_0) shapeCasts_S1x2x8_S2x8)⟩, ⟨S2x8, (shapeCast S2x8 (extractStridedSlice S1x2x8 ![0, 0, 0] (m ((c : Thread nD τ).loc main_arg3)) slices_S2x2x8_S1x2x8_0_0_0) shapeCasts_S1x2x8_S2x8)⟩] concatenates_S2x8_S2x8_S4x8_d0) transposes_S4x8_S8x4_1_0) shapeCasts_S8x4_S8x1x4 := by
  show StableHlo.after hostOps0 (fun b => m (c, b)) main_v10 = _
  unfold hostOps0
  after_results_simp <;> rfl

/-- The biases as rows. -/
theorem V_brow (c : Dev nD) : V m c main_v12 = shapeCast S8x4x1 (transpose S8x4 [1, 0] (concatenate S4x8 0 [⟨S2x8, (shapeCast S2x8 (extractStridedSlice S1x2x8 ![0, 0, 0] (m ((c : Thread nD τ).loc main_arg2)) slices_S2x2x8_S1x2x8_0_0_0) shapeCasts_S1x2x8_S2x8)⟩, ⟨S2x8, (shapeCast S2x8 (extractStridedSlice S1x2x8 ![0, 0, 0] (m ((c : Thread nD τ).loc main_arg3)) slices_S2x2x8_S1x2x8_0_0_0) shapeCasts_S1x2x8_S2x8)⟩] concatenates_S2x8_S2x8_S4x8_d0) transposes_S4x8_S8x4_1_0) shapeCasts_S8x4_S8x4x1 := by
  show StableHlo.after hostOps0 (fun b => m (c, b)) main_v12 = _
  unfold hostOps0
  after_results_simp <;> rfl

/-- The gain by heads. -/
theorem V_gain (c : Dev nD) : V m c main_v15 = shapeCast S8x1x128 (shapeCast S1024 (extractStridedSlice S1x1024 ![0, 0] (m ((c : Thread nD τ).loc main_arg4)) slices_S2x1024_S1x1024_0_0) shapeCasts_S1x1024_S1024) shapeCasts_S1024_S8x1x128 := by
  show StableHlo.after hostOps0 (fun b => m (c, b)) main_v15 = _
  unfold hostOps0
  after_results_simp <;> rfl

/-- The gate of row `s`, column `a * 8 + h`. -/
def pre (c : Dev nD) (t : Fin cfg0.N) (s : Fin 256) (a : Fin 4) : EReal :=
  (m ((c : Thread nD τ).loc main_arg1)) (ix2 ⟨(sq t).val * 256 + s.val, by omega⟩ ⟨a.val * 8 + (hd t).val, by omega⟩)

/-- The four biases of a point's head. -/
def bias (c : Dev nD) (t : Fin cfg0.N) (a : Fin 4) : EReal :=
  ![(m ((c : Thread nD τ).loc main_arg2)) (ix3 0 0 (hd t)), (m ((c : Thread nD τ).loc main_arg2)) (ix3 0 1 (hd t)), (m ((c : Thread nD τ).loc main_arg3)) (ix3 0 0 (hd t)), (m ((c : Thread nD τ).loc main_arg3)) (ix3 0 1 (hd t))] a

/-- The gates of a point, biased. -/
def G (c : Dev nD) (t : Fin cfg0.N) (s : Fin 256) (a : Fin 4) : EReal := pre m c t s a + bias m c t a

/-- The column gates' block. -/
theorem col_blk (c : Dev nD) (t : Fin cfg0.N) (s : Fin 256) (a : Fin 4) : iblk m c 4 t (ix3 0 s a) = pre m c t s a := by
  obtain ⟨-, -, -, -, ⟨e0, e1, e2⟩, -⟩ := idx_facts t
  show V m c main_v2 (((cfg0.win 4).blk t).view.emb (ix3 0 s a)) = _
  rw [V_col, show ((cfg0.win 4).blk t).view.emb (ix3 0 s a) = ix3 (hd t) ⟨(sq t).val * 256 + s.val, by omega⟩ a from ?_]
  · unfold pre
    pointwise []
  · funext d; apply Fin.ext
    match d with
    | ⟨0, _⟩ => show win0_4.index t (0 : Fin 3) * 1 + 1 * 0 = t.val % 8; omega
    | ⟨1, _⟩ => show win0_4.index t (1 : Fin 3) * 256 + 1 * s.val = t.val / 8 * 256 + s.val; omega
    | ⟨2, _⟩ => show win0_4.index t (2 : Fin 3) * 4 + 1 * a.val = a.val; omega

/-- The row gates' block. -/
theorem row_blk (c : Dev nD) (t : Fin cfg0.N) (s : Fin 256) (a : Fin 4) : iblk m c 5 t (ix3 0 a s) = pre m c t s a := by
  obtain ⟨-, -, -, -, -, ⟨e0, e1, e2⟩, -⟩ := idx_facts t
  show V m c main_v3 (((cfg0.win 5).blk t).view.emb (ix3 0 a s)) = _
  rw [V_row, show ((cfg0.win 5).blk t).view.emb (ix3 0 a s) = ix3 (hd t) a ⟨(sq t).val * 256 + s.val, by omega⟩ from ?_]
  · unfold pre
    pointwise []
  · funext d; apply Fin.ext
    match d with
    | ⟨0, _⟩ => show win0_5.index t (0 : Fin 3) * 1 + 1 * 0 = t.val % 8; omega
    | ⟨1, _⟩ => show win0_5.index t (1 : Fin 3) * 4 + 1 * a.val = a.val; omega
    | ⟨2, _⟩ => show win0_5.index t (2 : Fin 3) * 256 + 1 * s.val = t.val / 8 * 256 + s.val; omega

/-- The column biases' block. -/
theorem bcol_blk (c : Dev nD) (t : Fin cfg0.N) (a : Fin 4) : iblk m c 6 t (ix3 0 0 a) = bias m c t a := by
  obtain ⟨-, -, -, -, -, -, ⟨e0, e1, e2⟩, -⟩ := idx_facts t
  show V m c main_v10 (((cfg0.win 6).blk t).view.emb (ix3 0 0 a)) = _
  rw [V_bcol, show ((cfg0.win 6).blk t).view.emb (ix3 0 0 a) = ix3 (hd t) 0 a from ?_]
  · rcases four a with rfl | rfl | rfl | rfl <;> pointwise [] <;> rfl
  · funext d; apply Fin.ext
    match d with
    | ⟨0, _⟩ => show win0_6.index t (0 : Fin 3) * 1 + 1 * 0 = t.val % 8; omega
    | ⟨1, _⟩ => show win0_6.index t (1 : Fin 3) * 1 + 1 * 0 = 0; omega
    | ⟨2, _⟩ => show win0_6.index t (2 : Fin 3) * 4 + 1 * a.val = a.val; omega

/-- The row biases' block. -/
theorem brow_blk (c : Dev nD) (t : Fin cfg0.N) (a : Fin 4) : iblk m c 7 t (ix3 0 a 0) = bias m c t a := by
  obtain ⟨-, -, -, -, -, -, -, ⟨e0, e1, e2⟩, -⟩ := idx_facts t
  show V m c main_v12 (((cfg0.win 7).blk t).view.emb (ix3 0 a 0)) = _
  rw [V_brow, show ((cfg0.win 7).blk t).view.emb (ix3 0 a 0) = ix3 (hd t) a 0 from ?_]
  · rcases four a with rfl | rfl | rfl | rfl <;> pointwise [] <;> rfl
  · funext d; apply Fin.ext
    match d with
    | ⟨0, _⟩ => show win0_7.index t (0 : Fin 3) * 1 + 1 * 0 = t.val % 8; omega
    | ⟨1, _⟩ => show win0_7.index t (1 : Fin 3) * 4 + 1 * a.val = a.val; omega
    | ⟨2, _⟩ => show win0_7.index t (2 : Fin 3) * 1 + 1 * 0 = 0; omega

/-- The gain's block. -/
theorem gain_blk (c : Dev nD) (t : Fin cfg0.N) (x : Fin 128) : iblk m c 8 t (ix3 0 0 x) = gain (m ((c : Thread nD τ).loc main_arg4)) (hd t) x := by
  obtain ⟨-, -, -, -, -, -, -, -, ⟨e0, e1, e2⟩, -⟩ := idx_facts t
  show V m c main_v15 (((cfg0.win 8).blk t).view.emb (ix3 0 0 x)) = _
  rw [V_gain, show ((cfg0.win 8).blk t).view.emb (ix3 0 0 x) = ix3 (hd t) 0 x from ?_]
  · unfold gain
    pointwise []
  · funext d; apply Fin.ext
    match d with
    | ⟨0, _⟩ => show win0_8.index t (0 : Fin 3) * 1 + 1 * 0 = t.val % 8; omega
    | ⟨1, _⟩ => show win0_8.index t (1 : Fin 3) * 1 + 1 * 0 = 0; omega
    | ⟨2, _⟩ => show win0_8.index t (2 : Fin 3) * 128 + 1 * x.val = x.val; omega

/-- The column gates with their biases. -/
theorem hc (c : Dev nD) (t : Fin cfg0.N) (s : Fin 256) (a : Fin 4) : (fun x y : EReal => x + y) (iblk m c 4 t (ix3 0 s a)) (iblk m c 6 t (ix3 0 0 a)) = G m c t s a :=
  congrArg₂ (fun x y : EReal => x + y) (col_blk m c t s a) (bcol_blk m c t a)

/-- The row gates with their biases. -/
theorem hr (c : Dev nD) (t : Fin cfg0.N) (s : Fin 256) (a : Fin 4) : (fun x y : EReal => x + y) (iblk m c 5 t (ix3 0 a s)) (iblk m c 7 t (ix3 0 a 0)) = G m c t s a :=
  congrArg₂ (fun x y : EReal => x + y) (row_blk m c t s a) (brow_blk m c t a)

/-- The forward input gates. -/
theorem in_0 (c : Dev nD) (t : Fin cfg0.N) : (fun s => G m c t s 0) = inGate (m ((c : Thread nD τ).loc main_arg1)) (m ((c : Thread nD τ).loc main_arg2)) (sq t) (hd t) 0 :=
  funext fun _ => rfl

/-- The backward input gates. -/
theorem in_1 (c : Dev nD) (t : Fin cfg0.N) : (fun s => G m c t s 1) = inGate (m ((c : Thread nD τ).loc main_arg1)) (m ((c : Thread nD τ).loc main_arg2)) (sq t) (hd t) 1 :=
  funext fun _ => rfl

/-- The forward log forget gates. -/
theorem out_0 (c : Dev nD) (t : Fin cfg0.N) : (fun s => logsig (G m c t s 2)) = outGate (m ((c : Thread nD τ).loc main_arg1)) (m ((c : Thread nD τ).loc main_arg3)) (sq t) (hd t) 0 := by
  funext s
  refine congrArg (fun x : EReal => logsig (x + (m ((c : Thread nD τ).loc main_arg3)) (ix3 0 0 (hd t)))) (congrArg (m ((c : Thread nD τ).loc main_arg1)) ?_)
  funext e
  match e with
  | ⟨0, _⟩ => rfl
  | ⟨1, _⟩ => exact Fin.ext (by show 2 * 8 + (hd t).val = 16 + (0 * 8 + (hd t).val); omega)

/-- The backward log forget gates. -/
theorem out_1 (c : Dev nD) (t : Fin cfg0.N) : (fun s => logsig (G m c t s 3)) = outGate (m ((c : Thread nD τ).loc main_arg1)) (m ((c : Thread nD τ).loc main_arg3)) (sq t) (hd t) 1 := by
  funext s
  refine congrArg (fun x : EReal => logsig (x + (m ((c : Thread nD τ).loc main_arg3)) (ix3 0 1 (hd t)))) (congrArg (m ((c : Thread nD τ).loc main_arg1)) ?_)
  funext e
  match e with
  | ⟨0, _⟩ => rfl
  | ⟨1, _⟩ => exact Fin.ext (by show 3 * 8 + (hd t).val = 16 + (1 * 8 + (hd t).val); omega)

/-- The queries. -/
theorem qs (c : Dev nD) (t : Fin cfg0.N) : (fun s x => iblk m c 0 t (ix2 s x)) = lanes (m ((c : Thread nD τ).loc main_arg0)) 0 (by decide) (sq t) (hd t) :=
  funext fun s => funext fun x => q_blk m c t s x

/-- The scaled keys. -/
theorem ks (c : Dev nD) (t : Fin cfg0.N) : key (iblk m c 1 t) = keys (m ((c : Thread nD τ).loc main_arg0)) (sq t) (hd t) :=
  funext fun s => funext fun x => congrArg (fun z : EReal => z * _) (k_blk m c t s x)

/-- The values. -/
theorem vs (c : Dev nD) (t : Fin cfg0.N) : (fun s x => iblk m c 2 t (ix2 s x)) = lanes (m ((c : Thread nD τ).loc main_arg0)) 2048 (by decide) (sq t) (hd t) :=
  funext fun s => funext fun x => v_blk m c t s x

/-- THE OUTPUTS AFTER THE RUN are the reference's function of the arguments. -/
theorem array_h (c : Dev nD) : (dats m 0 c).arrAt 9 cfg0.N
    = Cert.Mlstm0RefIdeal.Read.val_main_v227 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 9 _ (fun t _ => ?_) fun i => ?_
  · have ht : t.val < 256 := lt_of_lt_of_eq t.isLt N_0
    rw [Cert.Mlstm0Ideal.Value.flushed9_A, out9_eq]
    funext y
    show blockH _ _ _ _ _ _ _ _ _ y = Cert.Mlstm0RefIdeal.Read.val_main_v227 (F := Ideal) _ _ _ _ _ (((cfg0.win 9).blk t).view.emb y)
    obtain ⟨-, -, -, -, -, -, -, -, -, ⟨e0, e1⟩⟩ := idx_facts t
    have hi : (y 0).val < 256 := (y 0).isLt
    have hx : (y 1).val < 128 := (y 1).isLt
    have hy : ((cfg0.win 9).blk t).view.emb y
        = ix2 ⟨t.val / 8 * 256 + (y 0).val, by omega⟩ ⟨t.val % 8 * 128 + (y 1).val, by omega⟩ := by
      funext d; apply Fin.ext
      match d with
      | ⟨0, _⟩ => show win0_9.index t (0 : Fin 2) * 256 + 1 * (y 0).val = t.val / 8 * 256 + (y 0).val; omega
      | ⟨1, _⟩ => show win0_9.index t (1 : Fin 2) * 128 + 1 * (y 1).val = t.val % 8 * 128 + (y 1).val; omega
    rw [hy, h_apply]
    obtain ⟨s, x, rfl⟩ : ∃ (s : Fin 256) (x : Fin 128), y = ix2 s x := ⟨y 0, y 1, (eq_ix2 y)⟩
    have hb : (⟨(t.val / 8 * 256 + s.val) / 256, by omega⟩ : Fin 32) = sq t := Fin.ext (by show (t.val / 8 * 256 + s.val) / 256 = t.val / 8; omega)
    have hs : (⟨(t.val / 8 * 256 + s.val) % 256, by omega⟩ : Fin 256) = s := Fin.ext (by show (t.val / 8 * 256 + s.val) % 256 = s.val; omega)
    have hh : (⟨(t.val % 8 * 128 + x.val) / 128, by omega⟩ : Fin 8) = hd t := Fin.ext (by show (t.val % 8 * 128 + x.val) / 128 = t.val % 8; omega)
    have hv : (⟨(t.val % 8 * 128 + x.val) % 128, by omega⟩ : Fin 128) = x := Fin.ext (by show (t.val % 8 * 128 + x.val) % 128 = x.val; omega)
    show _ = head (sums (m ((c : Thread nD τ).loc main_arg0)) (m ((c : Thread nD τ).loc main_arg1)) (m ((c : Thread nD τ).loc main_arg2)) (m ((c : Thread nD τ).loc main_arg3)) ⟨(t.val / 8 * 256 + s.val) / 256, _⟩ ⟨(t.val % 8 * 128 + x.val) / 128, _⟩ ⟨(t.val / 8 * 256 + s.val) % 256, _⟩)
      (gain (m ((c : Thread nD τ).loc main_arg4)) ⟨(t.val % 8 * 128 + x.val) / 128, _⟩) ⟨(t.val % 8 * 128 + x.val) % 128, _⟩
    rw [hb, hs, hh, hv]
    rw [blockH_apply _ _ _ _ _ _ _ _ _ (G m c t) (hc m c t) (hr m c t)]
    rw [in_0, in_1, out_0, out_1, qs, ks, vs]
    exact congrArg₂ (fun a b => head a b x)
      (funext fun z => congrArg (fun w : EReal => gated w _ _) (o_blk m c t s z)) (funext fun z => gain_blk m c t z)
  · have h0 : (i 0).val < 8192 := (i 0).isLt
    have h1 : (i 1).val < 1024 := (i 1).isLt
    have hlt : (i 0).val / 256 * 8 + (i 1).val / 128 < cfg0.N := by have hN : cfg0.N = 256 := N_0; omega
    refine ⟨⟨(i 0).val / 256 * 8 + (i 1).val / 128, hlt⟩, flush0_9 _, ?_⟩
    obtain ⟨-, -, -, -, -, -, -, -, -, ⟨e0, e1⟩⟩ := idx_facts ⟨(i 0).val / 256 * 8 + (i 1).val / 128, hlt⟩
    show i ∈ ((View.whole main_v16_0).slice (win0_9.rect ⟨(i 0).val / 256 * 8 + (i 1).val / 128, hlt⟩)).set
    rw [View.set_slice_whole, Rect.mem_set_unit]
    intro a
    match a with
    | ⟨0, _⟩ =>
      show win0_9.index ⟨_, hlt⟩ (0 : Fin 2) * 256 ≤ (i 0).val ∧ (i 0).val < win0_9.index ⟨_, hlt⟩ (0 : Fin 2) * 256 + 256
      rw [e0]; dsimp only; omega
    | ⟨1, _⟩ =>
      show win0_9.index ⟨_, hlt⟩ (1 : Fin 2) * 128 ≤ (i 1).val ∧ (i 1).val < win0_9.index ⟨_, hlt⟩ (1 : Fin 2) * 128 + 128
      rw [e1]; dsimp only; omega

/-- THE MATRIX MEMORIES AFTER THE RUN. -/
theorem array_C (c : Dev nD) : (dats m 0 c).arrAt 10 cfg0.N
    = Cert.Mlstm0RefIdeal.Read.val_main_v230 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 10 _ (fun t _ => ?_) fun i => ?_
  · have ht : t.val < 256 := lt_of_lt_of_eq t.isLt N_0
    rw [Cert.Mlstm0Ideal.Value.flushed10_A]
    funext y
    obtain ⟨e0, e1, e2, e3, e4⟩ := (state_facts t).1
    obtain ⟨d, x, z, rfl⟩ : ∃ (d : Fin 2) (x : Fin 128) (z : Fin 128), y = ix5 0 0 d x z :=
      ⟨y 2, y 3, y 4, (eq_ix5 y).trans (congrArg₂ (fun (a b : Fin 1) => ix5 a b (y 2) (y 3) (y 4)) (Subsingleton.elim _ _) (Subsingleton.elim _ _))⟩
    have hy : ((cfg0.win 10).blk t).view.emb (ix5 0 0 d x z) = ix5 (sq t) (hd t) d x z := by
      funext e; apply Fin.ext
      match e with
      | ⟨0, _⟩ => show win0_10.index t (0 : Fin 5) * 1 + 1 * 0 = t.val / 8; omega
      | ⟨1, _⟩ => show win0_10.index t (1 : Fin 5) * 1 + 1 * 0 = t.val % 8; omega
      | ⟨2, _⟩ => show win0_10.index t (2 : Fin 5) * 2 + 1 * d.val = d.val; omega
      | ⟨3, _⟩ => show win0_10.index t (3 : Fin 5) * 128 + 1 * x.val = x.val; omega
      | ⟨4, _⟩ => show win0_10.index t (4 : Fin 5) * 128 + 1 * z.val = z.val; omega
    show (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t)) (ix5 0 0 d x z)
      = Cert.Mlstm0RefIdeal.Read.val_main_v230 (F := Ideal) (m ((c : Thread nD τ).loc main_arg0)) (m ((c : Thread nD τ).loc main_arg1)) (m ((c : Thread nD τ).loc main_arg2)) (m ((c : Thread nD τ).loc main_arg3)) (((cfg0.win 10).blk t).view.emb (ix5 0 0 d x z))
    rw [hy]
    rcases two d with rfl | rfl
    · rw [out10_fwd, fwdMem_apply _ _ _ _ _ _ (G m c t) (hc m c t) (hr m c t), mem_fwd, in_0, out_0, ks, vs]
    · rw [out10_bwd, bwdMem_apply _ _ _ _ _ _ (G m c t) (hc m c t) (hr m c t), mem_bwd, in_1, out_1, ks, vs]
  · have h0 : (i 0).val < 32 := (i 0).isLt
    have h1 : (i 1).val < 8 := (i 1).isLt
    have h2 : (i 2).val < 2 := (i 2).isLt
    have h3 : (i 3).val < 128 := (i 3).isLt
    have h4 : (i 4).val < 128 := (i 4).isLt
    have hlt : (i 0).val * 8 + (i 1).val < cfg0.N := by have hN : cfg0.N = 256 := N_0; omega
    refine ⟨⟨(i 0).val * 8 + (i 1).val, hlt⟩, flush0_10 _, ?_⟩
    obtain ⟨e0, e1, e2, e3, e4⟩ := (state_facts ⟨(i 0).val * 8 + (i 1).val, hlt⟩).1
    show i ∈ ((View.whole main_v16_1).slice (win0_10.rect ⟨(i 0).val * 8 + (i 1).val, hlt⟩)).set
    rw [View.set_slice_whole, Rect.mem_set_unit]
    intro a
    match a with
    | ⟨0, _⟩ =>
      show win0_10.index ⟨_, hlt⟩ (0 : Fin 5) * 1 ≤ (i 0).val ∧ (i 0).val < win0_10.index ⟨_, hlt⟩ (0 : Fin 5) * 1 + 1
      rw [e0]; dsimp only; omega
    | ⟨1, _⟩ =>
      show win0_10.index ⟨_, hlt⟩ (1 : Fin 5) * 1 ≤ (i 1).val ∧ (i 1).val < win0_10.index ⟨_, hlt⟩ (1 : Fin 5) * 1 + 1
      rw [e1]; dsimp only; omega
    | ⟨2, _⟩ =>
      show win0_10.index ⟨_, hlt⟩ (2 : Fin 5) * 2 ≤ (i 2).val ∧ (i 2).val < win0_10.index ⟨_, hlt⟩ (2 : Fin 5) * 2 + 2
      rw [e2]; dsimp only; omega
    | ⟨3, _⟩ =>
      show win0_10.index ⟨_, hlt⟩ (3 : Fin 5) * 128 ≤ (i 3).val ∧ (i 3).val < win0_10.index ⟨_, hlt⟩ (3 : Fin 5) * 128 + 128
      rw [e3]; dsimp only; omega
    | ⟨4, _⟩ =>
      show win0_10.index ⟨_, hlt⟩ (4 : Fin 5) * 128 ≤ (i 4).val ∧ (i 4).val < win0_10.index ⟨_, hlt⟩ (4 : Fin 5) * 128 + 128
      rw [e4]; dsimp only; omega

/-- THE NORMALISERS AFTER THE RUN. -/
theorem array_n (c : Dev nD) : (dats m 0 c).arrAt 11 cfg0.N
    = Cert.Mlstm0RefIdeal.Read.val_main_v233 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 11 _ (fun t _ => ?_) fun i => ?_
  · have ht : t.val < 256 := lt_of_lt_of_eq t.isLt N_0
    rw [Cert.Mlstm0Ideal.Value.flushed11_A]
    funext y
    obtain ⟨e0, e1, e2, e3⟩ := (state_facts t).2.1
    obtain ⟨d, x, rfl⟩ : ∃ (d : Fin 2) (x : Fin 128), y = ix4 0 0 d x :=
      ⟨y 2, y 3, (eq_ix4 y).trans (congrArg₂ (fun (a b : Fin 1) => ix4 a b (y 2) (y 3)) (Subsingleton.elim _ _) (Subsingleton.elim _ _))⟩
    have hy : ((cfg0.win 11).blk t).view.emb (ix4 0 0 d x) = ix4 (sq t) (hd t) d x := by
      funext e; apply Fin.ext
      match e with
      | ⟨0, _⟩ => show win0_11.index t (0 : Fin 4) * 1 + 1 * 0 = t.val / 8; omega
      | ⟨1, _⟩ => show win0_11.index t (1 : Fin 4) * 1 + 1 * 0 = t.val % 8; omega
      | ⟨2, _⟩ => show win0_11.index t (2 : Fin 4) * 2 + 1 * d.val = d.val; omega
      | ⟨3, _⟩ => show win0_11.index t (3 : Fin 4) * 128 + 1 * x.val = x.val; omega
    show (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t)) (ix4 0 0 d x)
      = Cert.Mlstm0RefIdeal.Read.val_main_v233 (F := Ideal) (m ((c : Thread nD τ).loc main_arg0)) (m ((c : Thread nD τ).loc main_arg1)) (m ((c : Thread nD τ).loc main_arg2)) (m ((c : Thread nD τ).loc main_arg3)) (((cfg0.win 11).blk t).view.emb (ix4 0 0 d x))
    rw [hy]
    rcases two d with rfl | rfl
    · rw [out11_fwd, fwdNrm_apply _ _ _ _ _ (G m c t) (hc m c t) (hr m c t), nrm_fwd, in_0, out_0, ks]
    · rw [out11_bwd, bwdNrm_apply _ _ _ _ _ (G m c t) (hc m c t) (hr m c t), nrm_bwd, in_1, out_1, ks]
  · have h0 : (i 0).val < 32 := (i 0).isLt
    have h1 : (i 1).val < 8 := (i 1).isLt
    have h2 : (i 2).val < 2 := (i 2).isLt
    have h3 : (i 3).val < 128 := (i 3).isLt
    have hlt : (i 0).val * 8 + (i 1).val < cfg0.N := by have hN : cfg0.N = 256 := N_0; omega
    refine ⟨⟨(i 0).val * 8 + (i 1).val, hlt⟩, flush0_11 _, ?_⟩
    obtain ⟨e0, e1, e2, e3⟩ := (state_facts ⟨(i 0).val * 8 + (i 1).val, hlt⟩).2.1
    show i ∈ ((View.whole main_v16_2).slice (win0_11.rect ⟨(i 0).val * 8 + (i 1).val, hlt⟩)).set
    rw [View.set_slice_whole, Rect.mem_set_unit]
    intro a
    match a with
    | ⟨0, _⟩ =>
      show win0_11.index ⟨_, hlt⟩ (0 : Fin 4) * 1 ≤ (i 0).val ∧ (i 0).val < win0_11.index ⟨_, hlt⟩ (0 : Fin 4) * 1 + 1
      rw [e0]; dsimp only; omega
    | ⟨1, _⟩ =>
      show win0_11.index ⟨_, hlt⟩ (1 : Fin 4) * 1 ≤ (i 1).val ∧ (i 1).val < win0_11.index ⟨_, hlt⟩ (1 : Fin 4) * 1 + 1
      rw [e1]; dsimp only; omega
    | ⟨2, _⟩ =>
      show win0_11.index ⟨_, hlt⟩ (2 : Fin 4) * 2 ≤ (i 2).val ∧ (i 2).val < win0_11.index ⟨_, hlt⟩ (2 : Fin 4) * 2 + 2
      rw [e2]; dsimp only; omega
    | ⟨3, _⟩ =>
      show win0_11.index ⟨_, hlt⟩ (3 : Fin 4) * 128 ≤ (i 3).val ∧ (i 3).val < win0_11.index ⟨_, hlt⟩ (3 : Fin 4) * 128 + 128
      rw [e3]; dsimp only; omega

/-- THE STABILISERS AFTER THE RUN. -/
theorem array_m (c : Dev nD) : (dats m 0 c).arrAt 12 cfg0.N
    = Cert.Mlstm0RefIdeal.Read.val_main_v235 (F := Ideal) (m ((c : Thread nD τ).loc main_arg1)) (m ((c : Thread nD τ).loc main_arg2)) (m ((c : Thread nD τ).loc main_arg3)) := by
  refine (dats m 0 c).arrAt_eq_of_cover 12 _ (fun t _ => ?_) fun i => ?_
  · have ht : t.val < 256 := lt_of_lt_of_eq t.isLt N_0
    rw [Cert.Mlstm0Ideal.Value.flushed12_A]
    funext y
    obtain ⟨e0, e1, e2, e3⟩ := (state_facts t).2.2
    obtain ⟨d, x, rfl⟩ : ∃ (d : Fin 2) (x : Fin 128), y = ix4 0 0 d x :=
      ⟨y 2, y 3, (eq_ix4 y).trans (congrArg₂ (fun (a b : Fin 1) => ix4 a b (y 2) (y 3)) (Subsingleton.elim _ _) (Subsingleton.elim _ _))⟩
    have hy : ((cfg0.win 12).blk t).view.emb (ix4 0 0 d x) = ix4 (sq t) (hd t) d x := by
      funext e; apply Fin.ext
      match e with
      | ⟨0, _⟩ => show win0_12.index t (0 : Fin 4) * 1 + 1 * 0 = t.val / 8; omega
      | ⟨1, _⟩ => show win0_12.index t (1 : Fin 4) * 1 + 1 * 0 = t.val % 8; omega
      | ⟨2, _⟩ => show win0_12.index t (2 : Fin 4) * 2 + 1 * d.val = d.val; omega
      | ⟨3, _⟩ => show win0_12.index t (3 : Fin 4) * 128 + 1 * x.val = x.val; omega
    show (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t)) (ix4 0 0 d x)
      = Cert.Mlstm0RefIdeal.Read.val_main_v235 (F := Ideal) (m ((c : Thread nD τ).loc main_arg1)) (m ((c : Thread nD τ).loc main_arg2)) (m ((c : Thread nD τ).loc main_arg3)) (((cfg0.win 12).blk t).view.emb (ix4 0 0 d x))
    rw [hy]
    rcases two d with rfl | rfl
    · rw [out12_fwd, fwdStab_apply _ _ _ _ (G m c t) (hc m c t) (hr m c t), stab_fwd, in_0, out_0]
    · rw [out12_bwd, bwdStab_apply _ _ _ _ (G m c t) (hc m c t) (hr m c t), stab_bwd, in_1, out_1]
  · have h0 : (i 0).val < 32 := (i 0).isLt
    have h1 : (i 1).val < 8 := (i 1).isLt
    have h2 : (i 2).val < 2 := (i 2).isLt
    have h3 : (i 3).val < 128 := (i 3).isLt
    have hlt : (i 0).val * 8 + (i 1).val < cfg0.N := by have hN : cfg0.N = 256 := N_0; omega
    refine ⟨⟨(i 0).val * 8 + (i 1).val, hlt⟩, flush0_12 _, ?_⟩
    obtain ⟨e0, e1, e2, e3⟩ := (state_facts ⟨(i 0).val * 8 + (i 1).val, hlt⟩).2.2
    show i ∈ ((View.whole main_v16_3).slice (win0_12.rect ⟨(i 0).val * 8 + (i 1).val, hlt⟩)).set
    rw [View.set_slice_whole, Rect.mem_set_unit]
    intro a
    match a with
    | ⟨0, _⟩ =>
      show win0_12.index ⟨_, hlt⟩ (0 : Fin 4) * 1 ≤ (i 0).val ∧ (i 0).val < win0_12.index ⟨_, hlt⟩ (0 : Fin 4) * 1 + 1
      rw [e0]; dsimp only; omega
    | ⟨1, _⟩ =>
      show win0_12.index ⟨_, hlt⟩ (1 : Fin 4) * 1 ≤ (i 1).val ∧ (i 1).val < win0_12.index ⟨_, hlt⟩ (1 : Fin 4) * 1 + 1
      rw [e1]; dsimp only; omega
    | ⟨2, _⟩ =>
      show win0_12.index ⟨_, hlt⟩ (2 : Fin 4) * 2 ≤ (i 2).val ∧ (i 2).val < win0_12.index ⟨_, hlt⟩ (2 : Fin 4) * 2 + 2
      rw [e2]; dsimp only; omega
    | ⟨3, _⟩ =>
      show win0_12.index ⟨_, hlt⟩ (3 : Fin 4) * 128 ≤ (i 3).val ∧ (i 3).val < win0_12.index ⟨_, hlt⟩ (3 : Fin 4) * 128 + 128
      rw [e3]; dsimp only; omega

end Cert.Mlstm0Array

end
-- ==== Proof.Mlstm0Claim.lean ====
/- The matrix-memory call's claims for layer 0: the reference's frame and the algebraic equality with the reference. -/
module

public import proofs.«01_k».proof.Proof.Mlstm0Array
public import proofs.«01_k».proof.Defs
public import Idealize.ShloMosaic.Lib.Quiescent

@[expose] public section

noncomputable section

namespace Cert.Mlstm0Claim

open Idealize.ShloMosaic Idealize.SL.Sem

/-- The reference runs to an end, leaves its arguments as launched and every counter at zero. -/
theorem reference_frame : Cert.quiescent_Mlstm0RefIdeal := fun m g _ =>
  (θ_run Cert.Mlstm0RefIdeal.defs _ _).mono
    (fun r h => ⟨fun c => (h c).2.2.2.2, sem_eq_zero_of_no_sems (by decide) r.2⟩)
    (Cert.Mlstm0RefIdeal.Value.run (F := Ideal) m g)

/-- Over the extended reals the kernel's four results are the reference's, from the same arguments. -/
theorem algebraic : Cert.algebraic_Mlstm0Ideal_Mlstm0RefIdeal := by
  intro m g m' g' _ hargs
  refine ⟨fun c => Cert.Mlstm0RefIdeal.Read.val_main_v227 (F := Ideal) (m (c.tc.loc Cert.Mlstm0Ideal.main_arg0)) (m (c.tc.loc Cert.Mlstm0Ideal.main_arg1)) (m (c.tc.loc Cert.Mlstm0Ideal.main_arg2)) (m (c.tc.loc Cert.Mlstm0Ideal.main_arg3)) (m (c.tc.loc Cert.Mlstm0Ideal.main_arg4)),
    fun c => Cert.Mlstm0RefIdeal.Read.val_main_v230 (F := Ideal) (m (c.tc.loc Cert.Mlstm0Ideal.main_arg0)) (m (c.tc.loc Cert.Mlstm0Ideal.main_arg1)) (m (c.tc.loc Cert.Mlstm0Ideal.main_arg2)) (m (c.tc.loc Cert.Mlstm0Ideal.main_arg3)),
    fun c => Cert.Mlstm0RefIdeal.Read.val_main_v233 (F := Ideal) (m (c.tc.loc Cert.Mlstm0Ideal.main_arg0)) (m (c.tc.loc Cert.Mlstm0Ideal.main_arg1)) (m (c.tc.loc Cert.Mlstm0Ideal.main_arg2)) (m (c.tc.loc Cert.Mlstm0Ideal.main_arg3)),
    fun c => Cert.Mlstm0RefIdeal.Read.val_main_v235 (F := Ideal) (m (c.tc.loc Cert.Mlstm0Ideal.main_arg1)) (m (c.tc.loc Cert.Mlstm0Ideal.main_arg2)) (m (c.tc.loc Cert.Mlstm0Ideal.main_arg3)), ?_, ?_⟩
  · exact (θ_run Cert.Mlstm0Ideal.defs _ _).mono (fun r h c =>
        ⟨(h c).1.trans (Cert.Mlstm0Array.array_h m c), (h c).2.1.trans (Cert.Mlstm0Array.array_C m c),
          (h c).2.2.1.trans (Cert.Mlstm0Array.array_n m c), (h c).2.2.2.1.trans (Cert.Mlstm0Array.array_m m c), (h c).2.2.2.2⟩)
      (Cert.Mlstm0Ideal.Value.run_blocks m g)
  · refine (θ_run Cert.Mlstm0RefIdeal.defs _ _).mono (fun r h c =>
        ⟨(h c).1.trans ?_, (h c).2.1.trans ?_, (h c).2.2.1.trans ?_, (h c).2.2.2.1.trans ?_, (h c).2.2.2.2⟩)
      (Cert.Mlstm0RefIdeal.Value.run (F := Ideal) m' g')
    all_goals obtain ⟨e0, e1, e2, e3, e4⟩ := hargs c
    · rw [Cert.Mlstm0RefIdeal.Read.val_main_v227_eq]
      show Cert.Mlstm0RefIdeal.Read.val_main_v227 (F := Ideal) (m' (c.tc.loc Cert.Mlstm0RefIdeal.main_arg0)) (m' (c.tc.loc Cert.Mlstm0RefIdeal.main_arg1)) (m' (c.tc.loc Cert.Mlstm0RefIdeal.main_arg2)) (m' (c.tc.loc Cert.Mlstm0RefIdeal.main_arg3)) (m' (c.tc.loc Cert.Mlstm0RefIdeal.main_arg4)) = _
      rw [e0, e1, e2, e3, e4]
    · rw [Cert.Mlstm0RefIdeal.Read.val_main_v230_eq]
      show Cert.Mlstm0RefIdeal.Read.val_main_v230 (F := Ideal) (m' (c.tc.loc Cert.Mlstm0RefIdeal.main_arg0)) (m' (c.tc.loc Cert.Mlstm0RefIdeal.main_arg1)) (m' (c.tc.loc Cert.Mlstm0RefIdeal.main_arg2)) (m' (c.tc.loc Cert.Mlstm0RefIdeal.main_arg3)) = _
      rw [e0, e1, e2, e3]
    · rw [Cert.Mlstm0RefIdeal.Read.val_main_v233_eq]
      show Cert.Mlstm0RefIdeal.Read.val_main_v233 (F := Ideal) (m' (c.tc.loc Cert.Mlstm0RefIdeal.main_arg0)) (m' (c.tc.loc Cert.Mlstm0RefIdeal.main_arg1)) (m' (c.tc.loc Cert.Mlstm0RefIdeal.main_arg2)) (m' (c.tc.loc Cert.Mlstm0RefIdeal.main_arg3)) = _
      rw [e0, e1, e2, e3]
    · rw [Cert.Mlstm0RefIdeal.Read.val_main_v235_eq]
      show Cert.Mlstm0RefIdeal.Read.val_main_v235 (F := Ideal) (m' (c.tc.loc Cert.Mlstm0RefIdeal.main_arg1)) (m' (c.tc.loc Cert.Mlstm0RefIdeal.main_arg2)) (m' (c.tc.loc Cert.Mlstm0RefIdeal.main_arg3)) = _
      rw [e1, e2, e3]

end Cert.Mlstm0Claim

end
-- ==== Proof.Mlstm1Store.lean ====
/- What one grid point of layer 1's matrix-memory kernel stores: the block functions of layer 0's kernel, whose body is the same. -/
module

public import proofs.«01_k».proof.Proof.Gen.Mlstm1Ideal.Value
public import proofs.«01_k».proof.Proof.Mlstm0Store

@[expose] public section

noncomputable section

namespace Cert.Mlstm1Block

open Cert.Mlstm1Ideal Cert.Mlstm1Ideal.Gen Idealize.ShloMosaic Idealize.ShloMosaic.TcCoe Idealize.SL.Sem
open Cert.Mlstm0Block (fwdMem fwdNrm fwdStab bwdMem bwdNrm bwdStab blockH store_bwd4 store_bwd5 store_fwd4 store_fwd5)

section Pieces

open Cert.AttnBlock (off2 off3)

variable (c : Dev nD) (i : grid0.Coords) (a2 : Memref sig .tc .vmem S256x128 .f32) (w2 : a2.IsWhole) (a3 : Memref sig .tc .vmem S256x128 .f32) (w3 : a3.IsWhole) (a4 : Memref sig .tc .vmem S256x128 .f32) (w4 : a4.IsWhole) (a5 : Memref sig .tc .vmem S256x128 .f32) (w5 : a5.IsWhole) (a6 : Memref sig .tc .vmem S1x256x4 .f32) (w6 : a6.IsWhole) (a7 : Memref sig .tc .vmem S1x4x256 .f32) (w7 : a7.IsWhole) (a8 : Memref sig .tc .vmem S1x1x4 .f32) (w8 : a8.IsWhole) (a9 : Memref sig .tc .vmem S1x4x1 .f32) (w9 : a9.IsWhole) (a10 : Memref sig .tc .vmem S1x1x128 .f32) (w10 : a10.IsWhole) (a11 : Memref sig .tc .vmem S256x128 .bf16) (w11 : a11.IsWhole) (a12 : Memref sig .tc .vmem S1x1x2x128x128 .f32) (w12 : a12.IsWhole) (a13 : Memref sig .tc .vmem S1x1x2x128 .f32) (w13 : a13.IsWhole) (a14 : Memref sig .tc .vmem S1x1x2x128 .f32) (w14 : a14.IsWhole) (a15 : Memref sig .tc .vmem S256x128 .f32) (w15 : a15.IsWhole)
  (x0 : Vec Ideal S256x128 .f32) (x1 : Vec Ideal S256x128 .f32) (x2 : Vec Ideal S256x128 .f32) (x3 : Vec Ideal S256x128 .f32) (x4 : Vec Ideal S1x256x4 .f32) (x5 : Vec Ideal S1x4x256 .f32) (x6 : Vec Ideal S1x1x4 .f32) (x7 : Vec Ideal S1x4x1 .f32) (x8 : Vec Ideal S1x1x128 .f32)

set_option maxHeartbeats 1000000 in
/-- The outputs' block. -/
theorem out9_eq : out0_A_9 c i a2 w2 a3 w3 a4 w4 a5 w5 a6 w6 a7 w7 a8 w8 a9 w9 a10 w10 a11 w11 a12 w12 a13 w13 a14 w14 a15 w15 x0 x1 x2 x3 x4 x5 x6 x7 x8 = blockH x0 x1 x2 x3 x4 x5 x6 x7 x8 := by
  unfold out0_A_9
  rw [View.read_writes_eq_canon _ _ _ (cover0_A_9 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  rw [View.canon_unit_zero off2]
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  rw [View.readCov_cons_toLoadRect, View.readCov_cons_toLoadRect]
  rfl

set_option maxHeartbeats 1000000 in
/-- The block of matrix memories at the forward direction. -/
theorem out10_fwd (x y : Fin 128) : out0_A_10 c i a2 w2 a3 w3 a4 w4 a5 w5 a6 w6 a7 w7 a8 w8 a9 w9 a10 w10 a11 w11 a12 w12 a13 w13 a14 w14 a15 w15 x0 x1 x2 x3 x4 x5 x6 x7 x8 (ix5 0 0 0 x y) = fwdMem x1 x2 x4 x5 x6 x7 (ix2 x y) := by
  unfold out0_A_10
  rw [View.read_writes_eq_canon _ _ _ (cover0_A_10 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_fwd5 _ _ x y).trans ?_
  pointwise [k0_pay32]
  rfl

set_option maxHeartbeats 1000000 in
/-- The block of matrix memories at the backward direction. -/
theorem out10_bwd (x y : Fin 128) : out0_A_10 c i a2 w2 a3 w3 a4 w4 a5 w5 a6 w6 a7 w7 a8 w8 a9 w9 a10 w10 a11 w11 a12 w12 a13 w13 a14 w14 a15 w15 x0 x1 x2 x3 x4 x5 x6 x7 x8 (ix5 0 0 1 x y) = bwdMem x1 x2 x4 x5 x6 x7 (ix2 x y) := by
  unfold out0_A_10
  rw [View.read_writes_eq_canon _ _ _ (cover0_A_10 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_bwd5 _ _ x y).trans ?_
  pointwise [k0_pay61]
  rfl

set_option maxHeartbeats 1000000 in
/-- The block of normalisers at the forward direction. -/
theorem out11_fwd (x : Fin 128) : out0_A_11 c i a2 w2 a3 w3 a4 w4 a5 w5 a6 w6 a7 w7 a8 w8 a9 w9 a10 w10 a11 w11 a12 w12 a13 w13 a14 w14 a15 w15 x0 x1 x2 x3 x4 x5 x6 x7 x8 (ix4 0 0 0 x) = fwdNrm x1 x4 x5 x6 x7 (ix2 0 x) := by
  unfold out0_A_11
  rw [View.read_writes_eq_canon _ _ _ (cover0_A_11 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_fwd4 _ _ x).trans ?_
  pointwise [k0_pay33]
  rfl

set_option maxHeartbeats 1000000 in
/-- The block of normalisers at the backward direction. -/
theorem out11_bwd (x : Fin 128) : out0_A_11 c i a2 w2 a3 w3 a4 w4 a5 w5 a6 w6 a7 w7 a8 w8 a9 w9 a10 w10 a11 w11 a12 w12 a13 w13 a14 w14 a15 w15 x0 x1 x2 x3 x4 x5 x6 x7 x8 (ix4 0 0 1 x) = bwdNrm x1 x4 x5 x6 x7 (ix2 0 x) := by
  unfold out0_A_11
  rw [View.read_writes_eq_canon _ _ _ (cover0_A_11 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_bwd4 _ _ x).trans ?_
  pointwise [k0_pay62]
  rfl

set_option maxHeartbeats 1000000 in
/-- The block of stabilisers at the forward direction. -/
theorem out12_fwd (x : Fin 128) : out0_A_12 c i a2 w2 a3 w3 a4 w4 a5 w5 a6 w6 a7 w7 a8 w8 a9 w9 a10 w10 a11 w11 a12 w12 a13 w13 a14 w14 a15 w15 x0 x1 x2 x3 x4 x5 x6 x7 x8 (ix4 0 0 0 x) = fwdStab x4 x5 x6 x7 (ix2 0 0) := by
  unfold out0_A_12
  rw [View.read_writes_eq_canon _ _ _ (cover0_A_12 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_fwd4 _ _ x).trans ?_
  pointwise [k0_pay34]
  rfl

set_option maxHeartbeats 1000000 in
/-- The block of stabilisers at the backward direction. -/
theorem out12_bwd (x : Fin 128) : out0_A_12 c i a2 w2 a3 w3 a4 w4 a5 w5 a6 w6 a7 w7 a8 w8 a9 w9 a10 w10 a11 w11 a12 w12 a13 w13 a14 w14 a15 w15 x0 x1 x2 x3 x4 x5 x6 x7 x8 (ix4 0 0 1 x) = bwdStab x4 x5 x6 x7 (ix2 0 0) := by
  unfold out0_A_12
  rw [View.read_writes_eq_canon _ _ _ (cover0_A_12 c i a2 w2 a3 w3 a4 w4 a5 w5 a6 w6 a7 w7 a8 w8 a9 w9 a10 w10 a11 w11 a12 w12 a13 w13 a14 w14 a15 w15 x0 x1 x2 x3 x4 x5 x6 x7 x8)]
  unfold kernelRun0_A
  dsimp only
  sl_unfold_words
  simp only [View.readAt_eq_ld, w2.read_unread, w3.read_unread, w4.read_unread, w5.read_unread, w6.read_unread,
    w7.read_unread, w8.read_unread, w9.read_unread, w10.read_unread,
    View.ld_unit_zero (S := S256x128) off2, View.ld_unit_zero (S := S1x256x4) off3, View.ld_unit_zero (S := S1x4x256) off3,
    View.ld_unit_zero (S := S1x1x4) off3, View.ld_unit_zero (S := S1x4x1) off3, View.ld_unit_zero (S := S1x1x128) off3]
  refine (store_bwd4 _ _ x).trans ?_
  pointwise [k0_pay63]
  rfl

end Pieces

end Cert.Mlstm1Block

end
-- ==== Proof.Mlstm1Ref.lean ====
/- The matrix-memory reference's results read at an index, as `MlstmSpec`'s functions of the argument arrays. -/
module

public import proofs.«01_k».proof.Proof.Gen.Mlstm1RefIdeal.Read
public import proofs.«01_k».proof.Proof.MlstmSpec

@[expose] public section

noncomputable section

namespace Cert.Mlstm1Ref

open Cert.Mlstm1RefIdeal Cert.Mlstm1RefIdeal.Read Cert.Mlstm1RefIdeal.Gen Idealize.ShloMosaic Idealize.ShloMosaic.TcCoe
open Cert.MlstmSpec

variable (x0 : FVec Ideal S10240x4096 .f32) (x1 : FVec Ideal S10240x128 .f32) (x2 x3 : FVec Ideal S2x2x8 .f32)
  (x4 : FVec Ideal S2x1024 .f32)

/-- The lanes of row `s` of sequence `b`, head `h`, from column `o` on. -/
def lanes (o : Nat) (ho : o ≤ 3072) (b : Fin 32) (h : Fin 8) (s : Fin 256) (x : Fin 128) : EReal :=
  x0 (ix2 ⟨b.val * 256 + s.val, by omega⟩ ⟨o + (h.val * 128 + x.val), by omega⟩)

/-- The scaled keys. -/
def keys (b : Fin 32) (h : Fin 8) (s : Fin 256) (x : Fin 128) : EReal :=
  lanes x0 1024 (by decide) b h s x * Ideal.ofBits .f32 0x3DB504F3#32

/-- The input gates of direction `d`. -/
def inGate (b : Fin 32) (h : Fin 8) (d : Fin 2) (s : Fin 256) : EReal :=
  x1 (ix2 ⟨b.val * 256 + s.val, by omega⟩ ⟨d.val * 8 + h.val, by omega⟩) + x2 (ix3 1 d h)

/-- The log forget gates of direction `d`. -/
def outGate (b : Fin 32) (h : Fin 8) (d : Fin 2) (s : Fin 256) : EReal :=
  logsig (x1 (ix2 ⟨b.val * 256 + s.val, by omega⟩ ⟨16 + (d.val * 8 + h.val), by omega⟩) + x3 (ix3 1 d h))

/-- The head's gain. -/
def gain (h : Fin 8) (x : Fin 128) : EReal := x4 (ix2 1 ⟨h.val * 128 + x.val, by omega⟩)

/-- The queries. -/
theorem q_apply (b : Fin 32) (h : Fin 8) (s : Fin 256) (x : Fin 128) :
    val_main_v2 (F := Ideal) x0 (ix4 b h s x) = lanes x0 0 (by decide) b h s x := by
  pointwise [val_main_v2, val_main_v1, val_main_v0]
  refine congrArg x0 ?_
  funext a; match a with
  | ⟨0, _⟩ => rfl
  | ⟨1, _⟩ => exact Fin.ext (Nat.zero_add _).symm

/-- The keys. -/
theorem k_apply (b : Fin 32) (h : Fin 8) (s : Fin 256) (x : Fin 128) :
    val_main_v7 (F := Ideal) x0 (ix4 b h s x) = keys x0 b h s x := by
  pointwise [val_main_v7, val_main_v6, val_main_cst, val_main_v5, val_main_v4, val_main_v3]
  rfl

/-- The values. -/
theorem v_apply (b : Fin 32) (h : Fin 8) (s : Fin 256) (x : Fin 128) :
    val_main_v10 (F := Ideal) x0 (ix4 b h s x) = lanes x0 2048 (by decide) b h s x := by
  pointwise [val_main_v10, val_main_v9, val_main_v8]
  rfl

/-- The output gates. -/
theorem o_apply (b : Fin 32) (h : Fin 8) (s : Fin 256) (x : Fin 128) :
    val_main_v13 (F := Ideal) x0 (ix4 b h s x) = lanes x0 3072 (by decide) b h s x := by
  pointwise [val_main_v13, val_main_v12, val_main_v11]
  rfl

/-- The input gates before the heads move. -/
theorem in_apply (b : Fin 32) (h : Fin 8) (d : Fin 2) (s : Fin 256) :
    val_main_v20 (F := Ideal) x1 x2 (ix4 b s d h) = inGate x1 x2 b h d s := by
  pointwise [val_main_v20, val_main_v15, val_main_v14, val_main_v19, val_main_v18, val_main_v17, val_main_v16]
  refine congrArg₂ (fun a b : EReal => a + b) (congrArg x1 ?_) (congrArg x2 ?_)
  · funext a; match a with
    | ⟨0, _⟩ => rfl
    | ⟨1, _⟩ => exact Fin.ext (by simp)
  · funext a; match a with
    | ⟨0, _⟩ => rfl
    | ⟨1, _⟩ => exact Fin.ext (by simp)
    | ⟨2, _⟩ => exact Fin.ext (by simp)

/-- The forget gates' arguments before the heads move. -/
theorem out_arg (b : Fin 32) (h : Fin 8) (d : Fin 2) (s : Fin 256) :
    val_main_v27 (F := Ideal) x1 x3 (ix4 b s d h)
      = x1 (ix2 ⟨b.val * 256 + s.val, by omega⟩ ⟨16 + (d.val * 8 + h.val), by omega⟩) + x3 (ix3 1 d h) := by
  pointwise [val_main_v27, val_main_v22, val_main_v21, val_main_v26, val_main_v25, val_main_v24, val_main_v23]

/-- The log forget gates before the heads move. -/
theorem out_apply (b : Fin 32) (h : Fin 8) (d : Fin 2) (s : Fin 256) :
    val_main_v28 (F := Ideal) x1 x3 (ix4 b s d h) = outGate x1 x3 b h d s := by
  have e := out_arg x1 x3 b h d s
  unfold outGate
  rw [← e]
  unfold val_main_v28 val_main_call0_v1 val_main_call0_call0_v11 val_main_call0_call0_v10 val_main_call0_call0_v9
    val_main_call0_call0_v8 val_main_call0_call0_v7 val_main_call0_call0_v6 val_main_call0_call0_v4
    val_main_call0_call0_v3 val_main_call0_call0_v1 val_main_call0_v0
  generalize val_main_v27 (F := Ideal) x1 x3 = z
  pointwise [val_main_call0_call0_v0, val_main_call0_call0_v2, val_main_call0_call0_v5, val_main_call0_call0_cst]
  exact softplus_neg _

/-! ## Forwards -/

section forwards

variable (b : Fin 32) (h : Fin 8)

/-- The input gates. -/
theorem forwards_in (s : Fin 256) : val_main_v32 (F := Ideal) x1 x2 (ix3 b h s) = inGate x1 x2 b h 0 s := by
  have e := in_apply x1 x2 b h 0
  unfold val_main_v32 val_main_v31 val_main_v30
  revert e
  generalize val_main_v20 (F := Ideal) x1 x2 = z
  intro e
  pointwise []
  exact e s

/-- The log forget gates. -/
theorem forwards_gate (s : Fin 256) : val_main_v35 (F := Ideal) x1 x3 (ix3 b h s) = outGate x1 x3 b h 0 s := by
  have e := out_apply x1 x3 b h 0
  unfold val_main_v35 val_main_v34 val_main_v33
  revert e
  generalize val_main_v28 (F := Ideal) x1 x3 = z
  intro e
  pointwise []
  exact e s

/-- The mask. -/
theorem forwards_mask (s j : Fin 256) : val_main_v40 (F := Ideal) (ix2 s j) = fwd s j := by
  pointwise [val_main_v40, val_main_v39, val_main_v38, val_main_v37, val_main_v36, val_main_v29]
  rfl

/-- The passed log forget gates. -/
theorem forwards_cum (s : Fin 256) : val_main_v46 (F := Ideal) x1 x3 (ix3 b h s) = cum fwd (outGate x1 x3 b h 0) s := by
  have e := forwards_gate x1 x3 b h
  have d := forwards_mask
  unfold val_main_v46 val_main_v45 val_main_call1_v1 val_main_call1_v2 val_main_v44
  revert e d
  generalize val_main_v35 (F := Ideal) x1 x3 = z
  generalize val_main_v40 (F := Ideal) = w
  intro e d
  unfold val_main_call1_v3 val_main_call1_v0 val_main_cst_3
  simp only [id]
  pointwise [val_main_cst_4]
  simp only [e, d]
  rfl

/-- The log decays. -/
theorem forwards_logD (s j : Fin 256) : val_main_v55 (F := Ideal) x1 x2 x3 (ix4 b h s j)
    = logD fwd (outGate x1 x3 b h 0) (inGate x1 x2 b h 0) s j := by
  have e := forwards_cum x1 x3 b h
  have d := forwards_mask
  have u := forwards_in x1 x2 b h
  unfold val_main_v55 val_main_v54 val_main_v53 val_main_v52 val_main_v51 val_main_v50 val_main_v49 val_main_v48 val_main_v47 val_main_call2_v1
  revert e d u
  generalize val_main_v46 (F := Ideal) x1 x3 = z
  generalize val_main_v40 (F := Ideal) = w
  generalize val_main_v32 (F := Ideal) x1 x2 = y
  intro e d u
  unfold val_main_call2_v2 val_main_call2_v0 val_main_cst_5
  simp only [id]
  pointwise []
  simp only [e, d, u]
  rfl

/-- A maximum over the last axis is a fold over the tokens. -/
theorem forwards_max (y : FVec Ideal S32x8x256x256 .f32) (s : Fin 256) :
    Host.reduce FloatOps.maximumf y (val_main_cst_6 (F := Ideal)) reducesTo_S32x8x256x256_S32x8x256_d3 h_S_ (ix3 b h s)
      = Finset.fold max (Ideal.ofBits .f32 0xFF800000#32) (fun x => y (ix4 b h s x)) Finset.univ := by
  pointwise [val_main_cst_6]

/-- The largest log decays. -/
theorem forwards_top (s : Fin 256) : val_main_v59 (F := Ideal) x1 x2 x3 (ix3 b h s)
    = Finset.fold max (Ideal.ofBits .f32 0xFF800000#32) (logD fwd (outGate x1 x3 b h 0) (inGate x1 x2 b h 0) s) Finset.univ := by
  unfold val_main_v59
  rw [forwards_max]
  simp only [forwards_logD]

/-- The stabilisers. -/
theorem forwards_stab (s : Fin 256) : val_main_v60 (F := Ideal) x1 x2 x3 (ix3 b h s)
    = stab fwd (outGate x1 x3 b h 0) (inGate x1 x2 b h 0) s := by
  have e := forwards_cum x1 x3 b h
  have d := forwards_top x1 x2 x3 b h
  unfold val_main_v60 val_main_v58
  revert e d
  generalize val_main_v46 (F := Ideal) x1 x3 = z
  generalize val_main_v59 (F := Ideal) x1 x2 x3 = w
  intro e d
  pointwise [val_main_v57, val_main_v56, val_main_v43, val_main_cst_2]
  rw [stab_eq, e, d]

/-- The tokens' weights. -/
theorem forwards_wt (s j : Fin 256) : val_main_v66 (F := Ideal) x0 x1 x2 x3 (ix4 b h s j)
    = wt fwd (outGate x1 x3 b h 0) (inGate x1 x2 b h 0) (lanes x0 0 (by decide) b h) (keys x0 b h) s j := by
  have e := forwards_stab x1 x2 x3 b h
  have d := forwards_logD x1 x2 x3 b h
  have q := q_apply x0 b h
  have k := k_apply x0 b h
  unfold val_main_v66 val_main_v65 val_main_v64 val_main_v63 val_main_v62 val_main_v61
  revert e d q k
  generalize val_main_v60 (F := Ideal) x1 x2 x3 = z
  generalize val_main_v55 (F := Ideal) x1 x2 x3 = w
  generalize val_main_v2 (F := Ideal) x0 = a
  generalize val_main_v7 (F := Ideal) x0 = c
  intro e d q k
  pointwise []
  simp only [e, d, q, k]
  rfl

/-- The weight of the state before the sequence. -/
theorem forwards_carried (s : Fin 256) : val_main_v68 (F := Ideal) x1 x2 x3 (ix3 b h s)
    = carried fwd (outGate x1 x3 b h 0) (inGate x1 x2 b h 0) s := by
  have e := forwards_stab x1 x2 x3 b h
  have d := forwards_cum x1 x3 b h
  unfold val_main_v68 val_main_v67 val_main_v58
  revert e d
  generalize val_main_v60 (F := Ideal) x1 x2 x3 = z
  generalize val_main_v46 (F := Ideal) x1 x3 = w
  intro e d
  pointwise [val_main_v57, val_main_v56, val_main_v43, val_main_cst_2]
  rw [carried_eq, e, d]

/-- The denominators. -/
theorem forwards_den (s : Fin 256) : val_main_v82 (F := Ideal) x0 x1 x2 x3 (ix3 b h s)
    = den fwd (outGate x1 x3 b h 0) (inGate x1 x2 b h 0) (lanes x0 0 (by decide) b h) (keys x0 b h) s := by
  have e := forwards_stab x1 x2 x3 b h
  have d := forwards_wt x0 x1 x2 x3 b h
  have u := forwards_carried x1 x2 x3 b h
  have q := q_apply x0 b h
  unfold val_main_v82 val_main_v81 val_main_v80 val_main_v79 val_main_v78 val_main_v77 val_main_v76 val_main_v75
  revert e d u q
  generalize val_main_v60 (F := Ideal) x1 x2 x3 = z
  generalize val_main_v66 (F := Ideal) x0 x1 x2 x3 = w
  generalize val_main_v68 (F := Ideal) x1 x2 x3 = y
  generalize val_main_v2 (F := Ideal) x0 = a
  intro e d u q
  pointwise [val_main_v42, val_main_cst_1, val_main_cst_7]
  simp only [e, d, u, q]
  unfold den
  rw [zero_sub]
  rfl

/-- The steps' outputs. -/
theorem forwards_out (s : Fin 256) (x : Fin 128) : val_main_v85 (F := Ideal) x0 x1 x2 x3 (ix4 b h s x)
    = out fwd (outGate x1 x3 b h 0) (inGate x1 x2 b h 0) (lanes x0 0 (by decide) b h) (keys x0 b h)
        (lanes x0 2048 (by decide) b h) s x := by
  have e := forwards_den x0 x1 x2 x3 b h
  have d := forwards_wt x0 x1 x2 x3 b h
  have u := forwards_carried x1 x2 x3 b h
  have q := q_apply x0 b h
  have k := v_apply x0 b h
  unfold val_main_v85 val_main_v84 val_main_v83 val_main_v74 val_main_v73 val_main_v72 val_main_v71 val_main_v70 val_main_v69
  revert e d u q k
  generalize val_main_v82 (F := Ideal) x0 x1 x2 x3 = z
  generalize val_main_v66 (F := Ideal) x0 x1 x2 x3 = w
  generalize val_main_v68 (F := Ideal) x1 x2 x3 = y
  generalize val_main_v2 (F := Ideal) x0 = a
  generalize val_main_v10 (F := Ideal) x0 = c
  intro e d u q k
  pointwise [val_main_v41, val_main_cst_0]
  simp only [e, d, u, q, k]
  rfl

/-- The whole of the log forget gates. -/
theorem forwards_tot : val_main_v86 (F := Ideal) x1 x3 (ix2 b h) = ∑ s, outGate x1 x3 b h 0 s := by
  have e := forwards_gate x1 x3 b h
  unfold val_main_v86
  revert e
  generalize val_main_v35 (F := Ideal) x1 x3 = z
  intro e
  pointwise [val_main_cst_8]
  simp only [e]

/-- The log decays to the end. -/
theorem forwards_logW (s : Fin 256) : val_main_v90 (F := Ideal) x1 x2 x3 (ix3 b h s)
    = logW fwd (outGate x1 x3 b h 0) (inGate x1 x2 b h 0) s := by
  have e := forwards_tot x1 x3 b h
  have d := forwards_cum x1 x3 b h
  have u := forwards_in x1 x2 b h
  unfold val_main_v90 val_main_v89 val_main_v88 val_main_v87
  revert e d u
  generalize val_main_v86 (F := Ideal) x1 x3 = z
  generalize val_main_v46 (F := Ideal) x1 x3 = w
  generalize val_main_v32 (F := Ideal) x1 x2 = y
  intro e d u
  pointwise []
  simp only [e, d, u]
  rfl

/-- A maximum over a head's tokens is a fold. -/
theorem forwards_maxEnd (y : FVec Ideal S32x8x256 .f32) :
    Host.reduce FloatOps.maximumf y (val_main_cst_9 (F := Ideal)) reducesTo_S32x8x256_S32x8_d2 h_S_ (ix2 b h)
      = Finset.fold max (Ideal.ofBits .f32 0xFF800000#32) (fun x => y (ix3 b h x)) Finset.univ := by
  pointwise [val_main_cst_9]

/-- The largest log weight. -/
theorem forwards_topEnd : val_main_v92 (F := Ideal) x1 x2 x3 (ix2 b h)
    = Finset.fold max (Ideal.ofBits .f32 0xFF800000#32) (logW fwd (outGate x1 x3 b h 0) (inGate x1 x2 b h 0)) Finset.univ := by
  unfold val_main_v92
  rw [forwards_maxEnd]
  simp only [forwards_logW]

/-- The state's stabiliser. -/
theorem forwards_stabEnd : val_main_v93 (F := Ideal) x1 x2 x3 (ix2 b h)
    = stabEnd fwd (outGate x1 x3 b h 0) (inGate x1 x2 b h 0) := by
  have e := forwards_tot x1 x3 b h
  have d := forwards_topEnd x1 x2 x3 b h
  unfold val_main_v93 val_main_v91
  revert e d
  generalize val_main_v86 (F := Ideal) x1 x3 = z
  generalize val_main_v92 (F := Ideal) x1 x2 x3 = w
  intro e d
  pointwise [val_main_v43, val_main_cst_2]
  rw [stabEnd_eq, e, d]

/-- The tokens' weights in the state. -/
theorem forwards_wEnd (s : Fin 256) : val_main_v97 (F := Ideal) x1 x2 x3 (ix3 b h s)
    = wEnd fwd (outGate x1 x3 b h 0) (inGate x1 x2 b h 0) s := by
  have e := forwards_stabEnd x1 x2 x3 b h
  have d := forwards_logW x1 x2 x3 b h
  unfold val_main_v97 val_main_v96 val_main_v95 val_main_v94
  revert e d
  generalize val_main_v93 (F := Ideal) x1 x2 x3 = z
  generalize val_main_v90 (F := Ideal) x1 x2 x3 = w
  intro e d
  pointwise []
  simp only [e, d]
  rfl

/-- The kept part of the state. -/
theorem forwards_keep : val_main_v100 (F := Ideal) x1 x2 x3 (ix2 b h)
    = keep fwd (outGate x1 x3 b h 0) (inGate x1 x2 b h 0) := by
  have e := forwards_stabEnd x1 x2 x3 b h
  have d := forwards_tot x1 x3 b h
  unfold val_main_v100 val_main_v99 val_main_v98
  revert e d
  generalize val_main_v93 (F := Ideal) x1 x2 x3 = z
  generalize val_main_v86 (F := Ideal) x1 x3 = w
  intro e d
  pointwise [val_main_v43, val_main_cst_2]
  rw [keep_eq, e, d]

/-- The matrix memory. -/
theorem forwards_mem (x y : Fin 128) : val_main_v108 (F := Ideal) x0 x1 x2 x3 (ix4 b h x y)
    = mem fwd (outGate x1 x3 b h 0) (inGate x1 x2 b h 0) (keys x0 b h) (lanes x0 2048 (by decide) b h) x y := by
  have e := forwards_keep x1 x2 x3 b h
  have d := forwards_wEnd x1 x2 x3 b h
  have q := k_apply x0 b h
  have k := v_apply x0 b h
  unfold val_main_v108 val_main_v107 val_main_v106 val_main_v105 val_main_v104 val_main_v103 val_main_v102 val_main_v101
  revert e d q k
  generalize val_main_v100 (F := Ideal) x1 x2 x3 = z
  generalize val_main_v97 (F := Ideal) x1 x2 x3 = w
  generalize val_main_v7 (F := Ideal) x0 = a
  generalize val_main_v10 (F := Ideal) x0 = c
  intro e d q k
  pointwise [val_main_v41, val_main_cst_0]
  simp only [e, d, q, k]
  rfl

/-- The normaliser. -/
theorem forwards_nrm (x : Fin 128) : val_main_v113 (F := Ideal) x0 x1 x2 x3 (ix3 b h x)
    = nrm fwd (outGate x1 x3 b h 0) (inGate x1 x2 b h 0) (keys x0 b h) x := by
  have e := forwards_keep x1 x2 x3 b h
  have d := forwards_wEnd x1 x2 x3 b h
  have q := k_apply x0 b h
  unfold val_main_v113 val_main_v112 val_main_v111 val_main_v110 val_main_v109
  revert e d q
  generalize val_main_v100 (F := Ideal) x1 x2 x3 = z
  generalize val_main_v97 (F := Ideal) x1 x2 x3 = w
  generalize val_main_v7 (F := Ideal) x0 = a
  intro e d q
  pointwise [val_main_v42, val_main_cst_1]
  simp only [e, d, q, mul_comm (wEnd _ _ _ _)]
  rfl

end forwards

/-! ## Backwards -/

section backwards

variable (b : Fin 32) (h : Fin 8)

/-- The input gates. -/
theorem backwards_in (s : Fin 256) : val_main_v116 (F := Ideal) x1 x2 (ix3 b h s) = inGate x1 x2 b h 1 s := by
  have e := in_apply x1 x2 b h 1
  unfold val_main_v116 val_main_v115 val_main_v114
  revert e
  generalize val_main_v20 (F := Ideal) x1 x2 = z
  intro e
  pointwise []
  exact e s

/-- The log forget gates. -/
theorem backwards_gate (s : Fin 256) : val_main_v119 (F := Ideal) x1 x3 (ix3 b h s) = outGate x1 x3 b h 1 s := by
  have e := out_apply x1 x3 b h 1
  unfold val_main_v119 val_main_v118 val_main_v117
  revert e
  generalize val_main_v28 (F := Ideal) x1 x3 = z
  intro e
  pointwise []
  exact e s

/-- The mask. -/
theorem backwards_mask (s j : Fin 256) : val_main_v124 (F := Ideal) (ix2 s j) = bwd s j := by
  pointwise [val_main_v124, val_main_v123, val_main_v122, val_main_v121, val_main_v120, val_main_v29]
  rfl

/-- The passed log forget gates. -/
theorem backwards_cum (s : Fin 256) : val_main_v130 (F := Ideal) x1 x3 (ix3 b h s) = cum bwd (outGate x1 x3 b h 1) s := by
  have e := backwards_gate x1 x3 b h
  have d := backwards_mask
  unfold val_main_v130 val_main_v129 val_main_call3_v1 val_main_call3_v2 val_main_v128
  revert e d
  generalize val_main_v119 (F := Ideal) x1 x3 = z
  generalize val_main_v124 (F := Ideal) = w
  intro e d
  unfold val_main_call3_v3 val_main_call3_v0 val_main_cst_13
  simp only [id]
  pointwise [val_main_cst_14]
  simp only [e, d]
  rfl

/-- The log decays. -/
theorem backwards_logD (s j : Fin 256) : val_main_v139 (F := Ideal) x1 x2 x3 (ix4 b h s j)
    = logD bwd (outGate x1 x3 b h 1) (inGate x1 x2 b h 1) s j := by
  have e := backwards_cum x1 x3 b h
  have d := backwards_mask
  have u := backwards_in x1 x2 b h
  unfold val_main_v139 val_main_v138 val_main_v137 val_main_v136 val_main_v135 val_main_v134 val_main_v133 val_main_v132 val_main_v131 val_main_call4_v1
  revert e d u
  generalize val_main_v130 (F := Ideal) x1 x3 = z
  generalize val_main_v124 (F := Ideal) = w
  generalize val_main_v116 (F := Ideal) x1 x2 = y
  intro e d u
  unfold val_main_call4_v2 val_main_call4_v0 val_main_cst_15
  simp only [id]
  pointwise []
  simp only [e, d, u]
  rfl

/-- A maximum over the last axis is a fold over the tokens. -/
theorem backwards_max (y : FVec Ideal S32x8x256x256 .f32) (s : Fin 256) :
    Host.reduce FloatOps.maximumf y (val_main_cst_16 (F := Ideal)) reducesTo_S32x8x256x256_S32x8x256_d3 h_S_ (ix3 b h s)
      = Finset.fold max (Ideal.ofBits .f32 0xFF800000#32) (fun x => y (ix4 b h s x)) Finset.univ := by
  pointwise [val_main_cst_16]

/-- The largest log decays. -/
theorem backwards_top (s : Fin 256) : val_main_v143 (F := Ideal) x1 x2 x3 (ix3 b h s)
    = Finset.fold max (Ideal.ofBits .f32 0xFF800000#32) (logD bwd (outGate x1 x3 b h 1) (inGate x1 x2 b h 1) s) Finset.univ := by
  unfold val_main_v143
  rw [backwards_max]
  simp only [backwards_logD]

/-- The stabilisers. -/
theorem backwards_stab (s : Fin 256) : val_main_v144 (F := Ideal) x1 x2 x3 (ix3 b h s)
    = stab bwd (outGate x1 x3 b h 1) (inGate x1 x2 b h 1) s := by
  have e := backwards_cum x1 x3 b h
  have d := backwards_top x1 x2 x3 b h
  unfold val_main_v144 val_main_v142
  revert e d
  generalize val_main_v130 (F := Ideal) x1 x3 = z
  generalize val_main_v143 (F := Ideal) x1 x2 x3 = w
  intro e d
  pointwise [val_main_v141, val_main_v140, val_main_v127, val_main_cst_12]
  rw [stab_eq, e, d]

/-- The tokens' weights. -/
theorem backwards_wt (s j : Fin 256) : val_main_v150 (F := Ideal) x0 x1 x2 x3 (ix4 b h s j)
    = wt bwd (outGate x1 x3 b h 1) (inGate x1 x2 b h 1) (lanes x0 0 (by decide) b h) (keys x0 b h) s j := by
  have e := backwards_stab x1 x2 x3 b h
  have d := backwards_logD x1 x2 x3 b h
  have q := q_apply x0 b h
  have k := k_apply x0 b h
  unfold val_main_v150 val_main_v149 val_main_v148 val_main_v147 val_main_v146 val_main_v145
  revert e d q k
  generalize val_main_v144 (F := Ideal) x1 x2 x3 = z
  generalize val_main_v139 (F := Ideal) x1 x2 x3 = w
  generalize val_main_v2 (F := Ideal) x0 = a
  generalize val_main_v7 (F := Ideal) x0 = c
  intro e d q k
  pointwise []
  simp only [e, d, q, k]
  rfl

/-- The weight of the state before the sequence. -/
theorem backwards_carried (s : Fin 256) : val_main_v152 (F := Ideal) x1 x2 x3 (ix3 b h s)
    = carried bwd (outGate x1 x3 b h 1) (inGate x1 x2 b h 1) s := by
  have e := backwards_stab x1 x2 x3 b h
  have d := backwards_cum x1 x3 b h
  unfold val_main_v152 val_main_v151 val_main_v142
  revert e d
  generalize val_main_v144 (F := Ideal) x1 x2 x3 = z
  generalize val_main_v130 (F := Ideal) x1 x3 = w
  intro e d
  pointwise [val_main_v141, val_main_v140, val_main_v127, val_main_cst_12]
  rw [carried_eq, e, d]

/-- The denominators. -/
theorem backwards_den (s : Fin 256) : val_main_v166 (F := Ideal) x0 x1 x2 x3 (ix3 b h s)
    = den bwd (outGate x1 x3 b h 1) (inGate x1 x2 b h 1) (lanes x0 0 (by decide) b h) (keys x0 b h) s := by
  have e := backwards_stab x1 x2 x3 b h
  have d := backwards_wt x0 x1 x2 x3 b h
  have u := backwards_carried x1 x2 x3 b h
  have q := q_apply x0 b h
  unfold val_main_v166 val_main_v165 val_main_v164 val_main_v163 val_main_v162 val_main_v161 val_main_v160 val_main_v159
  revert e d u q
  generalize val_main_v144 (F := Ideal) x1 x2 x3 = z
  generalize val_main_v150 (F := Ideal) x0 x1 x2 x3 = w
  generalize val_main_v152 (F := Ideal) x1 x2 x3 = y
  generalize val_main_v2 (F := Ideal) x0 = a
  intro e d u q
  pointwise [val_main_v126, val_main_cst_11, val_main_cst_17]
  simp only [e, d, u, q]
  unfold den
  rw [zero_sub]
  rfl

/-- The steps' outputs. -/
theorem backwards_out (s : Fin 256) (x : Fin 128) : val_main_v169 (F := Ideal) x0 x1 x2 x3 (ix4 b h s x)
    = out bwd (outGate x1 x3 b h 1) (inGate x1 x2 b h 1) (lanes x0 0 (by decide) b h) (keys x0 b h)
        (lanes x0 2048 (by decide) b h) s x := by
  have e := backwards_den x0 x1 x2 x3 b h
  have d := backwards_wt x0 x1 x2 x3 b h
  have u := backwards_carried x1 x2 x3 b h
  have q := q_apply x0 b h
  have k := v_apply x0 b h
  unfold val_main_v169 val_main_v168 val_main_v167 val_main_v158 val_main_v157 val_main_v156 val_main_v155 val_main_v154 val_main_v153
  revert e d u q k
  generalize val_main_v166 (F := Ideal) x0 x1 x2 x3 = z
  generalize val_main_v150 (F := Ideal) x0 x1 x2 x3 = w
  generalize val_main_v152 (F := Ideal) x1 x2 x3 = y
  generalize val_main_v2 (F := Ideal) x0 = a
  generalize val_main_v10 (F := Ideal) x0 = c
  intro e d u q k
  pointwise [val_main_v125, val_main_cst_10]
  simp only [e, d, u, q, k]
  rfl

/-- The whole of the log forget gates. -/
theorem backwards_tot : val_main_v170 (F := Ideal) x1 x3 (ix2 b h) = ∑ s, outGate x1 x3 b h 1 s := by
  have e := backwards_gate x1 x3 b h
  unfold val_main_v170
  revert e
  generalize val_main_v119 (F := Ideal) x1 x3 = z
  intro e
  pointwise [val_main_cst_18]
  simp only [e]

/-- The log decays to the end. -/
theorem backwards_logW (s : Fin 256) : val_main_v174 (F := Ideal) x1 x2 x3 (ix3 b h s)
    = logW bwd (outGate x1 x3 b h 1) (inGate x1 x2 b h 1) s := by
  have e := backwards_tot x1 x3 b h
  have d := backwards_cum x1 x3 b h
  have u := backwards_in x1 x2 b h
  unfold val_main_v174 val_main_v173 val_main_v172 val_main_v171
  revert e d u
  generalize val_main_v170 (F := Ideal) x1 x3 = z
  generalize val_main_v130 (F := Ideal) x1 x3 = w
  generalize val_main_v116 (F := Ideal) x1 x2 = y
  intro e d u
  pointwise []
  simp only [e, d, u]
  rfl

/-- A maximum over a head's tokens is a fold. -/
theorem backwards_maxEnd (y : FVec Ideal S32x8x256 .f32) :
    Host.reduce FloatOps.maximumf y (val_main_cst_19 (F := Ideal)) reducesTo_S32x8x256_S32x8_d2 h_S_ (ix2 b h)
      = Finset.fold max (Ideal.ofBits .f32 0xFF800000#32) (fun x => y (ix3 b h x)) Finset.univ := by
  pointwise [val_main_cst_19]

/-- The largest log weight. -/
theorem backwards_topEnd : val_main_v176 (F := Ideal) x1 x2 x3 (ix2 b h)
    = Finset.fold max (Ideal.ofBits .f32 0xFF800000#32) (logW bwd (outGate x1 x3 b h 1) (inGate x1 x2 b h 1)) Finset.univ := by
  unfold val_main_v176
  rw [backwards_maxEnd]
  simp only [backwards_logW]

/-- The state's stabiliser. -/
theorem backwards_stabEnd : val_main_v177 (F := Ideal) x1 x2 x3 (ix2 b h)
    = stabEnd bwd (outGate x1 x3 b h 1) (inGate x1 x2 b h 1) := by
  have e := backwards_tot x1 x3 b h
  have d := backwards_topEnd x1 x2 x3 b h
  unfold val_main_v177 val_main_v175
  revert e d
  generalize val_main_v170 (F := Ideal) x1 x3 = z
  generalize val_main_v176 (F := Ideal) x1 x2 x3 = w
  intro e d
  pointwise [val_main_v127, val_main_cst_12]
  rw [stabEnd_eq, e, d]

/-- The tokens' weights in the state. -/
theorem backwards_wEnd (s : Fin 256) : val_main_v181 (F := Ideal) x1 x2 x3 (ix3 b h s)
    = wEnd bwd (outGate x1 x3 b h 1) (inGate x1 x2 b h 1) s := by
  have e := backwards_stabEnd x1 x2 x3 b h
  have d := backwards_logW x1 x2 x3 b h
  unfold val_main_v181 val_main_v180 val_main_v179 val_main_v178
  revert e d
  generalize val_main_v177 (F := Ideal) x1 x2 x3 = z
  generalize val_main_v174 (F := Ideal) x1 x2 x3 = w
  intro e d
  pointwise []
  simp only [e, d]
  rfl

/-- The kept part of the state. -/
theorem backwards_keep : val_main_v184 (F := Ideal) x1 x2 x3 (ix2 b h)
    = keep bwd (outGate x1 x3 b h 1) (inGate x1 x2 b h 1) := by
  have e := backwards_stabEnd x1 x2 x3 b h
  have d := backwards_tot x1 x3 b h
  unfold val_main_v184 val_main_v183 val_main_v182
  revert e d
  generalize val_main_v177 (F := Ideal) x1 x2 x3 = z
  generalize val_main_v170 (F := Ideal) x1 x3 = w
  intro e d
  pointwise [val_main_v127, val_main_cst_12]
  rw [keep_eq, e, d]

/-- The matrix memory. -/
theorem backwards_mem (x y : Fin 128) : val_main_v192 (F := Ideal) x0 x1 x2 x3 (ix4 b h x y)
    = mem bwd (outGate x1 x3 b h 1) (inGate x1 x2 b h 1) (keys x0 b h) (lanes x0 2048 (by decide) b h) x y := by
  have e := backwards_keep x1 x2 x3 b h
  have d := backwards_wEnd x1 x2 x3 b h
  have q := k_apply x0 b h
  have k := v_apply x0 b h
  unfold val_main_v192 val_main_v191 val_main_v190 val_main_v189 val_main_v188 val_main_v187 val_main_v186 val_main_v185
  revert e d q k
  generalize val_main_v184 (F := Ideal) x1 x2 x3 = z
  generalize val_main_v181 (F := Ideal) x1 x2 x3 = w
  generalize val_main_v7 (F := Ideal) x0 = a
  generalize val_main_v10 (F := Ideal) x0 = c
  intro e d q k
  pointwise [val_main_v125, val_main_cst_10]
  simp only [e, d, q, k]
  rfl

/-- The normaliser. -/
theorem backwards_nrm (x : Fin 128) : val_main_v197 (F := Ideal) x0 x1 x2 x3 (ix3 b h x)
    = nrm bwd (outGate x1 x3 b h 1) (inGate x1 x2 b h 1) (keys x0 b h) x := by
  have e := backwards_keep x1 x2 x3 b h
  have d := backwards_wEnd x1 x2 x3 b h
  have q := k_apply x0 b h
  unfold val_main_v197 val_main_v196 val_main_v195 val_main_v194 val_main_v193
  revert e d q
  generalize val_main_v184 (F := Ideal) x1 x2 x3 = z
  generalize val_main_v181 (F := Ideal) x1 x2 x3 = w
  generalize val_main_v7 (F := Ideal) x0 = a
  intro e d q
  pointwise [val_main_v126, val_main_cst_11]
  simp only [e, d, q, mul_comm (wEnd _ _ _ _)]
  rfl

end backwards

/-! ## The results -/

section Results

variable (b : Fin 32) (h : Fin 8)

/-- The gated sum of the two directions. -/
def sums (s : Fin 256) (x : Fin 128) : EReal :=
  gated (lanes x0 3072 (by decide) b h s x)
    (out fwd (outGate x1 x3 b h 0) (inGate x1 x2 b h 0) (lanes x0 0 (by decide) b h) (keys x0 b h)
      (lanes x0 2048 (by decide) b h) s x)
    (out bwd (outGate x1 x3 b h 1) (inGate x1 x2 b h 1) (lanes x0 0 (by decide) b h) (keys x0 b h)
      (lanes x0 2048 (by decide) b h) s x)

/-- The reference's gated sum. -/
theorem sums_apply (s : Fin 256) (x : Fin 128) : val_main_v206 (F := Ideal) x0 x1 x2 x3 (ix4 b s h x) = sums x0 x1 x2 x3 b h s x := by
  have e := forwards_out x0 x1 x2 x3 b h
  have d := backwards_out x0 x1 x2 x3 b h
  have u := o_apply x0 b h
  unfold val_main_v206 val_main_v205 val_main_v204 val_main_v203 val_main_v201 val_main_v199 val_main_v198
  revert e d u
  generalize val_main_v85 (F := Ideal) x0 x1 x2 x3 = z
  generalize val_main_v169 (F := Ideal) x0 x1 x2 x3 = w
  generalize val_main_v13 (F := Ideal) x0 = y
  intro e d u
  pointwise [val_main_v202, val_main_v200, val_main_cst_20, val_main_cst_21]
  simp only [e, d, u]
  rfl

/-- The reference's gain. -/
theorem gain_apply (x : Fin 128) : val_main_v209 (F := Ideal) x4 (ix2 h x) = gain x4 h x := by
  pointwise [val_main_v209, val_main_v208, val_main_v207]
  refine congrArg x4 ?_
  funext a; match a with
  | ⟨0, _⟩ => rfl
  | ⟨1, _⟩ => exact Fin.ext (by simp)

/-- The reference's normalised outputs. -/
theorem head_apply (s : Fin 256) (x : Fin 128) : val_main_v222 (F := Ideal) x0 x1 x2 x3 x4 (ix4 b s h x)
    = head (sums x0 x1 x2 x3 b h s) (gain x4 h) x := by
  have e := sums_apply x0 x1 x2 x3 b h
  have d := gain_apply x4 h
  unfold val_main_v222 val_main_v221 val_main_v220 val_main_v219 val_main_v218 val_main_v217 val_main_v216 val_main_v214
    val_main_v212 val_main_v211 val_main_v210
  revert e d
  generalize val_main_v206 (F := Ideal) x0 x1 x2 x3 = z
  generalize val_main_v209 (F := Ideal) x4 = w
  intro e d
  pointwise [val_main_v213, val_main_v215, val_main_cst_22, val_main_cst_23, val_main_cst_24]
  simp only [e, d]
  rfl

/-- THE OUTPUTS at row `R` and column `C`: the head `C / 128` of the sequence `R / 256`. -/
theorem h_apply (R : Fin 8192) (C : Fin 1024) : val_main_v227 (F := Ideal) x0 x1 x2 x3 x4 (ix2 R C)
    = head (sums x0 x1 x2 x3 ⟨R.val / 256, by omega⟩ ⟨C.val / 128, by omega⟩ ⟨R.val % 256, by omega⟩) (gain x4 ⟨C.val / 128, by omega⟩)
        ⟨C.val % 128, by omega⟩ := by
  rw [← head_apply]
  unfold val_main_v227 val_main_v223
  generalize val_main_v222 (F := Ideal) x0 x1 x2 x3 x4 = z
  pointwise []

/-- The forward matrix memory's result. -/
theorem mem_fwd (x y : Fin 128) : val_main_v230 (F := Ideal) x0 x1 x2 x3 (ix5 b h 0 x y)
    = mem fwd (outGate x1 x3 b h 0) (inGate x1 x2 b h 0) (keys x0 b h) (lanes x0 2048 (by decide) b h) x y := by
  rw [← forwards_mem]
  unfold val_main_v230 val_main_v229 val_main_v228
  generalize val_main_v108 (F := Ideal) x0 x1 x2 x3 = z
  generalize val_main_v192 (F := Ideal) x0 x1 x2 x3 = w
  pointwise []

/-- The backward matrix memory's result. -/
theorem mem_bwd (x y : Fin 128) : val_main_v230 (F := Ideal) x0 x1 x2 x3 (ix5 b h 1 x y)
    = mem bwd (outGate x1 x3 b h 1) (inGate x1 x2 b h 1) (keys x0 b h) (lanes x0 2048 (by decide) b h) x y := by
  rw [← backwards_mem]
  unfold val_main_v230 val_main_v229 val_main_v228
  generalize val_main_v108 (F := Ideal) x0 x1 x2 x3 = z
  generalize val_main_v192 (F := Ideal) x0 x1 x2 x3 = w
  pointwise []

/-- The forward normaliser's result. -/
theorem nrm_fwd (x : Fin 128) : val_main_v233 (F := Ideal) x0 x1 x2 x3 (ix4 b h 0 x)
    = nrm fwd (outGate x1 x3 b h 0) (inGate x1 x2 b h 0) (keys x0 b h) x := by
  rw [← forwards_nrm]
  unfold val_main_v233 val_main_v232 val_main_v231
  generalize val_main_v113 (F := Ideal) x0 x1 x2 x3 = z
  generalize val_main_v197 (F := Ideal) x0 x1 x2 x3 = w
  pointwise []

/-- The backward normaliser's result. -/
theorem nrm_bwd (x : Fin 128) : val_main_v233 (F := Ideal) x0 x1 x2 x3 (ix4 b h 1 x)
    = nrm bwd (outGate x1 x3 b h 1) (inGate x1 x2 b h 1) (keys x0 b h) x := by
  rw [← backwards_nrm]
  unfold val_main_v233 val_main_v232 val_main_v231
  generalize val_main_v113 (F := Ideal) x0 x1 x2 x3 = z
  generalize val_main_v197 (F := Ideal) x0 x1 x2 x3 = w
  pointwise []

/-- The forward stabiliser's result. -/
theorem stab_fwd (x : Fin 128) : val_main_v235 (F := Ideal) x1 x2 x3 (ix4 b h 0 x)
    = stabEnd fwd (outGate x1 x3 b h 0) (inGate x1 x2 b h 0) := by
  rw [← forwards_stabEnd]
  unfold val_main_v235 val_main_v234 val_main_v226 val_main_v225 val_main_v224
  generalize val_main_v93 (F := Ideal) x1 x2 x3 = z
  generalize val_main_v177 (F := Ideal) x1 x2 x3 = w
  pointwise []

/-- The backward stabiliser's result. -/
theorem stab_bwd (x : Fin 128) : val_main_v235 (F := Ideal) x1 x2 x3 (ix4 b h 1 x)
    = stabEnd bwd (outGate x1 x3 b h 1) (inGate x1 x2 b h 1) := by
  rw [← backwards_stabEnd]
  unfold val_main_v235 val_main_v234 val_main_v226 val_main_v225 val_main_v224
  generalize val_main_v93 (F := Ideal) x1 x2 x3 = z
  generalize val_main_v177 (F := Ideal) x1 x2 x3 = w
  pointwise []

end Results

end Cert.Mlstm1Ref

end
-- ==== Proof.Mlstm1Array.lean ====
/- The matrix-memory kernel's result arrays after the run, index by index: block `t` is head `t % 8` of sequence `t / 8`. -/
module

public import proofs.«01_k».proof.Proof.Mlstm1Store
public import proofs.«01_k».proof.Proof.Mlstm1Ref

@[expose] public section

noncomputable section

namespace Cert.Mlstm1Array

open Cert.Mlstm1Ideal Cert.Mlstm1Ideal.Gen Idealize.ShloMosaic Idealize.ShloMosaic.TcCoe Idealize.SL.Sem
open Cert.MlstmSpec Cert.Mlstm1Block Cert.Mlstm1Ref
open Cert.Mlstm0Block (key blockH blockH_apply fwdMem_apply bwdMem_apply fwdNrm_apply bwdNrm_apply fwdStab_apply bwdStab_apply)

variable (m : (ℓ : Loc nD τ sig) → Buf (Elt Ideal) ℓ)

/-- A direction is the first or the second. -/
theorem two : ∀ d : Fin 2, d = 0 ∨ d = 1 := by decide

/-- One of four rows is one of the four. -/
theorem four : ∀ a : Fin 4, a = 0 ∨ a = 1 ∨ a = 2 ∨ a = 3 := by decide

/-- Where each window's block sits at each point. -/
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = 8 + t.val % 8)
    ∧ (win0_2.index t (0 : Fin 2) = t.val / 8 ∧ win0_2.index t (1 : Fin 2) = 16 + t.val % 8)
    ∧ (win0_3.index t (0 : Fin 2) = t.val / 8 ∧ win0_3.index t (1 : Fin 2) = 24 + t.val % 8)
    ∧ (win0_4.index t (0 : Fin 3) = t.val % 8 ∧ win0_4.index t (1 : Fin 3) = t.val / 8 ∧ win0_4.index t (2 : Fin 3) = 0)
    ∧ (win0_5.index t (0 : Fin 3) = t.val % 8 ∧ win0_5.index t (1 : Fin 3) = 0 ∧ win0_5.index t (2 : Fin 3) = t.val / 8)
    ∧ (win0_6.index t (0 : Fin 3) = t.val % 8 ∧ win0_6.index t (1 : Fin 3) = 0 ∧ win0_6.index t (2 : Fin 3) = 0)
    ∧ (win0_7.index t (0 : Fin 3) = t.val % 8 ∧ win0_7.index t (1 : Fin 3) = 0 ∧ win0_7.index t (2 : Fin 3) = 0)
    ∧ (win0_8.index t (0 : Fin 3) = t.val % 8 ∧ win0_8.index t (1 : Fin 3) = 0 ∧ win0_8.index t (2 : Fin 3) = 0)
    ∧ (win0_9.index t (0 : Fin 2) = t.val / 8 ∧ win0_9.index t (1 : Fin 2) = t.val % 8) :=
  (by decide +kernel : ∀ t : Fin grid0.N, _)

/-- Where the states' blocks sit at each point. -/
theorem state_facts : ∀ t : Fin cfg0.N,
    (win0_10.index t (0 : Fin 5) = t.val / 8 ∧ win0_10.index t (1 : Fin 5) = t.val % 8 ∧ win0_10.index t (2 : Fin 5) = 0
      ∧ win0_10.index t (3 : Fin 5) = 0 ∧ win0_10.index t (4 : Fin 5) = 0)
    ∧ (win0_11.index t (0 : Fin 4) = t.val / 8 ∧ win0_11.index t (1 : Fin 4) = t.val % 8 ∧ win0_11.index t (2 : Fin 4) = 0
      ∧ win0_11.index t (3 : Fin 4) = 0)
    ∧ (win0_12.index t (0 : Fin 4) = t.val / 8 ∧ win0_12.index t (1 : Fin 4) = t.val % 8 ∧ win0_12.index t (2 : Fin 4) = 0
      ∧ win0_12.index t (3 : Fin 4) = 0) :=
  (by decide +kernel : ∀ t : Fin grid0.N, _)

/-- A point's sequence. -/
def sq (t : Fin cfg0.N) : Fin 32 := ⟨t.val / 8, by have := t.isLt; have hN : cfg0.N = 256 := N_0; omega⟩

/-- A point's head. -/
def hd (t : Fin cfg0.N) : Fin 8 := ⟨t.val % 8, by omega⟩

/-- The query block of a point. -/
theorem q_blk (c : Dev nD) (t : Fin cfg0.N) (i : Fin 256) (x : Fin 128) :
    iblk m c 0 t (ix2 i x) = lanes (m ((c : Thread nD τ).loc main_arg0)) 0 (by decide) (sq t) (hd t) i x := by
  obtain ⟨⟨e0, e1⟩, -⟩ := idx_facts t
  show V m c main_arg0 (((cfg0.win 0).blk t).view.emb (ix2 i x)) = _
  rw [V_main_arg0]
  unfold lanes
  congr 1
  funext a; apply Fin.ext
  match a with
  | ⟨0, _⟩ => show win0_0.index t (0 : Fin 2) * 256 + 1 * i.val = t.val / 8 * 256 + i.val; omega
  | ⟨1, _⟩ => show win0_0.index t (1 : Fin 2) * 128 + 1 * x.val = 0 + (t.val % 8 * 128 + x.val); omega

/-- The key block of a point. -/
theorem k_blk (c : Dev nD) (t : Fin cfg0.N) (i : Fin 256) (x : Fin 128) :
    iblk m c 1 t (ix2 i x) = lanes (m ((c : Thread nD τ).loc main_arg0)) 1024 (by decide) (sq t) (hd t) i x := by
  obtain ⟨-, ⟨e0, e1⟩, -⟩ := idx_facts t
  show V m c main_arg0 (((cfg0.win 1).blk t).view.emb (ix2 i x)) = _
  rw [V_main_arg0]
  unfold lanes
  congr 1
  funext a; apply Fin.ext
  match a with
  | ⟨0, _⟩ => show win0_1.index t (0 : Fin 2) * 256 + 1 * i.val = t.val / 8 * 256 + i.val; omega
  | ⟨1, _⟩ => show win0_1.index t (1 : Fin 2) * 128 + 1 * x.val = 1024 + (t.val % 8 * 128 + x.val); omega

/-- The value block of a point. -/
theorem v_blk (c : Dev nD) (t : Fin cfg0.N) (i : Fin 256) (x : Fin 128) :
    iblk m c 2 t (ix2 i x) = lanes (m ((c : Thread nD τ).loc main_arg0)) 2048 (by decide) (sq t) (hd t) i x := by
  obtain ⟨-, -, ⟨e0, e1⟩, -⟩ := idx_facts t
  show V m c main_arg0 (((cfg0.win 2).blk t).view.emb (ix2 i x)) = _
  rw [V_main_arg0]
  unfold lanes
  congr 1
  funext a; apply Fin.ext
  match a with
  | ⟨0, _⟩ => show win0_2.index t (0 : Fin 2) * 256 + 1 * i.val = t.val / 8 * 256 + i.val; omega
  | ⟨1, _⟩ => show win0_2.index t (1 : Fin 2) * 128 + 1 * x.val = 2048 + (t.val % 8 * 128 + x.val); omega

/-- The output gate block of a point. -/
theorem o_blk (c : Dev nD) (t : Fin cfg0.N) (i : Fin 256) (x : Fin 128) :
    iblk m c 3 t (ix2 i x) = lanes (m ((c : Thread nD τ).loc main_arg0)) 3072 (by decide) (sq t) (hd t) i x := by
  obtain ⟨-, -, -, ⟨e0, e1⟩, -⟩ := idx_facts t
  show V m c main_arg0 (((cfg0.win 3).blk t).view.emb (ix2 i x)) = _
  rw [V_main_arg0]
  unfold lanes
  congr 1
  funext a; apply Fin.ext
  match a with
  | ⟨0, _⟩ => show win0_3.index t (0 : Fin 2) * 256 + 1 * i.val = t.val / 8 * 256 + i.val; omega
  | ⟨1, _⟩ => show win0_3.index t (1 : Fin 2) * 128 + 1 * x.val = 3072 + (t.val % 8 * 128 + x.val); omega

/-- The gates as columns. -/
theorem V_col (c : Dev nD) : V m c main_v2 = transpose S8x10240x4 [2, 0, 1] (shapeCast S10240x4x8 (extractStridedSlice S10240x32 ![0, 0] (m ((c : Thread nD τ).loc main_arg1)) slices_S10240x128_S10240x32_0_0) shapeCasts_S10240x32_S10240x4x8) transposes_S10240x4x8_S8x10240x4_2_0_1 := by
  show StableHlo.after hostOps0 (fun b => m (c, b)) main_v2 = _
  unfold hostOps0
  after_results_simp <;> rfl

/-- The gates as rows. -/
theorem V_row (c : Dev nD) : V m c main_v3 = transpose S8x4x10240 [2, 1, 0] (shapeCast S10240x4x8 (extractStridedSlice S10240x32 ![0, 0] (m ((c : Thread nD τ).loc main_arg1)) slices_S10240x128_S10240x32_0_0) shapeCasts_S10240x32_S10240x4x8) transposes_S10240x4x8_S8x4x10240_2_1_0 := by
  show StableHlo.after hostOps0 (fun b => m (c, b)) main_v3 = _
  unfold hostOps0
  after_results_simp <;> rfl

/-- The biases as columns. -/
theorem V_bcol (c : Dev nD) : V m c main_v10 = shapeCast S8x1x4 (transpose S8x4 [1, 0] (concatenate S4x8 0 [⟨S2x8, (shapeCast S2x8 (extractStridedSlice S1x2x8 ![1, 0, 0] (m ((c : Thread nD τ).loc main_arg2)) slices_S2x2x8_S1x2x8_1_0_0) shapeCasts_S1x2x8_S2x8)⟩, ⟨S2x8, (shapeCast S2x8 (extractStridedSlice S1x2x8 ![1, 0, 0] (m ((c : Thread nD τ).loc main_arg3)) slices_S2x2x8_S1x2x8_1_0_0) shapeCasts_S1x2x8_S2x8)⟩] concatenates_S2x8_S2x8_S4x8_d0) transposes_S4x8_S8x4_1_0) shapeCasts_S8x4_S8x1x4 := by
  show StableHlo.after hostOps0 (fun b => m (c, b)) main_v10 = _
  unfold hostOps0
  after_results_simp <;> rfl

/-- The biases as rows. -/
theorem V_brow (c : Dev nD) : V m c main_v12 = shapeCast S8x4x1 (transpose S8x4 [1, 0] (concatenate S4x8 0 [⟨S2x8, (shapeCast S2x8 (extractStridedSlice S1x2x8 ![1, 0, 0] (m ((c : Thread nD τ).loc main_arg2)) slices_S2x2x8_S1x2x8_1_0_0) shapeCasts_S1x2x8_S2x8)⟩, ⟨S2x8, (shapeCast S2x8 (extractStridedSlice S1x2x8 ![1, 0, 0] (m ((c : Thread nD τ).loc main_arg3)) slices_S2x2x8_S1x2x8_1_0_0) shapeCasts_S1x2x8_S2x8)⟩] concatenates_S2x8_S2x8_S4x8_d0) transposes_S4x8_S8x4_1_0) shapeCasts_S8x4_S8x4x1 := by
  show StableHlo.after hostOps0 (fun b => m (c, b)) main_v12 = _
  unfold hostOps0
  after_results_simp <;> rfl

/-- The gain by heads. -/
theorem V_gain (c : Dev nD) : V m c main_v15 = shapeCast S8x1x128 (shapeCast S1024 (extractStridedSlice S1x1024 ![1, 0] (m ((c : Thread nD τ).loc main_arg4)) slices_S2x1024_S1x1024_1_0) shapeCasts_S1x1024_S1024) shapeCasts_S1024_S8x1x128 := by
  show StableHlo.after hostOps0 (fun b => m (c, b)) main_v15 = _
  unfold hostOps0
  after_results_simp <;> rfl

/-- The gate of row `s`, column `a * 8 + h`. -/
def pre (c : Dev nD) (t : Fin cfg0.N) (s : Fin 256) (a : Fin 4) : EReal :=
  (m ((c : Thread nD τ).loc main_arg1)) (ix2 ⟨(sq t).val * 256 + s.val, by omega⟩ ⟨a.val * 8 + (hd t).val, by omega⟩)

/-- The four biases of a point's head. -/
def bias (c : Dev nD) (t : Fin cfg0.N) (a : Fin 4) : EReal :=
  ![(m ((c : Thread nD τ).loc main_arg2)) (ix3 1 0 (hd t)), (m ((c : Thread nD τ).loc main_arg2)) (ix3 1 1 (hd t)), (m ((c : Thread nD τ).loc main_arg3)) (ix3 1 0 (hd t)), (m ((c : Thread nD τ).loc main_arg3)) (ix3 1 1 (hd t))] a

/-- The gates of a point, biased. -/
def G (c : Dev nD) (t : Fin cfg0.N) (s : Fin 256) (a : Fin 4) : EReal := pre m c t s a + bias m c t a

/-- The column gates' block. -/
theorem col_blk (c : Dev nD) (t : Fin cfg0.N) (s : Fin 256) (a : Fin 4) : iblk m c 4 t (ix3 0 s a) = pre m c t s a := by
  obtain ⟨-, -, -, -, ⟨e0, e1, e2⟩, -⟩ := idx_facts t
  show V m c main_v2 (((cfg0.win 4).blk t).view.emb (ix3 0 s a)) = _
  rw [V_col, show ((cfg0.win 4).blk t).view.emb (ix3 0 s a) = ix3 (hd t) ⟨(sq t).val * 256 + s.val, by omega⟩ a from ?_]
  · unfold pre
    pointwise []
  · funext d; apply Fin.ext
    match d with
    | ⟨0, _⟩ => show win0_4.index t (0 : Fin 3) * 1 + 1 * 0 = t.val % 8; omega
    | ⟨1, _⟩ => show win0_4.index t (1 : Fin 3) * 256 + 1 * s.val = t.val / 8 * 256 + s.val; omega
    | ⟨2, _⟩ => show win0_4.index t (2 : Fin 3) * 4 + 1 * a.val = a.val; omega

/-- The row gates' block. -/
theorem row_blk (c : Dev nD) (t : Fin cfg0.N) (s : Fin 256) (a : Fin 4) : iblk m c 5 t (ix3 0 a s) = pre m c t s a := by
  obtain ⟨-, -, -, -, -, ⟨e0, e1, e2⟩, -⟩ := idx_facts t
  show V m c main_v3 (((cfg0.win 5).blk t).view.emb (ix3 0 a s)) = _
  rw [V_row, show ((cfg0.win 5).blk t).view.emb (ix3 0 a s) = ix3 (hd t) a ⟨(sq t).val * 256 + s.val, by omega⟩ from ?_]
  · unfold pre
    pointwise []
  · funext d; apply Fin.ext
    match d with
    | ⟨0, _⟩ => show win0_5.index t (0 : Fin 3) * 1 + 1 * 0 = t.val % 8; omega
    | ⟨1, _⟩ => show win0_5.index t (1 : Fin 3) * 4 + 1 * a.val = a.val; omega
    | ⟨2, _⟩ => show win0_5.index t (2 : Fin 3) * 256 + 1 * s.val = t.val / 8 * 256 + s.val; omega

/-- The column biases' block. -/
theorem bcol_blk (c : Dev nD) (t : Fin cfg0.N) (a : Fin 4) : iblk m c 6 t (ix3 0 0 a) = bias m c t a := by
  obtain ⟨-, -, -, -, -, -, ⟨e0, e1, e2⟩, -⟩ := idx_facts t
  show V m c main_v10 (((cfg0.win 6).blk t).view.emb (ix3 0 0 a)) = _
  rw [V_bcol, show ((cfg0.win 6).blk t).view.emb (ix3 0 0 a) = ix3 (hd t) 0 a from ?_]
  · rcases four a with rfl | rfl | rfl | rfl <;> pointwise [] <;> rfl
  · funext d; apply Fin.ext
    match d with
    | ⟨0, _⟩ => show win0_6.index t (0 : Fin 3) * 1 + 1 * 0 = t.val % 8; omega
    | ⟨1, _⟩ => show win0_6.index t (1 : Fin 3) * 1 + 1 * 0 = 0; omega
    | ⟨2, _⟩ => show win0_6.index t (2 : Fin 3) * 4 + 1 * a.val = a.val; omega

/-- The row biases' block. -/
theorem brow_blk (c : Dev nD) (t : Fin cfg0.N) (a : Fin 4) : iblk m c 7 t (ix3 0 a 0) = bias m c t a := by
  obtain ⟨-, -, -, -, -, -, -, ⟨e0, e1, e2⟩, -⟩ := idx_facts t
  show V m c main_v12 (((cfg0.win 7).blk t).view.emb (ix3 0 a 0)) = _
  rw [V_brow, show ((cfg0.win 7).blk t).view.emb (ix3 0 a 0) = ix3 (hd t) a 0 from ?_]
  · rcases four a with rfl | rfl | rfl | rfl <;> pointwise [] <;> rfl
  · funext d; apply Fin.ext
    match d with
    | ⟨0, _⟩ => show win0_7.index t (0 : Fin 3) * 1 + 1 * 0 = t.val % 8; omega
    | ⟨1, _⟩ => show win0_7.index t (1 : Fin 3) * 4 + 1 * a.val = a.val; omega
    | ⟨2, _⟩ => show win0_7.index t (2 : Fin 3) * 1 + 1 * 0 = 0; omega

/-- The gain's block. -/
theorem gain_blk (c : Dev nD) (t : Fin cfg0.N) (x : Fin 128) : iblk m c 8 t (ix3 0 0 x) = gain (m ((c : Thread nD τ).loc main_arg4)) (hd t) x := by
  obtain ⟨-, -, -, -, -, -, -, -, ⟨e0, e1, e2⟩, -⟩ := idx_facts t
  show V m c main_v15 (((cfg0.win 8).blk t).view.emb (ix3 0 0 x)) = _
  rw [V_gain, show ((cfg0.win 8).blk t).view.emb (ix3 0 0 x) = ix3 (hd t) 0 x from ?_]
  · unfold gain
    pointwise []
  · funext d; apply Fin.ext
    match d with
    | ⟨0, _⟩ => show win0_8.index t (0 : Fin 3) * 1 + 1 * 0 = t.val % 8; omega
    | ⟨1, _⟩ => show win0_8.index t (1 : Fin 3) * 1 + 1 * 0 = 0; omega
    | ⟨2, _⟩ => show win0_8.index t (2 : Fin 3) * 128 + 1 * x.val = x.val; omega

/-- The column gates with their biases. -/
theorem hc (c : Dev nD) (t : Fin cfg0.N) (s : Fin 256) (a : Fin 4) : (fun x y : EReal => x + y) (iblk m c 4 t (ix3 0 s a)) (iblk m c 6 t (ix3 0 0 a)) = G m c t s a :=
  congrArg₂ (fun x y : EReal => x + y) (col_blk m c t s a) (bcol_blk m c t a)

/-- The row gates with their biases. -/
theorem hr (c : Dev nD) (t : Fin cfg0.N) (s : Fin 256) (a : Fin 4) : (fun x y : EReal => x + y) (iblk m c 5 t (ix3 0 a s)) (iblk m c 7 t (ix3 0 a 0)) = G m c t s a :=
  congrArg₂ (fun x y : EReal => x + y) (row_blk m c t s a) (brow_blk m c t a)

/-- The forward input gates. -/
theorem in_0 (c : Dev nD) (t : Fin cfg0.N) : (fun s => G m c t s 0) = inGate (m ((c : Thread nD τ).loc main_arg1)) (m ((c : Thread nD τ).loc main_arg2)) (sq t) (hd t) 0 :=
  funext fun _ => rfl

/-- The backward input gates. -/
theorem in_1 (c : Dev nD) (t : Fin cfg0.N) : (fun s => G m c t s 1) = inGate (m ((c : Thread nD τ).loc main_arg1)) (m ((c : Thread nD τ).loc main_arg2)) (sq t) (hd t) 1 :=
  funext fun _ => rfl

/-- The forward log forget gates. -/
theorem out_0 (c : Dev nD) (t : Fin cfg0.N) : (fun s => logsig (G m c t s 2)) = outGate (m ((c : Thread nD τ).loc main_arg1)) (m ((c : Thread nD τ).loc main_arg3)) (sq t) (hd t) 0 := by
  funext s
  refine congrArg (fun x : EReal => logsig (x + (m ((c : Thread nD τ).loc main_arg3)) (ix3 1 0 (hd t)))) (congrArg (m ((c : Thread nD τ).loc main_arg1)) ?_)
  funext e
  match e with
  | ⟨0, _⟩ => rfl
  | ⟨1, _⟩ => exact Fin.ext (by show 2 * 8 + (hd t).val = 16 + (0 * 8 + (hd t).val); omega)

/-- The backward log forget gates. -/
theorem out_1 (c : Dev nD) (t : Fin cfg0.N) : (fun s => logsig (G m c t s 3)) = outGate (m ((c : Thread nD τ).loc main_arg1)) (m ((c : Thread nD τ).loc main_arg3)) (sq t) (hd t) 1 := by
  funext s
  refine congrArg (fun x : EReal => logsig (x + (m ((c : Thread nD τ).loc main_arg3)) (ix3 1 1 (hd t)))) (congrArg (m ((c : Thread nD τ).loc main_arg1)) ?_)
  funext e
  match e with
  | ⟨0, _⟩ => rfl
  | ⟨1, _⟩ => exact Fin.ext (by show 3 * 8 + (hd t).val = 16 + (1 * 8 + (hd t).val); omega)

/-- The queries. -/
theorem qs (c : Dev nD) (t : Fin cfg0.N) : (fun s x => iblk m c 0 t (ix2 s x)) = lanes (m ((c : Thread nD τ).loc main_arg0)) 0 (by decide) (sq t) (hd t) :=
  funext fun s => funext fun x => q_blk m c t s x

/-- The scaled keys. -/
theorem ks (c : Dev nD) (t : Fin cfg0.N) : key (iblk m c 1 t) = keys (m ((c : Thread nD τ).loc main_arg0)) (sq t) (hd t) :=
  funext fun s => funext fun x => congrArg (fun z : EReal => z * _) (k_blk m c t s x)

/-- The values. -/
theorem vs (c : Dev nD) (t : Fin cfg0.N) : (fun s x => iblk m c 2 t (ix2 s x)) = lanes (m ((c : Thread nD τ).loc main_arg0)) 2048 (by decide) (sq t) (hd t) :=
  funext fun s => funext fun x => v_blk m c t s x

/-- THE OUTPUTS AFTER THE RUN are the reference's function of the arguments. -/
theorem array_h (c : Dev nD) : (dats m 0 c).arrAt 9 cfg0.N
    = Cert.Mlstm1RefIdeal.Read.val_main_v227 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 9 _ (fun t _ => ?_) fun i => ?_
  · have ht : t.val < 256 := lt_of_lt_of_eq t.isLt N_0
    rw [Cert.Mlstm1Ideal.Value.flushed9_A, out9_eq]
    funext y
    show blockH _ _ _ _ _ _ _ _ _ y = Cert.Mlstm1RefIdeal.Read.val_main_v227 (F := Ideal) _ _ _ _ _ (((cfg0.win 9).blk t).view.emb y)
    obtain ⟨-, -, -, -, -, -, -, -, -, ⟨e0, e1⟩⟩ := idx_facts t
    have hi : (y 0).val < 256 := (y 0).isLt
    have hx : (y 1).val < 128 := (y 1).isLt
    have hy : ((cfg0.win 9).blk t).view.emb y
        = ix2 ⟨t.val / 8 * 256 + (y 0).val, by omega⟩ ⟨t.val % 8 * 128 + (y 1).val, by omega⟩ := by
      funext d; apply Fin.ext
      match d with
      | ⟨0, _⟩ => show win0_9.index t (0 : Fin 2) * 256 + 1 * (y 0).val = t.val / 8 * 256 + (y 0).val; omega
      | ⟨1, _⟩ => show win0_9.index t (1 : Fin 2) * 128 + 1 * (y 1).val = t.val % 8 * 128 + (y 1).val; omega
    rw [hy, h_apply]
    obtain ⟨s, x, rfl⟩ : ∃ (s : Fin 256) (x : Fin 128), y = ix2 s x := ⟨y 0, y 1, (eq_ix2 y)⟩
    have hb : (⟨(t.val / 8 * 256 + s.val) / 256, by omega⟩ : Fin 32) = sq t := Fin.ext (by show (t.val / 8 * 256 + s.val) / 256 = t.val / 8; omega)
    have hs : (⟨(t.val / 8 * 256 + s.val) % 256, by omega⟩ : Fin 256) = s := Fin.ext (by show (t.val / 8 * 256 + s.val) % 256 = s.val; omega)
    have hh : (⟨(t.val % 8 * 128 + x.val) / 128, by omega⟩ : Fin 8) = hd t := Fin.ext (by show (t.val % 8 * 128 + x.val) / 128 = t.val % 8; omega)
    have hv : (⟨(t.val % 8 * 128 + x.val) % 128, by omega⟩ : Fin 128) = x := Fin.ext (by show (t.val % 8 * 128 + x.val) % 128 = x.val; omega)
    show _ = head (sums (m ((c : Thread nD τ).loc main_arg0)) (m ((c : Thread nD τ).loc main_arg1)) (m ((c : Thread nD τ).loc main_arg2)) (m ((c : Thread nD τ).loc main_arg3)) ⟨(t.val / 8 * 256 + s.val) / 256, _⟩ ⟨(t.val % 8 * 128 + x.val) / 128, _⟩ ⟨(t.val / 8 * 256 + s.val) % 256, _⟩)
      (gain (m ((c : Thread nD τ).loc main_arg4)) ⟨(t.val % 8 * 128 + x.val) / 128, _⟩) ⟨(t.val % 8 * 128 + x.val) % 128, _⟩
    rw [hb, hs, hh, hv]
    rw [blockH_apply _ _ _ _ _ _ _ _ _ (G m c t) (hc m c t) (hr m c t)]
    rw [in_0, in_1, out_0, out_1, qs, ks, vs]
    exact congrArg₂ (fun a b => head a b x)
      (funext fun z => congrArg (fun w : EReal => gated w _ _) (o_blk m c t s z)) (funext fun z => gain_blk m c t z)
  · have h0 : (i 0).val < 8192 := (i 0).isLt
    have h1 : (i 1).val < 1024 := (i 1).isLt
    have hlt : (i 0).val / 256 * 8 + (i 1).val / 128 < cfg0.N := by have hN : cfg0.N = 256 := N_0; omega
    refine ⟨⟨(i 0).val / 256 * 8 + (i 1).val / 128, hlt⟩, flush0_9 _, ?_⟩
    obtain ⟨-, -, -, -, -, -, -, -, -, ⟨e0, e1⟩⟩ := idx_facts ⟨(i 0).val / 256 * 8 + (i 1).val / 128, hlt⟩
    show i ∈ ((View.whole main_v16_0).slice (win0_9.rect ⟨(i 0).val / 256 * 8 + (i 1).val / 128, hlt⟩)).set
    rw [View.set_slice_whole, Rect.mem_set_unit]
    intro a
    match a with
    | ⟨0, _⟩ =>
      show win0_9.index ⟨_, hlt⟩ (0 : Fin 2) * 256 ≤ (i 0).val ∧ (i 0).val < win0_9.index ⟨_, hlt⟩ (0 : Fin 2) * 256 + 256
      rw [e0]; dsimp only; omega
    | ⟨1, _⟩ =>
      show win0_9.index ⟨_, hlt⟩ (1 : Fin 2) * 128 ≤ (i 1).val ∧ (i 1).val < win0_9.index ⟨_, hlt⟩ (1 : Fin 2) * 128 + 128
      rw [e1]; dsimp only; omega

/-- THE MATRIX MEMORIES AFTER THE RUN. -/
theorem array_C (c : Dev nD) : (dats m 0 c).arrAt 10 cfg0.N
    = Cert.Mlstm1RefIdeal.Read.val_main_v230 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 10 _ (fun t _ => ?_) fun i => ?_
  · have ht : t.val < 256 := lt_of_lt_of_eq t.isLt N_0
    rw [Cert.Mlstm1Ideal.Value.flushed10_A]
    funext y
    obtain ⟨e0, e1, e2, e3, e4⟩ := (state_facts t).1
    obtain ⟨d, x, z, rfl⟩ : ∃ (d : Fin 2) (x : Fin 128) (z : Fin 128), y = ix5 0 0 d x z :=
      ⟨y 2, y 3, y 4, (eq_ix5 y).trans (congrArg₂ (fun (a b : Fin 1) => ix5 a b (y 2) (y 3) (y 4)) (Subsingleton.elim _ _) (Subsingleton.elim _ _))⟩
    have hy : ((cfg0.win 10).blk t).view.emb (ix5 0 0 d x z) = ix5 (sq t) (hd t) d x z := by
      funext e; apply Fin.ext
      match e with
      | ⟨0, _⟩ => show win0_10.index t (0 : Fin 5) * 1 + 1 * 0 = t.val / 8; omega
      | ⟨1, _⟩ => show win0_10.index t (1 : Fin 5) * 1 + 1 * 0 = t.val % 8; omega
      | ⟨2, _⟩ => show win0_10.index t (2 : Fin 5) * 2 + 1 * d.val = d.val; omega
      | ⟨3, _⟩ => show win0_10.index t (3 : Fin 5) * 128 + 1 * x.val = x.val; omega
      | ⟨4, _⟩ => show win0_10.index t (4 : Fin 5) * 128 + 1 * z.val = z.val; omega
    show (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t)) (ix5 0 0 d x z)
      = Cert.Mlstm1RefIdeal.Read.val_main_v230 (F := Ideal) (m ((c : Thread nD τ).loc main_arg0)) (m ((c : Thread nD τ).loc main_arg1)) (m ((c : Thread nD τ).loc main_arg2)) (m ((c : Thread nD τ).loc main_arg3)) (((cfg0.win 10).blk t).view.emb (ix5 0 0 d x z))
    rw [hy]
    rcases two d with rfl | rfl
    · rw [out10_fwd, fwdMem_apply _ _ _ _ _ _ (G m c t) (hc m c t) (hr m c t), mem_fwd, in_0, out_0, ks, vs]
    · rw [out10_bwd, bwdMem_apply _ _ _ _ _ _ (G m c t) (hc m c t) (hr m c t), mem_bwd, in_1, out_1, ks, vs]
  · have h0 : (i 0).val < 32 := (i 0).isLt
    have h1 : (i 1).val < 8 := (i 1).isLt
    have h2 : (i 2).val < 2 := (i 2).isLt
    have h3 : (i 3).val < 128 := (i 3).isLt
    have h4 : (i 4).val < 128 := (i 4).isLt
    have hlt : (i 0).val * 8 + (i 1).val < cfg0.N := by have hN : cfg0.N = 256 := N_0; omega
    refine ⟨⟨(i 0).val * 8 + (i 1).val, hlt⟩, flush0_10 _, ?_⟩
    obtain ⟨e0, e1, e2, e3, e4⟩ := (state_facts ⟨(i 0).val * 8 + (i 1).val, hlt⟩).1
    show i ∈ ((View.whole main_v16_1).slice (win0_10.rect ⟨(i 0).val * 8 + (i 1).val, hlt⟩)).set
    rw [View.set_slice_whole, Rect.mem_set_unit]
    intro a
    match a with
    | ⟨0, _⟩ =>
      show win0_10.index ⟨_, hlt⟩ (0 : Fin 5) * 1 ≤ (i 0).val ∧ (i 0).val < win0_10.index ⟨_, hlt⟩ (0 : Fin 5) * 1 + 1
      rw [e0]; dsimp only; omega
    | ⟨1, _⟩ =>
      show win0_10.index ⟨_, hlt⟩ (1 : Fin 5) * 1 ≤ (i 1).val ∧ (i 1).val < win0_10.index ⟨_, hlt⟩ (1 : Fin 5) * 1 + 1
      rw [e1]; dsimp only; omega
    | ⟨2, _⟩ =>
      show win0_10.index ⟨_, hlt⟩ (2 : Fin 5) * 2 ≤ (i 2).val ∧ (i 2).val < win0_10.index ⟨_, hlt⟩ (2 : Fin 5) * 2 + 2
      rw [e2]; dsimp only; omega
    | ⟨3, _⟩ =>
      show win0_10.index ⟨_, hlt⟩ (3 : Fin 5) * 128 ≤ (i 3).val ∧ (i 3).val < win0_10.index ⟨_, hlt⟩ (3 : Fin 5) * 128 + 128
      rw [e3]; dsimp only; omega
    | ⟨4, _⟩ =>
      show win0_10.index ⟨_, hlt⟩ (4 : Fin 5) * 128 ≤ (i 4).val ∧ (i 4).val < win0_10.index ⟨_, hlt⟩ (4 : Fin 5) * 128 + 128
      rw [e4]; dsimp only; omega

/-- THE NORMALISERS AFTER THE RUN. -/
theorem array_n (c : Dev nD) : (dats m 0 c).arrAt 11 cfg0.N
    = Cert.Mlstm1RefIdeal.Read.val_main_v233 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_cover 11 _ (fun t _ => ?_) fun i => ?_
  · have ht : t.val < 256 := lt_of_lt_of_eq t.isLt N_0
    rw [Cert.Mlstm1Ideal.Value.flushed11_A]
    funext y
    obtain ⟨e0, e1, e2, e3⟩ := (state_facts t).2.1
    obtain ⟨d, x, rfl⟩ : ∃ (d : Fin 2) (x : Fin 128), y = ix4 0 0 d x :=
      ⟨y 2, y 3, (eq_ix4 y).trans (congrArg₂ (fun (a b : Fin 1) => ix4 a b (y 2) (y 3)) (Subsingleton.elim _ _) (Subsingleton.elim _ _))⟩
    have hy : ((cfg0.win 11).blk t).view.emb (ix4 0 0 d x) = ix4 (sq t) (hd t) d x := by
      funext e; apply Fin.ext
      match e with
      | ⟨0, _⟩ => show win0_11.index t (0 : Fin 4) * 1 + 1 * 0 = t.val / 8; omega
      | ⟨1, _⟩ => show win0_11.index t (1 : Fin 4) * 1 + 1 * 0 = t.val % 8; omega
      | ⟨2, _⟩ => show win0_11.index t (2 : Fin 4) * 2 + 1 * d.val = d.val; omega
      | ⟨3, _⟩ => show win0_11.index t (3 : Fin 4) * 128 + 1 * x.val = x.val; omega
    show (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t)) (ix4 0 0 d x)
      = Cert.Mlstm1RefIdeal.Read.val_main_v233 (F := Ideal) (m ((c : Thread nD τ).loc main_arg0)) (m ((c : Thread nD τ).loc main_arg1)) (m ((c : Thread nD τ).loc main_arg2)) (m ((c : Thread nD τ).loc main_arg3)) (((cfg0.win 11).blk t).view.emb (ix4 0 0 d x))
    rw [hy]
    rcases two d with rfl | rfl
    · rw [out11_fwd, fwdNrm_apply _ _ _ _ _ (G m c t) (hc m c t) (hr m c t), nrm_fwd, in_0, out_0, ks]
    · rw [out11_bwd, bwdNrm_apply _ _ _ _ _ (G m c t) (hc m c t) (hr m c t), nrm_bwd, in_1, out_1, ks]
  · have h0 : (i 0).val < 32 := (i 0).isLt
    have h1 : (i 1).val < 8 := (i 1).isLt
    have h2 : (i 2).val < 2 := (i 2).isLt
    have h3 : (i 3).val < 128 := (i 3).isLt
    have hlt : (i 0).val * 8 + (i 1).val < cfg0.N := by have hN : cfg0.N = 256 := N_0; omega
    refine ⟨⟨(i 0).val * 8 + (i 1).val, hlt⟩, flush0_11 _, ?_⟩
    obtain ⟨e0, e1, e2, e3⟩ := (state_facts ⟨(i 0).val * 8 + (i 1).val, hlt⟩).2.1
    show i ∈ ((View.whole main_v16_2).slice (win0_11.rect ⟨(i 0).val * 8 + (i 1).val, hlt⟩)).set
    rw [View.set_slice_whole, Rect.mem_set_unit]
    intro a
    match a with
    | ⟨0, _⟩ =>
      show win0_11.index ⟨_, hlt⟩ (0 : Fin 4) * 1 ≤ (i 0).val ∧ (i 0).val < win0_11.index ⟨_, hlt⟩ (0 : Fin 4) * 1 + 1
      rw [e0]; dsimp only; omega
    | ⟨1, _⟩ =>
      show win0_11.index ⟨_, hlt⟩ (1 : Fin 4) * 1 ≤ (i 1).val ∧ (i 1).val < win0_11.index ⟨_, hlt⟩ (1 : Fin 4) * 1 + 1
      rw [e1]; dsimp only; omega
    | ⟨2, _⟩ =>
      show win0_11.index ⟨_, hlt⟩ (2 : Fin 4) * 2 ≤ (i 2).val ∧ (i 2).val < win0_11.index ⟨_, hlt⟩ (2 : Fin 4) * 2 + 2
      rw [e2]; dsimp only; omega
    | ⟨3, _⟩ =>
      show win0_11.index ⟨_, hlt⟩ (3 : Fin 4) * 128 ≤ (i 3).val ∧ (i 3).val < win0_11.index ⟨_, hlt⟩ (3 : Fin 4) * 128 + 128
      rw [e3]; dsimp only; omega

/-- THE STABILISERS AFTER THE RUN. -/
theorem array_m (c : Dev nD) : (dats m 0 c).arrAt 12 cfg0.N
    = Cert.Mlstm1RefIdeal.Read.val_main_v235 (F := Ideal) (m ((c : Thread nD τ).loc main_arg1)) (m ((c : Thread nD τ).loc main_arg2)) (m ((c : Thread nD τ).loc main_arg3)) := by
  refine (dats m 0 c).arrAt_eq_of_cover 12 _ (fun t _ => ?_) fun i => ?_
  · have ht : t.val < 256 := lt_of_lt_of_eq t.isLt N_0
    rw [Cert.Mlstm1Ideal.Value.flushed12_A]
    funext y
    obtain ⟨e0, e1, e2, e3⟩ := (state_facts t).2.2
    obtain ⟨d, x, rfl⟩ : ∃ (d : Fin 2) (x : Fin 128), y = ix4 0 0 d x :=
      ⟨y 2, y 3, (eq_ix4 y).trans (congrArg₂ (fun (a b : Fin 1) => ix4 a b (y 2) (y 3)) (Subsingleton.elim _ _) (Subsingleton.elim _ _))⟩
    have hy : ((cfg0.win 12).blk t).view.emb (ix4 0 0 d x) = ix4 (sq t) (hd t) d x := by
      funext e; apply Fin.ext
      match e with
      | ⟨0, _⟩ => show win0_12.index t (0 : Fin 4) * 1 + 1 * 0 = t.val / 8; omega
      | ⟨1, _⟩ => show win0_12.index t (1 : Fin 4) * 1 + 1 * 0 = t.val % 8; omega
      | ⟨2, _⟩ => show win0_12.index t (2 : Fin 4) * 2 + 1 * d.val = d.val; omega
      | ⟨3, _⟩ => show win0_12.index t (3 : Fin 4) * 128 + 1 * x.val = x.val; omega
    show (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) (iblk m c 0 t) (iblk m c 1 t) (iblk m c 2 t) (iblk m c 3 t) (iblk m c 4 t) (iblk m c 5 t) (iblk m c 6 t) (iblk m c 7 t) (iblk m c 8 t)) (ix4 0 0 d x)
      = Cert.Mlstm1RefIdeal.Read.val_main_v235 (F := Ideal) (m ((c : Thread nD τ).loc main_arg1)) (m ((c : Thread nD τ).loc main_arg2)) (m ((c : Thread nD τ).loc main_arg3)) (((cfg0.win 12).blk t).view.emb (ix4 0 0 d x))
    rw [hy]
    rcases two d with rfl | rfl
    · rw [out12_fwd, fwdStab_apply _ _ _ _ (G m c t) (hc m c t) (hr m c t), stab_fwd, in_0, out_0]
    · rw [out12_bwd, bwdStab_apply _ _ _ _ (G m c t) (hc m c t) (hr m c t), stab_bwd, in_1, out_1]
  · have h0 : (i 0).val < 32 := (i 0).isLt
    have h1 : (i 1).val < 8 := (i 1).isLt
    have h2 : (i 2).val < 2 := (i 2).isLt
    have h3 : (i 3).val < 128 := (i 3).isLt
    have hlt : (i 0).val * 8 + (i 1).val < cfg0.N := by have hN : cfg0.N = 256 := N_0; omega
    refine ⟨⟨(i 0).val * 8 + (i 1).val, hlt⟩, flush0_12 _, ?_⟩
    obtain ⟨e0, e1, e2, e3⟩ := (state_facts ⟨(i 0).val * 8 + (i 1).val, hlt⟩).2.2
    show i ∈ ((View.whole main_v16_3).slice (win0_12.rect ⟨(i 0).val * 8 + (i 1).val, hlt⟩)).set
    rw [View.set_slice_whole, Rect.mem_set_unit]
    intro a
    match a with
    | ⟨0, _⟩ =>
      show win0_12.index ⟨_, hlt⟩ (0 : Fin 4) * 1 ≤ (i 0).val ∧ (i 0).val < win0_12.index ⟨_, hlt⟩ (0 : Fin 4) * 1 + 1
      rw [e0]; dsimp only; omega
    | ⟨1, _⟩ =>
      show win0_12.index ⟨_, hlt⟩ (1 : Fin 4) * 1 ≤ (i 1).val ∧ (i 1).val < win0_12.index ⟨_, hlt⟩ (1 : Fin 4) * 1 + 1
      rw [e1]; dsimp only; omega
    | ⟨2, _⟩ =>
      show win0_12.index ⟨_, hlt⟩ (2 : Fin 4) * 2 ≤ (i 2).val ∧ (i 2).val < win0_12.index ⟨_, hlt⟩ (2 : Fin 4) * 2 + 2
      rw [e2]; dsimp only; omega
    | ⟨3, _⟩ =>
      show win0_12.index ⟨_, hlt⟩ (3 : Fin 4) * 128 ≤ (i 3).val ∧ (i 3).val < win0_12.index ⟨_, hlt⟩ (3 : Fin 4) * 128 + 128
      rw [e3]; dsimp only; omega

end Cert.Mlstm1Array

end
-- ==== Proof.Mlstm1Claim.lean ====
/- The matrix-memory call's claims for layer 1: the reference's frame and the algebraic equality with the reference. -/
module

public import proofs.«01_k».proof.Proof.Mlstm1Array
public import proofs.«01_k».proof.Defs
public import Idealize.ShloMosaic.Lib.Quiescent

@[expose] public section

noncomputable section

namespace Cert.Mlstm1Claim

open Idealize.ShloMosaic Idealize.SL.Sem

/-- The reference runs to an end, leaves its arguments as launched and every counter at zero. -/
theorem reference_frame : Cert.quiescent_Mlstm1RefIdeal := fun m g _ =>
  (θ_run Cert.Mlstm1RefIdeal.defs _ _).mono
    (fun r h => ⟨fun c => (h c).2.2.2.2, sem_eq_zero_of_no_sems (by decide) r.2⟩)
    (Cert.Mlstm1RefIdeal.Value.run (F := Ideal) m g)

/-- Over the extended reals the kernel's four results are the reference's, from the same arguments. -/
theorem algebraic : Cert.algebraic_Mlstm1Ideal_Mlstm1RefIdeal := by
  intro m g m' g' _ hargs
  refine ⟨fun c => Cert.Mlstm1RefIdeal.Read.val_main_v227 (F := Ideal) (m (c.tc.loc Cert.Mlstm1Ideal.main_arg0)) (m (c.tc.loc Cert.Mlstm1Ideal.main_arg1)) (m (c.tc.loc Cert.Mlstm1Ideal.main_arg2)) (m (c.tc.loc Cert.Mlstm1Ideal.main_arg3)) (m (c.tc.loc Cert.Mlstm1Ideal.main_arg4)),
    fun c => Cert.Mlstm1RefIdeal.Read.val_main_v230 (F := Ideal) (m (c.tc.loc Cert.Mlstm1Ideal.main_arg0)) (m (c.tc.loc Cert.Mlstm1Ideal.main_arg1)) (m (c.tc.loc Cert.Mlstm1Ideal.main_arg2)) (m (c.tc.loc Cert.Mlstm1Ideal.main_arg3)),
    fun c => Cert.Mlstm1RefIdeal.Read.val_main_v233 (F := Ideal) (m (c.tc.loc Cert.Mlstm1Ideal.main_arg0)) (m (c.tc.loc Cert.Mlstm1Ideal.main_arg1)) (m (c.tc.loc Cert.Mlstm1Ideal.main_arg2)) (m (c.tc.loc Cert.Mlstm1Ideal.main_arg3)),
    fun c => Cert.Mlstm1RefIdeal.Read.val_main_v235 (F := Ideal) (m (c.tc.loc Cert.Mlstm1Ideal.main_arg1)) (m (c.tc.loc Cert.Mlstm1Ideal.main_arg2)) (m (c.tc.loc Cert.Mlstm1Ideal.main_arg3)), ?_, ?_⟩
  · exact (θ_run Cert.Mlstm1Ideal.defs _ _).mono (fun r h c =>
        ⟨(h c).1.trans (Cert.Mlstm1Array.array_h m c), (h c).2.1.trans (Cert.Mlstm1Array.array_C m c),
          (h c).2.2.1.trans (Cert.Mlstm1Array.array_n m c), (h c).2.2.2.1.trans (Cert.Mlstm1Array.array_m m c), (h c).2.2.2.2⟩)
      (Cert.Mlstm1Ideal.Value.run_blocks m g)
  · refine (θ_run Cert.Mlstm1RefIdeal.defs _ _).mono (fun r h c =>
        ⟨(h c).1.trans ?_, (h c).2.1.trans ?_, (h c).2.2.1.trans ?_, (h c).2.2.2.1.trans ?_, (h c).2.2.2.2⟩)
      (Cert.Mlstm1RefIdeal.Value.run (F := Ideal) m' g')
    all_goals obtain ⟨e0, e1, e2, e3, e4⟩ := hargs c
    · rw [Cert.Mlstm1RefIdeal.Read.val_main_v227_eq]
      show Cert.Mlstm1RefIdeal.Read.val_main_v227 (F := Ideal) (m' (c.tc.loc Cert.Mlstm1RefIdeal.main_arg0)) (m' (c.tc.loc Cert.Mlstm1RefIdeal.main_arg1)) (m' (c.tc.loc Cert.Mlstm1RefIdeal.main_arg2)) (m' (c.tc.loc Cert.Mlstm1RefIdeal.main_arg3)) (m' (c.tc.loc Cert.Mlstm1RefIdeal.main_arg4)) = _
      rw [e0, e1, e2, e3, e4]
    · rw [Cert.Mlstm1RefIdeal.Read.val_main_v230_eq]
      show Cert.Mlstm1RefIdeal.Read.val_main_v230 (F := Ideal) (m' (c.tc.loc Cert.Mlstm1RefIdeal.main_arg0)) (m' (c.tc.loc Cert.Mlstm1RefIdeal.main_arg1)) (m' (c.tc.loc Cert.Mlstm1RefIdeal.main_arg2)) (m' (c.tc.loc Cert.Mlstm1RefIdeal.main_arg3)) = _
      rw [e0, e1, e2, e3]
    · rw [Cert.Mlstm1RefIdeal.Read.val_main_v233_eq]
      show Cert.Mlstm1RefIdeal.Read.val_main_v233 (F := Ideal) (m' (c.tc.loc Cert.Mlstm1RefIdeal.main_arg0)) (m' (c.tc.loc Cert.Mlstm1RefIdeal.main_arg1)) (m' (c.tc.loc Cert.Mlstm1RefIdeal.main_arg2)) (m' (c.tc.loc Cert.Mlstm1RefIdeal.main_arg3)) = _
      rw [e0, e1, e2, e3]
    · rw [Cert.Mlstm1RefIdeal.Read.val_main_v235_eq]
      show Cert.Mlstm1RefIdeal.Read.val_main_v235 (F := Ideal) (m' (c.tc.loc Cert.Mlstm1RefIdeal.main_arg1)) (m' (c.tc.loc Cert.Mlstm1RefIdeal.main_arg2)) (m' (c.tc.loc Cert.Mlstm1RefIdeal.main_arg3)) = _
      rw [e1, e2, e3]

end Cert.Mlstm1Claim

end
-- ==== Proof.lean ====
/- The certificate: the frames, and the value claims, each proved in a module of its own. -/
module

public import proofs.«01_k».proof.Proof.Gen.Mlstm0
public import proofs.«01_k».proof.Proof.Gen.Mlstm0.Frame
public import proofs.«01_k».proof.Proof.Gen.Mlstm0Ideal
public import proofs.«01_k».proof.Proof.Gen.Mlstm0Ideal.Frame
public import proofs.«01_k».proof.Proof.Gen.Mlstm0Ideal.Value
public import proofs.«01_k».proof.Proof.Gen.Mlstm0RefIdeal
public import proofs.«01_k».proof.Proof.Gen.Mlstm0RefIdeal.Run
public import proofs.«01_k».proof.Proof.Gen.Mlstm0RefIdeal.Read
public import proofs.«01_k».proof.Proof.Gen.Mlstm1
public import proofs.«01_k».proof.Proof.Gen.Mlstm1.Frame
public import proofs.«01_k».proof.Proof.Gen.Mlstm1Ideal
public import proofs.«01_k».proof.Proof.Gen.Mlstm1Ideal.Frame
public import proofs.«01_k».proof.Proof.Gen.Mlstm1Ideal.Value
public import proofs.«01_k».proof.Proof.Gen.Mlstm1RefIdeal
public import proofs.«01_k».proof.Proof.Gen.Mlstm1RefIdeal.Run
public import proofs.«01_k».proof.Proof.Gen.Mlstm1RefIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnClaim
public import proofs.«01_k».proof.Proof.DownClaim
public import proofs.«01_k».proof.Proof.UpClaim
public import proofs.«01_k».proof.Proof.Gen.Down
public import proofs.«01_k».proof.Proof.Gen.Down.Skeleton
public import proofs.«01_k».proof.Proof.Gen.Down.Launch
public import proofs.«01_k».proof.Proof.Gen.DownIdeal
public import proofs.«01_k».proof.Proof.Gen.DownIdeal.Skeleton
public import proofs.«01_k».proof.Proof.Gen.DownIdeal.Launch
public import proofs.«01_k».proof.Proof.Gen.DownRefIdeal
public import proofs.«01_k».proof.Proof.Gen.DownRefIdeal.Run
public import proofs.«01_k».proof.Proof.Gen.DownRefIdeal.Read
public import proofs.«01_k».proof.Proof.Gen.Pre_down_tables
public import proofs.«01_k».proof.Proof.Gen.Up
public import proofs.«01_k».proof.Proof.Gen.Up.Skeleton
public import proofs.«01_k».proof.Proof.Gen.Up.Launch
public import proofs.«01_k».proof.Proof.Gen.UpIdeal
public import proofs.«01_k».proof.Proof.Gen.UpIdeal.Skeleton
public import proofs.«01_k».proof.Proof.Gen.UpIdeal.Launch
public import proofs.«01_k».proof.Proof.Gen.UpRefIdeal
public import proofs.«01_k».proof.Proof.Gen.UpRefIdeal.Run
public import proofs.«01_k».proof.Proof.Gen.UpRefIdeal.Read
public import proofs.«01_k».proof.Proof.Gen.Pre_up_tables
public import proofs.«01_k».proof.Proof.Gen.InMl0
public import proofs.«01_k».proof.Proof.Gen.InMl0.Frame
public import proofs.«01_k».proof.Proof.Gen.InMl0Ideal
public import proofs.«01_k».proof.Proof.Gen.InMl0Ideal.Frame
public import proofs.«01_k».proof.Proof.Gen.InMl0Ideal.Value
public import proofs.«01_k».proof.Proof.Gen.InMl0RefIdeal
public import proofs.«01_k».proof.Proof.Gen.InMl0RefIdeal.Run
public import proofs.«01_k».proof.Proof.Gen.InMl0RefIdeal.Read
public import proofs.«01_k».proof.Proof.Gen.InMl1
public import proofs.«01_k».proof.Proof.Gen.InMl1.Frame
public import proofs.«01_k».proof.Proof.Gen.InMl1Ideal
public import proofs.«01_k».proof.Proof.Gen.InMl1Ideal.Frame
public import proofs.«01_k».proof.Proof.Gen.InMl1Ideal.Value
public import proofs.«01_k».proof.Proof.Gen.InMl1RefIdeal
public import proofs.«01_k».proof.Proof.Gen.InMl1RefIdeal.Run
public import proofs.«01_k».proof.Proof.Gen.InMl1RefIdeal.Read
public import proofs.«01_k».proof.Proof.Gen.InGate0
public import proofs.«01_k».proof.Proof.Gen.InGate0.Frame
public import proofs.«01_k».proof.Proof.Gen.InGate0Ideal
public import proofs.«01_k».proof.Proof.Gen.InGate0Ideal.Frame
public import proofs.«01_k».proof.Proof.Gen.InGate0Ideal.Value
public import proofs.«01_k».proof.Proof.Gen.InGate0RefIdeal
public import proofs.«01_k».proof.Proof.Gen.InGate0RefIdeal.Run
public import proofs.«01_k».proof.Proof.Gen.InGate0RefIdeal.Read
public import proofs.«01_k».proof.Proof.Gen.InGate1
public import proofs.«01_k».proof.Proof.Gen.InGate1.Frame
public import proofs.«01_k».proof.Proof.Gen.InGate1Ideal
public import proofs.«01_k».proof.Proof.Gen.InGate1Ideal.Frame
public import proofs.«01_k».proof.Proof.Gen.InGate1Ideal.Value
public import proofs.«01_k».proof.Proof.Gen.InGate1RefIdeal
public import proofs.«01_k».proof.Proof.Gen.InGate1RefIdeal.Run
public import proofs.«01_k».proof.Proof.Gen.InGate1RefIdeal.Read
public import proofs.«01_k».proof.Proof.Gen.InMix0
public import proofs.«01_k».proof.Proof.Gen.InMix0.Frame
public import proofs.«01_k».proof.Proof.Gen.InMix0Ideal
public import proofs.«01_k».proof.Proof.Gen.InMix0Ideal.Frame
public import proofs.«01_k».proof.Proof.Gen.InMix0Ideal.Value
public import proofs.«01_k».proof.Proof.Gen.InMix0RefIdeal
public import proofs.«01_k».proof.Proof.Gen.InMix0RefIdeal.Run
public import proofs.«01_k».proof.Proof.Gen.InMix0RefIdeal.Read
public import proofs.«01_k».proof.Proof.Gen.InMix1
public import proofs.«01_k».proof.Proof.Gen.InMix1.Frame
public import proofs.«01_k».proof.Proof.Gen.InMix1Ideal
public import proofs.«01_k».proof.Proof.Gen.InMix1Ideal.Frame
public import proofs.«01_k».proof.Proof.Gen.InMix1Ideal.Value
public import proofs.«01_k».proof.Proof.Gen.InMix1RefIdeal
public import proofs.«01_k».proof.Proof.Gen.InMix1RefIdeal.Run
public import proofs.«01_k».proof.Proof.Gen.InMix1RefIdeal.Read
public import proofs.«01_k».proof.Proof.Gen.InGl0
public import proofs.«01_k».proof.Proof.Gen.InGl0.Frame
public import proofs.«01_k».proof.Proof.Gen.InGl0Ideal
public import proofs.«01_k».proof.Proof.Gen.InGl0Ideal.Frame
public import proofs.«01_k».proof.Proof.Gen.InGl0Ideal.Value
public import proofs.«01_k».proof.Proof.Gen.InGl0RefIdeal
public import proofs.«01_k».proof.Proof.Gen.InGl0RefIdeal.Run
public import proofs.«01_k».proof.Proof.Gen.InGl0RefIdeal.Read
public import proofs.«01_k».proof.Proof.Gen.InGl1
public import proofs.«01_k».proof.Proof.Gen.InGl1.Frame
public import proofs.«01_k».proof.Proof.Gen.InGl1Ideal
public import proofs.«01_k».proof.Proof.Gen.InGl1Ideal.Frame
public import proofs.«01_k».proof.Proof.Gen.InGl1Ideal.Value
public import proofs.«01_k».proof.Proof.Gen.InGl1RefIdeal
public import proofs.«01_k».proof.Proof.Gen.InGl1RefIdeal.Run
public import proofs.«01_k».proof.Proof.Gen.InGl1RefIdeal.Read
public import proofs.«01_k».proof.Proof.Gen.Merge0
public import proofs.«01_k».proof.Proof.Gen.Merge0.Frame
public import proofs.«01_k».proof.Proof.Gen.Merge0Ideal
public import proofs.«01_k».proof.Proof.Gen.Merge0Ideal.Frame
public import proofs.«01_k».proof.Proof.Gen.Merge0Ideal.Value
public import proofs.«01_k».proof.Proof.Gen.Merge0RefIdeal
public import proofs.«01_k».proof.Proof.Gen.Merge0RefIdeal.Run
public import proofs.«01_k».proof.Proof.Gen.Merge0RefIdeal.Read
public import proofs.«01_k».proof.Proof.Gen.Out0
public import proofs.«01_k».proof.Proof.Gen.Out0.Frame
public import proofs.«01_k».proof.Proof.Gen.Out0Ideal
public import proofs.«01_k».proof.Proof.Gen.Out0Ideal.Frame
public import proofs.«01_k».proof.Proof.Gen.Out0Ideal.Value
public import proofs.«01_k».proof.Proof.Gen.Out0RefIdeal
public import proofs.«01_k».proof.Proof.Gen.Out0RefIdeal.Run
public import proofs.«01_k».proof.Proof.Gen.Out0RefIdeal.Read
public import proofs.«01_k».proof.Proof.Gen.Merge1
public import proofs.«01_k».proof.Proof.Gen.Merge1.Frame
public import proofs.«01_k».proof.Proof.Gen.Merge1Ideal
public import proofs.«01_k».proof.Proof.Gen.Merge1Ideal.Frame
public import proofs.«01_k».proof.Proof.Gen.Merge1Ideal.Value
public import proofs.«01_k».proof.Proof.Gen.Merge1RefIdeal
public import proofs.«01_k».proof.Proof.Gen.Merge1RefIdeal.Run
public import proofs.«01_k».proof.Proof.Gen.Merge1RefIdeal.Read
public import proofs.«01_k».proof.Proof.Gen.Out1
public import proofs.«01_k».proof.Proof.Gen.Out1.Frame
public import proofs.«01_k».proof.Proof.Gen.Out1Ideal
public import proofs.«01_k».proof.Proof.Gen.Out1Ideal.Frame
public import proofs.«01_k».proof.Proof.Gen.Out1Ideal.Value
public import proofs.«01_k».proof.Proof.Gen.Out1RefIdeal
public import proofs.«01_k».proof.Proof.Gen.Out1RefIdeal.Run
public import proofs.«01_k».proof.Proof.Gen.Out1RefIdeal.Read
public import proofs.«01_k».proof.Proof.Gen.FinalCtx
public import proofs.«01_k».proof.Proof.Gen.FinalCtx.Frame
public import proofs.«01_k».proof.Proof.Gen.FinalCtxIdeal
public import proofs.«01_k».proof.Proof.Gen.FinalCtxIdeal.Frame
public import proofs.«01_k».proof.Proof.Gen.FinalCtxIdeal.Value
public import proofs.«01_k».proof.Proof.Gen.FinalCtxRefIdeal
public import proofs.«01_k».proof.Proof.Gen.FinalCtxRefIdeal.Run
public import proofs.«01_k».proof.Proof.Gen.FinalCtxRefIdeal.Read
public import proofs.«01_k».proof.Proof.Gen.FinalLat
public import proofs.«01_k».proof.Proof.Gen.FinalLat.Frame
public import proofs.«01_k».proof.Proof.Gen.FinalLatIdeal
public import proofs.«01_k».proof.Proof.Gen.FinalLatIdeal.Frame
public import proofs.«01_k».proof.Proof.Gen.FinalLatIdeal.Value
public import proofs.«01_k».proof.Proof.Gen.FinalLatRefIdeal
public import proofs.«01_k».proof.Proof.Gen.FinalLatRefIdeal.Run
public import proofs.«01_k».proof.Proof.Gen.FinalLatRefIdeal.Read
public import Idealize.ShloMosaic.Adequacy
public import Idealize.ShloMosaic.Init
public import proofs.«01_k».proof.Proof.FinalCtxClaim
public import proofs.«01_k».proof.Proof.FinalLatClaim
public import proofs.«01_k».proof.Proof.InGate0Claim
public import proofs.«01_k».proof.Proof.InGate1Claim
public import proofs.«01_k».proof.Proof.InGl0Claim
public import proofs.«01_k».proof.Proof.InGl1Claim
public import proofs.«01_k».proof.Proof.InMix0Claim
public import proofs.«01_k».proof.Proof.InMix1Claim
public import proofs.«01_k».proof.Proof.InMl0Claim
public import proofs.«01_k».proof.Proof.InMl1Claim
public import proofs.«01_k».proof.Proof.Merge0Claim
public import proofs.«01_k».proof.Proof.Merge1Claim
public import proofs.«01_k».proof.Proof.Out0Claim
public import proofs.«01_k».proof.Proof.Out1Claim
public import proofs.«01_k».proof.Proof.Mlstm0Claim
public import proofs.«01_k».proof.Proof.Mlstm1Claim

@[expose] public section

noncomputable section

namespace Cert.Proof

open Idealize.ShloMosaic Idealize.SL.Sem Cert.Kernel

/-- Everything the certificate states. -/
theorem claim : Cert.Claim := ⟨Cert.Kernel.Gen.facts,
  Cert.KernelIdeal.Gen.facts,
  Cert.ReferenceIdeal.Gen.facts,
  Cert.Down.Gen.facts,
  Cert.DownIdeal.Gen.facts,
  Cert.DownRefIdeal.Gen.facts,
  Cert.Up.Gen.facts,
  Cert.UpIdeal.Gen.facts,
  Cert.UpRefIdeal.Gen.facts,
  Cert.InMl0.Gen.facts,
  Cert.InMl0Ideal.Gen.facts,
  Cert.InMl0RefIdeal.Gen.facts,
  Cert.InMl1.Gen.facts,
  Cert.InMl1Ideal.Gen.facts,
  Cert.InMl1RefIdeal.Gen.facts,
  Cert.InGate0.Gen.facts,
  Cert.InGate0Ideal.Gen.facts,
  Cert.InGate0RefIdeal.Gen.facts,
  Cert.InGate1.Gen.facts,
  Cert.InGate1Ideal.Gen.facts,
  Cert.InGate1RefIdeal.Gen.facts,
  Cert.InMix0.Gen.facts,
  Cert.InMix0Ideal.Gen.facts,
  Cert.InMix0RefIdeal.Gen.facts,
  Cert.InMix1.Gen.facts,
  Cert.InMix1Ideal.Gen.facts,
  Cert.InMix1RefIdeal.Gen.facts,
  Cert.InGl0.Gen.facts,
  Cert.InGl0Ideal.Gen.facts,
  Cert.InGl0RefIdeal.Gen.facts,
  Cert.InGl1.Gen.facts,
  Cert.InGl1Ideal.Gen.facts,
  Cert.InGl1RefIdeal.Gen.facts,
  Cert.Merge0.Gen.facts,
  Cert.Merge0Ideal.Gen.facts,
  Cert.Merge0RefIdeal.Gen.facts,
  Cert.Out0.Gen.facts,
  Cert.Out0Ideal.Gen.facts,
  Cert.Out0RefIdeal.Gen.facts,
  Cert.Merge1.Gen.facts,
  Cert.Merge1Ideal.Gen.facts,
  Cert.Merge1RefIdeal.Gen.facts,
  Cert.Out1.Gen.facts,
  Cert.Out1Ideal.Gen.facts,
  Cert.Out1RefIdeal.Gen.facts,
  Cert.FinalCtx.Gen.facts,
  Cert.FinalCtxIdeal.Gen.facts,
  Cert.FinalCtxRefIdeal.Gen.facts,
  Cert.FinalLat.Gen.facts,
  Cert.FinalLatIdeal.Gen.facts,
  Cert.FinalLatRefIdeal.Gen.facts,
  Cert.Mlstm0.Gen.facts,
  Cert.Mlstm0Ideal.Gen.facts,
  Cert.Mlstm0RefIdeal.Gen.facts,
  Cert.Mlstm1.Gen.facts,
  Cert.Mlstm1Ideal.Gen.facts,
  Cert.Mlstm1RefIdeal.Gen.facts,
  Cert.Pre_down_tables.Gen.facts,
  Cert.Pre_up_tables.Gen.facts,
  fun m ρ _ => Cert.Kernel.Gen.frame m ρ,
  fun m ρ _ => Cert.KernelIdeal.Gen.frame m ρ,
  Cert.AttnClaim.reference_frame,
  Cert.DownClaim.frame,
  Cert.DownClaim.frame_ideal,
  Cert.DownClaim.reference_frame,
  Cert.DownClaim.reference_frame_pre,
  Cert.UpClaim.frame,
  Cert.UpClaim.frame_ideal,
  Cert.UpClaim.reference_frame,
  Cert.UpClaim.reference_frame_pre,
  fun m ρ _ => Cert.InMl0.Gen.frame m ρ,
  fun m ρ _ => Cert.InMl0Ideal.Gen.frame m ρ,
  Cert.InMl0Claim.reference_frame,
  fun m ρ _ => Cert.InMl1.Gen.frame m ρ,
  fun m ρ _ => Cert.InMl1Ideal.Gen.frame m ρ,
  Cert.InMl1Claim.reference_frame,
  fun m ρ _ => Cert.InGate0.Gen.frame m ρ,
  fun m ρ _ => Cert.InGate0Ideal.Gen.frame m ρ,
  Cert.InGate0Claim.reference_frame,
  fun m ρ _ => Cert.InGate1.Gen.frame m ρ,
  fun m ρ _ => Cert.InGate1Ideal.Gen.frame m ρ,
  Cert.InGate1Claim.reference_frame,
  fun m ρ _ => Cert.InMix0.Gen.frame m ρ,
  fun m ρ _ => Cert.InMix0Ideal.Gen.frame m ρ,
  Cert.InMix0Claim.reference_frame,
  fun m ρ _ => Cert.InMix1.Gen.frame m ρ,
  fun m ρ _ => Cert.InMix1Ideal.Gen.frame m ρ,
  Cert.InMix1Claim.reference_frame,
  fun m ρ _ => Cert.InGl0.Gen.frame m ρ,
  fun m ρ _ => Cert.InGl0Ideal.Gen.frame m ρ,
  Cert.InGl0Claim.reference_frame,
  fun m ρ _ => Cert.InGl1.Gen.frame m ρ,
  fun m ρ _ => Cert.InGl1Ideal.Gen.frame m ρ,
  Cert.InGl1Claim.reference_frame,
  fun m ρ _ => Cert.Merge0.Gen.frame m ρ,
  fun m ρ _ => Cert.Merge0Ideal.Gen.frame m ρ,
  Cert.Merge0Claim.reference_frame,
  fun m ρ _ => Cert.Out0.Gen.frame m ρ,
  fun m ρ _ => Cert.Out0Ideal.Gen.frame m ρ,
  Cert.Out0Claim.reference_frame,
  fun m ρ _ => Cert.Merge1.Gen.frame m ρ,
  fun m ρ _ => Cert.Merge1Ideal.Gen.frame m ρ,
  Cert.Merge1Claim.reference_frame,
  fun m ρ _ => Cert.Out1.Gen.frame m ρ,
  fun m ρ _ => Cert.Out1Ideal.Gen.frame m ρ,
  Cert.Out1Claim.reference_frame,
  fun m ρ _ => Cert.FinalCtx.Gen.frame m ρ,
  fun m ρ _ => Cert.FinalCtxIdeal.Gen.frame m ρ,
  Cert.FinalCtxClaim.reference_frame,
  fun m ρ _ => Cert.FinalLat.Gen.frame m ρ,
  fun m ρ _ => Cert.FinalLatIdeal.Gen.frame m ρ,
  Cert.FinalLatClaim.reference_frame,
  fun m ρ _ => Cert.Mlstm0.Gen.frame m ρ,
  fun m ρ _ => Cert.Mlstm0Ideal.Gen.frame m ρ,
  Cert.Mlstm0Claim.reference_frame,
  fun m ρ _ => Cert.Mlstm1.Gen.frame m ρ,
  fun m ρ _ => Cert.Mlstm1Ideal.Gen.frame m ρ,
  Cert.Mlstm1Claim.reference_frame,
  trivial,
  Cert.AttnClaim.algebraic,
  trivial,
  Cert.DownClaim.algebraic,
  trivial,
  Cert.UpClaim.algebraic,
  trivial,
  Cert.InMl0Claim.algebraic,
  trivial,
  Cert.InMl1Claim.algebraic,
  trivial,
  Cert.InGate0Claim.algebraic,
  trivial,
  Cert.InGate1Claim.algebraic,
  trivial,
  Cert.InMix0Claim.algebraic,
  trivial,
  Cert.InMix1Claim.algebraic,
  trivial,
  Cert.InGl0Claim.algebraic,
  trivial,
  Cert.InGl1Claim.algebraic,
  trivial,
  Cert.Merge0Claim.algebraic,
  trivial,
  Cert.Out0Claim.algebraic,
  trivial,
  Cert.Merge1Claim.algebraic,
  trivial,
  Cert.Out1Claim.algebraic,
  trivial,
  Cert.FinalCtxClaim.algebraic,
  trivial,
  Cert.FinalLatClaim.algebraic,
  trivial,
  Cert.Mlstm0Claim.algebraic,
  trivial,
  Cert.Mlstm1Claim.algebraic⟩

end Cert.Proof

end
